-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdateInReferenceIdeal (m : (ℓ : Loc Cert.UpdateInReferenceIdeal.nD Cert.UpdateInReferenceIdeal.τ Cert.UpdateInReferenceIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdateOutReferenceIdeal (m : (ℓ : Loc Cert.UpdateOutReferenceIdeal.nD Cert.UpdateOutReferenceIdeal.τ Cert.UpdateOutReferenceIdeal.sig) → Buf (Elt Ideal) ℓ) : Prop :=
  True

def Pre_UpdateMlpIn (m : (ℓ : Loc Cert.UpdateMlpIn.nD Cert.UpdateMlpIn.τ Cert.UpdateMlpIn.sig) → Buf (Elt Bits) ℓ) : Prop :=
  True

def Pre_UpdateMlpInIdeal (m : (ℓ : Loc Cert.UpdateMlpInIdeal.nD Cert.UpdateMlpInIdeal.τ Cert.UpdateMlpInIdeal.sig) → Buf (Elt Ideal) ℓ) : Prop :=
  True

def Pre_UpdateMlpInReferenceIdeal (m : (ℓ : Loc Cert.UpdateMlpInReferenceIdeal.nD Cert.UpdateMlpInReferenceIdeal.τ Cert.UpdateMlpInReferenceIdeal.sig) → Buf (Elt Ideal) ℓ) : Prop :=
  True

def Pre_UpdateMlpOut (m : (ℓ : Loc Cert.UpdateMlpOut.nD Cert.UpdateMlpOut.τ Cert.UpdateMlpOut.sig) → Buf (Elt Bits) ℓ) : Prop :=
  True

def Pre_UpdateMlpOutIdeal (m : (ℓ : Loc Cert.UpdateMlpOutIdeal.nD Cert.UpdateMlpOutIdeal.τ Cert.UpdateMlpOutIdeal.sig) → Buf (Elt Ideal) ℓ) : Prop :=
  True

def Pre_UpdateMlpOutReferenceIdeal (m : (ℓ : Loc Cert.UpdateMlpOutReferenceIdeal.nD Cert.UpdateMlpOutReferenceIdeal.τ Cert.UpdateMlpOutReferenceIdeal.sig) → Buf (Elt Ideal) ℓ) : Prop :=
  True

def Pre_UpdateAda (m : (ℓ : Loc Cert.UpdateAda.nD Cert.UpdateAda.τ Cert.UpdateAda.sig) → Buf (Elt Bits) ℓ) : Prop :=
  True

def Pre_UpdateAdaIdeal (m : (ℓ : Loc Cert.UpdateAdaIdeal.nD Cert.UpdateAdaIdeal.τ Cert.UpdateAdaIdeal.sig) → Buf (Elt Ideal) ℓ) : Prop :=
  True

def Pre_UpdateAdaReferenceIdeal (m : (ℓ : Loc Cert.UpdateAdaReferenceIdeal.nD Cert.UpdateAdaReferenceIdeal.τ Cert.UpdateAdaReferenceIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_UpdateSmall (m : (ℓ : Loc Cert.UpdateSmall.nD Cert.UpdateSmall.τ Cert.UpdateSmall.sig) → Buf (Elt Bits) ℓ) : Prop :=
  True

def Pre_UpdateSmallIdeal (m : (ℓ : Loc Cert.UpdateSmallIdeal.nD Cert.UpdateSmallIdeal.τ Cert.UpdateSmallIdeal.sig) → Buf (Elt Ideal) ℓ) : Prop :=
  True

def Pre_UpdateSmallReferenceIdeal (m : (ℓ : Loc Cert.UpdateSmallReferenceIdeal.nD Cert.UpdateSmallReferenceIdeal.τ Cert.UpdateSmallReferenceIdeal.sig) → Buf (Elt Ideal) ℓ) : Prop :=
  True

def Pre_PremixBwd (m : (ℓ : Loc Cert.PremixBwd.nD Cert.PremixBwd.τ Cert.PremixBwd.sig) → Buf (Elt Bits) ℓ) : Prop :=
  True

def Pre_PremixBwdIdeal (m : (ℓ : Loc Cert.PremixBwdIdeal.nD Cert.PremixBwdIdeal.τ Cert.PremixBwdIdeal.sig) → Buf (Elt Ideal) ℓ) : Prop :=
  True

def Pre_PremixBwdReferenceIdeal (m : (ℓ : Loc Cert.PremixBwdReferenceIdeal.nD Cert.PremixBwdReferenceIdeal.τ Cert.PremixBwdReferenceIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdReferenceIdeal (m : (ℓ : Loc Cert.LossBwdReferenceIdeal.nD Cert.LossBwdReferenceIdeal.τ Cert.LossBwdReferenceIdeal.sig) → Buf (Elt Ideal) ℓ) : Prop :=
  True

def Pre_PremlpBwd (m : (ℓ : Loc Cert.PremlpBwd.nD Cert.PremlpBwd.τ Cert.PremlpBwd.sig) → Buf (Elt Bits) ℓ) : Prop :=
  True

def Pre_PremlpBwdIdeal (m : (ℓ : Loc Cert.PremlpBwdIdeal.nD Cert.PremlpBwdIdeal.τ Cert.PremlpBwdIdeal.sig) → Buf (Elt Ideal) ℓ) : Prop :=
  True

def Pre_PremlpBwdReferenceIdeal (m : (ℓ : Loc Cert.PremlpBwdReferenceIdeal.nD Cert.PremlpBwdReferenceIdeal.τ Cert.PremlpBwdReferenceIdeal.sig) → Buf (Elt Ideal) ℓ) : Prop :=
  True

def Pre_Premix (m : (ℓ : Loc Cert.Premix.nD Cert.Premix.τ Cert.Premix.sig) → Buf (Elt Bits) ℓ) : Prop :=
  True

def Pre_PremixIdeal (m : (ℓ : Loc Cert.PremixIdeal.nD Cert.PremixIdeal.τ Cert.PremixIdeal.sig) → Buf (Elt Ideal) ℓ) : Prop :=
  True

def Pre_PremixReferenceIdeal (m : (ℓ : Loc Cert.PremixReferenceIdeal.nD Cert.PremixReferenceIdeal.τ Cert.PremixReferenceIdeal.sig) → Buf (Elt Ideal) ℓ) : Prop :=
  True

def Pre_PostmixPremlp (m : (ℓ : Loc Cert.PostmixPremlp.nD Cert.PostmixPremlp.τ Cert.PostmixPremlp.sig) → Buf (Elt Bits) ℓ) : Prop :=
  True

def Pre_PostmixPremlpIdeal (m : (ℓ : Loc Cert.PostmixPremlpIdeal.nD Cert.PostmixPremlpIdeal.τ Cert.PostmixPremlpIdeal.sig) → Buf (Elt Ideal) ℓ) : Prop :=
  True

def Pre_PostmixPremlpReferenceIdeal (m : (ℓ : Loc Cert.PostmixPremlpReferenceIdeal.nD Cert.PostmixPremlpReferenceIdeal.τ Cert.PostmixPremlpReferenceIdeal.sig) → Buf (Elt Ideal) ℓ) : Prop :=
  True

def Pre_ProjMain (m : (ℓ : Loc Cert.ProjMain.nD Cert.ProjMain.τ Cert.ProjMain.sig) → Buf (Elt Bits) ℓ) : Prop :=
  True

def Pre_ProjMainIdeal (m : (ℓ : Loc Cert.ProjMainIdeal.nD Cert.ProjMainIdeal.τ Cert.ProjMainIdeal.sig) → Buf (Elt Ideal) ℓ) : Prop :=
  True

def Pre_ProjMainReferenceIdeal (m : (ℓ : Loc Cert.ProjMainReferenceIdeal.nD Cert.ProjMainReferenceIdeal.τ Cert.ProjMainReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInReferenceIdeal (m : (ℓ : Loc Cert.MlpInReferenceIdeal.nD Cert.MlpInReferenceIdeal.τ Cert.MlpInReferenceIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutReferenceIdeal (m : (ℓ : Loc Cert.MlpOutReferenceIdeal.nD Cert.MlpOutReferenceIdeal.τ Cert.MlpOutReferenceIdeal.sig) → Buf (Elt Ideal) ℓ) : Prop :=
  True

def Pre_MlpOutDx (m : (ℓ : Loc Cert.MlpOutDx.nD Cert.MlpOutDx.τ Cert.MlpOutDx.sig) → Buf (Elt Bits) ℓ) : Prop :=
  True

def Pre_MlpOutDxIdeal (m : (ℓ : Loc Cert.MlpOutDxIdeal.nD Cert.MlpOutDxIdeal.τ Cert.MlpOutDxIdeal.sig) → Buf (Elt Ideal) ℓ) : Prop :=
  True

def Pre_MlpOutDxReferenceIdeal (m : (ℓ : Loc Cert.MlpOutDxReferenceIdeal.nD Cert.MlpOutDxReferenceIdeal.τ Cert.MlpOutDxReferenceIdeal.sig) → Buf (Elt Ideal) ℓ) : Prop :=
  True

def Pre_MlpOutDw (m : (ℓ : Loc Cert.MlpOutDw.nD Cert.MlpOutDw.τ Cert.MlpOutDw.sig) → Buf (Elt Bits) ℓ) : Prop :=
  True

def Pre_MlpOutDwIdeal (m : (ℓ : Loc Cert.MlpOutDwIdeal.nD Cert.MlpOutDwIdeal.τ Cert.MlpOutDwIdeal.sig) → Buf (Elt Ideal) ℓ) : Prop :=
  True

def Pre_MlpOutDwReferenceIdeal (m : (ℓ : Loc Cert.MlpOutDwReferenceIdeal.nD Cert.MlpOutDwReferenceIdeal.τ Cert.MlpOutDwReferenceIdeal.sig) → Buf (Elt Ideal) ℓ) : Prop :=
  True

def Pre_MlpInDx (m : (ℓ : Loc Cert.MlpInDx.nD Cert.MlpInDx.τ Cert.MlpInDx.sig) → Buf (Elt Bits) ℓ) : Prop :=
  True

def Pre_MlpInDxIdeal (m : (ℓ : Loc Cert.MlpInDxIdeal.nD Cert.MlpInDxIdeal.τ Cert.MlpInDxIdeal.sig) → Buf (Elt Ideal) ℓ) : Prop :=
  True

def Pre_MlpInDxReferenceIdeal (m : (ℓ : Loc Cert.MlpInDxReferenceIdeal.nD Cert.MlpInDxReferenceIdeal.τ Cert.MlpInDxReferenceIdeal.sig) → Buf (Elt Ideal) ℓ) : Prop :=
  True

def Pre_MlpInDw (m : (ℓ : Loc Cert.MlpInDw.nD Cert.MlpInDw.τ Cert.MlpInDw.sig) → Buf (Elt Bits) ℓ) : Prop :=
  True

def Pre_MlpInDwIdeal (m : (ℓ : Loc Cert.MlpInDwIdeal.nD Cert.MlpInDwIdeal.τ Cert.MlpInDwIdeal.sig) → Buf (Elt Ideal) ℓ) : Prop :=
  True

def Pre_MlpInDwReferenceIdeal (m : (ℓ : Loc Cert.MlpInDwReferenceIdeal.nD Cert.MlpInDwReferenceIdeal.τ Cert.MlpInDwReferenceIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxReferenceIdeal (m : (ℓ : Loc Cert.OutProjDxReferenceIdeal.nD Cert.OutProjDxReferenceIdeal.τ Cert.OutProjDxReferenceIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwReferenceIdeal (m : (ℓ : Loc Cert.OutProjDwReferenceIdeal.nD Cert.OutProjDwReferenceIdeal.τ Cert.OutProjDwReferenceIdeal.sig) → Buf (Elt Ideal) ℓ) : Prop :=
  True

def Pre_ProjMainDx (m : (ℓ : Loc Cert.ProjMainDx.nD Cert.ProjMainDx.τ Cert.ProjMainDx.sig) → Buf (Elt Bits) ℓ) : Prop :=
  True

def Pre_ProjMainDxIdeal (m : (ℓ : Loc Cert.ProjMainDxIdeal.nD Cert.ProjMainDxIdeal.τ Cert.ProjMainDxIdeal.sig) → Buf (Elt Ideal) ℓ) : Prop :=
  True

def Pre_ProjMainDxReferenceIdeal (m : (ℓ : Loc Cert.ProjMainDxReferenceIdeal.nD Cert.ProjMainDxReferenceIdeal.τ Cert.ProjMainDxReferenceIdeal.sig) → Buf (Elt Ideal) ℓ) : Prop :=
  True

def Pre_ProjMainDw (m : (ℓ : Loc Cert.ProjMainDw.nD Cert.ProjMainDw.τ Cert.ProjMainDw.sig) → Buf (Elt Bits) ℓ) : Prop :=
  True

def Pre_ProjMainDwIdeal (m : (ℓ : Loc Cert.ProjMainDwIdeal.nD Cert.ProjMainDwIdeal.τ Cert.ProjMainDwIdeal.sig) → Buf (Elt Ideal) ℓ) : Prop :=
  True

def Pre_ProjMainDwReferenceIdeal (m : (ℓ : Loc Cert.ProjMainDwReferenceIdeal.nD Cert.ProjMainDwReferenceIdeal.τ Cert.ProjMainDwReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2)
      ∧ r.2.mem ((c.tc : Thread Cert.GatherReferenceIdeal.nD Cert.GatherReferenceIdeal.τ).loc Cert.GatherReferenceIdeal.main_arg3) = m ((c.tc : Thread Cert.GatherReferenceIdeal.nD Cert.GatherReferenceIdeal.τ).loc Cert.GatherReferenceIdeal.main_arg3))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1)
      ∧ r.2.mem ((c.tc : Thread Cert.GatherReference.nD Cert.GatherReference.τ).loc Cert.GatherReference.main_arg2) = m ((c.tc : Thread Cert.GatherReference.nD Cert.GatherReference.τ).loc Cert.GatherReference.main_arg2)
      ∧ r.2.mem ((c.tc : Thread Cert.GatherReference.nD Cert.GatherReference.τ).loc Cert.GatherReference.main_arg3) = m ((c.tc : Thread Cert.GatherReference.nD Cert.GatherReference.τ).loc Cert.GatherReference.main_arg3))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ r.2.sem = fun _ => 0)

def quiescent_UpdateInReferenceIdeal [hUpdateInReferenceIdeal : Cert.UpdateInReferenceIdeal.Facts] : Prop :=
  ∀ (m : (ℓ : Loc Cert.UpdateInReferenceIdeal.nD Cert.UpdateInReferenceIdeal.τ Cert.UpdateInReferenceIdeal.sig) → Buf (Elt Ideal) ℓ) (g : Dev Cert.UpdateInReferenceIdeal.nD → PrngReg), Pre_UpdateInReferenceIdeal m →
    θ_run (Cert.UpdateInReferenceIdeal.defs (F := Ideal)) (onTc (τ := Cert.UpdateInReferenceIdeal.τ) (Cert.UpdateInReferenceIdeal.main (F := Ideal))) ⟨m, fun _ => 0, g⟩ (fun r => (∀ c : Dev Cert.UpdateInReferenceIdeal.nD,
      r.2.mem ((c.tc : Thread Cert.UpdateInReferenceIdeal.nD Cert.UpdateInReferenceIdeal.τ).loc Cert.UpdateInReferenceIdeal.main_arg0) = m ((c.tc : Thread Cert.UpdateInReferenceIdeal.nD Cert.UpdateInReferenceIdeal.τ).loc Cert.UpdateInReferenceIdeal.main_arg0)
      ∧ r.2.mem ((c.tc : Thread Cert.UpdateInReferenceIdeal.nD Cert.UpdateInReferenceIdeal.τ).loc Cert.UpdateInReferenceIdeal.main_arg1) = m ((c.tc : Thread Cert.UpdateInReferenceIdeal.nD Cert.UpdateInReferenceIdeal.τ).loc Cert.UpdateInReferenceIdeal.main_arg1)
      ∧ r.2.mem ((c.tc : Thread Cert.UpdateInReferenceIdeal.nD Cert.UpdateInReferenceIdeal.τ).loc Cert.UpdateInReferenceIdeal.main_arg2) = m ((c.tc : Thread Cert.UpdateInReferenceIdeal.nD Cert.UpdateInReferenceIdeal.τ).loc Cert.UpdateInReferenceIdeal.main_arg2)
      ∧ r.2.mem ((c.tc : Thread Cert.UpdateInReferenceIdeal.nD Cert.UpdateInReferenceIdeal.τ).loc Cert.UpdateInReferenceIdeal.main_arg3) = m ((c.tc : Thread Cert.UpdateInReferenceIdeal.nD Cert.UpdateInReferenceIdeal.τ).loc Cert.UpdateInReferenceIdeal.main_arg3))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ r.2.sem = fun _ => 0)

def quiescent_UpdateOutReferenceIdeal [hUpdateOutReferenceIdeal : Cert.UpdateOutReferenceIdeal.Facts] : Prop :=
  ∀ (m : (ℓ : Loc Cert.UpdateOutReferenceIdeal.nD Cert.UpdateOutReferenceIdeal.τ Cert.UpdateOutReferenceIdeal.sig) → Buf (Elt Ideal) ℓ) (g : Dev Cert.UpdateOutReferenceIdeal.nD → PrngReg), Pre_UpdateOutReferenceIdeal m →
    θ_run (Cert.UpdateOutReferenceIdeal.defs (F := Ideal)) (onTc (τ := Cert.UpdateOutReferenceIdeal.τ) (Cert.UpdateOutReferenceIdeal.main (F := Ideal))) ⟨m, fun _ => 0, g⟩ (fun r => (∀ c : Dev Cert.UpdateOutReferenceIdeal.nD,
      r.2.mem ((c.tc : Thread Cert.UpdateOutReferenceIdeal.nD Cert.UpdateOutReferenceIdeal.τ).loc Cert.UpdateOutReferenceIdeal.main_arg0) = m ((c.tc : Thread Cert.UpdateOutReferenceIdeal.nD Cert.UpdateOutReferenceIdeal.τ).loc Cert.UpdateOutReferenceIdeal.main_arg0)
      ∧ r.2.mem ((c.tc : Thread Cert.UpdateOutReferenceIdeal.nD Cert.UpdateOutReferenceIdeal.τ).loc Cert.UpdateOutReferenceIdeal.main_arg1) = m ((c.tc : Thread Cert.UpdateOutReferenceIdeal.nD Cert.UpdateOutReferenceIdeal.τ).loc Cert.UpdateOutReferenceIdeal.main_arg1)
      ∧ r.2.mem ((c.tc : Thread Cert.UpdateOutReferenceIdeal.nD Cert.UpdateOutReferenceIdeal.τ).loc Cert.UpdateOutReferenceIdeal.main_arg2) = m ((c.tc : Thread Cert.UpdateOutReferenceIdeal.nD Cert.UpdateOutReferenceIdeal.τ).loc Cert.UpdateOutReferenceIdeal.main_arg2)
      ∧ r.2.mem ((c.tc : Thread Cert.UpdateOutReferenceIdeal.nD Cert.UpdateOutReferenceIdeal.τ).loc Cert.UpdateOutReferenceIdeal.main_arg3) = m ((c.tc : Thread Cert.UpdateOutReferenceIdeal.nD Cert.UpdateOutReferenceIdeal.τ).loc Cert.UpdateOutReferenceIdeal.main_arg3))
      ∧ r.2.sem = fun _ => 0)

def quiescent_UpdateMlpIn [hUpdateMlpIn : Cert.UpdateMlpIn.Facts] : Prop :=
  ∀ (m : (ℓ : Loc Cert.UpdateMlpIn.nD Cert.UpdateMlpIn.τ Cert.UpdateMlpIn.sig) → Buf (Elt Bits) ℓ) (g : Dev Cert.UpdateMlpIn.nD → PrngReg), Pre_UpdateMlpIn m →
    θ_run (Cert.UpdateMlpIn.defs (F := Bits)) (onTc (τ := Cert.UpdateMlpIn.τ) (Cert.UpdateMlpIn.main (F := Bits))) ⟨m, fun _ => 0, g⟩ (fun r => (∀ c : Dev Cert.UpdateMlpIn.nD,
      r.2.mem ((c.tc : Thread Cert.UpdateMlpIn.nD Cert.UpdateMlpIn.τ).loc Cert.UpdateMlpIn.main_arg0) = m ((c.tc : Thread Cert.UpdateMlpIn.nD Cert.UpdateMlpIn.τ).loc Cert.UpdateMlpIn.main_arg0)
      ∧ r.2.mem ((c.tc : Thread Cert.UpdateMlpIn.nD Cert.UpdateMlpIn.τ).loc Cert.UpdateMlpIn.main_arg1) = m ((c.tc : Thread Cert.UpdateMlpIn.nD Cert.UpdateMlpIn.τ).loc Cert.UpdateMlpIn.main_arg1)
      ∧ r.2.mem ((c.tc : Thread Cert.UpdateMlpIn.nD Cert.UpdateMlpIn.τ).loc Cert.UpdateMlpIn.main_arg2) = m ((c.tc : Thread Cert.UpdateMlpIn.nD Cert.UpdateMlpIn.τ).loc Cert.UpdateMlpIn.main_arg2)
      ∧ r.2.mem ((c.tc : Thread Cert.UpdateMlpIn.nD Cert.UpdateMlpIn.τ).loc Cert.UpdateMlpIn.main_arg3) = m ((c.tc : Thread Cert.UpdateMlpIn.nD Cert.UpdateMlpIn.τ).loc Cert.UpdateMlpIn.main_arg3))
      ∧ r.2.sem = fun _ => 0)

def quiescent_UpdateMlpInIdeal [hUpdateMlpInIdeal : Cert.UpdateMlpInIdeal.Facts] : Prop :=
  ∀ (m : (ℓ : Loc Cert.UpdateMlpInIdeal.nD Cert.UpdateMlpInIdeal.τ Cert.UpdateMlpInIdeal.sig) → Buf (Elt Ideal) ℓ) (g : Dev Cert.UpdateMlpInIdeal.nD → PrngReg), Pre_UpdateMlpInIdeal m →
    θ_run (Cert.UpdateMlpInIdeal.defs (F := Ideal)) (onTc (τ := Cert.UpdateMlpInIdeal.τ) (Cert.UpdateMlpInIdeal.main (F := Ideal))) ⟨m, fun _ => 0, g⟩ (fun r => (∀ c : Dev Cert.UpdateMlpInIdeal.nD,
      r.2.mem ((c.tc : Thread Cert.UpdateMlpInIdeal.nD Cert.UpdateMlpInIdeal.τ).loc Cert.UpdateMlpInIdeal.main_arg0) = m ((c.tc : Thread Cert.UpdateMlpInIdeal.nD Cert.UpdateMlpInIdeal.τ).loc Cert.UpdateMlpInIdeal.main_arg0)
      ∧ r.2.mem ((c.tc : Thread Cert.UpdateMlpInIdeal.nD Cert.UpdateMlpInIdeal.τ).loc Cert.UpdateMlpInIdeal.main_arg1) = m ((c.tc : Thread Cert.UpdateMlpInIdeal.nD Cert.UpdateMlpInIdeal.τ).loc Cert.UpdateMlpInIdeal.main_arg1)
      ∧ r.2.mem ((c.tc : Thread Cert.UpdateMlpInIdeal.nD Cert.UpdateMlpInIdeal.τ).loc Cert.UpdateMlpInIdeal.main_arg2) = m ((c.tc : Thread Cert.UpdateMlpInIdeal.nD Cert.UpdateMlpInIdeal.τ).loc Cert.UpdateMlpInIdeal.main_arg2)
      ∧ r.2.mem ((c.tc : Thread Cert.UpdateMlpInIdeal.nD Cert.UpdateMlpInIdeal.τ).loc Cert.UpdateMlpInIdeal.main_arg3) = m ((c.tc : Thread Cert.UpdateMlpInIdeal.nD Cert.UpdateMlpInIdeal.τ).loc Cert.UpdateMlpInIdeal.main_arg3))
      ∧ r.2.sem = fun _ => 0)

def quiescent_UpdateMlpInReferenceIdeal [hUpdateMlpInReferenceIdeal : Cert.UpdateMlpInReferenceIdeal.Facts] : Prop :=
  ∀ (m : (ℓ : Loc Cert.UpdateMlpInReferenceIdeal.nD Cert.UpdateMlpInReferenceIdeal.τ Cert.UpdateMlpInReferenceIdeal.sig) → Buf (Elt Ideal) ℓ) (g : Dev Cert.UpdateMlpInReferenceIdeal.nD → PrngReg), Pre_UpdateMlpInReferenceIdeal m →
    θ_run (Cert.UpdateMlpInReferenceIdeal.defs (F := Ideal)) (onTc (τ := Cert.UpdateMlpInReferenceIdeal.τ) (Cert.UpdateMlpInReferenceIdeal.main (F := Ideal))) ⟨m, fun _ => 0, g⟩ (fun r => (∀ c : Dev Cert.UpdateMlpInReferenceIdeal.nD,
      r.2.mem ((c.tc : Thread Cert.UpdateMlpInReferenceIdeal.nD Cert.UpdateMlpInReferenceIdeal.τ).loc Cert.UpdateMlpInReferenceIdeal.main_arg0) = m ((c.tc : Thread Cert.UpdateMlpInReferenceIdeal.nD Cert.UpdateMlpInReferenceIdeal.τ).loc Cert.UpdateMlpInReferenceIdeal.main_arg0)
      ∧ r.2.mem ((c.tc : Thread Cert.UpdateMlpInReferenceIdeal.nD Cert.UpdateMlpInReferenceIdeal.τ).loc Cert.UpdateMlpInReferenceIdeal.main_arg1) = m ((c.tc : Thread Cert.UpdateMlpInReferenceIdeal.nD Cert.UpdateMlpInReferenceIdeal.τ).loc Cert.UpdateMlpInReferenceIdeal.main_arg1)
      ∧ r.2.mem ((c.tc : Thread Cert.UpdateMlpInReferenceIdeal.nD Cert.UpdateMlpInReferenceIdeal.τ).loc Cert.UpdateMlpInReferenceIdeal.main_arg2) = m ((c.tc : Thread Cert.UpdateMlpInReferenceIdeal.nD Cert.UpdateMlpInReferenceIdeal.τ).loc Cert.UpdateMlpInReferenceIdeal.main_arg2)
      ∧ r.2.mem ((c.tc : Thread Cert.UpdateMlpInReferenceIdeal.nD Cert.UpdateMlpInReferenceIdeal.τ).loc Cert.UpdateMlpInReferenceIdeal.main_arg3) = m ((c.tc : Thread Cert.UpdateMlpInReferenceIdeal.nD Cert.UpdateMlpInReferenceIdeal.τ).loc Cert.UpdateMlpInReferenceIdeal.main_arg3))
      ∧ r.2.sem = fun _ => 0)

def quiescent_UpdateMlpOut [hUpdateMlpOut : Cert.UpdateMlpOut.Facts] : Prop :=
  ∀ (m : (ℓ : Loc Cert.UpdateMlpOut.nD Cert.UpdateMlpOut.τ Cert.UpdateMlpOut.sig) → Buf (Elt Bits) ℓ) (g : Dev Cert.UpdateMlpOut.nD → PrngReg), Pre_UpdateMlpOut m →
    θ_run (Cert.UpdateMlpOut.defs (F := Bits)) (onTc (τ := Cert.UpdateMlpOut.τ) (Cert.UpdateMlpOut.main (F := Bits))) ⟨m, fun _ => 0, g⟩ (fun r => (∀ c : Dev Cert.UpdateMlpOut.nD,
      r.2.mem ((c.tc : Thread Cert.UpdateMlpOut.nD Cert.UpdateMlpOut.τ).loc Cert.UpdateMlpOut.main_arg0) = m ((c.tc : Thread Cert.UpdateMlpOut.nD Cert.UpdateMlpOut.τ).loc Cert.UpdateMlpOut.main_arg0)
      ∧ r.2.mem ((c.tc : Thread Cert.UpdateMlpOut.nD Cert.UpdateMlpOut.τ).loc Cert.UpdateMlpOut.main_arg1) = m ((c.tc : Thread Cert.UpdateMlpOut.nD Cert.UpdateMlpOut.τ).loc Cert.UpdateMlpOut.main_arg1)
      ∧ r.2.mem ((c.tc : Thread Cert.UpdateMlpOut.nD Cert.UpdateMlpOut.τ).loc Cert.UpdateMlpOut.main_arg2) = m ((c.tc : Thread Cert.UpdateMlpOut.nD Cert.UpdateMlpOut.τ).loc Cert.UpdateMlpOut.main_arg2)
      ∧ r.2.mem ((c.tc : Thread Cert.UpdateMlpOut.nD Cert.UpdateMlpOut.τ).loc Cert.UpdateMlpOut.main_arg3) = m ((c.tc : Thread Cert.UpdateMlpOut.nD Cert.UpdateMlpOut.τ).loc Cert.UpdateMlpOut.main_arg3))
      ∧ r.2.sem = fun _ => 0)

def quiescent_UpdateMlpOutIdeal [hUpdateMlpOutIdeal : Cert.UpdateMlpOutIdeal.Facts] : Prop :=
  ∀ (m : (ℓ : Loc Cert.UpdateMlpOutIdeal.nD Cert.UpdateMlpOutIdeal.τ Cert.UpdateMlpOutIdeal.sig) → Buf (Elt Ideal) ℓ) (g : Dev Cert.UpdateMlpOutIdeal.nD → PrngReg), Pre_UpdateMlpOutIdeal m →
    θ_run (Cert.UpdateMlpOutIdeal.defs (F := Ideal)) (onTc (τ := Cert.UpdateMlpOutIdeal.τ) (Cert.UpdateMlpOutIdeal.main (F := Ideal))) ⟨m, fun _ => 0, g⟩ (fun r => (∀ c : Dev Cert.UpdateMlpOutIdeal.nD,
      r.2.mem ((c.tc : Thread Cert.UpdateMlpOutIdeal.nD Cert.UpdateMlpOutIdeal.τ).loc Cert.UpdateMlpOutIdeal.main_arg0) = m ((c.tc : Thread Cert.UpdateMlpOutIdeal.nD Cert.UpdateMlpOutIdeal.τ).loc Cert.UpdateMlpOutIdeal.main_arg0)
      ∧ r.2.mem ((c.tc : Thread Cert.UpdateMlpOutIdeal.nD Cert.UpdateMlpOutIdeal.τ).loc Cert.UpdateMlpOutIdeal.main_arg1) = m ((c.tc : Thread Cert.UpdateMlpOutIdeal.nD Cert.UpdateMlpOutIdeal.τ).loc Cert.UpdateMlpOutIdeal.main_arg1)
      ∧ r.2.mem ((c.tc : Thread Cert.UpdateMlpOutIdeal.nD Cert.UpdateMlpOutIdeal.τ).loc Cert.UpdateMlpOutIdeal.main_arg2) = m ((c.tc : Thread Cert.UpdateMlpOutIdeal.nD Cert.UpdateMlpOutIdeal.τ).loc Cert.UpdateMlpOutIdeal.main_arg2)
      ∧ r.2.mem ((c.tc : Thread Cert.UpdateMlpOutIdeal.nD Cert.UpdateMlpOutIdeal.τ).loc Cert.UpdateMlpOutIdeal.main_arg3) = m ((c.tc : Thread Cert.UpdateMlpOutIdeal.nD Cert.UpdateMlpOutIdeal.τ).loc Cert.UpdateMlpOutIdeal.main_arg3))
      ∧ r.2.sem = fun _ => 0)

def quiescent_UpdateMlpOutReferenceIdeal [hUpdateMlpOutReferenceIdeal : Cert.UpdateMlpOutReferenceIdeal.Facts] : Prop :=
  ∀ (m : (ℓ : Loc Cert.UpdateMlpOutReferenceIdeal.nD Cert.UpdateMlpOutReferenceIdeal.τ Cert.UpdateMlpOutReferenceIdeal.sig) → Buf (Elt Ideal) ℓ) (g : Dev Cert.UpdateMlpOutReferenceIdeal.nD → PrngReg), Pre_UpdateMlpOutReferenceIdeal m →
    θ_run (Cert.UpdateMlpOutReferenceIdeal.defs (F := Ideal)) (onTc (τ := Cert.UpdateMlpOutReferenceIdeal.τ) (Cert.UpdateMlpOutReferenceIdeal.main (F := Ideal))) ⟨m, fun _ => 0, g⟩ (fun r => (∀ c : Dev Cert.UpdateMlpOutReferenceIdeal.nD,
      r.2.mem ((c.tc : Thread Cert.UpdateMlpOutReferenceIdeal.nD Cert.UpdateMlpOutReferenceIdeal.τ).loc Cert.UpdateMlpOutReferenceIdeal.main_arg0) = m ((c.tc : Thread Cert.UpdateMlpOutReferenceIdeal.nD Cert.UpdateMlpOutReferenceIdeal.τ).loc Cert.UpdateMlpOutReferenceIdeal.main_arg0)
      ∧ r.2.mem ((c.tc : Thread Cert.UpdateMlpOutReferenceIdeal.nD Cert.UpdateMlpOutReferenceIdeal.τ).loc Cert.UpdateMlpOutReferenceIdeal.main_arg1) = m ((c.tc : Thread Cert.UpdateMlpOutReferenceIdeal.nD Cert.UpdateMlpOutReferenceIdeal.τ).loc Cert.UpdateMlpOutReferenceIdeal.main_arg1)
      ∧ r.2.mem ((c.tc : Thread Cert.UpdateMlpOutReferenceIdeal.nD Cert.UpdateMlpOutReferenceIdeal.τ).loc Cert.UpdateMlpOutReferenceIdeal.main_arg2) = m ((c.tc : Thread Cert.UpdateMlpOutReferenceIdeal.nD Cert.UpdateMlpOutReferenceIdeal.τ).loc Cert.UpdateMlpOutReferenceIdeal.main_arg2)
      ∧ r.2.mem ((c.tc : Thread Cert.UpdateMlpOutReferenceIdeal.nD Cert.UpdateMlpOutReferenceIdeal.τ).loc Cert.UpdateMlpOutReferenceIdeal.main_arg3) = m ((c.tc : Thread Cert.UpdateMlpOutReferenceIdeal.nD Cert.UpdateMlpOutReferenceIdeal.τ).loc Cert.UpdateMlpOutReferenceIdeal.main_arg3))
      ∧ r.2.sem = fun _ => 0)

def quiescent_UpdateAda [hUpdateAda : Cert.UpdateAda.Facts] : Prop :=
  ∀ (m : (ℓ : Loc Cert.UpdateAda.nD Cert.UpdateAda.τ Cert.UpdateAda.sig) → Buf (Elt Bits) ℓ) (g : Dev Cert.UpdateAda.nD → PrngReg), Pre_UpdateAda m →
    θ_run (Cert.UpdateAda.defs (F := Bits)) (onTc (τ := Cert.UpdateAda.τ) (Cert.UpdateAda.main (F := Bits))) ⟨m, fun _ => 0, g⟩ (fun r => (∀ c : Dev Cert.UpdateAda.nD,
      r.2.mem ((c.tc : Thread Cert.UpdateAda.nD Cert.UpdateAda.τ).loc Cert.UpdateAda.main_arg0) = m ((c.tc : Thread Cert.UpdateAda.nD Cert.UpdateAda.τ).loc Cert.UpdateAda.main_arg0)
      ∧ r.2.mem ((c.tc : Thread Cert.UpdateAda.nD Cert.UpdateAda.τ).loc Cert.UpdateAda.main_arg1) = m ((c.tc : Thread Cert.UpdateAda.nD Cert.UpdateAda.τ).loc Cert.UpdateAda.main_arg1)
      ∧ r.2.mem ((c.tc : Thread Cert.UpdateAda.nD Cert.UpdateAda.τ).loc Cert.UpdateAda.main_arg2) = m ((c.tc : Thread Cert.UpdateAda.nD Cert.UpdateAda.τ).loc Cert.UpdateAda.main_arg2)
      ∧ r.2.mem ((c.tc : Thread Cert.UpdateAda.nD Cert.UpdateAda.τ).loc Cert.UpdateAda.main_arg3) = m ((c.tc : Thread Cert.UpdateAda.nD Cert.UpdateAda.τ).loc Cert.UpdateAda.main_arg3)
      ∧ r.2.mem ((c.tc : Thread Cert.UpdateAda.nD Cert.UpdateAda.τ).loc Cert.UpdateAda.main_arg4) = m ((c.tc : Thread Cert.UpdateAda.nD Cert.UpdateAda.τ).loc Cert.UpdateAda.main_arg4))
      ∧ r.2.sem = fun _ => 0)

def quiescent_UpdateAdaIdeal [hUpdateAdaIdeal : Cert.UpdateAdaIdeal.Facts] : Prop :=
  ∀ (m : (ℓ : Loc Cert.UpdateAdaIdeal.nD Cert.UpdateAdaIdeal.τ Cert.UpdateAdaIdeal.sig) → Buf (Elt Ideal) ℓ) (g : Dev Cert.UpdateAdaIdeal.nD → PrngReg), Pre_UpdateAdaIdeal m →
    θ_run (Cert.UpdateAdaIdeal.defs (F := Ideal)) (onTc (τ := Cert.UpdateAdaIdeal.τ) (Cert.UpdateAdaIdeal.main (F := Ideal))) ⟨m, fun _ => 0, g⟩ (fun r => (∀ c : Dev Cert.UpdateAdaIdeal.nD,
      r.2.mem ((c.tc : Thread Cert.UpdateAdaIdeal.nD Cert.UpdateAdaIdeal.τ).loc Cert.UpdateAdaIdeal.main_arg0) = m ((c.tc : Thread Cert.UpdateAdaIdeal.nD Cert.UpdateAdaIdeal.τ).loc Cert.UpdateAdaIdeal.main_arg0)
      ∧ r.2.mem ((c.tc : Thread Cert.UpdateAdaIdeal.nD Cert.UpdateAdaIdeal.τ).loc Cert.UpdateAdaIdeal.main_arg1) = m ((c.tc : Thread Cert.UpdateAdaIdeal.nD Cert.UpdateAdaIdeal.τ).loc Cert.UpdateAdaIdeal.main_arg1)
      ∧ r.2.mem ((c.tc : Thread Cert.UpdateAdaIdeal.nD Cert.UpdateAdaIdeal.τ).loc Cert.UpdateAdaIdeal.main_arg2) = m ((c.tc : Thread Cert.UpdateAdaIdeal.nD Cert.UpdateAdaIdeal.τ).loc Cert.UpdateAdaIdeal.main_arg2)
      ∧ r.2.mem ((c.tc : Thread Cert.UpdateAdaIdeal.nD Cert.UpdateAdaIdeal.τ).loc Cert.UpdateAdaIdeal.main_arg3) = m ((c.tc : Thread Cert.UpdateAdaIdeal.nD Cert.UpdateAdaIdeal.τ).loc Cert.UpdateAdaIdeal.main_arg3)
      ∧ r.2.mem ((c.tc : Thread Cert.UpdateAdaIdeal.nD Cert.UpdateAdaIdeal.τ).loc Cert.UpdateAdaIdeal.main_arg4) = m ((c.tc : Thread Cert.UpdateAdaIdeal.nD Cert.UpdateAdaIdeal.τ).loc Cert.UpdateAdaIdeal.main_arg4))
      ∧ r.2.sem = fun _ => 0)

def quiescent_UpdateAdaReferenceIdeal [hUpdateAdaReferenceIdeal : Cert.UpdateAdaReferenceIdeal.Facts] : Prop :=
  ∀ (m : (ℓ : Loc Cert.UpdateAdaReferenceIdeal.nD Cert.UpdateAdaReferenceIdeal.τ Cert.UpdateAdaReferenceIdeal.sig) → Buf (Elt Ideal) ℓ) (g : Dev Cert.UpdateAdaReferenceIdeal.nD → PrngReg), Pre_UpdateAdaReferenceIdeal m →
    θ_run (Cert.UpdateAdaReferenceIdeal.defs (F := Ideal)) (onTc (τ := Cert.UpdateAdaReferenceIdeal.τ) (Cert.UpdateAdaReferenceIdeal.main (F := Ideal))) ⟨m, fun _ => 0, g⟩ (fun r => (∀ c : Dev Cert.UpdateAdaReferenceIdeal.nD,
      r.2.mem ((c.tc : Thread Cert.UpdateAdaReferenceIdeal.nD Cert.UpdateAdaReferenceIdeal.τ).loc Cert.UpdateAdaReferenceIdeal.main_arg0) = m ((c.tc : Thread Cert.UpdateAdaReferenceIdeal.nD Cert.UpdateAdaReferenceIdeal.τ).loc Cert.UpdateAdaReferenceIdeal.main_arg0)
      ∧ r.2.mem ((c.tc : Thread Cert.UpdateAdaReferenceIdeal.nD Cert.UpdateAdaReferenceIdeal.τ).loc Cert.UpdateAdaReferenceIdeal.main_arg1) = m ((c.tc : Thread Cert.UpdateAdaReferenceIdeal.nD Cert.UpdateAdaReferenceIdeal.τ).loc Cert.UpdateAdaReferenceIdeal.main_arg1)
      ∧ r.2.mem ((c.tc : Thread Cert.UpdateAdaReferenceIdeal.nD Cert.UpdateAdaReferenceIdeal.τ).loc Cert.UpdateAdaReferenceIdeal.main_arg2) = m ((c.tc : Thread Cert.UpdateAdaReferenceIdeal.nD Cert.UpdateAdaReferenceIdeal.τ).loc Cert.UpdateAdaReferenceIdeal.main_arg2)
      ∧ r.2.mem ((c.tc : Thread Cert.UpdateAdaReferenceIdeal.nD Cert.UpdateAdaReferenceIdeal.τ).loc Cert.UpdateAdaReferenceIdeal.main_arg3) = m ((c.tc : Thread Cert.UpdateAdaReferenceIdeal.nD Cert.UpdateAdaReferenceIdeal.τ).loc Cert.UpdateAdaReferenceIdeal.main_arg3)
      ∧ r.2.mem ((c.tc : Thread Cert.UpdateAdaReferenceIdeal.nD Cert.UpdateAdaReferenceIdeal.τ).loc Cert.UpdateAdaReferenceIdeal.main_arg4) = m ((c.tc : Thread Cert.UpdateAdaReferenceIdeal.nD Cert.UpdateAdaReferenceIdeal.τ).loc Cert.UpdateAdaReferenceIdeal.main_arg4))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0))
      ∧ r.2.sem = fun _ => 0)

def quiescent_UpdateSmall [hUpdateSmall : Cert.UpdateSmall.Facts] : Prop :=
  ∀ (m : (ℓ : Loc Cert.UpdateSmall.nD Cert.UpdateSmall.τ Cert.UpdateSmall.sig) → Buf (Elt Bits) ℓ) (g : Dev Cert.UpdateSmall.nD → PrngReg), Pre_UpdateSmall m →
    θ_run (Cert.UpdateSmall.defs (F := Bits)) (onTc (τ := Cert.UpdateSmall.τ) (Cert.UpdateSmall.main (F := Bits))) ⟨m, fun _ => 0, g⟩ (fun r => (∀ c : Dev Cert.UpdateSmall.nD,
      r.2.mem ((c.tc : Thread Cert.UpdateSmall.nD Cert.UpdateSmall.τ).loc Cert.UpdateSmall.main_arg0) = m ((c.tc : Thread Cert.UpdateSmall.nD Cert.UpdateSmall.τ).loc Cert.UpdateSmall.main_arg0)
      ∧ r.2.mem ((c.tc : Thread Cert.UpdateSmall.nD Cert.UpdateSmall.τ).loc Cert.UpdateSmall.main_arg1) = m ((c.tc : Thread Cert.UpdateSmall.nD Cert.UpdateSmall.τ).loc Cert.UpdateSmall.main_arg1)
      ∧ r.2.mem ((c.tc : Thread Cert.UpdateSmall.nD Cert.UpdateSmall.τ).loc Cert.UpdateSmall.main_arg2) = m ((c.tc : Thread Cert.UpdateSmall.nD Cert.UpdateSmall.τ).loc Cert.UpdateSmall.main_arg2)
      ∧ r.2.mem ((c.tc : Thread Cert.UpdateSmall.nD Cert.UpdateSmall.τ).loc Cert.UpdateSmall.main_arg3) = m ((c.tc : Thread Cert.UpdateSmall.nD Cert.UpdateSmall.τ).loc Cert.UpdateSmall.main_arg3))
      ∧ r.2.sem = fun _ => 0)

def quiescent_UpdateSmallIdeal [hUpdateSmallIdeal : Cert.UpdateSmallIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg), Pre_UpdateSmallIdeal m →
    θ_run (Cert.UpdateSmallIdeal.defs (F := Ideal)) (onTc (τ := Cert.UpdateSmallIdeal.τ) (Cert.UpdateSmallIdeal.main (F := Ideal))) ⟨m, fun _ => 0, g⟩ (fun r => (∀ c : Dev Cert.UpdateSmallIdeal.nD,
      r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
      ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
      ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
      ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ r.2.sem = fun _ => 0)

def quiescent_UpdateSmallReferenceIdeal [hUpdateSmallReferenceIdeal : Cert.UpdateSmallReferenceIdeal.Facts] : Prop :=
  ∀ (m : (ℓ : Loc Cert.UpdateSmallReferenceIdeal.nD Cert.UpdateSmallReferenceIdeal.τ Cert.UpdateSmallReferenceIdeal.sig) → Buf (Elt Ideal) ℓ) (g : Dev Cert.UpdateSmallReferenceIdeal.nD → PrngReg), Pre_UpdateSmallReferenceIdeal m →
    θ_run (Cert.UpdateSmallReferenceIdeal.defs (F := Ideal)) (onTc (τ := Cert.UpdateSmallReferenceIdeal.τ) (Cert.UpdateSmallReferenceIdeal.main (F := Ideal))) ⟨m, fun _ => 0, g⟩ (fun r => (∀ c : Dev Cert.UpdateSmallReferenceIdeal.nD,
      r.2.mem ((c.tc : Thread Cert.UpdateSmallReferenceIdeal.nD Cert.UpdateSmallReferenceIdeal.τ).loc Cert.UpdateSmallReferenceIdeal.main_arg0) = m ((c.tc : Thread Cert.UpdateSmallReferenceIdeal.nD Cert.UpdateSmallReferenceIdeal.τ).loc Cert.UpdateSmallReferenceIdeal.main_arg0)
      ∧ r.2.mem ((c.tc : Thread Cert.UpdateSmallReferenceIdeal.nD Cert.UpdateSmallReferenceIdeal.τ).loc Cert.UpdateSmallReferenceIdeal.main_arg1) = m ((c.tc : Thread Cert.UpdateSmallReferenceIdeal.nD Cert.UpdateSmallReferenceIdeal.τ).loc Cert.UpdateSmallReferenceIdeal.main_arg1)
      ∧ r.2.mem ((c.tc : Thread Cert.UpdateSmallReferenceIdeal.nD Cert.UpdateSmallReferenceIdeal.τ).loc Cert.UpdateSmallReferenceIdeal.main_arg2) = m ((c.tc : Thread Cert.UpdateSmallReferenceIdeal.nD Cert.UpdateSmallReferenceIdeal.τ).loc Cert.UpdateSmallReferenceIdeal.main_arg2)
      ∧ r.2.mem ((c.tc : Thread Cert.UpdateSmallReferenceIdeal.nD Cert.UpdateSmallReferenceIdeal.τ).loc Cert.UpdateSmallReferenceIdeal.main_arg3) = m ((c.tc : Thread Cert.UpdateSmallReferenceIdeal.nD Cert.UpdateSmallReferenceIdeal.τ).loc Cert.UpdateSmallReferenceIdeal.main_arg3))
      ∧ r.2.sem = fun _ => 0)

def quiescent_PremixBwd [hPremixBwd : Cert.PremixBwd.Facts] : Prop :=
  ∀ (m : (ℓ : Loc Cert.PremixBwd.nD Cert.PremixBwd.τ Cert.PremixBwd.sig) → Buf (Elt Bits) ℓ) (g : Dev Cert.PremixBwd.nD → PrngReg), Pre_PremixBwd m →
    θ_run (Cert.PremixBwd.defs (F := Bits)) (onTc (τ := Cert.PremixBwd.τ) (Cert.PremixBwd.main (F := Bits))) ⟨m, fun _ => 0, g⟩ (fun r => (∀ c : Dev Cert.PremixBwd.nD,
      r.2.mem ((c.tc : Thread Cert.PremixBwd.nD Cert.PremixBwd.τ).loc Cert.PremixBwd.main_arg0) = m ((c.tc : Thread Cert.PremixBwd.nD Cert.PremixBwd.τ).loc Cert.PremixBwd.main_arg0)
      ∧ r.2.mem ((c.tc : Thread Cert.PremixBwd.nD Cert.PremixBwd.τ).loc Cert.PremixBwd.main_arg1) = m ((c.tc : Thread Cert.PremixBwd.nD Cert.PremixBwd.τ).loc Cert.PremixBwd.main_arg1)
      ∧ r.2.mem ((c.tc : Thread Cert.PremixBwd.nD Cert.PremixBwd.τ).loc Cert.PremixBwd.main_arg2) = m ((c.tc : Thread Cert.PremixBwd.nD Cert.PremixBwd.τ).loc Cert.PremixBwd.main_arg2)
      ∧ r.2.mem ((c.tc : Thread Cert.PremixBwd.nD Cert.PremixBwd.τ).loc Cert.PremixBwd.main_arg3) = m ((c.tc : Thread Cert.PremixBwd.nD Cert.PremixBwd.τ).loc Cert.PremixBwd.main_arg3)
      ∧ r.2.mem ((c.tc : Thread Cert.PremixBwd.nD Cert.PremixBwd.τ).loc Cert.PremixBwd.main_arg4) = m ((c.tc : Thread Cert.PremixBwd.nD Cert.PremixBwd.τ).loc Cert.PremixBwd.main_arg4))
      ∧ r.2.sem = fun _ => 0)

def quiescent_PremixBwdIdeal [hPremixBwdIdeal : Cert.PremixBwdIdeal.Facts] : Prop :=
  ∀ (m : (ℓ : Loc Cert.PremixBwdIdeal.nD Cert.PremixBwdIdeal.τ Cert.PremixBwdIdeal.sig) → Buf (Elt Ideal) ℓ) (g : Dev Cert.PremixBwdIdeal.nD → PrngReg), Pre_PremixBwdIdeal m →
    θ_run (Cert.PremixBwdIdeal.defs (F := Ideal)) (onTc (τ := Cert.PremixBwdIdeal.τ) (Cert.PremixBwdIdeal.main (F := Ideal))) ⟨m, fun _ => 0, g⟩ (fun r => (∀ c : Dev Cert.PremixBwdIdeal.nD,
      r.2.mem ((c.tc : Thread Cert.PremixBwdIdeal.nD Cert.PremixBwdIdeal.τ).loc Cert.PremixBwdIdeal.main_arg0) = m ((c.tc : Thread Cert.PremixBwdIdeal.nD Cert.PremixBwdIdeal.τ).loc Cert.PremixBwdIdeal.main_arg0)
      ∧ r.2.mem ((c.tc : Thread Cert.PremixBwdIdeal.nD Cert.PremixBwdIdeal.τ).loc Cert.PremixBwdIdeal.main_arg1) = m ((c.tc : Thread Cert.PremixBwdIdeal.nD Cert.PremixBwdIdeal.τ).loc Cert.PremixBwdIdeal.main_arg1)
      ∧ r.2.mem ((c.tc : Thread Cert.PremixBwdIdeal.nD Cert.PremixBwdIdeal.τ).loc Cert.PremixBwdIdeal.main_arg2) = m ((c.tc : Thread Cert.PremixBwdIdeal.nD Cert.PremixBwdIdeal.τ).loc Cert.PremixBwdIdeal.main_arg2)
      ∧ r.2.mem ((c.tc : Thread Cert.PremixBwdIdeal.nD Cert.PremixBwdIdeal.τ).loc Cert.PremixBwdIdeal.main_arg3) = m ((c.tc : Thread Cert.PremixBwdIdeal.nD Cert.PremixBwdIdeal.τ).loc Cert.PremixBwdIdeal.main_arg3)
      ∧ r.2.mem ((c.tc : Thread Cert.PremixBwdIdeal.nD Cert.PremixBwdIdeal.τ).loc Cert.PremixBwdIdeal.main_arg4) = m ((c.tc : Thread Cert.PremixBwdIdeal.nD Cert.PremixBwdIdeal.τ).loc Cert.PremixBwdIdeal.main_arg4))
      ∧ r.2.sem = fun _ => 0)

def quiescent_PremixBwdReferenceIdeal [hPremixBwdReferenceIdeal : Cert.PremixBwdReferenceIdeal.Facts] : Prop :=
  ∀ (m : (ℓ : Loc Cert.PremixBwdReferenceIdeal.nD Cert.PremixBwdReferenceIdeal.τ Cert.PremixBwdReferenceIdeal.sig) → Buf (Elt Ideal) ℓ) (g : Dev Cert.PremixBwdReferenceIdeal.nD → PrngReg), Pre_PremixBwdReferenceIdeal m →
    θ_run (Cert.PremixBwdReferenceIdeal.defs (F := Ideal)) (onTc (τ := Cert.PremixBwdReferenceIdeal.τ) (Cert.PremixBwdReferenceIdeal.main (F := Ideal))) ⟨m, fun _ => 0, g⟩ (fun r => (∀ c : Dev Cert.PremixBwdReferenceIdeal.nD,
      r.2.mem ((c.tc : Thread Cert.PremixBwdReferenceIdeal.nD Cert.PremixBwdReferenceIdeal.τ).loc Cert.PremixBwdReferenceIdeal.main_arg0) = m ((c.tc : Thread Cert.PremixBwdReferenceIdeal.nD Cert.PremixBwdReferenceIdeal.τ).loc Cert.PremixBwdReferenceIdeal.main_arg0)
      ∧ r.2.mem ((c.tc : Thread Cert.PremixBwdReferenceIdeal.nD Cert.PremixBwdReferenceIdeal.τ).loc Cert.PremixBwdReferenceIdeal.main_arg1) = m ((c.tc : Thread Cert.PremixBwdReferenceIdeal.nD Cert.PremixBwdReferenceIdeal.τ).loc Cert.PremixBwdReferenceIdeal.main_arg1)
      ∧ r.2.mem ((c.tc : Thread Cert.PremixBwdReferenceIdeal.nD Cert.PremixBwdReferenceIdeal.τ).loc Cert.PremixBwdReferenceIdeal.main_arg2) = m ((c.tc : Thread Cert.PremixBwdReferenceIdeal.nD Cert.PremixBwdReferenceIdeal.τ).loc Cert.PremixBwdReferenceIdeal.main_arg2)
      ∧ r.2.mem ((c.tc : Thread Cert.PremixBwdReferenceIdeal.nD Cert.PremixBwdReferenceIdeal.τ).loc Cert.PremixBwdReferenceIdeal.main_arg3) = m ((c.tc : Thread Cert.PremixBwdReferenceIdeal.nD Cert.PremixBwdReferenceIdeal.τ).loc Cert.PremixBwdReferenceIdeal.main_arg3)
      ∧ r.2.mem ((c.tc : Thread Cert.PremixBwdReferenceIdeal.nD Cert.PremixBwdReferenceIdeal.τ).loc Cert.PremixBwdReferenceIdeal.main_arg4) = m ((c.tc : Thread Cert.PremixBwdReferenceIdeal.nD Cert.PremixBwdReferenceIdeal.τ).loc Cert.PremixBwdReferenceIdeal.main_arg4))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ r.2.sem = fun _ => 0)

def quiescent_LossBwdReferenceIdeal [hLossBwdReferenceIdeal : Cert.LossBwdReferenceIdeal.Facts] : Prop :=
  ∀ (m : (ℓ : Loc Cert.LossBwdReferenceIdeal.nD Cert.LossBwdReferenceIdeal.τ Cert.LossBwdReferenceIdeal.sig) → Buf (Elt Ideal) ℓ) (g : Dev Cert.LossBwdReferenceIdeal.nD → PrngReg), Pre_LossBwdReferenceIdeal m →
    θ_run (Cert.LossBwdReferenceIdeal.defs (F := Ideal)) (onTc (τ := Cert.LossBwdReferenceIdeal.τ) (Cert.LossBwdReferenceIdeal.main (F := Ideal))) ⟨m, fun _ => 0, g⟩ (fun r => (∀ c : Dev Cert.LossBwdReferenceIdeal.nD,
      r.2.mem ((c.tc : Thread Cert.LossBwdReferenceIdeal.nD Cert.LossBwdReferenceIdeal.τ).loc Cert.LossBwdReferenceIdeal.main_arg0) = m ((c.tc : Thread Cert.LossBwdReferenceIdeal.nD Cert.LossBwdReferenceIdeal.τ).loc Cert.LossBwdReferenceIdeal.main_arg0)
      ∧ r.2.mem ((c.tc : Thread Cert.LossBwdReferenceIdeal.nD Cert.LossBwdReferenceIdeal.τ).loc Cert.LossBwdReferenceIdeal.main_arg1) = m ((c.tc : Thread Cert.LossBwdReferenceIdeal.nD Cert.LossBwdReferenceIdeal.τ).loc Cert.LossBwdReferenceIdeal.main_arg1)
      ∧ r.2.mem ((c.tc : Thread Cert.LossBwdReferenceIdeal.nD Cert.LossBwdReferenceIdeal.τ).loc Cert.LossBwdReferenceIdeal.main_arg2) = m ((c.tc : Thread Cert.LossBwdReferenceIdeal.nD Cert.LossBwdReferenceIdeal.τ).loc Cert.LossBwdReferenceIdeal.main_arg2)
      ∧ r.2.mem ((c.tc : Thread Cert.LossBwdReferenceIdeal.nD Cert.LossBwdReferenceIdeal.τ).loc Cert.LossBwdReferenceIdeal.main_arg3) = m ((c.tc : Thread Cert.LossBwdReferenceIdeal.nD Cert.LossBwdReferenceIdeal.τ).loc Cert.LossBwdReferenceIdeal.main_arg3)
      ∧ r.2.mem ((c.tc : Thread Cert.LossBwdReferenceIdeal.nD Cert.LossBwdReferenceIdeal.τ).loc Cert.LossBwdReferenceIdeal.main_arg4) = m ((c.tc : Thread Cert.LossBwdReferenceIdeal.nD Cert.LossBwdReferenceIdeal.τ).loc Cert.LossBwdReferenceIdeal.main_arg4))
      ∧ r.2.sem = fun _ => 0)

def quiescent_PremlpBwd [hPremlpBwd : Cert.PremlpBwd.Facts] : Prop :=
  ∀ (m : (ℓ : Loc Cert.PremlpBwd.nD Cert.PremlpBwd.τ Cert.PremlpBwd.sig) → Buf (Elt Bits) ℓ) (g : Dev Cert.PremlpBwd.nD → PrngReg), Pre_PremlpBwd m →
    θ_run (Cert.PremlpBwd.defs (F := Bits)) (onTc (τ := Cert.PremlpBwd.τ) (Cert.PremlpBwd.main (F := Bits))) ⟨m, fun _ => 0, g⟩ (fun r => (∀ c : Dev Cert.PremlpBwd.nD,
      r.2.mem ((c.tc : Thread Cert.PremlpBwd.nD Cert.PremlpBwd.τ).loc Cert.PremlpBwd.main_arg0) = m ((c.tc : Thread Cert.PremlpBwd.nD Cert.PremlpBwd.τ).loc Cert.PremlpBwd.main_arg0)
      ∧ r.2.mem ((c.tc : Thread Cert.PremlpBwd.nD Cert.PremlpBwd.τ).loc Cert.PremlpBwd.main_arg1) = m ((c.tc : Thread Cert.PremlpBwd.nD Cert.PremlpBwd.τ).loc Cert.PremlpBwd.main_arg1)
      ∧ r.2.mem ((c.tc : Thread Cert.PremlpBwd.nD Cert.PremlpBwd.τ).loc Cert.PremlpBwd.main_arg2) = m ((c.tc : Thread Cert.PremlpBwd.nD Cert.PremlpBwd.τ).loc Cert.PremlpBwd.main_arg2)
      ∧ r.2.mem ((c.tc : Thread Cert.PremlpBwd.nD Cert.PremlpBwd.τ).loc Cert.PremlpBwd.main_arg3) = m ((c.tc : Thread Cert.PremlpBwd.nD Cert.PremlpBwd.τ).loc Cert.PremlpBwd.main_arg3)
      ∧ r.2.mem ((c.tc : Thread Cert.PremlpBwd.nD Cert.PremlpBwd.τ).loc Cert.PremlpBwd.main_arg4) = m ((c.tc : Thread Cert.PremlpBwd.nD Cert.PremlpBwd.τ).loc Cert.PremlpBwd.main_arg4)
      ∧ r.2.mem ((c.tc : Thread Cert.PremlpBwd.nD Cert.PremlpBwd.τ).loc Cert.PremlpBwd.main_arg5) = m ((c.tc : Thread Cert.PremlpBwd.nD Cert.PremlpBwd.τ).loc Cert.PremlpBwd.main_arg5)
      ∧ r.2.mem ((c.tc : Thread Cert.PremlpBwd.nD Cert.PremlpBwd.τ).loc Cert.PremlpBwd.main_arg6) = m ((c.tc : Thread Cert.PremlpBwd.nD Cert.PremlpBwd.τ).loc Cert.PremlpBwd.main_arg6)
      ∧ r.2.mem ((c.tc : Thread Cert.PremlpBwd.nD Cert.PremlpBwd.τ).loc Cert.PremlpBwd.main_arg7) = m ((c.tc : Thread Cert.PremlpBwd.nD Cert.PremlpBwd.τ).loc Cert.PremlpBwd.main_arg7))
      ∧ r.2.sem = fun _ => 0)

def quiescent_PremlpBwdIdeal [hPremlpBwdIdeal : Cert.PremlpBwdIdeal.Facts] : Prop :=
  ∀ (m : (ℓ : Loc Cert.PremlpBwdIdeal.nD Cert.PremlpBwdIdeal.τ Cert.PremlpBwdIdeal.sig) → Buf (Elt Ideal) ℓ) (g : Dev Cert.PremlpBwdIdeal.nD → PrngReg), Pre_PremlpBwdIdeal m →
    θ_run (Cert.PremlpBwdIdeal.defs (F := Ideal)) (onTc (τ := Cert.PremlpBwdIdeal.τ) (Cert.PremlpBwdIdeal.main (F := Ideal))) ⟨m, fun _ => 0, g⟩ (fun r => (∀ c : Dev Cert.PremlpBwdIdeal.nD,
      r.2.mem ((c.tc : Thread Cert.PremlpBwdIdeal.nD Cert.PremlpBwdIdeal.τ).loc Cert.PremlpBwdIdeal.main_arg0) = m ((c.tc : Thread Cert.PremlpBwdIdeal.nD Cert.PremlpBwdIdeal.τ).loc Cert.PremlpBwdIdeal.main_arg0)
      ∧ r.2.mem ((c.tc : Thread Cert.PremlpBwdIdeal.nD Cert.PremlpBwdIdeal.τ).loc Cert.PremlpBwdIdeal.main_arg1) = m ((c.tc : Thread Cert.PremlpBwdIdeal.nD Cert.PremlpBwdIdeal.τ).loc Cert.PremlpBwdIdeal.main_arg1)
      ∧ r.2.mem ((c.tc : Thread Cert.PremlpBwdIdeal.nD Cert.PremlpBwdIdeal.τ).loc Cert.PremlpBwdIdeal.main_arg2) = m ((c.tc : Thread Cert.PremlpBwdIdeal.nD Cert.PremlpBwdIdeal.τ).loc Cert.PremlpBwdIdeal.main_arg2)
      ∧ r.2.mem ((c.tc : Thread Cert.PremlpBwdIdeal.nD Cert.PremlpBwdIdeal.τ).loc Cert.PremlpBwdIdeal.main_arg3) = m ((c.tc : Thread Cert.PremlpBwdIdeal.nD Cert.PremlpBwdIdeal.τ).loc Cert.PremlpBwdIdeal.main_arg3)
      ∧ r.2.mem ((c.tc : Thread Cert.PremlpBwdIdeal.nD Cert.PremlpBwdIdeal.τ).loc Cert.PremlpBwdIdeal.main_arg4) = m ((c.tc : Thread Cert.PremlpBwdIdeal.nD Cert.PremlpBwdIdeal.τ).loc Cert.PremlpBwdIdeal.main_arg4)
      ∧ r.2.mem ((c.tc : Thread Cert.PremlpBwdIdeal.nD Cert.PremlpBwdIdeal.τ).loc Cert.PremlpBwdIdeal.main_arg5) = m ((c.tc : Thread Cert.PremlpBwdIdeal.nD Cert.PremlpBwdIdeal.τ).loc Cert.PremlpBwdIdeal.main_arg5)
      ∧ r.2.mem ((c.tc : Thread Cert.PremlpBwdIdeal.nD Cert.PremlpBwdIdeal.τ).loc Cert.PremlpBwdIdeal.main_arg6) = m ((c.tc : Thread Cert.PremlpBwdIdeal.nD Cert.PremlpBwdIdeal.τ).loc Cert.PremlpBwdIdeal.main_arg6)
      ∧ r.2.mem ((c.tc : Thread Cert.PremlpBwdIdeal.nD Cert.PremlpBwdIdeal.τ).loc Cert.PremlpBwdIdeal.main_arg7) = m ((c.tc : Thread Cert.PremlpBwdIdeal.nD Cert.PremlpBwdIdeal.τ).loc Cert.PremlpBwdIdeal.main_arg7))
      ∧ r.2.sem = fun _ => 0)

def quiescent_PremlpBwdReferenceIdeal [hPremlpBwdReferenceIdeal : Cert.PremlpBwdReferenceIdeal.Facts] : Prop :=
  ∀ (m : (ℓ : Loc Cert.PremlpBwdReferenceIdeal.nD Cert.PremlpBwdReferenceIdeal.τ Cert.PremlpBwdReferenceIdeal.sig) → Buf (Elt Ideal) ℓ) (g : Dev Cert.PremlpBwdReferenceIdeal.nD → PrngReg), Pre_PremlpBwdReferenceIdeal m →
    θ_run (Cert.PremlpBwdReferenceIdeal.defs (F := Ideal)) (onTc (τ := Cert.PremlpBwdReferenceIdeal.τ) (Cert.PremlpBwdReferenceIdeal.main (F := Ideal))) ⟨m, fun _ => 0, g⟩ (fun r => (∀ c : Dev Cert.PremlpBwdReferenceIdeal.nD,
      r.2.mem ((c.tc : Thread Cert.PremlpBwdReferenceIdeal.nD Cert.PremlpBwdReferenceIdeal.τ).loc Cert.PremlpBwdReferenceIdeal.main_arg0) = m ((c.tc : Thread Cert.PremlpBwdReferenceIdeal.nD Cert.PremlpBwdReferenceIdeal.τ).loc Cert.PremlpBwdReferenceIdeal.main_arg0)
      ∧ r.2.mem ((c.tc : Thread Cert.PremlpBwdReferenceIdeal.nD Cert.PremlpBwdReferenceIdeal.τ).loc Cert.PremlpBwdReferenceIdeal.main_arg1) = m ((c.tc : Thread Cert.PremlpBwdReferenceIdeal.nD Cert.PremlpBwdReferenceIdeal.τ).loc Cert.PremlpBwdReferenceIdeal.main_arg1)
      ∧ r.2.mem ((c.tc : Thread Cert.PremlpBwdReferenceIdeal.nD Cert.PremlpBwdReferenceIdeal.τ).loc Cert.PremlpBwdReferenceIdeal.main_arg2) = m ((c.tc : Thread Cert.PremlpBwdReferenceIdeal.nD Cert.PremlpBwdReferenceIdeal.τ).loc Cert.PremlpBwdReferenceIdeal.main_arg2)
      ∧ r.2.mem ((c.tc : Thread Cert.PremlpBwdReferenceIdeal.nD Cert.PremlpBwdReferenceIdeal.τ).loc Cert.PremlpBwdReferenceIdeal.main_arg3) = m ((c.tc : Thread Cert.PremlpBwdReferenceIdeal.nD Cert.PremlpBwdReferenceIdeal.τ).loc Cert.PremlpBwdReferenceIdeal.main_arg3)
      ∧ r.2.mem ((c.tc : Thread Cert.PremlpBwdReferenceIdeal.nD Cert.PremlpBwdReferenceIdeal.τ).loc Cert.PremlpBwdReferenceIdeal.main_arg4) = m ((c.tc : Thread Cert.PremlpBwdReferenceIdeal.nD Cert.PremlpBwdReferenceIdeal.τ).loc Cert.PremlpBwdReferenceIdeal.main_arg4)
      ∧ r.2.mem ((c.tc : Thread Cert.PremlpBwdReferenceIdeal.nD Cert.PremlpBwdReferenceIdeal.τ).loc Cert.PremlpBwdReferenceIdeal.main_arg5) = m ((c.tc : Thread Cert.PremlpBwdReferenceIdeal.nD Cert.PremlpBwdReferenceIdeal.τ).loc Cert.PremlpBwdReferenceIdeal.main_arg5)
      ∧ r.2.mem ((c.tc : Thread Cert.PremlpBwdReferenceIdeal.nD Cert.PremlpBwdReferenceIdeal.τ).loc Cert.PremlpBwdReferenceIdeal.main_arg6) = m ((c.tc : Thread Cert.PremlpBwdReferenceIdeal.nD Cert.PremlpBwdReferenceIdeal.τ).loc Cert.PremlpBwdReferenceIdeal.main_arg6)
      ∧ r.2.mem ((c.tc : Thread Cert.PremlpBwdReferenceIdeal.nD Cert.PremlpBwdReferenceIdeal.τ).loc Cert.PremlpBwdReferenceIdeal.main_arg7) = m ((c.tc : Thread Cert.PremlpBwdReferenceIdeal.nD Cert.PremlpBwdReferenceIdeal.τ).loc Cert.PremlpBwdReferenceIdeal.main_arg7))
      ∧ r.2.sem = fun _ => 0)

def quiescent_Premix [hPremix : Cert.Premix.Facts] : Prop :=
  ∀ (m : (ℓ : Loc Cert.Premix.nD Cert.Premix.τ Cert.Premix.sig) → Buf (Elt Bits) ℓ) (g : Dev Cert.Premix.nD → PrngReg), Pre_Premix m →
    θ_run (Cert.Premix.defs (F := Bits)) (onTc (τ := Cert.Premix.τ) (Cert.Premix.main (F := Bits))) ⟨m, fun _ => 0, g⟩ (fun r => (∀ c : Dev Cert.Premix.nD,
      r.2.mem ((c.tc : Thread Cert.Premix.nD Cert.Premix.τ).loc Cert.Premix.main_arg0) = m ((c.tc : Thread Cert.Premix.nD Cert.Premix.τ).loc Cert.Premix.main_arg0)
      ∧ r.2.mem ((c.tc : Thread Cert.Premix.nD Cert.Premix.τ).loc Cert.Premix.main_arg1) = m ((c.tc : Thread Cert.Premix.nD Cert.Premix.τ).loc Cert.Premix.main_arg1)
      ∧ r.2.mem ((c.tc : Thread Cert.Premix.nD Cert.Premix.τ).loc Cert.Premix.main_arg2) = m ((c.tc : Thread Cert.Premix.nD Cert.Premix.τ).loc Cert.Premix.main_arg2)
      ∧ r.2.mem ((c.tc : Thread Cert.Premix.nD Cert.Premix.τ).loc Cert.Premix.main_arg3) = m ((c.tc : Thread Cert.Premix.nD Cert.Premix.τ).loc Cert.Premix.main_arg3))
      ∧ r.2.sem = fun _ => 0)

def quiescent_PremixIdeal [hPremixIdeal : Cert.PremixIdeal.Facts] : Prop :=
  ∀ (m : (ℓ : Loc Cert.PremixIdeal.nD Cert.PremixIdeal.τ Cert.PremixIdeal.sig) → Buf (Elt Ideal) ℓ) (g : Dev Cert.PremixIdeal.nD → PrngReg), Pre_PremixIdeal m →
    θ_run (Cert.PremixIdeal.defs (F := Ideal)) (onTc (τ := Cert.PremixIdeal.τ) (Cert.PremixIdeal.main (F := Ideal))) ⟨m, fun _ => 0, g⟩ (fun r => (∀ c : Dev Cert.PremixIdeal.nD,
      r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
      ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
      ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
      ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3))
      ∧ r.2.sem = fun _ => 0)

def quiescent_PremixReferenceIdeal [hPremixReferenceIdeal : Cert.PremixReferenceIdeal.Facts] : Prop :=
  ∀ (m : (ℓ : Loc Cert.PremixReferenceIdeal.nD Cert.PremixReferenceIdeal.τ Cert.PremixReferenceIdeal.sig) → Buf (Elt Ideal) ℓ) (g : Dev Cert.PremixReferenceIdeal.nD → PrngReg), Pre_PremixReferenceIdeal m →
    θ_run (Cert.PremixReferenceIdeal.defs (F := Ideal)) (onTc (τ := Cert.PremixReferenceIdeal.τ) (Cert.PremixReferenceIdeal.main (F := Ideal))) ⟨m, fun _ => 0, g⟩ (fun r => (∀ c : Dev Cert.PremixReferenceIdeal.nD,
      r.2.mem ((c.tc : Thread Cert.PremixReferenceIdeal.nD Cert.PremixReferenceIdeal.τ).loc Cert.PremixReferenceIdeal.main_arg0) = m ((c.tc : Thread Cert.PremixReferenceIdeal.nD Cert.PremixReferenceIdeal.τ).loc Cert.PremixReferenceIdeal.main_arg0)
      ∧ r.2.mem ((c.tc : Thread Cert.PremixReferenceIdeal.nD Cert.PremixReferenceIdeal.τ).loc Cert.PremixReferenceIdeal.main_arg1) = m ((c.tc : Thread Cert.PremixReferenceIdeal.nD Cert.PremixReferenceIdeal.τ).loc Cert.PremixReferenceIdeal.main_arg1)
      ∧ r.2.mem ((c.tc : Thread Cert.PremixReferenceIdeal.nD Cert.PremixReferenceIdeal.τ).loc Cert.PremixReferenceIdeal.main_arg2) = m ((c.tc : Thread Cert.PremixReferenceIdeal.nD Cert.PremixReferenceIdeal.τ).loc Cert.PremixReferenceIdeal.main_arg2)
      ∧ r.2.mem ((c.tc : Thread Cert.PremixReferenceIdeal.nD Cert.PremixReferenceIdeal.τ).loc Cert.PremixReferenceIdeal.main_arg3) = m ((c.tc : Thread Cert.PremixReferenceIdeal.nD Cert.PremixReferenceIdeal.τ).loc Cert.PremixReferenceIdeal.main_arg3))
      ∧ r.2.sem = fun _ => 0)

def quiescent_PostmixPremlp [hPostmixPremlp : Cert.PostmixPremlp.Facts] : Prop :=
  ∀ (m : (ℓ : Loc Cert.PostmixPremlp.nD Cert.PostmixPremlp.τ Cert.PostmixPremlp.sig) → Buf (Elt Bits) ℓ) (g : Dev Cert.PostmixPremlp.nD → PrngReg), Pre_PostmixPremlp m →
    θ_run (Cert.PostmixPremlp.defs (F := Bits)) (onTc (τ := Cert.PostmixPremlp.τ) (Cert.PostmixPremlp.main (F := Bits))) ⟨m, fun _ => 0, g⟩ (fun r => (∀ c : Dev Cert.PostmixPremlp.nD,
      r.2.mem ((c.tc : Thread Cert.PostmixPremlp.nD Cert.PostmixPremlp.τ).loc Cert.PostmixPremlp.main_arg0) = m ((c.tc : Thread Cert.PostmixPremlp.nD Cert.PostmixPremlp.τ).loc Cert.PostmixPremlp.main_arg0)
      ∧ r.2.mem ((c.tc : Thread Cert.PostmixPremlp.nD Cert.PostmixPremlp.τ).loc Cert.PostmixPremlp.main_arg1) = m ((c.tc : Thread Cert.PostmixPremlp.nD Cert.PostmixPremlp.τ).loc Cert.PostmixPremlp.main_arg1)
      ∧ r.2.mem ((c.tc : Thread Cert.PostmixPremlp.nD Cert.PostmixPremlp.τ).loc Cert.PostmixPremlp.main_arg2) = m ((c.tc : Thread Cert.PostmixPremlp.nD Cert.PostmixPremlp.τ).loc Cert.PostmixPremlp.main_arg2)
      ∧ r.2.mem ((c.tc : Thread Cert.PostmixPremlp.nD Cert.PostmixPremlp.τ).loc Cert.PostmixPremlp.main_arg3) = m ((c.tc : Thread Cert.PostmixPremlp.nD Cert.PostmixPremlp.τ).loc Cert.PostmixPremlp.main_arg3)
      ∧ r.2.mem ((c.tc : Thread Cert.PostmixPremlp.nD Cert.PostmixPremlp.τ).loc Cert.PostmixPremlp.main_arg4) = m ((c.tc : Thread Cert.PostmixPremlp.nD Cert.PostmixPremlp.τ).loc Cert.PostmixPremlp.main_arg4)
      ∧ r.2.mem ((c.tc : Thread Cert.PostmixPremlp.nD Cert.PostmixPremlp.τ).loc Cert.PostmixPremlp.main_arg5) = m ((c.tc : Thread Cert.PostmixPremlp.nD Cert.PostmixPremlp.τ).loc Cert.PostmixPremlp.main_arg5)
      ∧ r.2.mem ((c.tc : Thread Cert.PostmixPremlp.nD Cert.PostmixPremlp.τ).loc Cert.PostmixPremlp.main_arg6) = m ((c.tc : Thread Cert.PostmixPremlp.nD Cert.PostmixPremlp.τ).loc Cert.PostmixPremlp.main_arg6))
      ∧ r.2.sem = fun _ => 0)

def quiescent_PostmixPremlpIdeal [hPostmixPremlpIdeal : Cert.PostmixPremlpIdeal.Facts] : Prop :=
  ∀ (m : (ℓ : Loc Cert.PostmixPremlpIdeal.nD Cert.PostmixPremlpIdeal.τ Cert.PostmixPremlpIdeal.sig) → Buf (Elt Ideal) ℓ) (g : Dev Cert.PostmixPremlpIdeal.nD → PrngReg), Pre_PostmixPremlpIdeal m →
    θ_run (Cert.PostmixPremlpIdeal.defs (F := Ideal)) (onTc (τ := Cert.PostmixPremlpIdeal.τ) (Cert.PostmixPremlpIdeal.main (F := Ideal))) ⟨m, fun _ => 0, g⟩ (fun r => (∀ c : Dev Cert.PostmixPremlpIdeal.nD,
      r.2.mem ((c.tc : Thread Cert.PostmixPremlpIdeal.nD Cert.PostmixPremlpIdeal.τ).loc Cert.PostmixPremlpIdeal.main_arg0) = m ((c.tc : Thread Cert.PostmixPremlpIdeal.nD Cert.PostmixPremlpIdeal.τ).loc Cert.PostmixPremlpIdeal.main_arg0)
      ∧ r.2.mem ((c.tc : Thread Cert.PostmixPremlpIdeal.nD Cert.PostmixPremlpIdeal.τ).loc Cert.PostmixPremlpIdeal.main_arg1) = m ((c.tc : Thread Cert.PostmixPremlpIdeal.nD Cert.PostmixPremlpIdeal.τ).loc Cert.PostmixPremlpIdeal.main_arg1)
      ∧ r.2.mem ((c.tc : Thread Cert.PostmixPremlpIdeal.nD Cert.PostmixPremlpIdeal.τ).loc Cert.PostmixPremlpIdeal.main_arg2) = m ((c.tc : Thread Cert.PostmixPremlpIdeal.nD Cert.PostmixPremlpIdeal.τ).loc Cert.PostmixPremlpIdeal.main_arg2)
      ∧ r.2.mem ((c.tc : Thread Cert.PostmixPremlpIdeal.nD Cert.PostmixPremlpIdeal.τ).loc Cert.PostmixPremlpIdeal.main_arg3) = m ((c.tc : Thread Cert.PostmixPremlpIdeal.nD Cert.PostmixPremlpIdeal.τ).loc Cert.PostmixPremlpIdeal.main_arg3)
      ∧ r.2.mem ((c.tc : Thread Cert.PostmixPremlpIdeal.nD Cert.PostmixPremlpIdeal.τ).loc Cert.PostmixPremlpIdeal.main_arg4) = m ((c.tc : Thread Cert.PostmixPremlpIdeal.nD Cert.PostmixPremlpIdeal.τ).loc Cert.PostmixPremlpIdeal.main_arg4)
      ∧ r.2.mem ((c.tc : Thread Cert.PostmixPremlpIdeal.nD Cert.PostmixPremlpIdeal.τ).loc Cert.PostmixPremlpIdeal.main_arg5) = m ((c.tc : Thread Cert.PostmixPremlpIdeal.nD Cert.PostmixPremlpIdeal.τ).loc Cert.PostmixPremlpIdeal.main_arg5)
      ∧ r.2.mem ((c.tc : Thread Cert.PostmixPremlpIdeal.nD Cert.PostmixPremlpIdeal.τ).loc Cert.PostmixPremlpIdeal.main_arg6) = m ((c.tc : Thread Cert.PostmixPremlpIdeal.nD Cert.PostmixPremlpIdeal.τ).loc Cert.PostmixPremlpIdeal.main_arg6))
      ∧ r.2.sem = fun _ => 0)

def quiescent_PostmixPremlpReferenceIdeal [hPostmixPremlpReferenceIdeal : Cert.PostmixPremlpReferenceIdeal.Facts] : Prop :=
  ∀ (m : (ℓ : Loc Cert.PostmixPremlpReferenceIdeal.nD Cert.PostmixPremlpReferenceIdeal.τ Cert.PostmixPremlpReferenceIdeal.sig) → Buf (Elt Ideal) ℓ) (g : Dev Cert.PostmixPremlpReferenceIdeal.nD → PrngReg), Pre_PostmixPremlpReferenceIdeal m →
    θ_run (Cert.PostmixPremlpReferenceIdeal.defs (F := Ideal)) (onTc (τ := Cert.PostmixPremlpReferenceIdeal.τ) (Cert.PostmixPremlpReferenceIdeal.main (F := Ideal))) ⟨m, fun _ => 0, g⟩ (fun r => (∀ c : Dev Cert.PostmixPremlpReferenceIdeal.nD,
      r.2.mem ((c.tc : Thread Cert.PostmixPremlpReferenceIdeal.nD Cert.PostmixPremlpReferenceIdeal.τ).loc Cert.PostmixPremlpReferenceIdeal.main_arg0) = m ((c.tc : Thread Cert.PostmixPremlpReferenceIdeal.nD Cert.PostmixPremlpReferenceIdeal.τ).loc Cert.PostmixPremlpReferenceIdeal.main_arg0)
      ∧ r.2.mem ((c.tc : Thread Cert.PostmixPremlpReferenceIdeal.nD Cert.PostmixPremlpReferenceIdeal.τ).loc Cert.PostmixPremlpReferenceIdeal.main_arg1) = m ((c.tc : Thread Cert.PostmixPremlpReferenceIdeal.nD Cert.PostmixPremlpReferenceIdeal.τ).loc Cert.PostmixPremlpReferenceIdeal.main_arg1)
      ∧ r.2.mem ((c.tc : Thread Cert.PostmixPremlpReferenceIdeal.nD Cert.PostmixPremlpReferenceIdeal.τ).loc Cert.PostmixPremlpReferenceIdeal.main_arg2) = m ((c.tc : Thread Cert.PostmixPremlpReferenceIdeal.nD Cert.PostmixPremlpReferenceIdeal.τ).loc Cert.PostmixPremlpReferenceIdeal.main_arg2)
      ∧ r.2.mem ((c.tc : Thread Cert.PostmixPremlpReferenceIdeal.nD Cert.PostmixPremlpReferenceIdeal.τ).loc Cert.PostmixPremlpReferenceIdeal.main_arg3) = m ((c.tc : Thread Cert.PostmixPremlpReferenceIdeal.nD Cert.PostmixPremlpReferenceIdeal.τ).loc Cert.PostmixPremlpReferenceIdeal.main_arg3)
      ∧ r.2.mem ((c.tc : Thread Cert.PostmixPremlpReferenceIdeal.nD Cert.PostmixPremlpReferenceIdeal.τ).loc Cert.PostmixPremlpReferenceIdeal.main_arg4) = m ((c.tc : Thread Cert.PostmixPremlpReferenceIdeal.nD Cert.PostmixPremlpReferenceIdeal.τ).loc Cert.PostmixPremlpReferenceIdeal.main_arg4)
      ∧ r.2.mem ((c.tc : Thread Cert.PostmixPremlpReferenceIdeal.nD Cert.PostmixPremlpReferenceIdeal.τ).loc Cert.PostmixPremlpReferenceIdeal.main_arg5) = m ((c.tc : Thread Cert.PostmixPremlpReferenceIdeal.nD Cert.PostmixPremlpReferenceIdeal.τ).loc Cert.PostmixPremlpReferenceIdeal.main_arg5)
      ∧ r.2.mem ((c.tc : Thread Cert.PostmixPremlpReferenceIdeal.nD Cert.PostmixPremlpReferenceIdeal.τ).loc Cert.PostmixPremlpReferenceIdeal.main_arg6) = m ((c.tc : Thread Cert.PostmixPremlpReferenceIdeal.nD Cert.PostmixPremlpReferenceIdeal.τ).loc Cert.PostmixPremlpReferenceIdeal.main_arg6))
      ∧ r.2.sem = fun _ => 0)

def quiescent_ProjMain [hProjMain : Cert.ProjMain.Facts] : Prop :=
  ∀ (m : (ℓ : Loc Cert.ProjMain.nD Cert.ProjMain.τ Cert.ProjMain.sig) → Buf (Elt Bits) ℓ) (g : Dev Cert.ProjMain.nD → PrngReg), Pre_ProjMain m →
    θ_run (Cert.ProjMain.defs (F := Bits)) (onTc (τ := Cert.ProjMain.τ) (Cert.ProjMain.main (F := Bits))) ⟨m, fun _ => 0, g⟩ (fun r => (∀ c : Dev Cert.ProjMain.nD,
      r.2.mem ((c.tc : Thread Cert.ProjMain.nD Cert.ProjMain.τ).loc Cert.ProjMain.main_arg0) = m ((c.tc : Thread Cert.ProjMain.nD Cert.ProjMain.τ).loc Cert.ProjMain.main_arg0)
      ∧ r.2.mem ((c.tc : Thread Cert.ProjMain.nD Cert.ProjMain.τ).loc Cert.ProjMain.main_arg1) = m ((c.tc : Thread Cert.ProjMain.nD Cert.ProjMain.τ).loc Cert.ProjMain.main_arg1))
      ∧ r.2.sem = fun _ => 0)

def quiescent_ProjMainIdeal [hProjMainIdeal : Cert.ProjMainIdeal.Facts] : Prop :=
  ∀ (m : (ℓ : Loc Cert.ProjMainIdeal.nD Cert.ProjMainIdeal.τ Cert.ProjMainIdeal.sig) → Buf (Elt Ideal) ℓ) (g : Dev Cert.ProjMainIdeal.nD → PrngReg), Pre_ProjMainIdeal m →
    θ_run (Cert.ProjMainIdeal.defs (F := Ideal)) (onTc (τ := Cert.ProjMainIdeal.τ) (Cert.ProjMainIdeal.main (F := Ideal))) ⟨m, fun _ => 0, g⟩ (fun r => (∀ c : Dev Cert.ProjMainIdeal.nD,
      r.2.mem ((c.tc : Thread Cert.ProjMainIdeal.nD Cert.ProjMainIdeal.τ).loc Cert.ProjMainIdeal.main_arg0) = m ((c.tc : Thread Cert.ProjMainIdeal.nD Cert.ProjMainIdeal.τ).loc Cert.ProjMainIdeal.main_arg0)
      ∧ r.2.mem ((c.tc : Thread Cert.ProjMainIdeal.nD Cert.ProjMainIdeal.τ).loc Cert.ProjMainIdeal.main_arg1) = m ((c.tc : Thread Cert.ProjMainIdeal.nD Cert.ProjMainIdeal.τ).loc Cert.ProjMainIdeal.main_arg1))
      ∧ r.2.sem = fun _ => 0)

def quiescent_ProjMainReferenceIdeal [hProjMainReferenceIdeal : Cert.ProjMainReferenceIdeal.Facts] : Prop :=
  ∀ (m : (ℓ : Loc Cert.ProjMainReferenceIdeal.nD Cert.ProjMainReferenceIdeal.τ Cert.ProjMainReferenceIdeal.sig) → Buf (Elt Ideal) ℓ) (g : Dev Cert.ProjMainReferenceIdeal.nD → PrngReg), Pre_ProjMainReferenceIdeal m →
    θ_run (Cert.ProjMainReferenceIdeal.defs (F := Ideal)) (onTc (τ := Cert.ProjMainReferenceIdeal.τ) (Cert.ProjMainReferenceIdeal.main (F := Ideal))) ⟨m, fun _ => 0, g⟩ (fun r => (∀ c : Dev Cert.ProjMainReferenceIdeal.nD,
      r.2.mem ((c.tc : Thread Cert.ProjMainReferenceIdeal.nD Cert.ProjMainReferenceIdeal.τ).loc Cert.ProjMainReferenceIdeal.main_arg0) = m ((c.tc : Thread Cert.ProjMainReferenceIdeal.nD Cert.ProjMainReferenceIdeal.τ).loc Cert.ProjMainReferenceIdeal.main_arg0)
      ∧ r.2.mem ((c.tc : Thread Cert.ProjMainReferenceIdeal.nD Cert.ProjMainReferenceIdeal.τ).loc Cert.ProjMainReferenceIdeal.main_arg1) = m ((c.tc : Thread Cert.ProjMainReferenceIdeal.nD Cert.ProjMainReferenceIdeal.τ).loc Cert.ProjMainReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ r.2.sem = fun _ => 0)

def quiescent_MlpInReferenceIdeal [hMlpInReferenceIdeal : Cert.MlpInReferenceIdeal.Facts] : Prop :=
  ∀ (m : (ℓ : Loc Cert.MlpInReferenceIdeal.nD Cert.MlpInReferenceIdeal.τ Cert.MlpInReferenceIdeal.sig) → Buf (Elt Ideal) ℓ) (g : Dev Cert.MlpInReferenceIdeal.nD → PrngReg), Pre_MlpInReferenceIdeal m →
    θ_run (Cert.MlpInReferenceIdeal.defs (F := Ideal)) (onTc (τ := Cert.MlpInReferenceIdeal.τ) (Cert.MlpInReferenceIdeal.main (F := Ideal))) ⟨m, fun _ => 0, g⟩ (fun r => (∀ c : Dev Cert.MlpInReferenceIdeal.nD,
      r.2.mem ((c.tc : Thread Cert.MlpInReferenceIdeal.nD Cert.MlpInReferenceIdeal.τ).loc Cert.MlpInReferenceIdeal.main_arg0) = m ((c.tc : Thread Cert.MlpInReferenceIdeal.nD Cert.MlpInReferenceIdeal.τ).loc Cert.MlpInReferenceIdeal.main_arg0)
      ∧ r.2.mem ((c.tc : Thread Cert.MlpInReferenceIdeal.nD Cert.MlpInReferenceIdeal.τ).loc Cert.MlpInReferenceIdeal.main_arg1) = m ((c.tc : Thread Cert.MlpInReferenceIdeal.nD Cert.MlpInReferenceIdeal.τ).loc Cert.MlpInReferenceIdeal.main_arg1))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ r.2.sem = fun _ => 0)

def quiescent_MlpOutReferenceIdeal [hMlpOutReferenceIdeal : Cert.MlpOutReferenceIdeal.Facts] : Prop :=
  ∀ (m : (ℓ : Loc Cert.MlpOutReferenceIdeal.nD Cert.MlpOutReferenceIdeal.τ Cert.MlpOutReferenceIdeal.sig) → Buf (Elt Ideal) ℓ) (g : Dev Cert.MlpOutReferenceIdeal.nD → PrngReg), Pre_MlpOutReferenceIdeal m →
    θ_run (Cert.MlpOutReferenceIdeal.defs (F := Ideal)) (onTc (τ := Cert.MlpOutReferenceIdeal.τ) (Cert.MlpOutReferenceIdeal.main (F := Ideal))) ⟨m, fun _ => 0, g⟩ (fun r => (∀ c : Dev Cert.MlpOutReferenceIdeal.nD,
      r.2.mem ((c.tc : Thread Cert.MlpOutReferenceIdeal.nD Cert.MlpOutReferenceIdeal.τ).loc Cert.MlpOutReferenceIdeal.main_arg0) = m ((c.tc : Thread Cert.MlpOutReferenceIdeal.nD Cert.MlpOutReferenceIdeal.τ).loc Cert.MlpOutReferenceIdeal.main_arg0)
      ∧ r.2.mem ((c.tc : Thread Cert.MlpOutReferenceIdeal.nD Cert.MlpOutReferenceIdeal.τ).loc Cert.MlpOutReferenceIdeal.main_arg1) = m ((c.tc : Thread Cert.MlpOutReferenceIdeal.nD Cert.MlpOutReferenceIdeal.τ).loc Cert.MlpOutReferenceIdeal.main_arg1))
      ∧ r.2.sem = fun _ => 0)

def quiescent_MlpOutDx [hMlpOutDx : Cert.MlpOutDx.Facts] : Prop :=
  ∀ (m : (ℓ : Loc Cert.MlpOutDx.nD Cert.MlpOutDx.τ Cert.MlpOutDx.sig) → Buf (Elt Bits) ℓ) (g : Dev Cert.MlpOutDx.nD → PrngReg), Pre_MlpOutDx m →
    θ_run (Cert.MlpOutDx.defs (F := Bits)) (onTc (τ := Cert.MlpOutDx.τ) (Cert.MlpOutDx.main (F := Bits))) ⟨m, fun _ => 0, g⟩ (fun r => (∀ c : Dev Cert.MlpOutDx.nD,
      r.2.mem ((c.tc : Thread Cert.MlpOutDx.nD Cert.MlpOutDx.τ).loc Cert.MlpOutDx.main_arg0) = m ((c.tc : Thread Cert.MlpOutDx.nD Cert.MlpOutDx.τ).loc Cert.MlpOutDx.main_arg0)
      ∧ r.2.mem ((c.tc : Thread Cert.MlpOutDx.nD Cert.MlpOutDx.τ).loc Cert.MlpOutDx.main_arg1) = m ((c.tc : Thread Cert.MlpOutDx.nD Cert.MlpOutDx.τ).loc Cert.MlpOutDx.main_arg1)
      ∧ r.2.mem ((c.tc : Thread Cert.MlpOutDx.nD Cert.MlpOutDx.τ).loc Cert.MlpOutDx.main_arg2) = m ((c.tc : Thread Cert.MlpOutDx.nD Cert.MlpOutDx.τ).loc Cert.MlpOutDx.main_arg2))
      ∧ r.2.sem = fun _ => 0)

def quiescent_MlpOutDxIdeal [hMlpOutDxIdeal : Cert.MlpOutDxIdeal.Facts] : Prop :=
  ∀ (m : (ℓ : Loc Cert.MlpOutDxIdeal.nD Cert.MlpOutDxIdeal.τ Cert.MlpOutDxIdeal.sig) → Buf (Elt Ideal) ℓ) (g : Dev Cert.MlpOutDxIdeal.nD → PrngReg), Pre_MlpOutDxIdeal m →
    θ_run (Cert.MlpOutDxIdeal.defs (F := Ideal)) (onTc (τ := Cert.MlpOutDxIdeal.τ) (Cert.MlpOutDxIdeal.main (F := Ideal))) ⟨m, fun _ => 0, g⟩ (fun r => (∀ c : Dev Cert.MlpOutDxIdeal.nD,
      r.2.mem ((c.tc : Thread Cert.MlpOutDxIdeal.nD Cert.MlpOutDxIdeal.τ).loc Cert.MlpOutDxIdeal.main_arg0) = m ((c.tc : Thread Cert.MlpOutDxIdeal.nD Cert.MlpOutDxIdeal.τ).loc Cert.MlpOutDxIdeal.main_arg0)
      ∧ r.2.mem ((c.tc : Thread Cert.MlpOutDxIdeal.nD Cert.MlpOutDxIdeal.τ).loc Cert.MlpOutDxIdeal.main_arg1) = m ((c.tc : Thread Cert.MlpOutDxIdeal.nD Cert.MlpOutDxIdeal.τ).loc Cert.MlpOutDxIdeal.main_arg1)
      ∧ r.2.mem ((c.tc : Thread Cert.MlpOutDxIdeal.nD Cert.MlpOutDxIdeal.τ).loc Cert.MlpOutDxIdeal.main_arg2) = m ((c.tc : Thread Cert.MlpOutDxIdeal.nD Cert.MlpOutDxIdeal.τ).loc Cert.MlpOutDxIdeal.main_arg2))
      ∧ r.2.sem = fun _ => 0)

def quiescent_MlpOutDxReferenceIdeal [hMlpOutDxReferenceIdeal : Cert.MlpOutDxReferenceIdeal.Facts] : Prop :=
  ∀ (m : (ℓ : Loc Cert.MlpOutDxReferenceIdeal.nD Cert.MlpOutDxReferenceIdeal.τ Cert.MlpOutDxReferenceIdeal.sig) → Buf (Elt Ideal) ℓ) (g : Dev Cert.MlpOutDxReferenceIdeal.nD → PrngReg), Pre_MlpOutDxReferenceIdeal m →
    θ_run (Cert.MlpOutDxReferenceIdeal.defs (F := Ideal)) (onTc (τ := Cert.MlpOutDxReferenceIdeal.τ) (Cert.MlpOutDxReferenceIdeal.main (F := Ideal))) ⟨m, fun _ => 0, g⟩ (fun r => (∀ c : Dev Cert.MlpOutDxReferenceIdeal.nD,
      r.2.mem ((c.tc : Thread Cert.MlpOutDxReferenceIdeal.nD Cert.MlpOutDxReferenceIdeal.τ).loc Cert.MlpOutDxReferenceIdeal.main_arg0) = m ((c.tc : Thread Cert.MlpOutDxReferenceIdeal.nD Cert.MlpOutDxReferenceIdeal.τ).loc Cert.MlpOutDxReferenceIdeal.main_arg0)
      ∧ r.2.mem ((c.tc : Thread Cert.MlpOutDxReferenceIdeal.nD Cert.MlpOutDxReferenceIdeal.τ).loc Cert.MlpOutDxReferenceIdeal.main_arg1) = m ((c.tc : Thread Cert.MlpOutDxReferenceIdeal.nD Cert.MlpOutDxReferenceIdeal.τ).loc Cert.MlpOutDxReferenceIdeal.main_arg1)
      ∧ r.2.mem ((c.tc : Thread Cert.MlpOutDxReferenceIdeal.nD Cert.MlpOutDxReferenceIdeal.τ).loc Cert.MlpOutDxReferenceIdeal.main_arg2) = m ((c.tc : Thread Cert.MlpOutDxReferenceIdeal.nD Cert.MlpOutDxReferenceIdeal.τ).loc Cert.MlpOutDxReferenceIdeal.main_arg2))
      ∧ r.2.sem = fun _ => 0)

def quiescent_MlpOutDw [hMlpOutDw : Cert.MlpOutDw.Facts] : Prop :=
  ∀ (m : (ℓ : Loc Cert.MlpOutDw.nD Cert.MlpOutDw.τ Cert.MlpOutDw.sig) → Buf (Elt Bits) ℓ) (g : Dev Cert.MlpOutDw.nD → PrngReg), Pre_MlpOutDw m →
    θ_run (Cert.MlpOutDw.defs (F := Bits)) (onTc (τ := Cert.MlpOutDw.τ) (Cert.MlpOutDw.main (F := Bits))) ⟨m, fun _ => 0, g⟩ (fun r => (∀ c : Dev Cert.MlpOutDw.nD,
      r.2.mem ((c.tc : Thread Cert.MlpOutDw.nD Cert.MlpOutDw.τ).loc Cert.MlpOutDw.main_arg0) = m ((c.tc : Thread Cert.MlpOutDw.nD Cert.MlpOutDw.τ).loc Cert.MlpOutDw.main_arg0)
      ∧ r.2.mem ((c.tc : Thread Cert.MlpOutDw.nD Cert.MlpOutDw.τ).loc Cert.MlpOutDw.main_arg1) = m ((c.tc : Thread Cert.MlpOutDw.nD Cert.MlpOutDw.τ).loc Cert.MlpOutDw.main_arg1))
      ∧ r.2.sem = fun _ => 0)

def quiescent_MlpOutDwIdeal [hMlpOutDwIdeal : Cert.MlpOutDwIdeal.Facts] : Prop :=
  ∀ (m : (ℓ : Loc Cert.MlpOutDwIdeal.nD Cert.MlpOutDwIdeal.τ Cert.MlpOutDwIdeal.sig) → Buf (Elt Ideal) ℓ) (g : Dev Cert.MlpOutDwIdeal.nD → PrngReg), Pre_MlpOutDwIdeal m →
    θ_run (Cert.MlpOutDwIdeal.defs (F := Ideal)) (onTc (τ := Cert.MlpOutDwIdeal.τ) (Cert.MlpOutDwIdeal.main (F := Ideal))) ⟨m, fun _ => 0, g⟩ (fun r => (∀ c : Dev Cert.MlpOutDwIdeal.nD,
      r.2.mem ((c.tc : Thread Cert.MlpOutDwIdeal.nD Cert.MlpOutDwIdeal.τ).loc Cert.MlpOutDwIdeal.main_arg0) = m ((c.tc : Thread Cert.MlpOutDwIdeal.nD Cert.MlpOutDwIdeal.τ).loc Cert.MlpOutDwIdeal.main_arg0)
      ∧ r.2.mem ((c.tc : Thread Cert.MlpOutDwIdeal.nD Cert.MlpOutDwIdeal.τ).loc Cert.MlpOutDwIdeal.main_arg1) = m ((c.tc : Thread Cert.MlpOutDwIdeal.nD Cert.MlpOutDwIdeal.τ).loc Cert.MlpOutDwIdeal.main_arg1))
      ∧ r.2.sem = fun _ => 0)

def quiescent_MlpOutDwReferenceIdeal [hMlpOutDwReferenceIdeal : Cert.MlpOutDwReferenceIdeal.Facts] : Prop :=
  ∀ (m : (ℓ : Loc Cert.MlpOutDwReferenceIdeal.nD Cert.MlpOutDwReferenceIdeal.τ Cert.MlpOutDwReferenceIdeal.sig) → Buf (Elt Ideal) ℓ) (g : Dev Cert.MlpOutDwReferenceIdeal.nD → PrngReg), Pre_MlpOutDwReferenceIdeal m →
    θ_run (Cert.MlpOutDwReferenceIdeal.defs (F := Ideal)) (onTc (τ := Cert.MlpOutDwReferenceIdeal.τ) (Cert.MlpOutDwReferenceIdeal.main (F := Ideal))) ⟨m, fun _ => 0, g⟩ (fun r => (∀ c : Dev Cert.MlpOutDwReferenceIdeal.nD,
      r.2.mem ((c.tc : Thread Cert.MlpOutDwReferenceIdeal.nD Cert.MlpOutDwReferenceIdeal.τ).loc Cert.MlpOutDwReferenceIdeal.main_arg0) = m ((c.tc : Thread Cert.MlpOutDwReferenceIdeal.nD Cert.MlpOutDwReferenceIdeal.τ).loc Cert.MlpOutDwReferenceIdeal.main_arg0)
      ∧ r.2.mem ((c.tc : Thread Cert.MlpOutDwReferenceIdeal.nD Cert.MlpOutDwReferenceIdeal.τ).loc Cert.MlpOutDwReferenceIdeal.main_arg1) = m ((c.tc : Thread Cert.MlpOutDwReferenceIdeal.nD Cert.MlpOutDwReferenceIdeal.τ).loc Cert.MlpOutDwReferenceIdeal.main_arg1))
      ∧ r.2.sem = fun _ => 0)

def quiescent_MlpInDx [hMlpInDx : Cert.MlpInDx.Facts] : Prop :=
  ∀ (m : (ℓ : Loc Cert.MlpInDx.nD Cert.MlpInDx.τ Cert.MlpInDx.sig) → Buf (Elt Bits) ℓ) (g : Dev Cert.MlpInDx.nD → PrngReg), Pre_MlpInDx m →
    θ_run (Cert.MlpInDx.defs (F := Bits)) (onTc (τ := Cert.MlpInDx.τ) (Cert.MlpInDx.main (F := Bits))) ⟨m, fun _ => 0, g⟩ (fun r => (∀ c : Dev Cert.MlpInDx.nD,
      r.2.mem ((c.tc : Thread Cert.MlpInDx.nD Cert.MlpInDx.τ).loc Cert.MlpInDx.main_arg0) = m ((c.tc : Thread Cert.MlpInDx.nD Cert.MlpInDx.τ).loc Cert.MlpInDx.main_arg0)
      ∧ r.2.mem ((c.tc : Thread Cert.MlpInDx.nD Cert.MlpInDx.τ).loc Cert.MlpInDx.main_arg1) = m ((c.tc : Thread Cert.MlpInDx.nD Cert.MlpInDx.τ).loc Cert.MlpInDx.main_arg1))
      ∧ r.2.sem = fun _ => 0)

def quiescent_MlpInDxIdeal [hMlpInDxIdeal : Cert.MlpInDxIdeal.Facts] : Prop :=
  ∀ (m : (ℓ : Loc Cert.MlpInDxIdeal.nD Cert.MlpInDxIdeal.τ Cert.MlpInDxIdeal.sig) → Buf (Elt Ideal) ℓ) (g : Dev Cert.MlpInDxIdeal.nD → PrngReg), Pre_MlpInDxIdeal m →
    θ_run (Cert.MlpInDxIdeal.defs (F := Ideal)) (onTc (τ := Cert.MlpInDxIdeal.τ) (Cert.MlpInDxIdeal.main (F := Ideal))) ⟨m, fun _ => 0, g⟩ (fun r => (∀ c : Dev Cert.MlpInDxIdeal.nD,
      r.2.mem ((c.tc : Thread Cert.MlpInDxIdeal.nD Cert.MlpInDxIdeal.τ).loc Cert.MlpInDxIdeal.main_arg0) = m ((c.tc : Thread Cert.MlpInDxIdeal.nD Cert.MlpInDxIdeal.τ).loc Cert.MlpInDxIdeal.main_arg0)
      ∧ r.2.mem ((c.tc : Thread Cert.MlpInDxIdeal.nD Cert.MlpInDxIdeal.τ).loc Cert.MlpInDxIdeal.main_arg1) = m ((c.tc : Thread Cert.MlpInDxIdeal.nD Cert.MlpInDxIdeal.τ).loc Cert.MlpInDxIdeal.main_arg1))
      ∧ r.2.sem = fun _ => 0)

def quiescent_MlpInDxReferenceIdeal [hMlpInDxReferenceIdeal : Cert.MlpInDxReferenceIdeal.Facts] : Prop :=
  ∀ (m : (ℓ : Loc Cert.MlpInDxReferenceIdeal.nD Cert.MlpInDxReferenceIdeal.τ Cert.MlpInDxReferenceIdeal.sig) → Buf (Elt Ideal) ℓ) (g : Dev Cert.MlpInDxReferenceIdeal.nD → PrngReg), Pre_MlpInDxReferenceIdeal m →
    θ_run (Cert.MlpInDxReferenceIdeal.defs (F := Ideal)) (onTc (τ := Cert.MlpInDxReferenceIdeal.τ) (Cert.MlpInDxReferenceIdeal.main (F := Ideal))) ⟨m, fun _ => 0, g⟩ (fun r => (∀ c : Dev Cert.MlpInDxReferenceIdeal.nD,
      r.2.mem ((c.tc : Thread Cert.MlpInDxReferenceIdeal.nD Cert.MlpInDxReferenceIdeal.τ).loc Cert.MlpInDxReferenceIdeal.main_arg0) = m ((c.tc : Thread Cert.MlpInDxReferenceIdeal.nD Cert.MlpInDxReferenceIdeal.τ).loc Cert.MlpInDxReferenceIdeal.main_arg0)
      ∧ r.2.mem ((c.tc : Thread Cert.MlpInDxReferenceIdeal.nD Cert.MlpInDxReferenceIdeal.τ).loc Cert.MlpInDxReferenceIdeal.main_arg1) = m ((c.tc : Thread Cert.MlpInDxReferenceIdeal.nD Cert.MlpInDxReferenceIdeal.τ).loc Cert.MlpInDxReferenceIdeal.main_arg1))
      ∧ r.2.sem = fun _ => 0)

def quiescent_MlpInDw [hMlpInDw : Cert.MlpInDw.Facts] : Prop :=
  ∀ (m : (ℓ : Loc Cert.MlpInDw.nD Cert.MlpInDw.τ Cert.MlpInDw.sig) → Buf (Elt Bits) ℓ) (g : Dev Cert.MlpInDw.nD → PrngReg), Pre_MlpInDw m →
    θ_run (Cert.MlpInDw.defs (F := Bits)) (onTc (τ := Cert.MlpInDw.τ) (Cert.MlpInDw.main (F := Bits))) ⟨m, fun _ => 0, g⟩ (fun r => (∀ c : Dev Cert.MlpInDw.nD,
      r.2.mem ((c.tc : Thread Cert.MlpInDw.nD Cert.MlpInDw.τ).loc Cert.MlpInDw.main_arg0) = m ((c.tc : Thread Cert.MlpInDw.nD Cert.MlpInDw.τ).loc Cert.MlpInDw.main_arg0)
      ∧ r.2.mem ((c.tc : Thread Cert.MlpInDw.nD Cert.MlpInDw.τ).loc Cert.MlpInDw.main_arg1) = m ((c.tc : Thread Cert.MlpInDw.nD Cert.MlpInDw.τ).loc Cert.MlpInDw.main_arg1))
      ∧ r.2.sem = fun _ => 0)

def quiescent_MlpInDwIdeal [hMlpInDwIdeal : Cert.MlpInDwIdeal.Facts] : Prop :=
  ∀ (m : (ℓ : Loc Cert.MlpInDwIdeal.nD Cert.MlpInDwIdeal.τ Cert.MlpInDwIdeal.sig) → Buf (Elt Ideal) ℓ) (g : Dev Cert.MlpInDwIdeal.nD → PrngReg), Pre_MlpInDwIdeal m →
    θ_run (Cert.MlpInDwIdeal.defs (F := Ideal)) (onTc (τ := Cert.MlpInDwIdeal.τ) (Cert.MlpInDwIdeal.main (F := Ideal))) ⟨m, fun _ => 0, g⟩ (fun r => (∀ c : Dev Cert.MlpInDwIdeal.nD,
      r.2.mem ((c.tc : Thread Cert.MlpInDwIdeal.nD Cert.MlpInDwIdeal.τ).loc Cert.MlpInDwIdeal.main_arg0) = m ((c.tc : Thread Cert.MlpInDwIdeal.nD Cert.MlpInDwIdeal.τ).loc Cert.MlpInDwIdeal.main_arg0)
      ∧ r.2.mem ((c.tc : Thread Cert.MlpInDwIdeal.nD Cert.MlpInDwIdeal.τ).loc Cert.MlpInDwIdeal.main_arg1) = m ((c.tc : Thread Cert.MlpInDwIdeal.nD Cert.MlpInDwIdeal.τ).loc Cert.MlpInDwIdeal.main_arg1))
      ∧ r.2.sem = fun _ => 0)

def quiescent_MlpInDwReferenceIdeal [hMlpInDwReferenceIdeal : Cert.MlpInDwReferenceIdeal.Facts] : Prop :=
  ∀ (m : (ℓ : Loc Cert.MlpInDwReferenceIdeal.nD Cert.MlpInDwReferenceIdeal.τ Cert.MlpInDwReferenceIdeal.sig) → Buf (Elt Ideal) ℓ) (g : Dev Cert.MlpInDwReferenceIdeal.nD → PrngReg), Pre_MlpInDwReferenceIdeal m →
    θ_run (Cert.MlpInDwReferenceIdeal.defs (F := Ideal)) (onTc (τ := Cert.MlpInDwReferenceIdeal.τ) (Cert.MlpInDwReferenceIdeal.main (F := Ideal))) ⟨m, fun _ => 0, g⟩ (fun r => (∀ c : Dev Cert.MlpInDwReferenceIdeal.nD,
      r.2.mem ((c.tc : Thread Cert.MlpInDwReferenceIdeal.nD Cert.MlpInDwReferenceIdeal.τ).loc Cert.MlpInDwReferenceIdeal.main_arg0) = m ((c.tc : Thread Cert.MlpInDwReferenceIdeal.nD Cert.MlpInDwReferenceIdeal.τ).loc Cert.MlpInDwReferenceIdeal.main_arg0)
      ∧ r.2.mem ((c.tc : Thread Cert.MlpInDwReferenceIdeal.nD Cert.MlpInDwReferenceIdeal.τ).loc Cert.MlpInDwReferenceIdeal.main_arg1) = m ((c.tc : Thread Cert.MlpInDwReferenceIdeal.nD Cert.MlpInDwReferenceIdeal.τ).loc Cert.MlpInDwReferenceIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxReferenceIdeal [hOutProjDxReferenceIdeal : Cert.OutProjDxReferenceIdeal.Facts] : Prop :=
  ∀ (m : (ℓ : Loc Cert.OutProjDxReferenceIdeal.nD Cert.OutProjDxReferenceIdeal.τ Cert.OutProjDxReferenceIdeal.sig) → Buf (Elt Ideal) ℓ) (g : Dev Cert.OutProjDxReferenceIdeal.nD → PrngReg), Pre_OutProjDxReferenceIdeal m →
    θ_run (Cert.OutProjDxReferenceIdeal.defs (F := Ideal)) (onTc (τ := Cert.OutProjDxReferenceIdeal.τ) (Cert.OutProjDxReferenceIdeal.main (F := Ideal))) ⟨m, fun _ => 0, g⟩ (fun r => (∀ c : Dev Cert.OutProjDxReferenceIdeal.nD,
      r.2.mem ((c.tc : Thread Cert.OutProjDxReferenceIdeal.nD Cert.OutProjDxReferenceIdeal.τ).loc Cert.OutProjDxReferenceIdeal.main_arg0) = m ((c.tc : Thread Cert.OutProjDxReferenceIdeal.nD Cert.OutProjDxReferenceIdeal.τ).loc Cert.OutProjDxReferenceIdeal.main_arg0)
      ∧ r.2.mem ((c.tc : Thread Cert.OutProjDxReferenceIdeal.nD Cert.OutProjDxReferenceIdeal.τ).loc Cert.OutProjDxReferenceIdeal.main_arg1) = m ((c.tc : Thread Cert.OutProjDxReferenceIdeal.nD Cert.OutProjDxReferenceIdeal.τ).loc Cert.OutProjDxReferenceIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwReferenceIdeal [hOutProjDwReferenceIdeal : Cert.OutProjDwReferenceIdeal.Facts] : Prop :=
  ∀ (m : (ℓ : Loc Cert.OutProjDwReferenceIdeal.nD Cert.OutProjDwReferenceIdeal.τ Cert.OutProjDwReferenceIdeal.sig) → Buf (Elt Ideal) ℓ) (g : Dev Cert.OutProjDwReferenceIdeal.nD → PrngReg), Pre_OutProjDwReferenceIdeal m →
    θ_run (Cert.OutProjDwReferenceIdeal.defs (F := Ideal)) (onTc (τ := Cert.OutProjDwReferenceIdeal.τ) (Cert.OutProjDwReferenceIdeal.main (F := Ideal))) ⟨m, fun _ => 0, g⟩ (fun r => (∀ c : Dev Cert.OutProjDwReferenceIdeal.nD,
      r.2.mem ((c.tc : Thread Cert.OutProjDwReferenceIdeal.nD Cert.OutProjDwReferenceIdeal.τ).loc Cert.OutProjDwReferenceIdeal.main_arg0) = m ((c.tc : Thread Cert.OutProjDwReferenceIdeal.nD Cert.OutProjDwReferenceIdeal.τ).loc Cert.OutProjDwReferenceIdeal.main_arg0)
      ∧ r.2.mem ((c.tc : Thread Cert.OutProjDwReferenceIdeal.nD Cert.OutProjDwReferenceIdeal.τ).loc Cert.OutProjDwReferenceIdeal.main_arg1) = m ((c.tc : Thread Cert.OutProjDwReferenceIdeal.nD Cert.OutProjDwReferenceIdeal.τ).loc Cert.OutProjDwReferenceIdeal.main_arg1))
      ∧ r.2.sem = fun _ => 0)

def quiescent_ProjMainDx [hProjMainDx : Cert.ProjMainDx.Facts] : Prop :=
  ∀ (m : (ℓ : Loc Cert.ProjMainDx.nD Cert.ProjMainDx.τ Cert.ProjMainDx.sig) → Buf (Elt Bits) ℓ) (g : Dev Cert.ProjMainDx.nD → PrngReg), Pre_ProjMainDx m →
    θ_run (Cert.ProjMainDx.defs (F := Bits)) (onTc (τ := Cert.ProjMainDx.τ) (Cert.ProjMainDx.main (F := Bits))) ⟨m, fun _ => 0, g⟩ (fun r => (∀ c : Dev Cert.ProjMainDx.nD,
      r.2.mem ((c.tc : Thread Cert.ProjMainDx.nD Cert.ProjMainDx.τ).loc Cert.ProjMainDx.main_arg0) = m ((c.tc : Thread Cert.ProjMainDx.nD Cert.ProjMainDx.τ).loc Cert.ProjMainDx.main_arg0)
      ∧ r.2.mem ((c.tc : Thread Cert.ProjMainDx.nD Cert.ProjMainDx.τ).loc Cert.ProjMainDx.main_arg1) = m ((c.tc : Thread Cert.ProjMainDx.nD Cert.ProjMainDx.τ).loc Cert.ProjMainDx.main_arg1)
      ∧ r.2.mem ((c.tc : Thread Cert.ProjMainDx.nD Cert.ProjMainDx.τ).loc Cert.ProjMainDx.main_arg2) = m ((c.tc : Thread Cert.ProjMainDx.nD Cert.ProjMainDx.τ).loc Cert.ProjMainDx.main_arg2))
      ∧ r.2.sem = fun _ => 0)

def quiescent_ProjMainDxIdeal [hProjMainDxIdeal : Cert.ProjMainDxIdeal.Facts] : Prop :=
  ∀ (m : (ℓ : Loc Cert.ProjMainDxIdeal.nD Cert.ProjMainDxIdeal.τ Cert.ProjMainDxIdeal.sig) → Buf (Elt Ideal) ℓ) (g : Dev Cert.ProjMainDxIdeal.nD → PrngReg), Pre_ProjMainDxIdeal m →
    θ_run (Cert.ProjMainDxIdeal.defs (F := Ideal)) (onTc (τ := Cert.ProjMainDxIdeal.τ) (Cert.ProjMainDxIdeal.main (F := Ideal))) ⟨m, fun _ => 0, g⟩ (fun r => (∀ c : Dev Cert.ProjMainDxIdeal.nD,
      r.2.mem ((c.tc : Thread Cert.ProjMainDxIdeal.nD Cert.ProjMainDxIdeal.τ).loc Cert.ProjMainDxIdeal.main_arg0) = m ((c.tc : Thread Cert.ProjMainDxIdeal.nD Cert.ProjMainDxIdeal.τ).loc Cert.ProjMainDxIdeal.main_arg0)
      ∧ r.2.mem ((c.tc : Thread Cert.ProjMainDxIdeal.nD Cert.ProjMainDxIdeal.τ).loc Cert.ProjMainDxIdeal.main_arg1) = m ((c.tc : Thread Cert.ProjMainDxIdeal.nD Cert.ProjMainDxIdeal.τ).loc Cert.ProjMainDxIdeal.main_arg1)
      ∧ r.2.mem ((c.tc : Thread Cert.ProjMainDxIdeal.nD Cert.ProjMainDxIdeal.τ).loc Cert.ProjMainDxIdeal.main_arg2) = m ((c.tc : Thread Cert.ProjMainDxIdeal.nD Cert.ProjMainDxIdeal.τ).loc Cert.ProjMainDxIdeal.main_arg2))
      ∧ r.2.sem = fun _ => 0)

def quiescent_ProjMainDxReferenceIdeal [hProjMainDxReferenceIdeal : Cert.ProjMainDxReferenceIdeal.Facts] : Prop :=
  ∀ (m : (ℓ : Loc Cert.ProjMainDxReferenceIdeal.nD Cert.ProjMainDxReferenceIdeal.τ Cert.ProjMainDxReferenceIdeal.sig) → Buf (Elt Ideal) ℓ) (g : Dev Cert.ProjMainDxReferenceIdeal.nD → PrngReg), Pre_ProjMainDxReferenceIdeal m →
    θ_run (Cert.ProjMainDxReferenceIdeal.defs (F := Ideal)) (onTc (τ := Cert.ProjMainDxReferenceIdeal.τ) (Cert.ProjMainDxReferenceIdeal.main (F := Ideal))) ⟨m, fun _ => 0, g⟩ (fun r => (∀ c : Dev Cert.ProjMainDxReferenceIdeal.nD,
      r.2.mem ((c.tc : Thread Cert.ProjMainDxReferenceIdeal.nD Cert.ProjMainDxReferenceIdeal.τ).loc Cert.ProjMainDxReferenceIdeal.main_arg0) = m ((c.tc : Thread Cert.ProjMainDxReferenceIdeal.nD Cert.ProjMainDxReferenceIdeal.τ).loc Cert.ProjMainDxReferenceIdeal.main_arg0)
      ∧ r.2.mem ((c.tc : Thread Cert.ProjMainDxReferenceIdeal.nD Cert.ProjMainDxReferenceIdeal.τ).loc Cert.ProjMainDxReferenceIdeal.main_arg1) = m ((c.tc : Thread Cert.ProjMainDxReferenceIdeal.nD Cert.ProjMainDxReferenceIdeal.τ).loc Cert.ProjMainDxReferenceIdeal.main_arg1)
      ∧ r.2.mem ((c.tc : Thread Cert.ProjMainDxReferenceIdeal.nD Cert.ProjMainDxReferenceIdeal.τ).loc Cert.ProjMainDxReferenceIdeal.main_arg2) = m ((c.tc : Thread Cert.ProjMainDxReferenceIdeal.nD Cert.ProjMainDxReferenceIdeal.τ).loc Cert.ProjMainDxReferenceIdeal.main_arg2))
      ∧ r.2.sem = fun _ => 0)

def quiescent_ProjMainDw [hProjMainDw : Cert.ProjMainDw.Facts] : Prop :=
  ∀ (m : (ℓ : Loc Cert.ProjMainDw.nD Cert.ProjMainDw.τ Cert.ProjMainDw.sig) → Buf (Elt Bits) ℓ) (g : Dev Cert.ProjMainDw.nD → PrngReg), Pre_ProjMainDw m →
    θ_run (Cert.ProjMainDw.defs (F := Bits)) (onTc (τ := Cert.ProjMainDw.τ) (Cert.ProjMainDw.main (F := Bits))) ⟨m, fun _ => 0, g⟩ (fun r => (∀ c : Dev Cert.ProjMainDw.nD,
      r.2.mem ((c.tc : Thread Cert.ProjMainDw.nD Cert.ProjMainDw.τ).loc Cert.ProjMainDw.main_arg0) = m ((c.tc : Thread Cert.ProjMainDw.nD Cert.ProjMainDw.τ).loc Cert.ProjMainDw.main_arg0)
      ∧ r.2.mem ((c.tc : Thread Cert.ProjMainDw.nD Cert.ProjMainDw.τ).loc Cert.ProjMainDw.main_arg1) = m ((c.tc : Thread Cert.ProjMainDw.nD Cert.ProjMainDw.τ).loc Cert.ProjMainDw.main_arg1))
      ∧ r.2.sem = fun _ => 0)

def quiescent_ProjMainDwIdeal [hProjMainDwIdeal : Cert.ProjMainDwIdeal.Facts] : Prop :=
  ∀ (m : (ℓ : Loc Cert.ProjMainDwIdeal.nD Cert.ProjMainDwIdeal.τ Cert.ProjMainDwIdeal.sig) → Buf (Elt Ideal) ℓ) (g : Dev Cert.ProjMainDwIdeal.nD → PrngReg), Pre_ProjMainDwIdeal m →
    θ_run (Cert.ProjMainDwIdeal.defs (F := Ideal)) (onTc (τ := Cert.ProjMainDwIdeal.τ) (Cert.ProjMainDwIdeal.main (F := Ideal))) ⟨m, fun _ => 0, g⟩ (fun r => (∀ c : Dev Cert.ProjMainDwIdeal.nD,
      r.2.mem ((c.tc : Thread Cert.ProjMainDwIdeal.nD Cert.ProjMainDwIdeal.τ).loc Cert.ProjMainDwIdeal.main_arg0) = m ((c.tc : Thread Cert.ProjMainDwIdeal.nD Cert.ProjMainDwIdeal.τ).loc Cert.ProjMainDwIdeal.main_arg0)
      ∧ r.2.mem ((c.tc : Thread Cert.ProjMainDwIdeal.nD Cert.ProjMainDwIdeal.τ).loc Cert.ProjMainDwIdeal.main_arg1) = m ((c.tc : Thread Cert.ProjMainDwIdeal.nD Cert.ProjMainDwIdeal.τ).loc Cert.ProjMainDwIdeal.main_arg1))
      ∧ r.2.sem = fun _ => 0)

def quiescent_ProjMainDwReferenceIdeal [hProjMainDwReferenceIdeal : Cert.ProjMainDwReferenceIdeal.Facts] : Prop :=
  ∀ (m : (ℓ : Loc Cert.ProjMainDwReferenceIdeal.nD Cert.ProjMainDwReferenceIdeal.τ Cert.ProjMainDwReferenceIdeal.sig) → Buf (Elt Ideal) ℓ) (g : Dev Cert.ProjMainDwReferenceIdeal.nD → PrngReg), Pre_ProjMainDwReferenceIdeal m →
    θ_run (Cert.ProjMainDwReferenceIdeal.defs (F := Ideal)) (onTc (τ := Cert.ProjMainDwReferenceIdeal.τ) (Cert.ProjMainDwReferenceIdeal.main (F := Ideal))) ⟨m, fun _ => 0, g⟩ (fun r => (∀ c : Dev Cert.ProjMainDwReferenceIdeal.nD,
      r.2.mem ((c.tc : Thread Cert.ProjMainDwReferenceIdeal.nD Cert.ProjMainDwReferenceIdeal.τ).loc Cert.ProjMainDwReferenceIdeal.main_arg0) = m ((c.tc : Thread Cert.ProjMainDwReferenceIdeal.nD Cert.ProjMainDwReferenceIdeal.τ).loc Cert.ProjMainDwReferenceIdeal.main_arg0)
      ∧ r.2.mem ((c.tc : Thread Cert.ProjMainDwReferenceIdeal.nD Cert.ProjMainDwReferenceIdeal.τ).loc Cert.ProjMainDwReferenceIdeal.main_arg1) = m ((c.tc : Thread Cert.ProjMainDwReferenceIdeal.nD Cert.ProjMainDwReferenceIdeal.τ).loc Cert.ProjMainDwReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 2048, 771]⟩ ⟨3, ![64, 2048, 771]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![8, 256, 2048]⟩ ⟨3, ![64, 256, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![8, 2048, 1024]⟩ ⟨3, ![64, 2048, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 1024, 2048]⟩ ⟨3, ![64, 1024, 2048]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)) (v2 : Buf (Elt Ideal) (((0 : Dev Cert.ReferenceIdeal.nD).tc : Thread Cert.ReferenceIdeal.nD Cert.ReferenceIdeal.τ).loc Cert.ReferenceIdeal.main_v8)) (v3 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![8, 2048, 771]⟩ ⟨3, ![64, 2048, 771]⟩ 0 8 c v0
          ∧ r.2.mem ((c.tc : Thread Cert.KernelIdeal.nD Cert.KernelIdeal.τ).loc Cert.KernelIdeal.main_v1_1) = Layout.block ⟨3, ![8, 256, 2048]⟩ ⟨3, ![64, 256, 2048]⟩ 0 8 c v1
          ∧ r.2.mem ((c.tc : Thread Cert.KernelIdeal.nD Cert.KernelIdeal.τ).loc Cert.KernelIdeal.main_v1_2) = Layout.block ⟨3, ![8, 2048, 1024]⟩ ⟨3, ![64, 2048, 1024]⟩ 0 8 c v2
          ∧ r.2.mem ((c.tc : Thread Cert.KernelIdeal.nD Cert.KernelIdeal.τ).loc Cert.KernelIdeal.main_v1_3) = Layout.block ⟨3, ![8, 1024, 2048]⟩ ⟨3, ![64, 1024, 2048]⟩ 0 8 c v3
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 2048, 771]⟩ ⟨3, ![64, 2048, 771]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨3, ![8, 256, 2048]⟩ ⟨3, ![64, 256, 2048]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨3, ![8, 2048, 1024]⟩ ⟨3, ![64, 2048, 1024]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨3, ![8, 1024, 2048]⟩ ⟨3, ![64, 1024, 2048]⟩ 0 8 c (m' (((0 : Dev Cert.Reference.nD).tc : Thread Cert.Reference.nD Cert.Reference.τ).loc Cert.Reference.main_arg3))) →
    ∃ (v0 : Buf (Elt Bits) (((0 : Dev Cert.Reference.nD).tc : Thread Cert.Reference.nD Cert.Reference.τ).loc Cert.Reference.main_v2)) (v1 : Buf (Elt Bits) (((0 : Dev Cert.Reference.nD).tc : Thread Cert.Reference.nD Cert.Reference.τ).loc Cert.Reference.main_v5)) (v2 : Buf (Elt Bits) (((0 : Dev Cert.Reference.nD).tc : Thread Cert.Reference.nD Cert.Reference.τ).loc Cert.Reference.main_v8)) (v3 : Buf (Elt Bits) (((0 : Dev Cert.Reference.nD).tc : Thread Cert.Reference.nD Cert.Reference.τ).loc Cert.Reference.main_v11)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.block ⟨3, ![8, 2048, 771]⟩ ⟨3, ![64, 2048, 771]⟩ 0 8 c v0
          ∧ r.2.mem ((c.tc : Thread Cert.Kernel.nD Cert.Kernel.τ).loc Cert.Kernel.main_v1_1) = Layout.block ⟨3, ![8, 256, 2048]⟩ ⟨3, ![64, 256, 2048]⟩ 0 8 c v1
          ∧ r.2.mem ((c.tc : Thread Cert.Kernel.nD Cert.Kernel.τ).loc Cert.Kernel.main_v1_2) = Layout.block ⟨3, ![8, 2048, 1024]⟩ ⟨3, ![64, 2048, 1024]⟩ 0 8 c v2
          ∧ r.2.mem ((c.tc : Thread Cert.Kernel.nD Cert.Kernel.τ).loc Cert.Kernel.main_v1_3) = Layout.block ⟨3, ![8, 1024, 2048]⟩ ⟨3, ![64, 1024, 2048]⟩ 0 8 c v3
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_v5) = v1
          ∧ r.2.mem (((0 : Dev Cert.Reference.nD).tc : Thread Cert.Reference.nD Cert.Reference.τ).loc Cert.Reference.main_v8) = v2
          ∧ r.2.mem (((0 : Dev Cert.Reference.nD).tc : Thread Cert.Reference.nD Cert.Reference.τ).loc Cert.Reference.main_v11) = v3
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![2048, 771]⟩ ⟨2, ![2048, 6168]⟩ 1 8 c (m' (((0 : Dev Cert.GatherReferenceIdeal.nD).tc : Thread Cert.GatherReferenceIdeal.nD Cert.GatherReferenceIdeal.τ).loc Cert.GatherReferenceIdeal.main_arg0))
      ∧ m ((c.tc : Thread Cert.GatherIdeal.nD Cert.GatherIdeal.τ).loc Cert.GatherIdeal.main_arg1) = Layout.block ⟨2, ![256, 2048]⟩ ⟨2, ![2048, 2048]⟩ 0 8 c (m' (((0 : Dev Cert.GatherReferenceIdeal.nD).tc : Thread Cert.GatherReferenceIdeal.nD Cert.GatherReferenceIdeal.τ).loc Cert.GatherReferenceIdeal.main_arg1))
      ∧ m ((c.tc : Thread Cert.GatherIdeal.nD Cert.GatherIdeal.τ).loc Cert.GatherIdeal.main_arg2) = Layout.block ⟨2, ![2048, 1024]⟩ ⟨2, ![2048, 8192]⟩ 1 8 c (m' (((0 : Dev Cert.GatherReferenceIdeal.nD).tc : Thread Cert.GatherReferenceIdeal.nD Cert.GatherReferenceIdeal.τ).loc Cert.GatherReferenceIdeal.main_arg2))
      ∧ m ((c.tc : Thread Cert.GatherIdeal.nD Cert.GatherIdeal.τ).loc Cert.GatherIdeal.main_arg3) = Layout.block ⟨2, ![1024, 2048]⟩ ⟨2, ![8192, 2048]⟩ 0 8 c (m' (((0 : Dev Cert.GatherReferenceIdeal.nD).tc : Thread Cert.GatherReferenceIdeal.nD Cert.GatherReferenceIdeal.τ).loc Cert.GatherReferenceIdeal.main_arg3))) →
    ∃ (v0 : Buf (Elt Ideal) (((0 : Dev Cert.GatherReferenceIdeal.nD).tc : Thread Cert.GatherReferenceIdeal.nD Cert.GatherReferenceIdeal.τ).loc Cert.GatherReferenceIdeal.main_v1)) (v1 : Buf (Elt Ideal) (((0 : Dev Cert.GatherReferenceIdeal.nD).tc : Thread Cert.GatherReferenceIdeal.nD Cert.GatherReferenceIdeal.τ).loc Cert.GatherReferenceIdeal.main_v2)) (v2 : Buf (Elt Ideal) (((0 : Dev Cert.GatherReferenceIdeal.nD).tc : Thread Cert.GatherReferenceIdeal.nD Cert.GatherReferenceIdeal.τ).loc Cert.GatherReferenceIdeal.main_v4)) (v3 : Buf (Elt Ideal) (((0 : Dev Cert.GatherReferenceIdeal.nD).tc : Thread Cert.GatherReferenceIdeal.nD Cert.GatherReferenceIdeal.τ).loc Cert.GatherReferenceIdeal.main_v5)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v1) = v0
          ∧ r.2.mem (((0 : Dev Cert.GatherReferenceIdeal.nD).tc : Thread Cert.GatherReferenceIdeal.nD Cert.GatherReferenceIdeal.τ).loc Cert.GatherReferenceIdeal.main_v2) = v1
          ∧ r.2.mem (((0 : Dev Cert.GatherReferenceIdeal.nD).tc : Thread Cert.GatherReferenceIdeal.nD Cert.GatherReferenceIdeal.τ).loc Cert.GatherReferenceIdeal.main_v4) = v2
          ∧ r.2.mem (((0 : Dev Cert.GatherReferenceIdeal.nD).tc : Thread Cert.GatherReferenceIdeal.nD Cert.GatherReferenceIdeal.τ).loc Cert.GatherReferenceIdeal.main_v5) = v3
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1)
          ∧ r.2.mem (((0 : Dev Cert.GatherReferenceIdeal.nD).tc : Thread Cert.GatherReferenceIdeal.nD Cert.GatherReferenceIdeal.τ).loc Cert.GatherReferenceIdeal.main_arg2) = m' (((0 : Dev Cert.GatherReferenceIdeal.nD).tc : Thread Cert.GatherReferenceIdeal.nD Cert.GatherReferenceIdeal.τ).loc Cert.GatherReferenceIdeal.main_arg2)
          ∧ r.2.mem (((0 : Dev Cert.GatherReferenceIdeal.nD).tc : Thread Cert.GatherReferenceIdeal.nD Cert.GatherReferenceIdeal.τ).loc Cert.GatherReferenceIdeal.main_arg3) = m' (((0 : Dev Cert.GatherReferenceIdeal.nD).tc : Thread Cert.GatherReferenceIdeal.nD Cert.GatherReferenceIdeal.τ).loc Cert.GatherReferenceIdeal.main_arg3))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.block ⟨2, ![2048, 771]⟩ ⟨2, ![2048, 6168]⟩ 1 8 c (m' (((0 : Dev Cert.GatherReference.nD).tc : Thread Cert.GatherReference.nD Cert.GatherReference.τ).loc Cert.GatherReference.main_arg0))
      ∧ m ((c.tc : Thread Cert.Gather.nD Cert.Gather.τ).loc Cert.Gather.main_arg1) = Layout.block ⟨2, ![256, 2048]⟩ ⟨2, ![2048, 2048]⟩ 0 8 c (m' (((0 : Dev Cert.GatherReference.nD).tc : Thread Cert.GatherReference.nD Cert.GatherReference.τ).loc Cert.GatherReference.main_arg1))
      ∧ m ((c.tc : Thread Cert.Gather.nD Cert.Gather.τ).loc Cert.Gather.main_arg2) = Layout.block ⟨2, ![2048, 1024]⟩ ⟨2, ![2048, 8192]⟩ 1 8 c (m' (((0 : Dev Cert.GatherReference.nD).tc : Thread Cert.GatherReference.nD Cert.GatherReference.τ).loc Cert.GatherReference.main_arg2))
      ∧ m ((c.tc : Thread Cert.Gather.nD Cert.Gather.τ).loc Cert.Gather.main_arg3) = Layout.block ⟨2, ![1024, 2048]⟩ ⟨2, ![8192, 2048]⟩ 0 8 c (m' (((0 : Dev Cert.GatherReference.nD).tc : Thread Cert.GatherReference.nD Cert.GatherReference.τ).loc Cert.GatherReference.main_arg3))) →
    ∃ (v0 : Buf (Elt Bits) (((0 : Dev Cert.GatherReference.nD).tc : Thread Cert.GatherReference.nD Cert.GatherReference.τ).loc Cert.GatherReference.main_v1)) (v1 : Buf (Elt Bits) (((0 : Dev Cert.GatherReference.nD).tc : Thread Cert.GatherReference.nD Cert.GatherReference.τ).loc Cert.GatherReference.main_v2)) (v2 : Buf (Elt Bits) (((0 : Dev Cert.GatherReference.nD).tc : Thread Cert.GatherReference.nD Cert.GatherReference.τ).loc Cert.GatherReference.main_v4)) (v3 : Buf (Elt Bits) (((0 : Dev Cert.GatherReference.nD).tc : Thread Cert.GatherReference.nD Cert.GatherReference.τ).loc Cert.GatherReference.main_v5)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v1) = v0
          ∧ r.2.mem (((0 : Dev Cert.GatherReference.nD).tc : Thread Cert.GatherReference.nD Cert.GatherReference.τ).loc Cert.GatherReference.main_v2) = v1
          ∧ r.2.mem (((0 : Dev Cert.GatherReference.nD).tc : Thread Cert.GatherReference.nD Cert.GatherReference.τ).loc Cert.GatherReference.main_v4) = v2
          ∧ r.2.mem (((0 : Dev Cert.GatherReference.nD).tc : Thread Cert.GatherReference.nD Cert.GatherReference.τ).loc Cert.GatherReference.main_v5) = v3
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0)
          ∧ r.2.mem (((0 : Dev Cert.GatherReference.nD).tc : Thread Cert.GatherReference.nD Cert.GatherReference.τ).loc Cert.GatherReference.main_arg1) = m' (((0 : Dev Cert.GatherReference.nD).tc : Thread Cert.GatherReference.nD Cert.GatherReference.τ).loc Cert.GatherReference.main_arg1)
          ∧ r.2.mem (((0 : Dev Cert.GatherReference.nD).tc : Thread Cert.GatherReference.nD Cert.GatherReference.τ).loc Cert.GatherReference.main_arg2) = m' (((0 : Dev Cert.GatherReference.nD).tc : Thread Cert.GatherReference.nD Cert.GatherReference.τ).loc Cert.GatherReference.main_arg2)
          ∧ r.2.mem (((0 : Dev Cert.GatherReference.nD).tc : Thread Cert.GatherReference.nD Cert.GatherReference.τ).loc Cert.GatherReference.main_arg3) = m' (((0 : Dev Cert.GatherReference.nD).tc : Thread Cert.GatherReference.nD Cert.GatherReference.τ).loc Cert.GatherReference.main_arg3))

def preserves_UpdateIn_UpdateInIdeal : Prop :=
  True

def algebraic_UpdateInIdeal_UpdateInReferenceIdeal [hUpdateInIdeal : Cert.UpdateInIdeal.Facts] [hUpdateInReferenceIdeal : Cert.UpdateInReferenceIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdateInReferenceIdeal.nD Cert.UpdateInReferenceIdeal.τ Cert.UpdateInReferenceIdeal.sig) → Buf (Elt Ideal) ℓ) (g' : Dev Cert.UpdateInReferenceIdeal.nD → PrngReg), Pre_UpdateInIdeal m →
    (∀ c : Dev Cert.UpdateInIdeal.nD,
      m' ((c.tc : Thread Cert.UpdateInReferenceIdeal.nD Cert.UpdateInReferenceIdeal.τ).loc Cert.UpdateInReferenceIdeal.main_arg0) = m ((c.tc : Thread Cert.UpdateInIdeal.nD Cert.UpdateInIdeal.τ).loc Cert.UpdateInIdeal.main_arg0)
      ∧ m' ((c.tc : Thread Cert.UpdateInReferenceIdeal.nD Cert.UpdateInReferenceIdeal.τ).loc Cert.UpdateInReferenceIdeal.main_arg1) = m ((c.tc : Thread Cert.UpdateInIdeal.nD Cert.UpdateInIdeal.τ).loc Cert.UpdateInIdeal.main_arg1)
      ∧ m' ((c.tc : Thread Cert.UpdateInReferenceIdeal.nD Cert.UpdateInReferenceIdeal.τ).loc Cert.UpdateInReferenceIdeal.main_arg2) = m ((c.tc : Thread Cert.UpdateInIdeal.nD Cert.UpdateInIdeal.τ).loc Cert.UpdateInIdeal.main_arg2)
      ∧ m' ((c.tc : Thread Cert.UpdateInReferenceIdeal.nD Cert.UpdateInReferenceIdeal.τ).loc Cert.UpdateInReferenceIdeal.main_arg3) = m ((c.tc : Thread Cert.UpdateInIdeal.nD Cert.UpdateInIdeal.τ).loc Cert.UpdateInIdeal.main_arg3)) →
    ∃ (v0 : (c : Dev Cert.UpdateInIdeal.nD) → Buf (Elt Ideal) ((c.tc : Thread Cert.UpdateInIdeal.nD Cert.UpdateInIdeal.τ).loc Cert.UpdateInIdeal.main_v0_0)) (v1 : (c : Dev Cert.UpdateInIdeal.nD) → Buf (Elt Ideal) ((c.tc : Thread Cert.UpdateInIdeal.nD Cert.UpdateInIdeal.τ).loc Cert.UpdateInIdeal.main_v0_1)) (v2 : (c : Dev Cert.UpdateInIdeal.nD) → Buf (Elt Ideal) ((c.tc : Thread Cert.UpdateInIdeal.nD Cert.UpdateInIdeal.τ).loc Cert.UpdateInIdeal.main_v0_2)) (v3 : (c : Dev Cert.UpdateInIdeal.nD) → Buf (Elt Ideal) ((c.tc : Thread Cert.UpdateInIdeal.nD Cert.UpdateInIdeal.τ).loc Cert.UpdateInIdeal.main_v0_3)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v0_0) = v0 c
          ∧ r.2.mem ((c.tc : Thread Cert.UpdateInIdeal.nD Cert.UpdateInIdeal.τ).loc Cert.UpdateInIdeal.main_v0_1) = v1 c
          ∧ r.2.mem ((c.tc : Thread Cert.UpdateInIdeal.nD Cert.UpdateInIdeal.τ).loc Cert.UpdateInIdeal.main_v0_2) = v2 c
          ∧ r.2.mem ((c.tc : Thread Cert.UpdateInIdeal.nD Cert.UpdateInIdeal.τ).loc Cert.UpdateInIdeal.main_v0_3) = v3 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ θ_run (Cert.UpdateInReferenceIdeal.defs (F := Ideal)) (onTc (τ := Cert.UpdateInReferenceIdeal.τ) (Cert.UpdateInReferenceIdeal.main (F := Ideal))) ⟨m', fun _ => 0, g'⟩ (fun r => ∀ c : Dev Cert.UpdateInReferenceIdeal.nD,
          r.2.mem ((c.tc : Thread Cert.UpdateInReferenceIdeal.nD Cert.UpdateInReferenceIdeal.τ).loc Cert.UpdateInReferenceIdeal.main_v1) = v0 c
          ∧ r.2.mem ((c.tc : Thread Cert.UpdateInReferenceIdeal.nD Cert.UpdateInReferenceIdeal.τ).loc Cert.UpdateInReferenceIdeal.main_v25) = v1 c
          ∧ r.2.mem ((c.tc : Thread Cert.UpdateInReferenceIdeal.nD Cert.UpdateInReferenceIdeal.τ).loc Cert.UpdateInReferenceIdeal.main_v6) = v2 c
          ∧ r.2.mem ((c.tc : Thread Cert.UpdateInReferenceIdeal.nD Cert.UpdateInReferenceIdeal.τ).loc Cert.UpdateInReferenceIdeal.main_v12) = v3 c
          ∧ r.2.mem ((c.tc : Thread Cert.UpdateInReferenceIdeal.nD Cert.UpdateInReferenceIdeal.τ).loc Cert.UpdateInReferenceIdeal.main_arg0) = m' ((c.tc : Thread Cert.UpdateInReferenceIdeal.nD Cert.UpdateInReferenceIdeal.τ).loc Cert.UpdateInReferenceIdeal.main_arg0)
          ∧ r.2.mem ((c.tc : Thread Cert.UpdateInReferenceIdeal.nD Cert.UpdateInReferenceIdeal.τ).loc Cert.UpdateInReferenceIdeal.main_arg1) = m' ((c.tc : Thread Cert.UpdateInReferenceIdeal.nD Cert.UpdateInReferenceIdeal.τ).loc Cert.UpdateInReferenceIdeal.main_arg1)
          ∧ r.2.mem ((c.tc : Thread Cert.UpdateInReferenceIdeal.nD Cert.UpdateInReferenceIdeal.τ).loc Cert.UpdateInReferenceIdeal.main_arg2) = m' ((c.tc : Thread Cert.UpdateInReferenceIdeal.nD Cert.UpdateInReferenceIdeal.τ).loc Cert.UpdateInReferenceIdeal.main_arg2)
          ∧ r.2.mem ((c.tc : Thread Cert.UpdateInReferenceIdeal.nD Cert.UpdateInReferenceIdeal.τ).loc Cert.UpdateInReferenceIdeal.main_arg3) = m' ((c.tc : Thread Cert.UpdateInReferenceIdeal.nD Cert.UpdateInReferenceIdeal.τ).loc Cert.UpdateInReferenceIdeal.main_arg3))

def preserves_UpdateOut_UpdateOutIdeal : Prop :=
  True

def algebraic_UpdateOutIdeal_UpdateOutReferenceIdeal [hUpdateOutIdeal : Cert.UpdateOutIdeal.Facts] [hUpdateOutReferenceIdeal : Cert.UpdateOutReferenceIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdateOutReferenceIdeal.nD Cert.UpdateOutReferenceIdeal.τ Cert.UpdateOutReferenceIdeal.sig) → Buf (Elt Ideal) ℓ) (g' : Dev Cert.UpdateOutReferenceIdeal.nD → PrngReg), Pre_UpdateOutIdeal m →
    (∀ c : Dev Cert.UpdateOutIdeal.nD,
      m' ((c.tc : Thread Cert.UpdateOutReferenceIdeal.nD Cert.UpdateOutReferenceIdeal.τ).loc Cert.UpdateOutReferenceIdeal.main_arg0) = m ((c.tc : Thread Cert.UpdateOutIdeal.nD Cert.UpdateOutIdeal.τ).loc Cert.UpdateOutIdeal.main_arg0)
      ∧ m' ((c.tc : Thread Cert.UpdateOutReferenceIdeal.nD Cert.UpdateOutReferenceIdeal.τ).loc Cert.UpdateOutReferenceIdeal.main_arg1) = m ((c.tc : Thread Cert.UpdateOutIdeal.nD Cert.UpdateOutIdeal.τ).loc Cert.UpdateOutIdeal.main_arg1)
      ∧ m' ((c.tc : Thread Cert.UpdateOutReferenceIdeal.nD Cert.UpdateOutReferenceIdeal.τ).loc Cert.UpdateOutReferenceIdeal.main_arg2) = m ((c.tc : Thread Cert.UpdateOutIdeal.nD Cert.UpdateOutIdeal.τ).loc Cert.UpdateOutIdeal.main_arg2)
      ∧ m' ((c.tc : Thread Cert.UpdateOutReferenceIdeal.nD Cert.UpdateOutReferenceIdeal.τ).loc Cert.UpdateOutReferenceIdeal.main_arg3) = m ((c.tc : Thread Cert.UpdateOutIdeal.nD Cert.UpdateOutIdeal.τ).loc Cert.UpdateOutIdeal.main_arg3)) →
    ∃ (v0 : (c : Dev Cert.UpdateOutIdeal.nD) → Buf (Elt Ideal) ((c.tc : Thread Cert.UpdateOutIdeal.nD Cert.UpdateOutIdeal.τ).loc Cert.UpdateOutIdeal.main_v0_0)) (v1 : (c : Dev Cert.UpdateOutIdeal.nD) → Buf (Elt Ideal) ((c.tc : Thread Cert.UpdateOutIdeal.nD Cert.UpdateOutIdeal.τ).loc Cert.UpdateOutIdeal.main_v0_1)) (v2 : (c : Dev Cert.UpdateOutIdeal.nD) → Buf (Elt Ideal) ((c.tc : Thread Cert.UpdateOutIdeal.nD Cert.UpdateOutIdeal.τ).loc Cert.UpdateOutIdeal.main_v0_2)) (v3 : (c : Dev Cert.UpdateOutIdeal.nD) → Buf (Elt Ideal) ((c.tc : Thread Cert.UpdateOutIdeal.nD Cert.UpdateOutIdeal.τ).loc Cert.UpdateOutIdeal.main_v0_3)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v0_0) = v0 c
          ∧ r.2.mem ((c.tc : Thread Cert.UpdateOutIdeal.nD Cert.UpdateOutIdeal.τ).loc Cert.UpdateOutIdeal.main_v0_1) = v1 c
          ∧ r.2.mem ((c.tc : Thread Cert.UpdateOutIdeal.nD Cert.UpdateOutIdeal.τ).loc Cert.UpdateOutIdeal.main_v0_2) = v2 c
          ∧ r.2.mem ((c.tc : Thread Cert.UpdateOutIdeal.nD Cert.UpdateOutIdeal.τ).loc Cert.UpdateOutIdeal.main_v0_3) = v3 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ θ_run (Cert.UpdateOutReferenceIdeal.defs (F := Ideal)) (onTc (τ := Cert.UpdateOutReferenceIdeal.τ) (Cert.UpdateOutReferenceIdeal.main (F := Ideal))) ⟨m', fun _ => 0, g'⟩ (fun r => ∀ c : Dev Cert.UpdateOutReferenceIdeal.nD,
          r.2.mem ((c.tc : Thread Cert.UpdateOutReferenceIdeal.nD Cert.UpdateOutReferenceIdeal.τ).loc Cert.UpdateOutReferenceIdeal.main_v1) = v0 c
          ∧ r.2.mem ((c.tc : Thread Cert.UpdateOutReferenceIdeal.nD Cert.UpdateOutReferenceIdeal.τ).loc Cert.UpdateOutReferenceIdeal.main_v25) = v1 c
          ∧ r.2.mem ((c.tc : Thread Cert.UpdateOutReferenceIdeal.nD Cert.UpdateOutReferenceIdeal.τ).loc Cert.UpdateOutReferenceIdeal.main_v6) = v2 c
          ∧ r.2.mem ((c.tc : Thread Cert.UpdateOutReferenceIdeal.nD Cert.UpdateOutReferenceIdeal.τ).loc Cert.UpdateOutReferenceIdeal.main_v12) = v3 c
          ∧ r.2.mem ((c.tc : Thread Cert.UpdateOutReferenceIdeal.nD Cert.UpdateOutReferenceIdeal.τ).loc Cert.UpdateOutReferenceIdeal.main_arg0) = m' ((c.tc : Thread Cert.UpdateOutReferenceIdeal.nD Cert.UpdateOutReferenceIdeal.τ).loc Cert.UpdateOutReferenceIdeal.main_arg0)
          ∧ r.2.mem ((c.tc : Thread Cert.UpdateOutReferenceIdeal.nD Cert.UpdateOutReferenceIdeal.τ).loc Cert.UpdateOutReferenceIdeal.main_arg1) = m' ((c.tc : Thread Cert.UpdateOutReferenceIdeal.nD Cert.UpdateOutReferenceIdeal.τ).loc Cert.UpdateOutReferenceIdeal.main_arg1)
          ∧ r.2.mem ((c.tc : Thread Cert.UpdateOutReferenceIdeal.nD Cert.UpdateOutReferenceIdeal.τ).loc Cert.UpdateOutReferenceIdeal.main_arg2) = m' ((c.tc : Thread Cert.UpdateOutReferenceIdeal.nD Cert.UpdateOutReferenceIdeal.τ).loc Cert.UpdateOutReferenceIdeal.main_arg2)
          ∧ r.2.mem ((c.tc : Thread Cert.UpdateOutReferenceIdeal.nD Cert.UpdateOutReferenceIdeal.τ).loc Cert.UpdateOutReferenceIdeal.main_arg3) = m' ((c.tc : Thread Cert.UpdateOutReferenceIdeal.nD Cert.UpdateOutReferenceIdeal.τ).loc Cert.UpdateOutReferenceIdeal.main_arg3))

def preserves_UpdateMlpIn_UpdateMlpInIdeal : Prop :=
  True

def algebraic_UpdateMlpInIdeal_UpdateMlpInReferenceIdeal [hUpdateMlpInIdeal : Cert.UpdateMlpInIdeal.Facts] [hUpdateMlpInReferenceIdeal : Cert.UpdateMlpInReferenceIdeal.Facts] : Prop :=
  ∀ (m : (ℓ : Loc Cert.UpdateMlpInIdeal.nD Cert.UpdateMlpInIdeal.τ Cert.UpdateMlpInIdeal.sig) → Buf (Elt Ideal) ℓ) (g : Dev Cert.UpdateMlpInIdeal.nD → PrngReg)
    (m' : (ℓ : Loc Cert.UpdateMlpInReferenceIdeal.nD Cert.UpdateMlpInReferenceIdeal.τ Cert.UpdateMlpInReferenceIdeal.sig) → Buf (Elt Ideal) ℓ) (g' : Dev Cert.UpdateMlpInReferenceIdeal.nD → PrngReg), Pre_UpdateMlpInIdeal m →
    (∀ c : Dev Cert.UpdateMlpInIdeal.nD,
      m' ((c.tc : Thread Cert.UpdateMlpInReferenceIdeal.nD Cert.UpdateMlpInReferenceIdeal.τ).loc Cert.UpdateMlpInReferenceIdeal.main_arg0) = m ((c.tc : Thread Cert.UpdateMlpInIdeal.nD Cert.UpdateMlpInIdeal.τ).loc Cert.UpdateMlpInIdeal.main_arg0)
      ∧ m' ((c.tc : Thread Cert.UpdateMlpInReferenceIdeal.nD Cert.UpdateMlpInReferenceIdeal.τ).loc Cert.UpdateMlpInReferenceIdeal.main_arg1) = m ((c.tc : Thread Cert.UpdateMlpInIdeal.nD Cert.UpdateMlpInIdeal.τ).loc Cert.UpdateMlpInIdeal.main_arg1)
      ∧ m' ((c.tc : Thread Cert.UpdateMlpInReferenceIdeal.nD Cert.UpdateMlpInReferenceIdeal.τ).loc Cert.UpdateMlpInReferenceIdeal.main_arg2) = m ((c.tc : Thread Cert.UpdateMlpInIdeal.nD Cert.UpdateMlpInIdeal.τ).loc Cert.UpdateMlpInIdeal.main_arg2)
      ∧ m' ((c.tc : Thread Cert.UpdateMlpInReferenceIdeal.nD Cert.UpdateMlpInReferenceIdeal.τ).loc Cert.UpdateMlpInReferenceIdeal.main_arg3) = m ((c.tc : Thread Cert.UpdateMlpInIdeal.nD Cert.UpdateMlpInIdeal.τ).loc Cert.UpdateMlpInIdeal.main_arg3)) →
    ∃ (v0 : (c : Dev Cert.UpdateMlpInIdeal.nD) → Buf (Elt Ideal) ((c.tc : Thread Cert.UpdateMlpInIdeal.nD Cert.UpdateMlpInIdeal.τ).loc Cert.UpdateMlpInIdeal.main_v0_0)) (v1 : (c : Dev Cert.UpdateMlpInIdeal.nD) → Buf (Elt Ideal) ((c.tc : Thread Cert.UpdateMlpInIdeal.nD Cert.UpdateMlpInIdeal.τ).loc Cert.UpdateMlpInIdeal.main_v0_1)) (v2 : (c : Dev Cert.UpdateMlpInIdeal.nD) → Buf (Elt Ideal) ((c.tc : Thread Cert.UpdateMlpInIdeal.nD Cert.UpdateMlpInIdeal.τ).loc Cert.UpdateMlpInIdeal.main_v0_2)) (v3 : (c : Dev Cert.UpdateMlpInIdeal.nD) → Buf (Elt Ideal) ((c.tc : Thread Cert.UpdateMlpInIdeal.nD Cert.UpdateMlpInIdeal.τ).loc Cert.UpdateMlpInIdeal.main_v0_3)),
      θ_run (Cert.UpdateMlpInIdeal.defs (F := Ideal)) (onTc (τ := Cert.UpdateMlpInIdeal.τ) (Cert.UpdateMlpInIdeal.main (F := Ideal))) ⟨m, fun _ => 0, g⟩ (fun r => ∀ c : Dev Cert.UpdateMlpInIdeal.nD,
          r.2.mem ((c.tc : Thread Cert.UpdateMlpInIdeal.nD Cert.UpdateMlpInIdeal.τ).loc Cert.UpdateMlpInIdeal.main_v0_0) = v0 c
          ∧ r.2.mem ((c.tc : Thread Cert.UpdateMlpInIdeal.nD Cert.UpdateMlpInIdeal.τ).loc Cert.UpdateMlpInIdeal.main_v0_1) = v1 c
          ∧ r.2.mem ((c.tc : Thread Cert.UpdateMlpInIdeal.nD Cert.UpdateMlpInIdeal.τ).loc Cert.UpdateMlpInIdeal.main_v0_2) = v2 c
          ∧ r.2.mem ((c.tc : Thread Cert.UpdateMlpInIdeal.nD Cert.UpdateMlpInIdeal.τ).loc Cert.UpdateMlpInIdeal.main_v0_3) = v3 c
          ∧ r.2.mem ((c.tc : Thread Cert.UpdateMlpInIdeal.nD Cert.UpdateMlpInIdeal.τ).loc Cert.UpdateMlpInIdeal.main_arg0) = m ((c.tc : Thread Cert.UpdateMlpInIdeal.nD Cert.UpdateMlpInIdeal.τ).loc Cert.UpdateMlpInIdeal.main_arg0)
          ∧ r.2.mem ((c.tc : Thread Cert.UpdateMlpInIdeal.nD Cert.UpdateMlpInIdeal.τ).loc Cert.UpdateMlpInIdeal.main_arg1) = m ((c.tc : Thread Cert.UpdateMlpInIdeal.nD Cert.UpdateMlpInIdeal.τ).loc Cert.UpdateMlpInIdeal.main_arg1)
          ∧ r.2.mem ((c.tc : Thread Cert.UpdateMlpInIdeal.nD Cert.UpdateMlpInIdeal.τ).loc Cert.UpdateMlpInIdeal.main_arg2) = m ((c.tc : Thread Cert.UpdateMlpInIdeal.nD Cert.UpdateMlpInIdeal.τ).loc Cert.UpdateMlpInIdeal.main_arg2)
          ∧ r.2.mem ((c.tc : Thread Cert.UpdateMlpInIdeal.nD Cert.UpdateMlpInIdeal.τ).loc Cert.UpdateMlpInIdeal.main_arg3) = m ((c.tc : Thread Cert.UpdateMlpInIdeal.nD Cert.UpdateMlpInIdeal.τ).loc Cert.UpdateMlpInIdeal.main_arg3))
      ∧ θ_run (Cert.UpdateMlpInReferenceIdeal.defs (F := Ideal)) (onTc (τ := Cert.UpdateMlpInReferenceIdeal.τ) (Cert.UpdateMlpInReferenceIdeal.main (F := Ideal))) ⟨m', fun _ => 0, g'⟩ (fun r => ∀ c : Dev Cert.UpdateMlpInReferenceIdeal.nD,
          r.2.mem ((c.tc : Thread Cert.UpdateMlpInReferenceIdeal.nD Cert.UpdateMlpInReferenceIdeal.τ).loc Cert.UpdateMlpInReferenceIdeal.main_v1) = v0 c
          ∧ r.2.mem ((c.tc : Thread Cert.UpdateMlpInReferenceIdeal.nD Cert.UpdateMlpInReferenceIdeal.τ).loc Cert.UpdateMlpInReferenceIdeal.main_v25) = v1 c
          ∧ r.2.mem ((c.tc : Thread Cert.UpdateMlpInReferenceIdeal.nD Cert.UpdateMlpInReferenceIdeal.τ).loc Cert.UpdateMlpInReferenceIdeal.main_v6) = v2 c
          ∧ r.2.mem ((c.tc : Thread Cert.UpdateMlpInReferenceIdeal.nD Cert.UpdateMlpInReferenceIdeal.τ).loc Cert.UpdateMlpInReferenceIdeal.main_v12) = v3 c
          ∧ r.2.mem ((c.tc : Thread Cert.UpdateMlpInReferenceIdeal.nD Cert.UpdateMlpInReferenceIdeal.τ).loc Cert.UpdateMlpInReferenceIdeal.main_arg0) = m' ((c.tc : Thread Cert.UpdateMlpInReferenceIdeal.nD Cert.UpdateMlpInReferenceIdeal.τ).loc Cert.UpdateMlpInReferenceIdeal.main_arg0)
          ∧ r.2.mem ((c.tc : Thread Cert.UpdateMlpInReferenceIdeal.nD Cert.UpdateMlpInReferenceIdeal.τ).loc Cert.UpdateMlpInReferenceIdeal.main_arg1) = m' ((c.tc : Thread Cert.UpdateMlpInReferenceIdeal.nD Cert.UpdateMlpInReferenceIdeal.τ).loc Cert.UpdateMlpInReferenceIdeal.main_arg1)
          ∧ r.2.mem ((c.tc : Thread Cert.UpdateMlpInReferenceIdeal.nD Cert.UpdateMlpInReferenceIdeal.τ).loc Cert.UpdateMlpInReferenceIdeal.main_arg2) = m' ((c.tc : Thread Cert.UpdateMlpInReferenceIdeal.nD Cert.UpdateMlpInReferenceIdeal.τ).loc Cert.UpdateMlpInReferenceIdeal.main_arg2)
          ∧ r.2.mem ((c.tc : Thread Cert.UpdateMlpInReferenceIdeal.nD Cert.UpdateMlpInReferenceIdeal.τ).loc Cert.UpdateMlpInReferenceIdeal.main_arg3) = m' ((c.tc : Thread Cert.UpdateMlpInReferenceIdeal.nD Cert.UpdateMlpInReferenceIdeal.τ).loc Cert.UpdateMlpInReferenceIdeal.main_arg3))

def preserves_UpdateMlpOut_UpdateMlpOutIdeal : Prop :=
  True

def algebraic_UpdateMlpOutIdeal_UpdateMlpOutReferenceIdeal [hUpdateMlpOutIdeal : Cert.UpdateMlpOutIdeal.Facts] [hUpdateMlpOutReferenceIdeal : Cert.UpdateMlpOutReferenceIdeal.Facts] : Prop :=
  ∀ (m : (ℓ : Loc Cert.UpdateMlpOutIdeal.nD Cert.UpdateMlpOutIdeal.τ Cert.UpdateMlpOutIdeal.sig) → Buf (Elt Ideal) ℓ) (g : Dev Cert.UpdateMlpOutIdeal.nD → PrngReg)
    (m' : (ℓ : Loc Cert.UpdateMlpOutReferenceIdeal.nD Cert.UpdateMlpOutReferenceIdeal.τ Cert.UpdateMlpOutReferenceIdeal.sig) → Buf (Elt Ideal) ℓ) (g' : Dev Cert.UpdateMlpOutReferenceIdeal.nD → PrngReg), Pre_UpdateMlpOutIdeal m →
    (∀ c : Dev Cert.UpdateMlpOutIdeal.nD,
      m' ((c.tc : Thread Cert.UpdateMlpOutReferenceIdeal.nD Cert.UpdateMlpOutReferenceIdeal.τ).loc Cert.UpdateMlpOutReferenceIdeal.main_arg0) = m ((c.tc : Thread Cert.UpdateMlpOutIdeal.nD Cert.UpdateMlpOutIdeal.τ).loc Cert.UpdateMlpOutIdeal.main_arg0)
      ∧ m' ((c.tc : Thread Cert.UpdateMlpOutReferenceIdeal.nD Cert.UpdateMlpOutReferenceIdeal.τ).loc Cert.UpdateMlpOutReferenceIdeal.main_arg1) = m ((c.tc : Thread Cert.UpdateMlpOutIdeal.nD Cert.UpdateMlpOutIdeal.τ).loc Cert.UpdateMlpOutIdeal.main_arg1)
      ∧ m' ((c.tc : Thread Cert.UpdateMlpOutReferenceIdeal.nD Cert.UpdateMlpOutReferenceIdeal.τ).loc Cert.UpdateMlpOutReferenceIdeal.main_arg2) = m ((c.tc : Thread Cert.UpdateMlpOutIdeal.nD Cert.UpdateMlpOutIdeal.τ).loc Cert.UpdateMlpOutIdeal.main_arg2)
      ∧ m' ((c.tc : Thread Cert.UpdateMlpOutReferenceIdeal.nD Cert.UpdateMlpOutReferenceIdeal.τ).loc Cert.UpdateMlpOutReferenceIdeal.main_arg3) = m ((c.tc : Thread Cert.UpdateMlpOutIdeal.nD Cert.UpdateMlpOutIdeal.τ).loc Cert.UpdateMlpOutIdeal.main_arg3)) →
    ∃ (v0 : (c : Dev Cert.UpdateMlpOutIdeal.nD) → Buf (Elt Ideal) ((c.tc : Thread Cert.UpdateMlpOutIdeal.nD Cert.UpdateMlpOutIdeal.τ).loc Cert.UpdateMlpOutIdeal.main_v0_0)) (v1 : (c : Dev Cert.UpdateMlpOutIdeal.nD) → Buf (Elt Ideal) ((c.tc : Thread Cert.UpdateMlpOutIdeal.nD Cert.UpdateMlpOutIdeal.τ).loc Cert.UpdateMlpOutIdeal.main_v0_1)) (v2 : (c : Dev Cert.UpdateMlpOutIdeal.nD) → Buf (Elt Ideal) ((c.tc : Thread Cert.UpdateMlpOutIdeal.nD Cert.UpdateMlpOutIdeal.τ).loc Cert.UpdateMlpOutIdeal.main_v0_2)) (v3 : (c : Dev Cert.UpdateMlpOutIdeal.nD) → Buf (Elt Ideal) ((c.tc : Thread Cert.UpdateMlpOutIdeal.nD Cert.UpdateMlpOutIdeal.τ).loc Cert.UpdateMlpOutIdeal.main_v0_3)),
      θ_run (Cert.UpdateMlpOutIdeal.defs (F := Ideal)) (onTc (τ := Cert.UpdateMlpOutIdeal.τ) (Cert.UpdateMlpOutIdeal.main (F := Ideal))) ⟨m, fun _ => 0, g⟩ (fun r => ∀ c : Dev Cert.UpdateMlpOutIdeal.nD,
          r.2.mem ((c.tc : Thread Cert.UpdateMlpOutIdeal.nD Cert.UpdateMlpOutIdeal.τ).loc Cert.UpdateMlpOutIdeal.main_v0_0) = v0 c
          ∧ r.2.mem ((c.tc : Thread Cert.UpdateMlpOutIdeal.nD Cert.UpdateMlpOutIdeal.τ).loc Cert.UpdateMlpOutIdeal.main_v0_1) = v1 c
          ∧ r.2.mem ((c.tc : Thread Cert.UpdateMlpOutIdeal.nD Cert.UpdateMlpOutIdeal.τ).loc Cert.UpdateMlpOutIdeal.main_v0_2) = v2 c
          ∧ r.2.mem ((c.tc : Thread Cert.UpdateMlpOutIdeal.nD Cert.UpdateMlpOutIdeal.τ).loc Cert.UpdateMlpOutIdeal.main_v0_3) = v3 c
          ∧ r.2.mem ((c.tc : Thread Cert.UpdateMlpOutIdeal.nD Cert.UpdateMlpOutIdeal.τ).loc Cert.UpdateMlpOutIdeal.main_arg0) = m ((c.tc : Thread Cert.UpdateMlpOutIdeal.nD Cert.UpdateMlpOutIdeal.τ).loc Cert.UpdateMlpOutIdeal.main_arg0)
          ∧ r.2.mem ((c.tc : Thread Cert.UpdateMlpOutIdeal.nD Cert.UpdateMlpOutIdeal.τ).loc Cert.UpdateMlpOutIdeal.main_arg1) = m ((c.tc : Thread Cert.UpdateMlpOutIdeal.nD Cert.UpdateMlpOutIdeal.τ).loc Cert.UpdateMlpOutIdeal.main_arg1)
          ∧ r.2.mem ((c.tc : Thread Cert.UpdateMlpOutIdeal.nD Cert.UpdateMlpOutIdeal.τ).loc Cert.UpdateMlpOutIdeal.main_arg2) = m ((c.tc : Thread Cert.UpdateMlpOutIdeal.nD Cert.UpdateMlpOutIdeal.τ).loc Cert.UpdateMlpOutIdeal.main_arg2)
          ∧ r.2.mem ((c.tc : Thread Cert.UpdateMlpOutIdeal.nD Cert.UpdateMlpOutIdeal.τ).loc Cert.UpdateMlpOutIdeal.main_arg3) = m ((c.tc : Thread Cert.UpdateMlpOutIdeal.nD Cert.UpdateMlpOutIdeal.τ).loc Cert.UpdateMlpOutIdeal.main_arg3))
      ∧ θ_run (Cert.UpdateMlpOutReferenceIdeal.defs (F := Ideal)) (onTc (τ := Cert.UpdateMlpOutReferenceIdeal.τ) (Cert.UpdateMlpOutReferenceIdeal.main (F := Ideal))) ⟨m', fun _ => 0, g'⟩ (fun r => ∀ c : Dev Cert.UpdateMlpOutReferenceIdeal.nD,
          r.2.mem ((c.tc : Thread Cert.UpdateMlpOutReferenceIdeal.nD Cert.UpdateMlpOutReferenceIdeal.τ).loc Cert.UpdateMlpOutReferenceIdeal.main_v1) = v0 c
          ∧ r.2.mem ((c.tc : Thread Cert.UpdateMlpOutReferenceIdeal.nD Cert.UpdateMlpOutReferenceIdeal.τ).loc Cert.UpdateMlpOutReferenceIdeal.main_v25) = v1 c
          ∧ r.2.mem ((c.tc : Thread Cert.UpdateMlpOutReferenceIdeal.nD Cert.UpdateMlpOutReferenceIdeal.τ).loc Cert.UpdateMlpOutReferenceIdeal.main_v6) = v2 c
          ∧ r.2.mem ((c.tc : Thread Cert.UpdateMlpOutReferenceIdeal.nD Cert.UpdateMlpOutReferenceIdeal.τ).loc Cert.UpdateMlpOutReferenceIdeal.main_v12) = v3 c
          ∧ r.2.mem ((c.tc : Thread Cert.UpdateMlpOutReferenceIdeal.nD Cert.UpdateMlpOutReferenceIdeal.τ).loc Cert.UpdateMlpOutReferenceIdeal.main_arg0) = m' ((c.tc : Thread Cert.UpdateMlpOutReferenceIdeal.nD Cert.UpdateMlpOutReferenceIdeal.τ).loc Cert.UpdateMlpOutReferenceIdeal.main_arg0)
          ∧ r.2.mem ((c.tc : Thread Cert.UpdateMlpOutReferenceIdeal.nD Cert.UpdateMlpOutReferenceIdeal.τ).loc Cert.UpdateMlpOutReferenceIdeal.main_arg1) = m' ((c.tc : Thread Cert.UpdateMlpOutReferenceIdeal.nD Cert.UpdateMlpOutReferenceIdeal.τ).loc Cert.UpdateMlpOutReferenceIdeal.main_arg1)
          ∧ r.2.mem ((c.tc : Thread Cert.UpdateMlpOutReferenceIdeal.nD Cert.UpdateMlpOutReferenceIdeal.τ).loc Cert.UpdateMlpOutReferenceIdeal.main_arg2) = m' ((c.tc : Thread Cert.UpdateMlpOutReferenceIdeal.nD Cert.UpdateMlpOutReferenceIdeal.τ).loc Cert.UpdateMlpOutReferenceIdeal.main_arg2)
          ∧ r.2.mem ((c.tc : Thread Cert.UpdateMlpOutReferenceIdeal.nD Cert.UpdateMlpOutReferenceIdeal.τ).loc Cert.UpdateMlpOutReferenceIdeal.main_arg3) = m' ((c.tc : Thread Cert.UpdateMlpOutReferenceIdeal.nD Cert.UpdateMlpOutReferenceIdeal.τ).loc Cert.UpdateMlpOutReferenceIdeal.main_arg3))

def preserves_UpdateAda_UpdateAdaIdeal : Prop :=
  True

def algebraic_UpdateAdaIdeal_UpdateAdaReferenceIdeal [hUpdateAdaIdeal : Cert.UpdateAdaIdeal.Facts] [hUpdateAdaReferenceIdeal : Cert.UpdateAdaReferenceIdeal.Facts] : Prop :=
  ∀ (m : (ℓ : Loc Cert.UpdateAdaIdeal.nD Cert.UpdateAdaIdeal.τ Cert.UpdateAdaIdeal.sig) → Buf (Elt Ideal) ℓ) (g : Dev Cert.UpdateAdaIdeal.nD → PrngReg)
    (m' : (ℓ : Loc Cert.UpdateAdaReferenceIdeal.nD Cert.UpdateAdaReferenceIdeal.τ Cert.UpdateAdaReferenceIdeal.sig) → Buf (Elt Ideal) ℓ) (g' : Dev Cert.UpdateAdaReferenceIdeal.nD → PrngReg), Pre_UpdateAdaIdeal m →
    (∀ c : Dev Cert.UpdateAdaIdeal.nD,
      m' ((c.tc : Thread Cert.UpdateAdaReferenceIdeal.nD Cert.UpdateAdaReferenceIdeal.τ).loc Cert.UpdateAdaReferenceIdeal.main_arg0) = m ((c.tc : Thread Cert.UpdateAdaIdeal.nD Cert.UpdateAdaIdeal.τ).loc Cert.UpdateAdaIdeal.main_arg0)
      ∧ m' ((c.tc : Thread Cert.UpdateAdaReferenceIdeal.nD Cert.UpdateAdaReferenceIdeal.τ).loc Cert.UpdateAdaReferenceIdeal.main_arg1) = m ((c.tc : Thread Cert.UpdateAdaIdeal.nD Cert.UpdateAdaIdeal.τ).loc Cert.UpdateAdaIdeal.main_arg1)
      ∧ m' ((c.tc : Thread Cert.UpdateAdaReferenceIdeal.nD Cert.UpdateAdaReferenceIdeal.τ).loc Cert.UpdateAdaReferenceIdeal.main_arg2) = m ((c.tc : Thread Cert.UpdateAdaIdeal.nD Cert.UpdateAdaIdeal.τ).loc Cert.UpdateAdaIdeal.main_arg2)
      ∧ m' ((c.tc : Thread Cert.UpdateAdaReferenceIdeal.nD Cert.UpdateAdaReferenceIdeal.τ).loc Cert.UpdateAdaReferenceIdeal.main_arg3) = m ((c.tc : Thread Cert.UpdateAdaIdeal.nD Cert.UpdateAdaIdeal.τ).loc Cert.UpdateAdaIdeal.main_arg3)
      ∧ m' ((c.tc : Thread Cert.UpdateAdaReferenceIdeal.nD Cert.UpdateAdaReferenceIdeal.τ).loc Cert.UpdateAdaReferenceIdeal.main_arg4) = m ((c.tc : Thread Cert.UpdateAdaIdeal.nD Cert.UpdateAdaIdeal.τ).loc Cert.UpdateAdaIdeal.main_arg4)) →
    ∃ (v0 : (c : Dev Cert.UpdateAdaIdeal.nD) → Buf (Elt Ideal) ((c.tc : Thread Cert.UpdateAdaIdeal.nD Cert.UpdateAdaIdeal.τ).loc Cert.UpdateAdaIdeal.main_v0_0)) (v1 : (c : Dev Cert.UpdateAdaIdeal.nD) → Buf (Elt Ideal) ((c.tc : Thread Cert.UpdateAdaIdeal.nD Cert.UpdateAdaIdeal.τ).loc Cert.UpdateAdaIdeal.main_v0_1)) (v2 : (c : Dev Cert.UpdateAdaIdeal.nD) → Buf (Elt Ideal) ((c.tc : Thread Cert.UpdateAdaIdeal.nD Cert.UpdateAdaIdeal.τ).loc Cert.UpdateAdaIdeal.main_v0_2)) (v3 : (c : Dev Cert.UpdateAdaIdeal.nD) → Buf (Elt Ideal) ((c.tc : Thread Cert.UpdateAdaIdeal.nD Cert.UpdateAdaIdeal.τ).loc Cert.UpdateAdaIdeal.main_v0_3)),
      θ_run (Cert.UpdateAdaIdeal.defs (F := Ideal)) (onTc (τ := Cert.UpdateAdaIdeal.τ) (Cert.UpdateAdaIdeal.main (F := Ideal))) ⟨m, fun _ => 0, g⟩ (fun r => ∀ c : Dev Cert.UpdateAdaIdeal.nD,
          r.2.mem ((c.tc : Thread Cert.UpdateAdaIdeal.nD Cert.UpdateAdaIdeal.τ).loc Cert.UpdateAdaIdeal.main_v0_0) = v0 c
          ∧ r.2.mem ((c.tc : Thread Cert.UpdateAdaIdeal.nD Cert.UpdateAdaIdeal.τ).loc Cert.UpdateAdaIdeal.main_v0_1) = v1 c
          ∧ r.2.mem ((c.tc : Thread Cert.UpdateAdaIdeal.nD Cert.UpdateAdaIdeal.τ).loc Cert.UpdateAdaIdeal.main_v0_2) = v2 c
          ∧ r.2.mem ((c.tc : Thread Cert.UpdateAdaIdeal.nD Cert.UpdateAdaIdeal.τ).loc Cert.UpdateAdaIdeal.main_v0_3) = v3 c
          ∧ r.2.mem ((c.tc : Thread Cert.UpdateAdaIdeal.nD Cert.UpdateAdaIdeal.τ).loc Cert.UpdateAdaIdeal.main_arg0) = m ((c.tc : Thread Cert.UpdateAdaIdeal.nD Cert.UpdateAdaIdeal.τ).loc Cert.UpdateAdaIdeal.main_arg0)
          ∧ r.2.mem ((c.tc : Thread Cert.UpdateAdaIdeal.nD Cert.UpdateAdaIdeal.τ).loc Cert.UpdateAdaIdeal.main_arg1) = m ((c.tc : Thread Cert.UpdateAdaIdeal.nD Cert.UpdateAdaIdeal.τ).loc Cert.UpdateAdaIdeal.main_arg1)
          ∧ r.2.mem ((c.tc : Thread Cert.UpdateAdaIdeal.nD Cert.UpdateAdaIdeal.τ).loc Cert.UpdateAdaIdeal.main_arg2) = m ((c.tc : Thread Cert.UpdateAdaIdeal.nD Cert.UpdateAdaIdeal.τ).loc Cert.UpdateAdaIdeal.main_arg2)
          ∧ r.2.mem ((c.tc : Thread Cert.UpdateAdaIdeal.nD Cert.UpdateAdaIdeal.τ).loc Cert.UpdateAdaIdeal.main_arg3) = m ((c.tc : Thread Cert.UpdateAdaIdeal.nD Cert.UpdateAdaIdeal.τ).loc Cert.UpdateAdaIdeal.main_arg3)
          ∧ r.2.mem ((c.tc : Thread Cert.UpdateAdaIdeal.nD Cert.UpdateAdaIdeal.τ).loc Cert.UpdateAdaIdeal.main_arg4) = m ((c.tc : Thread Cert.UpdateAdaIdeal.nD Cert.UpdateAdaIdeal.τ).loc Cert.UpdateAdaIdeal.main_arg4))
      ∧ θ_run (Cert.UpdateAdaReferenceIdeal.defs (F := Ideal)) (onTc (τ := Cert.UpdateAdaReferenceIdeal.τ) (Cert.UpdateAdaReferenceIdeal.main (F := Ideal))) ⟨m', fun _ => 0, g'⟩ (fun r => ∀ c : Dev Cert.UpdateAdaReferenceIdeal.nD,
          r.2.mem ((c.tc : Thread Cert.UpdateAdaReferenceIdeal.nD Cert.UpdateAdaReferenceIdeal.τ).loc Cert.UpdateAdaReferenceIdeal.main_v0) = v0 c
          ∧ r.2.mem ((c.tc : Thread Cert.UpdateAdaReferenceIdeal.nD Cert.UpdateAdaReferenceIdeal.τ).loc Cert.UpdateAdaReferenceIdeal.main_v24) = v1 c
          ∧ r.2.mem ((c.tc : Thread Cert.UpdateAdaReferenceIdeal.nD Cert.UpdateAdaReferenceIdeal.τ).loc Cert.UpdateAdaReferenceIdeal.main_v5) = v2 c
          ∧ r.2.mem ((c.tc : Thread Cert.UpdateAdaReferenceIdeal.nD Cert.UpdateAdaReferenceIdeal.τ).loc Cert.UpdateAdaReferenceIdeal.main_v11) = v3 c
          ∧ r.2.mem ((c.tc : Thread Cert.UpdateAdaReferenceIdeal.nD Cert.UpdateAdaReferenceIdeal.τ).loc Cert.UpdateAdaReferenceIdeal.main_arg0) = m' ((c.tc : Thread Cert.UpdateAdaReferenceIdeal.nD Cert.UpdateAdaReferenceIdeal.τ).loc Cert.UpdateAdaReferenceIdeal.main_arg0)
          ∧ r.2.mem ((c.tc : Thread Cert.UpdateAdaReferenceIdeal.nD Cert.UpdateAdaReferenceIdeal.τ).loc Cert.UpdateAdaReferenceIdeal.main_arg1) = m' ((c.tc : Thread Cert.UpdateAdaReferenceIdeal.nD Cert.UpdateAdaReferenceIdeal.τ).loc Cert.UpdateAdaReferenceIdeal.main_arg1)
          ∧ r.2.mem ((c.tc : Thread Cert.UpdateAdaReferenceIdeal.nD Cert.UpdateAdaReferenceIdeal.τ).loc Cert.UpdateAdaReferenceIdeal.main_arg2) = m' ((c.tc : Thread Cert.UpdateAdaReferenceIdeal.nD Cert.UpdateAdaReferenceIdeal.τ).loc Cert.UpdateAdaReferenceIdeal.main_arg2)
          ∧ r.2.mem ((c.tc : Thread Cert.UpdateAdaReferenceIdeal.nD Cert.UpdateAdaReferenceIdeal.τ).loc Cert.UpdateAdaReferenceIdeal.main_arg3) = m' ((c.tc : Thread Cert.UpdateAdaReferenceIdeal.nD Cert.UpdateAdaReferenceIdeal.τ).loc Cert.UpdateAdaReferenceIdeal.main_arg3)
          ∧ r.2.mem ((c.tc : Thread Cert.UpdateAdaReferenceIdeal.nD Cert.UpdateAdaReferenceIdeal.τ).loc Cert.UpdateAdaReferenceIdeal.main_arg4) = m' ((c.tc : Thread Cert.UpdateAdaReferenceIdeal.nD Cert.UpdateAdaReferenceIdeal.τ).loc Cert.UpdateAdaReferenceIdeal.main_arg4))

def preserves_SumSmall_SumSmallIdeal : Prop :=
  True

def algebraic_SumSmallIdeal_SumSmallReferenceIdeal [hSumSmallIdeal : Cert.SumSmallIdeal.Facts] [hSumSmallReferenceIdeal : Cert.SumSmallReferenceIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallIdeal m →
    (∀ c : Dev Cert.SumSmallIdeal.nD,
      m' ((c.tc : Thread Cert.SumSmallReferenceIdeal.nD Cert.SumSmallReferenceIdeal.τ).loc Cert.SumSmallReferenceIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v0) = v0 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0))

def preserves_UpdateSmall_UpdateSmallIdeal : Prop :=
  True

def algebraic_UpdateSmallIdeal_UpdateSmallReferenceIdeal [hUpdateSmallIdeal : Cert.UpdateSmallIdeal.Facts] [hUpdateSmallReferenceIdeal : Cert.UpdateSmallReferenceIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg)
    (m' : (ℓ : Loc Cert.UpdateSmallReferenceIdeal.nD Cert.UpdateSmallReferenceIdeal.τ Cert.UpdateSmallReferenceIdeal.sig) → Buf (Elt Ideal) ℓ) (g' : Dev Cert.UpdateSmallReferenceIdeal.nD → PrngReg), Pre_UpdateSmallIdeal m →
    (∀ c : Dev Cert.UpdateSmallIdeal.nD,
      m' ((c.tc : Thread Cert.UpdateSmallReferenceIdeal.nD Cert.UpdateSmallReferenceIdeal.τ).loc Cert.UpdateSmallReferenceIdeal.main_arg0) = m ((c.tc : Thread Cert.UpdateSmallIdeal.nD Cert.UpdateSmallIdeal.τ).loc Cert.UpdateSmallIdeal.main_arg0)
      ∧ m' ((c.tc : Thread Cert.UpdateSmallReferenceIdeal.nD Cert.UpdateSmallReferenceIdeal.τ).loc Cert.UpdateSmallReferenceIdeal.main_arg1) = m ((c.tc : Thread Cert.UpdateSmallIdeal.nD Cert.UpdateSmallIdeal.τ).loc Cert.UpdateSmallIdeal.main_arg1)
      ∧ m' ((c.tc : Thread Cert.UpdateSmallReferenceIdeal.nD Cert.UpdateSmallReferenceIdeal.τ).loc Cert.UpdateSmallReferenceIdeal.main_arg2) = m ((c.tc : Thread Cert.UpdateSmallIdeal.nD Cert.UpdateSmallIdeal.τ).loc Cert.UpdateSmallIdeal.main_arg2)
      ∧ m' ((c.tc : Thread Cert.UpdateSmallReferenceIdeal.nD Cert.UpdateSmallReferenceIdeal.τ).loc Cert.UpdateSmallReferenceIdeal.main_arg3) = m ((c.tc : Thread Cert.UpdateSmallIdeal.nD Cert.UpdateSmallIdeal.τ).loc Cert.UpdateSmallIdeal.main_arg3)) →
    ∃ (v0 : (c : Dev Cert.UpdateSmallIdeal.nD) → Buf (Elt Ideal) ((c.tc : Thread Cert.UpdateSmallIdeal.nD Cert.UpdateSmallIdeal.τ).loc Cert.UpdateSmallIdeal.main_v0_0)) (v1 : (c : Dev Cert.UpdateSmallIdeal.nD) → Buf (Elt Ideal) ((c.tc : Thread Cert.UpdateSmallIdeal.nD Cert.UpdateSmallIdeal.τ).loc Cert.UpdateSmallIdeal.main_v0_1)) (v2 : (c : Dev Cert.UpdateSmallIdeal.nD) → Buf (Elt Ideal) ((c.tc : Thread Cert.UpdateSmallIdeal.nD Cert.UpdateSmallIdeal.τ).loc Cert.UpdateSmallIdeal.main_v0_2)),
      θ_run (Cert.UpdateSmallIdeal.defs (F := Ideal)) (onTc (τ := Cert.UpdateSmallIdeal.τ) (Cert.UpdateSmallIdeal.main (F := Ideal))) ⟨m, fun _ => 0, g⟩ (fun r => ∀ c : Dev Cert.UpdateSmallIdeal.nD,
          r.2.mem ((c.tc : Thread Cert.UpdateSmallIdeal.nD Cert.UpdateSmallIdeal.τ).loc Cert.UpdateSmallIdeal.main_v0_0) = v0 c
          ∧ r.2.mem ((c.tc : Thread Cert.UpdateSmallIdeal.nD Cert.UpdateSmallIdeal.τ).loc Cert.UpdateSmallIdeal.main_v0_1) = v1 c
          ∧ r.2.mem ((c.tc : Thread Cert.UpdateSmallIdeal.nD Cert.UpdateSmallIdeal.τ).loc Cert.UpdateSmallIdeal.main_v0_2) = v2 c
          ∧ r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
          ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
          ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
          ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ θ_run (Cert.UpdateSmallReferenceIdeal.defs (F := Ideal)) (onTc (τ := Cert.UpdateSmallReferenceIdeal.τ) (Cert.UpdateSmallReferenceIdeal.main (F := Ideal))) ⟨m', fun _ => 0, g'⟩ (fun r => ∀ c : Dev Cert.UpdateSmallReferenceIdeal.nD,
          r.2.mem ((c.tc : Thread Cert.UpdateSmallReferenceIdeal.nD Cert.UpdateSmallReferenceIdeal.τ).loc Cert.UpdateSmallReferenceIdeal.main_v23) = v0 c
          ∧ r.2.mem ((c.tc : Thread Cert.UpdateSmallReferenceIdeal.nD Cert.UpdateSmallReferenceIdeal.τ).loc Cert.UpdateSmallReferenceIdeal.main_v4) = v1 c
          ∧ r.2.mem ((c.tc : Thread Cert.UpdateSmallReferenceIdeal.nD Cert.UpdateSmallReferenceIdeal.τ).loc Cert.UpdateSmallReferenceIdeal.main_v10) = v2 c
          ∧ r.2.mem ((c.tc : Thread Cert.UpdateSmallReferenceIdeal.nD Cert.UpdateSmallReferenceIdeal.τ).loc Cert.UpdateSmallReferenceIdeal.main_arg0) = m' ((c.tc : Thread Cert.UpdateSmallReferenceIdeal.nD Cert.UpdateSmallReferenceIdeal.τ).loc Cert.UpdateSmallReferenceIdeal.main_arg0)
          ∧ r.2.mem ((c.tc : Thread Cert.UpdateSmallReferenceIdeal.nD Cert.UpdateSmallReferenceIdeal.τ).loc Cert.UpdateSmallReferenceIdeal.main_arg1) = m' ((c.tc : Thread Cert.UpdateSmallReferenceIdeal.nD Cert.UpdateSmallReferenceIdeal.τ).loc Cert.UpdateSmallReferenceIdeal.main_arg1)
          ∧ r.2.mem ((c.tc : Thread Cert.UpdateSmallReferenceIdeal.nD Cert.UpdateSmallReferenceIdeal.τ).loc Cert.UpdateSmallReferenceIdeal.main_arg2) = m' ((c.tc : Thread Cert.UpdateSmallReferenceIdeal.nD Cert.UpdateSmallReferenceIdeal.τ).loc Cert.UpdateSmallReferenceIdeal.main_arg2)
          ∧ r.2.mem ((c.tc : Thread Cert.UpdateSmallReferenceIdeal.nD Cert.UpdateSmallReferenceIdeal.τ).loc Cert.UpdateSmallReferenceIdeal.main_arg3) = m' ((c.tc : Thread Cert.UpdateSmallReferenceIdeal.nD Cert.UpdateSmallReferenceIdeal.τ).loc Cert.UpdateSmallReferenceIdeal.main_arg3))

def preserves_PremixBwd_PremixBwdIdeal : Prop :=
  True

def algebraic_PremixBwdIdeal_PremixBwdReferenceIdeal [hPremixBwdIdeal : Cert.PremixBwdIdeal.Facts] [hPremixBwdReferenceIdeal : Cert.PremixBwdReferenceIdeal.Facts] : Prop :=
  ∀ (m : (ℓ : Loc Cert.PremixBwdIdeal.nD Cert.PremixBwdIdeal.τ Cert.PremixBwdIdeal.sig) → Buf (Elt Ideal) ℓ) (g : Dev Cert.PremixBwdIdeal.nD → PrngReg)
    (m' : (ℓ : Loc Cert.PremixBwdReferenceIdeal.nD Cert.PremixBwdReferenceIdeal.τ Cert.PremixBwdReferenceIdeal.sig) → Buf (Elt Ideal) ℓ) (g' : Dev Cert.PremixBwdReferenceIdeal.nD → PrngReg), Pre_PremixBwdIdeal m →
    (∀ c : Dev Cert.PremixBwdIdeal.nD,
      m' ((c.tc : Thread Cert.PremixBwdReferenceIdeal.nD Cert.PremixBwdReferenceIdeal.τ).loc Cert.PremixBwdReferenceIdeal.main_arg0) = m ((c.tc : Thread Cert.PremixBwdIdeal.nD Cert.PremixBwdIdeal.τ).loc Cert.PremixBwdIdeal.main_arg0)
      ∧ m' ((c.tc : Thread Cert.PremixBwdReferenceIdeal.nD Cert.PremixBwdReferenceIdeal.τ).loc Cert.PremixBwdReferenceIdeal.main_arg1) = m ((c.tc : Thread Cert.PremixBwdIdeal.nD Cert.PremixBwdIdeal.τ).loc Cert.PremixBwdIdeal.main_arg1)
      ∧ m' ((c.tc : Thread Cert.PremixBwdReferenceIdeal.nD Cert.PremixBwdReferenceIdeal.τ).loc Cert.PremixBwdReferenceIdeal.main_arg2) = m ((c.tc : Thread Cert.PremixBwdIdeal.nD Cert.PremixBwdIdeal.τ).loc Cert.PremixBwdIdeal.main_arg2)
      ∧ m' ((c.tc : Thread Cert.PremixBwdReferenceIdeal.nD Cert.PremixBwdReferenceIdeal.τ).loc Cert.PremixBwdReferenceIdeal.main_arg3) = m ((c.tc : Thread Cert.PremixBwdIdeal.nD Cert.PremixBwdIdeal.τ).loc Cert.PremixBwdIdeal.main_arg3)
      ∧ m' ((c.tc : Thread Cert.PremixBwdReferenceIdeal.nD Cert.PremixBwdReferenceIdeal.τ).loc Cert.PremixBwdReferenceIdeal.main_arg4) = m ((c.tc : Thread Cert.PremixBwdIdeal.nD Cert.PremixBwdIdeal.τ).loc Cert.PremixBwdIdeal.main_arg4)) →
    ∃ (v0 : (c : Dev Cert.PremixBwdIdeal.nD) → Buf (Elt Ideal) ((c.tc : Thread Cert.PremixBwdIdeal.nD Cert.PremixBwdIdeal.τ).loc Cert.PremixBwdIdeal.main_v0_0)) (v1 : (c : Dev Cert.PremixBwdIdeal.nD) → Buf (Elt Ideal) ((c.tc : Thread Cert.PremixBwdIdeal.nD Cert.PremixBwdIdeal.τ).loc Cert.PremixBwdIdeal.main_v0_1)) (v2 : (c : Dev Cert.PremixBwdIdeal.nD) → Buf (Elt Ideal) ((c.tc : Thread Cert.PremixBwdIdeal.nD Cert.PremixBwdIdeal.τ).loc Cert.PremixBwdIdeal.main_v0_2)) (v3 : (c : Dev Cert.PremixBwdIdeal.nD) → Buf (Elt Ideal) ((c.tc : Thread Cert.PremixBwdIdeal.nD Cert.PremixBwdIdeal.τ).loc Cert.PremixBwdIdeal.main_v0_3)),
      θ_run (Cert.PremixBwdIdeal.defs (F := Ideal)) (onTc (τ := Cert.PremixBwdIdeal.τ) (Cert.PremixBwdIdeal.main (F := Ideal))) ⟨m, fun _ => 0, g⟩ (fun r => ∀ c : Dev Cert.PremixBwdIdeal.nD,
          r.2.mem ((c.tc : Thread Cert.PremixBwdIdeal.nD Cert.PremixBwdIdeal.τ).loc Cert.PremixBwdIdeal.main_v0_0) = v0 c
          ∧ r.2.mem ((c.tc : Thread Cert.PremixBwdIdeal.nD Cert.PremixBwdIdeal.τ).loc Cert.PremixBwdIdeal.main_v0_1) = v1 c
          ∧ r.2.mem ((c.tc : Thread Cert.PremixBwdIdeal.nD Cert.PremixBwdIdeal.τ).loc Cert.PremixBwdIdeal.main_v0_2) = v2 c
          ∧ r.2.mem ((c.tc : Thread Cert.PremixBwdIdeal.nD Cert.PremixBwdIdeal.τ).loc Cert.PremixBwdIdeal.main_v0_3) = v3 c
          ∧ r.2.mem ((c.tc : Thread Cert.PremixBwdIdeal.nD Cert.PremixBwdIdeal.τ).loc Cert.PremixBwdIdeal.main_arg0) = m ((c.tc : Thread Cert.PremixBwdIdeal.nD Cert.PremixBwdIdeal.τ).loc Cert.PremixBwdIdeal.main_arg0)
          ∧ r.2.mem ((c.tc : Thread Cert.PremixBwdIdeal.nD Cert.PremixBwdIdeal.τ).loc Cert.PremixBwdIdeal.main_arg1) = m ((c.tc : Thread Cert.PremixBwdIdeal.nD Cert.PremixBwdIdeal.τ).loc Cert.PremixBwdIdeal.main_arg1)
          ∧ r.2.mem ((c.tc : Thread Cert.PremixBwdIdeal.nD Cert.PremixBwdIdeal.τ).loc Cert.PremixBwdIdeal.main_arg2) = m ((c.tc : Thread Cert.PremixBwdIdeal.nD Cert.PremixBwdIdeal.τ).loc Cert.PremixBwdIdeal.main_arg2)
          ∧ r.2.mem ((c.tc : Thread Cert.PremixBwdIdeal.nD Cert.PremixBwdIdeal.τ).loc Cert.PremixBwdIdeal.main_arg3) = m ((c.tc : Thread Cert.PremixBwdIdeal.nD Cert.PremixBwdIdeal.τ).loc Cert.PremixBwdIdeal.main_arg3)
          ∧ r.2.mem ((c.tc : Thread Cert.PremixBwdIdeal.nD Cert.PremixBwdIdeal.τ).loc Cert.PremixBwdIdeal.main_arg4) = m ((c.tc : Thread Cert.PremixBwdIdeal.nD Cert.PremixBwdIdeal.τ).loc Cert.PremixBwdIdeal.main_arg4))
      ∧ θ_run (Cert.PremixBwdReferenceIdeal.defs (F := Ideal)) (onTc (τ := Cert.PremixBwdReferenceIdeal.τ) (Cert.PremixBwdReferenceIdeal.main (F := Ideal))) ⟨m', fun _ => 0, g'⟩ (fun r => ∀ c : Dev Cert.PremixBwdReferenceIdeal.nD,
          r.2.mem ((c.tc : Thread Cert.PremixBwdReferenceIdeal.nD Cert.PremixBwdReferenceIdeal.τ).loc Cert.PremixBwdReferenceIdeal.main_v49) = v0 c
          ∧ r.2.mem ((c.tc : Thread Cert.PremixBwdReferenceIdeal.nD Cert.PremixBwdReferenceIdeal.τ).loc Cert.PremixBwdReferenceIdeal.main_v27) = v1 c
          ∧ r.2.mem ((c.tc : Thread Cert.PremixBwdReferenceIdeal.nD Cert.PremixBwdReferenceIdeal.τ).loc Cert.PremixBwdReferenceIdeal.main_v24) = v2 c
          ∧ r.2.mem ((c.tc : Thread Cert.PremixBwdReferenceIdeal.nD Cert.PremixBwdReferenceIdeal.τ).loc Cert.PremixBwdReferenceIdeal.main_v32) = v3 c
          ∧ r.2.mem ((c.tc : Thread Cert.PremixBwdReferenceIdeal.nD Cert.PremixBwdReferenceIdeal.τ).loc Cert.PremixBwdReferenceIdeal.main_arg0) = m' ((c.tc : Thread Cert.PremixBwdReferenceIdeal.nD Cert.PremixBwdReferenceIdeal.τ).loc Cert.PremixBwdReferenceIdeal.main_arg0)
          ∧ r.2.mem ((c.tc : Thread Cert.PremixBwdReferenceIdeal.nD Cert.PremixBwdReferenceIdeal.τ).loc Cert.PremixBwdReferenceIdeal.main_arg1) = m' ((c.tc : Thread Cert.PremixBwdReferenceIdeal.nD Cert.PremixBwdReferenceIdeal.τ).loc Cert.PremixBwdReferenceIdeal.main_arg1)
          ∧ r.2.mem ((c.tc : Thread Cert.PremixBwdReferenceIdeal.nD Cert.PremixBwdReferenceIdeal.τ).loc Cert.PremixBwdReferenceIdeal.main_arg2) = m' ((c.tc : Thread Cert.PremixBwdReferenceIdeal.nD Cert.PremixBwdReferenceIdeal.τ).loc Cert.PremixBwdReferenceIdeal.main_arg2)
          ∧ r.2.mem ((c.tc : Thread Cert.PremixBwdReferenceIdeal.nD Cert.PremixBwdReferenceIdeal.τ).loc Cert.PremixBwdReferenceIdeal.main_arg3) = m' ((c.tc : Thread Cert.PremixBwdReferenceIdeal.nD Cert.PremixBwdReferenceIdeal.τ).loc Cert.PremixBwdReferenceIdeal.main_arg3)
          ∧ r.2.mem ((c.tc : Thread Cert.PremixBwdReferenceIdeal.nD Cert.PremixBwdReferenceIdeal.τ).loc Cert.PremixBwdReferenceIdeal.main_arg4) = m' ((c.tc : Thread Cert.PremixBwdReferenceIdeal.nD Cert.PremixBwdReferenceIdeal.τ).loc Cert.PremixBwdReferenceIdeal.main_arg4))

def preserves_LossBwd_LossBwdIdeal : Prop :=
  True

def algebraic_LossBwdIdeal_LossBwdReferenceIdeal [hLossBwdIdeal : Cert.LossBwdIdeal.Facts] [hLossBwdReferenceIdeal : Cert.LossBwdReferenceIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossBwdReferenceIdeal.nD Cert.LossBwdReferenceIdeal.τ Cert.LossBwdReferenceIdeal.sig) → Buf (Elt Ideal) ℓ) (g' : Dev Cert.LossBwdReferenceIdeal.nD → PrngReg), Pre_LossBwdIdeal m →
    (∀ c : Dev Cert.LossBwdIdeal.nD,
      m' ((c.tc : Thread Cert.LossBwdReferenceIdeal.nD Cert.LossBwdReferenceIdeal.τ).loc Cert.LossBwdReferenceIdeal.main_arg0) = m ((c.tc : Thread Cert.LossBwdIdeal.nD Cert.LossBwdIdeal.τ).loc Cert.LossBwdIdeal.main_arg0)
      ∧ m' ((c.tc : Thread Cert.LossBwdReferenceIdeal.nD Cert.LossBwdReferenceIdeal.τ).loc Cert.LossBwdReferenceIdeal.main_arg1) = m ((c.tc : Thread Cert.LossBwdIdeal.nD Cert.LossBwdIdeal.τ).loc Cert.LossBwdIdeal.main_arg1)
      ∧ m' ((c.tc : Thread Cert.LossBwdReferenceIdeal.nD Cert.LossBwdReferenceIdeal.τ).loc Cert.LossBwdReferenceIdeal.main_arg2) = m ((c.tc : Thread Cert.LossBwdIdeal.nD Cert.LossBwdIdeal.τ).loc Cert.LossBwdIdeal.main_arg2)
      ∧ m' ((c.tc : Thread Cert.LossBwdReferenceIdeal.nD Cert.LossBwdReferenceIdeal.τ).loc Cert.LossBwdReferenceIdeal.main_arg3) = m ((c.tc : Thread Cert.LossBwdIdeal.nD Cert.LossBwdIdeal.τ).loc Cert.LossBwdIdeal.main_arg3)
      ∧ m' ((c.tc : Thread Cert.LossBwdReferenceIdeal.nD Cert.LossBwdReferenceIdeal.τ).loc Cert.LossBwdReferenceIdeal.main_arg4) = m ((c.tc : Thread Cert.LossBwdIdeal.nD Cert.LossBwdIdeal.τ).loc Cert.LossBwdIdeal.main_arg4)) →
    ∃ (v0 : (c : Dev Cert.LossBwdIdeal.nD) → Buf (Elt Ideal) ((c.tc : Thread Cert.LossBwdIdeal.nD Cert.LossBwdIdeal.τ).loc Cert.LossBwdIdeal.main_v0_0)) (v1 : (c : Dev Cert.LossBwdIdeal.nD) → Buf (Elt Ideal) ((c.tc : Thread Cert.LossBwdIdeal.nD Cert.LossBwdIdeal.τ).loc Cert.LossBwdIdeal.main_v0_1)) (v2 : (c : Dev Cert.LossBwdIdeal.nD) → Buf (Elt Ideal) ((c.tc : Thread Cert.LossBwdIdeal.nD Cert.LossBwdIdeal.τ).loc Cert.LossBwdIdeal.main_v0_2)) (v3 : (c : Dev Cert.LossBwdIdeal.nD) → Buf (Elt Ideal) ((c.tc : Thread Cert.LossBwdIdeal.nD Cert.LossBwdIdeal.τ).loc Cert.LossBwdIdeal.main_v0_3)) (v4 : (c : Dev Cert.LossBwdIdeal.nD) → Buf (Elt Ideal) ((c.tc : Thread Cert.LossBwdIdeal.nD Cert.LossBwdIdeal.τ).loc Cert.LossBwdIdeal.main_v0_4)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v0_0) = v0 c
          ∧ r.2.mem ((c.tc : Thread Cert.LossBwdIdeal.nD Cert.LossBwdIdeal.τ).loc Cert.LossBwdIdeal.main_v0_1) = v1 c
          ∧ r.2.mem ((c.tc : Thread Cert.LossBwdIdeal.nD Cert.LossBwdIdeal.τ).loc Cert.LossBwdIdeal.main_v0_2) = v2 c
          ∧ r.2.mem ((c.tc : Thread Cert.LossBwdIdeal.nD Cert.LossBwdIdeal.τ).loc Cert.LossBwdIdeal.main_v0_3) = v3 c
          ∧ r.2.mem ((c.tc : Thread Cert.LossBwdIdeal.nD Cert.LossBwdIdeal.τ).loc Cert.LossBwdIdeal.main_v0_4) = v4 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ θ_run (Cert.LossBwdReferenceIdeal.defs (F := Ideal)) (onTc (τ := Cert.LossBwdReferenceIdeal.τ) (Cert.LossBwdReferenceIdeal.main (F := Ideal))) ⟨m', fun _ => 0, g'⟩ (fun r => ∀ c : Dev Cert.LossBwdReferenceIdeal.nD,
          r.2.mem ((c.tc : Thread Cert.LossBwdReferenceIdeal.nD Cert.LossBwdReferenceIdeal.τ).loc Cert.LossBwdReferenceIdeal.main_v32) = v0 c
          ∧ r.2.mem ((c.tc : Thread Cert.LossBwdReferenceIdeal.nD Cert.LossBwdReferenceIdeal.τ).loc Cert.LossBwdReferenceIdeal.main_v57) = v1 c
          ∧ r.2.mem ((c.tc : Thread Cert.LossBwdReferenceIdeal.nD Cert.LossBwdReferenceIdeal.τ).loc Cert.LossBwdReferenceIdeal.main_v58) = v2 c
          ∧ r.2.mem ((c.tc : Thread Cert.LossBwdReferenceIdeal.nD Cert.LossBwdReferenceIdeal.τ).loc Cert.LossBwdReferenceIdeal.main_v37) = v3 c
          ∧ r.2.mem ((c.tc : Thread Cert.LossBwdReferenceIdeal.nD Cert.LossBwdReferenceIdeal.τ).loc Cert.LossBwdReferenceIdeal.main_v40) = v4 c
          ∧ r.2.mem ((c.tc : Thread Cert.LossBwdReferenceIdeal.nD Cert.LossBwdReferenceIdeal.τ).loc Cert.LossBwdReferenceIdeal.main_arg0) = m' ((c.tc : Thread Cert.LossBwdReferenceIdeal.nD Cert.LossBwdReferenceIdeal.τ).loc Cert.LossBwdReferenceIdeal.main_arg0)
          ∧ r.2.mem ((c.tc : Thread Cert.LossBwdReferenceIdeal.nD Cert.LossBwdReferenceIdeal.τ).loc Cert.LossBwdReferenceIdeal.main_arg1) = m' ((c.tc : Thread Cert.LossBwdReferenceIdeal.nD Cert.LossBwdReferenceIdeal.τ).loc Cert.LossBwdReferenceIdeal.main_arg1)
          ∧ r.2.mem ((c.tc : Thread Cert.LossBwdReferenceIdeal.nD Cert.LossBwdReferenceIdeal.τ).loc Cert.LossBwdReferenceIdeal.main_arg2) = m' ((c.tc : Thread Cert.LossBwdReferenceIdeal.nD Cert.LossBwdReferenceIdeal.τ).loc Cert.LossBwdReferenceIdeal.main_arg2)
          ∧ r.2.mem ((c.tc : Thread Cert.LossBwdReferenceIdeal.nD Cert.LossBwdReferenceIdeal.τ).loc Cert.LossBwdReferenceIdeal.main_arg3) = m' ((c.tc : Thread Cert.LossBwdReferenceIdeal.nD Cert.LossBwdReferenceIdeal.τ).loc Cert.LossBwdReferenceIdeal.main_arg3)
          ∧ r.2.mem ((c.tc : Thread Cert.LossBwdReferenceIdeal.nD Cert.LossBwdReferenceIdeal.τ).loc Cert.LossBwdReferenceIdeal.main_arg4) = m' ((c.tc : Thread Cert.LossBwdReferenceIdeal.nD Cert.LossBwdReferenceIdeal.τ).loc Cert.LossBwdReferenceIdeal.main_arg4))

def preserves_PremlpBwd_PremlpBwdIdeal : Prop :=
  True

def algebraic_PremlpBwdIdeal_PremlpBwdReferenceIdeal [hPremlpBwdIdeal : Cert.PremlpBwdIdeal.Facts] [hPremlpBwdReferenceIdeal : Cert.PremlpBwdReferenceIdeal.Facts] : Prop :=
  ∀ (m : (ℓ : Loc Cert.PremlpBwdIdeal.nD Cert.PremlpBwdIdeal.τ Cert.PremlpBwdIdeal.sig) → Buf (Elt Ideal) ℓ) (g : Dev Cert.PremlpBwdIdeal.nD → PrngReg)
    (m' : (ℓ : Loc Cert.PremlpBwdReferenceIdeal.nD Cert.PremlpBwdReferenceIdeal.τ Cert.PremlpBwdReferenceIdeal.sig) → Buf (Elt Ideal) ℓ) (g' : Dev Cert.PremlpBwdReferenceIdeal.nD → PrngReg), Pre_PremlpBwdIdeal m →
    (∀ c : Dev Cert.PremlpBwdIdeal.nD,
      m' ((c.tc : Thread Cert.PremlpBwdReferenceIdeal.nD Cert.PremlpBwdReferenceIdeal.τ).loc Cert.PremlpBwdReferenceIdeal.main_arg0) = m ((c.tc : Thread Cert.PremlpBwdIdeal.nD Cert.PremlpBwdIdeal.τ).loc Cert.PremlpBwdIdeal.main_arg0)
      ∧ m' ((c.tc : Thread Cert.PremlpBwdReferenceIdeal.nD Cert.PremlpBwdReferenceIdeal.τ).loc Cert.PremlpBwdReferenceIdeal.main_arg1) = m ((c.tc : Thread Cert.PremlpBwdIdeal.nD Cert.PremlpBwdIdeal.τ).loc Cert.PremlpBwdIdeal.main_arg1)
      ∧ m' ((c.tc : Thread Cert.PremlpBwdReferenceIdeal.nD Cert.PremlpBwdReferenceIdeal.τ).loc Cert.PremlpBwdReferenceIdeal.main_arg2) = m ((c.tc : Thread Cert.PremlpBwdIdeal.nD Cert.PremlpBwdIdeal.τ).loc Cert.PremlpBwdIdeal.main_arg2)
      ∧ m' ((c.tc : Thread Cert.PremlpBwdReferenceIdeal.nD Cert.PremlpBwdReferenceIdeal.τ).loc Cert.PremlpBwdReferenceIdeal.main_arg3) = m ((c.tc : Thread Cert.PremlpBwdIdeal.nD Cert.PremlpBwdIdeal.τ).loc Cert.PremlpBwdIdeal.main_arg3)
      ∧ m' ((c.tc : Thread Cert.PremlpBwdReferenceIdeal.nD Cert.PremlpBwdReferenceIdeal.τ).loc Cert.PremlpBwdReferenceIdeal.main_arg4) = m ((c.tc : Thread Cert.PremlpBwdIdeal.nD Cert.PremlpBwdIdeal.τ).loc Cert.PremlpBwdIdeal.main_arg4)
      ∧ m' ((c.tc : Thread Cert.PremlpBwdReferenceIdeal.nD Cert.PremlpBwdReferenceIdeal.τ).loc Cert.PremlpBwdReferenceIdeal.main_arg5) = m ((c.tc : Thread Cert.PremlpBwdIdeal.nD Cert.PremlpBwdIdeal.τ).loc Cert.PremlpBwdIdeal.main_arg5)
      ∧ m' ((c.tc : Thread Cert.PremlpBwdReferenceIdeal.nD Cert.PremlpBwdReferenceIdeal.τ).loc Cert.PremlpBwdReferenceIdeal.main_arg6) = m ((c.tc : Thread Cert.PremlpBwdIdeal.nD Cert.PremlpBwdIdeal.τ).loc Cert.PremlpBwdIdeal.main_arg6)
      ∧ m' ((c.tc : Thread Cert.PremlpBwdReferenceIdeal.nD Cert.PremlpBwdReferenceIdeal.τ).loc Cert.PremlpBwdReferenceIdeal.main_arg7) = m ((c.tc : Thread Cert.PremlpBwdIdeal.nD Cert.PremlpBwdIdeal.τ).loc Cert.PremlpBwdIdeal.main_arg7)) →
    ∃ (v0 : (c : Dev Cert.PremlpBwdIdeal.nD) → Buf (Elt Ideal) ((c.tc : Thread Cert.PremlpBwdIdeal.nD Cert.PremlpBwdIdeal.τ).loc Cert.PremlpBwdIdeal.main_v0_0)) (v1 : (c : Dev Cert.PremlpBwdIdeal.nD) → Buf (Elt Ideal) ((c.tc : Thread Cert.PremlpBwdIdeal.nD Cert.PremlpBwdIdeal.τ).loc Cert.PremlpBwdIdeal.main_v0_1)) (v2 : (c : Dev Cert.PremlpBwdIdeal.nD) → Buf (Elt Ideal) ((c.tc : Thread Cert.PremlpBwdIdeal.nD Cert.PremlpBwdIdeal.τ).loc Cert.PremlpBwdIdeal.main_v0_2)) (v3 : (c : Dev Cert.PremlpBwdIdeal.nD) → Buf (Elt Ideal) ((c.tc : Thread Cert.PremlpBwdIdeal.nD Cert.PremlpBwdIdeal.τ).loc Cert.PremlpBwdIdeal.main_v0_3)) (v4 : (c : Dev Cert.PremlpBwdIdeal.nD) → Buf (Elt Ideal) ((c.tc : Thread Cert.PremlpBwdIdeal.nD Cert.PremlpBwdIdeal.τ).loc Cert.PremlpBwdIdeal.main_v0_4)) (v5 : (c : Dev Cert.PremlpBwdIdeal.nD) → Buf (Elt Ideal) ((c.tc : Thread Cert.PremlpBwdIdeal.nD Cert.PremlpBwdIdeal.τ).loc Cert.PremlpBwdIdeal.main_v0_5)) (v6 : (c : Dev Cert.PremlpBwdIdeal.nD) → Buf (Elt Ideal) ((c.tc : Thread Cert.PremlpBwdIdeal.nD Cert.PremlpBwdIdeal.τ).loc Cert.PremlpBwdIdeal.main_v0_6)),
      θ_run (Cert.PremlpBwdIdeal.defs (F := Ideal)) (onTc (τ := Cert.PremlpBwdIdeal.τ) (Cert.PremlpBwdIdeal.main (F := Ideal))) ⟨m, fun _ => 0, g⟩ (fun r => ∀ c : Dev Cert.PremlpBwdIdeal.nD,
          r.2.mem ((c.tc : Thread Cert.PremlpBwdIdeal.nD Cert.PremlpBwdIdeal.τ).loc Cert.PremlpBwdIdeal.main_v0_0) = v0 c
          ∧ r.2.mem ((c.tc : Thread Cert.PremlpBwdIdeal.nD Cert.PremlpBwdIdeal.τ).loc Cert.PremlpBwdIdeal.main_v0_1) = v1 c
          ∧ r.2.mem ((c.tc : Thread Cert.PremlpBwdIdeal.nD Cert.PremlpBwdIdeal.τ).loc Cert.PremlpBwdIdeal.main_v0_2) = v2 c
          ∧ r.2.mem ((c.tc : Thread Cert.PremlpBwdIdeal.nD Cert.PremlpBwdIdeal.τ).loc Cert.PremlpBwdIdeal.main_v0_3) = v3 c
          ∧ r.2.mem ((c.tc : Thread Cert.PremlpBwdIdeal.nD Cert.PremlpBwdIdeal.τ).loc Cert.PremlpBwdIdeal.main_v0_4) = v4 c
          ∧ r.2.mem ((c.tc : Thread Cert.PremlpBwdIdeal.nD Cert.PremlpBwdIdeal.τ).loc Cert.PremlpBwdIdeal.main_v0_5) = v5 c
          ∧ r.2.mem ((c.tc : Thread Cert.PremlpBwdIdeal.nD Cert.PremlpBwdIdeal.τ).loc Cert.PremlpBwdIdeal.main_v0_6) = v6 c
          ∧ r.2.mem ((c.tc : Thread Cert.PremlpBwdIdeal.nD Cert.PremlpBwdIdeal.τ).loc Cert.PremlpBwdIdeal.main_arg0) = m ((c.tc : Thread Cert.PremlpBwdIdeal.nD Cert.PremlpBwdIdeal.τ).loc Cert.PremlpBwdIdeal.main_arg0)
          ∧ r.2.mem ((c.tc : Thread Cert.PremlpBwdIdeal.nD Cert.PremlpBwdIdeal.τ).loc Cert.PremlpBwdIdeal.main_arg1) = m ((c.tc : Thread Cert.PremlpBwdIdeal.nD Cert.PremlpBwdIdeal.τ).loc Cert.PremlpBwdIdeal.main_arg1)
          ∧ r.2.mem ((c.tc : Thread Cert.PremlpBwdIdeal.nD Cert.PremlpBwdIdeal.τ).loc Cert.PremlpBwdIdeal.main_arg2) = m ((c.tc : Thread Cert.PremlpBwdIdeal.nD Cert.PremlpBwdIdeal.τ).loc Cert.PremlpBwdIdeal.main_arg2)
          ∧ r.2.mem ((c.tc : Thread Cert.PremlpBwdIdeal.nD Cert.PremlpBwdIdeal.τ).loc Cert.PremlpBwdIdeal.main_arg3) = m ((c.tc : Thread Cert.PremlpBwdIdeal.nD Cert.PremlpBwdIdeal.τ).loc Cert.PremlpBwdIdeal.main_arg3)
          ∧ r.2.mem ((c.tc : Thread Cert.PremlpBwdIdeal.nD Cert.PremlpBwdIdeal.τ).loc Cert.PremlpBwdIdeal.main_arg4) = m ((c.tc : Thread Cert.PremlpBwdIdeal.nD Cert.PremlpBwdIdeal.τ).loc Cert.PremlpBwdIdeal.main_arg4)
          ∧ r.2.mem ((c.tc : Thread Cert.PremlpBwdIdeal.nD Cert.PremlpBwdIdeal.τ).loc Cert.PremlpBwdIdeal.main_arg5) = m ((c.tc : Thread Cert.PremlpBwdIdeal.nD Cert.PremlpBwdIdeal.τ).loc Cert.PremlpBwdIdeal.main_arg5)
          ∧ r.2.mem ((c.tc : Thread Cert.PremlpBwdIdeal.nD Cert.PremlpBwdIdeal.τ).loc Cert.PremlpBwdIdeal.main_arg6) = m ((c.tc : Thread Cert.PremlpBwdIdeal.nD Cert.PremlpBwdIdeal.τ).loc Cert.PremlpBwdIdeal.main_arg6)
          ∧ r.2.mem ((c.tc : Thread Cert.PremlpBwdIdeal.nD Cert.PremlpBwdIdeal.τ).loc Cert.PremlpBwdIdeal.main_arg7) = m ((c.tc : Thread Cert.PremlpBwdIdeal.nD Cert.PremlpBwdIdeal.τ).loc Cert.PremlpBwdIdeal.main_arg7))
      ∧ θ_run (Cert.PremlpBwdReferenceIdeal.defs (F := Ideal)) (onTc (τ := Cert.PremlpBwdReferenceIdeal.τ) (Cert.PremlpBwdReferenceIdeal.main (F := Ideal))) ⟨m', fun _ => 0, g'⟩ (fun r => ∀ c : Dev Cert.PremlpBwdReferenceIdeal.nD,
          r.2.mem ((c.tc : Thread Cert.PremlpBwdReferenceIdeal.nD Cert.PremlpBwdReferenceIdeal.τ).loc Cert.PremlpBwdReferenceIdeal.main_v49) = v0 c
          ∧ r.2.mem ((c.tc : Thread Cert.PremlpBwdReferenceIdeal.nD Cert.PremlpBwdReferenceIdeal.τ).loc Cert.PremlpBwdReferenceIdeal.main_v91) = v1 c
          ∧ r.2.mem ((c.tc : Thread Cert.PremlpBwdReferenceIdeal.nD Cert.PremlpBwdReferenceIdeal.τ).loc Cert.PremlpBwdReferenceIdeal.main_v27) = v2 c
          ∧ r.2.mem ((c.tc : Thread Cert.PremlpBwdReferenceIdeal.nD Cert.PremlpBwdReferenceIdeal.τ).loc Cert.PremlpBwdReferenceIdeal.main_v24) = v3 c
          ∧ r.2.mem ((c.tc : Thread Cert.PremlpBwdReferenceIdeal.nD Cert.PremlpBwdReferenceIdeal.τ).loc Cert.PremlpBwdReferenceIdeal.main_v32) = v4 c
          ∧ r.2.mem ((c.tc : Thread Cert.PremlpBwdReferenceIdeal.nD Cert.PremlpBwdReferenceIdeal.τ).loc Cert.PremlpBwdReferenceIdeal.main_v71) = v5 c
          ∧ r.2.mem ((c.tc : Thread Cert.PremlpBwdReferenceIdeal.nD Cert.PremlpBwdReferenceIdeal.τ).loc Cert.PremlpBwdReferenceIdeal.main_v74) = v6 c
          ∧ r.2.mem ((c.tc : Thread Cert.PremlpBwdReferenceIdeal.nD Cert.PremlpBwdReferenceIdeal.τ).loc Cert.PremlpBwdReferenceIdeal.main_arg0) = m' ((c.tc : Thread Cert.PremlpBwdReferenceIdeal.nD Cert.PremlpBwdReferenceIdeal.τ).loc Cert.PremlpBwdReferenceIdeal.main_arg0)
          ∧ r.2.mem ((c.tc : Thread Cert.PremlpBwdReferenceIdeal.nD Cert.PremlpBwdReferenceIdeal.τ).loc Cert.PremlpBwdReferenceIdeal.main_arg1) = m' ((c.tc : Thread Cert.PremlpBwdReferenceIdeal.nD Cert.PremlpBwdReferenceIdeal.τ).loc Cert.PremlpBwdReferenceIdeal.main_arg1)
          ∧ r.2.mem ((c.tc : Thread Cert.PremlpBwdReferenceIdeal.nD Cert.PremlpBwdReferenceIdeal.τ).loc Cert.PremlpBwdReferenceIdeal.main_arg2) = m' ((c.tc : Thread Cert.PremlpBwdReferenceIdeal.nD Cert.PremlpBwdReferenceIdeal.τ).loc Cert.PremlpBwdReferenceIdeal.main_arg2)
          ∧ r.2.mem ((c.tc : Thread Cert.PremlpBwdReferenceIdeal.nD Cert.PremlpBwdReferenceIdeal.τ).loc Cert.PremlpBwdReferenceIdeal.main_arg3) = m' ((c.tc : Thread Cert.PremlpBwdReferenceIdeal.nD Cert.PremlpBwdReferenceIdeal.τ).loc Cert.PremlpBwdReferenceIdeal.main_arg3)
          ∧ r.2.mem ((c.tc : Thread Cert.PremlpBwdReferenceIdeal.nD Cert.PremlpBwdReferenceIdeal.τ).loc Cert.PremlpBwdReferenceIdeal.main_arg4) = m' ((c.tc : Thread Cert.PremlpBwdReferenceIdeal.nD Cert.PremlpBwdReferenceIdeal.τ).loc Cert.PremlpBwdReferenceIdeal.main_arg4)
          ∧ r.2.mem ((c.tc : Thread Cert.PremlpBwdReferenceIdeal.nD Cert.PremlpBwdReferenceIdeal.τ).loc Cert.PremlpBwdReferenceIdeal.main_arg5) = m' ((c.tc : Thread Cert.PremlpBwdReferenceIdeal.nD Cert.PremlpBwdReferenceIdeal.τ).loc Cert.PremlpBwdReferenceIdeal.main_arg5)
          ∧ r.2.mem ((c.tc : Thread Cert.PremlpBwdReferenceIdeal.nD Cert.PremlpBwdReferenceIdeal.τ).loc Cert.PremlpBwdReferenceIdeal.main_arg6) = m' ((c.tc : Thread Cert.PremlpBwdReferenceIdeal.nD Cert.PremlpBwdReferenceIdeal.τ).loc Cert.PremlpBwdReferenceIdeal.main_arg6)
          ∧ r.2.mem ((c.tc : Thread Cert.PremlpBwdReferenceIdeal.nD Cert.PremlpBwdReferenceIdeal.τ).loc Cert.PremlpBwdReferenceIdeal.main_arg7) = m' ((c.tc : Thread Cert.PremlpBwdReferenceIdeal.nD Cert.PremlpBwdReferenceIdeal.τ).loc Cert.PremlpBwdReferenceIdeal.main_arg7))

def preserves_Premix_PremixIdeal : Prop :=
  True

def algebraic_PremixIdeal_PremixReferenceIdeal [hPremixIdeal : Cert.PremixIdeal.Facts] [hPremixReferenceIdeal : Cert.PremixReferenceIdeal.Facts] : Prop :=
  ∀ (m : (ℓ : Loc Cert.PremixIdeal.nD Cert.PremixIdeal.τ Cert.PremixIdeal.sig) → Buf (Elt Ideal) ℓ) (g : Dev Cert.PremixIdeal.nD → PrngReg)
    (m' : (ℓ : Loc Cert.PremixReferenceIdeal.nD Cert.PremixReferenceIdeal.τ Cert.PremixReferenceIdeal.sig) → Buf (Elt Ideal) ℓ) (g' : Dev Cert.PremixReferenceIdeal.nD → PrngReg), Pre_PremixIdeal m →
    (∀ c : Dev Cert.PremixIdeal.nD,
      m' ((c.tc : Thread Cert.PremixReferenceIdeal.nD Cert.PremixReferenceIdeal.τ).loc Cert.PremixReferenceIdeal.main_arg0) = m ((c.tc : Thread Cert.PremixIdeal.nD Cert.PremixIdeal.τ).loc Cert.PremixIdeal.main_arg0)
      ∧ m' ((c.tc : Thread Cert.PremixReferenceIdeal.nD Cert.PremixReferenceIdeal.τ).loc Cert.PremixReferenceIdeal.main_arg1) = m ((c.tc : Thread Cert.PremixIdeal.nD Cert.PremixIdeal.τ).loc Cert.PremixIdeal.main_arg1)
      ∧ m' ((c.tc : Thread Cert.PremixReferenceIdeal.nD Cert.PremixReferenceIdeal.τ).loc Cert.PremixReferenceIdeal.main_arg2) = m ((c.tc : Thread Cert.PremixIdeal.nD Cert.PremixIdeal.τ).loc Cert.PremixIdeal.main_arg2)
      ∧ m' ((c.tc : Thread Cert.PremixReferenceIdeal.nD Cert.PremixReferenceIdeal.τ).loc Cert.PremixReferenceIdeal.main_arg3) = m ((c.tc : Thread Cert.PremixIdeal.nD Cert.PremixIdeal.τ).loc Cert.PremixIdeal.main_arg3)) →
    ∃ (v0 : (c : Dev Cert.PremixIdeal.nD) → Buf (Elt Ideal) ((c.tc : Thread Cert.PremixIdeal.nD Cert.PremixIdeal.τ).loc Cert.PremixIdeal.main_v0)),
      θ_run (Cert.PremixIdeal.defs (F := Ideal)) (onTc (τ := Cert.PremixIdeal.τ) (Cert.PremixIdeal.main (F := Ideal))) ⟨m, fun _ => 0, g⟩ (fun r => ∀ c : Dev Cert.PremixIdeal.nD,
          r.2.mem ((c.tc : Thread Cert.PremixIdeal.nD Cert.PremixIdeal.τ).loc Cert.PremixIdeal.main_v0) = v0 c
          ∧ r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
          ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
          ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
          ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3))
      ∧ θ_run (Cert.PremixReferenceIdeal.defs (F := Ideal)) (onTc (τ := Cert.PremixReferenceIdeal.τ) (Cert.PremixReferenceIdeal.main (F := Ideal))) ⟨m', fun _ => 0, g'⟩ (fun r => ∀ c : Dev Cert.PremixReferenceIdeal.nD,
          r.2.mem ((c.tc : Thread Cert.PremixReferenceIdeal.nD Cert.PremixReferenceIdeal.τ).loc Cert.PremixReferenceIdeal.main_v18) = v0 c
          ∧ r.2.mem ((c.tc : Thread Cert.PremixReferenceIdeal.nD Cert.PremixReferenceIdeal.τ).loc Cert.PremixReferenceIdeal.main_arg0) = m' ((c.tc : Thread Cert.PremixReferenceIdeal.nD Cert.PremixReferenceIdeal.τ).loc Cert.PremixReferenceIdeal.main_arg0)
          ∧ r.2.mem ((c.tc : Thread Cert.PremixReferenceIdeal.nD Cert.PremixReferenceIdeal.τ).loc Cert.PremixReferenceIdeal.main_arg1) = m' ((c.tc : Thread Cert.PremixReferenceIdeal.nD Cert.PremixReferenceIdeal.τ).loc Cert.PremixReferenceIdeal.main_arg1)
          ∧ r.2.mem ((c.tc : Thread Cert.PremixReferenceIdeal.nD Cert.PremixReferenceIdeal.τ).loc Cert.PremixReferenceIdeal.main_arg2) = m' ((c.tc : Thread Cert.PremixReferenceIdeal.nD Cert.PremixReferenceIdeal.τ).loc Cert.PremixReferenceIdeal.main_arg2)
          ∧ r.2.mem ((c.tc : Thread Cert.PremixReferenceIdeal.nD Cert.PremixReferenceIdeal.τ).loc Cert.PremixReferenceIdeal.main_arg3) = m' ((c.tc : Thread Cert.PremixReferenceIdeal.nD Cert.PremixReferenceIdeal.τ).loc Cert.PremixReferenceIdeal.main_arg3))

def preserves_PostmixPremlp_PostmixPremlpIdeal : Prop :=
  True

def algebraic_PostmixPremlpIdeal_PostmixPremlpReferenceIdeal [hPostmixPremlpIdeal : Cert.PostmixPremlpIdeal.Facts] [hPostmixPremlpReferenceIdeal : Cert.PostmixPremlpReferenceIdeal.Facts] : Prop :=
  ∀ (m : (ℓ : Loc Cert.PostmixPremlpIdeal.nD Cert.PostmixPremlpIdeal.τ Cert.PostmixPremlpIdeal.sig) → Buf (Elt Ideal) ℓ) (g : Dev Cert.PostmixPremlpIdeal.nD → PrngReg)
    (m' : (ℓ : Loc Cert.PostmixPremlpReferenceIdeal.nD Cert.PostmixPremlpReferenceIdeal.τ Cert.PostmixPremlpReferenceIdeal.sig) → Buf (Elt Ideal) ℓ) (g' : Dev Cert.PostmixPremlpReferenceIdeal.nD → PrngReg), Pre_PostmixPremlpIdeal m →
    (∀ c : Dev Cert.PostmixPremlpIdeal.nD,
      m' ((c.tc : Thread Cert.PostmixPremlpReferenceIdeal.nD Cert.PostmixPremlpReferenceIdeal.τ).loc Cert.PostmixPremlpReferenceIdeal.main_arg0) = m ((c.tc : Thread Cert.PostmixPremlpIdeal.nD Cert.PostmixPremlpIdeal.τ).loc Cert.PostmixPremlpIdeal.main_arg0)
      ∧ m' ((c.tc : Thread Cert.PostmixPremlpReferenceIdeal.nD Cert.PostmixPremlpReferenceIdeal.τ).loc Cert.PostmixPremlpReferenceIdeal.main_arg1) = m ((c.tc : Thread Cert.PostmixPremlpIdeal.nD Cert.PostmixPremlpIdeal.τ).loc Cert.PostmixPremlpIdeal.main_arg1)
      ∧ m' ((c.tc : Thread Cert.PostmixPremlpReferenceIdeal.nD Cert.PostmixPremlpReferenceIdeal.τ).loc Cert.PostmixPremlpReferenceIdeal.main_arg2) = m ((c.tc : Thread Cert.PostmixPremlpIdeal.nD Cert.PostmixPremlpIdeal.τ).loc Cert.PostmixPremlpIdeal.main_arg2)
      ∧ m' ((c.tc : Thread Cert.PostmixPremlpReferenceIdeal.nD Cert.PostmixPremlpReferenceIdeal.τ).loc Cert.PostmixPremlpReferenceIdeal.main_arg3) = m ((c.tc : Thread Cert.PostmixPremlpIdeal.nD Cert.PostmixPremlpIdeal.τ).loc Cert.PostmixPremlpIdeal.main_arg3)
      ∧ m' ((c.tc : Thread Cert.PostmixPremlpReferenceIdeal.nD Cert.PostmixPremlpReferenceIdeal.τ).loc Cert.PostmixPremlpReferenceIdeal.main_arg4) = m ((c.tc : Thread Cert.PostmixPremlpIdeal.nD Cert.PostmixPremlpIdeal.τ).loc Cert.PostmixPremlpIdeal.main_arg4)
      ∧ m' ((c.tc : Thread Cert.PostmixPremlpReferenceIdeal.nD Cert.PostmixPremlpReferenceIdeal.τ).loc Cert.PostmixPremlpReferenceIdeal.main_arg5) = m ((c.tc : Thread Cert.PostmixPremlpIdeal.nD Cert.PostmixPremlpIdeal.τ).loc Cert.PostmixPremlpIdeal.main_arg5)
      ∧ m' ((c.tc : Thread Cert.PostmixPremlpReferenceIdeal.nD Cert.PostmixPremlpReferenceIdeal.τ).loc Cert.PostmixPremlpReferenceIdeal.main_arg6) = m ((c.tc : Thread Cert.PostmixPremlpIdeal.nD Cert.PostmixPremlpIdeal.τ).loc Cert.PostmixPremlpIdeal.main_arg6)) →
    ∃ (v0 : (c : Dev Cert.PostmixPremlpIdeal.nD) → Buf (Elt Ideal) ((c.tc : Thread Cert.PostmixPremlpIdeal.nD Cert.PostmixPremlpIdeal.τ).loc Cert.PostmixPremlpIdeal.main_v0_0)) (v1 : (c : Dev Cert.PostmixPremlpIdeal.nD) → Buf (Elt Ideal) ((c.tc : Thread Cert.PostmixPremlpIdeal.nD Cert.PostmixPremlpIdeal.τ).loc Cert.PostmixPremlpIdeal.main_v0_1)),
      θ_run (Cert.PostmixPremlpIdeal.defs (F := Ideal)) (onTc (τ := Cert.PostmixPremlpIdeal.τ) (Cert.PostmixPremlpIdeal.main (F := Ideal))) ⟨m, fun _ => 0, g⟩ (fun r => ∀ c : Dev Cert.PostmixPremlpIdeal.nD,
          r.2.mem ((c.tc : Thread Cert.PostmixPremlpIdeal.nD Cert.PostmixPremlpIdeal.τ).loc Cert.PostmixPremlpIdeal.main_v0_0) = v0 c
          ∧ r.2.mem ((c.tc : Thread Cert.PostmixPremlpIdeal.nD Cert.PostmixPremlpIdeal.τ).loc Cert.PostmixPremlpIdeal.main_v0_1) = v1 c
          ∧ r.2.mem ((c.tc : Thread Cert.PostmixPremlpIdeal.nD Cert.PostmixPremlpIdeal.τ).loc Cert.PostmixPremlpIdeal.main_arg0) = m ((c.tc : Thread Cert.PostmixPremlpIdeal.nD Cert.PostmixPremlpIdeal.τ).loc Cert.PostmixPremlpIdeal.main_arg0)
          ∧ r.2.mem ((c.tc : Thread Cert.PostmixPremlpIdeal.nD Cert.PostmixPremlpIdeal.τ).loc Cert.PostmixPremlpIdeal.main_arg1) = m ((c.tc : Thread Cert.PostmixPremlpIdeal.nD Cert.PostmixPremlpIdeal.τ).loc Cert.PostmixPremlpIdeal.main_arg1)
          ∧ r.2.mem ((c.tc : Thread Cert.PostmixPremlpIdeal.nD Cert.PostmixPremlpIdeal.τ).loc Cert.PostmixPremlpIdeal.main_arg2) = m ((c.tc : Thread Cert.PostmixPremlpIdeal.nD Cert.PostmixPremlpIdeal.τ).loc Cert.PostmixPremlpIdeal.main_arg2)
          ∧ r.2.mem ((c.tc : Thread Cert.PostmixPremlpIdeal.nD Cert.PostmixPremlpIdeal.τ).loc Cert.PostmixPremlpIdeal.main_arg3) = m ((c.tc : Thread Cert.PostmixPremlpIdeal.nD Cert.PostmixPremlpIdeal.τ).loc Cert.PostmixPremlpIdeal.main_arg3)
          ∧ r.2.mem ((c.tc : Thread Cert.PostmixPremlpIdeal.nD Cert.PostmixPremlpIdeal.τ).loc Cert.PostmixPremlpIdeal.main_arg4) = m ((c.tc : Thread Cert.PostmixPremlpIdeal.nD Cert.PostmixPremlpIdeal.τ).loc Cert.PostmixPremlpIdeal.main_arg4)
          ∧ r.2.mem ((c.tc : Thread Cert.PostmixPremlpIdeal.nD Cert.PostmixPremlpIdeal.τ).loc Cert.PostmixPremlpIdeal.main_arg5) = m ((c.tc : Thread Cert.PostmixPremlpIdeal.nD Cert.PostmixPremlpIdeal.τ).loc Cert.PostmixPremlpIdeal.main_arg5)
          ∧ r.2.mem ((c.tc : Thread Cert.PostmixPremlpIdeal.nD Cert.PostmixPremlpIdeal.τ).loc Cert.PostmixPremlpIdeal.main_arg6) = m ((c.tc : Thread Cert.PostmixPremlpIdeal.nD Cert.PostmixPremlpIdeal.τ).loc Cert.PostmixPremlpIdeal.main_arg6))
      ∧ θ_run (Cert.PostmixPremlpReferenceIdeal.defs (F := Ideal)) (onTc (τ := Cert.PostmixPremlpReferenceIdeal.τ) (Cert.PostmixPremlpReferenceIdeal.main (F := Ideal))) ⟨m', fun _ => 0, g'⟩ (fun r => ∀ c : Dev Cert.PostmixPremlpReferenceIdeal.nD,
          r.2.mem ((c.tc : Thread Cert.PostmixPremlpReferenceIdeal.nD Cert.PostmixPremlpReferenceIdeal.τ).loc Cert.PostmixPremlpReferenceIdeal.main_v14) = v0 c
          ∧ r.2.mem ((c.tc : Thread Cert.PostmixPremlpReferenceIdeal.nD Cert.PostmixPremlpReferenceIdeal.τ).loc Cert.PostmixPremlpReferenceIdeal.main_v33) = v1 c
          ∧ r.2.mem ((c.tc : Thread Cert.PostmixPremlpReferenceIdeal.nD Cert.PostmixPremlpReferenceIdeal.τ).loc Cert.PostmixPremlpReferenceIdeal.main_arg0) = m' ((c.tc : Thread Cert.PostmixPremlpReferenceIdeal.nD Cert.PostmixPremlpReferenceIdeal.τ).loc Cert.PostmixPremlpReferenceIdeal.main_arg0)
          ∧ r.2.mem ((c.tc : Thread Cert.PostmixPremlpReferenceIdeal.nD Cert.PostmixPremlpReferenceIdeal.τ).loc Cert.PostmixPremlpReferenceIdeal.main_arg1) = m' ((c.tc : Thread Cert.PostmixPremlpReferenceIdeal.nD Cert.PostmixPremlpReferenceIdeal.τ).loc Cert.PostmixPremlpReferenceIdeal.main_arg1)
          ∧ r.2.mem ((c.tc : Thread Cert.PostmixPremlpReferenceIdeal.nD Cert.PostmixPremlpReferenceIdeal.τ).loc Cert.PostmixPremlpReferenceIdeal.main_arg2) = m' ((c.tc : Thread Cert.PostmixPremlpReferenceIdeal.nD Cert.PostmixPremlpReferenceIdeal.τ).loc Cert.PostmixPremlpReferenceIdeal.main_arg2)
          ∧ r.2.mem ((c.tc : Thread Cert.PostmixPremlpReferenceIdeal.nD Cert.PostmixPremlpReferenceIdeal.τ).loc Cert.PostmixPremlpReferenceIdeal.main_arg3) = m' ((c.tc : Thread Cert.PostmixPremlpReferenceIdeal.nD Cert.PostmixPremlpReferenceIdeal.τ).loc Cert.PostmixPremlpReferenceIdeal.main_arg3)
          ∧ r.2.mem ((c.tc : Thread Cert.PostmixPremlpReferenceIdeal.nD Cert.PostmixPremlpReferenceIdeal.τ).loc Cert.PostmixPremlpReferenceIdeal.main_arg4) = m' ((c.tc : Thread Cert.PostmixPremlpReferenceIdeal.nD Cert.PostmixPremlpReferenceIdeal.τ).loc Cert.PostmixPremlpReferenceIdeal.main_arg4)
          ∧ r.2.mem ((c.tc : Thread Cert.PostmixPremlpReferenceIdeal.nD Cert.PostmixPremlpReferenceIdeal.τ).loc Cert.PostmixPremlpReferenceIdeal.main_arg5) = m' ((c.tc : Thread Cert.PostmixPremlpReferenceIdeal.nD Cert.PostmixPremlpReferenceIdeal.τ).loc Cert.PostmixPremlpReferenceIdeal.main_arg5)
          ∧ r.2.mem ((c.tc : Thread Cert.PostmixPremlpReferenceIdeal.nD Cert.PostmixPremlpReferenceIdeal.τ).loc Cert.PostmixPremlpReferenceIdeal.main_arg6) = m' ((c.tc : Thread Cert.PostmixPremlpReferenceIdeal.nD Cert.PostmixPremlpReferenceIdeal.τ).loc Cert.PostmixPremlpReferenceIdeal.main_arg6))

def preserves_ProjMain_ProjMainIdeal : Prop :=
  True

def algebraic_ProjMainIdeal_ProjMainReferenceIdeal [hProjMainIdeal : Cert.ProjMainIdeal.Facts] [hProjMainReferenceIdeal : Cert.ProjMainReferenceIdeal.Facts] : Prop :=
  ∀ (m : (ℓ : Loc Cert.ProjMainIdeal.nD Cert.ProjMainIdeal.τ Cert.ProjMainIdeal.sig) → Buf (Elt Ideal) ℓ) (g : Dev Cert.ProjMainIdeal.nD → PrngReg)
    (m' : (ℓ : Loc Cert.ProjMainReferenceIdeal.nD Cert.ProjMainReferenceIdeal.τ Cert.ProjMainReferenceIdeal.sig) → Buf (Elt Ideal) ℓ) (g' : Dev Cert.ProjMainReferenceIdeal.nD → PrngReg), Pre_ProjMainIdeal m →
    (∀ c : Dev Cert.ProjMainIdeal.nD,
      m' ((c.tc : Thread Cert.ProjMainReferenceIdeal.nD Cert.ProjMainReferenceIdeal.τ).loc Cert.ProjMainReferenceIdeal.main_arg0) = m ((c.tc : Thread Cert.ProjMainIdeal.nD Cert.ProjMainIdeal.τ).loc Cert.ProjMainIdeal.main_arg0)
      ∧ m' ((c.tc : Thread Cert.ProjMainReferenceIdeal.nD Cert.ProjMainReferenceIdeal.τ).loc Cert.ProjMainReferenceIdeal.main_arg1) = m ((c.tc : Thread Cert.ProjMainIdeal.nD Cert.ProjMainIdeal.τ).loc Cert.ProjMainIdeal.main_arg1)) →
    ∃ (v0 : (c : Dev Cert.ProjMainIdeal.nD) → Buf (Elt Ideal) ((c.tc : Thread Cert.ProjMainIdeal.nD Cert.ProjMainIdeal.τ).loc Cert.ProjMainIdeal.main_v0)),
      θ_run (Cert.ProjMainIdeal.defs (F := Ideal)) (onTc (τ := Cert.ProjMainIdeal.τ) (Cert.ProjMainIdeal.main (F := Ideal))) ⟨m, fun _ => 0, g⟩ (fun r => ∀ c : Dev Cert.ProjMainIdeal.nD,
          r.2.mem ((c.tc : Thread Cert.ProjMainIdeal.nD Cert.ProjMainIdeal.τ).loc Cert.ProjMainIdeal.main_v0) = v0 c
          ∧ r.2.mem ((c.tc : Thread Cert.ProjMainIdeal.nD Cert.ProjMainIdeal.τ).loc Cert.ProjMainIdeal.main_arg0) = m ((c.tc : Thread Cert.ProjMainIdeal.nD Cert.ProjMainIdeal.τ).loc Cert.ProjMainIdeal.main_arg0)
          ∧ r.2.mem ((c.tc : Thread Cert.ProjMainIdeal.nD Cert.ProjMainIdeal.τ).loc Cert.ProjMainIdeal.main_arg1) = m ((c.tc : Thread Cert.ProjMainIdeal.nD Cert.ProjMainIdeal.τ).loc Cert.ProjMainIdeal.main_arg1))
      ∧ θ_run (Cert.ProjMainReferenceIdeal.defs (F := Ideal)) (onTc (τ := Cert.ProjMainReferenceIdeal.τ) (Cert.ProjMainReferenceIdeal.main (F := Ideal))) ⟨m', fun _ => 0, g'⟩ (fun r => ∀ c : Dev Cert.ProjMainReferenceIdeal.nD,
          r.2.mem ((c.tc : Thread Cert.ProjMainReferenceIdeal.nD Cert.ProjMainReferenceIdeal.τ).loc Cert.ProjMainReferenceIdeal.main_v3) = v0 c
          ∧ r.2.mem ((c.tc : Thread Cert.ProjMainReferenceIdeal.nD Cert.ProjMainReferenceIdeal.τ).loc Cert.ProjMainReferenceIdeal.main_arg0) = m' ((c.tc : Thread Cert.ProjMainReferenceIdeal.nD Cert.ProjMainReferenceIdeal.τ).loc Cert.ProjMainReferenceIdeal.main_arg0)
          ∧ r.2.mem ((c.tc : Thread Cert.ProjMainReferenceIdeal.nD Cert.ProjMainReferenceIdeal.τ).loc Cert.ProjMainReferenceIdeal.main_arg1) = m' ((c.tc : Thread Cert.ProjMainReferenceIdeal.nD Cert.ProjMainReferenceIdeal.τ).loc Cert.ProjMainReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1))

def preserves_MlpIn_MlpInIdeal : Prop :=
  True

def algebraic_MlpInIdeal_MlpInReferenceIdeal [hMlpInIdeal : Cert.MlpInIdeal.Facts] [hMlpInReferenceIdeal : Cert.MlpInReferenceIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInReferenceIdeal.nD Cert.MlpInReferenceIdeal.τ Cert.MlpInReferenceIdeal.sig) → Buf (Elt Ideal) ℓ) (g' : Dev Cert.MlpInReferenceIdeal.nD → PrngReg), Pre_MlpInIdeal m →
    (∀ c : Dev Cert.MlpInIdeal.nD,
      m' ((c.tc : Thread Cert.MlpInReferenceIdeal.nD Cert.MlpInReferenceIdeal.τ).loc Cert.MlpInReferenceIdeal.main_arg0) = m ((c.tc : Thread Cert.MlpInIdeal.nD Cert.MlpInIdeal.τ).loc Cert.MlpInIdeal.main_arg0)
      ∧ m' ((c.tc : Thread Cert.MlpInReferenceIdeal.nD Cert.MlpInReferenceIdeal.τ).loc Cert.MlpInReferenceIdeal.main_arg1) = m ((c.tc : Thread Cert.MlpInIdeal.nD Cert.MlpInIdeal.τ).loc Cert.MlpInIdeal.main_arg1)) →
    ∃ (v0 : (c : Dev Cert.MlpInIdeal.nD) → Buf (Elt Ideal) ((c.tc : Thread Cert.MlpInIdeal.nD Cert.MlpInIdeal.τ).loc Cert.MlpInIdeal.main_v0_0)) (v1 : (c : Dev Cert.MlpInIdeal.nD) → Buf (Elt Ideal) ((c.tc : Thread Cert.MlpInIdeal.nD Cert.MlpInIdeal.τ).loc Cert.MlpInIdeal.main_v0_1)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v0_0) = v0 c
          ∧ r.2.mem ((c.tc : Thread Cert.MlpInIdeal.nD Cert.MlpInIdeal.τ).loc Cert.MlpInIdeal.main_v0_1) = v1 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ θ_run (Cert.MlpInReferenceIdeal.defs (F := Ideal)) (onTc (τ := Cert.MlpInReferenceIdeal.τ) (Cert.MlpInReferenceIdeal.main (F := Ideal))) ⟨m', fun _ => 0, g'⟩ (fun r => ∀ c : Dev Cert.MlpInReferenceIdeal.nD,
          r.2.mem ((c.tc : Thread Cert.MlpInReferenceIdeal.nD Cert.MlpInReferenceIdeal.τ).loc Cert.MlpInReferenceIdeal.main_v7) = v0 c
          ∧ r.2.mem ((c.tc : Thread Cert.MlpInReferenceIdeal.nD Cert.MlpInReferenceIdeal.τ).loc Cert.MlpInReferenceIdeal.main_v8) = v1 c
          ∧ r.2.mem ((c.tc : Thread Cert.MlpInReferenceIdeal.nD Cert.MlpInReferenceIdeal.τ).loc Cert.MlpInReferenceIdeal.main_arg0) = m' ((c.tc : Thread Cert.MlpInReferenceIdeal.nD Cert.MlpInReferenceIdeal.τ).loc Cert.MlpInReferenceIdeal.main_arg0)
          ∧ r.2.mem ((c.tc : Thread Cert.MlpInReferenceIdeal.nD Cert.MlpInReferenceIdeal.τ).loc Cert.MlpInReferenceIdeal.main_arg1) = m' ((c.tc : Thread Cert.MlpInReferenceIdeal.nD Cert.MlpInReferenceIdeal.τ).loc Cert.MlpInReferenceIdeal.main_arg1))

def preserves_MlpOut_MlpOutIdeal : Prop :=
  True

def algebraic_MlpOutIdeal_MlpOutReferenceIdeal [hMlpOutIdeal : Cert.MlpOutIdeal.Facts] [hMlpOutReferenceIdeal : Cert.MlpOutReferenceIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutReferenceIdeal.nD Cert.MlpOutReferenceIdeal.τ Cert.MlpOutReferenceIdeal.sig) → Buf (Elt Ideal) ℓ) (g' : Dev Cert.MlpOutReferenceIdeal.nD → PrngReg), Pre_MlpOutIdeal m →
    (∀ c : Dev Cert.MlpOutIdeal.nD,
      m' ((c.tc : Thread Cert.MlpOutReferenceIdeal.nD Cert.MlpOutReferenceIdeal.τ).loc Cert.MlpOutReferenceIdeal.main_arg0) = m ((c.tc : Thread Cert.MlpOutIdeal.nD Cert.MlpOutIdeal.τ).loc Cert.MlpOutIdeal.main_arg0)
      ∧ m' ((c.tc : Thread Cert.MlpOutReferenceIdeal.nD Cert.MlpOutReferenceIdeal.τ).loc Cert.MlpOutReferenceIdeal.main_arg1) = m ((c.tc : Thread Cert.MlpOutIdeal.nD Cert.MlpOutIdeal.τ).loc Cert.MlpOutIdeal.main_arg1)) →
    ∃ (v0 : (c : Dev Cert.MlpOutIdeal.nD) → Buf (Elt Ideal) ((c.tc : Thread Cert.MlpOutIdeal.nD Cert.MlpOutIdeal.τ).loc Cert.MlpOutIdeal.main_v0)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v0) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ θ_run (Cert.MlpOutReferenceIdeal.defs (F := Ideal)) (onTc (τ := Cert.MlpOutReferenceIdeal.τ) (Cert.MlpOutReferenceIdeal.main (F := Ideal))) ⟨m', fun _ => 0, g'⟩ (fun r => ∀ c : Dev Cert.MlpOutReferenceIdeal.nD,
          r.2.mem ((c.tc : Thread Cert.MlpOutReferenceIdeal.nD Cert.MlpOutReferenceIdeal.τ).loc Cert.MlpOutReferenceIdeal.main_v2) = v0 c
          ∧ r.2.mem ((c.tc : Thread Cert.MlpOutReferenceIdeal.nD Cert.MlpOutReferenceIdeal.τ).loc Cert.MlpOutReferenceIdeal.main_arg0) = m' ((c.tc : Thread Cert.MlpOutReferenceIdeal.nD Cert.MlpOutReferenceIdeal.τ).loc Cert.MlpOutReferenceIdeal.main_arg0)
          ∧ r.2.mem ((c.tc : Thread Cert.MlpOutReferenceIdeal.nD Cert.MlpOutReferenceIdeal.τ).loc Cert.MlpOutReferenceIdeal.main_arg1) = m' ((c.tc : Thread Cert.MlpOutReferenceIdeal.nD Cert.MlpOutReferenceIdeal.τ).loc Cert.MlpOutReferenceIdeal.main_arg1))

def preserves_MlpOutDx_MlpOutDxIdeal : Prop :=
  True

def algebraic_MlpOutDxIdeal_MlpOutDxReferenceIdeal [hMlpOutDxIdeal : Cert.MlpOutDxIdeal.Facts] [hMlpOutDxReferenceIdeal : Cert.MlpOutDxReferenceIdeal.Facts] : Prop :=
  ∀ (m : (ℓ : Loc Cert.MlpOutDxIdeal.nD Cert.MlpOutDxIdeal.τ Cert.MlpOutDxIdeal.sig) → Buf (Elt Ideal) ℓ) (g : Dev Cert.MlpOutDxIdeal.nD → PrngReg)
    (m' : (ℓ : Loc Cert.MlpOutDxReferenceIdeal.nD Cert.MlpOutDxReferenceIdeal.τ Cert.MlpOutDxReferenceIdeal.sig) → Buf (Elt Ideal) ℓ) (g' : Dev Cert.MlpOutDxReferenceIdeal.nD → PrngReg), Pre_MlpOutDxIdeal m →
    (∀ c : Dev Cert.MlpOutDxIdeal.nD,
      m' ((c.tc : Thread Cert.MlpOutDxReferenceIdeal.nD Cert.MlpOutDxReferenceIdeal.τ).loc Cert.MlpOutDxReferenceIdeal.main_arg0) = m ((c.tc : Thread Cert.MlpOutDxIdeal.nD Cert.MlpOutDxIdeal.τ).loc Cert.MlpOutDxIdeal.main_arg0)
      ∧ m' ((c.tc : Thread Cert.MlpOutDxReferenceIdeal.nD Cert.MlpOutDxReferenceIdeal.τ).loc Cert.MlpOutDxReferenceIdeal.main_arg1) = m ((c.tc : Thread Cert.MlpOutDxIdeal.nD Cert.MlpOutDxIdeal.τ).loc Cert.MlpOutDxIdeal.main_arg1)
      ∧ m' ((c.tc : Thread Cert.MlpOutDxReferenceIdeal.nD Cert.MlpOutDxReferenceIdeal.τ).loc Cert.MlpOutDxReferenceIdeal.main_arg2) = m ((c.tc : Thread Cert.MlpOutDxIdeal.nD Cert.MlpOutDxIdeal.τ).loc Cert.MlpOutDxIdeal.main_arg2)) →
    ∃ (v0 : (c : Dev Cert.MlpOutDxIdeal.nD) → Buf (Elt Ideal) ((c.tc : Thread Cert.MlpOutDxIdeal.nD Cert.MlpOutDxIdeal.τ).loc Cert.MlpOutDxIdeal.main_v0)),
      θ_run (Cert.MlpOutDxIdeal.defs (F := Ideal)) (onTc (τ := Cert.MlpOutDxIdeal.τ) (Cert.MlpOutDxIdeal.main (F := Ideal))) ⟨m, fun _ => 0, g⟩ (fun r => ∀ c : Dev Cert.MlpOutDxIdeal.nD,
          r.2.mem ((c.tc : Thread Cert.MlpOutDxIdeal.nD Cert.MlpOutDxIdeal.τ).loc Cert.MlpOutDxIdeal.main_v0) = v0 c
          ∧ r.2.mem ((c.tc : Thread Cert.MlpOutDxIdeal.nD Cert.MlpOutDxIdeal.τ).loc Cert.MlpOutDxIdeal.main_arg0) = m ((c.tc : Thread Cert.MlpOutDxIdeal.nD Cert.MlpOutDxIdeal.τ).loc Cert.MlpOutDxIdeal.main_arg0)
          ∧ r.2.mem ((c.tc : Thread Cert.MlpOutDxIdeal.nD Cert.MlpOutDxIdeal.τ).loc Cert.MlpOutDxIdeal.main_arg1) = m ((c.tc : Thread Cert.MlpOutDxIdeal.nD Cert.MlpOutDxIdeal.τ).loc Cert.MlpOutDxIdeal.main_arg1)
          ∧ r.2.mem ((c.tc : Thread Cert.MlpOutDxIdeal.nD Cert.MlpOutDxIdeal.τ).loc Cert.MlpOutDxIdeal.main_arg2) = m ((c.tc : Thread Cert.MlpOutDxIdeal.nD Cert.MlpOutDxIdeal.τ).loc Cert.MlpOutDxIdeal.main_arg2))
      ∧ θ_run (Cert.MlpOutDxReferenceIdeal.defs (F := Ideal)) (onTc (τ := Cert.MlpOutDxReferenceIdeal.τ) (Cert.MlpOutDxReferenceIdeal.main (F := Ideal))) ⟨m', fun _ => 0, g'⟩ (fun r => ∀ c : Dev Cert.MlpOutDxReferenceIdeal.nD,
          r.2.mem ((c.tc : Thread Cert.MlpOutDxReferenceIdeal.nD Cert.MlpOutDxReferenceIdeal.τ).loc Cert.MlpOutDxReferenceIdeal.main_v9) = v0 c
          ∧ r.2.mem ((c.tc : Thread Cert.MlpOutDxReferenceIdeal.nD Cert.MlpOutDxReferenceIdeal.τ).loc Cert.MlpOutDxReferenceIdeal.main_arg0) = m' ((c.tc : Thread Cert.MlpOutDxReferenceIdeal.nD Cert.MlpOutDxReferenceIdeal.τ).loc Cert.MlpOutDxReferenceIdeal.main_arg0)
          ∧ r.2.mem ((c.tc : Thread Cert.MlpOutDxReferenceIdeal.nD Cert.MlpOutDxReferenceIdeal.τ).loc Cert.MlpOutDxReferenceIdeal.main_arg1) = m' ((c.tc : Thread Cert.MlpOutDxReferenceIdeal.nD Cert.MlpOutDxReferenceIdeal.τ).loc Cert.MlpOutDxReferenceIdeal.main_arg1)
          ∧ r.2.mem ((c.tc : Thread Cert.MlpOutDxReferenceIdeal.nD Cert.MlpOutDxReferenceIdeal.τ).loc Cert.MlpOutDxReferenceIdeal.main_arg2) = m' ((c.tc : Thread Cert.MlpOutDxReferenceIdeal.nD Cert.MlpOutDxReferenceIdeal.τ).loc Cert.MlpOutDxReferenceIdeal.main_arg2))

def preserves_MlpOutDw_MlpOutDwIdeal : Prop :=
  True

def algebraic_MlpOutDwIdeal_MlpOutDwReferenceIdeal [hMlpOutDwIdeal : Cert.MlpOutDwIdeal.Facts] [hMlpOutDwReferenceIdeal : Cert.MlpOutDwReferenceIdeal.Facts] : Prop :=
  ∀ (m : (ℓ : Loc Cert.MlpOutDwIdeal.nD Cert.MlpOutDwIdeal.τ Cert.MlpOutDwIdeal.sig) → Buf (Elt Ideal) ℓ) (g : Dev Cert.MlpOutDwIdeal.nD → PrngReg)
    (m' : (ℓ : Loc Cert.MlpOutDwReferenceIdeal.nD Cert.MlpOutDwReferenceIdeal.τ Cert.MlpOutDwReferenceIdeal.sig) → Buf (Elt Ideal) ℓ) (g' : Dev Cert.MlpOutDwReferenceIdeal.nD → PrngReg), Pre_MlpOutDwIdeal m →
    (∀ c : Dev Cert.MlpOutDwIdeal.nD,
      m' ((c.tc : Thread Cert.MlpOutDwReferenceIdeal.nD Cert.MlpOutDwReferenceIdeal.τ).loc Cert.MlpOutDwReferenceIdeal.main_arg0) = m ((c.tc : Thread Cert.MlpOutDwIdeal.nD Cert.MlpOutDwIdeal.τ).loc Cert.MlpOutDwIdeal.main_arg0)
      ∧ m' ((c.tc : Thread Cert.MlpOutDwReferenceIdeal.nD Cert.MlpOutDwReferenceIdeal.τ).loc Cert.MlpOutDwReferenceIdeal.main_arg1) = m ((c.tc : Thread Cert.MlpOutDwIdeal.nD Cert.MlpOutDwIdeal.τ).loc Cert.MlpOutDwIdeal.main_arg1)) →
    ∃ (v0 : (c : Dev Cert.MlpOutDwIdeal.nD) → Buf (Elt Ideal) ((c.tc : Thread Cert.MlpOutDwIdeal.nD Cert.MlpOutDwIdeal.τ).loc Cert.MlpOutDwIdeal.main_v0)),
      θ_run (Cert.MlpOutDwIdeal.defs (F := Ideal)) (onTc (τ := Cert.MlpOutDwIdeal.τ) (Cert.MlpOutDwIdeal.main (F := Ideal))) ⟨m, fun _ => 0, g⟩ (fun r => ∀ c : Dev Cert.MlpOutDwIdeal.nD,
          r.2.mem ((c.tc : Thread Cert.MlpOutDwIdeal.nD Cert.MlpOutDwIdeal.τ).loc Cert.MlpOutDwIdeal.main_v0) = v0 c
          ∧ r.2.mem ((c.tc : Thread Cert.MlpOutDwIdeal.nD Cert.MlpOutDwIdeal.τ).loc Cert.MlpOutDwIdeal.main_arg0) = m ((c.tc : Thread Cert.MlpOutDwIdeal.nD Cert.MlpOutDwIdeal.τ).loc Cert.MlpOutDwIdeal.main_arg0)
          ∧ r.2.mem ((c.tc : Thread Cert.MlpOutDwIdeal.nD Cert.MlpOutDwIdeal.τ).loc Cert.MlpOutDwIdeal.main_arg1) = m ((c.tc : Thread Cert.MlpOutDwIdeal.nD Cert.MlpOutDwIdeal.τ).loc Cert.MlpOutDwIdeal.main_arg1))
      ∧ θ_run (Cert.MlpOutDwReferenceIdeal.defs (F := Ideal)) (onTc (τ := Cert.MlpOutDwReferenceIdeal.τ) (Cert.MlpOutDwReferenceIdeal.main (F := Ideal))) ⟨m', fun _ => 0, g'⟩ (fun r => ∀ c : Dev Cert.MlpOutDwReferenceIdeal.nD,
          r.2.mem ((c.tc : Thread Cert.MlpOutDwReferenceIdeal.nD Cert.MlpOutDwReferenceIdeal.τ).loc Cert.MlpOutDwReferenceIdeal.main_v4) = v0 c
          ∧ r.2.mem ((c.tc : Thread Cert.MlpOutDwReferenceIdeal.nD Cert.MlpOutDwReferenceIdeal.τ).loc Cert.MlpOutDwReferenceIdeal.main_arg0) = m' ((c.tc : Thread Cert.MlpOutDwReferenceIdeal.nD Cert.MlpOutDwReferenceIdeal.τ).loc Cert.MlpOutDwReferenceIdeal.main_arg0)
          ∧ r.2.mem ((c.tc : Thread Cert.MlpOutDwReferenceIdeal.nD Cert.MlpOutDwReferenceIdeal.τ).loc Cert.MlpOutDwReferenceIdeal.main_arg1) = m' ((c.tc : Thread Cert.MlpOutDwReferenceIdeal.nD Cert.MlpOutDwReferenceIdeal.τ).loc Cert.MlpOutDwReferenceIdeal.main_arg1))

def preserves_MlpInDx_MlpInDxIdeal : Prop :=
  True

def algebraic_MlpInDxIdeal_MlpInDxReferenceIdeal [hMlpInDxIdeal : Cert.MlpInDxIdeal.Facts] [hMlpInDxReferenceIdeal : Cert.MlpInDxReferenceIdeal.Facts] : Prop :=
  ∀ (m : (ℓ : Loc Cert.MlpInDxIdeal.nD Cert.MlpInDxIdeal.τ Cert.MlpInDxIdeal.sig) → Buf (Elt Ideal) ℓ) (g : Dev Cert.MlpInDxIdeal.nD → PrngReg)
    (m' : (ℓ : Loc Cert.MlpInDxReferenceIdeal.nD Cert.MlpInDxReferenceIdeal.τ Cert.MlpInDxReferenceIdeal.sig) → Buf (Elt Ideal) ℓ) (g' : Dev Cert.MlpInDxReferenceIdeal.nD → PrngReg), Pre_MlpInDxIdeal m →
    (∀ c : Dev Cert.MlpInDxIdeal.nD,
      m' ((c.tc : Thread Cert.MlpInDxReferenceIdeal.nD Cert.MlpInDxReferenceIdeal.τ).loc Cert.MlpInDxReferenceIdeal.main_arg0) = m ((c.tc : Thread Cert.MlpInDxIdeal.nD Cert.MlpInDxIdeal.τ).loc Cert.MlpInDxIdeal.main_arg0)
      ∧ m' ((c.tc : Thread Cert.MlpInDxReferenceIdeal.nD Cert.MlpInDxReferenceIdeal.τ).loc Cert.MlpInDxReferenceIdeal.main_arg1) = m ((c.tc : Thread Cert.MlpInDxIdeal.nD Cert.MlpInDxIdeal.τ).loc Cert.MlpInDxIdeal.main_arg1)) →
    ∃ (v0 : (c : Dev Cert.MlpInDxIdeal.nD) → Buf (Elt Ideal) ((c.tc : Thread Cert.MlpInDxIdeal.nD Cert.MlpInDxIdeal.τ).loc Cert.MlpInDxIdeal.main_v0)),
      θ_run (Cert.MlpInDxIdeal.defs (F := Ideal)) (onTc (τ := Cert.MlpInDxIdeal.τ) (Cert.MlpInDxIdeal.main (F := Ideal))) ⟨m, fun _ => 0, g⟩ (fun r => ∀ c : Dev Cert.MlpInDxIdeal.nD,
          r.2.mem ((c.tc : Thread Cert.MlpInDxIdeal.nD Cert.MlpInDxIdeal.τ).loc Cert.MlpInDxIdeal.main_v0) = v0 c
          ∧ r.2.mem ((c.tc : Thread Cert.MlpInDxIdeal.nD Cert.MlpInDxIdeal.τ).loc Cert.MlpInDxIdeal.main_arg0) = m ((c.tc : Thread Cert.MlpInDxIdeal.nD Cert.MlpInDxIdeal.τ).loc Cert.MlpInDxIdeal.main_arg0)
          ∧ r.2.mem ((c.tc : Thread Cert.MlpInDxIdeal.nD Cert.MlpInDxIdeal.τ).loc Cert.MlpInDxIdeal.main_arg1) = m ((c.tc : Thread Cert.MlpInDxIdeal.nD Cert.MlpInDxIdeal.τ).loc Cert.MlpInDxIdeal.main_arg1))
      ∧ θ_run (Cert.MlpInDxReferenceIdeal.defs (F := Ideal)) (onTc (τ := Cert.MlpInDxReferenceIdeal.τ) (Cert.MlpInDxReferenceIdeal.main (F := Ideal))) ⟨m', fun _ => 0, g'⟩ (fun r => ∀ c : Dev Cert.MlpInDxReferenceIdeal.nD,
          r.2.mem ((c.tc : Thread Cert.MlpInDxReferenceIdeal.nD Cert.MlpInDxReferenceIdeal.τ).loc Cert.MlpInDxReferenceIdeal.main_v5) = v0 c
          ∧ r.2.mem ((c.tc : Thread Cert.MlpInDxReferenceIdeal.nD Cert.MlpInDxReferenceIdeal.τ).loc Cert.MlpInDxReferenceIdeal.main_arg0) = m' ((c.tc : Thread Cert.MlpInDxReferenceIdeal.nD Cert.MlpInDxReferenceIdeal.τ).loc Cert.MlpInDxReferenceIdeal.main_arg0)
          ∧ r.2.mem ((c.tc : Thread Cert.MlpInDxReferenceIdeal.nD Cert.MlpInDxReferenceIdeal.τ).loc Cert.MlpInDxReferenceIdeal.main_arg1) = m' ((c.tc : Thread Cert.MlpInDxReferenceIdeal.nD Cert.MlpInDxReferenceIdeal.τ).loc Cert.MlpInDxReferenceIdeal.main_arg1))

def preserves_MlpInDw_MlpInDwIdeal : Prop :=
  True

def algebraic_MlpInDwIdeal_MlpInDwReferenceIdeal [hMlpInDwIdeal : Cert.MlpInDwIdeal.Facts] [hMlpInDwReferenceIdeal : Cert.MlpInDwReferenceIdeal.Facts] : Prop :=
  ∀ (m : (ℓ : Loc Cert.MlpInDwIdeal.nD Cert.MlpInDwIdeal.τ Cert.MlpInDwIdeal.sig) → Buf (Elt Ideal) ℓ) (g : Dev Cert.MlpInDwIdeal.nD → PrngReg)
    (m' : (ℓ : Loc Cert.MlpInDwReferenceIdeal.nD Cert.MlpInDwReferenceIdeal.τ Cert.MlpInDwReferenceIdeal.sig) → Buf (Elt Ideal) ℓ) (g' : Dev Cert.MlpInDwReferenceIdeal.nD → PrngReg), Pre_MlpInDwIdeal m →
    (∀ c : Dev Cert.MlpInDwIdeal.nD,
      m' ((c.tc : Thread Cert.MlpInDwReferenceIdeal.nD Cert.MlpInDwReferenceIdeal.τ).loc Cert.MlpInDwReferenceIdeal.main_arg0) = m ((c.tc : Thread Cert.MlpInDwIdeal.nD Cert.MlpInDwIdeal.τ).loc Cert.MlpInDwIdeal.main_arg0)
      ∧ m' ((c.tc : Thread Cert.MlpInDwReferenceIdeal.nD Cert.MlpInDwReferenceIdeal.τ).loc Cert.MlpInDwReferenceIdeal.main_arg1) = m ((c.tc : Thread Cert.MlpInDwIdeal.nD Cert.MlpInDwIdeal.τ).loc Cert.MlpInDwIdeal.main_arg1)) →
    ∃ (v0 : (c : Dev Cert.MlpInDwIdeal.nD) → Buf (Elt Ideal) ((c.tc : Thread Cert.MlpInDwIdeal.nD Cert.MlpInDwIdeal.τ).loc Cert.MlpInDwIdeal.main_v0)),
      θ_run (Cert.MlpInDwIdeal.defs (F := Ideal)) (onTc (τ := Cert.MlpInDwIdeal.τ) (Cert.MlpInDwIdeal.main (F := Ideal))) ⟨m, fun _ => 0, g⟩ (fun r => ∀ c : Dev Cert.MlpInDwIdeal.nD,
          r.2.mem ((c.tc : Thread Cert.MlpInDwIdeal.nD Cert.MlpInDwIdeal.τ).loc Cert.MlpInDwIdeal.main_v0) = v0 c
          ∧ r.2.mem ((c.tc : Thread Cert.MlpInDwIdeal.nD Cert.MlpInDwIdeal.τ).loc Cert.MlpInDwIdeal.main_arg0) = m ((c.tc : Thread Cert.MlpInDwIdeal.nD Cert.MlpInDwIdeal.τ).loc Cert.MlpInDwIdeal.main_arg0)
          ∧ r.2.mem ((c.tc : Thread Cert.MlpInDwIdeal.nD Cert.MlpInDwIdeal.τ).loc Cert.MlpInDwIdeal.main_arg1) = m ((c.tc : Thread Cert.MlpInDwIdeal.nD Cert.MlpInDwIdeal.τ).loc Cert.MlpInDwIdeal.main_arg1))
      ∧ θ_run (Cert.MlpInDwReferenceIdeal.defs (F := Ideal)) (onTc (τ := Cert.MlpInDwReferenceIdeal.τ) (Cert.MlpInDwReferenceIdeal.main (F := Ideal))) ⟨m', fun _ => 0, g'⟩ (fun r => ∀ c : Dev Cert.MlpInDwReferenceIdeal.nD,
          r.2.mem ((c.tc : Thread Cert.MlpInDwReferenceIdeal.nD Cert.MlpInDwReferenceIdeal.τ).loc Cert.MlpInDwReferenceIdeal.main_v6) = v0 c
          ∧ r.2.mem ((c.tc : Thread Cert.MlpInDwReferenceIdeal.nD Cert.MlpInDwReferenceIdeal.τ).loc Cert.MlpInDwReferenceIdeal.main_arg0) = m' ((c.tc : Thread Cert.MlpInDwReferenceIdeal.nD Cert.MlpInDwReferenceIdeal.τ).loc Cert.MlpInDwReferenceIdeal.main_arg0)
          ∧ r.2.mem ((c.tc : Thread Cert.MlpInDwReferenceIdeal.nD Cert.MlpInDwReferenceIdeal.τ).loc Cert.MlpInDwReferenceIdeal.main_arg1) = m' ((c.tc : Thread Cert.MlpInDwReferenceIdeal.nD Cert.MlpInDwReferenceIdeal.τ).loc Cert.MlpInDwReferenceIdeal.main_arg1))

def preserves_OutProjDx_OutProjDxIdeal : Prop :=
  True

def algebraic_OutProjDxIdeal_OutProjDxReferenceIdeal [hOutProjDxIdeal : Cert.OutProjDxIdeal.Facts] [hOutProjDxReferenceIdeal : Cert.OutProjDxReferenceIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxReferenceIdeal.nD Cert.OutProjDxReferenceIdeal.τ Cert.OutProjDxReferenceIdeal.sig) → Buf (Elt Ideal) ℓ) (g' : Dev Cert.OutProjDxReferenceIdeal.nD → PrngReg), Pre_OutProjDxIdeal m →
    (∀ c : Dev Cert.OutProjDxIdeal.nD,
      m' ((c.tc : Thread Cert.OutProjDxReferenceIdeal.nD Cert.OutProjDxReferenceIdeal.τ).loc Cert.OutProjDxReferenceIdeal.main_arg0) = m ((c.tc : Thread Cert.OutProjDxIdeal.nD Cert.OutProjDxIdeal.τ).loc Cert.OutProjDxIdeal.main_arg0)
      ∧ m' ((c.tc : Thread Cert.OutProjDxReferenceIdeal.nD Cert.OutProjDxReferenceIdeal.τ).loc Cert.OutProjDxReferenceIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxReferenceIdeal.defs (F := Ideal)) (onTc (τ := Cert.OutProjDxReferenceIdeal.τ) (Cert.OutProjDxReferenceIdeal.main (F := Ideal))) ⟨m', fun _ => 0, g'⟩ (fun r => ∀ c : Dev Cert.OutProjDxReferenceIdeal.nD,
          r.2.mem ((c.tc : Thread Cert.OutProjDxReferenceIdeal.nD Cert.OutProjDxReferenceIdeal.τ).loc Cert.OutProjDxReferenceIdeal.main_v3) = v0 c
          ∧ r.2.mem ((c.tc : Thread Cert.OutProjDxReferenceIdeal.nD Cert.OutProjDxReferenceIdeal.τ).loc Cert.OutProjDxReferenceIdeal.main_arg0) = m' ((c.tc : Thread Cert.OutProjDxReferenceIdeal.nD Cert.OutProjDxReferenceIdeal.τ).loc Cert.OutProjDxReferenceIdeal.main_arg0)
          ∧ r.2.mem ((c.tc : Thread Cert.OutProjDxReferenceIdeal.nD Cert.OutProjDxReferenceIdeal.τ).loc Cert.OutProjDxReferenceIdeal.main_arg1) = m' ((c.tc : Thread Cert.OutProjDxReferenceIdeal.nD Cert.OutProjDxReferenceIdeal.τ).loc Cert.OutProjDxReferenceIdeal.main_arg1))

def preserves_OutProjDw_OutProjDwIdeal : Prop :=
  True

def algebraic_OutProjDwIdeal_OutProjDwReferenceIdeal [hOutProjDwIdeal : Cert.OutProjDwIdeal.Facts] [hOutProjDwReferenceIdeal : Cert.OutProjDwReferenceIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwReferenceIdeal.nD Cert.OutProjDwReferenceIdeal.τ Cert.OutProjDwReferenceIdeal.sig) → Buf (Elt Ideal) ℓ) (g' : Dev Cert.OutProjDwReferenceIdeal.nD → PrngReg), Pre_OutProjDwIdeal m →
    (∀ c : Dev Cert.OutProjDwIdeal.nD,
      m' ((c.tc : Thread Cert.OutProjDwReferenceIdeal.nD Cert.OutProjDwReferenceIdeal.τ).loc Cert.OutProjDwReferenceIdeal.main_arg0) = m ((c.tc : Thread Cert.OutProjDwIdeal.nD Cert.OutProjDwIdeal.τ).loc Cert.OutProjDwIdeal.main_arg0)
      ∧ m' ((c.tc : Thread Cert.OutProjDwReferenceIdeal.nD Cert.OutProjDwReferenceIdeal.τ).loc Cert.OutProjDwReferenceIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwReferenceIdeal.defs (F := Ideal)) (onTc (τ := Cert.OutProjDwReferenceIdeal.τ) (Cert.OutProjDwReferenceIdeal.main (F := Ideal))) ⟨m', fun _ => 0, g'⟩ (fun r => ∀ c : Dev Cert.OutProjDwReferenceIdeal.nD,
          r.2.mem ((c.tc : Thread Cert.OutProjDwReferenceIdeal.nD Cert.OutProjDwReferenceIdeal.τ).loc Cert.OutProjDwReferenceIdeal.main_v4) = v0 c
          ∧ r.2.mem ((c.tc : Thread Cert.OutProjDwReferenceIdeal.nD Cert.OutProjDwReferenceIdeal.τ).loc Cert.OutProjDwReferenceIdeal.main_arg0) = m' ((c.tc : Thread Cert.OutProjDwReferenceIdeal.nD Cert.OutProjDwReferenceIdeal.τ).loc Cert.OutProjDwReferenceIdeal.main_arg0)
          ∧ r.2.mem ((c.tc : Thread Cert.OutProjDwReferenceIdeal.nD Cert.OutProjDwReferenceIdeal.τ).loc Cert.OutProjDwReferenceIdeal.main_arg1) = m' ((c.tc : Thread Cert.OutProjDwReferenceIdeal.nD Cert.OutProjDwReferenceIdeal.τ).loc Cert.OutProjDwReferenceIdeal.main_arg1))

def preserves_ProjMainDx_ProjMainDxIdeal : Prop :=
  True

def algebraic_ProjMainDxIdeal_ProjMainDxReferenceIdeal [hProjMainDxIdeal : Cert.ProjMainDxIdeal.Facts] [hProjMainDxReferenceIdeal : Cert.ProjMainDxReferenceIdeal.Facts] : Prop :=
  ∀ (m : (ℓ : Loc Cert.ProjMainDxIdeal.nD Cert.ProjMainDxIdeal.τ Cert.ProjMainDxIdeal.sig) → Buf (Elt Ideal) ℓ) (g : Dev Cert.ProjMainDxIdeal.nD → PrngReg)
    (m' : (ℓ : Loc Cert.ProjMainDxReferenceIdeal.nD Cert.ProjMainDxReferenceIdeal.τ Cert.ProjMainDxReferenceIdeal.sig) → Buf (Elt Ideal) ℓ) (g' : Dev Cert.ProjMainDxReferenceIdeal.nD → PrngReg), Pre_ProjMainDxIdeal m →
    (∀ c : Dev Cert.ProjMainDxIdeal.nD,
      m' ((c.tc : Thread Cert.ProjMainDxReferenceIdeal.nD Cert.ProjMainDxReferenceIdeal.τ).loc Cert.ProjMainDxReferenceIdeal.main_arg0) = m ((c.tc : Thread Cert.ProjMainDxIdeal.nD Cert.ProjMainDxIdeal.τ).loc Cert.ProjMainDxIdeal.main_arg0)
      ∧ m' ((c.tc : Thread Cert.ProjMainDxReferenceIdeal.nD Cert.ProjMainDxReferenceIdeal.τ).loc Cert.ProjMainDxReferenceIdeal.main_arg1) = m ((c.tc : Thread Cert.ProjMainDxIdeal.nD Cert.ProjMainDxIdeal.τ).loc Cert.ProjMainDxIdeal.main_arg1)
      ∧ m' ((c.tc : Thread Cert.ProjMainDxReferenceIdeal.nD Cert.ProjMainDxReferenceIdeal.τ).loc Cert.ProjMainDxReferenceIdeal.main_arg2) = m ((c.tc : Thread Cert.ProjMainDxIdeal.nD Cert.ProjMainDxIdeal.τ).loc Cert.ProjMainDxIdeal.main_arg2)) →
    ∃ (v0 : (c : Dev Cert.ProjMainDxIdeal.nD) → Buf (Elt Ideal) ((c.tc : Thread Cert.ProjMainDxIdeal.nD Cert.ProjMainDxIdeal.τ).loc Cert.ProjMainDxIdeal.main_v0)),
      θ_run (Cert.ProjMainDxIdeal.defs (F := Ideal)) (onTc (τ := Cert.ProjMainDxIdeal.τ) (Cert.ProjMainDxIdeal.main (F := Ideal))) ⟨m, fun _ => 0, g⟩ (fun r => ∀ c : Dev Cert.ProjMainDxIdeal.nD,
          r.2.mem ((c.tc : Thread Cert.ProjMainDxIdeal.nD Cert.ProjMainDxIdeal.τ).loc Cert.ProjMainDxIdeal.main_v0) = v0 c
          ∧ r.2.mem ((c.tc : Thread Cert.ProjMainDxIdeal.nD Cert.ProjMainDxIdeal.τ).loc Cert.ProjMainDxIdeal.main_arg0) = m ((c.tc : Thread Cert.ProjMainDxIdeal.nD Cert.ProjMainDxIdeal.τ).loc Cert.ProjMainDxIdeal.main_arg0)
          ∧ r.2.mem ((c.tc : Thread Cert.ProjMainDxIdeal.nD Cert.ProjMainDxIdeal.τ).loc Cert.ProjMainDxIdeal.main_arg1) = m ((c.tc : Thread Cert.ProjMainDxIdeal.nD Cert.ProjMainDxIdeal.τ).loc Cert.ProjMainDxIdeal.main_arg1)
          ∧ r.2.mem ((c.tc : Thread Cert.ProjMainDxIdeal.nD Cert.ProjMainDxIdeal.τ).loc Cert.ProjMainDxIdeal.main_arg2) = m ((c.tc : Thread Cert.ProjMainDxIdeal.nD Cert.ProjMainDxIdeal.τ).loc Cert.ProjMainDxIdeal.main_arg2))
      ∧ θ_run (Cert.ProjMainDxReferenceIdeal.defs (F := Ideal)) (onTc (τ := Cert.ProjMainDxReferenceIdeal.τ) (Cert.ProjMainDxReferenceIdeal.main (F := Ideal))) ⟨m', fun _ => 0, g'⟩ (fun r => ∀ c : Dev Cert.ProjMainDxReferenceIdeal.nD,
          r.2.mem ((c.tc : Thread Cert.ProjMainDxReferenceIdeal.nD Cert.ProjMainDxReferenceIdeal.τ).loc Cert.ProjMainDxReferenceIdeal.main_v4) = v0 c
          ∧ r.2.mem ((c.tc : Thread Cert.ProjMainDxReferenceIdeal.nD Cert.ProjMainDxReferenceIdeal.τ).loc Cert.ProjMainDxReferenceIdeal.main_arg0) = m' ((c.tc : Thread Cert.ProjMainDxReferenceIdeal.nD Cert.ProjMainDxReferenceIdeal.τ).loc Cert.ProjMainDxReferenceIdeal.main_arg0)
          ∧ r.2.mem ((c.tc : Thread Cert.ProjMainDxReferenceIdeal.nD Cert.ProjMainDxReferenceIdeal.τ).loc Cert.ProjMainDxReferenceIdeal.main_arg1) = m' ((c.tc : Thread Cert.ProjMainDxReferenceIdeal.nD Cert.ProjMainDxReferenceIdeal.τ).loc Cert.ProjMainDxReferenceIdeal.main_arg1)
          ∧ r.2.mem ((c.tc : Thread Cert.ProjMainDxReferenceIdeal.nD Cert.ProjMainDxReferenceIdeal.τ).loc Cert.ProjMainDxReferenceIdeal.main_arg2) = m' ((c.tc : Thread Cert.ProjMainDxReferenceIdeal.nD Cert.ProjMainDxReferenceIdeal.τ).loc Cert.ProjMainDxReferenceIdeal.main_arg2))

def preserves_ProjMainDw_ProjMainDwIdeal : Prop :=
  True

def algebraic_ProjMainDwIdeal_ProjMainDwReferenceIdeal [hProjMainDwIdeal : Cert.ProjMainDwIdeal.Facts] [hProjMainDwReferenceIdeal : Cert.ProjMainDwReferenceIdeal.Facts] : Prop :=
  ∀ (m : (ℓ : Loc Cert.ProjMainDwIdeal.nD Cert.ProjMainDwIdeal.τ Cert.ProjMainDwIdeal.sig) → Buf (Elt Ideal) ℓ) (g : Dev Cert.ProjMainDwIdeal.nD → PrngReg)
    (m' : (ℓ : Loc Cert.ProjMainDwReferenceIdeal.nD Cert.ProjMainDwReferenceIdeal.τ Cert.ProjMainDwReferenceIdeal.sig) → Buf (Elt Ideal) ℓ) (g' : Dev Cert.ProjMainDwReferenceIdeal.nD → PrngReg), Pre_ProjMainDwIdeal m →
    (∀ c : Dev Cert.ProjMainDwIdeal.nD,
      m' ((c.tc : Thread Cert.ProjMainDwReferenceIdeal.nD Cert.ProjMainDwReferenceIdeal.τ).loc Cert.ProjMainDwReferenceIdeal.main_arg0) = m ((c.tc : Thread Cert.ProjMainDwIdeal.nD Cert.ProjMainDwIdeal.τ).loc Cert.ProjMainDwIdeal.main_arg0)
      ∧ m' ((c.tc : Thread Cert.ProjMainDwReferenceIdeal.nD Cert.ProjMainDwReferenceIdeal.τ).loc Cert.ProjMainDwReferenceIdeal.main_arg1) = m ((c.tc : Thread Cert.ProjMainDwIdeal.nD Cert.ProjMainDwIdeal.τ).loc Cert.ProjMainDwIdeal.main_arg1)) →
    ∃ (v0 : (c : Dev Cert.ProjMainDwIdeal.nD) → Buf (Elt Ideal) ((c.tc : Thread Cert.ProjMainDwIdeal.nD Cert.ProjMainDwIdeal.τ).loc Cert.ProjMainDwIdeal.main_v0)),
      θ_run (Cert.ProjMainDwIdeal.defs (F := Ideal)) (onTc (τ := Cert.ProjMainDwIdeal.τ) (Cert.ProjMainDwIdeal.main (F := Ideal))) ⟨m, fun _ => 0, g⟩ (fun r => ∀ c : Dev Cert.ProjMainDwIdeal.nD,
          r.2.mem ((c.tc : Thread Cert.ProjMainDwIdeal.nD Cert.ProjMainDwIdeal.τ).loc Cert.ProjMainDwIdeal.main_v0) = v0 c
          ∧ r.2.mem ((c.tc : Thread Cert.ProjMainDwIdeal.nD Cert.ProjMainDwIdeal.τ).loc Cert.ProjMainDwIdeal.main_arg0) = m ((c.tc : Thread Cert.ProjMainDwIdeal.nD Cert.ProjMainDwIdeal.τ).loc Cert.ProjMainDwIdeal.main_arg0)
          ∧ r.2.mem ((c.tc : Thread Cert.ProjMainDwIdeal.nD Cert.ProjMainDwIdeal.τ).loc Cert.ProjMainDwIdeal.main_arg1) = m ((c.tc : Thread Cert.ProjMainDwIdeal.nD Cert.ProjMainDwIdeal.τ).loc Cert.ProjMainDwIdeal.main_arg1))
      ∧ θ_run (Cert.ProjMainDwReferenceIdeal.defs (F := Ideal)) (onTc (τ := Cert.ProjMainDwReferenceIdeal.τ) (Cert.ProjMainDwReferenceIdeal.main (F := Ideal))) ⟨m', fun _ => 0, g'⟩ (fun r => ∀ c : Dev Cert.ProjMainDwReferenceIdeal.nD,
          r.2.mem ((c.tc : Thread Cert.ProjMainDwReferenceIdeal.nD Cert.ProjMainDwReferenceIdeal.τ).loc Cert.ProjMainDwReferenceIdeal.main_v4) = v0 c
          ∧ r.2.mem ((c.tc : Thread Cert.ProjMainDwReferenceIdeal.nD Cert.ProjMainDwReferenceIdeal.τ).loc Cert.ProjMainDwReferenceIdeal.main_arg0) = m' ((c.tc : Thread Cert.ProjMainDwReferenceIdeal.nD Cert.ProjMainDwReferenceIdeal.τ).loc Cert.ProjMainDwReferenceIdeal.main_arg0)
          ∧ r.2.mem ((c.tc : Thread Cert.ProjMainDwReferenceIdeal.nD Cert.ProjMainDwReferenceIdeal.τ).loc Cert.ProjMainDwReferenceIdeal.main_arg1) = m' ((c.tc : Thread Cert.ProjMainDwReferenceIdeal.nD Cert.ProjMainDwReferenceIdeal.τ).loc Cert.ProjMainDwReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hGather : Cert.Gather.Facts) (hGatherIdeal : Cert.GatherIdeal.Facts) (hGatherReferenceIdeal : Cert.GatherReferenceIdeal.Facts) (hGatherReference : Cert.GatherReference.Facts) (hUpdateIn : Cert.UpdateIn.Facts) (hUpdateInIdeal : Cert.UpdateInIdeal.Facts) (hUpdateInReferenceIdeal : Cert.UpdateInReferenceIdeal.Facts) (hUpdateOut : Cert.UpdateOut.Facts) (hUpdateOutIdeal : Cert.UpdateOutIdeal.Facts) (hUpdateOutReferenceIdeal : Cert.UpdateOutReferenceIdeal.Facts) (hUpdateMlpIn : Cert.UpdateMlpIn.Facts) (hUpdateMlpInIdeal : Cert.UpdateMlpInIdeal.Facts) (hUpdateMlpInReferenceIdeal : Cert.UpdateMlpInReferenceIdeal.Facts) (hUpdateMlpOut : Cert.UpdateMlpOut.Facts) (hUpdateMlpOutIdeal : Cert.UpdateMlpOutIdeal.Facts) (hUpdateMlpOutReferenceIdeal : Cert.UpdateMlpOutReferenceIdeal.Facts) (hUpdateAda : Cert.UpdateAda.Facts) (hUpdateAdaIdeal : Cert.UpdateAdaIdeal.Facts) (hUpdateAdaReferenceIdeal : Cert.UpdateAdaReferenceIdeal.Facts) (hSumSmall : Cert.SumSmall.Facts) (hSumSmallIdeal : Cert.SumSmallIdeal.Facts) (hSumSmallReferenceIdeal : Cert.SumSmallReferenceIdeal.Facts) (hUpdateSmall : Cert.UpdateSmall.Facts) (hUpdateSmallIdeal : Cert.UpdateSmallIdeal.Facts) (hUpdateSmallReferenceIdeal : Cert.UpdateSmallReferenceIdeal.Facts) (hPremixBwd : Cert.PremixBwd.Facts) (hPremixBwdIdeal : Cert.PremixBwdIdeal.Facts) (hPremixBwdReferenceIdeal : Cert.PremixBwdReferenceIdeal.Facts) (hLossBwd : Cert.LossBwd.Facts) (hLossBwdIdeal : Cert.LossBwdIdeal.Facts) (hLossBwdReferenceIdeal : Cert.LossBwdReferenceIdeal.Facts) (hPremlpBwd : Cert.PremlpBwd.Facts) (hPremlpBwdIdeal : Cert.PremlpBwdIdeal.Facts) (hPremlpBwdReferenceIdeal : Cert.PremlpBwdReferenceIdeal.Facts) (hPremix : Cert.Premix.Facts) (hPremixIdeal : Cert.PremixIdeal.Facts) (hPremixReferenceIdeal : Cert.PremixReferenceIdeal.Facts) (hPostmixPremlp : Cert.PostmixPremlp.Facts) (hPostmixPremlpIdeal : Cert.PostmixPremlpIdeal.Facts) (hPostmixPremlpReferenceIdeal : Cert.PostmixPremlpReferenceIdeal.Facts) (hProjMain : Cert.ProjMain.Facts) (hProjMainIdeal : Cert.ProjMainIdeal.Facts) (hProjMainReferenceIdeal : Cert.ProjMainReferenceIdeal.Facts) (hOutProj : Cert.OutProj.Facts) (hOutProjIdeal : Cert.OutProjIdeal.Facts) (hOutProjReferenceIdeal : Cert.OutProjReferenceIdeal.Facts) (hMlpIn : Cert.MlpIn.Facts) (hMlpInIdeal : Cert.MlpInIdeal.Facts) (hMlpInReferenceIdeal : Cert.MlpInReferenceIdeal.Facts) (hMlpOut : Cert.MlpOut.Facts) (hMlpOutIdeal : Cert.MlpOutIdeal.Facts) (hMlpOutReferenceIdeal : Cert.MlpOutReferenceIdeal.Facts) (hMlpOutDx : Cert.MlpOutDx.Facts) (hMlpOutDxIdeal : Cert.MlpOutDxIdeal.Facts) (hMlpOutDxReferenceIdeal : Cert.MlpOutDxReferenceIdeal.Facts) (hMlpOutDw : Cert.MlpOutDw.Facts) (hMlpOutDwIdeal : Cert.MlpOutDwIdeal.Facts) (hMlpOutDwReferenceIdeal : Cert.MlpOutDwReferenceIdeal.Facts) (hMlpInDx : Cert.MlpInDx.Facts) (hMlpInDxIdeal : Cert.MlpInDxIdeal.Facts) (hMlpInDxReferenceIdeal : Cert.MlpInDxReferenceIdeal.Facts) (hMlpInDw : Cert.MlpInDw.Facts) (hMlpInDwIdeal : Cert.MlpInDwIdeal.Facts) (hMlpInDwReferenceIdeal : Cert.MlpInDwReferenceIdeal.Facts) (hOutProjDx : Cert.OutProjDx.Facts) (hOutProjDxIdeal : Cert.OutProjDxIdeal.Facts) (hOutProjDxReferenceIdeal : Cert.OutProjDxReferenceIdeal.Facts) (hOutProjDw : Cert.OutProjDw.Facts) (hOutProjDwIdeal : Cert.OutProjDwIdeal.Facts) (hOutProjDwReferenceIdeal : Cert.OutProjDwReferenceIdeal.Facts) (hProjMainDx : Cert.ProjMainDx.Facts) (hProjMainDxIdeal : Cert.ProjMainDxIdeal.Facts) (hProjMainDxReferenceIdeal : Cert.ProjMainDxReferenceIdeal.Facts) (hProjMainDw : Cert.ProjMainDw.Facts) (hProjMainDwIdeal : Cert.ProjMainDwIdeal.Facts) (hProjMainDwReferenceIdeal : Cert.ProjMainDwReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_UpdateIn (hUpdateIn := hUpdateIn)
    ∧ quiescent_UpdateInIdeal (hUpdateInIdeal := hUpdateInIdeal)
    ∧ quiescent_UpdateInReferenceIdeal (hUpdateInReferenceIdeal := hUpdateInReferenceIdeal)
    ∧ quiescent_UpdateOut (hUpdateOut := hUpdateOut)
    ∧ quiescent_UpdateOutIdeal (hUpdateOutIdeal := hUpdateOutIdeal)
    ∧ quiescent_UpdateOutReferenceIdeal (hUpdateOutReferenceIdeal := hUpdateOutReferenceIdeal)
    ∧ quiescent_UpdateMlpIn (hUpdateMlpIn := hUpdateMlpIn)
    ∧ quiescent_UpdateMlpInIdeal (hUpdateMlpInIdeal := hUpdateMlpInIdeal)
    ∧ quiescent_UpdateMlpInReferenceIdeal (hUpdateMlpInReferenceIdeal := hUpdateMlpInReferenceIdeal)
    ∧ quiescent_UpdateMlpOut (hUpdateMlpOut := hUpdateMlpOut)
    ∧ quiescent_UpdateMlpOutIdeal (hUpdateMlpOutIdeal := hUpdateMlpOutIdeal)
    ∧ quiescent_UpdateMlpOutReferenceIdeal (hUpdateMlpOutReferenceIdeal := hUpdateMlpOutReferenceIdeal)
    ∧ quiescent_UpdateAda (hUpdateAda := hUpdateAda)
    ∧ quiescent_UpdateAdaIdeal (hUpdateAdaIdeal := hUpdateAdaIdeal)
    ∧ quiescent_UpdateAdaReferenceIdeal (hUpdateAdaReferenceIdeal := hUpdateAdaReferenceIdeal)
    ∧ quiescent_SumSmall (hSumSmall := hSumSmall)
    ∧ quiescent_SumSmallIdeal (hSumSmallIdeal := hSumSmallIdeal)
    ∧ quiescent_SumSmallReferenceIdeal (hSumSmallReferenceIdeal := hSumSmallReferenceIdeal)
    ∧ quiescent_UpdateSmall (hUpdateSmall := hUpdateSmall)
    ∧ quiescent_UpdateSmallIdeal (hUpdateSmallIdeal := hUpdateSmallIdeal)
    ∧ quiescent_UpdateSmallReferenceIdeal (hUpdateSmallReferenceIdeal := hUpdateSmallReferenceIdeal)
    ∧ quiescent_PremixBwd (hPremixBwd := hPremixBwd)
    ∧ quiescent_PremixBwdIdeal (hPremixBwdIdeal := hPremixBwdIdeal)
    ∧ quiescent_PremixBwdReferenceIdeal (hPremixBwdReferenceIdeal := hPremixBwdReferenceIdeal)
    ∧ quiescent_LossBwd (hLossBwd := hLossBwd)
    ∧ quiescent_LossBwdIdeal (hLossBwdIdeal := hLossBwdIdeal)
    ∧ quiescent_LossBwdReferenceIdeal (hLossBwdReferenceIdeal := hLossBwdReferenceIdeal)
    ∧ quiescent_PremlpBwd (hPremlpBwd := hPremlpBwd)
    ∧ quiescent_PremlpBwdIdeal (hPremlpBwdIdeal := hPremlpBwdIdeal)
    ∧ quiescent_PremlpBwdReferenceIdeal (hPremlpBwdReferenceIdeal := hPremlpBwdReferenceIdeal)
    ∧ quiescent_Premix (hPremix := hPremix)
    ∧ quiescent_PremixIdeal (hPremixIdeal := hPremixIdeal)
    ∧ quiescent_PremixReferenceIdeal (hPremixReferenceIdeal := hPremixReferenceIdeal)
    ∧ quiescent_PostmixPremlp (hPostmixPremlp := hPostmixPremlp)
    ∧ quiescent_PostmixPremlpIdeal (hPostmixPremlpIdeal := hPostmixPremlpIdeal)
    ∧ quiescent_PostmixPremlpReferenceIdeal (hPostmixPremlpReferenceIdeal := hPostmixPremlpReferenceIdeal)
    ∧ quiescent_ProjMain (hProjMain := hProjMain)
    ∧ quiescent_ProjMainIdeal (hProjMainIdeal := hProjMainIdeal)
    ∧ quiescent_ProjMainReferenceIdeal (hProjMainReferenceIdeal := hProjMainReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_MlpIn (hMlpIn := hMlpIn)
    ∧ quiescent_MlpInIdeal (hMlpInIdeal := hMlpInIdeal)
    ∧ quiescent_MlpInReferenceIdeal (hMlpInReferenceIdeal := hMlpInReferenceIdeal)
    ∧ quiescent_MlpOut (hMlpOut := hMlpOut)
    ∧ quiescent_MlpOutIdeal (hMlpOutIdeal := hMlpOutIdeal)
    ∧ quiescent_MlpOutReferenceIdeal (hMlpOutReferenceIdeal := hMlpOutReferenceIdeal)
    ∧ quiescent_MlpOutDx (hMlpOutDx := hMlpOutDx)
    ∧ quiescent_MlpOutDxIdeal (hMlpOutDxIdeal := hMlpOutDxIdeal)
    ∧ quiescent_MlpOutDxReferenceIdeal (hMlpOutDxReferenceIdeal := hMlpOutDxReferenceIdeal)
    ∧ quiescent_MlpOutDw (hMlpOutDw := hMlpOutDw)
    ∧ quiescent_MlpOutDwIdeal (hMlpOutDwIdeal := hMlpOutDwIdeal)
    ∧ quiescent_MlpOutDwReferenceIdeal (hMlpOutDwReferenceIdeal := hMlpOutDwReferenceIdeal)
    ∧ quiescent_MlpInDx (hMlpInDx := hMlpInDx)
    ∧ quiescent_MlpInDxIdeal (hMlpInDxIdeal := hMlpInDxIdeal)
    ∧ quiescent_MlpInDxReferenceIdeal (hMlpInDxReferenceIdeal := hMlpInDxReferenceIdeal)
    ∧ quiescent_MlpInDw (hMlpInDw := hMlpInDw)
    ∧ quiescent_MlpInDwIdeal (hMlpInDwIdeal := hMlpInDwIdeal)
    ∧ quiescent_MlpInDwReferenceIdeal (hMlpInDwReferenceIdeal := hMlpInDwReferenceIdeal)
    ∧ quiescent_OutProjDx (hOutProjDx := hOutProjDx)
    ∧ quiescent_OutProjDxIdeal (hOutProjDxIdeal := hOutProjDxIdeal)
    ∧ quiescent_OutProjDxReferenceIdeal (hOutProjDxReferenceIdeal := hOutProjDxReferenceIdeal)
    ∧ quiescent_OutProjDw (hOutProjDw := hOutProjDw)
    ∧ quiescent_OutProjDwIdeal (hOutProjDwIdeal := hOutProjDwIdeal)
    ∧ quiescent_OutProjDwReferenceIdeal (hOutProjDwReferenceIdeal := hOutProjDwReferenceIdeal)
    ∧ quiescent_ProjMainDx (hProjMainDx := hProjMainDx)
    ∧ quiescent_ProjMainDxIdeal (hProjMainDxIdeal := hProjMainDxIdeal)
    ∧ quiescent_ProjMainDxReferenceIdeal (hProjMainDxReferenceIdeal := hProjMainDxReferenceIdeal)
    ∧ quiescent_ProjMainDw (hProjMainDw := hProjMainDw)
    ∧ quiescent_ProjMainDwIdeal (hProjMainDwIdeal := hProjMainDwIdeal)
    ∧ quiescent_ProjMainDwReferenceIdeal (hProjMainDwReferenceIdeal := hProjMainDwReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_UpdateIn_UpdateInIdeal
    ∧ algebraic_UpdateInIdeal_UpdateInReferenceIdeal (hUpdateInIdeal := hUpdateInIdeal) (hUpdateInReferenceIdeal := hUpdateInReferenceIdeal)
    ∧ preserves_UpdateOut_UpdateOutIdeal
    ∧ algebraic_UpdateOutIdeal_UpdateOutReferenceIdeal (hUpdateOutIdeal := hUpdateOutIdeal) (hUpdateOutReferenceIdeal := hUpdateOutReferenceIdeal)
    ∧ preserves_UpdateMlpIn_UpdateMlpInIdeal
    ∧ algebraic_UpdateMlpInIdeal_UpdateMlpInReferenceIdeal (hUpdateMlpInIdeal := hUpdateMlpInIdeal) (hUpdateMlpInReferenceIdeal := hUpdateMlpInReferenceIdeal)
    ∧ preserves_UpdateMlpOut_UpdateMlpOutIdeal
    ∧ algebraic_UpdateMlpOutIdeal_UpdateMlpOutReferenceIdeal (hUpdateMlpOutIdeal := hUpdateMlpOutIdeal) (hUpdateMlpOutReferenceIdeal := hUpdateMlpOutReferenceIdeal)
    ∧ preserves_UpdateAda_UpdateAdaIdeal
    ∧ algebraic_UpdateAdaIdeal_UpdateAdaReferenceIdeal (hUpdateAdaIdeal := hUpdateAdaIdeal) (hUpdateAdaReferenceIdeal := hUpdateAdaReferenceIdeal)
    ∧ preserves_SumSmall_SumSmallIdeal
    ∧ algebraic_SumSmallIdeal_SumSmallReferenceIdeal (hSumSmallIdeal := hSumSmallIdeal) (hSumSmallReferenceIdeal := hSumSmallReferenceIdeal)
    ∧ preserves_UpdateSmall_UpdateSmallIdeal
    ∧ algebraic_UpdateSmallIdeal_UpdateSmallReferenceIdeal (hUpdateSmallIdeal := hUpdateSmallIdeal) (hUpdateSmallReferenceIdeal := hUpdateSmallReferenceIdeal)
    ∧ preserves_PremixBwd_PremixBwdIdeal
    ∧ algebraic_PremixBwdIdeal_PremixBwdReferenceIdeal (hPremixBwdIdeal := hPremixBwdIdeal) (hPremixBwdReferenceIdeal := hPremixBwdReferenceIdeal)
    ∧ preserves_LossBwd_LossBwdIdeal
    ∧ algebraic_LossBwdIdeal_LossBwdReferenceIdeal (hLossBwdIdeal := hLossBwdIdeal) (hLossBwdReferenceIdeal := hLossBwdReferenceIdeal)
    ∧ preserves_PremlpBwd_PremlpBwdIdeal
    ∧ algebraic_PremlpBwdIdeal_PremlpBwdReferenceIdeal (hPremlpBwdIdeal := hPremlpBwdIdeal) (hPremlpBwdReferenceIdeal := hPremlpBwdReferenceIdeal)
    ∧ preserves_Premix_PremixIdeal
    ∧ algebraic_PremixIdeal_PremixReferenceIdeal (hPremixIdeal := hPremixIdeal) (hPremixReferenceIdeal := hPremixReferenceIdeal)
    ∧ preserves_PostmixPremlp_PostmixPremlpIdeal
    ∧ algebraic_PostmixPremlpIdeal_PostmixPremlpReferenceIdeal (hPostmixPremlpIdeal := hPostmixPremlpIdeal) (hPostmixPremlpReferenceIdeal := hPostmixPremlpReferenceIdeal)
    ∧ preserves_ProjMain_ProjMainIdeal
    ∧ algebraic_ProjMainIdeal_ProjMainReferenceIdeal (hProjMainIdeal := hProjMainIdeal) (hProjMainReferenceIdeal := hProjMainReferenceIdeal)
    ∧ preserves_OutProj_OutProjIdeal
    ∧ algebraic_OutProjIdeal_OutProjReferenceIdeal (hOutProjIdeal := hOutProjIdeal) (hOutProjReferenceIdeal := hOutProjReferenceIdeal)
    ∧ preserves_MlpIn_MlpInIdeal
    ∧ algebraic_MlpInIdeal_MlpInReferenceIdeal (hMlpInIdeal := hMlpInIdeal) (hMlpInReferenceIdeal := hMlpInReferenceIdeal)
    ∧ preserves_MlpOut_MlpOutIdeal
    ∧ algebraic_MlpOutIdeal_MlpOutReferenceIdeal (hMlpOutIdeal := hMlpOutIdeal) (hMlpOutReferenceIdeal := hMlpOutReferenceIdeal)
    ∧ preserves_MlpOutDx_MlpOutDxIdeal
    ∧ algebraic_MlpOutDxIdeal_MlpOutDxReferenceIdeal (hMlpOutDxIdeal := hMlpOutDxIdeal) (hMlpOutDxReferenceIdeal := hMlpOutDxReferenceIdeal)
    ∧ preserves_MlpOutDw_MlpOutDwIdeal
    ∧ algebraic_MlpOutDwIdeal_MlpOutDwReferenceIdeal (hMlpOutDwIdeal := hMlpOutDwIdeal) (hMlpOutDwReferenceIdeal := hMlpOutDwReferenceIdeal)
    ∧ preserves_MlpInDx_MlpInDxIdeal
    ∧ algebraic_MlpInDxIdeal_MlpInDxReferenceIdeal (hMlpInDxIdeal := hMlpInDxIdeal) (hMlpInDxReferenceIdeal := hMlpInDxReferenceIdeal)
    ∧ preserves_MlpInDw_MlpInDwIdeal
    ∧ algebraic_MlpInDwIdeal_MlpInDwReferenceIdeal (hMlpInDwIdeal := hMlpInDwIdeal) (hMlpInDwReferenceIdeal := hMlpInDwReferenceIdeal)
    ∧ preserves_OutProjDx_OutProjDxIdeal
    ∧ algebraic_OutProjDxIdeal_OutProjDxReferenceIdeal (hOutProjDxIdeal := hOutProjDxIdeal) (hOutProjDxReferenceIdeal := hOutProjDxReferenceIdeal)
    ∧ preserves_OutProjDw_OutProjDwIdeal
    ∧ algebraic_OutProjDwIdeal_OutProjDwReferenceIdeal (hOutProjDwIdeal := hOutProjDwIdeal) (hOutProjDwReferenceIdeal := hOutProjDwReferenceIdeal)
    ∧ preserves_ProjMainDx_ProjMainDxIdeal
    ∧ algebraic_ProjMainDxIdeal_ProjMainDxReferenceIdeal (hProjMainDxIdeal := hProjMainDxIdeal) (hProjMainDxReferenceIdeal := hProjMainDxReferenceIdeal)
    ∧ preserves_ProjMainDw_ProjMainDwIdeal
    ∧ algebraic_ProjMainDwIdeal_ProjMainDwReferenceIdeal (hProjMainDwIdeal := hProjMainDwIdeal) (hProjMainDwReferenceIdeal := hProjMainDwReferenceIdeal)
-- ==== Kernel.lean ====
abbrev S8x2048x771 : Shape := ⟨3, ![8, 2048, 771]⟩
abbrev S8x256x2048 : Shape := ⟨3, ![8, 256, 2048]⟩
abbrev S8x2048x1024 : Shape := ⟨3, ![8, 2048, 1024]⟩
abbrev S8x1024x2048 : Shape := ⟨3, ![8, 1024, 2048]⟩
abbrev S4x7 : Shape := ⟨2, ![4, 7]⟩
abbrev S4 : Shape := ⟨1, ![4]⟩
abbrev S1 : Shape := ⟨1, ![1]⟩
abbrev S_ : Shape := ⟨0, ![]⟩
abbrev S1x2048x771 : Shape := ⟨3, ![1, 2048, 771]⟩
abbrev S2048x771 : Shape := ⟨2, ![2048, 771]⟩
abbrev S1x256x2048 : Shape := ⟨3, ![1, 256, 2048]⟩
abbrev S256x2048 : Shape := ⟨2, ![256, 2048]⟩
abbrev S1x2048x1024 : Shape := ⟨3, ![1, 2048, 1024]⟩
abbrev S2048x1024 : Shape := ⟨2, ![2048, 1024]⟩
abbrev S1x1024x2048 : Shape := ⟨3, ![1, 1024, 2048]⟩
abbrev S1024x2048 : Shape := ⟨2, ![1024, 2048]⟩
abbrev S1x1 : Shape := ⟨2, ![1, 1]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x771, .bf16⟩
  | .hbm, ⟨1, _⟩ => ⟨S8x256x2048, .bf16⟩
  | .hbm, ⟨2, _⟩ => ⟨S8x2048x1024, .bf16⟩
  | .hbm, ⟨3, _⟩ => ⟨S8x1024x2048, .bf16⟩
  | .hbm, ⟨4, _⟩ => ⟨S8x2048x771, .bf16⟩
  | .hbm, ⟨5, _⟩ => ⟨S8x256x2048, .bf16⟩
  | .hbm, ⟨6, _⟩ => ⟨S8x2048x1024, .bf16⟩
  | .hbm, ⟨7, _⟩ => ⟨S8x1024x2048, .bf16⟩
  | _, _ => ⟨S8x2048x771, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_15 : BitVec 32 := 0#32
  let c0_i32_16 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_19 : BitVec 32 := 0#32
  let c0_i32_20 : BitVec 32 := 0#32
  ![v12.toNat, 0, 0]
def k0_off5 (d0 : Dev nD) : Fin 3 → Nat :=
  let c4_i32_24 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.muli c4_i32_24 v2
  let c2_i32_25 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.muli c2_i32_25 v5
  let v40 : BitVec 32 := Scalar.addi v38 v39
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_23 v8
  let v41 : BitVec 32 := Scalar.addi v40 v37
  let c0_i32_36 : BitVec 32 := 0#32
  let c0_i32_37 : BitVec 32 := 0#32
  ![v41.toNat, 0, 0]
def k0_dev1 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v42 : BitVec 32 := Scalar.muli v2 c4_i32_30
  let v43 : BitVec 32 := Scalar.addi c0_i32_31 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v44 : BitVec 32 := Scalar.muli v5 c2_i32_32
  let v45 : BitVec 32 := Scalar.addi v43 v44
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_23 v8
  let c1_i32_33 : BitVec 32 := 1#32
  let v46 : BitVec 32 := Scalar.muli v37 c1_i32_33
  let v47 : BitVec 32 := Scalar.addi v45 v46
  v47.toNat
def k0_off6 (d0 : Dev nD) : Fin 3 → Nat :=
  let c4_i32_24 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.muli c4_i32_24 v2
  let c2_i32_25 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.muli c2_i32_25 v5
  let v40 : BitVec 32 := Scalar.addi v38 v39
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_23 v8
  let v41 : BitVec 32 := Scalar.addi v40 v37
  let c0_i32_48 : BitVec 32 := 0#32
  let c0_i32_49 : BitVec 32 := 0#32
  ![v41.toNat, 0, 0]
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v56 : BitVec 32 := Scalar.muli v2 c4_i32_42
  let v57 : BitVec 32 := Scalar.addi c0_i32_43 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v58 : BitVec 32 := Scalar.muli v5 c2_i32_44
  let v59 : BitVec 32 := Scalar.addi v57 v58
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_23 v8
  let c1_i32_45 : BitVec 32 := 1#32
  let v60 : BitVec 32 := Scalar.muli v37 c1_i32_45
  let v61 : BitVec 32 := Scalar.addi v59 v60
  v61.toNat
def k0_off7 (d0 : Dev nD) : Fin 3 → Nat :=
  let c4_i32_24 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.muli c4_i32_24 v2
  let c2_i32_25 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.muli c2_i32_25 v5
  let v40 : BitVec 32 := Scalar.addi v38 v39
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_23 v8
  let v41 : BitVec 32 := Scalar.addi v40 v37
  let c0_i32_60 : BitVec 32 := 0#32
  let c0_i32_61 : BitVec 32 := 0#32
  ![v41.toNat, 0, 0]
def k0_dev3 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v70 : BitVec 32 := Scalar.muli v2 c4_i32_54
  let v71 : BitVec 32 := Scalar.addi c0_i32_55 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v72 : BitVec 32 := Scalar.muli v5 c2_i32_56
  let v73 : BitVec 32 := Scalar.addi v71 v72
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_23 v8
  let c1_i32_57 : BitVec 32 := 1#32
  let v74 : BitVec 32 := Scalar.muli v37 c1_i32_57
  let v75 : BitVec 32 := Scalar.addi v73 v74
  v75.toNat
def k0_off8 (d0 : Dev nD) : Fin 3 → Nat :=
  let c4_i32_24 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.muli c4_i32_24 v2
  let c2_i32_25 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.muli c2_i32_25 v5
  let v40 : BitVec 32 := Scalar.addi v38 v39
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_23 v8
  let v41 : BitVec 32 := Scalar.addi v40 v37
  let c0_i32_72 : BitVec 32 := 0#32
  let c0_i32_73 : BitVec 32 := 0#32
  ![v41.toNat, 0, 0]
def k0_dev4 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v84 : BitVec 32 := Scalar.muli v2 c4_i32_66
  let v85 : BitVec 32 := Scalar.addi c0_i32_67 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v86 : BitVec 32 := Scalar.muli v5 c2_i32_68
  let v87 : BitVec 32 := Scalar.addi v85 v86
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_23 v8
  let c1_i32_69 : BitVec 32 := 1#32
  let v88 : BitVec 32 := Scalar.muli v37 c1_i32_69
  let v89 : BitVec 32 := Scalar.addi v87 v88
  v89.toNat
def k0_off9 (d0 : Dev nD) : Fin 3 → Nat :=
  let c4_i32_75 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v99 : BitVec 32 := Scalar.muli c4_i32_75 v2
  let c2_i32_76 : BitVec 32 := 2#32
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_74 v5
  let v100 : BitVec 32 := Scalar.muli c2_i32_76 v98
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v102 : BitVec 32 := Scalar.addi v101 v8
  let c0_i32_87 : BitVec 32 := 0#32
  let c0_i32_88 : BitVec 32 := 0#32
  ![v102.toNat, 0, 0]
def k0_dev5 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v103 : BitVec 32 := Scalar.muli v2 c4_i32_81
  let v104 : BitVec 32 := Scalar.addi c0_i32_82 v103
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_74 v5
  let c2_i32_83 : BitVec 32 := 2#32
  let v105 : BitVec 32 := Scalar.muli v98 c2_i32_83
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v107 : BitVec 32 := Scalar.muli v8 c1_i32_84
  let v108 : BitVec 32 := Scalar.addi v106 v107
  v108.toNat
def k0_off10 (d0 : Dev nD) : Fin 3 → Nat :=
  let c4_i32_75 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v99 : BitVec 32 := Scalar.muli c4_i32_75 v2
  let c2_i32_76 : BitVec 32 := 2#32
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_74 v5
  let v100 : BitVec 32 := Scalar.muli c2_i32_76 v98
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v102 : BitVec 32 := Scalar.addi v101 v8
  let c0_i32_99 : BitVec 32 := 0#32
  let c0_i32_100 : BitVec 32 := 0#32
  ![v102.toNat, 0, 0]
def k0_dev6 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v117 : BitVec 32 := Scalar.muli v2 c4_i32_93
  let v118 : BitVec 32 := Scalar.addi c0_i32_94 v117
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_74 v5
  let c2_i32_95 : BitVec 32 := 2#32
  let v119 : BitVec 32 := Scalar.muli v98 c2_i32_95
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v121 : BitVec 32 := Scalar.muli v8 c1_i32_96
  let v122 : BitVec 32 := Scalar.addi v120 v121
  v122.toNat
def k0_off11 (d0 : Dev nD) : Fin 3 → Nat :=
  let c4_i32_75 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v99 : BitVec 32 := Scalar.muli c4_i32_75 v2
  let c2_i32_76 : BitVec 32 := 2#32
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_74 v5
  let v100 : BitVec 32 := Scalar.muli c2_i32_76 v98
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v102 : BitVec 32 := Scalar.addi v101 v8
  let c0_i32_111 : BitVec 32 := 0#32
  let c0_i32_112 : BitVec 32 := 0#32
  ![v102.toNat, 0, 0]
def k0_dev7 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_105 : BitVec 32 := 4#32
  let v131 : BitVec 32 := Scalar.muli v2 c4_i32_105
  let v132 : BitVec 32 := Scalar.addi c0_i32_106 v131
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_74 v5
  let c2_i32_107 : BitVec 32 := 2#32
  let v133 : BitVec 32 := Scalar.muli v98 c2_i32_107
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v135 : BitVec 32 := Scalar.muli v8 c1_i32_108
  let v136 : BitVec 32 := Scalar.addi v134 v135
  v136.toNat
def k0_off12 (d0 : Dev nD) : Fin 3 → Nat :=
  let c4_i32_75 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v99 : BitVec 32 := Scalar.muli c4_i32_75 v2
  let c2_i32_76 : BitVec 32 := 2#32
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_74 v5
  let v100 : BitVec 32 := Scalar.muli c2_i32_76 v98
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v102 : BitVec 32 := Scalar.addi v101 v8
  let c0_i32_123 : BitVec 32 := 0#32
  let c0_i32_124 : BitVec 32 := 0#32
  ![v102.toNat, 0, 0]
def k0_dev8 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_117 : BitVec 32 := 4#32
  let v145 : BitVec 32 := Scalar.muli v2 c4_i32_117
  let v146 : BitVec 32 := Scalar.addi c0_i32_118 v145
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_74 v5
  let c2_i32_119 : BitVec 32 := 2#32
  let v147 : BitVec 32 := Scalar.muli v98 c2_i32_119
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v149 : BitVec 32 := Scalar.muli v8 c1_i32_120
  let v150 : BitVec 32 := Scalar.addi v148 v149
  v150.toNat
def k0_off13 (d0 : Dev nD) : Fin 3 → Nat :=
  let c4_i32_127 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v161 : BitVec 32 := Scalar.muli c4_i32_127 v2
  let c2_i32_128 : BitVec 32 := 2#32
  let c1_i32_125 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v159 : BitVec 32 := Scalar.subi c1_i32_125 v5
  let v162 : BitVec 32 := Scalar.muli c2_i32_128 v159
  let v163 : BitVec 32 := Scalar.addi v161 v162
  let c1_i32_126 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v160 : BitVec 32 := Scalar.subi c1_i32_126 v8
  let v164 : BitVec 32 := Scalar.addi v163 v160
  let c0_i32_139 : BitVec 32 := 0#32
  let c0_i32_140 : BitVec 32 := 0#32
  ![v164.toNat, 0, 0]
def k0_dev9 (d0 : Dev nD) : Nat :=
  let c0_i32_134 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_133 : BitVec 32 := 4#32
  let v165 : BitVec 32 := Scalar.muli v2 c4_i32_133
  let v166 : BitVec 32 := Scalar.addi c0_i32_134 v165
  let c1_i32_125 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v159 : BitVec 32 := Scalar.subi c1_i32_125 v5
  let c2_i32_135 : BitVec 32 := 2#32
  let v167 : BitVec 32 := Scalar.muli v159 c2_i32_135
  let v168 : BitVec 32 := Scalar.addi v166 v167
  let c1_i32_126 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v160 : BitVec 32 := Scalar.subi c1_i32_126 v8
  let c1_i32_136 : BitVec 32 := 1#32
  let v169 : BitVec 32 := Scalar.muli v160 c1_i32_136
  let v170 : BitVec 32 := Scalar.addi v168 v169
  v170.toNat
def k0_off14 (d0 : Dev nD) : Fin 3 → Nat :=
  let c4_i32_127 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v161 : BitVec 32 := Scalar.muli c4_i32_127 v2
  let c2_i32_128 : BitVec 32 := 2#32
  let c1_i32_125 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v159 : BitVec 32 := Scalar.subi c1_i32_125 v5
  let v162 : BitVec 32 := Scalar.muli c2_i32_128 v159
  let v163 : BitVec 32 := Scalar.addi v161 v162
  let c1_i32_126 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v160 : BitVec 32 := Scalar.subi c1_i32_126 v8
  let v164 : BitVec 32 := Scalar.addi v163 v160
  let c0_i32_151 : BitVec 32 := 0#32
  let c0_i32_152 : BitVec 32 := 0#32
  ![v164.toNat, 0, 0]
def k0_dev10 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_145 : BitVec 32 := 4#32
  let v179 : BitVec 32 := Scalar.muli v2 c4_i32_145
  let v180 : BitVec 32 := Scalar.addi c0_i32_146 v179
  let c1_i32_125 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v159 : BitVec 32 := Scalar.subi c1_i32_125 v5
  let c2_i32_147 : BitVec 32 := 2#32
  let v181 : BitVec 32 := Scalar.muli v159 c2_i32_147
  let v182 : BitVec 32 := Scalar.addi v180 v181
  let c1_i32_126 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v160 : BitVec 32 := Scalar.subi c1_i32_126 v8
  let c1_i32_148 : BitVec 32 := 1#32
  let v183 : BitVec 32 := Scalar.muli v160 c1_i32_148
  let v184 : BitVec 32 := Scalar.addi v182 v183
  v184.toNat
def k0_off15 (d0 : Dev nD) : Fin 3 → Nat :=
  let c4_i32_127 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v161 : BitVec 32 := Scalar.muli c4_i32_127 v2
  let c2_i32_128 : BitVec 32 := 2#32
  let c1_i32_125 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v159 : BitVec 32 := Scalar.subi c1_i32_125 v5
  let v162 : BitVec 32 := Scalar.muli c2_i32_128 v159
  let v163 : BitVec 32 := Scalar.addi v161 v162
  let c1_i32_126 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v160 : BitVec 32 := Scalar.subi c1_i32_126 v8
  let v164 : BitVec 32 := Scalar.addi v163 v160
  let c0_i32_163 : BitVec 32 := 0#32
  let c0_i32_164 : BitVec 32 := 0#32
  ![v164.toNat, 0, 0]
def k0_dev11 (d0 : Dev nD) : Nat :=
  let c0_i32_158 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_157 : BitVec 32 := 4#32
  let v193 : BitVec 32 := Scalar.muli v2 c4_i32_157
  let v194 : BitVec 32 := Scalar.addi c0_i32_158 v193
  let c1_i32_125 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v159 : BitVec 32 := Scalar.subi c1_i32_125 v5
  let c2_i32_159 : BitVec 32 := 2#32
  let v195 : BitVec 32 := Scalar.muli v159 c2_i32_159
  let v196 : BitVec 32 := Scalar.addi v194 v195
  let c1_i32_126 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v160 : BitVec 32 := Scalar.subi c1_i32_126 v8
  let c1_i32_160 : BitVec 32 := 1#32
  let v197 : BitVec 32 := Scalar.muli v160 c1_i32_160
  let v198 : BitVec 32 := Scalar.addi v196 v197
  v198.toNat
def k0_off16 (d0 : Dev nD) : Fin 3 → Nat :=
  let c4_i32_127 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v161 : BitVec 32 := Scalar.muli c4_i32_127 v2
  let c2_i32_128 : BitVec 32 := 2#32
  let c1_i32_125 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v159 : BitVec 32 := Scalar.subi c1_i32_125 v5
  let v162 : BitVec 32 := Scalar.muli c2_i32_128 v159
  let v163 : BitVec 32 := Scalar.addi v161 v162
  let c1_i32_126 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v160 : BitVec 32 := Scalar.subi c1_i32_126 v8
  let v164 : BitVec 32 := Scalar.addi v163 v160
  let c0_i32_175 : BitVec 32 := 0#32
  let c0_i32_176 : BitVec 32 := 0#32
  ![v164.toNat, 0, 0]
def k0_dev12 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v207 : BitVec 32 := Scalar.muli v2 c4_i32_169
  let v208 : BitVec 32 := Scalar.addi c0_i32_170 v207
  let c1_i32_125 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v159 : BitVec 32 := Scalar.subi c1_i32_125 v5
  let c2_i32_171 : BitVec 32 := 2#32
  let v209 : BitVec 32 := Scalar.muli v159 c2_i32_171
  let v210 : BitVec 32 := Scalar.addi v208 v209
  let c1_i32_126 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v160 : BitVec 32 := Scalar.subi c1_i32_126 v8
  let c1_i32_172 : BitVec 32 := 1#32
  let v211 : BitVec 32 := Scalar.muli v160 c1_i32_172
  let v212 : BitVec 32 := Scalar.addi v210 v211
  v212.toNat
def k0_off17 (d0 : Dev nD) : Fin 3 → Nat :=
  let c4_i32_178 : BitVec 32 := 4#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_177 v2
  let v222 : BitVec 32 := Scalar.muli c4_i32_178 v221
  let c2_i32_179 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v223 : BitVec 32 := Scalar.muli c2_i32_179 v5
  let v224 : BitVec 32 := Scalar.addi v222 v223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v225 : BitVec 32 := Scalar.addi v224 v8
  let c0_i32_190 : BitVec 32 := 0#32
  let c0_i32_191 : BitVec 32 := 0#32
  ![v225.toNat, 0, 0]
def k0_dev13 (d0 : Dev nD) : Nat :=
  let c0_i32_185 : BitVec 32 := 0#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_177 v2
  let c4_i32_184 : BitVec 32 := 4#32
  let v226 : BitVec 32 := Scalar.muli v221 c4_i32_184
  let v227 : BitVec 32 := Scalar.addi c0_i32_185 v226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_186 : BitVec 32 := 2#32
  let v228 : BitVec 32 := Scalar.muli v5 c2_i32_186
  let v229 : BitVec 32 := Scalar.addi v227 v228
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_187 : BitVec 32 := 1#32
  let v230 : BitVec 32 := Scalar.muli v8 c1_i32_187
  let v231 : BitVec 32 := Scalar.addi v229 v230
  v231.toNat
def k0_off18 (d0 : Dev nD) : Fin 3 → Nat :=
  let c4_i32_178 : BitVec 32 := 4#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_177 v2
  let v222 : BitVec 32 := Scalar.muli c4_i32_178 v221
  let c2_i32_179 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v223 : BitVec 32 := Scalar.muli c2_i32_179 v5
  let v224 : BitVec 32 := Scalar.addi v222 v223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v225 : BitVec 32 := Scalar.addi v224 v8
  let c0_i32_202 : BitVec 32 := 0#32
  let c0_i32_203 : BitVec 32 := 0#32
  ![v225.toNat, 0, 0]
def k0_dev14 (d0 : Dev nD) : Nat :=
  let c0_i32_197 : BitVec 32 := 0#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_177 v2
  let c4_i32_196 : BitVec 32 := 4#32
  let v240 : BitVec 32 := Scalar.muli v221 c4_i32_196
  let v241 : BitVec 32 := Scalar.addi c0_i32_197 v240
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v242 : BitVec 32 := Scalar.muli v5 c2_i32_198
  let v243 : BitVec 32 := Scalar.addi v241 v242
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_199 : BitVec 32 := 1#32
  let v244 : BitVec 32 := Scalar.muli v8 c1_i32_199
  let v245 : BitVec 32 := Scalar.addi v243 v244
  v245.toNat
def k0_off19 (d0 : Dev nD) : Fin 3 → Nat :=
  let c4_i32_178 : BitVec 32 := 4#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_177 v2
  let v222 : BitVec 32 := Scalar.muli c4_i32_178 v221
  let c2_i32_179 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v223 : BitVec 32 := Scalar.muli c2_i32_179 v5
  let v224 : BitVec 32 := Scalar.addi v222 v223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v225 : BitVec 32 := Scalar.addi v224 v8
  let c0_i32_214 : BitVec 32 := 0#32
  let c0_i32_215 : BitVec 32 := 0#32
  ![v225.toNat, 0, 0]
def k0_dev15 (d0 : Dev nD) : Nat :=
  let c0_i32_209 : BitVec 32 := 0#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_177 v2
  let c4_i32_208 : BitVec 32 := 4#32
  let v254 : BitVec 32 := Scalar.muli v221 c4_i32_208
  let v255 : BitVec 32 := Scalar.addi c0_i32_209 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_210 : BitVec 32 := 2#32
  let v256 : BitVec 32 := Scalar.muli v5 c2_i32_210
  let v257 : BitVec 32 := Scalar.addi v255 v256
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_211 : BitVec 32 := 1#32
  let v258 : BitVec 32 := Scalar.muli v8 c1_i32_211
  let v259 : BitVec 32 := Scalar.addi v257 v258
  v259.toNat
def k0_off20 (d0 : Dev nD) : Fin 3 → Nat :=
  let c4_i32_178 : BitVec 32 := 4#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_177 v2
  let v222 : BitVec 32 := Scalar.muli c4_i32_178 v221
  let c2_i32_179 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v223 : BitVec 32 := Scalar.muli c2_i32_179 v5
  let v224 : BitVec 32 := Scalar.addi v222 v223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v225 : BitVec 32 := Scalar.addi v224 v8
  let c0_i32_226 : BitVec 32 := 0#32
  let c0_i32_227 : BitVec 32 := 0#32
  ![v225.toNat, 0, 0]
def k0_dev16 (d0 : Dev nD) : Nat :=
  let c0_i32_221 : BitVec 32 := 0#32
  let c1_i32_177 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_177 v2
  let c4_i32_220 : BitVec 32 := 4#32
  let v268 : BitVec 32 := Scalar.muli v221 c4_i32_220
  let v269 : BitVec 32 := Scalar.addi c0_i32_221 v268
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_222 : BitVec 32 := 2#32
  let v270 : BitVec 32 := Scalar.muli v5 c2_i32_222
  let v271 : BitVec 32 := Scalar.addi v269 v270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_223 : BitVec 32 := 1#32
  let v272 : BitVec 32 := Scalar.muli v8 c1_i32_223
  let v273 : BitVec 32 := Scalar.addi v271 v272
  v273.toNat
def k0_off21 (d0 : Dev nD) : Fin 3 → Nat :=
  let c4_i32_230 : BitVec 32 := 4#32
  let c1_i32_228 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v282 : BitVec 32 := Scalar.subi c1_i32_228 v2
  let v284 : BitVec 32 := Scalar.muli c4_i32_230 v282
  let c2_i32_231 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v285 : BitVec 32 := Scalar.muli c2_i32_231 v5
  let v286 : BitVec 32 := Scalar.addi v284 v285
  let c1_i32_229 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v283 : BitVec 32 := Scalar.subi c1_i32_229 v8
  let v287 : BitVec 32 := Scalar.addi v286 v283
  let c0_i32_242 : BitVec 32 := 0#32
  let c0_i32_243 : BitVec 32 := 0#32
  ![v287.toNat, 0, 0]
def k0_dev17 (d0 : Dev nD) : Nat :=
  let c0_i32_237 : BitVec 32 := 0#32
  let c1_i32_228 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v282 : BitVec 32 := Scalar.subi c1_i32_228 v2
  let c4_i32_236 : BitVec 32 := 4#32
  let v288 : BitVec 32 := Scalar.muli v282 c4_i32_236
  let v289 : BitVec 32 := Scalar.addi c0_i32_237 v288
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_238 : BitVec 32 := 2#32
  let v290 : BitVec 32 := Scalar.muli v5 c2_i32_238
  let v291 : BitVec 32 := Scalar.addi v289 v290
  let c1_i32_229 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v283 : BitVec 32 := Scalar.subi c1_i32_229 v8
  let c1_i32_239 : BitVec 32 := 1#32
  let v292 : BitVec 32 := Scalar.muli v283 c1_i32_239
  let v293 : BitVec 32 := Scalar.addi v291 v292
  v293.toNat
def k0_off22 (d0 : Dev nD) : Fin 3 → Nat :=
  let c4_i32_230 : BitVec 32 := 4#32
  let c1_i32_228 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v282 : BitVec 32 := Scalar.subi c1_i32_228 v2
  let v284 : BitVec 32 := Scalar.muli c4_i32_230 v282
  let c2_i32_231 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v285 : BitVec 32 := Scalar.muli c2_i32_231 v5
  let v286 : BitVec 32 := Scalar.addi v284 v285
  let c1_i32_229 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v283 : BitVec 32 := Scalar.subi c1_i32_229 v8
  let v287 : BitVec 32 := Scalar.addi v286 v283
  let c0_i32_254 : BitVec 32 := 0#32
  let c0_i32_255 : BitVec 32 := 0#32
  ![v287.toNat, 0, 0]
def k0_dev18 (d0 : Dev nD) : Nat :=
  let c0_i32_249 : BitVec 32 := 0#32
  let c1_i32_228 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v282 : BitVec 32 := Scalar.subi c1_i32_228 v2
  let c4_i32_248 : BitVec 32 := 4#32
  let v302 : BitVec 32 := Scalar.muli v282 c4_i32_248
  let v303 : BitVec 32 := Scalar.addi c0_i32_249 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_250 : BitVec 32 := 2#32
  let v304 : BitVec 32 := Scalar.muli v5 c2_i32_250
  let v305 : BitVec 32 := Scalar.addi v303 v304
  let c1_i32_229 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v283 : BitVec 32 := Scalar.subi c1_i32_229 v8
  let c1_i32_251 : BitVec 32 := 1#32
  let v306 : BitVec 32 := Scalar.muli v283 c1_i32_251
  let v307 : BitVec 32 := Scalar.addi v305 v306
  v307.toNat
def k0_off23 (d0 : Dev nD) : Fin 3 → Nat :=
  let c4_i32_230 : BitVec 32 := 4#32
  let c1_i32_228 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v282 : BitVec 32 := Scalar.subi c1_i32_228 v2
  let v284 : BitVec 32 := Scalar.muli c4_i32_230 v282
  let c2_i32_231 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v285 : BitVec 32 := Scalar.muli c2_i32_231 v5
  let v286 : BitVec 32 := Scalar.addi v284 v285
  let c1_i32_229 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v283 : BitVec 32 := Scalar.subi c1_i32_229 v8
  let v287 : BitVec 32 := Scalar.addi v286 v283
  let c0_i32_266 : BitVec 32 := 0#32
  let c0_i32_267 : BitVec 32 := 0#32
  ![v287.toNat, 0, 0]
def k0_dev19 (d0 : Dev nD) : Nat :=
  let c0_i32_261 : BitVec 32 := 0#32
  let c1_i32_228 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v282 : BitVec 32 := Scalar.subi c1_i32_228 v2
  let c4_i32_260 : BitVec 32 := 4#32
  let v316 : BitVec 32 := Scalar.muli v282 c4_i32_260
  let v317 : BitVec 32 := Scalar.addi c0_i32_261 v316
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_262 : BitVec 32 := 2#32
  let v318 : BitVec 32 := Scalar.muli v5 c2_i32_262
  let v319 : BitVec 32 := Scalar.addi v317 v318
  let c1_i32_229 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v283 : BitVec 32 := Scalar.subi c1_i32_229 v8
  let c1_i32_263 : BitVec 32 := 1#32
  let v320 : BitVec 32 := Scalar.muli v283 c1_i32_263
  let v321 : BitVec 32 := Scalar.addi v319 v320
  v321.toNat
def k0_off24 (d0 : Dev nD) : Fin 3 → Nat :=
  let c4_i32_230 : BitVec 32 := 4#32
  let c1_i32_228 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v282 : BitVec 32 := Scalar.subi c1_i32_228 v2
  let v284 : BitVec 32 := Scalar.muli c4_i32_230 v282
  let c2_i32_231 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v285 : BitVec 32 := Scalar.muli c2_i32_231 v5
  let v286 : BitVec 32 := Scalar.addi v284 v285
  let c1_i32_229 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v283 : BitVec 32 := Scalar.subi c1_i32_229 v8
  let v287 : BitVec 32 := Scalar.addi v286 v283
  let c0_i32_278 : BitVec 32 := 0#32
  let c0_i32_279 : BitVec 32 := 0#32
  ![v287.toNat, 0, 0]
def k0_dev20 (d0 : Dev nD) : Nat :=
  let c0_i32_273 : BitVec 32 := 0#32
  let c1_i32_228 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v282 : BitVec 32 := Scalar.subi c1_i32_228 v2
  let c4_i32_272 : BitVec 32 := 4#32
  let v330 : BitVec 32 := Scalar.muli v282 c4_i32_272
  let v331 : BitVec 32 := Scalar.addi c0_i32_273 v330
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_274 : BitVec 32 := 2#32
  let v332 : BitVec 32 := Scalar.muli v5 c2_i32_274
  let v333 : BitVec 32 := Scalar.addi v331 v332
  let c1_i32_229 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v283 : BitVec 32 := Scalar.subi c1_i32_229 v8
  let c1_i32_275 : BitVec 32 := 1#32
  let v334 : BitVec 32 := Scalar.muli v283 c1_i32_275
  let v335 : BitVec 32 := Scalar.addi v333 v334
  v335.toNat
def k0_off25 (d0 : Dev nD) : Fin 3 → Nat :=
  let c4_i32_282 : BitVec 32 := 4#32
  let c1_i32_280 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v344 : BitVec 32 := Scalar.subi c1_i32_280 v2
  let v346 : BitVec 32 := Scalar.muli c4_i32_282 v344
  let c2_i32_283 : BitVec 32 := 2#32
  let c1_i32_281 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_281 v5
  let v347 : BitVec 32 := Scalar.muli c2_i32_283 v345
  let v348 : BitVec 32 := Scalar.addi v346 v347
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v349 : BitVec 32 := Scalar.addi v348 v8
  let c0_i32_293 : BitVec 32 := 0#32
  let c0_i32_294 : BitVec 32 := 0#32
  ![v349.toNat, 0, 0]
def k0_dev21 (d0 : Dev nD) : Nat :=
  let c0_i32_288 : BitVec 32 := 0#32
  let c1_i32_280 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v344 : BitVec 32 := Scalar.subi c1_i32_280 v2
  let c4_i32_287 : BitVec 32 := 4#32
  let v350 : BitVec 32 := Scalar.muli v344 c4_i32_287
  let v351 : BitVec 32 := Scalar.addi c0_i32_288 v350
  let c1_i32_281 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_281 v5
  let c2_i32_289 : BitVec 32 := 2#32
  let v352 : BitVec 32 := Scalar.muli v345 c2_i32_289
  let v353 : BitVec 32 := Scalar.addi v351 v352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_290 : BitVec 32 := 1#32
  let v354 : BitVec 32 := Scalar.muli v8 c1_i32_290
  let v355 : BitVec 32 := Scalar.addi v353 v354
  v355.toNat
def k0_off26 (d0 : Dev nD) : Fin 3 → Nat :=
  let c4_i32_282 : BitVec 32 := 4#32
  let c1_i32_280 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v344 : BitVec 32 := Scalar.subi c1_i32_280 v2
  let v346 : BitVec 32 := Scalar.muli c4_i32_282 v344
  let c2_i32_283 : BitVec 32 := 2#32
  let c1_i32_281 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_281 v5
  let v347 : BitVec 32 := Scalar.muli c2_i32_283 v345
  let v348 : BitVec 32 := Scalar.addi v346 v347
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v349 : BitVec 32 := Scalar.addi v348 v8
  let c0_i32_305 : BitVec 32 := 0#32
  let c0_i32_306 : BitVec 32 := 0#32
  ![v349.toNat, 0, 0]
def k0_dev22 (d0 : Dev nD) : Nat :=
  let c0_i32_300 : BitVec 32 := 0#32
  let c1_i32_280 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v344 : BitVec 32 := Scalar.subi c1_i32_280 v2
  let c4_i32_299 : BitVec 32 := 4#32
  let v364 : BitVec 32 := Scalar.muli v344 c4_i32_299
  let v365 : BitVec 32 := Scalar.addi c0_i32_300 v364
  let c1_i32_281 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_281 v5
  let c2_i32_301 : BitVec 32 := 2#32
  let v366 : BitVec 32 := Scalar.muli v345 c2_i32_301
  let v367 : BitVec 32 := Scalar.addi v365 v366
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_302 : BitVec 32 := 1#32
  let v368 : BitVec 32 := Scalar.muli v8 c1_i32_302
  let v369 : BitVec 32 := Scalar.addi v367 v368
  v369.toNat
def k0_off27 (d0 : Dev nD) : Fin 3 → Nat :=
  let c4_i32_282 : BitVec 32 := 4#32
  let c1_i32_280 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v344 : BitVec 32 := Scalar.subi c1_i32_280 v2
  let v346 : BitVec 32 := Scalar.muli c4_i32_282 v344
  let c2_i32_283 : BitVec 32 := 2#32
  let c1_i32_281 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_281 v5
  let v347 : BitVec 32 := Scalar.muli c2_i32_283 v345
  let v348 : BitVec 32 := Scalar.addi v346 v347
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v349 : BitVec 32 := Scalar.addi v348 v8
  let c0_i32_317 : BitVec 32 := 0#32
  let c0_i32_318 : BitVec 32 := 0#32
  ![v349.toNat, 0, 0]
def k0_dev23 (d0 : Dev nD) : Nat :=
  let c0_i32_312 : BitVec 32 := 0#32
  let c1_i32_280 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v344 : BitVec 32 := Scalar.subi c1_i32_280 v2
  let c4_i32_311 : BitVec 32 := 4#32
  let v378 : BitVec 32 := Scalar.muli v344 c4_i32_311
  let v379 : BitVec 32 := Scalar.addi c0_i32_312 v378
  let c1_i32_281 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_281 v5
  let c2_i32_313 : BitVec 32 := 2#32
  let v380 : BitVec 32 := Scalar.muli v345 c2_i32_313
  let v381 : BitVec 32 := Scalar.addi v379 v380
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_314 : BitVec 32 := 1#32
  let v382 : BitVec 32 := Scalar.muli v8 c1_i32_314
  let v383 : BitVec 32 := Scalar.addi v381 v382
  v383.toNat
def k0_off28 (d0 : Dev nD) : Fin 3 → Nat :=
  let c4_i32_282 : BitVec 32 := 4#32
  let c1_i32_280 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v344 : BitVec 32 := Scalar.subi c1_i32_280 v2
  let v346 : BitVec 32 := Scalar.muli c4_i32_282 v344
  let c2_i32_283 : BitVec 32 := 2#32
  let c1_i32_281 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_281 v5
  let v347 : BitVec 32 := Scalar.muli c2_i32_283 v345
  let v348 : BitVec 32 := Scalar.addi v346 v347
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v349 : BitVec 32 := Scalar.addi v348 v8
  let c0_i32_329 : BitVec 32 := 0#32
  let c0_i32_330 : BitVec 32 := 0#32
  ![v349.toNat, 0, 0]
def k0_dev24 (d0 : Dev nD) : Nat :=
  let c0_i32_324 : BitVec 32 := 0#32
  let c1_i32_280 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v344 : BitVec 32 := Scalar.subi c1_i32_280 v2
  let c4_i32_323 : BitVec 32 := 4#32
  let v392 : BitVec 32 := Scalar.muli v344 c4_i32_323
  let v393 : BitVec 32 := Scalar.addi c0_i32_324 v392
  let c1_i32_281 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_281 v5
  let c2_i32_325 : BitVec 32 := 2#32
  let v394 : BitVec 32 := Scalar.muli v345 c2_i32_325
  let v395 : BitVec 32 := Scalar.addi v393 v394
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_326 : BitVec 32 := 1#32
  let v396 : BitVec 32 := Scalar.muli v8 c1_i32_326
  let v397 : BitVec 32 := Scalar.addi v395 v396
  v397.toNat
def k0_off29 (d0 : Dev nD) : Fin 3 → Nat :=
  let c4_i32_334 : BitVec 32 := 4#32
  let c1_i32_331 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_331 v2
  let v409 : BitVec 32 := Scalar.muli c4_i32_334 v406
  let c2_i32_335 : BitVec 32 := 2#32
  let c1_i32_332 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v407 : BitVec 32 := Scalar.subi c1_i32_332 v5
  let v410 : BitVec 32 := Scalar.muli c2_i32_335 v407
  let v411 : BitVec 32 := Scalar.addi v409 v410
  let c1_i32_333 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v408 : BitVec 32 := Scalar.subi c1_i32_333 v8
  let v412 : BitVec 32 := Scalar.addi v411 v408
  let c0_i32_345 : BitVec 32 := 0#32
  let c0_i32_346 : BitVec 32 := 0#32
  ![v412.toNat, 0, 0]
def k0_dev25 (d0 : Dev nD) : Nat :=
  let c0_i32_340 : BitVec 32 := 0#32
  let c1_i32_331 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_331 v2
  let c4_i32_339 : BitVec 32 := 4#32
  let v413 : BitVec 32 := Scalar.muli v406 c4_i32_339
  let v414 : BitVec 32 := Scalar.addi c0_i32_340 v413
  let c1_i32_332 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v407 : BitVec 32 := Scalar.subi c1_i32_332 v5
  let c2_i32_341 : BitVec 32 := 2#32
  let v415 : BitVec 32 := Scalar.muli v407 c2_i32_341
  let v416 : BitVec 32 := Scalar.addi v414 v415
  let c1_i32_333 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v408 : BitVec 32 := Scalar.subi c1_i32_333 v8
  let c1_i32_342 : BitVec 32 := 1#32
  let v417 : BitVec 32 := Scalar.muli v408 c1_i32_342
  let v418 : BitVec 32 := Scalar.addi v416 v417
  v418.toNat
def k0_off30 (d0 : Dev nD) : Fin 3 → Nat :=
  let c4_i32_334 : BitVec 32 := 4#32
  let c1_i32_331 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_331 v2
  let v409 : BitVec 32 := Scalar.muli c4_i32_334 v406
  let c2_i32_335 : BitVec 32 := 2#32
  let c1_i32_332 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v407 : BitVec 32 := Scalar.subi c1_i32_332 v5
  let v410 : BitVec 32 := Scalar.muli c2_i32_335 v407
  let v411 : BitVec 32 := Scalar.addi v409 v410
  let c1_i32_333 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v408 : BitVec 32 := Scalar.subi c1_i32_333 v8
  let v412 : BitVec 32 := Scalar.addi v411 v408
  let c0_i32_357 : BitVec 32 := 0#32
  let c0_i32_358 : BitVec 32 := 0#32
  ![v412.toNat, 0, 0]
def k0_dev26 (d0 : Dev nD) : Nat :=
  let c0_i32_352 : BitVec 32 := 0#32
  let c1_i32_331 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_331 v2
  let c4_i32_351 : BitVec 32 := 4#32
  let v427 : BitVec 32 := Scalar.muli v406 c4_i32_351
  let v428 : BitVec 32 := Scalar.addi c0_i32_352 v427
  let c1_i32_332 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v407 : BitVec 32 := Scalar.subi c1_i32_332 v5
  let c2_i32_353 : BitVec 32 := 2#32
  let v429 : BitVec 32 := Scalar.muli v407 c2_i32_353
  let v430 : BitVec 32 := Scalar.addi v428 v429
  let c1_i32_333 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v408 : BitVec 32 := Scalar.subi c1_i32_333 v8
  let c1_i32_354 : BitVec 32 := 1#32
  let v431 : BitVec 32 := Scalar.muli v408 c1_i32_354
  let v432 : BitVec 32 := Scalar.addi v430 v431
  v432.toNat
def k0_off31 (d0 : Dev nD) : Fin 3 → Nat :=
  let c4_i32_334 : BitVec 32 := 4#32
  let c1_i32_331 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_331 v2
  let v409 : BitVec 32 := Scalar.muli c4_i32_334 v406
  let c2_i32_335 : BitVec 32 := 2#32
  let c1_i32_332 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v407 : BitVec 32 := Scalar.subi c1_i32_332 v5
  let v410 : BitVec 32 := Scalar.muli c2_i32_335 v407
  let v411 : BitVec 32 := Scalar.addi v409 v410
  let c1_i32_333 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v408 : BitVec 32 := Scalar.subi c1_i32_333 v8
  let v412 : BitVec 32 := Scalar.addi v411 v408
  let c0_i32_369 : BitVec 32 := 0#32
  let c0_i32_370 : BitVec 32 := 0#32
  ![v412.toNat, 0, 0]
def k0_dev27 (d0 : Dev nD) : Nat :=
  let c0_i32_364 : BitVec 32 := 0#32
  let c1_i32_331 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_331 v2
  let c4_i32_363 : BitVec 32 := 4#32
  let v441 : BitVec 32 := Scalar.muli v406 c4_i32_363
  let v442 : BitVec 32 := Scalar.addi c0_i32_364 v441
  let c1_i32_332 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v407 : BitVec 32 := Scalar.subi c1_i32_332 v5
  let c2_i32_365 : BitVec 32 := 2#32
  let v443 : BitVec 32 := Scalar.muli v407 c2_i32_365
  let v444 : BitVec 32 := Scalar.addi v442 v443
  let c1_i32_333 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v408 : BitVec 32 := Scalar.subi c1_i32_333 v8
  let c1_i32_366 : BitVec 32 := 1#32
  let v445 : BitVec 32 := Scalar.muli v408 c1_i32_366
  let v446 : BitVec 32 := Scalar.addi v444 v445
  v446.toNat
def k0_off32 (d0 : Dev nD) : Fin 3 → Nat :=
  let c4_i32_334 : BitVec 32 := 4#32
  let c1_i32_331 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_331 v2
  let v409 : BitVec 32 := Scalar.muli c4_i32_334 v406
  let c2_i32_335 : BitVec 32 := 2#32
  let c1_i32_332 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v407 : BitVec 32 := Scalar.subi c1_i32_332 v5
  let v410 : BitVec 32 := Scalar.muli c2_i32_335 v407
  let v411 : BitVec 32 := Scalar.addi v409 v410
  let c1_i32_333 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v408 : BitVec 32 := Scalar.subi c1_i32_333 v8
  let v412 : BitVec 32 := Scalar.addi v411 v408
  let c0_i32_381 : BitVec 32 := 0#32
  let c0_i32_382 : BitVec 32 := 0#32
  ![v412.toNat, 0, 0]
def k0_dev28 (d0 : Dev nD) : Nat :=
  let c0_i32_376 : BitVec 32 := 0#32
  let c1_i32_331 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v406 : BitVec 32 := Scalar.subi c1_i32_331 v2
  let c4_i32_375 : BitVec 32 := 4#32
  let v455 : BitVec 32 := Scalar.muli v406 c4_i32_375
  let v456 : BitVec 32 := Scalar.addi c0_i32_376 v455
  let c1_i32_332 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v407 : BitVec 32 := Scalar.subi c1_i32_332 v5
  let c2_i32_377 : BitVec 32 := 2#32
  let v457 : BitVec 32 := Scalar.muli v407 c2_i32_377
  let v458 : BitVec 32 := Scalar.addi v456 v457
  let c1_i32_333 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v408 : BitVec 32 := Scalar.subi c1_i32_333 v8
  let c1_i32_378 : BitVec 32 := 1#32
  let v459 : BitVec 32 := Scalar.muli v408 c1_i32_378
  let v460 : BitVec 32 := Scalar.addi v458 v459
  v460.toNat
-- ==== Reference.lean ====
abbrev S64x2048x771 : Shape := ⟨3, ![64, 2048, 771]⟩
abbrev S64x256x2048 : Shape := ⟨3, ![64, 256, 2048]⟩
abbrev S64x2048x1024 : Shape := ⟨3, ![64, 2048, 1024]⟩
abbrev S64x1024x2048 : Shape := ⟨3, ![64, 1024, 2048]⟩
abbrev S8x8x2048x771 : Shape := ⟨4, ![8, 8, 2048, 771]⟩
abbrev S8x8x256x2048 : Shape := ⟨4, ![8, 8, 256, 2048]⟩
abbrev S8x8x2048x1024 : Shape := ⟨4, ![8, 8, 2048, 1024]⟩
abbrev S8x8x1024x2048 : Shape := ⟨4, ![8, 8, 1024, 2048]⟩

abbrev nBuf : Space → Nat
  | .hbm => 16
  | .vmem => 0
  | .smem => 0
  | _ => 0

abbrev bufTy : (tb : Table) → Fin (tcTables nBuf tb) → BufTy
  | .hbm, ⟨0, _⟩ => ⟨S64x2048x771, .bf16⟩
  | .hbm, ⟨1, _⟩ => ⟨S64x256x2048, .bf16⟩
  | .hbm, ⟨2, _⟩ => ⟨S64x2048x1024, .bf16⟩
  | .hbm, ⟨3, _⟩ => ⟨S64x1024x2048, .bf16⟩
  | .hbm, ⟨4, _⟩ => ⟨S8x8x2048x771, .bf16⟩
  | .hbm, ⟨5, _⟩ => ⟨S8x8x2048x771, .bf16⟩
  | .hbm, ⟨6, _⟩ => ⟨S64x2048x771, .bf16⟩
  | .hbm, ⟨7, _⟩ => ⟨S8x8x256x2048, .bf16⟩
  | .hbm, ⟨8, _⟩ => ⟨S8x8x256x2048, .bf16⟩
  | .hbm, ⟨9, _⟩ => ⟨S64x256x2048, .bf16⟩
  | .hbm, ⟨10, _⟩ => ⟨S8x8x2048x1024, .bf16⟩
  | .hbm, ⟨11, _⟩ => ⟨S8x8x2048x1024, .bf16⟩
  | .hbm, ⟨12, _⟩ => ⟨S64x2048x1024, .bf16⟩
  | .hbm, ⟨13, _⟩ => ⟨S8x8x1024x2048, .bf16⟩
  | .hbm, ⟨14, _⟩ => ⟨S8x8x1024x2048, .bf16⟩
  | .hbm, ⟨15, _⟩ => ⟨S64x1024x2048, .bf16⟩
  | _, _ => ⟨S64x2048x771, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Gather.lean ====
abbrev S2048x771 : Shape := ⟨2, ![2048, 771]⟩
abbrev S256x2048 : Shape := ⟨2, ![256, 2048]⟩
abbrev S2048x1024 : Shape := ⟨2, ![2048, 1024]⟩
abbrev S1024x2048 : Shape := ⟨2, ![1024, 2048]⟩
abbrev S8x2048x771 : Shape := ⟨3, ![8, 2048, 771]⟩
abbrev S8x256x2048 : Shape := ⟨3, ![8, 256, 2048]⟩
abbrev S8x2048x1024 : Shape := ⟨3, ![8, 2048, 1024]⟩
abbrev S8x1024x2048 : Shape := ⟨3, ![8, 1024, 2048]⟩
abbrev S4x7 : Shape := ⟨2, ![4, 7]⟩
abbrev S4 : Shape := ⟨1, ![4]⟩
abbrev S1 : Shape := ⟨1, ![1]⟩
abbrev S_ : Shape := ⟨0, ![]⟩
abbrev S1x2048x771 : Shape := ⟨3, ![1, 2048, 771]⟩
abbrev S1x256x2048 : Shape := ⟨3, ![1, 256, 2048]⟩
abbrev S1x2048x1024 : Shape := ⟨3, ![1, 2048, 1024]⟩
abbrev S1x1024x2048 : Shape := ⟨3, ![1, 1024, 2048]⟩
abbrev S1x1 : Shape := ⟨2, ![1, 1]⟩

abbrev nBuf : Space → Nat
  | .hbm => 8
  | .vmem => 0
  | .smem => 0
  | _ => 0

abbrev bufTy : (tb : Table) → Fin (tcTables nBuf tb) → BufTy
  | .hbm, ⟨0, _⟩ => ⟨S2048x771, .bf16⟩
  | .hbm, ⟨1, _⟩ => ⟨S256x2048, .bf16⟩
  | .hbm, ⟨2, _⟩ => ⟨S2048x1024, .bf16⟩
  | .hbm, ⟨3, _⟩ => ⟨S1024x2048, .bf16⟩
  | .hbm, ⟨4, _⟩ => ⟨S8x2048x771, .bf16⟩
  | .hbm, ⟨5, _⟩ => ⟨S8x256x2048, .bf16⟩
  | .hbm, ⟨6, _⟩ => ⟨S8x2048x1024, .bf16⟩
  | .hbm, ⟨7, _⟩ => ⟨S8x1024x2048, .bf16⟩
  | _, _ => ⟨S2048x771, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_10 : BitVec 32 := 0#32
  let c0_i32_11 : BitVec 32 := 0#32
  ![v17.toNat, 0, 0]
def k0_off2 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.muli c2_i32_13 v5
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.addi v24 v8
  let c0_i32_15 : BitVec 32 := 0#32
  let c0_i32_16 : BitVec 32 := 0#32
  ![v25.toNat, 0, 0]
def k0_off3 (d0 : Dev nD) : Fin 3 → Nat :=
  let c4_i32_17 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_17 v2
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_18 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_20 : BitVec 32 := 0#32
  let c0_i32_21 : BitVec 32 := 0#32
  ![v33.toNat, 0, 0]
def k0_off4 (d0 : Dev nD) : Fin 3 → Nat :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.muli c4_i32_22 v2
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.muli c2_i32_23 v5
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.addi v40 v8
  let c0_i32_24 : BitVec 32 := 0#32
  let c0_i32_25 : BitVec 32 := 0#32
  ![v41.toNat, 0, 0]
def k0_dev1 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_62 : BitVec 32 := 4#32
  let v110 : BitVec 32 := Scalar.muli v2 c4_i32_62
  let v111 : BitVec 32 := Scalar.addi c0_i32_63 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v112 : BitVec 32 := Scalar.muli v5 c2_i32_64
  let v113 : BitVec 32 := Scalar.addi v111 v112
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_65 : BitVec 32 := 1#32
  let v114 : BitVec 32 := Scalar.muli v9 c1_i32_65
  let v115 : BitVec 32 := Scalar.addi v113 v114
  v115.toNat
def k0_dev2 (d0 : Dev nD) : Nat :=
  let c0_i32_73 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_72 : BitVec 32 := 4#32
  let v122 : BitVec 32 := Scalar.muli v10 c4_i32_72
  let v123 : BitVec 32 := Scalar.addi c0_i32_73 v122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v124 : BitVec 32 := Scalar.muli v5 c2_i32_74
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v126 : BitVec 32 := Scalar.muli v8 c1_i32_75
  let v127 : BitVec 32 := Scalar.addi v125 v126
  v127.toNat
def k0_dev3 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v134 : BitVec 32 := Scalar.muli v2 c4_i32_82
  let v135 : BitVec 32 := Scalar.addi c0_i32_83 v134
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_84 : BitVec 32 := 2#32
  let v136 : BitVec 32 := Scalar.muli v11 c2_i32_84
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v138 : BitVec 32 := Scalar.muli v8 c1_i32_85
  let v139 : BitVec 32 := Scalar.addi v137 v138
  v139.toNat
def k0_dev4 (d0 : Dev nD) : Nat :=
  let c0_i32_93 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_92 : BitVec 32 := 4#32
  let v146 : BitVec 32 := Scalar.muli v12 c4_i32_92
  let v147 : BitVec 32 := Scalar.addi c0_i32_93 v146
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_94 : BitVec 32 := 2#32
  let v148 : BitVec 32 := Scalar.muli v13 c2_i32_94
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_95 : BitVec 32 := 1#32
  let v150 : BitVec 32 := Scalar.muli v8 c1_i32_95
  let v151 : BitVec 32 := Scalar.addi v149 v150
  v151.toNat
def k0_dev5 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_102 : BitVec 32 := 4#32
  let v158 : BitVec 32 := Scalar.muli v2 c4_i32_102
  let v159 : BitVec 32 := Scalar.addi c0_i32_103 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v160 : BitVec 32 := Scalar.muli v5 c2_i32_104
  let v161 : BitVec 32 := Scalar.addi v159 v160
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_105 : BitVec 32 := 1#32
  let v162 : BitVec 32 := Scalar.muli v9 c1_i32_105
  let v163 : BitVec 32 := Scalar.addi v161 v162
  v163.toNat
def k0_dev6 (d0 : Dev nD) : Nat :=
  let c0_i32_113 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_112 : BitVec 32 := 4#32
  let v170 : BitVec 32 := Scalar.muli v10 c4_i32_112
  let v171 : BitVec 32 := Scalar.addi c0_i32_113 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v172 : BitVec 32 := Scalar.muli v5 c2_i32_114
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_115 : BitVec 32 := 1#32
  let v174 : BitVec 32 := Scalar.muli v8 c1_i32_115
  let v175 : BitVec 32 := Scalar.addi v173 v174
  v175.toNat
def k0_dev7 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v182 : BitVec 32 := Scalar.muli v2 c4_i32_122
  let v183 : BitVec 32 := Scalar.addi c0_i32_123 v182
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_124 : BitVec 32 := 2#32
  let v184 : BitVec 32 := Scalar.muli v11 c2_i32_124
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v186 : BitVec 32 := Scalar.muli v8 c1_i32_125
  let v187 : BitVec 32 := Scalar.addi v185 v186
  v187.toNat
def k0_dev8 (d0 : Dev nD) : Nat :=
  let c0_i32_133 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_132 : BitVec 32 := 4#32
  let v194 : BitVec 32 := Scalar.muli v12 c4_i32_132
  let v195 : BitVec 32 := Scalar.addi c0_i32_133 v194
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_134 : BitVec 32 := 2#32
  let v196 : BitVec 32 := Scalar.muli v13 c2_i32_134
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v198 : BitVec 32 := Scalar.muli v8 c1_i32_135
  let v199 : BitVec 32 := Scalar.addi v197 v198
  v199.toNat
def k0_dev9 (d0 : Dev nD) : Nat :=
  let c0_i32_143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_142 : BitVec 32 := 4#32
  let v206 : BitVec 32 := Scalar.muli v2 c4_i32_142
  let v207 : BitVec 32 := Scalar.addi c0_i32_143 v206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_144 : BitVec 32 := 2#32
  let v208 : BitVec 32 := Scalar.muli v5 c2_i32_144
  let v209 : BitVec 32 := Scalar.addi v207 v208
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_145 : BitVec 32 := 1#32
  let v210 : BitVec 32 := Scalar.muli v9 c1_i32_145
  let v211 : BitVec 32 := Scalar.addi v209 v210
  v211.toNat
def k0_dev10 (d0 : Dev nD) : Nat :=
  let c0_i32_153 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_152 : BitVec 32 := 4#32
  let v218 : BitVec 32 := Scalar.muli v10 c4_i32_152
  let v219 : BitVec 32 := Scalar.addi c0_i32_153 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_154 : BitVec 32 := 2#32
  let v220 : BitVec 32 := Scalar.muli v5 c2_i32_154
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_155 : BitVec 32 := 1#32
  let v222 : BitVec 32 := Scalar.muli v8 c1_i32_155
  let v223 : BitVec 32 := Scalar.addi v221 v222
  v223.toNat
def k0_dev11 (d0 : Dev nD) : Nat :=
  let c0_i32_163 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_162 : BitVec 32 := 4#32
  let v230 : BitVec 32 := Scalar.muli v2 c4_i32_162
  let v231 : BitVec 32 := Scalar.addi c0_i32_163 v230
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_164 : BitVec 32 := 2#32
  let v232 : BitVec 32 := Scalar.muli v11 c2_i32_164
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_165 : BitVec 32 := 1#32
  let v234 : BitVec 32 := Scalar.muli v8 c1_i32_165
  let v235 : BitVec 32 := Scalar.addi v233 v234
  v235.toNat
def k0_dev12 (d0 : Dev nD) : Nat :=
  let c0_i32_173 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_172 : BitVec 32 := 4#32
  let v242 : BitVec 32 := Scalar.muli v12 c4_i32_172
  let v243 : BitVec 32 := Scalar.addi c0_i32_173 v242
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_174 : BitVec 32 := 2#32
  let v244 : BitVec 32 := Scalar.muli v13 c2_i32_174
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v246 : BitVec 32 := Scalar.muli v8 c1_i32_175
  let v247 : BitVec 32 := Scalar.addi v245 v246
  v247.toNat
def k0_dev13 (d0 : Dev nD) : Nat :=
  let c0_i32_183 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_182 : BitVec 32 := 4#32
  let v254 : BitVec 32 := Scalar.muli v2 c4_i32_182
  let v255 : BitVec 32 := Scalar.addi c0_i32_183 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_184 : BitVec 32 := 2#32
  let v256 : BitVec 32 := Scalar.muli v5 c2_i32_184
  let v257 : BitVec 32 := Scalar.addi v255 v256
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_185 : BitVec 32 := 1#32
  let v258 : BitVec 32 := Scalar.muli v9 c1_i32_185
  let v259 : BitVec 32 := Scalar.addi v257 v258
  v259.toNat
def k0_dev14 (d0 : Dev nD) : Nat :=
  let c0_i32_193 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_192 : BitVec 32 := 4#32
  let v266 : BitVec 32 := Scalar.muli v10 c4_i32_192
  let v267 : BitVec 32 := Scalar.addi c0_i32_193 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_194 : BitVec 32 := 2#32
  let v268 : BitVec 32 := Scalar.muli v5 c2_i32_194
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_195 : BitVec 32 := 1#32
  let v270 : BitVec 32 := Scalar.muli v8 c1_i32_195
  let v271 : BitVec 32 := Scalar.addi v269 v270
  v271.toNat
def k0_dev15 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v278 : BitVec 32 := Scalar.muli v2 c4_i32_202
  let v279 : BitVec 32 := Scalar.addi c0_i32_203 v278
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_204 : BitVec 32 := 2#32
  let v280 : BitVec 32 := Scalar.muli v11 c2_i32_204
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_205 : BitVec 32 := 1#32
  let v282 : BitVec 32 := Scalar.muli v8 c1_i32_205
  let v283 : BitVec 32 := Scalar.addi v281 v282
  v283.toNat
def k0_dev16 (d0 : Dev nD) : Nat :=
  let c0_i32_213 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_212 : BitVec 32 := 4#32
  let v290 : BitVec 32 := Scalar.muli v12 c4_i32_212
  let v291 : BitVec 32 := Scalar.addi c0_i32_213 v290
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_214 : BitVec 32 := 2#32
  let v292 : BitVec 32 := Scalar.muli v13 c2_i32_214
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_215 : BitVec 32 := 1#32
  let v294 : BitVec 32 := Scalar.muli v8 c1_i32_215
  let v295 : BitVec 32 := Scalar.addi v293 v294
  v295.toNat
def k0_off5 (d0 : Dev nD) : Fin 3 → Nat :=
  let c4_i32_220 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v306 : BitVec 32 := Scalar.muli c4_i32_220 v10
  let c2_i32_221 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v307 : BitVec 32 := Scalar.muli c2_i32_221 v5
  let v308 : BitVec 32 := Scalar.addi v306 v307
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v309 : BitVec 32 := Scalar.addi v308 v8
  let c0_i32_230 : BitVec 32 := 0#32
  let c0_i32_231 : BitVec 32 := 0#32
  ![v309.toNat, 0, 0]
def k0_dev17 (d0 : Dev nD) : Nat :=
  let c0_i32_243 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_242 : BitVec 32 := 4#32
  let v330 : BitVec 32 := Scalar.muli v2 c4_i32_242
  let v331 : BitVec 32 := Scalar.addi c0_i32_243 v330
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_244 : BitVec 32 := 2#32
  let v332 : BitVec 32 := Scalar.muli v5 c2_i32_244
  let v333 : BitVec 32 := Scalar.addi v331 v332
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_245 : BitVec 32 := 1#32
  let v334 : BitVec 32 := Scalar.muli v9 c1_i32_245
  let v335 : BitVec 32 := Scalar.addi v333 v334
  v335.toNat
def k0_off6 (d0 : Dev nD) : Fin 3 → Nat :=
  let c4_i32_252 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v348 : BitVec 32 := Scalar.muli c4_i32_252 v10
  let c2_i32_253 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v349 : BitVec 32 := Scalar.muli c2_i32_253 v5
  let v350 : BitVec 32 := Scalar.addi v348 v349
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v351 : BitVec 32 := Scalar.addi v350 v8
  let c0_i32_262 : BitVec 32 := 0#32
  let c0_i32_263 : BitVec 32 := 0#32
  ![v351.toNat, 0, 0]
def k0_dev18 (d0 : Dev nD) : Nat :=
  let c0_i32_275 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_274 : BitVec 32 := 4#32
  let v372 : BitVec 32 := Scalar.muli v2 c4_i32_274
  let v373 : BitVec 32 := Scalar.addi c0_i32_275 v372
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_276 : BitVec 32 := 2#32
  let v374 : BitVec 32 := Scalar.muli v5 c2_i32_276
  let v375 : BitVec 32 := Scalar.addi v373 v374
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_277 : BitVec 32 := 1#32
  let v376 : BitVec 32 := Scalar.muli v9 c1_i32_277
  let v377 : BitVec 32 := Scalar.addi v375 v376
  v377.toNat
def k0_off7 (d0 : Dev nD) : Fin 3 → Nat :=
  let c4_i32_284 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v390 : BitVec 32 := Scalar.muli c4_i32_284 v10
  let c2_i32_285 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v391 : BitVec 32 := Scalar.muli c2_i32_285 v5
  let v392 : BitVec 32 := Scalar.addi v390 v391
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v393 : BitVec 32 := Scalar.addi v392 v8
  let c0_i32_294 : BitVec 32 := 0#32
  let c0_i32_295 : BitVec 32 := 0#32
  ![v393.toNat, 0, 0]
def k0_dev19 (d0 : Dev nD) : Nat :=
  let c0_i32_307 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_306 : BitVec 32 := 4#32
  let v414 : BitVec 32 := Scalar.muli v2 c4_i32_306
  let v415 : BitVec 32 := Scalar.addi c0_i32_307 v414
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_308 : BitVec 32 := 2#32
  let v416 : BitVec 32 := Scalar.muli v5 c2_i32_308
  let v417 : BitVec 32 := Scalar.addi v415 v416
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_309 : BitVec 32 := 1#32
  let v418 : BitVec 32 := Scalar.muli v9 c1_i32_309
  let v419 : BitVec 32 := Scalar.addi v417 v418
  v419.toNat
def k0_off8 (d0 : Dev nD) : Fin 3 → Nat :=
  let c4_i32_316 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v432 : BitVec 32 := Scalar.muli c4_i32_316 v10
  let c2_i32_317 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v433 : BitVec 32 := Scalar.muli c2_i32_317 v5
  let v434 : BitVec 32 := Scalar.addi v432 v433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v435 : BitVec 32 := Scalar.addi v434 v8
  let c0_i32_326 : BitVec 32 := 0#32
  let c0_i32_327 : BitVec 32 := 0#32
  ![v435.toNat, 0, 0]
def k0_dev20 (d0 : Dev nD) : Nat :=
  let c0_i32_339 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_338 : BitVec 32 := 4#32
  let v456 : BitVec 32 := Scalar.muli v2 c4_i32_338
  let v457 : BitVec 32 := Scalar.addi c0_i32_339 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_340 : BitVec 32 := 2#32
  let v458 : BitVec 32 := Scalar.muli v5 c2_i32_340
  let v459 : BitVec 32 := Scalar.addi v457 v458
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_341 : BitVec 32 := 1#32
  let v460 : BitVec 32 := Scalar.muli v9 c1_i32_341
  let v461 : BitVec 32 := Scalar.addi v459 v460
  v461.toNat
def k0_off9 (d0 : Dev nD) : Fin 3 → Nat :=
  let c4_i32_348 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v474 : BitVec 32 := Scalar.muli c4_i32_348 v2
  let c2_i32_349 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v475 : BitVec 32 := Scalar.muli c2_i32_349 v11
  let v476 : BitVec 32 := Scalar.addi v474 v475
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v477 : BitVec 32 := Scalar.addi v476 v8
  let c0_i32_358 : BitVec 32 := 0#32
  let c0_i32_359 : BitVec 32 := 0#32
  ![v477.toNat, 0, 0]
def k0_dev21 (d0 : Dev nD) : Nat :=
  let c0_i32_370 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_369 : BitVec 32 := 4#32
  let v498 : BitVec 32 := Scalar.muli v2 c4_i32_369
  let v499 : BitVec 32 := Scalar.addi c0_i32_370 v498
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_371 : BitVec 32 := 2#32
  let v500 : BitVec 32 := Scalar.muli v5 c2_i32_371
  let v501 : BitVec 32 := Scalar.addi v499 v500
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_372 : BitVec 32 := 1#32
  let v502 : BitVec 32 := Scalar.muli v9 c1_i32_372
  let v503 : BitVec 32 := Scalar.addi v501 v502
  v503.toNat
def k0_off10 (d0 : Dev nD) : Fin 3 → Nat :=
  let c4_i32_379 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v516 : BitVec 32 := Scalar.muli c4_i32_379 v2
  let c2_i32_380 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v517 : BitVec 32 := Scalar.muli c2_i32_380 v11
  let v518 : BitVec 32 := Scalar.addi v516 v517
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v519 : BitVec 32 := Scalar.addi v518 v8
  let c0_i32_389 : BitVec 32 := 0#32
  let c0_i32_390 : BitVec 32 := 0#32
  ![v519.toNat, 0, 0]
def k0_dev22 (d0 : Dev nD) : Nat :=
  let c0_i32_402 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_401 : BitVec 32 := 4#32
  let v540 : BitVec 32 := Scalar.muli v2 c4_i32_401
  let v541 : BitVec 32 := Scalar.addi c0_i32_402 v540
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_403 : BitVec 32 := 2#32
  let v542 : BitVec 32 := Scalar.muli v5 c2_i32_403
  let v543 : BitVec 32 := Scalar.addi v541 v542
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_404 : BitVec 32 := 1#32
  let v544 : BitVec 32 := Scalar.muli v9 c1_i32_404
  let v545 : BitVec 32 := Scalar.addi v543 v544
  v545.toNat
def k0_off11 (d0 : Dev nD) : Fin 3 → Nat :=
  let c4_i32_411 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v558 : BitVec 32 := Scalar.muli c4_i32_411 v2
  let c2_i32_412 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v559 : BitVec 32 := Scalar.muli c2_i32_412 v11
  let v560 : BitVec 32 := Scalar.addi v558 v559
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v561 : BitVec 32 := Scalar.addi v560 v8
  let c0_i32_421 : BitVec 32 := 0#32
  let c0_i32_422 : BitVec 32 := 0#32
  ![v561.toNat, 0, 0]
def k0_dev23 (d0 : Dev nD) : Nat :=
  let c0_i32_434 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_433 : BitVec 32 := 4#32
  let v582 : BitVec 32 := Scalar.muli v2 c4_i32_433
  let v583 : BitVec 32 := Scalar.addi c0_i32_434 v582
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_435 : BitVec 32 := 2#32
  let v584 : BitVec 32 := Scalar.muli v5 c2_i32_435
  let v585 : BitVec 32 := Scalar.addi v583 v584
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_436 : BitVec 32 := 1#32
  let v586 : BitVec 32 := Scalar.muli v9 c1_i32_436
  let v587 : BitVec 32 := Scalar.addi v585 v586
  v587.toNat
def k0_off12 (d0 : Dev nD) : Fin 3 → Nat :=
  let c4_i32_443 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v600 : BitVec 32 := Scalar.muli c4_i32_443 v2
  let c2_i32_444 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v601 : BitVec 32 := Scalar.muli c2_i32_444 v11
  let v602 : BitVec 32 := Scalar.addi v600 v601
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v603 : BitVec 32 := Scalar.addi v602 v8
  let c0_i32_453 : BitVec 32 := 0#32
  let c0_i32_454 : BitVec 32 := 0#32
  ![v603.toNat, 0, 0]
def k0_dev24 (d0 : Dev nD) : Nat :=
  let c0_i32_466 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_465 : BitVec 32 := 4#32
  let v624 : BitVec 32 := Scalar.muli v2 c4_i32_465
  let v625 : BitVec 32 := Scalar.addi c0_i32_466 v624
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_467 : BitVec 32 := 2#32
  let v626 : BitVec 32 := Scalar.muli v5 c2_i32_467
  let v627 : BitVec 32 := Scalar.addi v625 v626
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_468 : BitVec 32 := 1#32
  let v628 : BitVec 32 := Scalar.muli v9 c1_i32_468
  let v629 : BitVec 32 := Scalar.addi v627 v628
  v629.toNat
def k0_off13 (d0 : Dev nD) : Fin 3 → Nat :=
  let c4_i32_475 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v642 : BitVec 32 := Scalar.muli c4_i32_475 v12
  let c2_i32_476 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v643 : BitVec 32 := Scalar.muli c2_i32_476 v13
  let v644 : BitVec 32 := Scalar.addi v642 v643
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v645 : BitVec 32 := Scalar.addi v644 v8
  let c0_i32_485 : BitVec 32 := 0#32
  let c0_i32_486 : BitVec 32 := 0#32
  ![v645.toNat, 0, 0]
def k0_dev25 (d0 : Dev nD) : Nat :=
  let c0_i32_497 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_496 : BitVec 32 := 4#32
  let v666 : BitVec 32 := Scalar.muli v2 c4_i32_496
  let v667 : BitVec 32 := Scalar.addi c0_i32_497 v666
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_498 : BitVec 32 := 2#32
  let v668 : BitVec 32 := Scalar.muli v5 c2_i32_498
  let v669 : BitVec 32 := Scalar.addi v667 v668
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_499 : BitVec 32 := 1#32
  let v670 : BitVec 32 := Scalar.muli v9 c1_i32_499
  let v671 : BitVec 32 := Scalar.addi v669 v670
  v671.toNat
def k0_off14 (d0 : Dev nD) : Fin 3 → Nat :=
  let c4_i32_506 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v684 : BitVec 32 := Scalar.muli c4_i32_506 v12
  let c2_i32_507 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v685 : BitVec 32 := Scalar.muli c2_i32_507 v13
  let v686 : BitVec 32 := Scalar.addi v684 v685
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v687 : BitVec 32 := Scalar.addi v686 v8
  let c0_i32_516 : BitVec 32 := 0#32
  let c0_i32_517 : BitVec 32 := 0#32
  ![v687.toNat, 0, 0]
def k0_dev26 (d0 : Dev nD) : Nat :=
  let c0_i32_529 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_528 : BitVec 32 := 4#32
  let v708 : BitVec 32 := Scalar.muli v2 c4_i32_528
  let v709 : BitVec 32 := Scalar.addi c0_i32_529 v708
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_530 : BitVec 32 := 2#32
  let v710 : BitVec 32 := Scalar.muli v5 c2_i32_530
  let v711 : BitVec 32 := Scalar.addi v709 v710
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_531 : BitVec 32 := 1#32
  let v712 : BitVec 32 := Scalar.muli v9 c1_i32_531
  let v713 : BitVec 32 := Scalar.addi v711 v712
  v713.toNat
def k0_off15 (d0 : Dev nD) : Fin 3 → Nat :=
  let c4_i32_538 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v726 : BitVec 32 := Scalar.muli c4_i32_538 v12
  let c2_i32_539 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v727 : BitVec 32 := Scalar.muli c2_i32_539 v13
  let v728 : BitVec 32 := Scalar.addi v726 v727
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v729 : BitVec 32 := Scalar.addi v728 v8
  let c0_i32_548 : BitVec 32 := 0#32
  let c0_i32_549 : BitVec 32 := 0#32
  ![v729.toNat, 0, 0]
def k0_dev27 (d0 : Dev nD) : Nat :=
  let c0_i32_561 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_560 : BitVec 32 := 4#32
  let v750 : BitVec 32 := Scalar.muli v2 c4_i32_560
  let v751 : BitVec 32 := Scalar.addi c0_i32_561 v750
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_562 : BitVec 32 := 2#32
  let v752 : BitVec 32 := Scalar.muli v5 c2_i32_562
  let v753 : BitVec 32 := Scalar.addi v751 v752
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_563 : BitVec 32 := 1#32
  let v754 : BitVec 32 := Scalar.muli v9 c1_i32_563
  let v755 : BitVec 32 := Scalar.addi v753 v754
  v755.toNat
def k0_off16 (d0 : Dev nD) : Fin 3 → Nat :=
  let c4_i32_570 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v768 : BitVec 32 := Scalar.muli c4_i32_570 v12
  let c2_i32_571 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v769 : BitVec 32 := Scalar.muli c2_i32_571 v13
  let v770 : BitVec 32 := Scalar.addi v768 v769
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v771 : BitVec 32 := Scalar.addi v770 v8
  let c0_i32_580 : BitVec 32 := 0#32
  let c0_i32_581 : BitVec 32 := 0#32
  ![v771.toNat, 0, 0]
def k0_dev28 (d0 : Dev nD) : Nat :=
  let c0_i32_593 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_592 : BitVec 32 := 4#32
  let v792 : BitVec 32 := Scalar.muli v2 c4_i32_592
  let v793 : BitVec 32 := Scalar.addi c0_i32_593 v792
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_594 : BitVec 32 := 2#32
  let v794 : BitVec 32 := Scalar.muli v5 c2_i32_594
  let v795 : BitVec 32 := Scalar.addi v793 v794
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_595 : BitVec 32 := 1#32
  let v796 : BitVec 32 := Scalar.muli v9 c1_i32_595
  let v797 : BitVec 32 := Scalar.addi v795 v796
  v797.toNat
def k0_off17 (d0 : Dev nD) : Fin 3 → Nat :=
  let c4_i32_602 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v810 : BitVec 32 := Scalar.muli c4_i32_602 v2
  let c2_i32_603 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v811 : BitVec 32 := Scalar.muli c2_i32_603 v5
  let v812 : BitVec 32 := Scalar.addi v810 v811
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v813 : BitVec 32 := Scalar.addi v812 v9
  let c0_i32_612 : BitVec 32 := 0#32
  let c0_i32_613 : BitVec 32 := 0#32
  ![v813.toNat, 0, 0]
def k0_off18 (d0 : Dev nD) : Fin 3 → Nat :=
  let c4_i32_619 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v831 : BitVec 32 := Scalar.muli c4_i32_619 v10
  let c2_i32_620 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v832 : BitVec 32 := Scalar.muli c2_i32_620 v5
  let v833 : BitVec 32 := Scalar.addi v831 v832
  let c1_i32_616 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v826 : BitVec 32 := Scalar.subi c1_i32_616 v8
  let v834 : BitVec 32 := Scalar.addi v833 v826
  let c0_i32_629 : BitVec 32 := 0#32
  let c0_i32_630 : BitVec 32 := 0#32
  ![v834.toNat, 0, 0]
def k0_off19 (d0 : Dev nD) : Fin 3 → Nat :=
  let c4_i32_636 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v852 : BitVec 32 := Scalar.muli c4_i32_636 v2
  let c2_i32_637 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v853 : BitVec 32 := Scalar.muli c2_i32_637 v11
  let v854 : BitVec 32 := Scalar.addi v852 v853
  let c1_i32_633 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v847 : BitVec 32 := Scalar.subi c1_i32_633 v8
  let v855 : BitVec 32 := Scalar.addi v854 v847
  let c0_i32_646 : BitVec 32 := 0#32
  let c0_i32_647 : BitVec 32 := 0#32
  ![v855.toNat, 0, 0]
def k0_off20 (d0 : Dev nD) : Fin 3 → Nat :=
  let c4_i32_653 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v873 : BitVec 32 := Scalar.muli c4_i32_653 v12
  let c2_i32_654 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v874 : BitVec 32 := Scalar.muli c2_i32_654 v13
  let v875 : BitVec 32 := Scalar.addi v873 v874
  let c1_i32_650 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v868 : BitVec 32 := Scalar.subi c1_i32_650 v8
  let v876 : BitVec 32 := Scalar.addi v875 v868
  let c0_i32_663 : BitVec 32 := 0#32
  let c0_i32_664 : BitVec 32 := 0#32
  ![v876.toNat, 0, 0]
def k0_off21 (d0 : Dev nD) : Fin 3 → Nat :=
  let c4_i32_669 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v893 : BitVec 32 := Scalar.muli c4_i32_669 v2
  let c2_i32_670 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v894 : BitVec 32 := Scalar.muli c2_i32_670 v5
  let v895 : BitVec 32 := Scalar.addi v893 v894
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v896 : BitVec 32 := Scalar.addi v895 v9
  let c0_i32_679 : BitVec 32 := 0#32
  let c0_i32_680 : BitVec 32 := 0#32
  ![v896.toNat, 0, 0]
def k0_off22 (d0 : Dev nD) : Fin 3 → Nat :=
  let c4_i32_686 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v914 : BitVec 32 := Scalar.muli c4_i32_686 v10
  let c2_i32_687 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v915 : BitVec 32 := Scalar.muli c2_i32_687 v5
  let v916 : BitVec 32 := Scalar.addi v914 v915
  let c1_i32_683 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v909 : BitVec 32 := Scalar.subi c1_i32_683 v8
  let v917 : BitVec 32 := Scalar.addi v916 v909
  let c0_i32_696 : BitVec 32 := 0#32
  let c0_i32_697 : BitVec 32 := 0#32
  ![v917.toNat, 0, 0]
def k0_off23 (d0 : Dev nD) : Fin 3 → Nat :=
  let c4_i32_703 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v935 : BitVec 32 := Scalar.muli c4_i32_703 v2
  let c2_i32_704 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v936 : BitVec 32 := Scalar.muli c2_i32_704 v11
  let v937 : BitVec 32 := Scalar.addi v935 v936
  let c1_i32_700 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v930 : BitVec 32 := Scalar.subi c1_i32_700 v8
  let v938 : BitVec 32 := Scalar.addi v937 v930
  let c0_i32_713 : BitVec 32 := 0#32
  let c0_i32_714 : BitVec 32 := 0#32
  ![v938.toNat, 0, 0]
def k0_off24 (d0 : Dev nD) : Fin 3 → Nat :=
  let c4_i32_720 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v956 : BitVec 32 := Scalar.muli c4_i32_720 v12
  let c2_i32_721 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v957 : BitVec 32 := Scalar.muli c2_i32_721 v13
  let v958 : BitVec 32 := Scalar.addi v956 v957
  let c1_i32_717 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v951 : BitVec 32 := Scalar.subi c1_i32_717 v8
  let v959 : BitVec 32 := Scalar.addi v958 v951
  let c0_i32_730 : BitVec 32 := 0#32
  let c0_i32_731 : BitVec 32 := 0#32
  ![v959.toNat, 0, 0]
def k0_off25 (d0 : Dev nD) : Fin 3 → Nat :=
  let c4_i32_736 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v976 : BitVec 32 := Scalar.muli c4_i32_736 v2
  let c2_i32_737 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v977 : BitVec 32 := Scalar.muli c2_i32_737 v5
  let v978 : BitVec 32 := Scalar.addi v976 v977
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v979 : BitVec 32 := Scalar.addi v978 v9
  let c0_i32_746 : BitVec 32 := 0#32
  let c0_i32_747 : BitVec 32 := 0#32
  ![v979.toNat, 0, 0]
def k0_off26 (d0 : Dev nD) : Fin 3 → Nat :=
  let c4_i32_753 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v997 : BitVec 32 := Scalar.muli c4_i32_753 v10
  let c2_i32_754 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v998 : BitVec 32 := Scalar.muli c2_i32_754 v5
  let v999 : BitVec 32 := Scalar.addi v997 v998
  let c1_i32_750 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v992 : BitVec 32 := Scalar.subi c1_i32_750 v8
  let v1000 : BitVec 32 := Scalar.addi v999 v992
  let c0_i32_763 : BitVec 32 := 0#32
  let c0_i32_764 : BitVec 32 := 0#32
  ![v1000.toNat, 0, 0]
def k0_off27 (d0 : Dev nD) : Fin 3 → Nat :=
  let c4_i32_770 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1018 : BitVec 32 := Scalar.muli c4_i32_770 v2
  let c2_i32_771 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1019 : BitVec 32 := Scalar.muli c2_i32_771 v11
  let v1020 : BitVec 32 := Scalar.addi v1018 v1019
  let c1_i32_767 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1013 : BitVec 32 := Scalar.subi c1_i32_767 v8
  let v1021 : BitVec 32 := Scalar.addi v1020 v1013
  let c0_i32_780 : BitVec 32 := 0#32
  let c0_i32_781 : BitVec 32 := 0#32
  ![v1021.toNat, 0, 0]
def k0_off28 (d0 : Dev nD) : Fin 3 → Nat :=
  let c4_i32_787 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1039 : BitVec 32 := Scalar.muli c4_i32_787 v12
  let c2_i32_788 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1040 : BitVec 32 := Scalar.muli c2_i32_788 v13
  let v1041 : BitVec 32 := Scalar.addi v1039 v1040
  let c1_i32_784 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1034 : BitVec 32 := Scalar.subi c1_i32_784 v8
  let v1042 : BitVec 32 := Scalar.addi v1041 v1034
  let c0_i32_797 : BitVec 32 := 0#32
  let c0_i32_798 : BitVec 32 := 0#32
  ![v1042.toNat, 0, 0]
def k0_off29 (d0 : Dev nD) : Fin 3 → Nat :=
  let c4_i32_803 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1059 : BitVec 32 := Scalar.muli c4_i32_803 v2
  let c2_i32_804 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1060 : BitVec 32 := Scalar.muli c2_i32_804 v5
  let v1061 : BitVec 32 := Scalar.addi v1059 v1060
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1062 : BitVec 32 := Scalar.addi v1061 v9
  let c0_i32_813 : BitVec 32 := 0#32
  let c0_i32_814 : BitVec 32 := 0#32
  ![v1062.toNat, 0, 0]
def k0_off30 (d0 : Dev nD) : Fin 3 → Nat :=
  let c4_i32_820 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1080 : BitVec 32 := Scalar.muli c4_i32_820 v10
  let c2_i32_821 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1081 : BitVec 32 := Scalar.muli c2_i32_821 v5
  let v1082 : BitVec 32 := Scalar.addi v1080 v1081
  let c1_i32_817 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1075 : BitVec 32 := Scalar.subi c1_i32_817 v8
  let v1083 : BitVec 32 := Scalar.addi v1082 v1075
  let c0_i32_830 : BitVec 32 := 0#32
  let c0_i32_831 : BitVec 32 := 0#32
  ![v1083.toNat, 0, 0]
def k0_off31 (d0 : Dev nD) : Fin 3 → Nat :=
  let c4_i32_837 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1101 : BitVec 32 := Scalar.muli c4_i32_837 v2
  let c2_i32_838 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1102 : BitVec 32 := Scalar.muli c2_i32_838 v11
  let v1103 : BitVec 32 := Scalar.addi v1101 v1102
  let c1_i32_834 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1096 : BitVec 32 := Scalar.subi c1_i32_834 v8
  let v1104 : BitVec 32 := Scalar.addi v1103 v1096
  let c0_i32_847 : BitVec 32 := 0#32
  let c0_i32_848 : BitVec 32 := 0#32
  ![v1104.toNat, 0, 0]
def k0_off32 (d0 : Dev nD) : Fin 3 → Nat :=
  let c4_i32_854 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1122 : BitVec 32 := Scalar.muli c4_i32_854 v12
  let c2_i32_855 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1123 : BitVec 32 := Scalar.muli c2_i32_855 v13
  let v1124 : BitVec 32 := Scalar.addi v1122 v1123
  let c1_i32_851 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1117 : BitVec 32 := Scalar.subi c1_i32_851 v8
  let v1125 : BitVec 32 := Scalar.addi v1124 v1117
  let c0_i32_864 : BitVec 32 := 0#32
  let c0_i32_865 : BitVec 32 := 0#32
  ![v1125.toNat, 0, 0]
-- ==== GatherReference.lean ====
abbrev S2048x6168 : Shape := ⟨2, ![2048, 6168]⟩
abbrev S2048x2048 : Shape := ⟨2, ![2048, 2048]⟩
abbrev S2048x8192 : Shape := ⟨2, ![2048, 8192]⟩
abbrev S8192x2048 : Shape := ⟨2, ![8192, 2048]⟩
abbrev S2048x8x771 : Shape := ⟨3, ![2048, 8, 771]⟩
abbrev S8x2048x771 : Shape := ⟨3, ![8, 2048, 771]⟩
abbrev S8x256x2048 : Shape := ⟨3, ![8, 256, 2048]⟩
abbrev S2048x8x1024 : Shape := ⟨3, ![2048, 8, 1024]⟩
abbrev S8x2048x1024 : Shape := ⟨3, ![8, 2048, 1024]⟩
abbrev S8x1024x2048 : Shape := ⟨3, ![8, 1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x6168, .bf16⟩
  | .hbm, ⟨1, _⟩ => ⟨S2048x2048, .bf16⟩
  | .hbm, ⟨2, _⟩ => ⟨S2048x8192, .bf16⟩
  | .hbm, ⟨3, _⟩ => ⟨S8192x2048, .bf16⟩
  | .hbm, ⟨4, _⟩ => ⟨S2048x8x771, .bf16⟩
  | .hbm, ⟨5, _⟩ => ⟨S8x2048x771, .bf16⟩
  | .hbm, ⟨6, _⟩ => ⟨S8x256x2048, .bf16⟩
  | .hbm, ⟨7, _⟩ => ⟨S2048x8x1024, .bf16⟩
  | .hbm, ⟨8, _⟩ => ⟨S8x2048x1024, .bf16⟩
  | .hbm, ⟨9, _⟩ => ⟨S8x1024x2048, .bf16⟩
  | _, _ => ⟨S2048x6168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== UpdateIn.lean ====
abbrev S2048x771 : Shape := ⟨2, ![2048, 771]⟩
abbrev S8x2048x771 : Shape := ⟨3, ![8, 2048, 771]⟩
abbrev S256x771 : Shape := ⟨2, ![256, 771]⟩
abbrev S8x256x771 : Shape := ⟨3, ![8, 256, 771]⟩
abbrev S1x256x771 : Shape := ⟨3, ![1, 256, 771]⟩

abbrev nBuf : Space → Nat
  | .hbm => 8
  | .vmem => 16
  | .smem => 0
  | _ => 0

abbrev bufTy : (tb : Table) → Fin (tcTables nBuf tb) → BufTy
  | .hbm, ⟨0, _⟩ => ⟨S2048x771, .f32⟩
  | .hbm, ⟨1, _⟩ => ⟨S8x2048x771, .bf16⟩
  | .hbm, ⟨2, _⟩ => ⟨S2048x771, .f32⟩
  | .hbm, ⟨3, _⟩ => ⟨S2048x771, .f32⟩
  | .hbm, ⟨4, _⟩ => ⟨S2048x771, .f32⟩
  | .hbm, ⟨5, _⟩ => ⟨S2048x771, .f32⟩
  | .hbm, ⟨6, _⟩ => ⟨S2048x771, .f32⟩
  | .hbm, ⟨7, _⟩ => ⟨S2048x771, .f32⟩
  | .local _ .vmem, ⟨0, _⟩ => ⟨S256x771, .f32⟩
  | .local _ .vmem, ⟨1, _⟩ => ⟨S256x771, .f32⟩
  | .local _ .vmem, ⟨2, _⟩ => ⟨S8x256x771, .bf16⟩
  | .local _ .vmem, ⟨3, _⟩ => ⟨S8x256x771, .bf16⟩
  | .local _ .vmem, ⟨4, _⟩ => ⟨S256x771, .f32⟩
  | .local _ .vmem, ⟨5, _⟩ => ⟨S256x771, .f32⟩
  | .local _ .vmem, ⟨6, _⟩ => ⟨S256x771, .f32⟩
  | .local _ .vmem, ⟨7, _⟩ => ⟨S256x771, .f32⟩
  | .local _ .vmem, ⟨8, _⟩ => ⟨S256x771, .f32⟩
  | .local _ .vmem, ⟨9, _⟩ => ⟨S256x771, .f32⟩
  | .local _ .vmem, ⟨10, _⟩ => ⟨S256x771, .f32⟩
  | .local _ .vmem, ⟨11, _⟩ => ⟨S256x771, .f32⟩
  | .local _ .vmem, ⟨12, _⟩ => ⟨S256x771, .f32⟩
  | .local _ .vmem, ⟨13, _⟩ => ⟨S256x771, .f32⟩
  | .local _ .vmem, ⟨14, _⟩ => ⟨S256x771, .f32⟩
  | .local _ .vmem, ⟨15, _⟩ => ⟨S256x771, .f32⟩
  | _, _ => ⟨S2048x771, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x771 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x771 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x771 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x771 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x771 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x771 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x771 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x771 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateInReferenceIdeal.lean ====
abbrev S2048x771 : Shape := ⟨2, ![2048, 771]⟩
abbrev S8x2048x771 : Shape := ⟨3, ![8, 2048, 771]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x771, .f32⟩
  | .hbm, ⟨1, _⟩ => ⟨S8x2048x771, .bf16⟩
  | .hbm, ⟨2, _⟩ => ⟨S2048x771, .f32⟩
  | .hbm, ⟨3, _⟩ => ⟨S2048x771, .f32⟩
  | .hbm, ⟨4, _⟩ => ⟨S8x2048x771, .f32⟩
  | .hbm, ⟨5, _⟩ => ⟨S_, .f32⟩
  | .hbm, ⟨6, _⟩ => ⟨S2048x771, .f32⟩
  | .hbm, ⟨7, _⟩ => ⟨S_, .f32⟩
  | .hbm, ⟨8, _⟩ => ⟨S2048x771, .f32⟩
  | .hbm, ⟨9, _⟩ => ⟨S2048x771, .f32⟩
  | .hbm, ⟨10, _⟩ => ⟨S_, .f32⟩
  | .hbm, ⟨11, _⟩ => ⟨S2048x771, .f32⟩
  | .hbm, ⟨12, _⟩ => ⟨S2048x771, .f32⟩
  | .hbm, ⟨13, _⟩ => ⟨S2048x771, .f32⟩
  | .hbm, ⟨14, _⟩ => ⟨S_, .f32⟩
  | .hbm, ⟨15, _⟩ => ⟨S2048x771, .f32⟩
  | .hbm, ⟨16, _⟩ => ⟨S2048x771, .f32⟩
  | .hbm, ⟨17, _⟩ => ⟨S2048x771, .f32⟩
  | .hbm, ⟨18, _⟩ => ⟨S_, .f32⟩
  | .hbm, ⟨19, _⟩ => ⟨S2048x771, .f32⟩
  | .hbm, ⟨20, _⟩ => ⟨S2048x771, .f32⟩
  | .hbm, ⟨21, _⟩ => ⟨S2048x771, .f32⟩
  | .hbm, ⟨22, _⟩ => ⟨S_, .f32⟩
  | .hbm, ⟨23, _⟩ => ⟨S2048x771, .f32⟩
  | .hbm, ⟨24, _⟩ => ⟨S2048x771, .f32⟩
  | .hbm, ⟨25, _⟩ => ⟨S_, .f32⟩
  | .hbm, ⟨26, _⟩ => ⟨S2048x771, .f32⟩
  | .hbm, ⟨27, _⟩ => ⟨S2048x771, .f32⟩
  | .hbm, ⟨28, _⟩ => ⟨S2048x771, .f32⟩
  | .hbm, ⟨29, _⟩ => ⟨S_, .f32⟩
  | .hbm, ⟨30, _⟩ => ⟨S2048x771, .f32⟩
  | .hbm, ⟨31, _⟩ => ⟨S2048x771, .f32⟩
  | .hbm, ⟨32, _⟩ => ⟨S2048x771, .f32⟩
  | .hbm, ⟨33, _⟩ => ⟨S_, .f32⟩
  | .hbm, ⟨34, _⟩ => ⟨S2048x771, .f32⟩
  | .hbm, ⟨35, _⟩ => ⟨S2048x771, .f32⟩
  | .hbm, ⟨36, _⟩ => ⟨S2048x771, .f32⟩
  | .hbm, ⟨37, _⟩ => ⟨S_, .f32⟩
  | .hbm, ⟨38, _⟩ => ⟨S2048x771, .f32⟩
  | .hbm, ⟨39, _⟩ => ⟨S2048x771, .f32⟩
  | _, _ => ⟨S2048x771, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateOut.lean ====
abbrev S256x2048 : Shape := ⟨2, ![256, 2048]⟩
abbrev S8x256x2048 : Shape := ⟨3, ![8, 256, 2048]⟩
abbrev S1x256x2048 : Shape := ⟨3, ![1, 256, 2048]⟩

abbrev nBuf : Space → Nat
  | .hbm => 8
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S8x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S256x2048, .f32⟩
  | .local _ .vmem, ⟨1, _⟩ => ⟨S8x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateOutReferenceIdeal.lean ====
abbrev S256x2048 : Shape := ⟨2, ![256, 2048]⟩
abbrev S8x256x2048 : Shape := ⟨3, ![8, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S8x256x2048, .bf16⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateMlpIn.lean ====
abbrev S2048x1024 : Shape := ⟨2, ![2048, 1024]⟩
abbrev S8x2048x1024 : Shape := ⟨3, ![8, 2048, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S8x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateMlpInReferenceIdeal.lean ====
abbrev S2048x1024 : Shape := ⟨2, ![2048, 1024]⟩
abbrev S8x2048x1024 : Shape := ⟨3, ![8, 2048, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x2048x1024, .bf16⟩
  | .hbm, ⟨2, _⟩ => ⟨S2048x1024, .f32⟩
  | .hbm, ⟨3, _⟩ => ⟨S2048x1024, .f32⟩
  | .hbm, ⟨4, _⟩ => ⟨S8x2048x1024, .f32⟩
  | .hbm, ⟨5, _⟩ => ⟨S_, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateMlpOut.lean ====
abbrev S1024x2048 : Shape := ⟨2, ![1024, 2048]⟩
abbrev S8x1024x2048 : Shape := ⟨3, ![8, 1024, 2048]⟩
abbrev S256x2048 : Shape := ⟨2, ![256, 2048]⟩
abbrev S8x256x2048 : Shape := ⟨3, ![8, 256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S8x1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S8x256x2048, .bf16⟩
  | .local _ .vmem, ⟨3, _⟩ => ⟨S8x256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateMlpOutReferenceIdeal.lean ====
abbrev S1024x2048 : Shape := ⟨2, ![1024, 2048]⟩
abbrev S8x1024x2048 : Shape := ⟨3, ![8, 1024, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S8x1024x2048, .bf16⟩
  | .hbm, ⟨2, _⟩ => ⟨S1024x2048, .f32⟩
  | .hbm, ⟨3, _⟩ => ⟨S1024x2048, .f32⟩
  | .hbm, ⟨4, _⟩ => ⟨S8x1024x2048, .f32⟩
  | .hbm, ⟨5, _⟩ => ⟨S_, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateAda.lean ====
abbrev S2048x1536 : Shape := ⟨2, ![2048, 1536]⟩
abbrev S2048x8 : Shape := ⟨2, ![2048, 8]⟩
abbrev S8x1536 : Shape := ⟨2, ![8, 1536]⟩
abbrev S256x1536 : Shape := ⟨2, ![256, 1536]⟩
abbrev S256x8 : Shape := ⟨2, ![256, 8]⟩
abbrev S256x1 : Shape := ⟨2, ![256, 1]⟩
abbrev S1x1536 : Shape := ⟨2, ![1, 1536]⟩

abbrev nBuf : Space → Nat
  | .hbm => 9
  | .vmem => 17
  | .smem => 0
  | _ => 0

abbrev bufTy : (tb : Table) → Fin (tcTables nBuf tb) → BufTy
  | .hbm, ⟨0, _⟩ => ⟨S2048x1536, .f32⟩
  | .hbm, ⟨1, _⟩ => ⟨S2048x8, .f32⟩
  | .hbm, ⟨2, _⟩ => ⟨S8x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x8, .f32⟩
  | .local _ .vmem, ⟨3, _⟩ => ⟨S256x8, .f32⟩
  | .local _ .vmem, ⟨4, _⟩ => ⟨S8x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateAdaReferenceIdeal.lean ====
abbrev S2048x1536 : Shape := ⟨2, ![2048, 1536]⟩
abbrev S2048x8 : Shape := ⟨2, ![2048, 8]⟩
abbrev S8x1536 : Shape := ⟨2, ![8, 1536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x8, .f32⟩
  | .hbm, ⟨2, _⟩ => ⟨S8x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S_, .f32⟩
  | .hbm, ⟨7, _⟩ => ⟨S2048x1536, .f32⟩
  | .hbm, ⟨8, _⟩ => ⟨S2048x1536, .f32⟩
  | .hbm, ⟨9, _⟩ => ⟨S_, .f32⟩
  | .hbm, ⟨10, _⟩ => ⟨S2048x1536, .f32⟩
  | .hbm, ⟨11, _⟩ => ⟨S2048x1536, .f32⟩
  | .hbm, ⟨12, _⟩ => ⟨S2048x1536, .f32⟩
  | .hbm, ⟨13, _⟩ => ⟨S_, .f32⟩
  | .hbm, ⟨14, _⟩ => ⟨S2048x1536, .f32⟩
  | .hbm, ⟨15, _⟩ => ⟨S2048x1536, .f32⟩
  | .hbm, ⟨16, _⟩ => ⟨S2048x1536, .f32⟩
  | .hbm, ⟨17, _⟩ => ⟨S_, .f32⟩
  | .hbm, ⟨18, _⟩ => ⟨S2048x1536, .f32⟩
  | .hbm, ⟨19, _⟩ => ⟨S2048x1536, .f32⟩
  | .hbm, ⟨20, _⟩ => ⟨S2048x1536, .f32⟩
  | .hbm, ⟨21, _⟩ => ⟨S_, .f32⟩
  | .hbm, ⟨22, _⟩ => ⟨S2048x1536, .f32⟩
  | .hbm, ⟨23, _⟩ => ⟨S2048x1536, .f32⟩
  | .hbm, ⟨24, _⟩ => ⟨S_, .f32⟩
  | .hbm, ⟨25, _⟩ => ⟨S2048x1536, .f32⟩
  | .hbm, ⟨26, _⟩ => ⟨S2048x1536, .f32⟩
  | .hbm, ⟨27, _⟩ => ⟨S2048x1536, .f32⟩
  | .hbm, ⟨28, _⟩ => ⟨S_, .f32⟩
  | .hbm, ⟨29, _⟩ => ⟨S2048x1536, .f32⟩
  | .hbm, ⟨30, _⟩ => ⟨S2048x1536, .f32⟩
  | .hbm, ⟨31, _⟩ => ⟨S2048x1536, .f32⟩
  | .hbm, ⟨32, _⟩ => ⟨S_, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S_, .f32⟩
  | .hbm, ⟨37, _⟩ => ⟨S2048x1536, .f32⟩
  | .hbm, ⟨38, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SumSmall.lean ====
abbrev S8x1x31360 : Shape := ⟨3, ![8, 1, 31360]⟩
abbrev S1x31360 : Shape := ⟨2, ![1, 31360]⟩
abbrev S1x1x31360 : Shape := ⟨3, ![1, 1, 31360]⟩

abbrev nBuf : Space → Nat
  | .hbm => 2
  | .vmem => 2
  | .smem => 0
  | _ => 0

abbrev bufTy : (tb : Table) → Fin (tcTables nBuf tb) → BufTy
  | .hbm, ⟨0, _⟩ => ⟨S8x1x31360, .f32⟩
  | .hbm, ⟨1, _⟩ => ⟨S1x31360, .f32⟩
  | .local _ .vmem, ⟨0, _⟩ => ⟨S8x1x31360, .f32⟩
  | .local _ .vmem, ⟨1, _⟩ => ⟨S1x31360, .f32⟩
  | _, _ => ⟨S8x1x31360, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1x31360 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x31360 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallReferenceIdeal.lean ====
abbrev S8x1x31360 : Shape := ⟨3, ![8, 1, 31360]⟩
abbrev S_ : Shape := ⟨0, ![]⟩
abbrev S1x31360 : Shape := ⟨2, ![1, 31360]⟩

abbrev nBuf : Space → Nat
  | .hbm => 3
  | .vmem => 0
  | .smem => 0
  | _ => 0

abbrev bufTy : (tb : Table) → Fin (tcTables nBuf tb) → BufTy
  | .hbm, ⟨0, _⟩ => ⟨S8x1x31360, .f32⟩
  | .hbm, ⟨1, _⟩ => ⟨S_, .f32⟩
  | .hbm, ⟨2, _⟩ => ⟨S1x31360, .f32⟩
  | _, _ => ⟨S8x1x31360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpdateSmall.lean ====
abbrev S182x128 : Shape := ⟨2, ![182, 128]⟩

abbrev nBuf : Space → Nat
  | .hbm => 7
  | .vmem => 7
  | .smem => 0
  | _ => 0

abbrev bufTy : (tb : Table) → Fin (tcTables nBuf tb) → BufTy
  | .hbm, ⟨0, _⟩ => ⟨S182x128, .f32⟩
  | .hbm, ⟨1, _⟩ => ⟨S182x128, .f32⟩
  | .hbm, ⟨2, _⟩ => ⟨S182x128, .f32⟩
  | .hbm, ⟨3, _⟩ => ⟨S182x128, .f32⟩
  | .hbm, ⟨4, _⟩ => ⟨S182x128, .f32⟩
  | .hbm, ⟨5, _⟩ => ⟨S182x128, .f32⟩
  | .hbm, ⟨6, _⟩ => ⟨S182x128, .f32⟩
  | .local _ .vmem, ⟨0, _⟩ => ⟨S182x128, .f32⟩
  | .local _ .vmem, ⟨1, _⟩ => ⟨S182x128, .f32⟩
  | .local _ .vmem, ⟨2, _⟩ => ⟨S182x128, .f32⟩
  | .local _ .vmem, ⟨3, _⟩ => ⟨S182x128, .f32⟩
  | .local _ .vmem, ⟨4, _⟩ => ⟨S182x128, .f32⟩
  | .local _ .vmem, ⟨5, _⟩ => ⟨S182x128, .f32⟩
  | .local _ .vmem, ⟨6, _⟩ => ⟨S182x128, .f32⟩
  | _, _ => ⟨S182x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S182x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S182x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S182x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S182x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S182x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S182x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S182x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== UpdateSmallReferenceIdeal.lean ====
abbrev S182x128 : Shape := ⟨2, ![182, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S182x128, .f32⟩
  | .hbm, ⟨1, _⟩ => ⟨S182x128, .f32⟩
  | .hbm, ⟨2, _⟩ => ⟨S182x128, .f32⟩
  | .hbm, ⟨3, _⟩ => ⟨S182x128, .f32⟩
  | .hbm, ⟨4, _⟩ => ⟨S_, .f32⟩
  | .hbm, ⟨5, _⟩ => ⟨S182x128, .f32⟩
  | .hbm, ⟨6, _⟩ => ⟨S182x128, .f32⟩
  | .hbm, ⟨7, _⟩ => ⟨S_, .f32⟩
  | .hbm, ⟨8, _⟩ => ⟨S182x128, .f32⟩
  | .hbm, ⟨9, _⟩ => ⟨S182x128, .f32⟩
  | .hbm, ⟨10, _⟩ => ⟨S182x128, .f32⟩
  | .hbm, ⟨11, _⟩ => ⟨S_, .f32⟩
  | .hbm, ⟨12, _⟩ => ⟨S182x128, .f32⟩
  | .hbm, ⟨13, _⟩ => ⟨S182x128, .f32⟩
  | .hbm, ⟨14, _⟩ => ⟨S182x128, .f32⟩
  | .hbm, ⟨15, _⟩ => ⟨S_, .f32⟩
  | .hbm, ⟨16, _⟩ => ⟨S182x128, .f32⟩
  | .hbm, ⟨17, _⟩ => ⟨S182x128, .f32⟩
  | .hbm, ⟨18, _⟩ => ⟨S182x128, .f32⟩
  | .hbm, ⟨19, _⟩ => ⟨S_, .f32⟩
  | .hbm, ⟨20, _⟩ => ⟨S182x128, .f32⟩
  | .hbm, ⟨21, _⟩ => ⟨S182x128, .f32⟩
  | .hbm, ⟨22, _⟩ => ⟨S_, .f32⟩
  | .hbm, ⟨23, _⟩ => ⟨S182x128, .f32⟩
  | .hbm, ⟨24, _⟩ => ⟨S182x128, .f32⟩
  | .hbm, ⟨25, _⟩ => ⟨S182x128, .f32⟩
  | .hbm, ⟨26, _⟩ => ⟨S_, .f32⟩
  | .hbm, ⟨27, _⟩ => ⟨S182x128, .f32⟩
  | .hbm, ⟨28, _⟩ => ⟨S182x128, .f32⟩
  | .hbm, ⟨29, _⟩ => ⟨S182x128, .f32⟩
  | .hbm, ⟨30, _⟩ => ⟨S_, .f32⟩
  | .hbm, ⟨31, _⟩ => ⟨S182x128, .f32⟩
  | .hbm, ⟨32, _⟩ => ⟨S182x128, .f32⟩
  | .hbm, ⟨33, _⟩ => ⟨S182x128, .f32⟩
  | .hbm, ⟨34, _⟩ => ⟨S_, .f32⟩
  | .hbm, ⟨35, _⟩ => ⟨S182x128, .f32⟩
  | .hbm, ⟨36, _⟩ => ⟨S182x128, .f32⟩
  | _, _ => ⟨S182x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PremixBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_8 : BitVec 32 := 0#32
  let v20 : BitVec 1 := Scalar.cmpi .ne v19 c0_i32_8
  v20

def k0_cond2 (i : grid0.Coords) : BitVec 1 :=
  let arg0 : BitVec 32 := BitVec.ofNat 32 (i 0).val
  let c0_i32_9 : BitVec 32 := 0#32
  let v21 : BitVec 1 := Scalar.cmpi .sgt arg0 c0_i32_9
  let v22 : BitVec 32 := Scalar.extui v21
  let c0_i32_10 : BitVec 32 := 0#32
  let v23 : BitVec 1 := Scalar.cmpi .ne v22 c0_i32_10
  v23

def k0_cond3 (i : grid0.Coords) : BitVec 1 :=
  let arg0 : BitVec 32 := BitVec.ofNat 32 (i 0).val
  let c0_i32_12 : BitVec 32 := 0#32
  let v26 : BitVec 1 := Scalar.cmpi .eq arg0 c0_i32_12
  let v27 : BitVec 32 := Scalar.extui v26
  let c0_i32_13 : BitVec 32 := 0#32
  let v28 : BitVec 1 := Scalar.cmpi .ne v27 c0_i32_13
  v28

def k0_cond4 (i : grid0.Coords) : BitVec 1 :=
  let arg0 : BitVec 32 := BitVec.ofNat 32 (i 0).val
  let c0_i32_14 : BitVec 32 := 0#32
  let v29 : BitVec 1 := Scalar.cmpi .sgt arg0 c0_i32_14
  let v30 : BitVec 32 := Scalar.extui v29
  let c0_i32_15 : BitVec 32 := 0#32
  let v31 : BitVec 1 := Scalar.cmpi .ne v30 c0_i32_15
  v31

def k0_cond5 (i : grid0.Coords) : BitVec 1 :=
  let arg0 : BitVec 32 := BitVec.ofNat 32 (i 0).val
  let c0_i32_20 : BitVec 32 := 0#32
  let v40 : BitVec 1 := Scalar.cmpi .eq arg0 c0_i32_20
  let v41 : BitVec 32 := Scalar.extui v40
  let c0_i32_21 : BitVec 32 := 0#32
  let v42 : BitVec 1 := Scalar.cmpi .ne v41 c0_i32_21
  v42

def k0_cond6 (i : grid0.Coords) : BitVec 1 :=
  let arg0 : BitVec 32 := BitVec.ofNat 32 (i 0).val
  let c0_i32_22 : BitVec 32 := 0#32
  let v43 : BitVec 1 := Scalar.cmpi .sgt arg0 c0_i32_22
  let v44 : BitVec 32 := Scalar.extui v43
  let c0_i32_23 : BitVec 32 := 0#32
  let v45 : BitVec 1 := Scalar.cmpi .ne v44 c0_i32_23
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PremixBwdReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== LossBwd.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S128 : Shape := ⟨1, ![128]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x128, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x128, .f32⟩
  | .local _ .vmem, ⟨13, _⟩ => ⟨S1x2048, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def k0_cond3 (i : grid0.Coords) : BitVec 1 :=
  let arg0 : BitVec 32 := BitVec.ofNat 32 (i 0).val
  let c0_i32_23 : BitVec 32 := 0#32
  let v46 : BitVec 1 := Scalar.cmpi .eq arg0 c0_i32_23
  let v47 : BitVec 32 := Scalar.extui v46
  let c0_i32_24 : BitVec 32 := 0#32
  let v48 : BitVec 1 := Scalar.cmpi .ne v47 c0_i32_24
  v48

def k0_cond4 (i : grid0.Coords) : BitVec 1 :=
  let arg0 : BitVec 32 := BitVec.ofNat 32 (i 0).val
  let c0_i32_25 : BitVec 32 := 0#32
  let v49 : BitVec 1 := Scalar.cmpi .sgt arg0 c0_i32_25
  let v50 : BitVec 32 := Scalar.extui v49
  let c0_i32_26 : BitVec 32 := 0#32
  let v51 : BitVec 1 := Scalar.cmpi .ne v50 c0_i32_26
  v51

def k0_cond5 (i : grid0.Coords) : BitVec 1 :=
  let arg0 : BitVec 32 := BitVec.ofNat 32 (i 0).val
  let c0_i32_30 : BitVec 32 := 0#32
  let v58 : BitVec 1 := Scalar.cmpi .eq arg0 c0_i32_30
  let v59 : BitVec 32 := Scalar.extui v58
  let c0_i32_31 : BitVec 32 := 0#32
  let v60 : BitVec 1 := Scalar.cmpi .ne v59 c0_i32_31
  v60

def k0_cond6 (i : grid0.Coords) : BitVec 1 :=
  let arg0 : BitVec 32 := BitVec.ofNat 32 (i 0).val
  let c0_i32_32 : BitVec 32 := 0#32
  let v61 : BitVec 1 := Scalar.cmpi .sgt arg0 c0_i32_32
  let v62 : BitVec 32 := Scalar.extui v61
  let c0_i32_33 : BitVec 32 := 0#32
  let v63 : BitVec 1 := Scalar.cmpi .ne v62 c0_i32_33
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossBwdReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x2048, .f32⟩
  | .hbm, ⟨67, _⟩ => ⟨S4096x2048, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .bf16⟩
  | .hbm, ⟨80, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== PremlpBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 15
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_8 : BitVec 32 := 0#32
  let v20 : BitVec 1 := Scalar.cmpi .ne v19 c0_i32_8
  v20

def k0_cond2 (i : grid0.Coords) : BitVec 1 :=
  let arg0 : BitVec 32 := BitVec.ofNat 32 (i 0).val
  let c0_i32_9 : BitVec 32 := 0#32
  let v21 : BitVec 1 := Scalar.cmpi .sgt arg0 c0_i32_9
  let v22 : BitVec 32 := Scalar.extui v21
  let c0_i32_10 : BitVec 32 := 0#32
  let v23 : BitVec 1 := Scalar.cmpi .ne v22 c0_i32_10
  v23

def k0_cond3 (i : grid0.Coords) : BitVec 1 :=
  let arg0 : BitVec 32 := BitVec.ofNat 32 (i 0).val
  let c0_i32_12 : BitVec 32 := 0#32
  let v26 : BitVec 1 := Scalar.cmpi .eq arg0 c0_i32_12
  let v27 : BitVec 32 := Scalar.extui v26
  let c0_i32_13 : BitVec 32 := 0#32
  let v28 : BitVec 1 := Scalar.cmpi .ne v27 c0_i32_13
  v28

def k0_cond4 (i : grid0.Coords) : BitVec 1 :=
  let arg0 : BitVec 32 := BitVec.ofNat 32 (i 0).val
  let c0_i32_14 : BitVec 32 := 0#32
  let v29 : BitVec 1 := Scalar.cmpi .sgt arg0 c0_i32_14
  let v30 : BitVec 32 := Scalar.extui v29
  let c0_i32_15 : BitVec 32 := 0#32
  let v31 : BitVec 1 := Scalar.cmpi .ne v30 c0_i32_15
  v31

def k0_cond5 (i : grid0.Coords) : BitVec 1 :=
  let arg0 : BitVec 32 := BitVec.ofNat 32 (i 0).val
  let c0_i32_20 : BitVec 32 := 0#32
  let v40 : BitVec 1 := Scalar.cmpi .eq arg0 c0_i32_20
  let v41 : BitVec 32 := Scalar.extui v40
  let c0_i32_21 : BitVec 32 := 0#32
  let v42 : BitVec 1 := Scalar.cmpi .ne v41 c0_i32_21
  v42

def k0_cond6 (i : grid0.Coords) : BitVec 1 :=
  let arg0 : BitVec 32 := BitVec.ofNat 32 (i 0).val
  let c0_i32_22 : BitVec 32 := 0#32
  let v43 : BitVec 1 := Scalar.cmpi .sgt arg0 c0_i32_22
  let v44 : BitVec 32 := Scalar.extui v43
  let c0_i32_23 : BitVec 32 := 0#32
  let v45 : BitVec 1 := Scalar.cmpi .ne v44 c0_i32_23
  v45

def k0_cond7 (i : grid0.Coords) : BitVec 1 :=
  let arg0 : BitVec 32 := BitVec.ofNat 32 (i 0).val
  let c0_i32_40 : BitVec 32 := 0#32
  let v79 : BitVec 1 := Scalar.cmpi .eq arg0 c0_i32_40
  let v80 : BitVec 32 := Scalar.extui v79
  let c0_i32_41 : BitVec 32 := 0#32
  let v81 : BitVec 1 := Scalar.cmpi .ne v80 c0_i32_41
  v81

def k0_cond8 (i : grid0.Coords) : BitVec 1 :=
  let arg0 : BitVec 32 := BitVec.ofNat 32 (i 0).val
  let c0_i32_42 : BitVec 32 := 0#32
  let v82 : BitVec 1 := Scalar.cmpi .sgt arg0 c0_i32_42
  let v83 : BitVec 32 := Scalar.extui v82
  let c0_i32_43 : BitVec 32 := 0#32
  let v84 : BitVec 1 := Scalar.cmpi .ne v83 c0_i32_43
  v84

def k0_cond9 (i : grid0.Coords) : BitVec 1 :=
  let arg0 : BitVec 32 := BitVec.ofNat 32 (i 0).val
  let c0_i32_47 : BitVec 32 := 0#32
  let v91 : BitVec 1 := Scalar.cmpi .eq arg0 c0_i32_47
  let v92 : BitVec 32 := Scalar.extui v91
  let c0_i32_48 : BitVec 32 := 0#32
  let v93 : BitVec 1 := Scalar.cmpi .ne v92 c0_i32_48
  v93

def k0_cond10 (i : grid0.Coords) : BitVec 1 :=
  let arg0 : BitVec 32 := BitVec.ofNat 32 (i 0).val
  let c0_i32_49 : BitVec 32 := 0#32
  let v94 : BitVec 1 := Scalar.cmpi .sgt arg0 c0_i32_49
  let v95 : BitVec 32 := Scalar.extui v94
  let c0_i32_50 : BitVec 32 := 0#32
  let v96 : BitVec 1 := Scalar.cmpi .ne v95 c0_i32_50
  v96

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== PremlpBwdReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 121
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x2048, .f32⟩
  | .hbm, ⟨57, _⟩ => ⟨S4096x2048, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S4096x2048, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S_, .f32⟩
  | .hbm, ⟨95, _⟩ => ⟨S2048, .f32⟩
  | .hbm, ⟨96, _⟩ => ⟨S1x2048, .f32⟩
  | .hbm, ⟨97, _⟩ => ⟨S4096x2048, .f32⟩
  | .hbm, ⟨98, _⟩ => ⟨S_, .f32⟩
  | .hbm, ⟨99, _⟩ => ⟨S2048, .f32⟩
  | .hbm, ⟨100, _⟩ => ⟨S1x2048, .f32⟩
  | .hbm, ⟨101, _⟩ => ⟨S4096x2048, .f32⟩
  | .hbm, ⟨102, _⟩ => ⟨S4096x2048, .f32⟩
  | .hbm, ⟨103, _⟩ => ⟨S4096x2048, .f32⟩
  | .hbm, ⟨104, _⟩ => ⟨S_, .f32⟩
  | .hbm, ⟨105, _⟩ => ⟨S4096, .f32⟩
  | .hbm, ⟨106, _⟩ => ⟨S4096x1, .f32⟩
  | .hbm, ⟨107, _⟩ => ⟨S4096x2048, .f32⟩
  | .hbm, ⟨108, _⟩ => ⟨S4096x2048, .f32⟩
  | .hbm, ⟨109, _⟩ => ⟨S4096x1, .f32⟩
  | .hbm, ⟨110, _⟩ => ⟨S_, .f32⟩
  | .hbm, ⟨111, _⟩ => ⟨S4096x1, .f32⟩
  | .hbm, ⟨112, _⟩ => ⟨S4096x1, .f32⟩
  | .hbm, ⟨113, _⟩ => ⟨S_, .f32⟩
  | .hbm, ⟨114, _⟩ => ⟨S4096, .f32⟩
  | .hbm, ⟨115, _⟩ => ⟨S4096x2048, .f32⟩
  | .hbm, ⟨116, _⟩ => ⟨S4096x2048, .f32⟩
  | .hbm, ⟨117, _⟩ => ⟨S4096x2048, .f32⟩
  | .hbm, ⟨118, _⟩ => ⟨S4096x2048, .f32⟩
  | .hbm, ⟨119, _⟩ => ⟨S4096x2048, .f32⟩
  | .hbm, ⟨120, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_16 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_17 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_18 : Ref sig .tc := ⟨.hbm, 110, rfl⟩
abbrev main_v83 : Ref sig .tc := ⟨.hbm, 111, rfl⟩
abbrev main_v84 : Ref sig .tc := ⟨.hbm, 112, rfl⟩
abbrev main_cst_19 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩

abbrev nD : Nat := 1
abbrev τ : Topo := Topo.v7x

variable {F : FTy → Type} [FloatOps F]
-- ==== Premix.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PremixReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== PostmixPremlp.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostmixPremlpReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S1x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== ProjMain.lean ====
abbrev S4096x2048 : Shape := ⟨2, ![4096, 2048]⟩
abbrev S2048x6144 : Shape := ⟨2, ![2048, 6144]⟩
abbrev S4096x6144 : Shape := ⟨2, ![4096, 6144]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjMainReferenceIdeal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | .hbm, ⟨5, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjReferenceIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlpIn.lean ====
abbrev S4096x2048 : Shape := ⟨2, ![4096, 2048]⟩
abbrev S8x2048x1024 : Shape := ⟨3, ![8, 2048, 1024]⟩
abbrev S4096x8192 : Shape := ⟨2, ![4096, 8192]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S4096x8192, .bf16⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpInReferenceIdeal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .bf16⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MlpOut.lean ====
abbrev S4096x8192 : Shape := ⟨2, ![4096, 8192]⟩
abbrev S8192x2048 : Shape := ⟨2, ![8192, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutReferenceIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlpOutDx.lean ====
abbrev S4096x2048 : Shape := ⟨2, ![4096, 2048]⟩
abbrev S8192x2048 : Shape := ⟨2, ![8192, 2048]⟩
abbrev S4096x8192 : Shape := ⟨2, ![4096, 8192]⟩
abbrev S1024x512 : Shape := ⟨2, ![1024, 512]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpOutDxReferenceIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S8192x2048, .f32⟩
  | .hbm, ⟨9, _⟩ => ⟨S4096x2048, .f32⟩
  | .hbm, ⟨10, _⟩ => ⟨S4096x2048, .f32⟩
  | .hbm, ⟨11, _⟩ => ⟨S4096x8192, .f32⟩
  | .hbm, ⟨12, _⟩ => ⟨S4096x8192, .f32⟩
  | .hbm, ⟨13, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== MlpOutDw.lean ====
abbrev S4096x8192 : Shape := ⟨2, ![4096, 8192]⟩
abbrev S4096x2048 : Shape := ⟨2, ![4096, 2048]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutDwReferenceIdeal.lean ====
abbrev S4096x8192 : Shape := ⟨2, ![4096, 8192]⟩
abbrev S4096x2048 : Shape := ⟨2, ![4096, 2048]⟩
abbrev S8192x4096 : Shape := ⟨2, ![8192, 4096]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MlpInDx.lean ====
abbrev S4096x8192 : Shape := ⟨2, ![4096, 8192]⟩
abbrev S8x2048x1024 : Shape := ⟨3, ![8, 2048, 1024]⟩
abbrev S4096x2048 : Shape := ⟨2, ![4096, 2048]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInDxReferenceIdeal.lean ====
abbrev S4096x8192 : Shape := ⟨2, ![4096, 8192]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S8192x2048 : Shape := ⟨2, ![8192, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S4096x8192, .f32⟩
  | .hbm, ⟨5, _⟩ => ⟨S2048x8192, .f32⟩
  | .hbm, ⟨6, _⟩ => ⟨S8192x2048, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MlpInDw.lean ====
abbrev S4096x2048 : Shape := ⟨2, ![4096, 2048]⟩
abbrev S4096x8192 : Shape := ⟨2, ![4096, 8192]⟩
abbrev S8x2048x1024 : Shape := ⟨3, ![8, 2048, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInDwReferenceIdeal.lean ====
abbrev S4096x2048 : Shape := ⟨2, ![4096, 2048]⟩
abbrev S4096x8192 : Shape := ⟨2, ![4096, 8192]⟩
abbrev S2048x4096 : Shape := ⟨2, ![2048, 4096]⟩
abbrev S2048x8192 : Shape := ⟨2, ![2048, 8192]⟩
abbrev S2048x8x1024 : Shape := ⟨3, ![2048, 8, 1024]⟩
abbrev S8x2048x1024 : Shape := ⟨3, ![8, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S2048x4096, .f32⟩
  | .hbm, ⟨4, _⟩ => ⟨S4096x8192, .f32⟩
  | .hbm, ⟨5, _⟩ => ⟨S2048x8192, .f32⟩
  | .hbm, ⟨6, _⟩ => ⟨S2048x8192, .bf16⟩
  | .hbm, ⟨7, _⟩ => ⟨S2048x8x1024, .bf16⟩
  | .hbm, ⟨8, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== OutProjDx.lean ====
abbrev S4096x2048 : Shape := ⟨2, ![4096, 2048]⟩
abbrev S2048x2048 : Shape := ⟨2, ![2048, 2048]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxReferenceIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProjDw.lean ====
abbrev S4096x2048 : Shape := ⟨2, ![4096, 2048]⟩
abbrev S2048x2048 : Shape := ⟨2, ![2048, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwReferenceIdeal.lean ====
abbrev S4096x2048 : Shape := ⟨2, ![4096, 2048]⟩
abbrev S2048x4096 : Shape := ⟨2, ![2048, 4096]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S2048x4096, .f32⟩
  | .hbm, ⟨4, _⟩ => ⟨S4096x2048, .f32⟩
  | .hbm, ⟨5, _⟩ => ⟨S2048x2048, .f32⟩
  | .hbm, ⟨6, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjMainDx.lean ====
abbrev S4096x6144 : Shape := ⟨2, ![4096, 6144]⟩
abbrev S2048x6144 : Shape := ⟨2, ![2048, 6144]⟩
abbrev S4096x2048 : Shape := ⟨2, ![4096, 2048]⟩
abbrev S1024x512 : Shape := ⟨2, ![1024, 512]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .hbm, ⟨3, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 12], ![false, false, false]⟩

def k0_cond3 (i : grid0.Coords) : BitVec 1 :=
  let arg2 : BitVec 32 := BitVec.ofNat 32 (i 2).val
  let c11_i32 : BitVec 32 := 11#32
  let v9 : BitVec 1 := Scalar.cmpi .eq arg2 c11_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjMainDxReferenceIdeal.lean ====
abbrev S4096x6144 : Shape := ⟨2, ![4096, 6144]⟩
abbrev S2048x6144 : Shape := ⟨2, ![2048, 6144]⟩
abbrev S4096x2048 : Shape := ⟨2, ![4096, 2048]⟩
abbrev S6144x2048 : Shape := ⟨2, ![6144, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .hbm, ⟨3, _⟩ => ⟨S4096x6144, .f32⟩
  | .hbm, ⟨4, _⟩ => ⟨S2048x6144, .f32⟩
  | .hbm, ⟨5, _⟩ => ⟨S6144x2048, .f32⟩
  | .hbm, ⟨6, _⟩ => ⟨S4096x2048, .f32⟩
  | .hbm, ⟨7, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjMainDw.lean ====
abbrev S4096x2048 : Shape := ⟨2, ![4096, 2048]⟩
abbrev S4096x6144 : Shape := ⟨2, ![4096, 6144]⟩
abbrev S2048x6144 : Shape := ⟨2, ![2048, 6144]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjMainDwReferenceIdeal.lean ====
abbrev S4096x2048 : Shape := ⟨2, ![4096, 2048]⟩
abbrev S4096x6144 : Shape := ⟨2, ![4096, 6144]⟩
abbrev S2048x4096 : Shape := ⟨2, ![2048, 4096]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4096x2048, .f32⟩
  | .hbm, ⟨3, _⟩ => ⟨S2048x4096, .f32⟩
  | .hbm, ⟨4, _⟩ => ⟨S4096x6144, .f32⟩
  | .hbm, ⟨5, _⟩ => ⟨S2048x6144, .f32⟩
  | .hbm, ⟨6, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Exchange.lean ====
/-
Direct exchange between the devices of a mesh, without a barrier: the protocol, once and for all.

Every device starts a family `R` of remote copies and a family `L` of copies within its own memory, and later waits for
every copy it started and every copy sent to it. Each copy has counters of its own: a remote copy one on the sender's
side (the source may be reused) and one on the receiver's (the data is there), a local copy one. A counter is raised once
and waited for once, so the protocol of each is one round with one duty:

* sender's counter of copy `i`: hands the source's share back;
* receiver's counter of copy `i`: hands over the destination, written with what the sender's source held;
* counter of a local copy: hands over the written destination and the source's share.

A remote copy may be a RELAY: its source is then not there from the start, it is what another remote copy has delivered
(`via`). A device that still owes relays waits for deliveries, so the receivers' counters have levels: a wait stands below
every counter the device still owes.

What makes the copies safe is that a device holds, from the launch on, the right to write into the places of its
peers' arrays that it will fill: nothing else writes or reads there until the receiver's wait has returned.

A device's state is a function of HOW MANY operations it has performed; `Order` says at which position each operation
stands. The rules at the end of the module are one step each: from the state at position `p` and an operation that
stands there to the state at `p + 1`.
-/
module

public import Idealize.ShloMosaic.Lib.Pipeline.Launch
public import Idealize.ShloMosaic.Lib.Pipeline.Regions
public import Idealize.ShloMosaic.Lib.Rounds
public import Idealize.ShloMosaic.Lib.Pipeline.Kit
public import Idealize.ShloMosaic.Lib.Tactic

@[expose] public section

set_option Elab.async false

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The copies of an exchange, each at the device `c` that starts it: where it reads, what stands there, where it writes
    (for a remote copy: on `peer i c`), what stood there, and its counters. -/
structure Plan (nD : Nat) (τ : Topo) (sig : RefSig) (Val : EltTy → Type) (R L : Type) where
  peer : R → Equiv.Perm (Dev nD)
  sS : R → SemLoc sig
  sR : R → SemLoc sig
  sL : L → SemLoc sig
  shR : R → Shape
  src : (i : R) → Dev nD → Memref sig .tc .hbm (shR i) .bf16
  dst : (i : R) → Dev nD → Memref sig .tc .hbm (shR i) .bf16
  q : R → PosShare TreeShare
  srcF : (i : R) → (c : Dev nD) → Buf Val ((src i c).view.loc (c.tc : Thread nD τ))
  dstF : (i : R) → (c : Dev nD) → Buf Val ((dst i c).view.loc ((peer i c).tc : Thread nD τ))
  shL : L → Shape
  lsrc : (i : L) → Dev nD → Memref sig .tc .hbm (shL i) .bf16
  ldst : (i : L) → Dev nD → Memref sig .tc .hbm (shL i) .bf16
  lq : L → PosShare TreeShare
  lsrcF : (i : L) → (c : Dev nD) → Buf Val ((lsrc i c).view.loc (c.tc : Thread nD τ))
  ldstF : (i : L) → (c : Dev nD) → Buf Val ((ldst i c).view.loc (c.tc : Thread nD τ))
  nR : R → ℕ
  nL : L → ℕ
  nR_pos : ∀ i, 0 < nR i
  nL_pos : ∀ i, 0 < nL i
  cell_inj : Function.Injective (Sum.elim sS (Sum.elim sR sL))
  amtR : ∀ i c, (dst i c).view.amount (sR i) = nR i
  amtL : ∀ i c, (ldst i c).view.amount (sL i) = nL i
  via : R → Option R
  fwd : R → Option R
  via_fwd : ∀ i j, via i = some j ↔ fwd j = some i
  routes : ∀ i (c : Dev nD), τ.routes (c.tc : Thread nD τ) ((peer i c).tc : Thread nD τ) = true

/-- At which position of a device's run each operation stands. -/
structure Order (R L : Type) where
  pSend : R → ℕ
  pSWait : R → ℕ
  pRecv : R → ℕ
  pLoc : L → ℕ
  pLWait : L → ℕ
  inj : Function.Injective (Sum.elim pSend (Sum.elim pSWait (Sum.elim pRecv (Sum.elim pLoc pLWait))))
  send_lt : ∀ i, pSend i < pSWait i
  loc_lt : ∀ i, pLoc i < pLWait i
  lv : R → ℕ
  lv_lt : ∀ i k, pRecv i ≤ pSend k → lv i < lv k

namespace Order

variable {R L : Type} (O : Order R L)

/-- The position of an operation: a start or a wait of a remote copy, a receiver's wait, a start or a wait of a local copy. -/
def pos : R ⊕ (R ⊕ (R ⊕ (L ⊕ L))) → ℕ := Sum.elim O.pSend (Sum.elim O.pSWait (Sum.elim O.pRecv (Sum.elim O.pLoc O.pLWait)))

/-- No other operation stands where `x` stands. -/
theorem only {x : R ⊕ (R ⊕ (R ⊕ (L ⊕ L)))} {p : ℕ} (hx : O.pos x = p) (y : R ⊕ (R ⊕ (R ⊕ (L ⊕ L)))) (hy : y ≠ x) : O.pos y ≠ p :=
  fun h => hy (O.inj (h.trans hx.symm))

end Order

section Generic

variable {nD : Nat} {τ : Topo} {sig : RefSig} {Val : EltTy → Type}
variable {U : Type} [URA U] {R L : Type} [Fintype R] [DecidableEq R] [Fintype L] [DecidableEq L]

local notation "𝕄" => MT nD τ sig Unit Val ℕ U ℕ

/-! ## One element of a family, and the family with that element changed -/

omit [URA U] in
/-- The element `i` of a family, and how to put another one in its place when the others stay. -/
theorem bigSep_at {I : Type} [Fintype I] [DecidableEq I] {M : Type} [URA M] {Φ Ψ : I → sProp M} (i : I) (h : ∀ j, j ≠ i → Φ j = Ψ j) :
    bigSep Finset.univ Φ ⊢ iprop(Φ i ∗ (Ψ i -∗ bigSep Finset.univ Ψ)) := by
  have e (X : I → sProp M) : bigSep Finset.univ X = iprop(X i ∗ bigSep (Finset.univ.erase i) X) := bigSep_erase (Finset.mem_univ i)
  have h' : bigSep (Finset.univ.erase i) Φ = bigSep (Finset.univ.erase i) Ψ := bigSep_congr fun j hj => h j (Finset.ne_of_mem_erase hj)
  rw [e Φ, e Ψ, h']
  iintro ⟨Hi, Hr⟩
  isplitl [Hi]; · iexact Hi
  iintro Hi
  isplitl [Hi] <;> iassumption

namespace Plan

variable (P : Plan nD τ sig Val R L)

/-- The counters of the exchange: of the copies' senders, of their receivers, of the local copies. -/
abbrev Cell (R L : Type) : Type := R ⊕ (R ⊕ L)

/-- A counter's semaphore. -/
def cell : Cell R L → SemLoc sig := Sum.elim P.sS (Sum.elim P.sR P.sL)

theorem cell_injective : Function.Injective P.cell := P.cell_inj

/-- A counter at a device. -/
def gcell (c : Dev nD) (x : Cell R L) : GSem nD τ sig := ((c.tc : Thread nD τ), P.cell x)

theorem gcell_inj {c c' : Dev nD} {x x' : Cell R L} (h : P.gcell c x = P.gcell c' x') : c = c' ∧ x = x' := by
  unfold gcell at h
  have h1 := congrArg Prod.fst h
  exact ⟨congrArg Prod.fst h1, P.cell_injective (congrArg Prod.snd h)⟩

/-! ## What stands where -/

/-- The source's share of remote copy `i` of device `c`. -/
def srcPts (i : R) (c : Dev nD) : sProp 𝕄 := (P.src i c).view.loc (c.tc : Thread nD τ) ↦[(P.src i c).view.set]{P.q i} P.srcF i c

/-- The destination of remote copy `i` of device `c`, on the peer, before the copy. -/
def dstPts (i : R) (c : Dev nD) : sProp 𝕄 :=
  (P.dst i c).view.loc ((P.peer i c).tc : Thread nD τ) ↦[(P.dst i c).view.set]{fullShare} P.dstF i c

/-- What the destination of remote copy `i` of device `c` holds after it. -/
def landedF (i : R) (c : Dev nD) : Buf Val ((P.dst i c).view.loc ((P.peer i c).tc : Thread nD τ)) :=
  (P.dst i c).view.write Val (P.dstF i c) ((P.src i c).view.read Val (P.srcF i c)) Finset.univ

/-- The destination of remote copy `i` of device `c`, on the peer, after the copy. -/
def landed (i : R) (c : Dev nD) : sProp 𝕄 :=
  (P.dst i c).view.loc ((P.peer i c).tc : Thread nD τ) ↦[(P.dst i c).view.set]{fullShare} P.landedF i c

/-- The source's share of local copy `i`. -/
def lsrcPts (i : L) (c : Dev nD) : sProp 𝕄 := (P.lsrc i c).view.loc (c.tc : Thread nD τ) ↦[(P.lsrc i c).view.set]{P.lq i} P.lsrcF i c

/-- The destination of local copy `i` before the copy. -/
def ldstPts (i : L) (c : Dev nD) : sProp 𝕄 := (P.ldst i c).view.loc (c.tc : Thread nD τ) ↦[(P.ldst i c).view.set]{fullShare} P.ldstF i c

/-- What the destination of local copy `i` holds after it. -/
def llandedF (i : L) (c : Dev nD) : Buf Val ((P.ldst i c).view.loc (c.tc : Thread nD τ)) :=
  (P.ldst i c).view.write Val (P.ldstF i c) ((P.lsrc i c).view.read Val (P.lsrcF i c)) Finset.univ

/-- The destination of local copy `i` after the copy. -/
def llanded (i : L) (c : Dev nD) : sProp 𝕄 := (P.ldst i c).view.loc (c.tc : Thread nD τ) ↦[(P.ldst i c).view.set]{fullShare} P.llandedF i c

/-! ## The protocol of the counters -/

/-- What counter `x` of device `c` hands over. -/
def pay (c : Dev nD) : Cell R L → sProp 𝕄
  | .inl i => P.srcPts i c
  | .inr (.inl i) => P.landed i ((P.peer i).symm c)
  | .inr (.inr i) => iprop(P.llanded i c ∗ P.lsrcPts i c)

/-- How far counter `x` counts. -/
def amt : Cell R L → ℕ
  | .inl i => P.nR i
  | .inr (.inl i) => P.nR i
  | .inr (.inr i) => P.nL i

theorem amt_pos (x : Cell R L) : 0 < P.amt x := by
  rcases x with i | i | i
  · exact P.nR_pos i
  · exact P.nR_pos i
  · exact P.nL_pos i

open Classical in
/-- The rounds: each counter of the exchange has one, of one duty. -/
def sched : Schedule (GSem nD τ sig) Unit 𝕄 where
  duties g r := if r = 0 then {()} else ∅
  amount g _ _ := if h : ∃ x, P.cell x = g.2 then P.amt h.choose else 1
  payload g _ _ := if h : ∃ x, P.cell x = g.2 then P.pay g.1.1 h.choose else iprop(emp)
  amount_pos g r d _ := by
    show 0 < if h : ∃ x, P.cell x = g.2 then P.amt h.choose else 1
    by_cases h : ∃ x, P.cell x = g.2
    · rw [dif_pos h]; exact P.amt_pos _
    · rw [dif_neg h]; exact Nat.one_pos

instance pay_storable (c : Dev nD) (x : Cell R L) : BI.Storable (upEmb : UEmb _ 𝕄) (P.pay (U := U) c x) := by
  rcases x with i | i | i
  · unfold pay srcPts; infer_instance
  · unfold pay landed; infer_instance
  · unfold pay llanded lsrcPts; infer_instance

instance sched_storable (g : GSem nD τ sig) (r : ℕ) (d : Unit) :
    BI.Storable (upEmb : UEmb _ 𝕄) ((P.sched (U := U)).payload g r d) := by
  classical
  show BI.Storable _ (if h : ∃ x, P.cell x = g.2 then P.pay g.1.1 h.choose else iprop(emp))
  by_cases h : ∃ x, P.cell x = g.2
  · rw [dif_pos h]; exact P.pay_storable _ _
  · rw [dif_neg h]; infer_instance

theorem sched_unitless (g : GSem nD τ sig) : ¬(P.sched (U := U)).unitless g := fun h => h

theorem duties_zero (g : GSem nD τ sig) : (P.sched (U := U)).duties g 0 = {()} := rfl

theorem duties_later (g : GSem nD τ sig) (r : ℕ) (h : 1 ≤ r) : (P.sched (U := U)).duties g r = ∅ :=
  if_neg (by omega)

theorem amount_cell (c : Dev nD) (x : Cell R L) (r : ℕ) (d : Unit) : (P.sched (U := U)).amount (P.gcell c x) r d = P.amt x := by
  have h : ∃ y, P.cell y = (P.gcell c x).2 := ⟨x, rfl⟩
  show (if h : ∃ y, P.cell y = (P.gcell c x).2 then P.amt h.choose else 1) = _
  have e : h.choose = x := P.cell_injective h.choose_spec
  rw [dif_pos h, e]

theorem payload_cell (c : Dev nD) (x : Cell R L) (r : ℕ) (d : Unit) : (P.sched (U := U)).payload (P.gcell c x) r d = P.pay c x := by
  have h : ∃ y, P.cell y = (P.gcell c x).2 := ⟨x, rfl⟩
  show (if h : ∃ y, P.cell y = (P.gcell c x).2 then P.pay (P.gcell c x).1.1 h.choose else iprop(emp)) = _
  have e : h.choose = x := P.cell_injective h.choose_spec
  rw [dif_pos h, e]
  rfl

theorem expect_cell (c : Dev nD) (x : Cell R L) : (P.sched (U := U)).expect (P.gcell c x) 0 = P.amt x := by
  unfold Schedule.expect Schedule.amountOf
  rw [duties_zero, Finset.sum_singleton, amount_cell]

theorem rest_cell (c : Dev nD) (x : Cell R L) :
    bigSep ((P.sched (U := U)).duties (P.gcell c x) 0 \ ∅) (fun d => (P.sched (U := U)).payload (P.gcell c x) 0 d) = P.pay c x := by
  rw [Finset.sdiff_empty, duties_zero, bigSep_singleton, payload_cell]

/-! ## A device's state -/

variable (O : Order R L) (E : Emb (UR sig nD τ) (MT nD τ sig Unit Val ℕ U ℕ))

/-- The invariant of every counter, and that it was opened. -/
def opened (κ : GSem nD τ sig → ℕ) : sProp 𝕄 :=
  bigSep Finset.univ fun c : Dev nD => bigSep Finset.univ fun x : Cell R L =>
    iprop(cellInv E P.sched (κ (P.gcell c x)) (P.gcell c x) ∗ reached E (P.gcell c x) 0)

/-- Every TensorCore counter has a level. -/
def leveled (g : GSem nD τ sig) : Finset Unit := if g.1.2 = .tc then {()} else ∅

open Classical in
/-- The level of a receiver's counter, and 0 for the others. -/
def lev (g : GSem nD τ sig) (_ : Unit) : ℕ := if h : ∃ i, P.sR i = g.2 then O.lv h.choose else 0

theorem lev_recv (c : Dev nD) (i : R) : P.lev O (P.gcell c (.inr (.inl i))) () = O.lv i := by
  have h : ∃ j, P.sR j = (P.gcell c (.inr (.inl i))).2 := ⟨i, rfl⟩
  unfold lev
  have e : h.choose = i := by
    have := P.cell_injective (a₁ := .inr (.inl h.choose)) (a₂ := .inr (.inl i)) h.choose_spec
    simpa using this
  rw [dif_pos h, e]

/-- What every device knows: the invariant of every counter, that it was opened, and the counters' levels. -/
def known (κ : GSem nD τ sig → ℕ) : sProp 𝕄 := iprop(P.opened E κ ∗ levAts leveled (P.lev O))

theorem known_cell (κ : GSem nD τ sig → ℕ) (c : Dev nD) (x : Cell R L) :
    P.known O E κ ⊢ iprop(cellInv E P.sched (κ (P.gcell c x)) (P.gcell c x) ∗ reached E (P.gcell c x) 0) := by
  have h : P.opened E κ ⊢ iprop(cellInv E P.sched (κ (P.gcell c x)) (P.gcell c x) ∗ reached E (P.gcell c x) 0) :=
    BIBase.Entails.trans (bigSep_elim (Finset.mem_univ c)) (bigSep_elim (Finset.mem_univ x))
  unfold known
  iintro ⟨H, -⟩
  iapply h
  iexact H

theorem known_levels (κ : GSem nD τ sig → ℕ) : P.known O E κ ⊢ levAts leveled (P.lev O) := by
  unfold known
  iintro ⟨-, H⟩
  iexact H

instance opened_persistent (κ : GSem nD τ sig → ℕ) : BI.Persistent (P.opened E κ) := by unfold opened; infer_instance

instance known_persistent (κ : GSem nD τ sig → ℕ) : BI.Persistent (P.known O E κ) := by unfold known; infer_instance

/-- The source's share of remote copy `i`, unless a delivery is to bring it. -/
def srcNow (i : R) (c : Dev nD) : sProp 𝕄 :=
  match P.via i with
  | none => P.srcPts i c
  | some _ => iprop(emp)

/-- What remote copy `i` has delivered to device `c`, until it is relayed. -/
def kept (c : Dev nD) (p : ℕ) (i : R) : sProp 𝕄 :=
  match P.fwd i with
  | none => P.landed i ((P.peer i).symm c)
  | some k => if p ≤ O.pSend k then P.landed i ((P.peer i).symm c) else iprop(emp)

/-- What remote copy `i` has delivered to device `c`, if it isn't relayed. -/
def stays (i : R) (c : Dev nD) : sProp 𝕄 :=
  match P.fwd i with
  | none => P.landed i ((P.peer i).symm c)
  | some _ => iprop(emp)

/-- The sender's side of remote copy `i` at position `p`. -/
def sSt (c : Dev nD) (p : ℕ) (i : R) : sProp 𝕄 :=
  if p ≤ O.pSend i then iprop(atPos E (P.gcell c (.inl i)) 0 ∅ 0 ∗ P.srcNow i c ∗ P.dstPts i c
      ∗ dutyTok E (P.gcell c (.inl i)) 0 () ∗ dutyTok E (P.gcell (P.peer i c) (.inr (.inl i))) 0 ())
  else if p ≤ O.pSWait i then iprop(atPos E (P.gcell c (.inl i)) 0 ∅ 0 ∗ cred (tallyAt (P.gcell c (.inl i)) () (P.nR i)))
  else iprop(atPos E (P.gcell c (.inl i)) 1 ∅ 0 ∗ P.srcPts i c)

/-- The receiver's side of remote copy `i` at position `p`. -/
def rSt (c : Dev nD) (p : ℕ) (i : R) : sProp 𝕄 :=
  if p ≤ O.pRecv i then iprop(atPos E (P.gcell c (.inr (.inl i))) 0 ∅ 0 ∗ cred (tallyAt (P.gcell c (.inr (.inl i))) () (P.nR i)))
  else iprop(atPos E (P.gcell c (.inr (.inl i))) 1 ∅ 0 ∗ P.kept O c p i)

/-- Local copy `i` at position `p`. -/
def lSt (c : Dev nD) (p : ℕ) (i : L) : sProp 𝕄 :=
  if p ≤ O.pLoc i then iprop(atPos E (P.gcell c (.inr (.inr i))) 0 ∅ 0 ∗ P.lsrcPts i c ∗ P.ldstPts i c ∗ dutyTok E (P.gcell c (.inr (.inr i))) 0 ())
  else if p ≤ O.pLWait i then iprop(atPos E (P.gcell c (.inr (.inr i))) 0 ∅ 0 ∗ cred (tallyAt (P.gcell c (.inr (.inr i))) () (P.nL i)))
  else iprop(atPos E (P.gcell c (.inr (.inr i))) 1 ∅ 0 ∗ P.llanded i c ∗ P.lsrcPts i c)

/-- What device `c` owes its peers' counters at position `p`: the copies it has yet to start. -/
def owed (c : Dev nD) (p : ℕ) : CellTallies nD τ sig Unit :=
  ∑ i ∈ Finset.univ.filter (fun i => p ≤ O.pSend i), tallyAt (P.gcell (P.peer i c) (.inr (.inl i))) () (P.nR i)

/-- Device `c` at position `p`. -/
def St (κ : GSem nD τ sig → ℕ) (c : Dev nD) (p : ℕ) : sProp 𝕄 :=
  iprop(P.known O E κ ∗ bigSep Finset.univ (P.sSt O E c p) ∗ bigSep Finset.univ (P.rSt O E c p) ∗ bigSep Finset.univ (P.lSt O E c p)
    ∗ ∃ W, owes (c.tc : Thread nD τ) (P.owed O c p) W)

/-! ## One step each -/

section Steps

variable {Λ : Labels} {defs : Defs nD τ sig Val Λ} {𝒱 : Variants}
variable {κ : GSem nD τ sig → ℕ} {c : Dev nD} {p : ℕ} {Q : PUnit → sProp (MT nD τ sig Unit Val ℕ U ℕ)} {α : Type}

theorem owed_send (i : R) (hp : O.pSend i = p) : P.owed O c p = P.owed O c (p + 1) + tallyAt (P.gcell (P.peer i c) (.inr (.inl i))) () (P.nR i) := by
  have hinj : ∀ j, O.pSend j = p → j = i := fun j hj => Sum.inl_injective (O.inj (show Sum.elim _ _ (.inl j) = Sum.elim _ _ (.inl i) from hj.trans hp.symm))
  have hf : Finset.univ.filter (fun j => p ≤ O.pSend j) = insert i (Finset.univ.filter fun j => p + 1 ≤ O.pSend j) := by
    ext j
    simp only [Finset.mem_filter, Finset.mem_univ, true_and, Finset.mem_insert]
    constructor
    · intro h
      by_cases hj : O.pSend j = p
      · exact .inl (hinj j hj)
      · exact .inr (by omega)
    · rintro (rfl | h) <;> omega
  unfold owed
  rw [hf, Finset.sum_insert (by simp only [Finset.mem_filter, Finset.mem_univ, true_and]; omega), add_comm]

theorem owed_other (hp : ∀ i, O.pSend i ≠ p) : P.owed O c p = P.owed O c (p + 1) := by
  unfold owed
  congr 1
  ext j
  have := hp j
  simp only [Finset.mem_filter, Finset.mem_univ, true_and]
  omega

theorem owed_end (hp : ∀ i, O.pSend i < p) : P.owed O c p = 0 := by
  unfold owed
  rw [Finset.filter_false_of_mem (fun i _ => by have := hp i; omega), Finset.sum_empty]

theorem sSt_other (i : R) (h1 : O.pSend i ≠ p) (h2 : O.pSWait i ≠ p) : P.sSt O E c p i = P.sSt O E c (p + 1) i := by
  unfold sSt
  rw [if_congr (show p ≤ O.pSend i ↔ p + 1 ≤ O.pSend i by omega) rfl (if_congr (show p ≤ O.pSWait i ↔ p + 1 ≤ O.pSWait i by omega) rfl rfl)]

theorem kept_other (i : R) (h2 : ∀ k, P.fwd i = some k → O.pSend k ≠ p) : P.kept (U := U) O c p i = P.kept O c (p + 1) i := by
  unfold kept
  rcases h : P.fwd i with _ | k
  · rfl
  · have := h2 k h
    exact if_congr (show p ≤ O.pSend k ↔ p + 1 ≤ O.pSend k by omega) rfl rfl

theorem rSt_other (i : R) (h1 : O.pRecv i ≠ p) (h2 : ∀ k, P.fwd i = some k → O.pSend k ≠ p) : P.rSt O E c p i = P.rSt O E c (p + 1) i := by
  unfold rSt
  rw [if_congr (show p ≤ O.pRecv i ↔ p + 1 ≤ O.pRecv i by omega) rfl rfl, P.kept_other O i h2]

/-- A device that has come to the receiver's wait of copy `i` may wait there: what it still owes stands above. -/
theorem may_recv (i : R) (hp : O.pRecv i = p) :
    (levAts leveled (P.lev O) : sProp 𝕄) ⊢ MayWait (c.tc : Thread nD τ) (P.sR i) () (P.owed O c p) := by
  refine Pipeline.mayWait_of_levAts (show () ∈ leveled _ from by rw [leveled, if_pos rfl]; exact Finset.mem_singleton_self _) fun g u hg => ?_
  unfold owed at hg
  obtain ⟨k, hk, hpos⟩ := Pipeline.sum_pos_exists hg
  rw [tallyAt_apply] at hpos
  by_cases h : g = P.gcell (P.peer k c) (.inr (.inl k)) ∧ u = ()
  · obtain ⟨rfl, rfl⟩ := h
    refine ⟨by rw [leveled, if_pos (show (P.gcell (P.peer k c) (.inr (.inl k))).1.2 = .tc from rfl)]; exact Finset.mem_singleton_self _, ?_⟩
    have hk' : p ≤ O.pSend k := by simpa using hk
    have e := P.lev_recv O c i
    rw [P.lev_recv O (P.peer k c) k, show P.lev O ((c.tc : Thread nD τ), P.sR i) () = O.lv i from e]
    exact O.lv_lt i k (by omega)
  · rw [if_neg h] at hpos
    exact absurd hpos (Nat.lt_irrefl 0)

theorem lSt_other (i : L) (h1 : O.pLoc i ≠ p) (h2 : O.pLWait i ≠ p) : P.lSt O E c p i = P.lSt O E c (p + 1) i := by
  unfold lSt
  rw [if_congr (show p ≤ O.pLoc i ↔ p + 1 ≤ O.pLoc i by omega) rfl (if_congr (show p ≤ O.pLWait i ↔ p + 1 ≤ O.pLWait i by omega) rfl rfl)]

/-- The start of local copy `i`. -/
theorem step_loc (i : L) (hp : O.pLoc i = p) {a b : Memref sig .tc .hbm (P.shL i) .bf16} {sm : SemLoc sig}
    (ha : a = P.lsrc i c) (hb : b = P.ldst i c) (hsm : sm = P.sL i)
    {hsrc : a.view.WordExact} {hdst : b.view.WordExact} {hsem : DmaTarget.Typed (nD := nD) (p := (Proc.tc : Proc τ)) .hbm sm (.here b)}
    {k : PUnit → Prog (TpuEff nD τ sig Val Λ .tc) PUnit}
    (hk : P.St O E κ c (p + 1) ⊢ wp frame (wpE defs 𝒱 (c.tc : Thread nD τ) none) Set.univ (k ⟨⟩) Q) :
    P.St O E κ c p ⊢ wp frame (wpE defs 𝒱 (c.tc : Thread nD τ) none) Set.univ (.op (.enqueueDma a (.here b) sm hsrc hdst hsem) k) Q := by
  subst ha hb hsm
  have hp' : O.pos (.inr (.inr (.inr (.inl i)))) = p := hp
  have h1 : ∀ j, O.pSend j ≠ p := fun j => O.only hp' (.inl j) (by simp)
  have h2 : ∀ j, O.pSWait j ≠ p := fun j => O.only hp' (.inr (.inl j)) (by simp)
  have h3 : ∀ j, O.pRecv j ≠ p := fun j => O.only hp' (.inr (.inr (.inl j))) (by simp)
  have h4 : ∀ j, j ≠ i → O.pLoc j ≠ p := fun j hj => O.only hp' (.inr (.inr (.inr (.inl j)))) (by simpa using hj)
  have h5 : ∀ j, O.pLWait j ≠ p := fun j => O.only hp' (.inr (.inr (.inr (.inr j)))) (by simp)
  have hlt := O.loc_lt i
  have e0 : P.lSt O E c p i = iprop(atPos E (P.gcell c (.inr (.inr i))) 0 ∅ 0 ∗ P.lsrcPts i c ∗ P.ldstPts i c ∗ dutyTok E (P.gcell c (.inr (.inr i))) 0 ()) :=
    if_pos (by omega)
  have e1 : P.lSt O E c (p + 1) i = iprop(atPos E (P.gcell c (.inr (.inr i))) 0 ∅ 0 ∗ cred (tallyAt (P.gcell c (.inr (.inr i))) () (P.nL i))) :=
    (if_neg (by omega)).trans (if_pos (by omega))
  unfold St at hk ⊢
  rw [bigSep_congr fun j _ => P.sSt_other O E (c := c) j (h1 j) (h2 j), bigSep_congr (fun j _ => P.rSt_other O E (c := c) j (h3 j) fun k _ => h1 k), P.owed_other O h1]
  have hat := bigSep_at (Φ := P.lSt O E c p) (Ψ := P.lSt O E c (p + 1)) i fun j hj => P.lSt_other O E j (h4 j hj) (h5 j)
  rw [e0, e1] at hat
  unfold lsrcPts ldstPts at hat
  iintro ⟨#HI, Hs, Hr, Hl, How⟩
  ihave Hl' := hat $$ Hl
  icases Hl' with ⟨⟨Hat, Hsrc, Hdst, Htok⟩, Hback⟩
  ihave Hc := (P.known_cell O E κ c (.inr (.inr i))) $$ HI
  icases Hc with ⟨#Hcell, #Hreach⟩
  have hpay : iprop(P.llanded (U := U) i c ∗ P.lsrcPts i c) ⊢ (P.sched (U := U)).payload (P.gcell c (.inr (.inr i))) 0 () :=
    Entails.of_eq (P.payload_cell c (.inr (.inr i)) 0 ()).symm
  have hrule := Rounds.wp_copy_pointsTo (defs := defs) (Γ := .empty) 𝒱 E P.sched (c.tc : Thread nD τ) none (src := P.lsrc i c) (dst := P.ldst i c) (sem := P.sL i)
    (hsrc := hsrc) (hdst := hdst) (hsem := hsem) (k := k) (Q := Q) (q := P.lq i) (fs := P.lsrcF i c) (fd := P.ldstF i c) (r := 0) (d := ())
    (κ := κ (P.gcell c (.inr (.inr i)))) (Finset.mem_singleton_self ()) () (P.nL i) (P.amtL i c) (P.amount_cell c (.inr (.inr i)) 0 ()) hpay (Es := Set.univ)
  iapply hrule $$ [Hsrc Hdst Htok]
  · isplitl []; · iexact Hcell
    isplitl [Hsrc]; · iexact Hsrc
    isplitl [Hdst]; · iexact Hdst
    isplitl [Htok]; · iexact Htok
    iexact Hreach
  iintro Hcr
  ihave Hl := Hback $$ [Hat Hcr]
  · isplitl [Hat]; · iexact Hat
    iexact Hcr
  iapply hk
  isplitl []; · iexact HI
  isplitl [Hs]; · iexact Hs
  isplitl [Hr]; · iexact Hr
  isplitl [Hl] <;> iassumption

/-- The start of remote copy `i`, from wherever its source comes. -/
theorem step_start (i : R) (hp : O.pSend i = p) {a b : Memref sig .tc .hbm (P.shR i) .bf16} {d : Dev nD} {sm sm' : SemLoc sig}
    (ha : a = P.src i c) (hb : b = P.dst i c) (hd : d = P.peer i c) (hsm : sm = P.sS i) (hsm' : sm' = P.sR i)
    {hsc : b.view.ref.isScScratch = false} {hsrc : a.view.WordExact} {hdst : b.view.WordExact}
    {hsem : DmaTarget.Typed (nD := nD) (p := (Proc.tc : Proc τ)) .hbm sm' (.remote (d.tc : Thread nD τ) b sm hsc)}
    {k : PUnit → Prog (TpuEff nD τ sig Val Λ .tc) PUnit}
    (hfetch : iprop(P.srcNow i c ∗ bigSep Finset.univ (P.rSt O E c p)) ⊢ iprop(P.srcPts i c ∗ bigSep Finset.univ (P.rSt O E c (p + 1))))
    (hk : P.St O E κ c (p + 1) ⊢ wp frame (wpE defs 𝒱 (c.tc : Thread nD τ) none) Set.univ (k ⟨⟩) Q) :
    P.St O E κ c p ⊢ wp frame (wpE defs 𝒱 (c.tc : Thread nD τ) none) Set.univ
      (.op (.enqueueDma a (.remote (d.tc : Thread nD τ) b sm hsc) sm' hsrc hdst hsem) k) Q := by
  subst ha hb hd hsm hsm'
  have hp' : O.pos (.inl i) = p := hp
  have h1 : ∀ j, j ≠ i → O.pSend j ≠ p := fun j hj => O.only hp' (.inl j) (by simpa using hj)
  have h2 : ∀ j, O.pSWait j ≠ p := fun j => O.only hp' (.inr (.inl j)) (by simp)
  have h3 : ∀ j, O.pRecv j ≠ p := fun j => O.only hp' (.inr (.inr (.inl j))) (by simp)
  have h4 : ∀ j, O.pLoc j ≠ p := fun j => O.only hp' (.inr (.inr (.inr (.inl j)))) (by simp)
  have h5 : ∀ j, O.pLWait j ≠ p := fun j => O.only hp' (.inr (.inr (.inr (.inr j)))) (by simp)
  have hlt := O.send_lt i
  have e0 : P.sSt O E c p i = iprop(atPos E (P.gcell c (.inl i)) 0 ∅ 0 ∗ P.srcNow i c ∗ P.dstPts i c
      ∗ dutyTok E (P.gcell c (.inl i)) 0 () ∗ dutyTok E (P.gcell (P.peer i c) (.inr (.inl i))) 0 ()) := if_pos (by omega)
  have e1 : P.sSt O E c (p + 1) i = iprop(atPos E (P.gcell c (.inl i)) 0 ∅ 0 ∗ cred (tallyAt (P.gcell c (.inl i)) () (P.nR i))) :=
    (if_neg (by omega)).trans (if_pos (by omega))
  unfold St at hk ⊢
  rw [bigSep_congr fun j _ => P.lSt_other O E (c := c) j (h4 j) (h5 j)]
  have hat := bigSep_at (Φ := P.sSt O E c p) (Ψ := P.sSt O E c (p + 1)) i fun j hj => P.sSt_other O E j (h1 j hj) (h2 j)
  rw [e0, e1] at hat
  unfold srcPts at hfetch
  unfold dstPts at hat
  iintro ⟨#HI, Hs, Hr, Hl, ⟨%W, How⟩⟩
  ihave Hs' := hat $$ Hs
  icases Hs' with ⟨⟨Hat, Hnow, Hdst, Htok, Htok'⟩, Hback⟩
  ihave Hf := hfetch $$ [Hnow Hr]
  · isplitl [Hnow] <;> iassumption
  icases Hf with ⟨Hsrc, Hr⟩
  ihave Hc := (P.known_cell O E κ c (.inl i)) $$ HI
  icases Hc with ⟨#Hcell, #Hreach⟩
  ihave Hc' := (P.known_cell O E κ (P.peer i c) (.inr (.inl i))) $$ HI
  icases Hc' with ⟨#Hcell', #Hreach'⟩
  have hpay : P.srcPts (U := U) i c ⊢ (P.sched (U := U)).payload (P.gcell c (.inl i)) 0 () :=
    Entails.of_eq (P.payload_cell c (.inl i) 0 ()).symm
  have hpay' : P.landed (U := U) i c ⊢ (P.sched (U := U)).payload (P.gcell (P.peer i c) (.inr (.inl i))) 0 () := by
    rw [P.payload_cell]
    show _ ⊢ P.landed i ((P.peer i).symm (P.peer i c))
    rw [Equiv.symm_apply_apply]
  have hrule := Rounds.wp_send_pointsTo (defs := defs) (Γ := .empty) 𝒱 E P.sched (c.tc : Thread nD τ) none (c' := ((P.peer i c).tc : Thread nD τ))
    (src := P.src i c) (dst := P.dst i c) (sS := P.sS i) (sem := P.sR i) (hsc := hsc)
    (hsrc := hsrc) (hdst := hdst) (hsem := hsem) (k := k) (Q := Q) (q := P.q i) (fs := P.srcF i c) (fd := P.dstF i c) (r₁ := 0) (r₂ := 0) (d₁ := ()) (d₂ := ())
    (κ₁ := κ (P.gcell c (.inl i))) (κ₂ := κ (P.gcell (P.peer i c) (.inr (.inl i))))
    (Finset.mem_singleton_self ()) (Finset.mem_singleton_self ()) () () (P.nR i) (P.amtR i c)
    (P.amount_cell c (.inl i) 0 ()) (P.amount_cell (P.peer i c) (.inr (.inl i)) 0 ()) (P.owed O c (p + 1)) (P.owed_send O i hp) (W := W)
    hpay hpay' (Es := Set.univ) (P.routes i c)
  iapply hrule $$ [Hsrc Hdst Htok Htok' How]
  · isplitl []; · iexact Hcell
    isplitl []; · iexact Hcell'
    isplitl [Hsrc]; · iexact Hsrc
    isplitl [Hdst]; · iexact Hdst
    isplitl [How]; · iexact How
    isplitl [Htok]; · iexact Htok
    isplitl []; · iexact Hreach
    isplitl [Htok']; · iexact Htok'
    iexact Hreach'
  iintro ⟨Hcr, How⟩
  ihave Hs := Hback $$ [Hat Hcr]
  · isplitl [Hat]; · iexact Hat
    iexact Hcr
  iapply hk
  isplitl []; · iexact HI
  isplitl [Hs]; · iexact Hs
  isplitl [Hr]; · iexact Hr
  isplitl [Hl]; · iexact Hl
  iexists W
  iexact How

/-- The start of remote copy `i`, whose source was there from the launch on. -/
theorem step_send (i : R) (hp : O.pSend i = p) (hvia : P.via i = none) {a b : Memref sig .tc .hbm (P.shR i) .bf16} {d : Dev nD} {sm sm' : SemLoc sig}
    (ha : a = P.src i c) (hb : b = P.dst i c) (hd : d = P.peer i c) (hsm : sm = P.sS i) (hsm' : sm' = P.sR i)
    {hsc : b.view.ref.isScScratch = false} {hsrc : a.view.WordExact} {hdst : b.view.WordExact}
    {hsem : DmaTarget.Typed (nD := nD) (p := (Proc.tc : Proc τ)) .hbm sm' (.remote (d.tc : Thread nD τ) b sm hsc)}
    {k : PUnit → Prog (TpuEff nD τ sig Val Λ .tc) PUnit}
    (hk : P.St O E κ c (p + 1) ⊢ wp frame (wpE defs 𝒱 (c.tc : Thread nD τ) none) Set.univ (k ⟨⟩) Q) :
    P.St O E κ c p ⊢ wp frame (wpE defs 𝒱 (c.tc : Thread nD τ) none) Set.univ
      (.op (.enqueueDma a (.remote (d.tc : Thread nD τ) b sm hsc) sm' hsrc hdst hsem) k) Q := by
  refine P.step_start O E i hp ha hb hd hsm hsm' ?_ hk
  have hne : ∀ j, P.fwd j ≠ some i := fun j h => by rw [(P.via_fwd i j).mpr h] at hvia; cases hvia
  have hp' : O.pos (.inl i) = p := hp
  have h3 : ∀ j, O.pRecv j ≠ p := fun j => O.only hp' (.inr (.inr (.inl j))) (by simp)
  have hn : P.srcNow (U := U) i c = P.srcPts i c := by unfold srcNow; rw [hvia]
  rw [hn, bigSep_congr fun j _ => P.rSt_other O E (c := c) j (h3 j) fun k hk => O.only hp' (.inl k) fun e => hne j (by rw [hk, Sum.inl_injective e])]

/-- The start of remote copy `i`, which relays what copy `j` has delivered. -/
theorem step_relay (i : R) (j : R) (hp : O.pSend i = p) (hvia : P.via i = some j) (hj : O.pRecv j < p)
    (hsrc' : P.landed (U := U) j ((P.peer j).symm c) ⊢ P.srcPts i c) {a b : Memref sig .tc .hbm (P.shR i) .bf16} {d : Dev nD} {sm sm' : SemLoc sig}
    (ha : a = P.src i c) (hb : b = P.dst i c) (hd : d = P.peer i c) (hsm : sm = P.sS i) (hsm' : sm' = P.sR i)
    {hsc : b.view.ref.isScScratch = false} {hsrc : a.view.WordExact} {hdst : b.view.WordExact}
    {hsem : DmaTarget.Typed (nD := nD) (p := (Proc.tc : Proc τ)) .hbm sm' (.remote (d.tc : Thread nD τ) b sm hsc)}
    {k : PUnit → Prog (TpuEff nD τ sig Val Λ .tc) PUnit}
    (hk : P.St O E κ c (p + 1) ⊢ wp frame (wpE defs 𝒱 (c.tc : Thread nD τ) none) Set.univ (k ⟨⟩) Q) :
    P.St O E κ c p ⊢ wp frame (wpE defs 𝒱 (c.tc : Thread nD τ) none) Set.univ
      (.op (.enqueueDma a (.remote (d.tc : Thread nD τ) b sm hsc) sm' hsrc hdst hsem) k) Q := by
  refine P.step_start O E i hp ha hb hd hsm hsm' ?_ hk
  have hfwd : P.fwd j = some i := (P.via_fwd i j).mp hvia
  have hp' : O.pos (.inl i) = p := hp
  have h3 : ∀ j, O.pRecv j ≠ p := fun j => O.only hp' (.inr (.inr (.inl j))) (by simp)
  have hn : P.srcNow (U := U) i c = iprop(emp) := by unfold srcNow; rw [hvia]
  have e0 : P.rSt O E c p j = iprop(atPos E (P.gcell c (.inr (.inl j))) 1 ∅ 0 ∗ P.landed j ((P.peer j).symm c)) := by
    unfold rSt kept
    rw [if_neg (by omega), hfwd]
    exact congrArg (fun X : sProp 𝕄 => iprop(atPos E (P.gcell c (.inr (.inl j))) 1 ∅ 0 ∗ X)) (if_pos (by omega))
  have e1 : P.rSt O E c (p + 1) j = iprop(atPos E (P.gcell c (.inr (.inl j))) 1 ∅ 0 ∗ emp) := by
    unfold rSt kept
    rw [if_neg (by omega), hfwd]
    exact congrArg (fun X : sProp 𝕄 => iprop(atPos E (P.gcell c (.inr (.inl j))) 1 ∅ 0 ∗ X)) (if_neg (by omega))
  have hat := bigSep_at (Φ := P.rSt O E c p) (Ψ := P.rSt O E c (p + 1)) j fun j' hj' => P.rSt_other O E j' (h3 j') fun k hk => O.only hp' (.inl k) fun e => hj' (by
    rw [Sum.inl_injective e] at hk
    have := (P.via_fwd i j').mpr hk
    rw [hvia] at this
    exact (Option.some.inj this).symm)
  rw [e0, e1] at hat
  rw [hn]
  iintro ⟨-, Hr⟩
  ihave Hx := hat $$ Hr
  icases Hx with ⟨⟨Hat, Hland⟩, Hback⟩
  isplitl [Hland]
  · iapply hsrc'
    iexact Hland
  iapply Hback
  isplitl [Hat]; · iexact Hat
  iempintro

/-- The receiver's wait for remote copy `i`. -/
theorem step_recv (i : R) (hp : O.pRecv i = p) (hrel : ∀ k, P.fwd i = some k → O.pRecv i < O.pSend k) {sp sp' : Space} {s s' : Shape} {e e' : EltTy} {a : Memref sig .tc sp s e} {b : Memref sig .tc sp' s' e'} {sm : DmaSem sig}
    (hsm : SemLoc.dma sm = P.sR i) (hb : b.view.dmaCredit = P.nR i) {hsrc : a.view.WordExact} {hdst : b.view.WordExact}
    {k : PUnit → Prog (TpuEff nD τ sig Val Λ .tc) PUnit}
    (hk : P.St O E κ c (p + 1) ⊢ wp frame (wpE defs 𝒱 (c.tc : Thread nD τ) none) Set.univ (k ⟨⟩) Q) :
    P.St O E κ c p ⊢ wp frame (wpE defs 𝒱 (c.tc : Thread nD τ) none) Set.univ (.op (.waitDma2 sm a b hsrc hdst) k) Q := by
  have hp' : O.pos (.inr (.inr (.inl i))) = p := hp
  have h1 : ∀ j, O.pSend j ≠ p := fun j => O.only hp' (.inl j) (by simp)
  have h2 : ∀ j, O.pSWait j ≠ p := fun j => O.only hp' (.inr (.inl j)) (by simp)
  have h3 : ∀ j, j ≠ i → O.pRecv j ≠ p := fun j hj => O.only hp' (.inr (.inr (.inl j))) (by simpa using hj)
  have h4 : ∀ j, O.pLoc j ≠ p := fun j => O.only hp' (.inr (.inr (.inr (.inl j)))) (by simp)
  have h5 : ∀ j, O.pLWait j ≠ p := fun j => O.only hp' (.inr (.inr (.inr (.inr j)))) (by simp)
  have e0 : P.rSt O E c p i = iprop(atPos E (P.gcell c (.inr (.inl i))) 0 ∅ 0 ∗ cred (tallyAt (P.gcell c (.inr (.inl i))) () (P.nR i))) := if_pos (by omega)
  have e1 : P.rSt O E c (p + 1) i = iprop(atPos E (P.gcell c (.inr (.inl i))) 1 ∅ 0 ∗ P.kept O c (p + 1) i) := if_neg (by omega)
  have hkept : P.landed (U := U) i ((P.peer i).symm c) ⊢ P.kept O c (p + 1) i := by
    unfold kept
    rcases h : P.fwd i with _ | k
    · exact BI.Entails.refl _
    · have := hrel k h
      exact Entails.of_eq (if_pos (by omega)).symm
  unfold St at hk ⊢
  rw [bigSep_congr fun j _ => P.sSt_other O E (c := c) j (h1 j) (h2 j), bigSep_congr fun j _ => P.lSt_other O E (c := c) j (h4 j) (h5 j)]
  rw [← P.owed_other O h1] at hk
  have hat := bigSep_at (Φ := P.rSt O E c p) (Ψ := P.rSt O E c (p + 1)) i fun j hj => P.rSt_other O E j (h3 j hj) fun k _ => h1 k
  rw [e0, e1] at hat
  iintro ⟨#HI, Hs, Hr, Hl, ⟨%W, How⟩⟩
  ihave Hx := hat $$ Hr
  icases Hx with ⟨⟨Hat, Hcr⟩, Hback⟩
  ihave Hc := (P.known_cell O E κ c (.inr (.inl i))) $$ HI
  icases Hc with ⟨#Hcell, #Hreach⟩
  have hrest := (P.rest_cell (U := U) c (.inr (.inl i))).trans (show P.pay (U := U) c (.inr (.inl i)) = P.landed i ((P.peer i).symm c) from rfl)
  have hexp := P.expect_cell (U := U) c (.inr (.inl i))
  have hg : ((c.tc : Thread nD τ), SemLoc.dma sm) = P.gcell c (.inr (.inl i)) := by rw [hsm]; rfl
  have hrule := Rounds.wp_wait_rest_token (defs := defs) (Γ := .empty) 𝒱 E P.sched (c.tc : Thread nD τ) none (κ := κ (P.gcell c (.inr (.inl i)))) (Es := Set.univ)
    (wpE_waitDma2_eq (defs := defs) (sem := sm) (src := a) (dst := b) (hsrc := hsrc) (hdst := hdst) 𝒱 (c.tc : Thread nD τ) none Set.univ) (Set.mem_univ _)
    () (O := P.owed O c p) (W := W) (R := 0) (m := 0) (T := ∅) (k := k) (Q := Q) (by rw [hg, Nat.zero_add, hb]; exact hexp.symm)
  have hmay := P.may_recv (U := U) O (c := c) i hp
  rw [← hsm] at hmay
  rw [hg, hrest, hb] at hrule
  iapply hrule $$ [Hat Hcr How]
  · isplitl []; · iexact Hcell
    isplitl [Hcr]; · iexact Hcr
    isplitl [How]; · iexact How
    isplitl []
    · iapply hmay
      iapply (P.known_levels O E κ)
      iexact HI
    iexact Hat
  iintro ⟨How, Hat, -, Hpay⟩
  ihave Hr := Hback $$ [Hat Hpay]
  · isplitl [Hat]; · iexact Hat
    iapply hkept
    iexact Hpay
  iapply hk
  isplitl []; · iexact HI
  isplitl [Hs]; · iexact Hs
  isplitl [Hr]; · iexact Hr
  isplitl [Hl]; · iexact Hl
  iexists _
  iexact How

/-- The sender's wait for remote copy `i`, after every remote copy has been started. -/
theorem step_swait (i : R) (hp : O.pSWait i = p) (hO : ∀ j, O.pSend j < p) {sp sp' : Space} {s s' : Shape} {e e' : EltTy} {a : Memref sig .tc sp s e} {b : Memref sig .tc sp' s' e'} {sm : DmaSem sig}
    (hsm : SemLoc.dma sm = P.sS i) (hb : b.view.dmaCredit = P.nR i) {hsrc : a.view.WordExact} {hdst : b.view.WordExact}
    {k : PUnit → Prog (TpuEff nD τ sig Val Λ .tc) PUnit}
    (hk : P.St O E κ c (p + 1) ⊢ wp frame (wpE defs 𝒱 (c.tc : Thread nD τ) none) Set.univ (k ⟨⟩) Q) :
    P.St O E κ c p ⊢ wp frame (wpE defs 𝒱 (c.tc : Thread nD τ) none) Set.univ (.op (.waitDma2 sm a b hsrc hdst) k) Q := by
  have hp' : O.pos (.inr (.inl i)) = p := hp
  have h1 : ∀ j, O.pSend j ≠ p := fun j => O.only hp' (.inl j) (by simp)
  have h2 : ∀ j, j ≠ i → O.pSWait j ≠ p := fun j hj => O.only hp' (.inr (.inl j)) (by simpa using hj)
  have h3 : ∀ j, O.pRecv j ≠ p := fun j => O.only hp' (.inr (.inr (.inl j))) (by simp)
  have h4 : ∀ j, O.pLoc j ≠ p := fun j => O.only hp' (.inr (.inr (.inr (.inl j)))) (by simp)
  have h5 : ∀ j, O.pLWait j ≠ p := fun j => O.only hp' (.inr (.inr (.inr (.inr j)))) (by simp)
  have hlt := O.send_lt i
  have e0 : P.sSt O E c p i = iprop(atPos E (P.gcell c (.inl i)) 0 ∅ 0 ∗ cred (tallyAt (P.gcell c (.inl i)) () (P.nR i))) :=
    (if_neg (by omega)).trans (if_pos (by omega))
  have e1 : P.sSt O E c (p + 1) i = iprop(atPos E (P.gcell c (.inl i)) 1 ∅ 0 ∗ P.srcPts i c) :=
    (if_neg (by omega)).trans (if_neg (by omega))
  unfold St at hk ⊢
  rw [bigSep_congr (fun j _ => P.rSt_other O E (c := c) j (h3 j) fun k _ => h1 k), bigSep_congr fun j _ => P.lSt_other O E (c := c) j (h4 j) (h5 j),
    P.owed_end O hO]
  rw [P.owed_end (p := p + 1) O (fun j => Nat.lt_succ_of_lt (hO j))] at hk
  have hat := bigSep_at (Φ := P.sSt O E c p) (Ψ := P.sSt O E c (p + 1)) i fun j hj => P.sSt_other O E j (h1 j) (h2 j hj)
  rw [e0, e1] at hat
  iintro ⟨#HI, Hs, Hr, Hl, ⟨%W, How⟩⟩
  ihave Hx := hat $$ Hs
  icases Hx with ⟨⟨Hat, Hcr⟩, Hback⟩
  ihave Hc := (P.known_cell O E κ c (.inl i)) $$ HI
  icases Hc with ⟨#Hcell, #Hreach⟩
  have hrest := (P.rest_cell (U := U) c (.inl i)).trans (show P.pay (U := U) c (.inl i) = P.srcPts i c from rfl)
  have hexp := P.expect_cell (U := U) c (.inl i)
  have hg : ((c.tc : Thread nD τ), SemLoc.dma sm) = P.gcell c (.inl i) := by rw [hsm]; rfl
  have hrule := Rounds.wp_wait_rest_token (defs := defs) (Γ := .empty) 𝒱 E P.sched (c.tc : Thread nD τ) none (κ := κ (P.gcell c (.inl i))) (Es := Set.univ)
    (wpE_waitDma2_eq (defs := defs) (sem := sm) (src := a) (dst := b) (hsrc := hsrc) (hdst := hdst) 𝒱 (c.tc : Thread nD τ) none Set.univ) (Set.mem_univ _)
    () (O := 0) (W := W) (R := 0) (m := 0) (T := ∅) (k := k) (Q := Q) (by rw [hg, Nat.zero_add, hb]; exact hexp.symm)
  rw [hg, hrest, hb, MayWait_zero] at hrule
  iapply hrule $$ [Hat Hcr How]
  · isplitl []; · iexact Hcell
    isplitl [Hcr]; · iexact Hcr
    isplitl [How]; · iexact How
    isplitl []; · iempintro
    iexact Hat
  iintro ⟨How, Hat, -, Hpay⟩
  ihave Hs := Hback $$ [Hat Hpay]
  · isplitl [Hat]; · iexact Hat
    iexact Hpay
  iapply hk
  isplitl []; · iexact HI
  isplitl [Hs]; · iexact Hs
  isplitl [Hr]; · iexact Hr
  isplitl [Hl]; · iexact Hl
  iexists _
  iexact How

/-- The wait for local copy `i`, after every remote copy has been started. -/
theorem step_lwait (i : L) (hp : O.pLWait i = p) (hO : ∀ j, O.pSend j < p) {sp sp' : Space} {s s' : Shape} {e e' : EltTy} {a : Memref sig .tc sp s e} {b : Memref sig .tc sp' s' e'} {sm : DmaSem sig}
    (hsm : SemLoc.dma sm = P.sL i) (hb : b.view.dmaCredit = P.nL i) {hsrc : a.view.WordExact} {hdst : b.view.WordExact}
    {k : PUnit → Prog (TpuEff nD τ sig Val Λ .tc) PUnit}
    (hk : P.St O E κ c (p + 1) ⊢ wp frame (wpE defs 𝒱 (c.tc : Thread nD τ) none) Set.univ (k ⟨⟩) Q) :
    P.St O E κ c p ⊢ wp frame (wpE defs 𝒱 (c.tc : Thread nD τ) none) Set.univ (.op (.waitDma2 sm a b hsrc hdst) k) Q := by
  have hp' : O.pos (.inr (.inr (.inr (.inr i)))) = p := hp
  have h1 : ∀ j, O.pSend j ≠ p := fun j => O.only hp' (.inl j) (by simp)
  have h2 : ∀ j, O.pSWait j ≠ p := fun j => O.only hp' (.inr (.inl j)) (by simp)
  have h3 : ∀ j, O.pRecv j ≠ p := fun j => O.only hp' (.inr (.inr (.inl j))) (by simp)
  have h4 : ∀ j, O.pLoc j ≠ p := fun j => O.only hp' (.inr (.inr (.inr (.inl j)))) (by simp)
  have h5 : ∀ j, j ≠ i → O.pLWait j ≠ p := fun j hj => O.only hp' (.inr (.inr (.inr (.inr j)))) (by simpa using hj)
  have hlt := O.loc_lt i
  have e0 : P.lSt O E c p i = iprop(atPos E (P.gcell c (.inr (.inr i))) 0 ∅ 0 ∗ cred (tallyAt (P.gcell c (.inr (.inr i))) () (P.nL i))) :=
    (if_neg (by omega)).trans (if_pos (by omega))
  have e1 : P.lSt O E c (p + 1) i = iprop(atPos E (P.gcell c (.inr (.inr i))) 1 ∅ 0 ∗ P.llanded i c ∗ P.lsrcPts i c) :=
    (if_neg (by omega)).trans (if_neg (by omega))
  unfold St at hk ⊢
  rw [bigSep_congr fun j _ => P.sSt_other O E (c := c) j (h1 j) (h2 j), bigSep_congr (fun j _ => P.rSt_other O E (c := c) j (h3 j) fun k _ => h1 k),
    P.owed_end O hO]
  rw [P.owed_end (p := p + 1) O (fun j => Nat.lt_succ_of_lt (hO j))] at hk
  have hat := bigSep_at (Φ := P.lSt O E c p) (Ψ := P.lSt O E c (p + 1)) i fun j hj => P.lSt_other O E j (h4 j) (h5 j hj)
  rw [e0, e1] at hat
  iintro ⟨#HI, Hs, Hr, Hl, ⟨%W, How⟩⟩
  ihave Hx := hat $$ Hl
  icases Hx with ⟨⟨Hat, Hcr⟩, Hback⟩
  ihave Hc := (P.known_cell O E κ c (.inr (.inr i))) $$ HI
  icases Hc with ⟨#Hcell, #Hreach⟩
  have hrest := (P.rest_cell (U := U) c (.inr (.inr i))).trans (show P.pay (U := U) c (.inr (.inr i)) = iprop(P.llanded i c ∗ P.lsrcPts i c) from rfl)
  have hexp := P.expect_cell (U := U) c (.inr (.inr i))
  have hg : ((c.tc : Thread nD τ), SemLoc.dma sm) = P.gcell c (.inr (.inr i)) := by rw [hsm]; rfl
  have hrule := Rounds.wp_wait_rest_token (defs := defs) (Γ := .empty) 𝒱 E P.sched (c.tc : Thread nD τ) none (κ := κ (P.gcell c (.inr (.inr i)))) (Es := Set.univ)
    (wpE_waitDma2_eq (defs := defs) (sem := sm) (src := a) (dst := b) (hsrc := hsrc) (hdst := hdst) 𝒱 (c.tc : Thread nD τ) none Set.univ) (Set.mem_univ _)
    () (O := 0) (W := W) (R := 0) (m := 0) (T := ∅) (k := k) (Q := Q) (by rw [hg, Nat.zero_add, hb]; exact hexp.symm)
  rw [hg, hrest, hb, MayWait_zero] at hrule
  iapply hrule $$ [Hat Hcr How]
  · isplitl []; · iexact Hcell
    isplitl [Hcr]; · iexact Hcr
    isplitl [How]; · iexact How
    isplitl []; · iempintro
    iexact Hat
  iintro ⟨How, Hat, -, Hpay⟩
  ihave Hl := Hback $$ [Hat Hpay]
  · isplitl [Hat]; · iexact Hat
    iexact Hpay
  iapply hk
  isplitl []; · iexact HI
  isplitl [Hs]; · iexact Hs
  isplitl [Hr]; · iexact Hr
  isplitl [Hl]; · iexact Hl
  iexists _
  iexact How

end Steps

end Plan

end Generic

end Cert.Exchange

end
-- ==== Proof.ExchangePlan.lean ====
/-
The gradient exchange of `KernelIdeal` as a plan of copies (Exchange.lean): device `c` sends, for each of the four
arrays `a` and each of its seven peers `k` (the device whose number differs from `c`'s in the bits of `k + 1`), slab
`peer` of its argument `a` into slab `c` of the peer's result `a`, and copies its own slab `c` within its memory.

Also here: the printed slab views, whose offsets are words of the device id, are those slabs.
-/
module

public import proofs.«01_k».proof.Proof.Gen.KernelIdeal.Frame
public import proofs.«01_k».proof.Proof.Exchange

@[expose] public section

set_option Elab.async false
set_option maxRecDepth 16384

noncomputable section

namespace Cert.KernelIdeal.Xch

open Idealize.ShloMosaic Idealize.ShloMosaic.TcCoe
open Idealize.SL Idealize.SL.RA Idealize.SL.BI
open Cert.Exchange Cert.KernelIdeal Cert.KernelIdeal.Gen

variable {F : FTy → Type} [FloatOps F]

/-! ## The peers -/

/-- Peer `k` of device `c`: the bits of `k + 1` flipped. -/
def peerOf (k : Fin 7) (c : Dev nD) : Dev nD := ⟨(Nat.xor c.val (k.val + 1)) % 8, Nat.mod_lt _ (by decide)⟩

theorem peerOf_peerOf : ∀ (k : Fin 7) (c : Dev nD), peerOf k (peerOf k c) = c := by decide +kernel

/-- Every device is the peer `k` of exactly one. -/
def peer (k : Fin 7) : Equiv.Perm (Dev nD) := ⟨peerOf k, peerOf k, peerOf_peerOf k, peerOf_peerOf k⟩

theorem peer_ne : ∀ (k : Fin 7) (c : Dev nD), peer k c ≠ c := by decide +kernel

theorem peer_inj_left : ∀ (c : Dev nD) (k k' : Fin 7), peer k c = peer k' c → k = k' := by decide +kernel

/-! ## The slabs -/

/-- The shape of a slab of array `a`. -/
abbrev sh : Fin 4 → Shape
  | 0 => S2048x771
  | 1 => S256x2048
  | 2 => S2048x1024
  | 3 => S1024x2048

/-- The shape of array `a`. -/
abbrev shW : Fin 4 → Shape
  | 0 => S8x2048x771
  | 1 => S8x256x2048
  | 2 => S8x2048x1024
  | 3 => S8x1024x2048

theorem inb0 : ∀ j : Dev nD, ∀ a, (![j.val, 0, 0] : Fin 3 → Nat) a + S1x2048x771.size a ≤ S8x2048x771.size a := by decide +kernel
theorem inb1 : ∀ j : Dev nD, ∀ a, (![j.val, 0, 0] : Fin 3 → Nat) a + S1x256x2048.size a ≤ S8x256x2048.size a := by decide +kernel
theorem inb2 : ∀ j : Dev nD, ∀ a, (![j.val, 0, 0] : Fin 3 → Nat) a + S1x2048x1024.size a ≤ S8x2048x1024.size a := by decide +kernel
theorem inb3 : ∀ j : Dev nD, ∀ a, (![j.val, 0, 0] : Fin 3 → Nat) a + S1x1024x2048.size a ≤ S8x1024x2048.size a := by decide +kernel

/-- Slab `j` of argument `a`. -/
def inSlab : (a : Fin 4) → Dev nD → Memref sig .tc .hbm (sh a) .bf16
  | 0, j => ((Memref.whole main_arg0).slice (Rect.unit (s := S8x2048x771) ![j.val, 0, 0] S1x2048x771.size (inb0 j)) (fun _ => rfl)).squeeze S2048x771 squeezes_S1x2048x771_S2048x771
  | 1, j => ((Memref.whole main_arg1).slice (Rect.unit (s := S8x256x2048) ![j.val, 0, 0] S1x256x2048.size (inb1 j)) (fun _ => rfl)).squeeze S256x2048 squeezes_S1x256x2048_S256x2048
  | 2, j => ((Memref.whole main_arg2).slice (Rect.unit (s := S8x2048x1024) ![j.val, 0, 0] S1x2048x1024.size (inb2 j)) (fun _ => rfl)).squeeze S2048x1024 squeezes_S1x2048x1024_S2048x1024
  | 3, j => ((Memref.whole main_arg3).slice (Rect.unit (s := S8x1024x2048) ![j.val, 0, 0] S1x1024x2048.size (inb3 j)) (fun _ => rfl)).squeeze S1024x2048 squeezes_S1x1024x2048_S1024x2048

/-- Slab `j` of result `a`. -/
def outSlab : (a : Fin 4) → Dev nD → Memref sig .tc .hbm (sh a) .bf16
  | 0, j => ((Memref.whole main_v1_0).slice (Rect.unit (s := S8x2048x771) ![j.val, 0, 0] S1x2048x771.size (inb0 j)) (fun _ => rfl)).squeeze S2048x771 squeezes_S1x2048x771_S2048x771
  | 1, j => ((Memref.whole main_v1_1).slice (Rect.unit (s := S8x256x2048) ![j.val, 0, 0] S1x256x2048.size (inb1 j)) (fun _ => rfl)).squeeze S256x2048 squeezes_S1x256x2048_S256x2048
  | 2, j => ((Memref.whole main_v1_2).slice (Rect.unit (s := S8x2048x1024) ![j.val, 0, 0] S1x2048x1024.size (inb2 j)) (fun _ => rfl)).squeeze S2048x1024 squeezes_S1x2048x1024_S2048x1024
  | 3, j => ((Memref.whole main_v1_3).slice (Rect.unit (s := S8x1024x2048) ![j.val, 0, 0] S1x1024x2048.size (inb3 j)) (fun _ => rfl)).squeeze S1024x2048 squeezes_S1x1024x2048_S1024x2048

/-- A printed slab of argument 0 is slab `j` when its offsets are. -/
theorem inSlab0 {off : Fin 3 → Nat} {j : Dev nD} (h : off = ![j.val, 0, 0]) (p : ∀ a, off a + S1x2048x771.size a ≤ S8x2048x771.size a) :
    ((Memref.whole main_arg0).slice (Rect.unit (s := S8x2048x771) off S1x2048x771.size p) (fun _ => rfl)).squeeze S2048x771 squeezes_S1x2048x771_S2048x771 = inSlab 0 j := by
  subst h; rfl

/-- A printed slab of argument 1 is slab `j` when its offsets are. -/
theorem inSlab1 {off : Fin 3 → Nat} {j : Dev nD} (h : off = ![j.val, 0, 0]) (p : ∀ a, off a + S1x256x2048.size a ≤ S8x256x2048.size a) :
    ((Memref.whole main_arg1).slice (Rect.unit (s := S8x256x2048) off S1x256x2048.size p) (fun _ => rfl)).squeeze S256x2048 squeezes_S1x256x2048_S256x2048 = inSlab 1 j := by
  subst h; rfl

/-- A printed slab of argument 2 is slab `j` when its offsets are. -/
theorem inSlab2 {off : Fin 3 → Nat} {j : Dev nD} (h : off = ![j.val, 0, 0]) (p : ∀ a, off a + S1x2048x1024.size a ≤ S8x2048x1024.size a) :
    ((Memref.whole main_arg2).slice (Rect.unit (s := S8x2048x1024) off S1x2048x1024.size p) (fun _ => rfl)).squeeze S2048x1024 squeezes_S1x2048x1024_S2048x1024 = inSlab 2 j := by
  subst h; rfl

/-- A printed slab of argument 3 is slab `j` when its offsets are. -/
theorem inSlab3 {off : Fin 3 → Nat} {j : Dev nD} (h : off = ![j.val, 0, 0]) (p : ∀ a, off a + S1x1024x2048.size a ≤ S8x1024x2048.size a) :
    ((Memref.whole main_arg3).slice (Rect.unit (s := S8x1024x2048) off S1x1024x2048.size p) (fun _ => rfl)).squeeze S1024x2048 squeezes_S1x1024x2048_S1024x2048 = inSlab 3 j := by
  subst h; rfl

/-- A printed slab of result 0 is slab `j` when its offsets are. -/
theorem outSlab0 {off : Fin 3 → Nat} {j : Dev nD} (h : off = ![j.val, 0, 0]) (p : ∀ a, off a + S1x2048x771.size a ≤ S8x2048x771.size a) :
    ((Memref.whole main_v1_0).slice (Rect.unit (s := S8x2048x771) off S1x2048x771.size p) (fun _ => rfl)).squeeze S2048x771 squeezes_S1x2048x771_S2048x771 = outSlab 0 j := by
  subst h; rfl

/-- A printed slab of result 1 is slab `j` when its offsets are. -/
theorem outSlab1 {off : Fin 3 → Nat} {j : Dev nD} (h : off = ![j.val, 0, 0]) (p : ∀ a, off a + S1x256x2048.size a ≤ S8x256x2048.size a) :
    ((Memref.whole main_v1_1).slice (Rect.unit (s := S8x256x2048) off S1x256x2048.size p) (fun _ => rfl)).squeeze S256x2048 squeezes_S1x256x2048_S256x2048 = outSlab 1 j := by
  subst h; rfl

/-- A printed slab of result 2 is slab `j` when its offsets are. -/
theorem outSlab2 {off : Fin 3 → Nat} {j : Dev nD} (h : off = ![j.val, 0, 0]) (p : ∀ a, off a + S1x2048x1024.size a ≤ S8x2048x1024.size a) :
    ((Memref.whole main_v1_2).slice (Rect.unit (s := S8x2048x1024) off S1x2048x1024.size p) (fun _ => rfl)).squeeze S2048x1024 squeezes_S1x2048x1024_S2048x1024 = outSlab 2 j := by
  subst h; rfl

/-- A printed slab of result 3 is slab `j` when its offsets are. -/
theorem outSlab3 {off : Fin 3 → Nat} {j : Dev nD} (h : off = ![j.val, 0, 0]) (p : ∀ a, off a + S1x1024x2048.size a ≤ S8x1024x2048.size a) :
    ((Memref.whole main_v1_3).slice (Rect.unit (s := S8x1024x2048) off S1x1024x2048.size p) (fun _ => rfl)).squeeze S1024x2048 squeezes_S1x1024x2048_S1024x2048 = outSlab 3 j := by
  subst h; rfl

/-! ## The printed offsets and devices -/

theorem off1 : ∀ c : Dev nD, k0_off1 c = ![c.val, 0, 0] := by decide +kernel
theorem off2 : ∀ c : Dev nD, k0_off2 c = ![c.val, 0, 0] := by decide +kernel
theorem off3 : ∀ c : Dev nD, k0_off3 c = ![c.val, 0, 0] := by decide +kernel
theorem off4 : ∀ c : Dev nD, k0_off4 c = ![c.val, 0, 0] := by decide +kernel
theorem off5 : ∀ c : Dev nD, k0_off5 c = ![(peer 0 c).val, 0, 0] := by decide +kernel
theorem off6 : ∀ c : Dev nD, k0_off6 c = ![(peer 0 c).val, 0, 0] := by decide +kernel
theorem off7 : ∀ c : Dev nD, k0_off7 c = ![(peer 0 c).val, 0, 0] := by decide +kernel
theorem off8 : ∀ c : Dev nD, k0_off8 c = ![(peer 0 c).val, 0, 0] := by decide +kernel
theorem off9 : ∀ c : Dev nD, k0_off9 c = ![(peer 1 c).val, 0, 0] := by decide +kernel
theorem off10 : ∀ c : Dev nD, k0_off10 c = ![(peer 1 c).val, 0, 0] := by decide +kernel
theorem off11 : ∀ c : Dev nD, k0_off11 c = ![(peer 1 c).val, 0, 0] := by decide +kernel
theorem off12 : ∀ c : Dev nD, k0_off12 c = ![(peer 1 c).val, 0, 0] := by decide +kernel
theorem off13 : ∀ c : Dev nD, k0_off13 c = ![(peer 2 c).val, 0, 0] := by decide +kernel
theorem off14 : ∀ c : Dev nD, k0_off14 c = ![(peer 2 c).val, 0, 0] := by decide +kernel
theorem off15 : ∀ c : Dev nD, k0_off15 c = ![(peer 2 c).val, 0, 0] := by decide +kernel
theorem off16 : ∀ c : Dev nD, k0_off16 c = ![(peer 2 c).val, 0, 0] := by decide +kernel
theorem off17 : ∀ c : Dev nD, k0_off17 c = ![(peer 3 c).val, 0, 0] := by decide +kernel
theorem off18 : ∀ c : Dev nD, k0_off18 c = ![(peer 3 c).val, 0, 0] := by decide +kernel
theorem off19 : ∀ c : Dev nD, k0_off19 c = ![(peer 3 c).val, 0, 0] := by decide +kernel
theorem off20 : ∀ c : Dev nD, k0_off20 c = ![(peer 3 c).val, 0, 0] := by decide +kernel
theorem off21 : ∀ c : Dev nD, k0_off21 c = ![(peer 4 c).val, 0, 0] := by decide +kernel
theorem off22 : ∀ c : Dev nD, k0_off22 c = ![(peer 4 c).val, 0, 0] := by decide +kernel
theorem off23 : ∀ c : Dev nD, k0_off23 c = ![(peer 4 c).val, 0, 0] := by decide +kernel
theorem off24 : ∀ c : Dev nD, k0_off24 c = ![(peer 4 c).val, 0, 0] := by decide +kernel
theorem off25 : ∀ c : Dev nD, k0_off25 c = ![(peer 5 c).val, 0, 0] := by decide +kernel
theorem off26 : ∀ c : Dev nD, k0_off26 c = ![(peer 5 c).val, 0, 0] := by decide +kernel
theorem off27 : ∀ c : Dev nD, k0_off27 c = ![(peer 5 c).val, 0, 0] := by decide +kernel
theorem off28 : ∀ c : Dev nD, k0_off28 c = ![(peer 5 c).val, 0, 0] := by decide +kernel
theorem off29 : ∀ c : Dev nD, k0_off29 c = ![(peer 6 c).val, 0, 0] := by decide +kernel
theorem off30 : ∀ c : Dev nD, k0_off30 c = ![(peer 6 c).val, 0, 0] := by decide +kernel
theorem off31 : ∀ c : Dev nD, k0_off31 c = ![(peer 6 c).val, 0, 0] := by decide +kernel
theorem off32 : ∀ c : Dev nD, k0_off32 c = ![(peer 6 c).val, 0, 0] := by decide +kernel
theorem dev1 : ∀ c : Dev nD, (⟨k0_dev1 c, k0_dev1_lt c⟩ : Dev nD) = peer 0 c := by decide +kernel
theorem dev2 : ∀ c : Dev nD, (⟨k0_dev2 c, k0_dev2_lt c⟩ : Dev nD) = peer 0 c := by decide +kernel
theorem dev3 : ∀ c : Dev nD, (⟨k0_dev3 c, k0_dev3_lt c⟩ : Dev nD) = peer 0 c := by decide +kernel
theorem dev4 : ∀ c : Dev nD, (⟨k0_dev4 c, k0_dev4_lt c⟩ : Dev nD) = peer 0 c := by decide +kernel
theorem dev5 : ∀ c : Dev nD, (⟨k0_dev5 c, k0_dev5_lt c⟩ : Dev nD) = peer 1 c := by decide +kernel
theorem dev6 : ∀ c : Dev nD, (⟨k0_dev6 c, k0_dev6_lt c⟩ : Dev nD) = peer 1 c := by decide +kernel
theorem dev7 : ∀ c : Dev nD, (⟨k0_dev7 c, k0_dev7_lt c⟩ : Dev nD) = peer 1 c := by decide +kernel
theorem dev8 : ∀ c : Dev nD, (⟨k0_dev8 c, k0_dev8_lt c⟩ : Dev nD) = peer 1 c := by decide +kernel
theorem dev9 : ∀ c : Dev nD, (⟨k0_dev9 c, k0_dev9_lt c⟩ : Dev nD) = peer 2 c := by decide +kernel
theorem dev10 : ∀ c : Dev nD, (⟨k0_dev10 c, k0_dev10_lt c⟩ : Dev nD) = peer 2 c := by decide +kernel
theorem dev11 : ∀ c : Dev nD, (⟨k0_dev11 c, k0_dev11_lt c⟩ : Dev nD) = peer 2 c := by decide +kernel
theorem dev12 : ∀ c : Dev nD, (⟨k0_dev12 c, k0_dev12_lt c⟩ : Dev nD) = peer 2 c := by decide +kernel
theorem dev13 : ∀ c : Dev nD, (⟨k0_dev13 c, k0_dev13_lt c⟩ : Dev nD) = peer 3 c := by decide +kernel
theorem dev14 : ∀ c : Dev nD, (⟨k0_dev14 c, k0_dev14_lt c⟩ : Dev nD) = peer 3 c := by decide +kernel
theorem dev15 : ∀ c : Dev nD, (⟨k0_dev15 c, k0_dev15_lt c⟩ : Dev nD) = peer 3 c := by decide +kernel
theorem dev16 : ∀ c : Dev nD, (⟨k0_dev16 c, k0_dev16_lt c⟩ : Dev nD) = peer 3 c := by decide +kernel
theorem dev17 : ∀ c : Dev nD, (⟨k0_dev17 c, k0_dev17_lt c⟩ : Dev nD) = peer 4 c := by decide +kernel
theorem dev18 : ∀ c : Dev nD, (⟨k0_dev18 c, k0_dev18_lt c⟩ : Dev nD) = peer 4 c := by decide +kernel
theorem dev19 : ∀ c : Dev nD, (⟨k0_dev19 c, k0_dev19_lt c⟩ : Dev nD) = peer 4 c := by decide +kernel
theorem dev20 : ∀ c : Dev nD, (⟨k0_dev20 c, k0_dev20_lt c⟩ : Dev nD) = peer 4 c := by decide +kernel
theorem dev21 : ∀ c : Dev nD, (⟨k0_dev21 c, k0_dev21_lt c⟩ : Dev nD) = peer 5 c := by decide +kernel
theorem dev22 : ∀ c : Dev nD, (⟨k0_dev22 c, k0_dev22_lt c⟩ : Dev nD) = peer 5 c := by decide +kernel
theorem dev23 : ∀ c : Dev nD, (⟨k0_dev23 c, k0_dev23_lt c⟩ : Dev nD) = peer 5 c := by decide +kernel
theorem dev24 : ∀ c : Dev nD, (⟨k0_dev24 c, k0_dev24_lt c⟩ : Dev nD) = peer 5 c := by decide +kernel
theorem dev25 : ∀ c : Dev nD, (⟨k0_dev25 c, k0_dev25_lt c⟩ : Dev nD) = peer 6 c := by decide +kernel
theorem dev26 : ∀ c : Dev nD, (⟨k0_dev26 c, k0_dev26_lt c⟩ : Dev nD) = peer 6 c := by decide +kernel
theorem dev27 : ∀ c : Dev nD, (⟨k0_dev27 c, k0_dev27_lt c⟩ : Dev nD) = peer 6 c := by decide +kernel
theorem dev28 : ∀ c : Dev nD, (⟨k0_dev28 c, k0_dev28_lt c⟩ : Dev nD) = peer 6 c := by decide +kernel

/-! ## The plan -/

/-- The remote copies: peer, array. -/
abbrev R : Type := Fin 7 × Fin 4

/-- What argument `a` of device `c` holds in the memory `m`. -/
def argBuf (m : (ℓ : Loc nD τ sig) → Buf (Elt F) ℓ) : (a : Fin 4) → (j c : Dev nD) → Buf (Elt F) ((inSlab a j).view.loc (c.tc : Thread nD τ))
  | 0, _, c => m ((c.tc : Thread nD τ).loc main_arg0)
  | 1, _, c => m ((c.tc : Thread nD τ).loc main_arg1)
  | 2, _, c => m ((c.tc : Thread nD τ).loc main_arg2)
  | 3, _, c => m ((c.tc : Thread nD τ).loc main_arg3)

/-- What result array `a` of device `c` holds in the memory `m`. -/
def outBuf (m : (ℓ : Loc nD τ sig) → Buf (Elt F) ℓ) : (a : Fin 4) → (j c : Dev nD) → Buf (Elt F) ((outSlab a j).view.loc (c.tc : Thread nD τ))
  | 0, _, c => m ((c.tc : Thread nD τ).loc main_v1_0)
  | 1, _, c => m ((c.tc : Thread nD τ).loc main_v1_1)
  | 2, _, c => m ((c.tc : Thread nD τ).loc main_v1_2)
  | 3, _, c => m ((c.tc : Thread nD τ).loc main_v1_3)

/-- The credit of one slab of array `a`. -/
def credit (a : Fin 4) : ℕ := (outSlab a 0).view.dmaCredit

theorem credit_pos (a : Fin 4) : 0 < credit a := View.dmaCredit_pos _ (by revert a; decide)

/-- The counters: 28 of the senders, 28 of the receivers, 4 of the local copies. -/
def sS (i : R) : SemLoc sig := .dma ⟨7 * i.2.val + i.1.val, by have := i.1.isLt; have := i.2.isLt; show _ < 60; omega⟩
def sR (i : R) : SemLoc sig := .dma ⟨28 + (7 * i.2.val + i.1.val), by have := i.1.isLt; have := i.2.isLt; show _ < 60; omega⟩
def sL (a : Fin 4) : SemLoc sig := .dma ⟨56 + a.val, by have := a.isLt; show _ < 60; omega⟩

theorem cell_inj : Function.Injective (Sum.elim sS (Sum.elim sR sL)) := by
  rintro (⟨k, a⟩ | ⟨k, a⟩ | a) (⟨k', a'⟩ | ⟨k', a'⟩ | a') h <;>
    simp only [Sum.elim_inl, Sum.elim_inr, sS, sR, sL, SemLoc.dma.injEq, Fin.mk.injEq] at h <;>
    simp only [Sum.inl.injEq, Sum.inr.injEq, Prod.mk.injEq, Fin.ext_iff, reduceCtorEq] <;> omega

theorem amount_out (a : Fin 4) (j : Dev nD) (s : DmaSem sig) : (outSlab a j).view.amount (.dma s) = credit a := by
  fin_cases a <;> rfl

/-- The exchange. -/
def plan (m : (ℓ : Loc nD τ sig) → Buf (Elt F) ℓ) : Plan nD τ sig (Elt F) R (Fin 4) where
  peer i := peer i.1
  sS := sS
  sR := sR
  sL := sL
  shR i := sh i.2
  src i c := inSlab i.2 (peer i.1 c)
  dst i c := outSlab i.2 c
  q _ := fullShare
  srcF i c := argBuf m i.2 _ c
  dstF i c := outBuf m i.2 _ (peer i.1 c)
  shL := sh
  lsrc a c := inSlab a c
  ldst a c := outSlab a c
  lq _ := fullShare
  lsrcF a c := argBuf m a _ c
  ldstF a c := outBuf m a _ c
  nR i := credit i.2
  nL := credit
  nR_pos i := credit_pos i.2
  nL_pos := credit_pos
  cell_inj := cell_inj
  amtR i c := amount_out i.2 c _
  amtL a c := amount_out a c _
  via _ := none
  fwd _ := none
  via_fwd i j := by simp
  routes i c := decide_eq_true (Or.inr (Or.inl ⟨rfl, rfl⟩))

/-- The order of a device's operations: the local starts, the remote starts, the receivers' waits, the senders' waits,
    the local waits. -/
def order : Order R (Fin 4) where
  pLoc a := a.val
  pSend i := 4 + (4 * i.1.val + i.2.val)
  pRecv i := 32 + (4 * i.1.val + i.2.val)
  pSWait i := 60 + (4 * i.1.val + i.2.val)
  pLWait a := 88 + a.val
  inj := by
    rintro (⟨k, a⟩ | ⟨k, a⟩ | ⟨k, a⟩ | a | a) (⟨k', a'⟩ | ⟨k', a'⟩ | ⟨k', a'⟩ | a' | a') h <;>
      simp only [Sum.elim_inl, Sum.elim_inr] at h <;>
      simp only [Sum.inl.injEq, Sum.inr.injEq, Prod.mk.injEq, Fin.ext_iff, reduceCtorEq] <;> omega
  send_lt i := by show 4 + _ < 60 + _; omega
  loc_lt a := by show a.val < 88 + a.val; omega
  lv _ := 0
  lv_lt i k h := by
    have h' : 32 + (4 * i.1.val + i.2.val) ≤ 4 + (4 * k.1.val + k.2.val) := h
    have := k.1.isLt; have := k.2.isLt; omega

end Cert.KernelIdeal.Xch

end
-- ==== Proof.ExchangeRun.lean ====
/-
A device's run of the gradient exchange, part by part as the body is printed: each operation is the plan's operation at
its position, so the run takes the state at position 0 to the state at position 92, where every copy has been waited for.
-/
module

public import proofs.«01_k».proof.Proof.ExchangePlan
public import proofs.«01_k».proof.Proof.Gen.KernelIdeal.Skeleton

@[expose] public section

set_option Elab.async false
set_option maxRecDepth 16384

noncomputable section

namespace Cert.KernelIdeal.Xch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.KernelIdeal Cert.KernelIdeal.Gen

variable {F : FTy → Type} [FloatOps F] {U : Type} [URA U]
variable (m : (ℓ : Loc nD τ sig) → Buf (Elt F) ℓ)
variable (E : Emb (UR sig nD τ) (MT nD τ sig Unit (Elt F) ℕ U ℕ)) [E.LandsIn upEmb]
variable {𝒱 : Variants} {κ : GSem nD τ sig → ℕ} {c : Dev nD} {Q : PUnit → sProp (MT nD τ sig Unit (Elt F) ℕ U ℕ)}

/-- Every remote copy is started before position 32. -/
theorem sends_before {p : ℕ} (h : 32 ≤ p) (j : R) : order.pSend j < p := by
  have h1 := j.1.isLt; have h2 := j.2.isLt
  show 4 + (4 * j.1.val + j.2.val) < p
  omega

/-- Part 1 of the body: operations 0 to 2. -/
theorem run_part1
    (K : (Σ' (d0 : Dev nD) (v2 : BitVec 32) (v5 : BitVec 32), BitVec 32) → Prog (TpuEff nD τ sig (Elt F) Λ₀ .tc) PUnit)
    (hK : ∀ v2 v5 v8, (plan m).St order E κ c 3 ⊢ wp frame (wpE defs₀ 𝒱 (c.tc : Thread nD τ) none) Set.univ (K ⟨c, v2, v5, v8⟩) Q) :
    (plan m).St order E κ c 0 ⊢ wp frame (wpE defs₀ 𝒱 (c.tc : Thread nD τ) none) Set.univ (k0_part1 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 >>= K) Q := by
  rw [k0_part1_eq_skeleton]; unfold k0_part1_skel
  simp only [Prog.lift, Prog.bind_op, Prog.bind_ret, Prog.pure_eq_ret, wp_deviceId]
  refine (plan m).step_loc order E 0 rfl (inSlab0 (off1 c) _) (outSlab0 (off1 c) _) rfl ?_
  refine (plan m).step_loc order E 1 rfl (inSlab1 (off2 c) _) (outSlab1 (off2 c) _) rfl ?_
  refine (plan m).step_loc order E 2 rfl (inSlab2 (off3 c) _) (outSlab2 (off3 c) _) rfl ?_
  exact hK _ _ _

/-- Part 2 of the body: operations 3 to 4. -/
theorem run_part2 (v2 : BitVec 32) (v5 : BitVec 32) (v8 : BitVec 32)
    (K : (BitVec 32) → Prog (TpuEff nD τ sig (Elt F) Λ₀ .tc) PUnit)
    (hK : ∀ x, (plan m).St order E κ c 5 ⊢ wp frame (wpE defs₀ 𝒱 (c.tc : Thread nD τ) none) Set.univ (K x) Q) :
    (plan m).St order E κ c 3 ⊢ wp frame (wpE defs₀ 𝒱 (c.tc : Thread nD τ) none) Set.univ (k0_part2 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 >>= K) Q := by
  rw [k0_part2_eq_skeleton]; unfold k0_part2_skel
  simp only [Prog.lift, Prog.bind_op, Prog.bind_ret, Prog.pure_eq_ret]
  refine (plan m).step_loc order E 3 rfl (inSlab3 (off4 c) _) (outSlab3 (off4 c) _) rfl ?_
  refine (plan m).step_send order E (0, 0) rfl rfl (inSlab0 (off5 c) _) (outSlab0 (off1 c) _) (dev1 c) rfl rfl ?_
  exact hK _

/-- Part 3 of the body: operations 5 to 6. -/
theorem run_part3 (v2 : BitVec 32) (v5 : BitVec 32) (v37 : BitVec 32)
    (K : (PUnit) → Prog (TpuEff nD τ sig (Elt F) Λ₀ .tc) PUnit)
    (hK : ∀ x, (plan m).St order E κ c 7 ⊢ wp frame (wpE defs₀ 𝒱 (c.tc : Thread nD τ) none) Set.univ (K x) Q) :
    (plan m).St order E κ c 5 ⊢ wp frame (wpE defs₀ 𝒱 (c.tc : Thread nD τ) none) Set.univ (k0_part3 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v37 >>= K) Q := by
  rw [k0_part3_eq_skeleton]; unfold k0_part3_skel
  simp only [Prog.lift, Prog.bind_op, Prog.bind_ret, Prog.pure_eq_ret]
  refine (plan m).step_send order E (0, 1) rfl rfl (inSlab1 (off6 c) _) (outSlab1 (off2 c) _) (dev2 c) rfl rfl ?_
  refine (plan m).step_send order E (0, 2) rfl rfl (inSlab2 (off7 c) _) (outSlab2 (off3 c) _) (dev3 c) rfl rfl ?_
  exact hK _

/-- Part 4 of the body: operations 7 to 8. -/
theorem run_part4 (v2 : BitVec 32) (v5 : BitVec 32) (v8 : BitVec 32)
    (K : (BitVec 32) → Prog (TpuEff nD τ sig (Elt F) Λ₀ .tc) PUnit)
    (hK : ∀ x, (plan m).St order E κ c 9 ⊢ wp frame (wpE defs₀ 𝒱 (c.tc : Thread nD τ) none) Set.univ (K x) Q) :
    (plan m).St order E κ c 7 ⊢ wp frame (wpE defs₀ 𝒱 (c.tc : Thread nD τ) none) Set.univ (k0_part4 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 >>= K) Q := by
  rw [k0_part4_eq_skeleton]; unfold k0_part4_skel
  simp only [Prog.lift, Prog.bind_op, Prog.bind_ret, Prog.pure_eq_ret]
  refine (plan m).step_send order E (0, 3) rfl rfl (inSlab3 (off8 c) _) (outSlab3 (off4 c) _) (dev4 c) rfl rfl ?_
  refine (plan m).step_send order E (1, 0) rfl rfl (inSlab0 (off9 c) _) (outSlab0 (off1 c) _) (dev5 c) rfl rfl ?_
  exact hK _

/-- Part 5 of the body: operations 9 to 10. -/
theorem run_part5 (v2 : BitVec 32) (v8 : BitVec 32) (v98 : BitVec 32)
    (K : (PUnit) → Prog (TpuEff nD τ sig (Elt F) Λ₀ .tc) PUnit)
    (hK : ∀ x, (plan m).St order E κ c 11 ⊢ wp frame (wpE defs₀ 𝒱 (c.tc : Thread nD τ) none) Set.univ (K x) Q) :
    (plan m).St order E κ c 9 ⊢ wp frame (wpE defs₀ 𝒱 (c.tc : Thread nD τ) none) Set.univ (k0_part5 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v8 v98 >>= K) Q := by
  rw [k0_part5_eq_skeleton]; unfold k0_part5_skel
  simp only [Prog.lift, Prog.bind_op, Prog.bind_ret, Prog.pure_eq_ret]
  refine (plan m).step_send order E (1, 1) rfl rfl (inSlab1 (off10 c) _) (outSlab1 (off2 c) _) (dev6 c) rfl rfl ?_
  refine (plan m).step_send order E (1, 2) rfl rfl (inSlab2 (off11 c) _) (outSlab2 (off3 c) _) (dev7 c) rfl rfl ?_
  exact hK _

/-- Part 6 of the body: operations 11 to 12. -/
theorem run_part6 (v2 : BitVec 32) (v5 : BitVec 32) (v8 : BitVec 32)
    (K : (Σ' (v159 : BitVec 32), BitVec 32) → Prog (TpuEff nD τ sig (Elt F) Λ₀ .tc) PUnit)
    (hK : ∀ x, (plan m).St order E κ c 13 ⊢ wp frame (wpE defs₀ 𝒱 (c.tc : Thread nD τ) none) Set.univ (K x) Q) :
    (plan m).St order E κ c 11 ⊢ wp frame (wpE defs₀ 𝒱 (c.tc : Thread nD τ) none) Set.univ (k0_part6 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 >>= K) Q := by
  rw [k0_part6_eq_skeleton]; unfold k0_part6_skel
  simp only [Prog.lift, Prog.bind_op, Prog.bind_ret, Prog.pure_eq_ret]
  refine (plan m).step_send order E (1, 3) rfl rfl (inSlab3 (off12 c) _) (outSlab3 (off4 c) _) (dev8 c) rfl rfl ?_
  refine (plan m).step_send order E (2, 0) rfl rfl (inSlab0 (off13 c) _) (outSlab0 (off1 c) _) (dev9 c) rfl rfl ?_
  exact hK _

/-- Part 7 of the body: operations 13 to 15. -/
theorem run_part7 (v2 : BitVec 32) (v159 : BitVec 32) (v160 : BitVec 32)
    (K : (PUnit) → Prog (TpuEff nD τ sig (Elt F) Λ₀ .tc) PUnit)
    (hK : ∀ x, (plan m).St order E κ c 16 ⊢ wp frame (wpE defs₀ 𝒱 (c.tc : Thread nD τ) none) Set.univ (K x) Q) :
    (plan m).St order E κ c 13 ⊢ wp frame (wpE defs₀ 𝒱 (c.tc : Thread nD τ) none) Set.univ (k0_part7 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v159 v160 >>= K) Q := by
  rw [k0_part7_eq_skeleton]; unfold k0_part7_skel
  simp only [Prog.lift, Prog.bind_op, Prog.bind_ret, Prog.pure_eq_ret]
  refine (plan m).step_send order E (2, 1) rfl rfl (inSlab1 (off14 c) _) (outSlab1 (off2 c) _) (dev10 c) rfl rfl ?_
  refine (plan m).step_send order E (2, 2) rfl rfl (inSlab2 (off15 c) _) (outSlab2 (off3 c) _) (dev11 c) rfl rfl ?_
  refine (plan m).step_send order E (2, 3) rfl rfl (inSlab3 (off16 c) _) (outSlab3 (off4 c) _) (dev12 c) rfl rfl ?_
  exact hK _

/-- Part 8 of the body: operations 16 to 16. -/
theorem run_part8 (v2 : BitVec 32) (v5 : BitVec 32) (v8 : BitVec 32)
    (K : (BitVec 32) → Prog (TpuEff nD τ sig (Elt F) Λ₀ .tc) PUnit)
    (hK : ∀ x, (plan m).St order E κ c 17 ⊢ wp frame (wpE defs₀ 𝒱 (c.tc : Thread nD τ) none) Set.univ (K x) Q) :
    (plan m).St order E κ c 16 ⊢ wp frame (wpE defs₀ 𝒱 (c.tc : Thread nD τ) none) Set.univ (k0_part8 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 >>= K) Q := by
  rw [k0_part8_eq_skeleton]; unfold k0_part8_skel
  simp only [Prog.lift, Prog.bind_op, Prog.bind_ret, Prog.pure_eq_ret]
  refine (plan m).step_send order E (3, 0) rfl rfl (inSlab0 (off17 c) _) (outSlab0 (off1 c) _) (dev13 c) rfl rfl ?_
  exact hK _

/-- Part 9 of the body: operations 17 to 19. -/
theorem run_part9 (v2 : BitVec 32) (v5 : BitVec 32) (v8 : BitVec 32) (v221 : BitVec 32)
    (K : (Σ' (v282 : BitVec 32), BitVec 32) → Prog (TpuEff nD τ sig (Elt F) Λ₀ .tc) PUnit)
    (hK : ∀ x, (plan m).St order E κ c 20 ⊢ wp frame (wpE defs₀ 𝒱 (c.tc : Thread nD τ) none) Set.univ (K x) Q) :
    (plan m).St order E κ c 17 ⊢ wp frame (wpE defs₀ 𝒱 (c.tc : Thread nD τ) none) Set.univ (k0_part9 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v221 >>= K) Q := by
  rw [k0_part9_eq_skeleton]; unfold k0_part9_skel
  simp only [Prog.lift, Prog.bind_op, Prog.bind_ret, Prog.pure_eq_ret]
  refine (plan m).step_send order E (3, 1) rfl rfl (inSlab1 (off18 c) _) (outSlab1 (off2 c) _) (dev14 c) rfl rfl ?_
  refine (plan m).step_send order E (3, 2) rfl rfl (inSlab2 (off19 c) _) (outSlab2 (off3 c) _) (dev15 c) rfl rfl ?_
  refine (plan m).step_send order E (3, 3) rfl rfl (inSlab3 (off20 c) _) (outSlab3 (off4 c) _) (dev16 c) rfl rfl ?_
  exact hK _

/-- Part 10 of the body: operations 20 to 21. -/
theorem run_part10 (v5 : BitVec 32) (v282 : BitVec 32) (v283 : BitVec 32)
    (K : (PUnit) → Prog (TpuEff nD τ sig (Elt F) Λ₀ .tc) PUnit)
    (hK : ∀ x, (plan m).St order E κ c 22 ⊢ wp frame (wpE defs₀ 𝒱 (c.tc : Thread nD τ) none) Set.univ (K x) Q) :
    (plan m).St order E κ c 20 ⊢ wp frame (wpE defs₀ 𝒱 (c.tc : Thread nD τ) none) Set.univ (k0_part10 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v5 v282 v283 >>= K) Q := by
  rw [k0_part10_eq_skeleton]; unfold k0_part10_skel
  simp only [Prog.lift, Prog.bind_op, Prog.bind_ret, Prog.pure_eq_ret]
  refine (plan m).step_send order E (4, 0) rfl rfl (inSlab0 (off21 c) _) (outSlab0 (off1 c) _) (dev17 c) rfl rfl ?_
  refine (plan m).step_send order E (4, 1) rfl rfl (inSlab1 (off22 c) _) (outSlab1 (off2 c) _) (dev18 c) rfl rfl ?_
  exact hK _

/-- Part 11 of the body: operations 22 to 23. -/
theorem run_part11 (v2 : BitVec 32) (v5 : BitVec 32) (v282 : BitVec 32) (v283 : BitVec 32)
    (K : (Σ' (v344 : BitVec 32) (v345 : BitVec 32), BitVec 32) → Prog (TpuEff nD τ sig (Elt F) Λ₀ .tc) PUnit)
    (hK : ∀ x, (plan m).St order E κ c 24 ⊢ wp frame (wpE defs₀ 𝒱 (c.tc : Thread nD τ) none) Set.univ (K x) Q) :
    (plan m).St order E κ c 22 ⊢ wp frame (wpE defs₀ 𝒱 (c.tc : Thread nD τ) none) Set.univ (k0_part11 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v282 v283 >>= K) Q := by
  rw [k0_part11_eq_skeleton]; unfold k0_part11_skel
  simp only [Prog.lift, Prog.bind_op, Prog.bind_ret, Prog.pure_eq_ret]
  refine (plan m).step_send order E (4, 2) rfl rfl (inSlab2 (off23 c) _) (outSlab2 (off3 c) _) (dev19 c) rfl rfl ?_
  refine (plan m).step_send order E (4, 3) rfl rfl (inSlab3 (off24 c) _) (outSlab3 (off4 c) _) (dev20 c) rfl rfl ?_
  exact hK _

/-- Part 12 of the body: operations 24 to 25. -/
theorem run_part12 (v8 : BitVec 32) (v344 : BitVec 32) (v345 : BitVec 32) (v346 : BitVec 32)
    (K : (PUnit) → Prog (TpuEff nD τ sig (Elt F) Λ₀ .tc) PUnit)
    (hK : ∀ x, (plan m).St order E κ c 26 ⊢ wp frame (wpE defs₀ 𝒱 (c.tc : Thread nD τ) none) Set.univ (K x) Q) :
    (plan m).St order E κ c 24 ⊢ wp frame (wpE defs₀ 𝒱 (c.tc : Thread nD τ) none) Set.univ (k0_part12 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v8 v344 v345 v346 >>= K) Q := by
  rw [k0_part12_eq_skeleton]; unfold k0_part12_skel
  simp only [Prog.lift, Prog.bind_op, Prog.bind_ret, Prog.pure_eq_ret]
  refine (plan m).step_send order E (5, 0) rfl rfl (inSlab0 (off25 c) _) (outSlab0 (off1 c) _) (dev21 c) rfl rfl ?_
  refine (plan m).step_send order E (5, 1) rfl rfl (inSlab1 (off26 c) _) (outSlab1 (off2 c) _) (dev22 c) rfl rfl ?_
  exact hK _

/-- Part 13 of the body: operations 26 to 27. -/
theorem run_part13 (v2 : BitVec 32) (v5 : BitVec 32) (v8 : BitVec 32) (v344 : BitVec 32) (v345 : BitVec 32)
    (K : (Σ' (v406 : BitVec 32) (v407 : BitVec 32) (v408 : BitVec 32), BitVec 32) → Prog (TpuEff nD τ sig (Elt F) Λ₀ .tc) PUnit)
    (hK : ∀ x, (plan m).St order E κ c 28 ⊢ wp frame (wpE defs₀ 𝒱 (c.tc : Thread nD τ) none) Set.univ (K x) Q) :
    (plan m).St order E κ c 26 ⊢ wp frame (wpE defs₀ 𝒱 (c.tc : Thread nD τ) none) Set.univ (k0_part13 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v344 v345 >>= K) Q := by
  rw [k0_part13_eq_skeleton]; unfold k0_part13_skel
  simp only [Prog.lift, Prog.bind_op, Prog.bind_ret, Prog.pure_eq_ret]
  refine (plan m).step_send order E (5, 2) rfl rfl (inSlab2 (off27 c) _) (outSlab2 (off3 c) _) (dev23 c) rfl rfl ?_
  refine (plan m).step_send order E (5, 3) rfl rfl (inSlab3 (off28 c) _) (outSlab3 (off4 c) _) (dev24 c) rfl rfl ?_
  exact hK _

/-- Part 14 of the body: operations 28 to 29. -/
theorem run_part14 (v406 : BitVec 32) (v407 : BitVec 32) (v408 : BitVec 32) (v409 : BitVec 32)
    (K : (PUnit) → Prog (TpuEff nD τ sig (Elt F) Λ₀ .tc) PUnit)
    (hK : ∀ x, (plan m).St order E κ c 30 ⊢ wp frame (wpE defs₀ 𝒱 (c.tc : Thread nD τ) none) Set.univ (K x) Q) :
    (plan m).St order E κ c 28 ⊢ wp frame (wpE defs₀ 𝒱 (c.tc : Thread nD τ) none) Set.univ (k0_part14 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v406 v407 v408 v409 >>= K) Q := by
  rw [k0_part14_eq_skeleton]; unfold k0_part14_skel
  simp only [Prog.lift, Prog.bind_op, Prog.bind_ret, Prog.pure_eq_ret]
  refine (plan m).step_send order E (6, 0) rfl rfl (inSlab0 (off29 c) _) (outSlab0 (off1 c) _) (dev25 c) rfl rfl ?_
  refine (plan m).step_send order E (6, 1) rfl rfl (inSlab1 (off30 c) _) (outSlab1 (off2 c) _) (dev26 c) rfl rfl ?_
  exact hK _

/-- Part 15 of the body: operations 30 to 31. -/
theorem run_part15 (v2 : BitVec 32) (v5 : BitVec 32) (v8 : BitVec 32) (v406 : BitVec 32) (v407 : BitVec 32) (v408 : BitVec 32)
    (K : (BitVec 32) → Prog (TpuEff nD τ sig (Elt F) Λ₀ .tc) PUnit)
    (hK : ∀ x, (plan m).St order E κ c 32 ⊢ wp frame (wpE defs₀ 𝒱 (c.tc : Thread nD τ) none) Set.univ (K x) Q) :
    (plan m).St order E κ c 30 ⊢ wp frame (wpE defs₀ 𝒱 (c.tc : Thread nD τ) none) Set.univ (k0_part15 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v406 v407 v408 >>= K) Q := by
  rw [k0_part15_eq_skeleton]; unfold k0_part15_skel
  simp only [Prog.lift, Prog.bind_op, Prog.bind_ret, Prog.pure_eq_ret]
  refine (plan m).step_send order E (6, 2) rfl rfl (inSlab2 (off31 c) _) (outSlab2 (off3 c) _) (dev27 c) rfl rfl ?_
  refine (plan m).step_send order E (6, 3) rfl rfl (inSlab3 (off32 c) _) (outSlab3 (off4 c) _) (dev28 c) rfl rfl ?_
  exact hK _

/-- Part 16 of the body: operations 32 to 33. -/
theorem run_part16 (v2 : BitVec 32) (v5 : BitVec 32) (v469 : BitVec 32)
    (K : (Σ' (v499 : BitVec 32), BitVec 32) → Prog (TpuEff nD τ sig (Elt F) Λ₀ .tc) PUnit)
    (hK : ∀ x, (plan m).St order E κ c 34 ⊢ wp frame (wpE defs₀ 𝒱 (c.tc : Thread nD τ) none) Set.univ (K x) Q) :
    (plan m).St order E κ c 32 ⊢ wp frame (wpE defs₀ 𝒱 (c.tc : Thread nD τ) none) Set.univ (k0_part16 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v469 >>= K) Q := by
  rw [k0_part16_eq_skeleton]; unfold k0_part16_skel
  simp only [Prog.lift, Prog.bind_op, Prog.bind_ret, Prog.pure_eq_ret]
  refine (plan m).step_recv order E (0, 0) rfl (fun _ h => nomatch h) rfl rfl ?_
  refine (plan m).step_recv order E (0, 1) rfl (fun _ h => nomatch h) rfl rfl ?_
  exact hK _

/-- Part 17 of the body: operations 34 to 35. -/
theorem run_part17 (v2 : BitVec 32) (v5 : BitVec 32) (v8 : BitVec 32) (v469 : BitVec 32) (v499 : BitVec 32) (v500 : BitVec 32)
    (K : (Σ' (v522 : BitVec 32) (v530 : BitVec 32), BitVec 32) → Prog (TpuEff nD τ sig (Elt F) Λ₀ .tc) PUnit)
    (hK : ∀ x, (plan m).St order E κ c 36 ⊢ wp frame (wpE defs₀ 𝒱 (c.tc : Thread nD τ) none) Set.univ (K x) Q) :
    (plan m).St order E κ c 34 ⊢ wp frame (wpE defs₀ 𝒱 (c.tc : Thread nD τ) none) Set.univ (k0_part17 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v469 v499 v500 >>= K) Q := by
  rw [k0_part17_eq_skeleton]; unfold k0_part17_skel
  simp only [Prog.lift, Prog.bind_op, Prog.bind_ret, Prog.pure_eq_ret]
  refine (plan m).step_recv order E (0, 2) rfl (fun _ h => nomatch h) rfl rfl ?_
  refine (plan m).step_recv order E (0, 3) rfl (fun _ h => nomatch h) rfl rfl ?_
  exact hK _

/-- Part 18 of the body: operations 36 to 37. -/
theorem run_part18 (v2 : BitVec 32) (v8 : BitVec 32) (v522 : BitVec 32) (v530 : BitVec 32) (c1_i32_444 : BitVec 32)
    (K : (PUnit) → Prog (TpuEff nD τ sig (Elt F) Λ₀ .tc) PUnit)
    (hK : ∀ x, (plan m).St order E κ c 38 ⊢ wp frame (wpE defs₀ 𝒱 (c.tc : Thread nD τ) none) Set.univ (K x) Q) :
    (plan m).St order E κ c 36 ⊢ wp frame (wpE defs₀ 𝒱 (c.tc : Thread nD τ) none) Set.univ (k0_part18 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v8 v522 v530 c1_i32_444 >>= K) Q := by
  rw [k0_part18_eq_skeleton]; unfold k0_part18_skel
  simp only [Prog.lift, Prog.bind_op, Prog.bind_ret, Prog.pure_eq_ret]
  refine (plan m).step_recv order E (1, 0) rfl (fun _ h => nomatch h) rfl rfl ?_
  refine (plan m).step_recv order E (1, 1) rfl (fun _ h => nomatch h) rfl rfl ?_
  exact hK _

/-- Part 19 of the body: operations 38 to 39. -/
theorem run_part19 (v2 : BitVec 32) (v5 : BitVec 32) (v8 : BitVec 32) (v522 : BitVec 32)
    (K : (Σ' (v575 : BitVec 32), BitVec 32) → Prog (TpuEff nD τ sig (Elt F) Λ₀ .tc) PUnit)
    (hK : ∀ x, (plan m).St order E κ c 40 ⊢ wp frame (wpE defs₀ 𝒱 (c.tc : Thread nD τ) none) Set.univ (K x) Q) :
    (plan m).St order E κ c 38 ⊢ wp frame (wpE defs₀ 𝒱 (c.tc : Thread nD τ) none) Set.univ (k0_part19 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v522 >>= K) Q := by
  rw [k0_part19_eq_skeleton]; unfold k0_part19_skel
  simp only [Prog.lift, Prog.bind_op, Prog.bind_ret, Prog.pure_eq_ret]
  refine (plan m).step_recv order E (1, 2) rfl (fun _ h => nomatch h) rfl rfl ?_
  refine (plan m).step_recv order E (1, 3) rfl (fun _ h => nomatch h) rfl rfl ?_
  exact hK _

/-- Part 20 of the body: operations 40 to 42. -/
theorem run_part20 (v2 : BitVec 32) (v575 : BitVec 32) (v576 : BitVec 32)
    (K : (Σ' (v617 : BitVec 32), BitVec 32) → Prog (TpuEff nD τ sig (Elt F) Λ₀ .tc) PUnit)
    (hK : ∀ x, (plan m).St order E κ c 43 ⊢ wp frame (wpE defs₀ 𝒱 (c.tc : Thread nD τ) none) Set.univ (K x) Q) :
    (plan m).St order E κ c 40 ⊢ wp frame (wpE defs₀ 𝒱 (c.tc : Thread nD τ) none) Set.univ (k0_part20 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v575 v576 >>= K) Q := by
  rw [k0_part20_eq_skeleton]; unfold k0_part20_skel
  simp only [Prog.lift, Prog.bind_op, Prog.bind_ret, Prog.pure_eq_ret]
  refine (plan m).step_recv order E (2, 0) rfl (fun _ h => nomatch h) rfl rfl ?_
  refine (plan m).step_recv order E (2, 1) rfl (fun _ h => nomatch h) rfl rfl ?_
  refine (plan m).step_recv order E (2, 2) rfl (fun _ h => nomatch h) rfl rfl ?_
  exact hK _

/-- Part 21 of the body: operations 43 to 44. -/
theorem run_part21 (v2 : BitVec 32) (v5 : BitVec 32) (v8 : BitVec 32) (v575 : BitVec 32) (v576 : BitVec 32) (v617 : BitVec 32) (c0_i32_530 : BitVec 32)
    (K : (Σ' (v629 : BitVec 32) (v647 : BitVec 32), BitVec 32) → Prog (TpuEff nD τ sig (Elt F) Λ₀ .tc) PUnit)
    (hK : ∀ x, (plan m).St order E κ c 45 ⊢ wp frame (wpE defs₀ 𝒱 (c.tc : Thread nD τ) none) Set.univ (K x) Q) :
    (plan m).St order E κ c 43 ⊢ wp frame (wpE defs₀ 𝒱 (c.tc : Thread nD τ) none) Set.univ (k0_part21 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v575 v576 v617 c0_i32_530 >>= K) Q := by
  rw [k0_part21_eq_skeleton]; unfold k0_part21_skel
  simp only [Prog.lift, Prog.bind_op, Prog.bind_ret, Prog.pure_eq_ret]
  refine (plan m).step_recv order E (2, 3) rfl (fun _ h => nomatch h) rfl rfl ?_
  refine (plan m).step_recv order E (3, 0) rfl (fun _ h => nomatch h) rfl rfl ?_
  exact hK _

/-- Part 22 of the body: operations 45 to 46. -/
theorem run_part22 (v5 : BitVec 32) (v8 : BitVec 32) (v629 : BitVec 32) (v647 : BitVec 32) (c2_i32_558 : BitVec 32)
    (K : (PUnit) → Prog (TpuEff nD τ sig (Elt F) Λ₀ .tc) PUnit)
    (hK : ∀ x, (plan m).St order E κ c 47 ⊢ wp frame (wpE defs₀ 𝒱 (c.tc : Thread nD τ) none) Set.univ (K x) Q) :
    (plan m).St order E κ c 45 ⊢ wp frame (wpE defs₀ 𝒱 (c.tc : Thread nD τ) none) Set.univ (k0_part22 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v5 v8 v629 v647 c2_i32_558 >>= K) Q := by
  rw [k0_part22_eq_skeleton]; unfold k0_part22_skel
  simp only [Prog.lift, Prog.bind_op, Prog.bind_ret, Prog.pure_eq_ret]
  refine (plan m).step_recv order E (3, 1) rfl (fun _ h => nomatch h) rfl rfl ?_
  refine (plan m).step_recv order E (3, 2) rfl (fun _ h => nomatch h) rfl rfl ?_
  exact hK _

/-- Part 23 of the body: operations 47 to 48. -/
theorem run_part23 (v2 : BitVec 32) (v5 : BitVec 32) (v8 : BitVec 32)
    (K : (Σ' (v682 : BitVec 32), BitVec 32) → Prog (TpuEff nD τ sig (Elt F) Λ₀ .tc) PUnit)
    (hK : ∀ x, (plan m).St order E κ c 49 ⊢ wp frame (wpE defs₀ 𝒱 (c.tc : Thread nD τ) none) Set.univ (K x) Q) :
    (plan m).St order E κ c 47 ⊢ wp frame (wpE defs₀ 𝒱 (c.tc : Thread nD τ) none) Set.univ (k0_part23 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 >>= K) Q := by
  rw [k0_part23_eq_skeleton]; unfold k0_part23_skel
  simp only [Prog.lift, Prog.bind_op, Prog.bind_ret, Prog.pure_eq_ret]
  refine (plan m).step_recv order E (3, 3) rfl (fun _ h => nomatch h) rfl rfl ?_
  refine (plan m).step_recv order E (4, 0) rfl (fun _ h => nomatch h) rfl rfl ?_
  exact hK _

/-- Part 24 of the body: operations 49 to 51. -/
theorem run_part24 (v2 : BitVec 32) (v5 : BitVec 32) (v682 : BitVec 32) (v683 : BitVec 32)
    (K : (Σ' (v736 : BitVec 32), BitVec 32) → Prog (TpuEff nD τ sig (Elt F) Λ₀ .tc) PUnit)
    (hK : ∀ x, (plan m).St order E κ c 52 ⊢ wp frame (wpE defs₀ 𝒱 (c.tc : Thread nD τ) none) Set.univ (K x) Q) :
    (plan m).St order E κ c 49 ⊢ wp frame (wpE defs₀ 𝒱 (c.tc : Thread nD τ) none) Set.univ (k0_part24 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v682 v683 >>= K) Q := by
  rw [k0_part24_eq_skeleton]; unfold k0_part24_skel
  simp only [Prog.lift, Prog.bind_op, Prog.bind_ret, Prog.pure_eq_ret]
  refine (plan m).step_recv order E (4, 1) rfl (fun _ h => nomatch h) rfl rfl ?_
  refine (plan m).step_recv order E (4, 2) rfl (fun _ h => nomatch h) rfl rfl ?_
  refine (plan m).step_recv order E (4, 3) rfl (fun _ h => nomatch h) rfl rfl ?_
  exact hK _

/-- Part 25 of the body: operations 52 to 53. -/
theorem run_part25 (v8 : BitVec 32) (v736 : BitVec 32) (v737 : BitVec 32)
    (K : (PUnit) → Prog (TpuEff nD τ sig (Elt F) Λ₀ .tc) PUnit)
    (hK : ∀ x, (plan m).St order E κ c 54 ⊢ wp frame (wpE defs₀ 𝒱 (c.tc : Thread nD τ) none) Set.univ (K x) Q) :
    (plan m).St order E κ c 52 ⊢ wp frame (wpE defs₀ 𝒱 (c.tc : Thread nD τ) none) Set.univ (k0_part25 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v8 v736 v737 >>= K) Q := by
  rw [k0_part25_eq_skeleton]; unfold k0_part25_skel
  simp only [Prog.lift, Prog.bind_op, Prog.bind_ret, Prog.pure_eq_ret]
  refine (plan m).step_recv order E (5, 0) rfl (fun _ h => nomatch h) rfl rfl ?_
  refine (plan m).step_recv order E (5, 1) rfl (fun _ h => nomatch h) rfl rfl ?_
  exact hK _

/-- Part 26 of the body: operations 54 to 55. -/
theorem run_part26 (v2 : BitVec 32) (v5 : BitVec 32) (v8 : BitVec 32) (v736 : BitVec 32) (v737 : BitVec 32)
    (K : (Σ' (v790 : BitVec 32) (v791 : BitVec 32), BitVec 32) → Prog (TpuEff nD τ sig (Elt F) Λ₀ .tc) PUnit)
    (hK : ∀ x, (plan m).St order E κ c 56 ⊢ wp frame (wpE defs₀ 𝒱 (c.tc : Thread nD τ) none) Set.univ (K x) Q) :
    (plan m).St order E κ c 54 ⊢ wp frame (wpE defs₀ 𝒱 (c.tc : Thread nD τ) none) Set.univ (k0_part26 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v736 v737 >>= K) Q := by
  rw [k0_part26_eq_skeleton]; unfold k0_part26_skel
  simp only [Prog.lift, Prog.bind_op, Prog.bind_ret, Prog.pure_eq_ret]
  refine (plan m).step_recv order E (5, 2) rfl (fun _ h => nomatch h) rfl rfl ?_
  refine (plan m).step_recv order E (5, 3) rfl (fun _ h => nomatch h) rfl rfl ?_
  exact hK _

/-- Part 27 of the body: operations 56 to 57. -/
theorem run_part27 (v790 : BitVec 32) (v791 : BitVec 32) (v792 : BitVec 32)
    (K : (Σ' (v824 : BitVec 32), BitVec 32) → Prog (TpuEff nD τ sig (Elt F) Λ₀ .tc) PUnit)
    (hK : ∀ x, (plan m).St order E κ c 58 ⊢ wp frame (wpE defs₀ 𝒱 (c.tc : Thread nD τ) none) Set.univ (K x) Q) :
    (plan m).St order E κ c 56 ⊢ wp frame (wpE defs₀ 𝒱 (c.tc : Thread nD τ) none) Set.univ (k0_part27 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v790 v791 v792 >>= K) Q := by
  rw [k0_part27_eq_skeleton]; unfold k0_part27_skel
  simp only [Prog.lift, Prog.bind_op, Prog.bind_ret, Prog.pure_eq_ret]
  refine (plan m).step_recv order E (6, 0) rfl (fun _ h => nomatch h) rfl rfl ?_
  refine (plan m).step_recv order E (6, 1) rfl (fun _ h => nomatch h) rfl rfl ?_
  exact hK _

/-- Part 28 of the body: operations 58 to 60. -/
theorem run_part28 (v790 : BitVec 32) (v791 : BitVec 32) (v792 : BitVec 32) (v824 : BitVec 32) (c1_i32_728 : BitVec 32)
    (K : (PUnit) → Prog (TpuEff nD τ sig (Elt F) Λ₀ .tc) PUnit)
    (hK : ∀ x, (plan m).St order E κ c 61 ⊢ wp frame (wpE defs₀ 𝒱 (c.tc : Thread nD τ) none) Set.univ (K x) Q) :
    (plan m).St order E κ c 58 ⊢ wp frame (wpE defs₀ 𝒱 (c.tc : Thread nD τ) none) Set.univ (k0_part28 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v790 v791 v792 v824 c1_i32_728 >>= K) Q := by
  rw [k0_part28_eq_skeleton]; unfold k0_part28_skel
  simp only [Prog.lift, Prog.bind_op, Prog.bind_ret, Prog.pure_eq_ret]
  refine (plan m).step_recv order E (6, 2) rfl (fun _ h => nomatch h) rfl rfl ?_
  refine (plan m).step_recv order E (6, 3) rfl (fun _ h => nomatch h) rfl rfl ?_
  refine (plan m).step_swait order E (0, 0) rfl (sends_before (by decide)) rfl rfl ?_
  exact hK _

/-- Part 29 of the body: operations 61 to 64. -/
theorem run_part29
    (K : (PUnit) → Prog (TpuEff nD τ sig (Elt F) Λ₀ .tc) PUnit)
    (hK : ∀ x, (plan m).St order E κ c 65 ⊢ wp frame (wpE defs₀ 𝒱 (c.tc : Thread nD τ) none) Set.univ (K x) Q) :
    (plan m).St order E κ c 61 ⊢ wp frame (wpE defs₀ 𝒱 (c.tc : Thread nD τ) none) Set.univ (k0_part29 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c >>= K) Q := by
  rw [k0_part29_eq_skeleton]; unfold k0_part29_skel
  simp only [Prog.lift, Prog.bind_op, Prog.bind_ret, Prog.pure_eq_ret]
  refine (plan m).step_swait order E (0, 1) rfl (sends_before (by decide)) rfl rfl ?_
  refine (plan m).step_swait order E (0, 2) rfl (sends_before (by decide)) rfl rfl ?_
  refine (plan m).step_swait order E (0, 3) rfl (sends_before (by decide)) rfl rfl ?_
  refine (plan m).step_swait order E (1, 0) rfl (sends_before (by decide)) rfl rfl ?_
  exact hK _

/-- Part 30 of the body: operations 65 to 67. -/
theorem run_part30
    (K : (PUnit) → Prog (TpuEff nD τ sig (Elt F) Λ₀ .tc) PUnit)
    (hK : ∀ x, (plan m).St order E κ c 68 ⊢ wp frame (wpE defs₀ 𝒱 (c.tc : Thread nD τ) none) Set.univ (K x) Q) :
    (plan m).St order E κ c 65 ⊢ wp frame (wpE defs₀ 𝒱 (c.tc : Thread nD τ) none) Set.univ (k0_part30 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c >>= K) Q := by
  rw [k0_part30_eq_skeleton]; unfold k0_part30_skel
  simp only [Prog.lift, Prog.bind_op, Prog.bind_ret, Prog.pure_eq_ret]
  refine (plan m).step_swait order E (1, 1) rfl (sends_before (by decide)) rfl rfl ?_
  refine (plan m).step_swait order E (1, 2) rfl (sends_before (by decide)) rfl rfl ?_
  refine (plan m).step_swait order E (1, 3) rfl (sends_before (by decide)) rfl rfl ?_
  exact hK _

/-- Part 31 of the body: operations 68 to 71. -/
theorem run_part31
    (K : (PUnit) → Prog (TpuEff nD τ sig (Elt F) Λ₀ .tc) PUnit)
    (hK : ∀ x, (plan m).St order E κ c 72 ⊢ wp frame (wpE defs₀ 𝒱 (c.tc : Thread nD τ) none) Set.univ (K x) Q) :
    (plan m).St order E κ c 68 ⊢ wp frame (wpE defs₀ 𝒱 (c.tc : Thread nD τ) none) Set.univ (k0_part31 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c >>= K) Q := by
  rw [k0_part31_eq_skeleton]; unfold k0_part31_skel
  simp only [Prog.lift, Prog.bind_op, Prog.bind_ret, Prog.pure_eq_ret]
  refine (plan m).step_swait order E (2, 0) rfl (sends_before (by decide)) rfl rfl ?_
  refine (plan m).step_swait order E (2, 1) rfl (sends_before (by decide)) rfl rfl ?_
  refine (plan m).step_swait order E (2, 2) rfl (sends_before (by decide)) rfl rfl ?_
  refine (plan m).step_swait order E (2, 3) rfl (sends_before (by decide)) rfl rfl ?_
  exact hK _

/-- Part 32 of the body: operations 72 to 75. -/
theorem run_part32
    (K : (PUnit) → Prog (TpuEff nD τ sig (Elt F) Λ₀ .tc) PUnit)
    (hK : ∀ x, (plan m).St order E κ c 76 ⊢ wp frame (wpE defs₀ 𝒱 (c.tc : Thread nD τ) none) Set.univ (K x) Q) :
    (plan m).St order E κ c 72 ⊢ wp frame (wpE defs₀ 𝒱 (c.tc : Thread nD τ) none) Set.univ (k0_part32 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c >>= K) Q := by
  rw [k0_part32_eq_skeleton]; unfold k0_part32_skel
  simp only [Prog.lift, Prog.bind_op, Prog.bind_ret, Prog.pure_eq_ret]
  refine (plan m).step_swait order E (3, 0) rfl (sends_before (by decide)) rfl rfl ?_
  refine (plan m).step_swait order E (3, 1) rfl (sends_before (by decide)) rfl rfl ?_
  refine (plan m).step_swait order E (3, 2) rfl (sends_before (by decide)) rfl rfl ?_
  refine (plan m).step_swait order E (3, 3) rfl (sends_before (by decide)) rfl rfl ?_
  exact hK _

/-- Part 33 of the body: operations 76 to 79. -/
theorem run_part33
    (K : (PUnit) → Prog (TpuEff nD τ sig (Elt F) Λ₀ .tc) PUnit)
    (hK : ∀ x, (plan m).St order E κ c 80 ⊢ wp frame (wpE defs₀ 𝒱 (c.tc : Thread nD τ) none) Set.univ (K x) Q) :
    (plan m).St order E κ c 76 ⊢ wp frame (wpE defs₀ 𝒱 (c.tc : Thread nD τ) none) Set.univ (k0_part33 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c >>= K) Q := by
  rw [k0_part33_eq_skeleton]; unfold k0_part33_skel
  simp only [Prog.lift, Prog.bind_op, Prog.bind_ret, Prog.pure_eq_ret]
  refine (plan m).step_swait order E (4, 0) rfl (sends_before (by decide)) rfl rfl ?_
  refine (plan m).step_swait order E (4, 1) rfl (sends_before (by decide)) rfl rfl ?_
  refine (plan m).step_swait order E (4, 2) rfl (sends_before (by decide)) rfl rfl ?_
  refine (plan m).step_swait order E (4, 3) rfl (sends_before (by decide)) rfl rfl ?_
  exact hK _

/-- Part 34 of the body: operations 80 to 82. -/
theorem run_part34
    (K : (PUnit) → Prog (TpuEff nD τ sig (Elt F) Λ₀ .tc) PUnit)
    (hK : ∀ x, (plan m).St order E κ c 83 ⊢ wp frame (wpE defs₀ 𝒱 (c.tc : Thread nD τ) none) Set.univ (K x) Q) :
    (plan m).St order E κ c 80 ⊢ wp frame (wpE defs₀ 𝒱 (c.tc : Thread nD τ) none) Set.univ (k0_part34 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c >>= K) Q := by
  rw [k0_part34_eq_skeleton]; unfold k0_part34_skel
  simp only [Prog.lift, Prog.bind_op, Prog.bind_ret, Prog.pure_eq_ret]
  refine (plan m).step_swait order E (5, 0) rfl (sends_before (by decide)) rfl rfl ?_
  refine (plan m).step_swait order E (5, 1) rfl (sends_before (by decide)) rfl rfl ?_
  refine (plan m).step_swait order E (5, 2) rfl (sends_before (by decide)) rfl rfl ?_
  exact hK _

/-- Part 35 of the body: operations 83 to 86. -/
theorem run_part35
    (K : (PUnit) → Prog (TpuEff nD τ sig (Elt F) Λ₀ .tc) PUnit)
    (hK : ∀ x, (plan m).St order E κ c 87 ⊢ wp frame (wpE defs₀ 𝒱 (c.tc : Thread nD τ) none) Set.univ (K x) Q) :
    (plan m).St order E κ c 83 ⊢ wp frame (wpE defs₀ 𝒱 (c.tc : Thread nD τ) none) Set.univ (k0_part35 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c >>= K) Q := by
  rw [k0_part35_eq_skeleton]; unfold k0_part35_skel
  simp only [Prog.lift, Prog.bind_op, Prog.bind_ret, Prog.pure_eq_ret]
  refine (plan m).step_swait order E (5, 3) rfl (sends_before (by decide)) rfl rfl ?_
  refine (plan m).step_swait order E (6, 0) rfl (sends_before (by decide)) rfl rfl ?_
  refine (plan m).step_swait order E (6, 1) rfl (sends_before (by decide)) rfl rfl ?_
  refine (plan m).step_swait order E (6, 2) rfl (sends_before (by decide)) rfl rfl ?_
  exact hK _

/-- The body, all parts in a row: from the first operation to the last. -/
theorem run_body (hQ : (plan m).St order E κ c 92 ⊢ |={Set.univ}=> Q ⟨⟩) :
    (plan m).St order E κ c 0 ⊢ wp frame (wpE defs₀ 𝒱 (c.tc : Thread nD τ) none) Set.univ (cc0_exchange_grads (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2) Q := by
  rw [cc0_exchange_grads_eq_skeleton]; unfold cc0_exchange_grads_skel
  rw [k0_part36_eq_skeleton]; unfold k0_part36_skel
  simp only [Prog.bind_assoc]
  refine run_part1 m E _ fun v2 v5 v8 => ?_
  refine run_part2 m E _ _ _ _ fun x => ?_
  refine run_part3 m E _ _ _ _ fun x => ?_
  refine run_part4 m E _ _ _ _ fun x => ?_
  refine run_part5 m E _ _ _ _ fun x => ?_
  refine run_part6 m E _ _ _ _ fun x => ?_
  obtain ⟨x0, x1⟩ := x
  refine run_part7 m E _ _ _ _ fun x => ?_
  refine run_part8 m E _ _ _ _ fun x => ?_
  refine run_part9 m E _ _ _ _ _ fun x => ?_
  obtain ⟨x0, x1⟩ := x
  refine run_part10 m E _ _ _ _ fun x => ?_
  refine run_part11 m E _ _ _ _ _ fun x => ?_
  obtain ⟨x0, x1, x2⟩ := x
  refine run_part12 m E _ _ _ _ _ fun x => ?_
  refine run_part13 m E _ _ _ _ _ _ fun x => ?_
  obtain ⟨x0, x1, x2, x3⟩ := x
  refine run_part14 m E _ _ _ _ _ fun x => ?_
  refine run_part15 m E _ _ _ _ _ _ _ fun x => ?_
  refine run_part16 m E _ _ _ _ fun x => ?_
  obtain ⟨x0, x1⟩ := x
  refine run_part17 m E _ _ _ _ _ _ _ fun x => ?_
  obtain ⟨x0, x1, x2⟩ := x
  refine run_part18 m E _ _ _ _ _ _ fun x => ?_
  refine run_part19 m E _ _ _ _ _ fun x => ?_
  obtain ⟨x0, x1⟩ := x
  refine run_part20 m E _ _ _ _ fun x => ?_
  obtain ⟨x0, x1⟩ := x
  refine run_part21 m E _ _ _ _ _ _ _ _ fun x => ?_
  obtain ⟨x0, x1, x2⟩ := x
  refine run_part22 m E _ _ _ _ _ _ fun x => ?_
  refine run_part23 m E _ _ _ _ fun x => ?_
  obtain ⟨x0, x1⟩ := x
  refine run_part24 m E _ _ _ _ _ fun x => ?_
  obtain ⟨x0, x1⟩ := x
  refine run_part25 m E _ _ _ _ fun x => ?_
  refine run_part26 m E _ _ _ _ _ _ fun x => ?_
  obtain ⟨x0, x1, x2⟩ := x
  refine run_part27 m E _ _ _ _ fun x => ?_
  obtain ⟨x0, x1⟩ := x
  refine run_part28 m E _ _ _ _ _ _ fun x => ?_
  refine run_part29 m E _ fun x => ?_
  refine run_part30 m E _ fun x => ?_
  refine run_part31 m E _ fun x => ?_
  refine run_part32 m E _ fun x => ?_
  refine run_part33 m E _ fun x => ?_
  refine run_part34 m E _ fun x => ?_
  refine run_part35 m E _ fun x => ?_
  simp only [Prog.lift, Prog.bind_op, Prog.bind_ret, Prog.pure_eq_ret]
  refine (plan m).step_swait order E (6, 3) rfl (sends_before (by decide)) rfl rfl ?_
  refine (plan m).step_lwait order E 0 rfl (sends_before (by decide)) rfl rfl ?_
  refine (plan m).step_lwait order E 1 rfl (sends_before (by decide)) rfl rfl ?_
  refine (plan m).step_lwait order E 2 rfl (sends_before (by decide)) rfl rfl ?_
  refine (plan m).step_lwait order E 3 rfl (sends_before (by decide)) rfl rfl ?_
  rw [wp_ret]; exact hQ
end Cert.KernelIdeal.Xch

end
-- ==== Proof.ExchangeSlabs.lean ====
/-
The exchanged arrays slab by slab: which elements a slab is, a device's arrays as the slabs the plan of the exchange
(ExchangePlan.lean) brings and takes back, and what the results hold in the end — slab `j` of a device's result is its
own slab of device `j`'s argument.
-/
module

public import proofs.«01_k».proof.Proof.ExchangePlan

@[expose] public section

set_option Elab.async false
set_option maxRecDepth 16384

noncomputable section

namespace Cert.KernelIdeal.Xch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.KernelIdeal Cert.KernelIdeal.Gen

variable {F : FTy → Type} [FloatOps F] {U : Type} [URA U]

local notation "𝕄" => MT nD τ sig Unit (Elt F) ℕ U ℕ

/-! ## The elements of a slab -/

/-- The element at the same place of slab `c`. -/
def at0 {A B : Nat} (c : Dev nD) (x : (⟨3, ![8, A, B]⟩ : Shape).Idx) : (⟨3, ![8, A, B]⟩ : Shape).Idx := Function.update x 0 c

/-- The slab an element is in. -/
def slabOf {A B : Nat} (x : (⟨3, ![8, A, B]⟩ : Shape).Idx) : Dev nD := x 0

/-- The elements of a slab's rectangle. -/
theorem mem_rect {A B : Nat} {j : Dev nD} (p : ∀ a, (![j.val, 0, 0] : Fin 3 → Nat) a + (⟨3, ![1, A, B]⟩ : Shape).size a ≤ (⟨3, ![8, A, B]⟩ : Shape).size a)
    {x : (⟨3, ![8, A, B]⟩ : Shape).Idx} :
    x ∈ (Rect.unit (s := ⟨3, ![8, A, B]⟩) ![j.val, 0, 0] (⟨3, ![1, A, B]⟩ : Shape).size p).set ↔ slabOf x = j := by
  rw [Rect.mem_set_unit]
  constructor
  · intro h
    have h0 := h 0
    apply Fin.ext
    change j.val ≤ (x 0).val ∧ (x 0).val < j.val + 1 at h0
    show (x 0).val = j.val
    omega
  · intro h a
    have h' : (x 0).val = j.val := congrArg Fin.val h
    fin_cases a
    · show j.val ≤ (x 0).val ∧ (x 0).val < j.val + 1
      omega
    · show 0 ≤ (x 1).val ∧ (x 1).val < 0 + A
      have : (x 1).val < A := (x 1).isLt
      omega
    · show 0 ≤ (x 2).val ∧ (x 2).val < 0 + B
      have : (x 2).val < B := (x 2).isLt
      omega

/-- Two slabs' rectangles place their elements at the same place of either slab. -/
theorem emb_rect {A B : Nat} {j c : Dev nD} (p p') (y : (⟨3, ![1, A, B]⟩ : Shape).Idx) :
    (Rect.unit (s := ⟨3, ![8, A, B]⟩) ![c.val, 0, 0] (⟨3, ![1, A, B]⟩ : Shape).size p).emb y
      = at0 c ((Rect.unit (s := ⟨3, ![8, A, B]⟩) ![j.val, 0, 0] (⟨3, ![1, A, B]⟩ : Shape).size p').emb y) := by
  have hy : (y 0).val < 1 := (y 0).isLt
  funext a
  fin_cases a
  · apply Fin.ext
    show c.val + 1 * (y 0).val = c.val
    omega
  · rfl
  · rfl

theorem mem_inSlab0 {j : Dev nD} {x : S8x2048x771.Idx} : x ∈ (inSlab 0 j).view.set ↔ slabOf x = j := by
  unfold inSlab
  rw [Memref.set_view_squeeze]
  exact (iff_of_eq (congrArg (fun I : Finset S8x2048x771.Idx => x ∈ I) (View.set_slice_whole main_arg0 _))).trans (mem_rect _)

theorem mem_inSlab1 {j : Dev nD} {x : S8x256x2048.Idx} : x ∈ (inSlab 1 j).view.set ↔ slabOf x = j := by
  unfold inSlab
  rw [Memref.set_view_squeeze]
  exact (iff_of_eq (congrArg (fun I : Finset S8x256x2048.Idx => x ∈ I) (View.set_slice_whole main_arg1 _))).trans (mem_rect _)

theorem mem_inSlab2 {j : Dev nD} {x : S8x2048x1024.Idx} : x ∈ (inSlab 2 j).view.set ↔ slabOf x = j := by
  unfold inSlab
  rw [Memref.set_view_squeeze]
  exact (iff_of_eq (congrArg (fun I : Finset S8x2048x1024.Idx => x ∈ I) (View.set_slice_whole main_arg2 _))).trans (mem_rect _)

theorem mem_inSlab3 {j : Dev nD} {x : S8x1024x2048.Idx} : x ∈ (inSlab 3 j).view.set ↔ slabOf x = j := by
  unfold inSlab
  rw [Memref.set_view_squeeze]
  exact (iff_of_eq (congrArg (fun I : Finset S8x1024x2048.Idx => x ∈ I) (View.set_slice_whole main_arg3 _))).trans (mem_rect _)

theorem mem_outSlab0 {j : Dev nD} {x : S8x2048x771.Idx} : x ∈ (outSlab 0 j).view.set ↔ slabOf x = j := by
  unfold outSlab
  rw [Memref.set_view_squeeze]
  exact (iff_of_eq (congrArg (fun I : Finset S8x2048x771.Idx => x ∈ I) (View.set_slice_whole main_v1_0 _))).trans (mem_rect _)

theorem mem_outSlab1 {j : Dev nD} {x : S8x256x2048.Idx} : x ∈ (outSlab 1 j).view.set ↔ slabOf x = j := by
  unfold outSlab
  rw [Memref.set_view_squeeze]
  exact (iff_of_eq (congrArg (fun I : Finset S8x256x2048.Idx => x ∈ I) (View.set_slice_whole main_v1_1 _))).trans (mem_rect _)

theorem mem_outSlab2 {j : Dev nD} {x : S8x2048x1024.Idx} : x ∈ (outSlab 2 j).view.set ↔ slabOf x = j := by
  unfold outSlab
  rw [Memref.set_view_squeeze]
  exact (iff_of_eq (congrArg (fun I : Finset S8x2048x1024.Idx => x ∈ I) (View.set_slice_whole main_v1_2 _))).trans (mem_rect _)

theorem mem_outSlab3 {j : Dev nD} {x : S8x1024x2048.Idx} : x ∈ (outSlab 3 j).view.set ↔ slabOf x = j := by
  unfold outSlab
  rw [Memref.set_view_squeeze]
  exact (iff_of_eq (congrArg (fun I : Finset S8x1024x2048.Idx => x ∈ I) (View.set_slice_whole main_v1_3 _))).trans (mem_rect _)

/-! ## The contents -/

/-- What the result `a` of device `c` holds in the end. -/
def outF (m : (ℓ : Loc nD τ sig) → Buf (Elt F) ℓ) : (a : Fin 4) → (j c : Dev nD) → Buf (Elt F) ((outSlab a j).view.loc (c.tc : Thread nD τ))
  | 0, _, c => fun x : S8x2048x771.Idx => m (((slabOf x).tc : Thread nD τ).loc main_arg0) (at0 c x : S8x2048x771.Idx)
  | 1, _, c => fun x : S8x256x2048.Idx => m (((slabOf x).tc : Thread nD τ).loc main_arg1) (at0 c x : S8x256x2048.Idx)
  | 2, _, c => fun x : S8x2048x1024.Idx => m (((slabOf x).tc : Thread nD τ).loc main_arg2) (at0 c x : S8x2048x1024.Idx)
  | 3, _, c => fun x : S8x1024x2048.Idx => m (((slabOf x).tc : Thread nD τ).loc main_arg3) (at0 c x : S8x1024x2048.Idx)

/-- Slab `j` of device `c`'s argument `a`. -/
def inPts (m : (ℓ : Loc nD τ sig) → Buf (Elt F) ℓ) (a : Fin 4) (c j : Dev nD) : sProp 𝕄 :=
  (inSlab a j).view.loc (c.tc : Thread nD τ) ↦[(inSlab a j).view.set]{fullShare} argBuf m a j c

/-- Slab `j` of device `c`'s result `a`, as launched. -/
def outPts (m : (ℓ : Loc nD τ sig) → Buf (Elt F) ℓ) (a : Fin 4) (c j : Dev nD) : sProp 𝕄 :=
  (outSlab a j).view.loc (c.tc : Thread nD τ) ↦[(outSlab a j).view.set]{fullShare} outBuf m a j c

/-- Slab `j` of device `c`'s result `a`, as the copy from device `j` leaves it. -/
def gotPts (m : (ℓ : Loc nD τ sig) → Buf (Elt F) ℓ) (a : Fin 4) (c j : Dev nD) : sProp 𝕄 :=
  (outSlab a j).view.loc (c.tc : Thread nD τ) ↦[(outSlab a j).view.set]{fullShare}
    (outSlab a j).view.write (Elt F) (outBuf m a j c) ((inSlab a c).view.read (Elt F) (argBuf m a c j)) Finset.univ

/-- Device `c`'s argument `a`, whole. -/
def argWhole (m : (ℓ : Loc nD τ sig) → Buf (Elt F) ℓ) : (a : Fin 4) → (c : Dev nD) → sProp 𝕄
  | 0, c => ((c.tc : Thread nD τ).loc main_arg0) ↦{fullShare} m ((c.tc : Thread nD τ).loc main_arg0)
  | 1, c => ((c.tc : Thread nD τ).loc main_arg1) ↦{fullShare} m ((c.tc : Thread nD τ).loc main_arg1)
  | 2, c => ((c.tc : Thread nD τ).loc main_arg2) ↦{fullShare} m ((c.tc : Thread nD τ).loc main_arg2)
  | 3, c => ((c.tc : Thread nD τ).loc main_arg3) ↦{fullShare} m ((c.tc : Thread nD τ).loc main_arg3)

/-- Device `c`'s result `a`, whole, as launched. -/
def outWhole (m : (ℓ : Loc nD τ sig) → Buf (Elt F) ℓ) : (a : Fin 4) → (c : Dev nD) → sProp 𝕄
  | 0, c => ((c.tc : Thread nD τ).loc main_v1_0) ↦{fullShare} m ((c.tc : Thread nD τ).loc main_v1_0)
  | 1, c => ((c.tc : Thread nD τ).loc main_v1_1) ↦{fullShare} m ((c.tc : Thread nD τ).loc main_v1_1)
  | 2, c => ((c.tc : Thread nD τ).loc main_v1_2) ↦{fullShare} m ((c.tc : Thread nD τ).loc main_v1_2)
  | 3, c => ((c.tc : Thread nD τ).loc main_v1_3) ↦{fullShare} m ((c.tc : Thread nD τ).loc main_v1_3)

/-- Device `c`'s result `a`, whole, in the end. -/
def gotWhole (m : (ℓ : Loc nD τ sig) → Buf (Elt F) ℓ) : (a : Fin 4) → (c : Dev nD) → sProp 𝕄
  | 0, c => ((c.tc : Thread nD τ).loc main_v1_0) ↦{fullShare} outF m 0 c c
  | 1, c => ((c.tc : Thread nD τ).loc main_v1_1) ↦{fullShare} outF m 1 c c
  | 2, c => ((c.tc : Thread nD τ).loc main_v1_2) ↦{fullShare} outF m 2 c c
  | 3, c => ((c.tc : Thread nD τ).loc main_v1_3) ↦{fullShare} outF m 3 c c

theorem argWhole_split0 (m : (ℓ : Loc nD τ sig) → Buf (Elt F) ℓ) (c : Dev nD) :
    (argWhole m 0 c : sProp 𝕄) = bigSep Finset.univ fun j => inPts m 0 c j :=
  Ring.pointsTo_blocks (ℓ := (c.tc : Thread nD τ).loc main_arg0) (fun j : Dev nD => (inSlab 0 j).view.set)
    (fun j j' h => Finset.disjoint_left.mpr fun x hx hx' => h ((mem_inSlab0.mp hx).symm.trans (mem_inSlab0.mp hx')))
    (Finset.eq_univ_iff_forall.mpr fun x => Finset.mem_biUnion.mpr ⟨slabOf (A := 2048) (B := 771) x, Finset.mem_univ _, mem_inSlab0.mpr rfl⟩)
    (m ((c.tc : Thread nD τ).loc main_arg0))

theorem outWhole_split0 (m : (ℓ : Loc nD τ sig) → Buf (Elt F) ℓ) (c : Dev nD) :
    (outWhole m 0 c : sProp 𝕄) = bigSep Finset.univ fun j => outPts m 0 c j :=
  Ring.pointsTo_blocks (ℓ := (c.tc : Thread nD τ).loc main_v1_0) (fun j : Dev nD => (outSlab 0 j).view.set)
    (fun j j' h => Finset.disjoint_left.mpr fun x hx hx' => h ((mem_outSlab0.mp hx).symm.trans (mem_outSlab0.mp hx')))
    (Finset.eq_univ_iff_forall.mpr fun x => Finset.mem_biUnion.mpr ⟨slabOf (A := 2048) (B := 771) x, Finset.mem_univ _, mem_outSlab0.mpr rfl⟩)
    (m ((c.tc : Thread nD τ).loc main_v1_0))

theorem written0 (m : (ℓ : Loc nD τ sig) → Buf (Elt F) ℓ) (c j : Dev nD) (x : S8x2048x771.Idx) (hx : x ∈ (outSlab 0 j).view.set) :
    (outSlab 0 j).view.write (Elt F) (outBuf m 0 j c) ((inSlab 0 c).view.read (Elt F) (argBuf m 0 c j)) Finset.univ x = outF m 0 j c x := by
  have hj : slabOf x = j := mem_outSlab0.mp hx
  obtain ⟨y, -, rfl⟩ := Finset.mem_map.mp hx
  refine (View.write_emb_of_mem (v := (outSlab 0 j).view) _ _ (Finset.mem_univ y)).trans ?_
  have he : ((inSlab 0 c).view.emb y : S8x2048x771.Idx) = at0 c ((outSlab 0 j).view.emb y : S8x2048x771.Idx) := emb_rect _ _ _
  have e1 : outF m 0 j c ((outSlab 0 j).view.emb y) = m ((j.tc : Thread nD τ).loc main_arg0) (at0 c ((outSlab 0 j).view.emb y : S8x2048x771.Idx) : S8x2048x771.Idx) :=
    congrArg (fun d : Dev nD => (m ((d.tc : Thread nD τ).loc main_arg0) (at0 c ((outSlab 0 j).view.emb y : S8x2048x771.Idx) : S8x2048x771.Idx) : Elt F .bf16)) hj
  refine Eq.trans ?_ e1.symm
  exact congrArg (m ((j.tc : Thread nD τ).loc main_arg0)) he

theorem gotWhole_join0 (m : (ℓ : Loc nD τ sig) → Buf (Elt F) ℓ) (c : Dev nD) :
    (bigSep Finset.univ fun j => gotPts m 0 c j : sProp 𝕄) = gotWhole m 0 c := by
  have e : (gotWhole m 0 c : sProp 𝕄) = bigSep Finset.univ fun j : Dev nD => ((c.tc : Thread nD τ).loc main_v1_0) ↦[(outSlab 0 j).view.set]{fullShare} outF m 0 c c :=
    Ring.pointsTo_blocks (ℓ := (c.tc : Thread nD τ).loc main_v1_0) (fun j : Dev nD => (outSlab 0 j).view.set)
      (fun j j' h => Finset.disjoint_left.mpr fun x hx hx' => h ((mem_outSlab0.mp hx).symm.trans (mem_outSlab0.mp hx')))
      (Finset.eq_univ_iff_forall.mpr fun x => Finset.mem_biUnion.mpr ⟨slabOf (A := 2048) (B := 771) x, Finset.mem_univ _, mem_outSlab0.mpr rfl⟩)
      (outF m 0 c c)
  rw [e]
  exact bigSep_congr fun j _ => pointsTo_congr fun x hx => written0 m c j x hx

theorem argWhole_split1 (m : (ℓ : Loc nD τ sig) → Buf (Elt F) ℓ) (c : Dev nD) :
    (argWhole m 1 c : sProp 𝕄) = bigSep Finset.univ fun j => inPts m 1 c j :=
  Ring.pointsTo_blocks (ℓ := (c.tc : Thread nD τ).loc main_arg1) (fun j : Dev nD => (inSlab 1 j).view.set)
    (fun j j' h => Finset.disjoint_left.mpr fun x hx hx' => h ((mem_inSlab1.mp hx).symm.trans (mem_inSlab1.mp hx')))
    (Finset.eq_univ_iff_forall.mpr fun x => Finset.mem_biUnion.mpr ⟨slabOf (A := 256) (B := 2048) x, Finset.mem_univ _, mem_inSlab1.mpr rfl⟩)
    (m ((c.tc : Thread nD τ).loc main_arg1))

theorem outWhole_split1 (m : (ℓ : Loc nD τ sig) → Buf (Elt F) ℓ) (c : Dev nD) :
    (outWhole m 1 c : sProp 𝕄) = bigSep Finset.univ fun j => outPts m 1 c j :=
  Ring.pointsTo_blocks (ℓ := (c.tc : Thread nD τ).loc main_v1_1) (fun j : Dev nD => (outSlab 1 j).view.set)
    (fun j j' h => Finset.disjoint_left.mpr fun x hx hx' => h ((mem_outSlab1.mp hx).symm.trans (mem_outSlab1.mp hx')))
    (Finset.eq_univ_iff_forall.mpr fun x => Finset.mem_biUnion.mpr ⟨slabOf (A := 256) (B := 2048) x, Finset.mem_univ _, mem_outSlab1.mpr rfl⟩)
    (m ((c.tc : Thread nD τ).loc main_v1_1))

theorem written1 (m : (ℓ : Loc nD τ sig) → Buf (Elt F) ℓ) (c j : Dev nD) (x : S8x256x2048.Idx) (hx : x ∈ (outSlab 1 j).view.set) :
    (outSlab 1 j).view.write (Elt F) (outBuf m 1 j c) ((inSlab 1 c).view.read (Elt F) (argBuf m 1 c j)) Finset.univ x = outF m 1 j c x := by
  have hj : slabOf x = j := mem_outSlab1.mp hx
  obtain ⟨y, -, rfl⟩ := Finset.mem_map.mp hx
  refine (View.write_emb_of_mem (v := (outSlab 1 j).view) _ _ (Finset.mem_univ y)).trans ?_
  have he : ((inSlab 1 c).view.emb y : S8x256x2048.Idx) = at0 c ((outSlab 1 j).view.emb y : S8x256x2048.Idx) := emb_rect _ _ _
  have e1 : outF m 1 j c ((outSlab 1 j).view.emb y) = m ((j.tc : Thread nD τ).loc main_arg1) (at0 c ((outSlab 1 j).view.emb y : S8x256x2048.Idx) : S8x256x2048.Idx) :=
    congrArg (fun d : Dev nD => (m ((d.tc : Thread nD τ).loc main_arg1) (at0 c ((outSlab 1 j).view.emb y : S8x256x2048.Idx) : S8x256x2048.Idx) : Elt F .bf16)) hj
  refine Eq.trans ?_ e1.symm
  exact congrArg (m ((j.tc : Thread nD τ).loc main_arg1)) he

theorem gotWhole_join1 (m : (ℓ : Loc nD τ sig) → Buf (Elt F) ℓ) (c : Dev nD) :
    (bigSep Finset.univ fun j => gotPts m 1 c j : sProp 𝕄) = gotWhole m 1 c := by
  have e : (gotWhole m 1 c : sProp 𝕄) = bigSep Finset.univ fun j : Dev nD => ((c.tc : Thread nD τ).loc main_v1_1) ↦[(outSlab 1 j).view.set]{fullShare} outF m 1 c c :=
    Ring.pointsTo_blocks (ℓ := (c.tc : Thread nD τ).loc main_v1_1) (fun j : Dev nD => (outSlab 1 j).view.set)
      (fun j j' h => Finset.disjoint_left.mpr fun x hx hx' => h ((mem_outSlab1.mp hx).symm.trans (mem_outSlab1.mp hx')))
      (Finset.eq_univ_iff_forall.mpr fun x => Finset.mem_biUnion.mpr ⟨slabOf (A := 256) (B := 2048) x, Finset.mem_univ _, mem_outSlab1.mpr rfl⟩)
      (outF m 1 c c)
  rw [e]
  exact bigSep_congr fun j _ => pointsTo_congr fun x hx => written1 m c j x hx

theorem argWhole_split2 (m : (ℓ : Loc nD τ sig) → Buf (Elt F) ℓ) (c : Dev nD) :
    (argWhole m 2 c : sProp 𝕄) = bigSep Finset.univ fun j => inPts m 2 c j :=
  Ring.pointsTo_blocks (ℓ := (c.tc : Thread nD τ).loc main_arg2) (fun j : Dev nD => (inSlab 2 j).view.set)
    (fun j j' h => Finset.disjoint_left.mpr fun x hx hx' => h ((mem_inSlab2.mp hx).symm.trans (mem_inSlab2.mp hx')))
    (Finset.eq_univ_iff_forall.mpr fun x => Finset.mem_biUnion.mpr ⟨slabOf (A := 2048) (B := 1024) x, Finset.mem_univ _, mem_inSlab2.mpr rfl⟩)
    (m ((c.tc : Thread nD τ).loc main_arg2))

theorem outWhole_split2 (m : (ℓ : Loc nD τ sig) → Buf (Elt F) ℓ) (c : Dev nD) :
    (outWhole m 2 c : sProp 𝕄) = bigSep Finset.univ fun j => outPts m 2 c j :=
  Ring.pointsTo_blocks (ℓ := (c.tc : Thread nD τ).loc main_v1_2) (fun j : Dev nD => (outSlab 2 j).view.set)
    (fun j j' h => Finset.disjoint_left.mpr fun x hx hx' => h ((mem_outSlab2.mp hx).symm.trans (mem_outSlab2.mp hx')))
    (Finset.eq_univ_iff_forall.mpr fun x => Finset.mem_biUnion.mpr ⟨slabOf (A := 2048) (B := 1024) x, Finset.mem_univ _, mem_outSlab2.mpr rfl⟩)
    (m ((c.tc : Thread nD τ).loc main_v1_2))

theorem written2 (m : (ℓ : Loc nD τ sig) → Buf (Elt F) ℓ) (c j : Dev nD) (x : S8x2048x1024.Idx) (hx : x ∈ (outSlab 2 j).view.set) :
    (outSlab 2 j).view.write (Elt F) (outBuf m 2 j c) ((inSlab 2 c).view.read (Elt F) (argBuf m 2 c j)) Finset.univ x = outF m 2 j c x := by
  have hj : slabOf x = j := mem_outSlab2.mp hx
  obtain ⟨y, -, rfl⟩ := Finset.mem_map.mp hx
  refine (View.write_emb_of_mem (v := (outSlab 2 j).view) _ _ (Finset.mem_univ y)).trans ?_
  have he : ((inSlab 2 c).view.emb y : S8x2048x1024.Idx) = at0 c ((outSlab 2 j).view.emb y : S8x2048x1024.Idx) := emb_rect _ _ _
  have e1 : outF m 2 j c ((outSlab 2 j).view.emb y) = m ((j.tc : Thread nD τ).loc main_arg2) (at0 c ((outSlab 2 j).view.emb y : S8x2048x1024.Idx) : S8x2048x1024.Idx) :=
    congrArg (fun d : Dev nD => (m ((d.tc : Thread nD τ).loc main_arg2) (at0 c ((outSlab 2 j).view.emb y : S8x2048x1024.Idx) : S8x2048x1024.Idx) : Elt F .bf16)) hj
  refine Eq.trans ?_ e1.symm
  exact congrArg (m ((j.tc : Thread nD τ).loc main_arg2)) he

theorem gotWhole_join2 (m : (ℓ : Loc nD τ sig) → Buf (Elt F) ℓ) (c : Dev nD) :
    (bigSep Finset.univ fun j => gotPts m 2 c j : sProp 𝕄) = gotWhole m 2 c := by
  have e : (gotWhole m 2 c : sProp 𝕄) = bigSep Finset.univ fun j : Dev nD => ((c.tc : Thread nD τ).loc main_v1_2) ↦[(outSlab 2 j).view.set]{fullShare} outF m 2 c c :=
    Ring.pointsTo_blocks (ℓ := (c.tc : Thread nD τ).loc main_v1_2) (fun j : Dev nD => (outSlab 2 j).view.set)
      (fun j j' h => Finset.disjoint_left.mpr fun x hx hx' => h ((mem_outSlab2.mp hx).symm.trans (mem_outSlab2.mp hx')))
      (Finset.eq_univ_iff_forall.mpr fun x => Finset.mem_biUnion.mpr ⟨slabOf (A := 2048) (B := 1024) x, Finset.mem_univ _, mem_outSlab2.mpr rfl⟩)
      (outF m 2 c c)
  rw [e]
  exact bigSep_congr fun j _ => pointsTo_congr fun x hx => written2 m c j x hx

theorem argWhole_split3 (m : (ℓ : Loc nD τ sig) → Buf (Elt F) ℓ) (c : Dev nD) :
    (argWhole m 3 c : sProp 𝕄) = bigSep Finset.univ fun j => inPts m 3 c j :=
  Ring.pointsTo_blocks (ℓ := (c.tc : Thread nD τ).loc main_arg3) (fun j : Dev nD => (inSlab 3 j).view.set)
    (fun j j' h => Finset.disjoint_left.mpr fun x hx hx' => h ((mem_inSlab3.mp hx).symm.trans (mem_inSlab3.mp hx')))
    (Finset.eq_univ_iff_forall.mpr fun x => Finset.mem_biUnion.mpr ⟨slabOf (A := 1024) (B := 2048) x, Finset.mem_univ _, mem_inSlab3.mpr rfl⟩)
    (m ((c.tc : Thread nD τ).loc main_arg3))

theorem outWhole_split3 (m : (ℓ : Loc nD τ sig) → Buf (Elt F) ℓ) (c : Dev nD) :
    (outWhole m 3 c : sProp 𝕄) = bigSep Finset.univ fun j => outPts m 3 c j :=
  Ring.pointsTo_blocks (ℓ := (c.tc : Thread nD τ).loc main_v1_3) (fun j : Dev nD => (outSlab 3 j).view.set)
    (fun j j' h => Finset.disjoint_left.mpr fun x hx hx' => h ((mem_outSlab3.mp hx).symm.trans (mem_outSlab3.mp hx')))
    (Finset.eq_univ_iff_forall.mpr fun x => Finset.mem_biUnion.mpr ⟨slabOf (A := 1024) (B := 2048) x, Finset.mem_univ _, mem_outSlab3.mpr rfl⟩)
    (m ((c.tc : Thread nD τ).loc main_v1_3))

theorem written3 (m : (ℓ : Loc nD τ sig) → Buf (Elt F) ℓ) (c j : Dev nD) (x : S8x1024x2048.Idx) (hx : x ∈ (outSlab 3 j).view.set) :
    (outSlab 3 j).view.write (Elt F) (outBuf m 3 j c) ((inSlab 3 c).view.read (Elt F) (argBuf m 3 c j)) Finset.univ x = outF m 3 j c x := by
  have hj : slabOf x = j := mem_outSlab3.mp hx
  obtain ⟨y, -, rfl⟩ := Finset.mem_map.mp hx
  refine (View.write_emb_of_mem (v := (outSlab 3 j).view) _ _ (Finset.mem_univ y)).trans ?_
  have he : ((inSlab 3 c).view.emb y : S8x1024x2048.Idx) = at0 c ((outSlab 3 j).view.emb y : S8x1024x2048.Idx) := emb_rect _ _ _
  have e1 : outF m 3 j c ((outSlab 3 j).view.emb y) = m ((j.tc : Thread nD τ).loc main_arg3) (at0 c ((outSlab 3 j).view.emb y : S8x1024x2048.Idx) : S8x1024x2048.Idx) :=
    congrArg (fun d : Dev nD => (m ((d.tc : Thread nD τ).loc main_arg3) (at0 c ((outSlab 3 j).view.emb y : S8x1024x2048.Idx) : S8x1024x2048.Idx) : Elt F .bf16)) hj
  refine Eq.trans ?_ e1.symm
  exact congrArg (m ((j.tc : Thread nD τ).loc main_arg3)) he

theorem gotWhole_join3 (m : (ℓ : Loc nD τ sig) → Buf (Elt F) ℓ) (c : Dev nD) :
    (bigSep Finset.univ fun j => gotPts m 3 c j : sProp 𝕄) = gotWhole m 3 c := by
  have e : (gotWhole m 3 c : sProp 𝕄) = bigSep Finset.univ fun j : Dev nD => ((c.tc : Thread nD τ).loc main_v1_3) ↦[(outSlab 3 j).view.set]{fullShare} outF m 3 c c :=
    Ring.pointsTo_blocks (ℓ := (c.tc : Thread nD τ).loc main_v1_3) (fun j : Dev nD => (outSlab 3 j).view.set)
      (fun j j' h => Finset.disjoint_left.mpr fun x hx hx' => h ((mem_outSlab3.mp hx).symm.trans (mem_outSlab3.mp hx')))
      (Finset.eq_univ_iff_forall.mpr fun x => Finset.mem_biUnion.mpr ⟨slabOf (A := 1024) (B := 2048) x, Finset.mem_univ _, mem_outSlab3.mpr rfl⟩)
      (outF m 3 c c)
  rw [e]
  exact bigSep_congr fun j _ => pointsTo_congr fun x hx => written3 m c j x hx

theorem argWhole_split (m : (ℓ : Loc nD τ sig) → Buf (Elt F) ℓ) (c : Dev nD) (a : Fin 4) :
    (argWhole m a c : sProp 𝕄) = bigSep Finset.univ fun j => inPts m a c j :=
  match a with
  | 0 => argWhole_split0 m c | 1 => argWhole_split1 m c | 2 => argWhole_split2 m c | 3 => argWhole_split3 m c

theorem outWhole_split (m : (ℓ : Loc nD τ sig) → Buf (Elt F) ℓ) (c : Dev nD) (a : Fin 4) :
    (outWhole m a c : sProp 𝕄) = bigSep Finset.univ fun j => outPts m a c j :=
  match a with
  | 0 => outWhole_split0 m c | 1 => outWhole_split1 m c | 2 => outWhole_split2 m c | 3 => outWhole_split3 m c

theorem gotWhole_join (m : (ℓ : Loc nD τ sig) → Buf (Elt F) ℓ) (c : Dev nD) (a : Fin 4) :
    (bigSep Finset.univ fun j => gotPts m a c j : sProp 𝕄) = gotWhole m a c :=
  match a with
  | 0 => gotWhole_join0 m c | 1 => gotWhole_join1 m c | 2 => gotWhole_join2 m c | 3 => gotWhole_join3 m c

/-! ## The slabs as the plan's -/

/-- The other devices are the peers. -/
theorem erase_eq : ∀ c : Dev nD, (Finset.univ.erase c : Finset (Dev nD)) = Finset.univ.map ⟨fun k : Fin 7 => peer k c, fun k k' h => peer_inj_left c k k' h⟩ := by
  decide +kernel

/-- The slabs of an array: a device's own and its peers'. -/
theorem bigSep_dev (c : Dev nD) (Φ : Dev nD → sProp 𝕄) :
    bigSep Finset.univ Φ = iprop(Φ c ∗ bigSep Finset.univ fun k : Fin 7 => Φ (peer k c)) := by
  have e : bigSep Finset.univ Φ = iprop(Φ c ∗ bigSep (Finset.univ.erase c) Φ) := bigSep_erase (Finset.mem_univ c)
  rw [e, erase_eq c, bigSep_map]
  rfl

/-- The slabs of the four arrays: the own ones and the peers' by remote copy. -/
theorem bigSep_slabs (c : Dev nD) (Φ : Fin 4 → Dev nD → sProp 𝕄) :
    (bigSep Finset.univ fun a => bigSep Finset.univ (Φ a))
      = iprop((bigSep Finset.univ fun a => Φ a c) ∗ bigSep Finset.univ fun i : R => Φ i.2 (peer i.1 c)) := by
  rw [bigSep_congr fun a _ => bigSep_dev c (Φ a), bigSep_sep', bigSep_univ_prod (fun i : R => Φ i.2 (peer i.1 c)),
    Pipeline.bigSep_univ_comm (fun (a : Fin 4) (k : Fin 7) => Φ a (peer k c))]

theorem srcPts_eq (m : (ℓ : Loc nD τ sig) → Buf (Elt F) ℓ) (c : Dev nD) (i : R) : ((plan m).srcPts i c : sProp 𝕄) = inPts m i.2 c (peer i.1 c) := rfl
theorem lsrcPts_eq (m : (ℓ : Loc nD τ sig) → Buf (Elt F) ℓ) (c : Dev nD) (a : Fin 4) : ((plan m).lsrcPts a c : sProp 𝕄) = inPts m a c c := rfl
theorem ldstPts_eq (m : (ℓ : Loc nD τ sig) → Buf (Elt F) ℓ) (c : Dev nD) (a : Fin 4) : ((plan m).ldstPts a c : sProp 𝕄) = outPts m a c c := rfl
theorem llanded_eq (m : (ℓ : Loc nD τ sig) → Buf (Elt F) ℓ) (c : Dev nD) (a : Fin 4) : ((plan m).llanded a c : sProp 𝕄) = gotPts m a c c := rfl

theorem dstPts_eq (m : (ℓ : Loc nD τ sig) → Buf (Elt F) ℓ) (c : Dev nD) (i : R) :
    ((plan m).dstPts i (((plan m).peer i).symm c) : sProp 𝕄) = outPts m i.2 c (peer i.1 c) := by
  have e : ((plan m).dstPts i (peer i.1 c) : sProp 𝕄) = outPts m i.2 (peer i.1 (peer i.1 c)) (peer i.1 c) := rfl
  rw [show peer i.1 (peer i.1 c) = c from peerOf_peerOf i.1 c] at e
  exact e

theorem landed_eq (m : (ℓ : Loc nD τ sig) → Buf (Elt F) ℓ) (c : Dev nD) (i : R) :
    ((plan m).landed i (((plan m).peer i).symm c) : sProp 𝕄) = gotPts m i.2 c (peer i.1 c) := by
  have e : ((plan m).landed i (peer i.1 c) : sProp 𝕄) = gotPts m i.2 (peer i.1 (peer i.1 c)) (peer i.1 c) := rfl
  rw [show peer i.1 (peer i.1 c) = c from peerOf_peerOf i.1 c] at e
  exact e

/-- A device's arguments are the sources of its copies. -/
theorem args_eq (m : (ℓ : Loc nD τ sig) → Buf (Elt F) ℓ) (c : Dev nD) :
    (bigSep Finset.univ fun a => argWhole m a c : sProp 𝕄)
      = iprop((bigSep Finset.univ fun a => (plan m).lsrcPts a c) ∗ bigSep Finset.univ fun i => (plan m).srcPts i c) := by
  rw [bigSep_congr fun a _ => argWhole_split m c a, bigSep_slabs c fun a => inPts m a c]
  rfl

/-- A device's results are the destinations of the copies to it. -/
theorem outs_eq (m : (ℓ : Loc nD τ sig) → Buf (Elt F) ℓ) (c : Dev nD) :
    (bigSep Finset.univ fun a => outWhole m a c : sProp 𝕄)
      = iprop((bigSep Finset.univ fun a => (plan m).ldstPts a c) ∗ bigSep Finset.univ fun i => (plan m).dstPts i (((plan m).peer i).symm c)) := by
  rw [bigSep_congr fun a _ => outWhole_split m c a, bigSep_slabs c fun a => outPts m a c, bigSep_congr fun i _ => dstPts_eq m c i]
  rfl

/-- After the copies they are the results. -/
theorem got_eq (m : (ℓ : Loc nD τ sig) → Buf (Elt F) ℓ) (c : Dev nD) :
    iprop((bigSep Finset.univ fun a => (plan m).llanded a c) ∗ bigSep Finset.univ fun i => (plan m).landed i (((plan m).peer i).symm c))
      = (bigSep Finset.univ fun a => gotWhole m a c : sProp 𝕄) := by
  rw [← bigSep_congr fun a _ => gotWhole_join m c a, bigSep_slabs c fun a => gotPts m a c, bigSep_congr fun i _ => landed_eq m c i]
  rfl

end Cert.KernelIdeal.Xch

end
-- ==== Proof.ExchangeDeal.lean ====
/-
The two ends of a direct exchange (`Exchange.lean`): how the devices' launch holdings are dealt, and what a device has
when it has performed every operation.

At the launch all counters stand at zero. Their protocols are opened together; then each device is handed the right to
raise its own send counters and its peers' receive counters, and — this is what replaces a barrier — the places of its
peers' arrays that it will write.
-/
module

public import proofs.«01_k».proof.Proof.Exchange

@[expose] public section

set_option Elab.async false

noncomputable section

namespace Cert.Exchange.Plan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred launchCredit_owing owing)

variable {nD : Nat} {τ : Topo} {sig : RefSig} {Val : EltTy → Type}
variable {U : Type} [URA U] {R L : Type} [Fintype R] [DecidableEq R] [Fintype L] [DecidableEq L]

local notation "𝕄" => MT nD τ sig Unit Val ℕ U ℕ

variable (P : Plan nD τ sig Val R L)

/-! ## The counters as a set, and their tokens -/

/-- The counters of all devices. -/
def cellEmb : Dev nD × Cell R L ↪ GSem nD τ sig :=
  ⟨fun z => P.gcell z.1 z.2, fun a b h => by obtain ⟨h1, h2⟩ := P.gcell_inj h; exact Prod.ext h1 h2⟩

def cells : Finset (GSem nD τ sig) := Finset.univ.map P.cellEmb

/-- Their tokens: one duty each, of the first round. -/
def tokEmb : Dev nD × Cell R L ↪ GSem nD τ sig × ℕ × Unit :=
  ⟨fun z => (P.gcell z.1 z.2, 0, ()), fun a b h => P.cellEmb.injective (congrArg Prod.fst h)⟩

def toks : Finset (GSem nD τ sig × ℕ × Unit) := Finset.univ.map P.tokEmb

theorem bigSep_cells (Φ : GSem nD τ sig → sProp 𝕄) :
    bigSep P.cells Φ = bigSep Finset.univ fun c : Dev nD => bigSep Finset.univ fun x : Cell R L => Φ (P.gcell c x) := by
  unfold cells
  rw [bigSep_map, bigSep_univ_prod]
  rfl

theorem bigSep_toks (Φ : GSem nD τ sig × ℕ × Unit → sProp 𝕄) :
    bigSep P.toks Φ = bigSep Finset.univ fun c : Dev nD => bigSep Finset.univ fun x : Cell R L => Φ (P.gcell c x, 0, ()) := by
  unfold toks
  rw [bigSep_map, bigSep_univ_prod]
  rfl

/-- A family over the counters is one over the send counters, one over the receive counters and one over the local ones. -/
theorem bigSep_cell (Φ : Cell R L → sProp 𝕄) :
    bigSep Finset.univ Φ = iprop((bigSep Finset.univ fun i => Φ (.inl i)) ∗ (bigSep Finset.univ fun i => Φ (.inr (.inl i)))
      ∗ bigSep Finset.univ fun i => Φ (.inr (.inr i))) := by
  have e1 : bigSep Finset.univ Φ = iprop((bigSep Finset.univ fun i => Φ (.inl i)) ∗ bigSep Finset.univ fun z => Φ (.inr z)) := bigSep_univ_sum Φ
  have e2 : (bigSep Finset.univ fun z : R ⊕ L => Φ (.inr z)) = iprop((bigSep Finset.univ fun i => Φ (.inr (.inl i)))
      ∗ bigSep Finset.univ fun i => Φ (.inr (.inr i))) := bigSep_univ_sum fun z => Φ (.inr z)
  rw [e1, e2]

/-- A family over devices and copies, each copy's devices renamed by that copy's peers. -/
theorem bigSep_rename (e : R → Equiv.Perm (Dev nD)) (Φ : R → Dev nD → sProp 𝕄) :
    (bigSep Finset.univ fun c : Dev nD => bigSep Finset.univ fun i : R => Φ i c)
      = bigSep Finset.univ fun c : Dev nD => bigSep Finset.univ fun i : R => Φ i (e i c) := by
  rw [Pipeline.bigSep_univ_comm (fun (c : Dev nD) (i : R) => Φ i c), Pipeline.bigSep_univ_comm (fun (c : Dev nD) (i : R) => Φ i (e i c))]
  exact bigSep_congr fun i _ => bigSep_univ_equiv (e i) (Φ i)

/-! ## The launch credit -/

variable (O : Order R L)

theorem launchCredit_recv (c : Dev nD) (i : R) :
    launchCredit (owing (τ := τ) fun d => P.owed O d 0) 0 ((c.tc : Thread nD τ), P.sR i) = Finsupp.single () (P.nR i) := by
  refine Finsupp.ext fun u => ?_
  rw [launchCredit_owing, show u = () from rfl, Finsupp.single_eq_same]
  have hap (d : Dev nD) : P.owed O d 0 ((c.tc : Thread nD τ), P.sR i) ()
      = ∑ j ∈ Finset.univ.filter (fun j => 0 ≤ O.pSend j), if P.gcell c (.inr (.inl i)) = P.gcell (P.peer j d) (.inr (.inl j)) then P.nR j else 0 := by
    unfold owed
    rw [Finset.sum_apply, Finsupp.finset_sum_apply]
    refine Finset.sum_congr rfl fun j _ => ?_
    rw [tallyAt_apply]
    exact if_congr (by simp [gcell, cell]) rfl rfl
  rw [Finset.sum_congr rfl fun d _ => hap d]
  rw [Finset.sum_eq_single ((P.peer i).symm c), Finset.sum_eq_single i]
  · rw [if_pos (by rw [Equiv.apply_symm_apply])]
  · intro j _ hj
    exact if_neg fun h => hj (by simpa using (P.gcell_inj h).2.symm)
  · intro h; exact absurd (by simp) h
  · intro d _ hd
    refine Finset.sum_eq_zero fun j _ => if_neg fun h => hd ?_
    obtain ⟨h1, h2⟩ := P.gcell_inj h
    have h3 : i = j := by simpa using h2
    subst h3
    rw [h1, Equiv.symm_apply_apply]
  · intro h; exact absurd (Finset.mem_univ _) h

/-- What the peers owe device `c` at launch, as one credit per receive counter. -/
theorem launchCred_recv (c : Dev nD) :
    (launchCred (fun d => P.owed O d 0) c : sProp 𝕄) ⊢ bigSep Finset.univ fun i : R => cred (tallyAt (P.gcell c (.inr (.inl i))) () (P.nR i)) := by
  have hinj : Function.Injective P.sR := fun a b h => by
    have := P.cell_injective (a₁ := .inr (.inl a)) (a₂ := .inr (.inl b)) h
    simpa using this
  unfold launchCred
  refine (bigSep_subset (Finset.subset_univ (Finset.univ.map ⟨P.sR, hinj⟩))).trans ?_
  rw [bigSep_map]
  refine Entails.of_eq (bigSep_congr fun i _ => ?_)
  show cred (tallyOn ((c.tc : Thread nD τ), P.sR i) (launchCredit (owing fun d => P.owed O d 0) 0 ((c.tc : Thread nD τ), P.sR i))) = _
  rw [P.launchCredit_recv O c i]
  rfl

/-! ## The deal -/

variable (E : Emb (UR sig nD τ) (MT nD τ sig Unit Val ℕ U ℕ)) [E.LandsIn (upEmb : UEmb _ (MT nD τ sig Unit Val ℕ U ℕ))]

/-- What the devices bring: their counters at zero, their copies' sources and local destinations, the places of their own
    arrays that their peers will fill, what they owe and what they are owed. -/
def brought (c : Dev nD) : sProp 𝕄 :=
  iprop((bigSep Finset.univ fun x : Cell R L => semVal (P.gcell c x) 0) ∗ (bigSep Finset.univ fun i => P.srcNow i c)
    ∗ (bigSep Finset.univ fun i => P.dstPts i ((P.peer i).symm c)) ∗ (bigSep Finset.univ fun i => P.lsrcPts i c)
    ∗ (bigSep Finset.univ fun i => P.ldstPts i c) ∗ owes (c.tc : Thread nD τ) (P.owed O c 0) ∅ ∗ launchCred (fun d => P.owed O d 0) c)

theorem deal : iprop((bigSep Finset.univ fun c : Dev nD => P.brought O c) ∗ BI.own (E (initOf P.cells P.toks)) ∗ levAts leveled (P.lev O))
    ⊢ |={Set.univ}=> bigSep Finset.univ fun c : Dev nD => iprop(∃ κ, P.St (U := U) O E κ c 0) := by
  have hs (c : Dev nD) : P.sSt (U := U) O E c 0 = fun i => iprop(atPos E (P.gcell c (.inl i)) 0 ∅ 0 ∗ P.srcNow i c ∗ P.dstPts i c
      ∗ dutyTok E (P.gcell c (.inl i)) 0 () ∗ dutyTok E (P.gcell (P.peer i c) (.inr (.inl i))) 0 ()) :=
    funext fun i => if_pos (Nat.zero_le _)
  have hr (c : Dev nD) : P.rSt (U := U) O E c 0 = fun i => iprop(atPos E (P.gcell c (.inr (.inl i))) 0 ∅ 0 ∗ cred (tallyAt (P.gcell c (.inr (.inl i))) () (P.nR i))) :=
    funext fun i => if_pos (Nat.zero_le _)
  have hl (c : Dev nD) : P.lSt (U := U) O E c 0 = fun i => iprop(atPos E (P.gcell c (.inr (.inr i))) 0 ∅ 0 ∗ P.lsrcPts i c ∗ P.ldstPts i c
      ∗ dutyTok E (P.gcell c (.inr (.inr i))) 0 ()) :=
    funext fun i => if_pos (Nat.zero_le _)
  have hdst : (bigSep Finset.univ fun c : Dev nD => bigSep Finset.univ fun i => P.dstPts (U := U) i ((P.peer i).symm c))
      = bigSep Finset.univ fun c : Dev nD => bigSep Finset.univ fun i => P.dstPts i c := by
    rw [bigSep_rename (fun i => P.peer i) (fun i c => P.dstPts (U := U) i ((P.peer i).symm c))]
    simp only [Equiv.symm_apply_apply]
  have htok : (bigSep Finset.univ fun c : Dev nD => bigSep Finset.univ fun i : R => dutyTok E (P.gcell c (.inr (.inl i))) 0 ())
      = bigSep Finset.univ fun c : Dev nD => bigSep Finset.univ fun i => dutyTok E (P.gcell (P.peer i c) (.inr (.inl i))) 0 () :=
    bigSep_rename (fun i => P.peer i) (fun i c => dutyTok E (P.gcell c (.inr (.inl i))) 0 ())
  have hat0 : (bigSep P.cells fun g => atPos E g 0 ∅ 0) = iprop((bigSep Finset.univ fun c : Dev nD => bigSep Finset.univ fun i : R => atPos E (P.gcell c (.inl i)) 0 ∅ 0)
      ∗ (bigSep Finset.univ fun c : Dev nD => bigSep Finset.univ fun i : R => atPos E (P.gcell c (.inr (.inl i))) 0 ∅ 0)
      ∗ bigSep Finset.univ fun c : Dev nD => bigSep Finset.univ fun i : L => atPos E (P.gcell c (.inr (.inr i))) 0 ∅ 0) := by
    rw [bigSep_cells, bigSep_congr fun c _ => bigSep_cell fun x => atPos E (P.gcell c x) 0 ∅ 0]
    simp only [bigSep_sep']
  have htok0 : (bigSep P.toks fun x => dutyTok E x.1 x.2.1 x.2.2) = iprop((bigSep Finset.univ fun c : Dev nD => bigSep Finset.univ fun i : R => dutyTok E (P.gcell c (.inl i)) 0 ())
      ∗ (bigSep Finset.univ fun c : Dev nD => bigSep Finset.univ fun i : R => dutyTok E (P.gcell (P.peer i c) (.inr (.inl i))) 0 ())
      ∗ bigSep Finset.univ fun c : Dev nD => bigSep Finset.univ fun i : L => dutyTok E (P.gcell c (.inr (.inr i))) 0 ()) := by
    rw [bigSep_toks, bigSep_congr fun c _ => bigSep_cell fun x => dutyTok E (P.gcell c x) 0 (), ← htok]
    simp only [bigSep_sep']
  have hfund := Rounds.fund E (P.sched (U := U)) P.cells P.toks
  have halloc := inv_alloc_family P.cells (Rounds.body E (P.sched (U := U))) ∅ (E := Set.univ)
  have hknown (κ : GSem nD τ sig → ℕ) : P.opened E κ = iprop((bigSep P.cells fun g => cellInv E P.sched (κ g) g) ∗ bigSep P.cells fun g => reached E g 0) := by
    rw [bigSep_cells, bigSep_cells]
    unfold opened
    simp only [bigSep_sep']
  simp only [brought, bigSep_sep', hdst]
  iintro ⟨⟨Hsem, Hsrc, Hdst, Hlsrc, Hldst, How, Hcr⟩, Hu, #Hlev⟩
  imod hfund $$ Hu with ⟨Hst, Hre, Hat, Htok⟩
  ihave Hb := (Rounds.bodies_intro E (P.sched (U := U)) P.cells) $$ [Hsem Hst]
  · isplitl [Hsem]
    · rw [bigSep_cells]; iexact Hsem
    · iexact Hst
  imod halloc $$ Hb with ⟨%κ, -, Hinv⟩
  imodintro
  have hgoal : (bigSep Finset.univ fun c : Dev nD => P.St (U := U) O E κ c 0) ⊢ bigSep Finset.univ fun c : Dev nD => iprop(∃ κ, P.St (U := U) O E κ c 0) :=
    bigSep_mono fun c _ => show P.St (U := U) O E κ c 0 ⊢ iprop(∃ κ, P.St (U := U) O E κ c 0) by iintro H; iexists κ; iexact H
  iapply hgoal
  simp only [St, hs, hr, hl, bigSep_sep']
  ihave Hk := (Entails.of_eq (hknown κ).symm) $$ [Hinv Hre]
  · isplitl [Hinv] <;> iassumption
  ihave Hk := (show iprop(P.opened E κ ∗ levAts leveled (P.lev O)) ⊢ P.known O E κ from BI.Entails.refl _) $$ [Hk]
  · isplitl [Hk]; · iexact Hk
    iexact Hlev
  ihave Hks := (BI.bigSep_intro_persistent (S := Finset.univ) fun (c : Dev nD) _ => (BI.Entails.refl (P.known O E κ))) $$ Hk
  ihave Hat' := (Entails.of_eq hat0) $$ Hat
  ihave Htok' := (Entails.of_eq htok0) $$ Htok
  icases Hat' with ⟨Has, Har, Hal⟩
  icases Htok' with ⟨Hts, Htr, Htl⟩
  isplitl [Hks]; · iexact Hks
  isplitl [Has Hsrc Hdst Hts Htr]
  · isplitl [Has]; · iexact Has
    isplitl [Hsrc]; · iexact Hsrc
    isplitl [Hdst]; · iexact Hdst
    isplitl [Hts]; · iexact Hts
    iexact Htr
  isplitl [Har Hcr]
  · isplitl [Har]; · iexact Har
    have hcr : (bigSep Finset.univ fun c : Dev nD => (launchCred (fun d => P.owed O d 0) c : sProp 𝕄))
        ⊢ bigSep Finset.univ fun c : Dev nD => bigSep Finset.univ fun i : R => cred (tallyAt (P.gcell c (.inr (.inl i))) () (P.nR i)) :=
      bigSep_mono fun c _ => P.launchCred_recv O c
    iapply hcr
    iexact Hcr
  isplitl [Hal Hlsrc Hldst Htl]
  · isplitl [Hal]; · iexact Hal
    isplitl [Hlsrc]; · iexact Hlsrc
    isplitl [Hldst]; · iexact Hldst
    iexact Htl
  have how : (bigSep Finset.univ fun c : Dev nD => (owes (c.tc : Thread nD τ) (P.owed O c 0) ∅ : sProp 𝕄))
      ⊢ bigSep Finset.univ fun c : Dev nD => iprop(∃ W, owes (c.tc : Thread nD τ) (P.owed O c 0) W) :=
    bigSep_mono fun c _ => show owes (c.tc : Thread nD τ) (P.owed O c 0) ∅ ⊢ iprop(∃ W, owes (c.tc : Thread nD τ) (P.owed O c 0) W) by
      iintro H; iexists ∅; iexact H
  iapply how
  iexact How

/-! ## The end -/

variable {O} in
/-- After every operation: the counters are closed at zero, every source's share is back, and every place written to is
    this device's, holding what was sent (a relayed place: in its relay's share). -/
theorem finish (κ : GSem nD τ sig → ℕ) (c : Dev nD) (p : ℕ) (hS : ∀ i, O.pSWait i < p) (hR : ∀ i, O.pRecv i < p) (hL : ∀ i, O.pLWait i < p) :
    P.St (U := U) O E κ c p ⊢ |={Set.univ}=> iprop((bigSep Finset.univ fun x : Cell R L => semVal (P.gcell c x) 0)
      ∗ (bigSep Finset.univ fun i => P.srcPts i c) ∗ (bigSep Finset.univ fun i => P.stays i c)
      ∗ (bigSep Finset.univ fun i => P.lsrcPts i c) ∗ (bigSep Finset.univ fun i => P.llanded i c)
      ∗ ∃ W, owes (c.tc : Thread nD τ) (0 : CellTallies nD τ sig Unit) W) := by
  have hs : P.sSt (U := U) O E c p = fun i => iprop(atPos E (P.gcell c (.inl i)) 1 ∅ 0 ∗ P.srcPts i c) :=
    funext fun i => (if_neg (by have := hS i; have := O.send_lt i; omega)).trans (if_neg (by have := hS i; omega))
  have hr : P.rSt (U := U) O E c p = fun i => iprop(atPos E (P.gcell c (.inr (.inl i))) 1 ∅ 0 ∗ P.stays i c) :=
    funext fun i => (if_neg (by have := hR i; omega)).trans (by
      unfold kept stays
      rcases h : P.fwd i with _ | k
      · rfl
      · exact congrArg (fun X : sProp 𝕄 => iprop(atPos E (P.gcell c (.inr (.inl i))) 1 ∅ 0 ∗ X)) (if_neg (by have := hS k; have := O.send_lt k; omega)))
  have hl : P.lSt (U := U) O E c p = fun i => iprop(atPos E (P.gcell c (.inr (.inr i))) 1 ∅ 0 ∗ P.llanded i c ∗ P.lsrcPts i c) :=
    funext fun i => (if_neg (by have := hL i; have := O.loc_lt i; omega)).trans (if_neg (by have := hL i; omega))
  have hclose : iprop(P.known O E κ ∗ bigSep Finset.univ fun x : Cell R L => atPos E (P.gcell c x) 1 ∅ 0)
      ⊢ |={Set.univ}=> bigSep Finset.univ fun x : Cell R L => (semVal (P.gcell c x) 0 : sProp 𝕄) := by
    refine BIBase.Entails.trans ?_ (bigSep_fupd Finset.univ fun x : Cell R L => (semVal (P.gcell c x) 0 : sProp 𝕄))
    refine BI.bigSep_with_persistent fun x _ => ?_
    iintro ⟨#HI, Hat⟩
    ihave Hc := (P.known_cell O E κ c x) $$ HI
    icases Hc with ⟨#Hcell, -⟩
    iapply (Rounds.cell_close E (P.sched (U := U)) (Set.mem_univ (κ (P.gcell c x))) (fun h => h) (R := 1) fun r hr => P.duties_later _ r hr)
    isplitl []; · iexact Hcell
    iexact Hat
  have hat := bigSep_cell (R := R) (L := L) fun x => atPos E (P.gcell c x) 1 ∅ 0
  unfold St
  rw [hs, hr, hl, P.owed_end O (fun i => Nat.lt_trans (O.send_lt i) (hS i))]
  simp only [bigSep_sep']
  iintro ⟨#HI, ⟨Has, Hsrc⟩, ⟨Har, Hland⟩, ⟨Hal, Hll, Hlsrc⟩, How⟩
  imod hclose $$ [Has Har Hal] with Hsem
  · isplitl []; · iexact HI
    rw [hat]
    isplitl [Has]; · iexact Has
    isplitl [Har]; · iexact Har
    iexact Hal
  imodintro
  isplitl [Hsem]; · iexact Hsem
  isplitl [Hsrc]; · iexact Hsrc
  isplitl [Hland]; · iexact Hland
  isplitl [Hlsrc]; · iexact Hlsrc
  isplitl [Hll]; · iexact Hll
  iexact How

end Cert.Exchange.Plan

end
-- ==== Proof.MeshLaunch.lean ====
/-
The launch of a mesh program whose devices must agree on something BEFORE any of them runs.

The exchange kernel starts its remote copies with no barrier in front: a device writes into its peers' result arrays
at once. So what a device needs to start — the right to write into a peer's array, and the protocol of a peer's
semaphore — has to be dealt while every device still stands at its launch. The theorem below hands the certificate
ALL devices' launch holdings together (their scoped semaphores and buffers, the arrays, what they owe) and asks for one
assertion per device, from which that device's `@main` is then proved alone.
-/
module

public import Idealize.ShloMosaic.Lib.Pipeline.Launch
public import Idealize.ShloMosaic.Lib.Pipeline.Regions

@[expose] public section

set_option Elab.async false

noncomputable section

namespace Cert.MeshLaunch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- What device `c` holds at launch under tallies `O₀`: the region boundary (scoped buffers, scoped counters at zero),
    its arrays at the launch contents, its unscoped counters, what it owes, its credit and its generator register. -/
def launchHeld (O₀ : Dev nD → CellTallies nD τ sig Ix) (m : (ℓ : Loc nD τ sig) → Buf Val ℓ) (g : Dev nD → PrngReg) (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ launchCred O₀ c ∗ prngReg c (g c))

/-- Every device assigns its counters their levels; the facts are had together. -/
theorem assign_levels (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hcore (t : Thread nD τ) (ht : t.2 ≠ .tc) : (coreLevAts t L lv : sProp 𝕄) = BI.emp := by
    have h (sm : SemLoc sig) : (bigSep (L (t, sm)) fun ι => (levAt (t, sm) ι (lv (t, sm) ι) : sProp 𝕄)) = BI.emp := by
      rw [hL (t, sm) ht, BI.bigSep_empty]
    exact (bigSep_congr fun sm _ => h sm).trans (BI.bigSep_emp_const _)
  have hsc : (bigSep Finset.univ fun d : Dev nD => bigSep (Finset.univ.erase Proc.tc) fun p => (coreLevAts ((d, p) : Thread nD τ) L lv : sProp 𝕄)) = BI.emp :=
    (bigSep_congr fun d _ => (bigSep_congr fun p hp => hcore (d, p) (Finset.ne_of_mem_erase hp)).trans (BI.bigSep_emp_const _)).trans (BI.bigSep_emp_const _)
  have hall : (levAts L lv : sProp 𝕄) = iprop((bigSep Finset.univ fun d : Dev nD => coreLevAts (d.tc : Thread nD τ) L lv) ∗ emp) := by
    rw [show (levAts L lv : sProp 𝕄) = bigSep Finset.univ fun c : Thread nD τ => coreLevAts c L lv
      from (bigSep_univ_prod fun g : GSem nD τ sig => bigSep (L g) fun ι => levAt g ι (lv g ι)), bigSep_threads (fun c : Thread nD τ => coreLevAts c L lv), hsc]
    rfl
  refine (bigSep_mono fun c _ => lev_assign_cells (c.tc : Thread nD τ) L lv).trans <| (BI.bigSep_bupd _ _).trans <| BI.bupd_mono ?_
  rw [hall]
  refine (Entails.of_eq (bigSep_sep' _ _ _)).trans ?_
  iintro ⟨-, H⟩
  isplitl [H]; · iexact H
  iempintro

/-- A mesh program from every device's launch holdings at once: given one assertion `pre c` per device made from all the
    holdings together (`hinit`) and each device's run of `@main` from its own (`hrun`), ending at its region boundary and
    owing nothing, every weakly fair execution terminates, each final memory satisfies what `T c` reads (`hfin`), and
    every counter the launch scopes reads zero. -/
theorem θ_run_mesh [Preorder Lvl] {Λ : Labels} (defs : Defs nD τ sig Val Λ) (𝒱 : Variants)
    (m : (ℓ : Loc nD τ sig) → Buf Val ℓ) (g : Dev nD → PrngReg)
    (main : Dev nD → Prog (TpuEff nD τ sig Val Λ .tc) PUnit)
    (O₀ : Dev nD → CellTallies nD τ sig Ix) (u₀ : U) (L : GSem nD τ sig → Finset Ix) (hL : ∀ g : GSem nD τ sig, g.1.2 ≠ .tc → L g = ∅)
    (lv : GSem nD τ sig → Ix → Lvl) (pre T : Dev nD → sProp 𝕄)
    (hinit : iprop((bigSep Finset.univ fun c : Dev nD => launchHeld O₀ m g c) ∗ ownU u₀
      ∗ levAts L lv) ⊢ |={Set.univ}=> bigSep Finset.univ pre)
    (hrun : ∀ c, pre c ⊢ wp frame (wpE defs 𝒱 (c.tc : Thread nD τ) none) Set.univ (main c) fun _ =>
      iprop(T c ∗ boundary (c.tc : Thread nD τ) ∗ ∃ W, owes (c.tc : Thread nD τ) (0 : CellTallies nD τ sig Ix) W))
    (QY : Dev nD → MemSt nD τ sig Val → Prop)
    (hfin : ∀ c (s' : Phys nD τ sig Val), iprop(T c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run defs (onTc main) ⟨m, fun _ => 0, g⟩ Q := by
  classical
  let fin : Dev nD → sProp 𝕄 := fun c => iprop(T c ∗ boundary (c.tc : Thread nD τ))
  refine (θ_run defs _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) 𝒱 (owing O₀) 0 (noBookings fun _ => le_rfl) (owing_of_ne O₀) u₀ (fun _ => pre) (fun _ => fin)
      (fun _ => iprop(emp)) Set.univ ?_ (fun _ c => ?_) fun _ => ?_))
  · have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => (launchHeld O₀ m g c : sProp 𝕄))
          ∗ bigSep Finset.univ fun c : Dev nD => levels0 c) := by
      refine (bigSep_mono fun c _ => (?_ : _ ⊢ iprop((launchHeld O₀ m g c : sProp 𝕄) ∗ levels0 c))).trans (Entails.of_eq (bigSep_sep _ _ _))
      refine (coreInit_boundary_owing O₀ m g c).trans ?_
      unfold launchHeld
      iintro ⟨Hb, Hub, Hus, HL, Hlev, Hpr, Hcr⟩
      isplitr [Hlev]
      swap; · iexact Hlev
      isplitl [Hb]; · iexact Hb
      isplitl [Hub]; · iexact Hub
      isplitl [Hus]; · iexact Hus
      isplitl [HL]; · iexact HL
      isplitl [Hcr]; · iexact Hcr
      iexact Hpr
    iintro ⟨Hcores, Hu⟩
    ihave Hc := hcores $$ Hcores
    icases Hc with ⟨Hc, Hlv⟩
    imod (assign_levels L lv hL) $$ Hlv with Hlv
    imod hinit $$ [Hc Hu Hlv] with HT
    · isplitl [Hc]; · iexact Hc
      isplitl [Hu]; · iexact Hu
      iexact Hlv
    imodintro
    iexists ()
    isplitl [HT]; · iexact HT
    iempintro
  · refine (hrun c).trans (Sem.wp_mono _ _ _ fun _ => ?_)
    iintro ⟨HT, Hb, HW⟩
    unfold post
    simp only [liftTc_tc, fin]
    isplitl [HT Hb]
    · isplitl [HT]; · iexact HT
      iexact Hb
    iexact HW
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.MeshLaunch

end
-- ==== Proof.ExchangeLaunch.lean ====
/-
The gradient exchange launched: what each device holds at the launch dealt out as the plan asks, each device's region,
and the run of `@main` — every device's results are its own slabs of all devices' arguments, the arguments unchanged.
-/
module

public import proofs.«01_k».proof.Proof.ExchangeRun
public import proofs.«01_k».proof.Proof.ExchangeSlabs
public import proofs.«01_k».proof.Proof.ExchangeDeal
public import proofs.«01_k».proof.Proof.MeshLaunch
public import Idealize.ShloMosaic.Lib.Tactic

@[expose] public section

set_option Elab.async false
set_option maxRecDepth 16384

noncomputable section

namespace Cert.KernelIdeal.Xch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Exchange Cert.KernelIdeal Cert.KernelIdeal.Gen Cert.MeshLaunch
open Idealize.ShloMosaic.Pipeline (Dat)

variable {F : FTy → Type} [FloatOps F]

/-- The ghost state: the pipelines' staging cells', and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev EX : Emb (UR sig nD τ) (MT nD τ sig Unit (Elt F) ℕ UU ℕ) := embR

variable (m : (ℓ : Loc nD τ sig) → Buf (Elt F) ℓ)

/-! ## A device's region -/

/-- What a device holds besides its arrays' slabs when the exchange begins: its state less what it owes. -/
def atStart (c : Dev nD) : sProp 𝕄 :=
  iprop(∃ κ, (plan m).known order EX κ ∗ bigSep Finset.univ ((plan m).sSt order EX c 0) ∗ bigSep Finset.univ ((plan m).rSt order EX c 0)
    ∗ bigSep Finset.univ ((plan m).lSt order EX c 0))

/-- The exchange's counters at zero. -/
def zeros (c : Dev nD) : sProp 𝕄 := bigSep Finset.univ fun x : Plan.Cell R (Fin 4) => semVal ((plan m).gcell c x) 0

/-- The arrays after the exchange. -/
def results (c : Dev nD) : sProp 𝕄 :=
  iprop((bigSep Finset.univ fun a => argWhole m a c) ∗ bigSep Finset.univ fun a => gotWhole m a c)

/-- The region's proof data: no windows; at the start the plan's state, in the end the results. -/
def dats (_ : Fin 1) (c : Dev nD) : Dat τ (Elt F) Unit ℕ UU ℕ cfg0 c where
  A w := w.elim0
  after w _ := w.elim0
  Φ t := match t with
    | ⟨0, _⟩ => atStart m c
    | ⟨_ + 1, _⟩ => iprop(zeros m c ∗ results m c)
  q _ := fullShare
  owed t := match t with
    | ⟨0, _⟩ => (plan m).owed order c 0
    | ⟨_ + 1, _⟩ => 0
  recorded _ := Set.univ

theorem finish_results (κ : GSem nD τ sig → ℕ) (c : Dev nD) :
    (plan m).St order EX κ c 92 ⊢ |={Set.univ}=> (iprop((zeros m c ∗ results m c) ∗ ∃ W, owes (c.tc : Thread nD τ) 0 W) : sProp 𝕄) := by
  have hstay : (fun i => (plan m).stays (U := UU) i c) = fun i => (plan m).landed i (((plan m).peer i).symm c) := rfl
  have hf := (plan m).finish (O := order) EX κ c 92
    (fun i => by have h1 := i.1.isLt; have h2 := i.2.isLt; show 60 + (4 * i.1.val + i.2.val) < 92; omega)
    (fun i => by have h1 := i.1.isLt; have h2 := i.2.isLt; show 32 + (4 * i.1.val + i.2.val) < 92; omega)
    (fun a => by have h1 := a.isLt; show 88 + a.val < 92; omega)
  rw [hstay] at hf
  refine hf.trans (fupd_mono ?_)
  unfold results
  rw [args_eq, ← got_eq]
  iintro ⟨Hz, Hs, Hg, Hl, Hlg, HW⟩
  isplitr [HW]
  · isplitl [Hz]; · unfold zeros; iexact Hz
    isplitl [Hs Hl]
    · isplitl [Hl] <;> iassumption
    isplitl [Hlg] <;> iassumption
  · iexact HW

/-- Nothing over no windows. -/
theorem no_windows (Φ : Fin cfg0.W → sProp 𝕄) : bigSep Finset.univ Φ = (BI.emp : sProp 𝕄) :=
  (congrArg (fun s => bigSep s Φ) (show (Finset.univ : Finset (Fin cfg0.W)) = ∅ from rfl)).trans BI.bigSep_empty

theorem body_obligation (c : Dev nD) : Pipeline.BodyObligation (dats (F := F) m 0 c) (defs₀ (F := F)) Variants.none () Set.univ := fun t => by
  rw [fin_N0 t, no_windows, no_windows]
  show iprop(atStart m c ∗ Pipeline.owesWithin c ((plan m).owed order c 0) ((dats (F := F) m 0 c).bound () 0) ∗ BI.emp)
    ⊢ wp frame (wpE (defs₀ (F := F)) Variants.none (c.tc) none) Set.univ (cc0_exchange_grads (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2)
      fun _ => iprop((zeros m c ∗ results m c) ∗ Pipeline.owesWithin c 0 ((dats (F := F) m 0 c).bound () 1) ∗ BI.emp)
  have hrun (κ : GSem nD τ sig → ℕ) := run_body (F := F) m EX (𝒱 := Variants.none) (κ := κ) (c := c)
    (Q := fun _ => iprop((zeros m c ∗ results m c) ∗ Pipeline.owesWithin c 0 ((dats (F := F) m 0 c).bound () 1) ∗ BI.emp))
    ((finish_results m κ c).trans (fupd_mono (show iprop((zeros m c ∗ results m c) ∗ ∃ W, owes (c.tc : Thread nD τ) 0 W)
        ⊢ iprop((zeros m c ∗ results m c) ∗ Pipeline.owesWithin c 0 ((dats (F := F) m 0 c).bound () 1) ∗ BI.emp) from by
      iintro ⟨H, %W, HW⟩
      isplitl [H]; · iexact H
      isplitl [HW]
      · unfold Pipeline.owesWithin
        iexists W; isplitr
        · ipureintro; exact fun _ _ => Or.inl trivial
        · iexact HW
      · iempintro)))
  unfold atStart Pipeline.owesWithin
  iintro ⟨⟨%κ, Hk, Hs, Hr, Hl⟩, ⟨%W, -, HW⟩, -⟩
  iapply (hrun κ)
  unfold Plan.St
  isplitl [Hk]; · iexact Hk
  isplitl [Hs]; · iexact Hs
  isplitl [Hr]; · iexact Hr
  isplitl [Hl]; · iexact Hl
  iexists W; iexact HW

/-! ## The launch's shares -/

theorem scoped_sS : ∀ i : R, SemLoc.isScoped Kind.tc (sS i : SemLoc sig) = true := by decide
theorem scoped_sR : ∀ i : R, SemLoc.isScoped Kind.tc (sR i : SemLoc sig) = true := by decide
theorem scoped_sL : ∀ a : Fin 4, SemLoc.isScoped Kind.tc (sL a : SemLoc sig) = true := by decide

theorem cell_facts : Pipeline.OwnSemFacts cfg0.spec (plan (F := F) m).cell :=
  ⟨fun k => match k with | .inl i => scoped_sS i | .inr (.inl i) => scoped_sR i | .inr (.inr a) => scoped_sL a, (plan (F := F) m).cell_inj, fun _ w => w.elim0⟩

/-- A device's region boundary and arrays are what the exchange is brought and what waits beside it. -/
def beside (c : Dev nD) : sProp 𝕄 :=
  iprop(scopedBufs (c.tc : Thread nD τ) ∗ opIdle (c.tc : Thread nD τ) ∗ Pipeline.cellsSems0 cfgs 0 c
    ∗ Pipeline.idleSems0 cfgs cellOf_inj 0 (cell_facts (F := F) m) c)

theorem scopedSems_split (c : Dev nD) : (scopedSems0 (c.tc : Thread nD τ) : sProp 𝕄)
    = iprop((Pipeline.cellsSems0 cfgs 0 c ∗ zeros m c) ∗ Pipeline.idleSems0 cfgs cellOf_inj 0 (cell_facts (F := F) m) c) :=
  Pipeline.scopedSems0_split cfgs cellOf_inj 0 winFacts0.to₀ (cell_facts m) c

theorem unscoped_arrays (c : Dev nD) : (unscopedBufs c (fun b => m ((c.tc : Thread nD τ).loc b)) : sProp 𝕄)
    ⊢ iprop((bigSep Finset.univ fun a => argWhole m a c) ∗ bigSep Finset.univ fun a => outWhole m a c) := by
  have h4 (Φ : Fin 4 → sProp 𝕄) : bigSep Finset.univ Φ = iprop(Φ 0 ∗ Φ 1 ∗ Φ 2 ∗ Φ 3) :=
    bigSep_univ_eq_bigSepL [0, 1, 2, 3] (by decide) (by decide) Φ
  rw [Pipeline.unscopedBufs_split cfgs 0 winFacts0.arr_unscoped winFacts0.arr_inj c, h4, h4]
  refine (sep_mono .rfl (Entails.of_eq (unscopedRest0_eq c fun b => m ((c.tc : Thread nD τ).loc b)))).trans ?_
  unfold argWhole outWhole
  iintro ⟨-, H0, H1, H2, H3, G0, G1, G2, G3⟩
  isplitl [H0 H1 H2 H3]
  · isplitl [H0]; · iexact H0
    isplitl [H1]; · iexact H1
    isplitl [H2]; · iexact H2
    iexact H3
  · isplitl [G0]; · iexact G0
    isplitl [G1]; · iexact G1
    isplitl [G2]; · iexact G2
    iexact G3

theorem held_brought (ρ : Dev nD → PrngReg) (c : Dev nD) :
    launchHeld (fun d => (plan m).owed order d 0) m ρ c ⊢ (iprop(beside m c ∗ (plan m).brought order c) : sProp 𝕄) := by
  have hnow : (fun i => (plan m).srcNow (U := UU) i c) = fun i => (plan m).srcPts i c := rfl
  unfold launchHeld boundary beside Plan.brought
  rw [hnow, scopedSems_split m c]
  iintro ⟨⟨Hb, ⟨⟨Hc, Hz⟩, Hi⟩, Hop⟩, Hu, -, HO, Hcr, -⟩
  ihave Ha := (unscoped_arrays m c) $$ Hu
  rw [args_eq, outs_eq]
  icases Ha with ⟨⟨Hls, Hs⟩, Hld, Hd⟩
  isplitl [Hb Hop Hc Hi]
  · isplitl [Hb]; · iexact Hb
    isplitl [Hop]; · iexact Hop
    isplitl [Hc]; · iexact Hc
    iexact Hi
  isplitl [Hz]; · unfold zeros; iexact Hz
  isplitl [Hs]; · iexact Hs
  isplitl [Hd]; · iexact Hd
  isplitl [Hls]; · iexact Hls
  isplitl [Hld]; · iexact Hld
  isplitl [HO]; · iexact HO
  iexact Hcr

/-- What a device holds once the launch has dealt the exchange's state. -/
def pre (c : Dev nD) : sProp 𝕄 :=
  iprop(beside m c ∗ (∃ κ, (plan m).St order EX κ c 0)
    ∗ (bigSep Finset.univ fun p => Pipeline.cellsGhost cfgs EP p c) ∗ bigSep Finset.univ fun p => Pipeline.toksInit cfgs EP p c)

/-- The ghost element the launch starts from. -/
def u₀ : UU := (initOf (Pipeline.cells cfgs cellOf_inj) (Pipeline.launchToks cfgs cellOf_inj), initOf (plan (F := F) m).cells (plan (F := F) m).toks)

theorem dealt (ρ : Dev nD → PrngReg) :
    (iprop((bigSep Finset.univ fun c : Dev nD => launchHeld (fun d => (plan m).owed order d 0) m ρ c) ∗ ownU (u₀ m)
      ∗ levAts Plan.leveled ((plan m).lev order)) : sProp 𝕄)
      ⊢ |={Set.univ}=> bigSep Finset.univ (pre m) := by
  have hpre : (bigSep Finset.univ (pre m) : sProp 𝕄) = iprop((bigSep Finset.univ fun c => beside m c)
      ∗ (bigSep Finset.univ fun c => iprop(∃ κ, (plan m).St order EX κ c 0))
      ∗ (bigSep Finset.univ fun c => bigSep Finset.univ fun p => Pipeline.cellsGhost cfgs EP p c)
      ∗ bigSep Finset.univ fun c => bigSep Finset.univ fun p => Pipeline.toksInit cfgs EP p c) := by
    unfold pre; simp only [bigSep_sep']
  have hheld : (bigSep Finset.univ fun c : Dev nD => launchHeld (fun d => (plan m).owed order d 0) m ρ c : sProp 𝕄)
      ⊢ iprop((bigSep Finset.univ fun c => beside m c) ∗ bigSep Finset.univ fun c => (plan m).brought order c) :=
    (bigSep_mono fun c _ => held_brought m ρ c).trans (Entails.of_eq (bigSep_sep' _ _ _))
  have hdeal := (plan m).deal (U := UU) order EX
  have hfund := Pipeline.fund_ghost (Val := Elt F) (Name := ℕ) (Lvl := ℕ) cfgs EP cellOf_inj
  rw [hpre]
  have hsplit : (ownU (u₀ m) : sProp 𝕄) ⊢ iprop(BI.own (EP (initOf (Pipeline.cells cfgs cellOf_inj) (Pipeline.launchToks cfgs cellOf_inj)))
      ∗ BI.own (EX (initOf (plan (F := F) m).cells (plan (F := F) m).toks))) := ownU_pair _ _
  iintro ⟨Hh, Hu, Hlv⟩
  ihave Hu' := hsplit $$ Hu
  icases Hu' with ⟨Hp, Hx⟩
  ihave Hh' := hheld $$ Hh
  icases Hh' with ⟨Hb, Hbr⟩
  imod hfund $$ Hp with ⟨Hg, Ht⟩
  imod hdeal $$ [Hbr Hx Hlv] with HS
  · isplitl [Hbr]; · iexact Hbr
    isplitl [Hx] <;> iassumption
  imodintro
  isplitl [Hb]; · iexact Hb
  isplitl [HS]; · iexact HS
  isplitl [Hg] <;> iassumption

/-! ## A device's run of `@main` -/

theorem fin1 (Φ : Fin 1 → sProp 𝕄) : bigSep Finset.univ Φ = Φ 0 := by
  rw [Finset.univ_unique, bigSep_singleton]; rfl

theorem run_device (c : Dev nD) : pre m c ⊢ wp frame (wpE (defs (F := F)) (Variants.lift Variants.none) (c.tc : Thread nD τ) none) Set.univ
    (main (F := F) c) fun _ => iprop(results m c ∗ boundary (c.tc : Thread nD τ) ∗ ∃ W, owes (c.tc : Thread nD τ) (0 : CellTallies nD τ sig Unit) W) := by
  have hsb := Pipeline.scopedBufs_split (τ := τ) (Ix := Unit) (Val := Elt F) (Name := ℕ) (U := UU) (Lvl := ℕ) cfgs 0 winFacts0.stage_scoped winFacts0.stage_inj stage_whole0 c
  have hin : iprop(atStart m c ∗ Pipeline.prefHeld (pcfgs (F := F) 0).pre c (fun _ => fullShare) ((cfgs 0).toPCfg_adm (Val := Elt F)).1
      ∗ Pipeline.scopedRest cfg0.spec c) ⊢ (dats (F := F) m 0 c).Φ 0 := by
    show _ ⊢ atStart m c
    iintro ⟨H, -, -⟩; iexact H
  have hout : iprop((dats (F := F) m 0 c).Φ (Fin.last cfg0.N) ∗ Pipeline.cellsSems0 cfgs 0 c ∗ Dat.staging cfg0 c
        ∗ Pipeline.idleSems0 cfgs cellOf_inj 0 (cell_facts (F := F) m) c)
      ⊢ iprop(results m c ∗ scopedSems0 (c.tc : Thread nD τ) ∗ scopedBufs (c.tc : Thread nD τ)) := by
    show iprop((zeros m c ∗ results m c) ∗ _) ⊢ _
    rw [scopedSems_split m c, hsb]
    refine BIBase.Entails.trans ?_ (sep_mono .rfl (sep_mono .rfl (sep_mono .rfl (Entails.of_eq (scopedRest0_eq c).symm))))
    iintro ⟨⟨Hz, HR⟩, Hc, Hst, Hi⟩
    isplitl [HR]; · iexact HR
    isplitl [Hc Hz Hi]
    · isplitl [Hc Hz]
      · isplitl [Hc] <;> iassumption
      · iexact Hi
    isplitl [Hst]; · iexact Hst
    iempintro
  have hne : ∀ w : Fin cfg0.W, 0 < (cfg0.win w).block.numel := fun w => w.elim0
  unfold pre beside
  rw [fin1, fin1, main_chain]
  simp only [Pipeline.chain_cons]
  iintro ⟨⟨Hb, Hop, Hc, Hi⟩, ⟨%κ, HS⟩, Hg, Ht⟩
  iapply (fupd_wp Idealize.ShloMosaic.frame (wpE (defs (F := F)) (Variants.lift Variants.none) (c.tc : Thread nD τ) none) Set.univ _ _)
  imod (Pipeline.cellsInit_alloc cfgs (dats (F := F) m) EP cellOf_inj 0 c) $$ [Hc Hg] with ⟨%κ', -, Hinit⟩
  · isplitl [Hc] <;> iassumption
  imodintro
  iapply (Pipeline.wp_customCall_entry_frame (pcfgs (F := F)) (fun p => (cfgs p).toPCfg_adm) (dats (F := F) m) () EP κ' cellOf_inj 0 defs₀ Variants.none
    (fun _ => fullShare) c Set.univ (fun _ _ => Set.mem_univ _) (body_obligation m c).loose hne none (fun u h => nomatch h)
    (X := atStart m c) (Y := results m c) (R := Pipeline.scopedRest cfg0.spec c) (I := Pipeline.idleSems0 cfgs cellOf_inj 0 (cell_facts (F := F) m) c)
    (Entails.of_eq hsb) hin hout) $$ [HS Hinit Ht Hi Hb]
  · unfold Pipeline.EntryPre Pipeline.PerCore.EntryPre Dat.owesAt
    unfold Plan.St
    icases HS with ⟨Hk, Hs, Hr, Hl, %W, HW⟩
    isplitl [HW Hinit Ht]
    · isplitr; · unfold Dat.arrays; iapply (Entails.of_eq (no_windows _).symm); iempintro
      isplitl [HW]
      · unfold Pipeline.owesWithin
        iexists W; isplitr
        · ipureintro; exact fun _ _ => Or.inl trivial
        · iexact HW
      isplitr; · unfold Pipeline.PerCore.cellsWaits Pipeline.PerCore.RDat.cellsWaits; iapply (Entails.of_eq (no_windows _).symm); iempintro
      isplitl [Hinit] <;> iassumption
    isplitr; · unfold Pipeline.prefHeld; iempintro
    isplitl [Hk Hs Hr Hl]
    · unfold atStart
      iexists κ
      isplitl [Hk]; · iexact Hk
      isplitl [Hs]; · iexact Hs
      isplitl [Hr]; · iexact Hr
      iexact Hl
    isplitl [Hi] <;> iassumption
  · unfold Pipeline.EntryPost Pipeline.PerCore.EntryPost Dat.owesAt Pipeline.owesWithin
    iintro ⟨⟨-, %W, -, HW⟩, HR, Hss, Hsb⟩
    rw [show ((Prog.ret PUnit.unit).bind fun _ => Pipeline.chain [] : Prog (TpuEff nD τ sig (Elt F) (Pipeline.Sig Λ₀ (Fin 1) fun p => (pcfgs (F := F) p).Adm) .tc) PUnit) = pure ⟨⟩ from rfl, wp_pure]
    imodintro
    isplitl [HR]; · iexact HR
    isplitr [HW]
    · unfold boundary
      isplitl [Hsb]; · iexact Hsb
      isplitl [Hss]; · iexact Hss
      iexact Hop
    · iexists W; iexact HW

/-! ## The run -/

/-- What is read at the end off one device's arrays: the arguments as at the launch, the results its slabs of every
    device's arguments. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ s.mem ((c.tc : Thread nD τ).loc main_v1_0) = outF m 0 c c
  ∧ s.mem ((c.tc : Thread nD τ).loc main_v1_1) = outF m 1 c c
  ∧ s.mem ((c.tc : Thread nD τ).loc main_v1_2) = outF m 2 c c
  ∧ s.mem ((c.tc : Thread nD τ).loc main_v1_3) = outF m 3 c c

theorem read_results (c : Dev nD) (s' : Phys nD τ sig (Elt F)) :
    (iprop(results m c ∗ SI s') : sProp 𝕄) ⊢ |={Set.univ}=> iprop(⌜Ends m c s'.mem⌝ ∗ SI s') := by
  have h4 (Φ : Fin 4 → sProp 𝕄) : bigSep Finset.univ Φ = iprop(Φ 0 ∗ Φ 1 ∗ Φ 2 ∗ Φ 3) :=
    bigSep_univ_eq_bigSepL [0, 1, 2, 3] (by decide) (by decide) Φ
  have agree (b : Ref sig .tc) (f : Buf (Elt F) ((c.tc : Thread nD τ).loc b)) :
      (iprop(SI s' ∗ ((c.tc : Thread nD τ).loc b) ↦{fullShare} f) : sProp 𝕄) ⊢ iprop(⌜s'.mem.mem ((c.tc : Thread nD τ).loc b) = f⌝ ∗ SI s') := by
    iintro ⟨HSI, H⟩
    icombine HSI H gives %h
    isplitr
    · ipureintro; exact Buf.eq_of_forall_mem_univ h
    · iexact HSI
  unfold results
  rw [h4, h4]
  simp only [argWhole, gotWhole]
  iintro ⟨⟨⟨A0, A1, A2, A3⟩, G0, G1, G2, G3⟩, HSI⟩
  icombine HSI A0 gives %a0
  icombine HSI A1 gives %a1
  icombine HSI A2 gives %a2
  icombine HSI A3 gives %a3
  ihave Hg0 := (agree main_v1_0 (outF m 0 c c)) $$ [HSI G0]
  · isplitl [HSI] <;> iassumption
  icases Hg0 with ⟨%g0, HSI⟩
  ihave Hg1 := (agree main_v1_1 (outF m 1 c c)) $$ [HSI G1]
  · isplitl [HSI] <;> iassumption
  icases Hg1 with ⟨%g1, HSI⟩
  ihave Hg2 := (agree main_v1_2 (outF m 2 c c)) $$ [HSI G2]
  · isplitl [HSI] <;> iassumption
  icases Hg2 with ⟨%g2, HSI⟩
  ihave Hg3 := (agree main_v1_3 (outF m 3 c c)) $$ [HSI G3]
  · isplitl [HSI] <;> iassumption
  icases Hg3 with ⟨%g3, HSI⟩
  imodintro
  isplitr
  · ipureintro
    exact ⟨⟨Buf.eq_of_forall_mem_univ a0, Buf.eq_of_forall_mem_univ a1, Buf.eq_of_forall_mem_univ a2, Buf.eq_of_forall_mem_univ a3⟩,
      g0, g1, g2, g3⟩
  · iexact HSI

theorem run_main (ρ : Dev nD → PrngReg) :
    θ_run (defs (F := F)) (onTc (τ := τ) (main (F := F))) ⟨m, fun _ => 0, ρ⟩ fun r => (∀ c, Ends m c r.2) ∧ r.2.sem = fun _ => 0 :=
  θ_run_mesh (Ix := Unit) (Name := ℕ) (U := UU) (Lvl := ℕ) (defs (F := F)) (Variants.lift Variants.none) m ρ (main (F := F))
    (fun d => (plan m).owed order d 0) (u₀ m) Plan.leveled (fun _ h => if_neg h) ((plan m).lev order) (pre m) (results m) (dealt m ρ) (run_device m) (Ends m) (read_results m)
    fun s h hs => ⟨h, sem_eq_zero_of_scoped (by decide) hs⟩

end Cert.KernelIdeal.Xch

end
-- ==== Proof.ExchangeValues.lean ====
/-
The exchange's value: what a device ends with is its block of the whole array whose 64 slabs are read as 8 × 8 and
transposed.
-/
module

public import proofs.«01_k».proof.Proof.ExchangeLaunch
public import Idealize.ShloMosaic.Lib.Layout
public import Idealize.ShloMosaic.Lib.ValueLayout
public import Idealize.ShloMosaic.Lib.Pointwise.Index
public import Idealize.ShloMosaic.Lib.Pipeline.Value

@[expose] public section

set_option Elab.async false

noncomputable section

namespace Cert.KernelIdeal.Xch

open Idealize.ShloMosaic Idealize.ShloMosaic.TcCoe Cert.KernelIdeal

/-- Block `c` of the transposed slabs, at an index, is the whole array at block `x 0`'s slab `c`. -/
theorem swapped_at {α : Type} {A B : ℕ} (v : (⟨3, ![64, A, B]⟩ : Shape).Idx → α)
    (h₁ : (⟨3, ![64, A, B]⟩ : Shape).ShapeCasts ⟨4, ![8, 8, A, B]⟩)
    (ht : (⟨4, ![8, 8, A, B]⟩ : Shape).Transposes [1, 0, 2, 3] ⟨4, ![8, 8, A, B]⟩)
    (h₂ : (⟨4, ![8, 8, A, B]⟩ : Shape).ShapeCasts ⟨3, ![64, A, B]⟩)
    (hT : Layout.Tiles ⟨3, ![8, A, B]⟩ ⟨3, ![64, A, B]⟩ 0 8) (c : Dev nD) (x : (⟨3, ![8, A, B]⟩ : Shape).Idx) :
    Layout.block ⟨3, ![8, A, B]⟩ ⟨3, ![64, A, B]⟩ 0 8 c
        (shapeCast _ (transpose ⟨4, ![8, 8, A, B]⟩ [1, 0, 2, 3] (shapeCast _ v h₁) ht) h₂) hT x
      = Layout.block ⟨3, ![8, A, B]⟩ ⟨3, ![64, A, B]⟩ 0 8 (slabOf x) v hT (at0 c x) := by
  rw [Layout.block_apply, Layout.block_apply]
  have e0 (d : Fin 8) (y : (⟨3, ![8, A, B]⟩ : Shape).Idx) : (hT.idx d y 0).val = d.val * 8 + (y 0).val := rfl
  have e1 (d : Fin 8) (y : (⟨3, ![8, A, B]⟩ : Shape).Idx) : (hT.idx d y 1).val = (y 1).val := rfl
  have e2 (d : Fin 8) (y : (⟨3, ![8, A, B]⟩ : Shape).Idx) : (hT.idx d y 2).val = (y 2).val := rfl
  have hc : (at0 c x 0).val = c.val := rfl
  have h1 : (at0 c x 1).val = (x 1).val := rfl
  have h2 : (at0 c x 2).val = (x 2).val := rfl
  refine (shapeCast_apply _ h₂ _ (ix4 (n0 := 8) (n1 := 8) (n2 := A) (n3 := B) c (x 0) (x 1) (x 2)) ?_).trans
    ((transpose_apply _ _ ht _ (ix4 (n0 := 8) (n1 := 8) (n2 := A) (n3 := B) (x 0) c (x 1) (x 2)) ?_).trans (shapeCast_apply _ h₁ _ _ ?_))
  · rw [Shape.rowMajor_val_four, Shape.rowMajor_val_three]
    rfl
  · intro b; fin_cases b <;> rfl
  · rw [Shape.rowMajor_val_four, Shape.rowMajor_val_three]
    rfl

variable {F : FTy → Type} [FloatOps F]

/-- Result 0 of device `c` is its block of the reference's. -/
theorem value0 (m : (ℓ : Loc nD τ sig) → Buf (Elt F) ℓ) (v : (⟨3, ![64, 2048, 771]⟩ : Shape).Idx → Elt F .bf16)
    (hv : ∀ d : Dev nD, m ((d.tc : Thread nD τ).loc main_arg0) = Layout.block ⟨3, ![8, 2048, 771]⟩ ⟨3, ![64, 2048, 771]⟩ 0 8 d v)
    (h₁ : (⟨3, ![64, 2048, 771]⟩ : Shape).ShapeCasts ⟨4, ![8, 8, 2048, 771]⟩) (ht : (⟨4, ![8, 8, 2048, 771]⟩ : Shape).Transposes [1, 0, 2, 3] ⟨4, ![8, 8, 2048, 771]⟩)
    (h₂ : (⟨4, ![8, 8, 2048, 771]⟩ : Shape).ShapeCasts ⟨3, ![64, 2048, 771]⟩) (c : Dev nD) :
    outF m 0 c c = Layout.block ⟨3, ![8, 2048, 771]⟩ ⟨3, ![64, 2048, 771]⟩ 0 8 c
      (shapeCast _ (transpose ⟨4, ![8, 8, 2048, 771]⟩ [1, 0, 2, 3] (shapeCast _ v h₁) ht) h₂) :=
  funext fun x => (congrFun (hv (slabOf x)) (at0 c x)).trans (swapped_at v h₁ ht h₂ _ c x).symm

/-- Result 1 of device `c` is its block of the reference's. -/
theorem value1 (m : (ℓ : Loc nD τ sig) → Buf (Elt F) ℓ) (v : (⟨3, ![64, 256, 2048]⟩ : Shape).Idx → Elt F .bf16)
    (hv : ∀ d : Dev nD, m ((d.tc : Thread nD τ).loc main_arg1) = Layout.block ⟨3, ![8, 256, 2048]⟩ ⟨3, ![64, 256, 2048]⟩ 0 8 d v)
    (h₁ : (⟨3, ![64, 256, 2048]⟩ : Shape).ShapeCasts ⟨4, ![8, 8, 256, 2048]⟩) (ht : (⟨4, ![8, 8, 256, 2048]⟩ : Shape).Transposes [1, 0, 2, 3] ⟨4, ![8, 8, 256, 2048]⟩)
    (h₂ : (⟨4, ![8, 8, 256, 2048]⟩ : Shape).ShapeCasts ⟨3, ![64, 256, 2048]⟩) (c : Dev nD) :
    outF m 1 c c = Layout.block ⟨3, ![8, 256, 2048]⟩ ⟨3, ![64, 256, 2048]⟩ 0 8 c
      (shapeCast _ (transpose ⟨4, ![8, 8, 256, 2048]⟩ [1, 0, 2, 3] (shapeCast _ v h₁) ht) h₂) :=
  funext fun x => (congrFun (hv (slabOf x)) (at0 c x)).trans (swapped_at v h₁ ht h₂ _ c x).symm

/-- Result 2 of device `c` is its block of the reference's. -/
theorem value2 (m : (ℓ : Loc nD τ sig) → Buf (Elt F) ℓ) (v : (⟨3, ![64, 2048, 1024]⟩ : Shape).Idx → Elt F .bf16)
    (hv : ∀ d : Dev nD, m ((d.tc : Thread nD τ).loc main_arg2) = Layout.block ⟨3, ![8, 2048, 1024]⟩ ⟨3, ![64, 2048, 1024]⟩ 0 8 d v)
    (h₁ : (⟨3, ![64, 2048, 1024]⟩ : Shape).ShapeCasts ⟨4, ![8, 8, 2048, 1024]⟩) (ht : (⟨4, ![8, 8, 2048, 1024]⟩ : Shape).Transposes [1, 0, 2, 3] ⟨4, ![8, 8, 2048, 1024]⟩)
    (h₂ : (⟨4, ![8, 8, 2048, 1024]⟩ : Shape).ShapeCasts ⟨3, ![64, 2048, 1024]⟩) (c : Dev nD) :
    outF m 2 c c = Layout.block ⟨3, ![8, 2048, 1024]⟩ ⟨3, ![64, 2048, 1024]⟩ 0 8 c
      (shapeCast _ (transpose ⟨4, ![8, 8, 2048, 1024]⟩ [1, 0, 2, 3] (shapeCast _ v h₁) ht) h₂) :=
  funext fun x => (congrFun (hv (slabOf x)) (at0 c x)).trans (swapped_at v h₁ ht h₂ _ c x).symm

/-- Result 3 of device `c` is its block of the reference's. -/
theorem value3 (m : (ℓ : Loc nD τ sig) → Buf (Elt F) ℓ) (v : (⟨3, ![64, 1024, 2048]⟩ : Shape).Idx → Elt F .bf16)
    (hv : ∀ d : Dev nD, m ((d.tc : Thread nD τ).loc main_arg3) = Layout.block ⟨3, ![8, 1024, 2048]⟩ ⟨3, ![64, 1024, 2048]⟩ 0 8 d v)
    (h₁ : (⟨3, ![64, 1024, 2048]⟩ : Shape).ShapeCasts ⟨4, ![8, 8, 1024, 2048]⟩) (ht : (⟨4, ![8, 8, 1024, 2048]⟩ : Shape).Transposes [1, 0, 2, 3] ⟨4, ![8, 8, 1024, 2048]⟩)
    (h₂ : (⟨4, ![8, 8, 1024, 2048]⟩ : Shape).ShapeCasts ⟨3, ![64, 1024, 2048]⟩) (c : Dev nD) :
    outF m 3 c c = Layout.block ⟨3, ![8, 1024, 2048]⟩ ⟨3, ![64, 1024, 2048]⟩ 0 8 c
      (shapeCast _ (transpose ⟨4, ![8, 8, 1024, 2048]⟩ [1, 0, 2, 3] (shapeCast _ v h₁) ht) h₂) :=
  funext fun x => (congrFun (hv (slabOf x)) (at0 c x)).trans (swapped_at v h₁ ht h₂ _ c x).symm

end Cert.KernelIdeal.Xch

end
-- ==== Proof.GatherPlan.lean ====
/-
The weight gather of `GatherIdeal` as a plan of copies (Exchange.lean). Device `c` sends its slab of each of the four
arrays `a` to four peers — the device of its own pair (the bit of weight 1) and the three other devices of its parity
(the bits of weight 4, 2 and both) — and relays to the device of its pair what those three have sent to it; it copies
its own slab within its memory. Every copy of the slab of device `j` ends in slab `j` of the receiver's result.

Also here: the printed slab views, whose offsets are words of the device id, are those slabs.
-/
module

public import proofs.«01_k».proof.Proof.Gen.GatherIdeal.Frame
public import proofs.«01_k».proof.Proof.Exchange
public import Idealize.ShloMosaic.Lib.Transfers
public import Idealize.ShloMosaic.Lib.Pointwise.Index

@[expose] public section

set_option Elab.async false
set_option maxRecDepth 16384

noncomputable section

namespace Cert.GatherIdeal.Gth

open Idealize.ShloMosaic Idealize.ShloMosaic.TcCoe
open Idealize.SL Idealize.SL.RA Idealize.SL.BI
open Cert.Exchange Cert.GatherIdeal Cert.GatherIdeal.Gen

variable {F : FTy → Type} [FloatOps F]

/-! ## The peers -/

/-- Which bits of a device's number its direct peer `k` differs in: the device of its pair, the three others of its parity. -/
def mask : Fin 4 → ℕ := ![1, 4, 2, 6]

/-- The direct peer `k` of device `c`. -/
def peerOf (k : Fin 4) (c : Dev nD) : Dev nD := ⟨(Nat.xor c.val (mask k)) % 8, Nat.mod_lt _ (by decide)⟩

theorem peerOf_peerOf : ∀ (k : Fin 4) (c : Dev nD), peerOf k (peerOf k c) = c := by decide +kernel

/-- Every device is the direct peer `k` of exactly one. -/
def dpeer (k : Fin 4) : Equiv.Perm (Dev nD) := ⟨peerOf k, peerOf k, peerOf_peerOf k, peerOf_peerOf k⟩

/-- The copies of one array: to direct peer `k`, or a relay of what direct peer `j + 1` sent. -/
abbrev Route : Type := Fin 4 ⊕ Fin 3

/-- The remote copies: route, array. -/
abbrev R : Type := Route × Fin 4

/-- The device a copy goes to: relays go to the pair's other device. -/
def peer : Route → Equiv.Perm (Dev nD)
  | .inl k => dpeer k
  | .inr _ => dpeer 0

/-- The device whose slab a copy of device `c` carries. -/
def org : Route → Dev nD → Dev nD
  | .inl _, c => c
  | .inr j, c => dpeer j.succ c

/-- The number a route has among the counters. -/
def num : Route → ℕ
  | .inl k => k.val
  | .inr j => 4 + j.val

theorem num_lt : ∀ r, num r < 7 := by decide

/-! ## The slabs -/

/-- The shape of a slab of array `a`. -/
abbrev sh : Fin 4 → Shape
  | 0 => S2048x771
  | 1 => S256x2048
  | 2 => S2048x1024
  | 3 => S1024x2048

theorem inb0 : ∀ j : Dev nD, ∀ a, (![j.val, 0, 0] : Fin 3 → Nat) a + S1x2048x771.size a ≤ S8x2048x771.size a := by decide +kernel
theorem inb1 : ∀ j : Dev nD, ∀ a, (![j.val, 0, 0] : Fin 3 → Nat) a + S1x256x2048.size a ≤ S8x256x2048.size a := by decide +kernel
theorem inb2 : ∀ j : Dev nD, ∀ a, (![j.val, 0, 0] : Fin 3 → Nat) a + S1x2048x1024.size a ≤ S8x2048x1024.size a := by decide +kernel
theorem inb3 : ∀ j : Dev nD, ∀ a, (![j.val, 0, 0] : Fin 3 → Nat) a + S1x1024x2048.size a ≤ S8x1024x2048.size a := by decide +kernel

/-- Argument `a`: the device's own slab. -/
def arg : (a : Fin 4) → Memref sig .tc .hbm (sh a) .bf16
  | 0 => Memref.whole main_arg0
  | 1 => Memref.whole main_arg1
  | 2 => Memref.whole main_arg2
  | 3 => Memref.whole main_arg3

/-- Slab `j` of result `a`. -/
def outSlab : (a : Fin 4) → Dev nD → Memref sig .tc .hbm (sh a) .bf16
  | 0, j => ((Memref.whole main_v1_0).slice (Rect.unit (s := S8x2048x771) ![j.val, 0, 0] S1x2048x771.size (inb0 j)) (fun _ => rfl)).squeeze S2048x771 squeezes_S1x2048x771_S2048x771
  | 1, j => ((Memref.whole main_v1_1).slice (Rect.unit (s := S8x256x2048) ![j.val, 0, 0] S1x256x2048.size (inb1 j)) (fun _ => rfl)).squeeze S256x2048 squeezes_S1x256x2048_S256x2048
  | 2, j => ((Memref.whole main_v1_2).slice (Rect.unit (s := S8x2048x1024) ![j.val, 0, 0] S1x2048x1024.size (inb2 j)) (fun _ => rfl)).squeeze S2048x1024 squeezes_S1x2048x1024_S2048x1024
  | 3, j => ((Memref.whole main_v1_3).slice (Rect.unit (s := S8x1024x2048) ![j.val, 0, 0] S1x1024x2048.size (inb3 j)) (fun _ => rfl)).squeeze S1024x2048 squeezes_S1x1024x2048_S1024x2048

/-- A printed slab of result 0 is slab `j` when its offsets are. -/
theorem outSlab0 {off : Fin 3 → Nat} {j : Dev nD} (h : off = ![j.val, 0, 0]) (p : ∀ a, off a + S1x2048x771.size a ≤ S8x2048x771.size a) :
    ((Memref.whole main_v1_0).slice (Rect.unit (s := S8x2048x771) off S1x2048x771.size p) (fun _ => rfl)).squeeze S2048x771 squeezes_S1x2048x771_S2048x771 = outSlab 0 j := by
  subst h; rfl

/-- A printed slab of result 1 is slab `j` when its offsets are. -/
theorem outSlab1 {off : Fin 3 → Nat} {j : Dev nD} (h : off = ![j.val, 0, 0]) (p : ∀ a, off a + S1x256x2048.size a ≤ S8x256x2048.size a) :
    ((Memref.whole main_v1_1).slice (Rect.unit (s := S8x256x2048) off S1x256x2048.size p) (fun _ => rfl)).squeeze S256x2048 squeezes_S1x256x2048_S256x2048 = outSlab 1 j := by
  subst h; rfl

/-- A printed slab of result 2 is slab `j` when its offsets are. -/
theorem outSlab2 {off : Fin 3 → Nat} {j : Dev nD} (h : off = ![j.val, 0, 0]) (p : ∀ a, off a + S1x2048x1024.size a ≤ S8x2048x1024.size a) :
    ((Memref.whole main_v1_2).slice (Rect.unit (s := S8x2048x1024) off S1x2048x1024.size p) (fun _ => rfl)).squeeze S2048x1024 squeezes_S1x2048x1024_S2048x1024 = outSlab 2 j := by
  subst h; rfl

/-- A printed slab of result 3 is slab `j` when its offsets are. -/
theorem outSlab3 {off : Fin 3 → Nat} {j : Dev nD} (h : off = ![j.val, 0, 0]) (p : ∀ a, off a + S1x1024x2048.size a ≤ S8x1024x2048.size a) :
    ((Memref.whole main_v1_3).slice (Rect.unit (s := S8x1024x2048) off S1x1024x2048.size p) (fun _ => rfl)).squeeze S1024x2048 squeezes_S1x1024x2048_S1024x2048 = outSlab 3 j := by
  subst h; rfl

/-! ## The printed offsets and devices -/

theorem off1 : ∀ c : Dev nD, k0_off1 c = ![c.val, 0, 0] := by decide +kernel
theorem off2 : ∀ c : Dev nD, k0_off2 c = ![c.val, 0, 0] := by decide +kernel
theorem off3 : ∀ c : Dev nD, k0_off3 c = ![c.val, 0, 0] := by decide +kernel
theorem off4 : ∀ c : Dev nD, k0_off4 c = ![c.val, 0, 0] := by decide +kernel
theorem off5 : ∀ c : Dev nD, k0_off5 c = ![(dpeer 1 c).val, 0, 0] := by decide +kernel
theorem off6 : ∀ c : Dev nD, k0_off6 c = ![(dpeer 1 c).val, 0, 0] := by decide +kernel
theorem off7 : ∀ c : Dev nD, k0_off7 c = ![(dpeer 1 c).val, 0, 0] := by decide +kernel
theorem off8 : ∀ c : Dev nD, k0_off8 c = ![(dpeer 1 c).val, 0, 0] := by decide +kernel
theorem off9 : ∀ c : Dev nD, k0_off9 c = ![(dpeer 2 c).val, 0, 0] := by decide +kernel
theorem off10 : ∀ c : Dev nD, k0_off10 c = ![(dpeer 2 c).val, 0, 0] := by decide +kernel
theorem off11 : ∀ c : Dev nD, k0_off11 c = ![(dpeer 2 c).val, 0, 0] := by decide +kernel
theorem off12 : ∀ c : Dev nD, k0_off12 c = ![(dpeer 2 c).val, 0, 0] := by decide +kernel
theorem off13 : ∀ c : Dev nD, k0_off13 c = ![(dpeer 3 c).val, 0, 0] := by decide +kernel
theorem off14 : ∀ c : Dev nD, k0_off14 c = ![(dpeer 3 c).val, 0, 0] := by decide +kernel
theorem off15 : ∀ c : Dev nD, k0_off15 c = ![(dpeer 3 c).val, 0, 0] := by decide +kernel
theorem off16 : ∀ c : Dev nD, k0_off16 c = ![(dpeer 3 c).val, 0, 0] := by decide +kernel
theorem dev1 : ∀ c : Dev nD, (⟨k0_dev1 c, k0_dev1_lt c⟩ : Dev nD) = dpeer 0 c := by decide +kernel
theorem dev2 : ∀ c : Dev nD, (⟨k0_dev2 c, k0_dev2_lt c⟩ : Dev nD) = dpeer 1 c := by decide +kernel
theorem dev3 : ∀ c : Dev nD, (⟨k0_dev3 c, k0_dev3_lt c⟩ : Dev nD) = dpeer 2 c := by decide +kernel
theorem dev4 : ∀ c : Dev nD, (⟨k0_dev4 c, k0_dev4_lt c⟩ : Dev nD) = dpeer 3 c := by decide +kernel
theorem dev5 : ∀ c : Dev nD, (⟨k0_dev5 c, k0_dev5_lt c⟩ : Dev nD) = dpeer 0 c := by decide +kernel
theorem dev6 : ∀ c : Dev nD, (⟨k0_dev6 c, k0_dev6_lt c⟩ : Dev nD) = dpeer 1 c := by decide +kernel
theorem dev7 : ∀ c : Dev nD, (⟨k0_dev7 c, k0_dev7_lt c⟩ : Dev nD) = dpeer 2 c := by decide +kernel
theorem dev8 : ∀ c : Dev nD, (⟨k0_dev8 c, k0_dev8_lt c⟩ : Dev nD) = dpeer 3 c := by decide +kernel
theorem dev9 : ∀ c : Dev nD, (⟨k0_dev9 c, k0_dev9_lt c⟩ : Dev nD) = dpeer 0 c := by decide +kernel
theorem dev10 : ∀ c : Dev nD, (⟨k0_dev10 c, k0_dev10_lt c⟩ : Dev nD) = dpeer 1 c := by decide +kernel
theorem dev11 : ∀ c : Dev nD, (⟨k0_dev11 c, k0_dev11_lt c⟩ : Dev nD) = dpeer 2 c := by decide +kernel
theorem dev12 : ∀ c : Dev nD, (⟨k0_dev12 c, k0_dev12_lt c⟩ : Dev nD) = dpeer 3 c := by decide +kernel
theorem dev13 : ∀ c : Dev nD, (⟨k0_dev13 c, k0_dev13_lt c⟩ : Dev nD) = dpeer 0 c := by decide +kernel
theorem dev14 : ∀ c : Dev nD, (⟨k0_dev14 c, k0_dev14_lt c⟩ : Dev nD) = dpeer 1 c := by decide +kernel
theorem dev15 : ∀ c : Dev nD, (⟨k0_dev15 c, k0_dev15_lt c⟩ : Dev nD) = dpeer 2 c := by decide +kernel
theorem dev16 : ∀ c : Dev nD, (⟨k0_dev16 c, k0_dev16_lt c⟩ : Dev nD) = dpeer 3 c := by decide +kernel
theorem dev17 : ∀ c : Dev nD, (⟨k0_dev17 c, k0_dev17_lt c⟩ : Dev nD) = dpeer 0 c := by decide +kernel
theorem dev18 : ∀ c : Dev nD, (⟨k0_dev18 c, k0_dev18_lt c⟩ : Dev nD) = dpeer 0 c := by decide +kernel
theorem dev19 : ∀ c : Dev nD, (⟨k0_dev19 c, k0_dev19_lt c⟩ : Dev nD) = dpeer 0 c := by decide +kernel
theorem dev20 : ∀ c : Dev nD, (⟨k0_dev20 c, k0_dev20_lt c⟩ : Dev nD) = dpeer 0 c := by decide +kernel
theorem dev21 : ∀ c : Dev nD, (⟨k0_dev21 c, k0_dev21_lt c⟩ : Dev nD) = dpeer 0 c := by decide +kernel
theorem dev22 : ∀ c : Dev nD, (⟨k0_dev22 c, k0_dev22_lt c⟩ : Dev nD) = dpeer 0 c := by decide +kernel
theorem dev23 : ∀ c : Dev nD, (⟨k0_dev23 c, k0_dev23_lt c⟩ : Dev nD) = dpeer 0 c := by decide +kernel
theorem dev24 : ∀ c : Dev nD, (⟨k0_dev24 c, k0_dev24_lt c⟩ : Dev nD) = dpeer 0 c := by decide +kernel
theorem dev25 : ∀ c : Dev nD, (⟨k0_dev25 c, k0_dev25_lt c⟩ : Dev nD) = dpeer 0 c := by decide +kernel
theorem dev26 : ∀ c : Dev nD, (⟨k0_dev26 c, k0_dev26_lt c⟩ : Dev nD) = dpeer 0 c := by decide +kernel
theorem dev27 : ∀ c : Dev nD, (⟨k0_dev27 c, k0_dev27_lt c⟩ : Dev nD) = dpeer 0 c := by decide +kernel
theorem dev28 : ∀ c : Dev nD, (⟨k0_dev28 c, k0_dev28_lt c⟩ : Dev nD) = dpeer 0 c := by decide +kernel

/-! ## The contents -/

/-- What argument `a` of device `c` holds in the memory `m`. -/
def argBuf (m : (ℓ : Loc nD τ sig) → Buf (Elt F) ℓ) : (a : Fin 4) → (c : Dev nD) → Buf (Elt F) ((arg a).view.loc (c.tc : Thread nD τ))
  | 0, c => m ((c.tc : Thread nD τ).loc main_arg0)
  | 1, c => m ((c.tc : Thread nD τ).loc main_arg1)
  | 2, c => m ((c.tc : Thread nD τ).loc main_arg2)
  | 3, c => m ((c.tc : Thread nD τ).loc main_arg3)

/-- What result array `a` of device `c` holds in the memory `m`. -/
def outBuf (m : (ℓ : Loc nD τ sig) → Buf (Elt F) ℓ) : (a : Fin 4) → (j c : Dev nD) → Buf (Elt F) ((outSlab a j).view.loc (c.tc : Thread nD τ))
  | 0, _, c => m ((c.tc : Thread nD τ).loc main_v1_0)
  | 1, _, c => m ((c.tc : Thread nD τ).loc main_v1_1)
  | 2, _, c => m ((c.tc : Thread nD τ).loc main_v1_2)
  | 3, _, c => m ((c.tc : Thread nD τ).loc main_v1_3)

/-- The slab an element is in. -/
def slabOf {A B : Nat} (x : (⟨3, ![8, A, B]⟩ : Shape).Idx) : Dev nD := x 0

/-- The element's place in its slab. -/
def inSlab {A B : Nat} (x : (⟨3, ![8, A, B]⟩ : Shape).Idx) : (⟨2, ![A, B]⟩ : Shape).Idx := ix2 (x 1) (x 2)

/-- What result `a` holds in the end, on every device: slab `j` is device `j`'s argument. -/
def outF (m : (ℓ : Loc nD τ sig) → Buf (Elt F) ℓ) : (a : Fin 4) → (j c : Dev nD) → Buf (Elt F) ((outSlab a j).view.loc (c.tc : Thread nD τ))
  | 0, _, c => fun x : S8x2048x771.Idx => m (((slabOf x).tc : Thread nD τ).loc main_arg0) (inSlab x : S2048x771.Idx)
  | 1, _, c => fun x : S8x256x2048.Idx => m (((slabOf x).tc : Thread nD τ).loc main_arg1) (inSlab x : S256x2048.Idx)
  | 2, _, c => fun x : S8x2048x1024.Idx => m (((slabOf x).tc : Thread nD τ).loc main_arg2) (inSlab x : S2048x1024.Idx)
  | 3, _, c => fun x : S8x1024x2048.Idx => m (((slabOf x).tc : Thread nD τ).loc main_arg3) (inSlab x : S1024x2048.Idx)

/-! ## The plan -/

/-- The credit of one slab of array `a`. -/
def credit (a : Fin 4) : ℕ := (outSlab a 0).view.dmaCredit

theorem credit_pos (a : Fin 4) : 0 < credit a := View.dmaCredit_pos _ (by revert a; decide)

/-- The counters: 28 of the senders, 28 of the receivers, 4 of the local copies. -/
def sS (i : R) : SemLoc sig := .dma ⟨7 * i.2.val + num i.1, by have := num_lt i.1; have := i.2.isLt; show _ < 60; omega⟩
def sR (i : R) : SemLoc sig := .dma ⟨28 + (7 * i.2.val + num i.1), by have := num_lt i.1; have := i.2.isLt; show _ < 60; omega⟩
def sL (a : Fin 4) : SemLoc sig := .dma ⟨56 + a.val, by have := a.isLt; show _ < 60; omega⟩

theorem cell_inj : Function.Injective (Sum.elim sS (Sum.elim sR sL)) := by decide +kernel

theorem amount_out (a : Fin 4) (j : Dev nD) (s : DmaSem sig) : (outSlab a j).view.amount (.dma s) = credit a := by
  fin_cases a <;> rfl

/-- Where a copy reads: a direct copy the argument, a relay the slab it carries. -/
def src : (i : R) → Dev nD → Memref sig .tc .hbm (sh i.2) .bf16
  | (.inl _, a), _ => arg a
  | (.inr j, a), c => outSlab a (dpeer j.succ c)

/-- What stands there. -/
def srcF (m : (ℓ : Loc nD τ sig) → Buf (Elt F) ℓ) : (i : R) → (c : Dev nD) → Buf (Elt F) ((src i c).view.loc (c.tc : Thread nD τ))
  | (.inl _, a), c => argBuf m a c
  | (.inr j, a), c => outF m a (dpeer j.succ c) c

/-- The share of the source a copy reads with: the argument is read by four direct copies and the local one. -/
def share : Route → PosShare TreeShare
  | .inl k => Transfers.shareTok fullShare 4 k
  | .inr _ => fullShare

/-- The delivery a relay passes on. -/
def via : R → Option R
  | (.inl _, _) => none
  | (.inr j, a) => some (.inl j.succ, a)

/-- The relay that passes a delivery on. -/
def fwd : R → Option R
  | (.inl k, a) => if h : k = 0 then none else some (.inr (k.pred h), a)
  | (.inr _, _) => none

/-- The gather. -/
def plan (m : (ℓ : Loc nD τ sig) → Buf (Elt F) ℓ) : Plan nD τ sig (Elt F) R (Fin 4) where
  peer i := peer i.1
  sS := sS
  sR := sR
  sL := sL
  shR i := sh i.2
  src := src
  dst i c := outSlab i.2 (org i.1 c)
  q i := share i.1
  srcF := srcF m
  dstF i c := outBuf m i.2 _ (peer i.1 c)
  shL := sh
  lsrc a _ := arg a
  ldst a c := outSlab a c
  lq _ := Transfers.shareDrop fullShare 4
  lsrcF a c := argBuf m a c
  ldstF a c := outBuf m a _ c
  nR i := credit i.2
  nL := credit
  nR_pos i := credit_pos i.2
  nL_pos := credit_pos
  cell_inj := cell_inj
  amtR i c := amount_out i.2 _ _
  amtL a c := amount_out a c _
  via := via
  fwd := fwd
  via_fwd := by decide +kernel
  routes i c := decide_eq_true (Or.inr (Or.inl ⟨rfl, rfl⟩))

/-- The order of a device's operations: the local starts, the direct starts, the deliveries of its parity's devices and
    their relays, the other deliveries, the senders' waits, the local waits. The deliveries that are relayed have level 0. -/
def order : Order R (Fin 4) where
  pLoc a := a.val
  pSend
    | (.inl k, a) => 4 + (4 * a.val + k.val)
    | (.inr j, a) => 21 + 2 * (4 * j.val + a.val)
  pRecv
    | (.inl k, a) => if k = 0 then 44 + 4 * a.val else 12 + (8 * k.val + 2 * a.val)
    | (.inr j, a) => 45 + (4 * a.val + j.val)
  pSWait
    | (.inl k, a) => 60 + (4 * a.val + k.val)
    | (.inr j, a) => 76 + (4 * j.val + a.val)
  pLWait a := 88 + a.val
  inj := by decide +kernel
  send_lt := by decide +kernel
  loc_lt := by decide +kernel
  lv
    | (.inl _, _) => 0
    | (.inr _, _) => 1
  lv_lt := by decide +kernel

/-- Every remote copy is started before position 44. -/
theorem sends_before {p : ℕ} (h : 44 ≤ p) (j : R) : order.pSend j < p :=
  Nat.lt_of_lt_of_le ((by decide +kernel : ∀ j, order.pSend j < 44) j) h

/-- A delivery that is to be relayed is waited for before the relay. -/
theorem relayed (i : R) : ∀ k, fwd i = some k → order.pRecv i < order.pSend k := by
  revert i; decide +kernel

end Cert.GatherIdeal.Gth

end
-- ==== Proof.GatherSlabs.lean ====
/-
The gathered arrays slab by slab: which elements a slab is, what a copy leaves in one, and a device's arrays as the
shares and slabs the plan of the gather (GatherPlan.lean) brings and takes back. Every copy — the local one, a direct
one, a relayed one — leaves in slab `j` what device `j`'s argument holds.
-/
module

public import proofs.«01_k».proof.Proof.GatherPlan
public import Idealize.ShloMosaic.Lib.ValueLayout

@[expose] public section

set_option Elab.async false
set_option maxRecDepth 16384

noncomputable section

namespace Cert.GatherIdeal.Gth

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.GatherIdeal Cert.GatherIdeal.Gen

variable {F : FTy → Type} [FloatOps F] {U : Type} [URA U]

local notation "𝕄" => MT nD τ sig Unit (Elt F) ℕ U ℕ

/-! ## The elements of a slab -/

/-- The elements of a slab's rectangle. -/
theorem mem_rect {A B : Nat} {j : Dev nD} (p : ∀ a, (![j.val, 0, 0] : Fin 3 → Nat) a + (⟨3, ![1, A, B]⟩ : Shape).size a ≤ (⟨3, ![8, A, B]⟩ : Shape).size a)
    {x : (⟨3, ![8, A, B]⟩ : Shape).Idx} :
    x ∈ (Rect.unit (s := ⟨3, ![8, A, B]⟩) ![j.val, 0, 0] (⟨3, ![1, A, B]⟩ : Shape).size p).set ↔ slabOf x = j := by
  rw [Rect.mem_set_unit]
  constructor
  · intro h
    have h0 := h 0
    apply Fin.ext
    change j.val ≤ (x 0).val ∧ (x 0).val < j.val + 1 at h0
    show (x 0).val = j.val
    omega
  · intro h a
    have h' : (x 0).val = j.val := congrArg Fin.val h
    fin_cases a
    · show j.val ≤ (x 0).val ∧ (x 0).val < j.val + 1
      omega
    · show 0 ≤ (x 1).val ∧ (x 1).val < 0 + A
      have : (x 1).val < A := (x 1).isLt
      omega
    · show 0 ≤ (x 2).val ∧ (x 2).val < 0 + B
      have : (x 2).val < B := (x 2).isLt
      omega

/-- The element a slab's view has at `y` is at `y` in its slab. -/
theorem inSlab_emb {A B : Nat} {j : Dev nD} (p : ∀ a, (![j.val, 0, 0] : Fin 3 → Nat) a + (⟨3, ![1, A, B]⟩ : Shape).size a ≤ (⟨3, ![8, A, B]⟩ : Shape).size a)
    (h : (⟨2, ![A, B]⟩ : Shape).numel = (⟨3, ![1, A, B]⟩ : Shape).numel) (y : (⟨2, ![A, B]⟩ : Shape).Idx) :
    inSlab ((Rect.unit (s := ⟨3, ![8, A, B]⟩) ![j.val, 0, 0] (⟨3, ![1, A, B]⟩ : Shape).size p).emb (Shape.reshapeEquiv h y)) = y := by
  have hy : y = ix2 (n0 := A) (n1 := B) (y 0) (y 1) := by funext a; fin_cases a <;> rfl
  have e : Shape.reshapeEquiv h y = ix3 (⟨0, Nat.one_pos⟩ : Fin 1) (y 0) (y 1) :=
    (congrArg (Shape.reshapeEquiv h) hy).trans (ValueIdx.reshapeEquiv_ix2_1ab h (y 0) (y 1))
  rw [e]
  funext a
  fin_cases a
  · apply Fin.ext
    show 0 + 1 * (y 0).val = (y 0).val
    omega
  · apply Fin.ext
    show 0 + 1 * (y 1).val = (y 1).val
    omega

/-- A buffer whole is its blocks, the blocks told apart by a function of the element. -/
theorem blocks_of {ℓ : Loc nD τ sig} (I : Dev nD → Finset (Idx ℓ)) (s : Idx ℓ → Dev nD) (h : ∀ j x, x ∈ I j ↔ s x = j) (f : Buf (Elt F) ℓ) :
    (ℓ ↦{fullShare} f : sProp 𝕄) = bigSep Finset.univ fun j => ℓ ↦[I j]{fullShare} f :=
  Ring.pointsTo_blocks I (fun j j' hne => Finset.disjoint_left.mpr fun x hx hx' => hne (((h j x).mp hx).symm.trans ((h j' x).mp hx')))
    (Finset.eq_univ_iff_forall.mpr fun x => Finset.mem_biUnion.mpr ⟨s x, Finset.mem_univ _, (h _ x).mpr rfl⟩) f

theorem mem_outSlab0 (j : Dev nD) (x : S8x2048x771.Idx) : x ∈ (outSlab 0 j).view.set ↔ slabOf x = j := by
  unfold outSlab
  rw [Memref.set_view_squeeze]
  exact (iff_of_eq (congrArg (fun I : Finset S8x2048x771.Idx => x ∈ I) (View.set_slice_whole main_v1_0 _))).trans (mem_rect _)

theorem mem_outSlab1 (j : Dev nD) (x : S8x256x2048.Idx) : x ∈ (outSlab 1 j).view.set ↔ slabOf x = j := by
  unfold outSlab
  rw [Memref.set_view_squeeze]
  exact (iff_of_eq (congrArg (fun I : Finset S8x256x2048.Idx => x ∈ I) (View.set_slice_whole main_v1_1 _))).trans (mem_rect _)

theorem mem_outSlab2 (j : Dev nD) (x : S8x2048x1024.Idx) : x ∈ (outSlab 2 j).view.set ↔ slabOf x = j := by
  unfold outSlab
  rw [Memref.set_view_squeeze]
  exact (iff_of_eq (congrArg (fun I : Finset S8x2048x1024.Idx => x ∈ I) (View.set_slice_whole main_v1_2 _))).trans (mem_rect _)

theorem mem_outSlab3 (j : Dev nD) (x : S8x1024x2048.Idx) : x ∈ (outSlab 3 j).view.set ↔ slabOf x = j := by
  unfold outSlab
  rw [Memref.set_view_squeeze]
  exact (iff_of_eq (congrArg (fun I : Finset S8x1024x2048.Idx => x ∈ I) (View.set_slice_whole main_v1_3 _))).trans (mem_rect _)

/-! ## The contents -/

/-- Device `c`'s argument `a` at a share. -/
def inPts (m : (ℓ : Loc nD τ sig) → Buf (Elt F) ℓ) (a : Fin 4) (c : Dev nD) (q : PosShare TreeShare) : sProp 𝕄 :=
  (arg a).view.loc (c.tc : Thread nD τ) ↦[(arg a).view.set]{q} argBuf m a c

/-- Slab `j` of device `c`'s result `a`, as launched. -/
def outPts (m : (ℓ : Loc nD τ sig) → Buf (Elt F) ℓ) (a : Fin 4) (c j : Dev nD) : sProp 𝕄 :=
  (outSlab a j).view.loc (c.tc : Thread nD τ) ↦[(outSlab a j).view.set]{fullShare} outBuf m a j c

/-- Slab `j` of device `c`'s result `a`, in the end. -/
def gotPts (m : (ℓ : Loc nD τ sig) → Buf (Elt F) ℓ) (a : Fin 4) (c j : Dev nD) : sProp 𝕄 :=
  (outSlab a j).view.loc (c.tc : Thread nD τ) ↦[(outSlab a j).view.set]{fullShare} outF m a j c

/-- Device `c`'s argument `a`, whole. -/
def argWhole (m : (ℓ : Loc nD τ sig) → Buf (Elt F) ℓ) : (a : Fin 4) → (c : Dev nD) → sProp 𝕄
  | 0, c => ((c.tc : Thread nD τ).loc main_arg0) ↦{fullShare} m ((c.tc : Thread nD τ).loc main_arg0)
  | 1, c => ((c.tc : Thread nD τ).loc main_arg1) ↦{fullShare} m ((c.tc : Thread nD τ).loc main_arg1)
  | 2, c => ((c.tc : Thread nD τ).loc main_arg2) ↦{fullShare} m ((c.tc : Thread nD τ).loc main_arg2)
  | 3, c => ((c.tc : Thread nD τ).loc main_arg3) ↦{fullShare} m ((c.tc : Thread nD τ).loc main_arg3)

/-- Device `c`'s result `a`, whole, as launched. -/
def outWhole (m : (ℓ : Loc nD τ sig) → Buf (Elt F) ℓ) : (a : Fin 4) → (c : Dev nD) → sProp 𝕄
  | 0, c => ((c.tc : Thread nD τ).loc main_v1_0) ↦{fullShare} m ((c.tc : Thread nD τ).loc main_v1_0)
  | 1, c => ((c.tc : Thread nD τ).loc main_v1_1) ↦{fullShare} m ((c.tc : Thread nD τ).loc main_v1_1)
  | 2, c => ((c.tc : Thread nD τ).loc main_v1_2) ↦{fullShare} m ((c.tc : Thread nD τ).loc main_v1_2)
  | 3, c => ((c.tc : Thread nD τ).loc main_v1_3) ↦{fullShare} m ((c.tc : Thread nD τ).loc main_v1_3)

/-- Device `c`'s result `a`, whole, in the end. -/
def gotWhole (m : (ℓ : Loc nD τ sig) → Buf (Elt F) ℓ) : (a : Fin 4) → (c : Dev nD) → sProp 𝕄
  | 0, c => ((c.tc : Thread nD τ).loc main_v1_0) ↦{fullShare} outF m 0 c c
  | 1, c => ((c.tc : Thread nD τ).loc main_v1_1) ↦{fullShare} outF m 1 c c
  | 2, c => ((c.tc : Thread nD τ).loc main_v1_2) ↦{fullShare} outF m 2 c c
  | 3, c => ((c.tc : Thread nD τ).loc main_v1_3) ↦{fullShare} outF m 3 c c

theorem outWhole_split (m : (ℓ : Loc nD τ sig) → Buf (Elt F) ℓ) (c : Dev nD) (a : Fin 4) :
    (outWhole m a c : sProp 𝕄) = bigSep Finset.univ fun j => outPts m a c j :=
  match a with
  | 0 => blocks_of (ℓ := (c.tc : Thread nD τ).loc main_v1_0) (fun j => (outSlab 0 j).view.set) (slabOf (A := 2048) (B := 771)) mem_outSlab0 _
  | 1 => blocks_of (ℓ := (c.tc : Thread nD τ).loc main_v1_1) (fun j => (outSlab 1 j).view.set) (slabOf (A := 256) (B := 2048)) mem_outSlab1 _
  | 2 => blocks_of (ℓ := (c.tc : Thread nD τ).loc main_v1_2) (fun j => (outSlab 2 j).view.set) (slabOf (A := 2048) (B := 1024)) mem_outSlab2 _
  | 3 => blocks_of (ℓ := (c.tc : Thread nD τ).loc main_v1_3) (fun j => (outSlab 3 j).view.set) (slabOf (A := 1024) (B := 2048)) mem_outSlab3 _

theorem gotWhole_split (m : (ℓ : Loc nD τ sig) → Buf (Elt F) ℓ) (c : Dev nD) (a : Fin 4) :
    (gotWhole m a c : sProp 𝕄) = bigSep Finset.univ fun j => gotPts m a c j :=
  match a with
  | 0 => blocks_of (ℓ := (c.tc : Thread nD τ).loc main_v1_0) (fun j => (outSlab 0 j).view.set) (slabOf (A := 2048) (B := 771)) mem_outSlab0 (outF m 0 c c)
  | 1 => blocks_of (ℓ := (c.tc : Thread nD τ).loc main_v1_1) (fun j => (outSlab 1 j).view.set) (slabOf (A := 256) (B := 2048)) mem_outSlab1 (outF m 1 c c)
  | 2 => blocks_of (ℓ := (c.tc : Thread nD τ).loc main_v1_2) (fun j => (outSlab 2 j).view.set) (slabOf (A := 2048) (B := 1024)) mem_outSlab2 (outF m 2 c c)
  | 3 => blocks_of (ℓ := (c.tc : Thread nD τ).loc main_v1_3) (fun j => (outSlab 3 j).view.set) (slabOf (A := 1024) (B := 2048)) mem_outSlab3 (outF m 3 c c)

theorem argWhole_eq (m : (ℓ : Loc nD τ sig) → Buf (Elt F) ℓ) (c : Dev nD) (a : Fin 4) : (argWhole m a c : sProp 𝕄) = inPts m a c fullShare :=
  match a with
  | 0 => congrArg (fun I => (((c.tc : Thread nD τ).loc main_arg0) ↦[I]{fullShare} m ((c.tc : Thread nD τ).loc main_arg0) : sProp 𝕄)) (View.set_whole main_arg0).symm
  | 1 => congrArg (fun I => (((c.tc : Thread nD τ).loc main_arg1) ↦[I]{fullShare} m ((c.tc : Thread nD τ).loc main_arg1) : sProp 𝕄)) (View.set_whole main_arg1).symm
  | 2 => congrArg (fun I => (((c.tc : Thread nD τ).loc main_arg2) ↦[I]{fullShare} m ((c.tc : Thread nD τ).loc main_arg2) : sProp 𝕄)) (View.set_whole main_arg2).symm
  | 3 => congrArg (fun I => (((c.tc : Thread nD τ).loc main_arg3) ↦[I]{fullShare} m ((c.tc : Thread nD τ).loc main_arg3) : sProp 𝕄)) (View.set_whole main_arg3).symm

/-- An argument whole: the share the local copy reads with and the four the direct copies read with. -/
theorem argWhole_split (m : (ℓ : Loc nD τ sig) → Buf (Elt F) ℓ) (c : Dev nD) (a : Fin 4) :
    (argWhole m a c : sProp 𝕄) = iprop(inPts m a c (Transfers.shareDrop fullShare 4) ∗ bigSep Finset.univ fun k : Fin 4 => inPts m a c (Transfers.shareTok fullShare 4 k)) := by
  have h : (inPts m a c fullShare : sProp 𝕄) ⊣⊢ iprop(inPts m a c (Transfers.shareDrop fullShare 4) ∗ bigSep Finset.univ fun k : Fin 4 => inPts m a c (Transfers.shareTok fullShare 4 k)) :=
    Transfers.pointsTo_toks fullShare 4
  exact (argWhole_eq m c a).trans (BI.Entails.antisymm h.1 h.2)

/-- What a copy from device `j`'s argument leaves in slab `j`. -/
theorem written (m : (ℓ : Loc nD τ sig) → Buf (Elt F) ℓ) (a : Fin 4) (c j : Dev nD) (x) (hx : x ∈ (outSlab a j).view.set) :
    (outSlab a j).view.write (Elt F) (outBuf m a j c) ((arg a).view.read (Elt F) (argBuf m a j)) Finset.univ x = outF m a j c x := by
  obtain ⟨y, -, rfl⟩ := Finset.mem_map.mp hx
  refine (View.write_emb_of_mem (v := (outSlab a j).view) _ _ (Finset.mem_univ y)).trans ?_
  match a with
  | 0 =>
    have hj : slabOf ((outSlab 0 j).view.emb y : S8x2048x771.Idx) = j := (mem_outSlab0 j _).mp hx
    have he : inSlab ((outSlab 0 j).view.emb y : S8x2048x771.Idx) = (y : S2048x771.Idx) := inSlab_emb _ _ _
    exact Eq.symm ((congrArg (fun d : Dev nD => (m ((d.tc : Thread nD τ).loc main_arg0) (inSlab ((outSlab 0 j).view.emb y : S8x2048x771.Idx) : S2048x771.Idx) : Elt F .bf16)) hj).trans
      (congrArg (m ((j.tc : Thread nD τ).loc main_arg0)) he))
  | 1 =>
    have hj : slabOf ((outSlab 1 j).view.emb y : S8x256x2048.Idx) = j := (mem_outSlab1 j _).mp hx
    have he : inSlab ((outSlab 1 j).view.emb y : S8x256x2048.Idx) = (y : S256x2048.Idx) := inSlab_emb _ _ _
    exact Eq.symm ((congrArg (fun d : Dev nD => (m ((d.tc : Thread nD τ).loc main_arg1) (inSlab ((outSlab 1 j).view.emb y : S8x256x2048.Idx) : S256x2048.Idx) : Elt F .bf16)) hj).trans
      (congrArg (m ((j.tc : Thread nD τ).loc main_arg1)) he))
  | 2 =>
    have hj : slabOf ((outSlab 2 j).view.emb y : S8x2048x1024.Idx) = j := (mem_outSlab2 j _).mp hx
    have he : inSlab ((outSlab 2 j).view.emb y : S8x2048x1024.Idx) = (y : S2048x1024.Idx) := inSlab_emb _ _ _
    exact Eq.symm ((congrArg (fun d : Dev nD => (m ((d.tc : Thread nD τ).loc main_arg2) (inSlab ((outSlab 2 j).view.emb y : S8x2048x1024.Idx) : S2048x1024.Idx) : Elt F .bf16)) hj).trans
      (congrArg (m ((j.tc : Thread nD τ).loc main_arg2)) he))
  | 3 =>
    have hj : slabOf ((outSlab 3 j).view.emb y : S8x1024x2048.Idx) = j := (mem_outSlab3 j _).mp hx
    have he : inSlab ((outSlab 3 j).view.emb y : S8x1024x2048.Idx) = (y : S1024x2048.Idx) := inSlab_emb _ _ _
    exact Eq.symm ((congrArg (fun d : Dev nD => (m ((d.tc : Thread nD τ).loc main_arg3) (inSlab ((outSlab 3 j).view.emb y : S8x1024x2048.Idx) : S1024x2048.Idx) : Elt F .bf16)) hj).trans
      (congrArg (m ((j.tc : Thread nD τ).loc main_arg3)) he))

/-- What a relay of slab `j` leaves in slab `j`. -/
theorem rewritten (m : (ℓ : Loc nD τ sig) → Buf (Elt F) ℓ) (a : Fin 4) (c c' j : Dev nD) (x) (hx : x ∈ (outSlab a j).view.set) :
    (outSlab a j).view.write (Elt F) (outBuf m a j c) ((outSlab a j).view.read (Elt F) (outF m a j c')) Finset.univ x = outF m a j c x := by
  obtain ⟨y, -, rfl⟩ := Finset.mem_map.mp hx
  refine (View.write_emb_of_mem (v := (outSlab a j).view) _ _ (Finset.mem_univ y)).trans ?_
  match a with
  | 0 => rfl
  | 1 => rfl
  | 2 => rfl
  | 3 => rfl

/-! ## The slabs as the plan's -/

/-- The device whose slab comes to device `c` by route `r`. -/
def comes (r : Route) (c : Dev nD) : Dev nD := org r ((peer r).symm c)

theorem comes_inj : ∀ (c : Dev nD) (r r' : Route), comes r c = comes r' c → r = r' := by decide +kernel

/-- The slabs of all other devices come, each by one route. -/
theorem erase_eq : ∀ c : Dev nD, (Finset.univ.erase c : Finset (Dev nD)) = Finset.univ.map ⟨fun r : Route => comes r c, fun r r' h => comes_inj c r r' h⟩ := by
  decide +kernel

theorem landed_at (m : (ℓ : Loc nD τ sig) → Buf (Elt F) ℓ) (i : R) (c : Dev nD) :
    ((plan m).landed i c : sProp 𝕄) = gotPts m i.2 (peer i.1 c) (org i.1 c) :=
  match i with
  | (.inl k, a) => pointsTo_congr fun x hx => written m a _ c x hx
  | (.inr j, a) => pointsTo_congr fun x hx => rewritten m a _ c _ x hx

theorem landed_eq (m : (ℓ : Loc nD τ sig) → Buf (Elt F) ℓ) (c : Dev nD) (i : R) :
    ((plan m).landed i (((plan m).peer i).symm c) : sProp 𝕄) = gotPts m i.2 c (comes i.1 c) :=
  (landed_at m i _).trans (congrArg (fun d => gotPts m i.2 d (comes i.1 c)) ((peer i.1).apply_symm_apply c))

theorem dstPts_eq (m : (ℓ : Loc nD τ sig) → Buf (Elt F) ℓ) (c : Dev nD) (i : R) :
    ((plan m).dstPts i (((plan m).peer i).symm c) : sProp 𝕄) = outPts m i.2 c (comes i.1 c) :=
  congrArg (fun d => outPts m i.2 d (comes i.1 c)) ((peer i.1).apply_symm_apply c)

theorem llanded_eq (m : (ℓ : Loc nD τ sig) → Buf (Elt F) ℓ) (c : Dev nD) (a : Fin 4) : ((plan m).llanded a c : sProp 𝕄) = gotPts m a c c :=
  pointsTo_congr fun x hx => written m a c c x hx

/-- A relay reads what the delivery it passes on has brought. -/
theorem relay_src (m : (ℓ : Loc nD τ sig) → Buf (Elt F) ℓ) (j : Fin 3) (a : Fin 4) (c : Dev nD) :
    ((plan m).landed (.inl j.succ, a) (((plan m).peer (.inl j.succ, a)).symm c) : sProp 𝕄) ⊢ (plan m).srcPts (.inr j, a) c :=
  Entails.of_eq (landed_eq m c (.inl j.succ, a))

/-! ## A device's arrays -/

/-- A family over the remote copies: the direct ones and the relays. -/
theorem bigSep_R (Φ : R → sProp 𝕄) : bigSep Finset.univ Φ
    = iprop((bigSep Finset.univ fun k : Fin 4 => bigSep Finset.univ fun a => Φ (.inl k, a))
      ∗ bigSep Finset.univ fun j : Fin 3 => bigSep Finset.univ fun a => Φ (.inr j, a)) := by
  rw [bigSep_univ_prod, bigSep_univ_sum]
  rfl

/-- A family over the direct copies: to the device of the pair, and to those of the parity. -/
theorem bigSep_4 (Φ : Fin 4 → sProp 𝕄) : bigSep Finset.univ Φ = iprop(Φ 0 ∗ bigSep Finset.univ fun j : Fin 3 => Φ j.succ) := by
  have h4 : bigSep Finset.univ Φ = iprop(Φ 0 ∗ Φ 1 ∗ Φ 2 ∗ Φ 3) := bigSep_univ_eq_bigSepL [0, 1, 2, 3] (by decide) (by decide) Φ
  have h3 : (bigSep Finset.univ fun j : Fin 3 => Φ j.succ) = iprop(Φ 1 ∗ Φ 2 ∗ Φ 3) :=
    bigSep_univ_eq_bigSepL [0, 1, 2] (by decide) (by decide) fun j : Fin 3 => Φ j.succ
  rw [h4, h3]

/-- The slabs of the four arrays: the own ones and those that come by remote copy. -/
theorem bigSep_slabs (c : Dev nD) (Φ : Fin 4 → Dev nD → sProp 𝕄) :
    (bigSep Finset.univ fun a => bigSep Finset.univ (Φ a))
      = iprop((bigSep Finset.univ fun a => Φ a c) ∗ bigSep Finset.univ fun i : R => Φ i.2 (comes i.1 c)) := by
  have hd (Ψ : Dev nD → sProp 𝕄) : bigSep Finset.univ Ψ = iprop(Ψ c ∗ bigSep Finset.univ fun r : Route => Ψ (comes r c)) := by
    have e : bigSep Finset.univ Ψ = iprop(Ψ c ∗ bigSep (Finset.univ.erase c) Ψ) := bigSep_erase (Finset.mem_univ c)
    rw [e, erase_eq c, bigSep_map]
    rfl
  rw [bigSep_congr fun a _ => hd (Φ a), bigSep_sep', bigSep_univ_prod (fun i : R => Φ i.2 (comes i.1 c)),
    Pipeline.bigSep_univ_comm (fun (a : Fin 4) (r : Route) => Φ a (comes r c))]

/-- A device's arguments are the sources of its local and direct copies. -/
theorem args_eq (m : (ℓ : Loc nD τ sig) → Buf (Elt F) ℓ) (c : Dev nD) :
    (bigSep Finset.univ fun a => argWhole m a c : sProp 𝕄)
      = iprop((bigSep Finset.univ fun a => (plan m).lsrcPts a c) ∗ bigSep Finset.univ fun k : Fin 4 => bigSep Finset.univ fun a => (plan m).srcPts (.inl k, a) c) := by
  rw [bigSep_congr fun a _ => argWhole_split m c a, bigSep_sep',
    Pipeline.bigSep_univ_comm (fun (a : Fin 4) (k : Fin 4) => inPts m a c (Transfers.shareTok fullShare 4 k))]
  rfl

/-- At the start these are all the sources there are. -/
theorem sources (m : (ℓ : Loc nD τ sig) → Buf (Elt F) ℓ) (c : Dev nD) :
    (bigSep Finset.univ fun k : Fin 4 => bigSep Finset.univ fun a => (plan m).srcPts (.inl k, a) c : sProp 𝕄)
      ⊢ bigSep Finset.univ fun i => (plan m).srcNow i c := by
  have hr : (bigSep Finset.univ fun j : Fin 3 => bigSep Finset.univ fun a : Fin 4 => (plan m).srcNow (U := U) (.inr j, a) c) = iprop(emp) := by
    refine (bigSep_congr fun j _ => ?_).trans (bigSep_emp_const _)
    exact (bigSep_congr fun a _ => rfl).trans (bigSep_emp_const _)
  rw [bigSep_R, hr]
  exact Laws.sep_emp.2

/-- A device's results are the destinations of the copies to it. -/
theorem outs_eq (m : (ℓ : Loc nD τ sig) → Buf (Elt F) ℓ) (c : Dev nD) :
    (bigSep Finset.univ fun a => outWhole m a c : sProp 𝕄)
      = iprop((bigSep Finset.univ fun a => (plan m).ldstPts a c) ∗ bigSep Finset.univ fun i => (plan m).dstPts i (((plan m).peer i).symm c)) := by
  rw [bigSep_congr fun a _ => outWhole_split m c a, bigSep_slabs c fun a => outPts m a c, bigSep_congr fun i _ => dstPts_eq m c i]
  rfl

/-- After the copies: the arguments' shares are back, and the results are what was copied, be it relayed or not. -/
theorem after_copies (m : (ℓ : Loc nD τ sig) → Buf (Elt F) ℓ) (c : Dev nD) :
    (iprop((bigSep Finset.univ fun i => (plan m).srcPts i c) ∗ (bigSep Finset.univ fun i => (plan m).stays i c)
      ∗ (bigSep Finset.univ fun a => (plan m).lsrcPts a c) ∗ bigSep Finset.univ fun a => (plan m).llanded a c) : sProp 𝕄)
      ⊢ iprop((bigSep Finset.univ fun a => argWhole m a c) ∗ bigSep Finset.univ fun a => gotWhole m a c) := by
  rw [args_eq, bigSep_congr fun a _ => gotWhole_split m c a, bigSep_slabs c fun a => gotPts m a c,
    bigSep_congr fun a _ => llanded_eq m c a, bigSep_R fun i => (plan m).srcPts i c, bigSep_R fun i => (plan m).stays i c,
    bigSep_R fun i => gotPts m i.2 c (comes i.1 c), bigSep_4 fun k => bigSep Finset.univ fun a => gotPts m a c (comes (.inl k) c),
    bigSep_4 fun k => bigSep Finset.univ fun a => (plan m).stays (.inl k, a) c]
  have h0 : (bigSep Finset.univ fun a : Fin 4 => (plan m).stays (U := U) (.inl 0, a) c) = bigSep Finset.univ fun a => gotPts m a c (comes (.inl 0) c) :=
    bigSep_congr fun a _ => landed_eq m c (.inl 0, a)
  have hr : (bigSep Finset.univ fun j : Fin 3 => bigSep Finset.univ fun a : Fin 4 => (plan m).stays (U := U) (.inr j, a) c)
      = bigSep Finset.univ fun j : Fin 3 => bigSep Finset.univ fun a => gotPts m a c (comes (.inr j) c) :=
    bigSep_congr fun j _ => bigSep_congr fun a _ => landed_eq m c (.inr j, a)
  have hs : (bigSep Finset.univ fun j : Fin 3 => bigSep Finset.univ fun a : Fin 4 => (plan m).srcPts (U := U) (.inr j, a) c)
      = bigSep Finset.univ fun j : Fin 3 => bigSep Finset.univ fun a => gotPts m a c (comes (.inl j.succ) c) := rfl
  rw [h0, hr, hs]
  iintro ⟨⟨Hd, Hrel⟩, ⟨⟨H0, -⟩, Hr⟩, Hl, Hg⟩
  isplitl [Hl Hd]
  · isplitl [Hl] <;> iassumption
  isplitl [Hg]; · iexact Hg
  isplitl [H0 Hrel]
  · isplitl [H0] <;> iassumption
  iexact Hr

end Cert.GatherIdeal.Gth

end
-- ==== Proof.GatherRun.lean ====
/-
A device's run of the weight gather, part by part as the body is printed: each operation is the plan's operation at
its position, so the run takes the state at position 0 to the state at position 92, where every copy has been waited for.
-/
module

public import proofs.«01_k».proof.Proof.GatherSlabs
public import proofs.«01_k».proof.Proof.Gen.GatherIdeal.Skeleton

@[expose] public section

set_option Elab.async false
set_option maxRecDepth 16384

noncomputable section

namespace Cert.GatherIdeal.Gth

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.GatherIdeal Cert.GatherIdeal.Gen

variable {F : FTy → Type} [FloatOps F] {U : Type} [URA U]
variable (m : (ℓ : Loc nD τ sig) → Buf (Elt F) ℓ)
variable (E : Emb (UR sig nD τ) (MT nD τ sig Unit (Elt F) ℕ U ℕ)) [E.LandsIn upEmb]
variable {𝒱 : Variants} {κ : GSem nD τ sig → ℕ} {c : Dev nD} {Q : PUnit → sProp (MT nD τ sig Unit (Elt F) ℕ U ℕ)}

/-- Part 1 of the body: operations 0 to 1. -/
theorem run_part1
    (K : (Σ' (d0 : Dev nD) (v2 : BitVec 32) (v5 : BitVec 32) (v8 : BitVec 32) (v9 : BitVec 32) (v10 : BitVec 32) (v11 : BitVec 32) (v12 : BitVec 32), BitVec 32) → Prog (TpuEff nD τ sig (Elt F) Λ₀ .tc) PUnit)
    (hK : ∀ v2 v5 v8 v9 v10 v11 v12 v13, (plan m).St order E κ c 2 ⊢ wp frame (wpE defs₀ 𝒱 (c.tc : Thread nD τ) none) Set.univ (K ⟨c, v2, v5, v8, v9, v10, v11, v12, v13⟩) Q) :
    (plan m).St order E κ c 0 ⊢ wp frame (wpE defs₀ 𝒱 (c.tc : Thread nD τ) none) Set.univ (k0_part1 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 >>= K) Q := by
  rw [k0_part1_eq_skeleton]; unfold k0_part1_skel
  simp only [Prog.lift, Prog.bind_op, Prog.bind_ret, Prog.pure_eq_ret, wp_deviceId]
  refine (plan m).step_loc order E 0 rfl rfl (outSlab0 (off1 c) _) rfl ?_
  refine (plan m).step_loc order E 1 rfl rfl (outSlab1 (off2 c) _) rfl ?_
  exact hK _ _ _ _ _ _ _ _

/-- Part 2 of the body: operations 2 to 3. -/
theorem run_part2 (v2 : BitVec 32) (v5 : BitVec 32) (v8 : BitVec 32)
    (K : (BitVec 32) → Prog (TpuEff nD τ sig (Elt F) Λ₀ .tc) PUnit)
    (hK : ∀ x, (plan m).St order E κ c 4 ⊢ wp frame (wpE defs₀ 𝒱 (c.tc : Thread nD τ) none) Set.univ (K x) Q) :
    (plan m).St order E κ c 2 ⊢ wp frame (wpE defs₀ 𝒱 (c.tc : Thread nD τ) none) Set.univ (k0_part2 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 >>= K) Q := by
  rw [k0_part2_eq_skeleton]; unfold k0_part2_skel
  simp only [Prog.lift, Prog.bind_op, Prog.bind_ret, Prog.pure_eq_ret]
  refine (plan m).step_loc order E 2 rfl rfl (outSlab2 (off3 c) _) rfl ?_
  refine (plan m).step_loc order E 3 rfl rfl (outSlab3 (off4 c) _) rfl ?_
  exact hK _

/-- Part 3 of the body: no operation. -/
theorem run_part3 (v2 : BitVec 32) (v5 : BitVec 32) (v8 : BitVec 32) (v70 : BitVec 32)
    (K : (PUnit) → Prog (TpuEff nD τ sig (Elt F) Λ₀ .tc) PUnit)
    (hK : ∀ x, (plan m).St order E κ c 4 ⊢ wp frame (wpE defs₀ 𝒱 (c.tc : Thread nD τ) none) Set.univ (K x) Q) :
    (plan m).St order E κ c 4 ⊢ wp frame (wpE defs₀ 𝒱 (c.tc : Thread nD τ) none) Set.univ (k0_part3 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 v2 v5 v8 v70 >>= K) Q := by
  rw [k0_part3_eq_skeleton]; unfold k0_part3_skel
  simp only [Prog.lift, Prog.bind_op, Prog.bind_ret, Prog.pure_eq_ret]
  exact hK _

/-- Part 4 of the body: operations 4 to 5. -/
theorem run_part4 (v2 : BitVec 32) (v5 : BitVec 32) (v8 : BitVec 32) (v9 : BitVec 32) (v10 : BitVec 32) (v11 : BitVec 32)
    (K : (PUnit) → Prog (TpuEff nD τ sig (Elt F) Λ₀ .tc) PUnit)
    (hK : ∀ x, (plan m).St order E κ c 6 ⊢ wp frame (wpE defs₀ 𝒱 (c.tc : Thread nD τ) none) Set.univ (K x) Q) :
    (plan m).St order E κ c 4 ⊢ wp frame (wpE defs₀ 𝒱 (c.tc : Thread nD τ) none) Set.univ (k0_part4 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v10 v11 >>= K) Q := by
  rw [k0_part4_eq_skeleton]; unfold k0_part4_skel
  simp only [Prog.lift, Prog.bind_op, Prog.bind_ret, Prog.pure_eq_ret]
  refine (plan m).step_send order E (.inl 0, 0) rfl rfl rfl (outSlab0 (off1 c) _) (dev1 c) rfl rfl ?_
  refine (plan m).step_send order E (.inl 1, 0) rfl rfl rfl (outSlab0 (off1 c) _) (dev2 c) rfl rfl ?_
  exact hK _

/-- Part 5 of the body: operations 6 to 8. -/
theorem run_part5 (v2 : BitVec 32) (v5 : BitVec 32) (v8 : BitVec 32) (v9 : BitVec 32) (v10 : BitVec 32) (v12 : BitVec 32) (v13 : BitVec 32)
    (K : (Σ' (v170 : BitVec 32), BitVec 32) → Prog (TpuEff nD τ sig (Elt F) Λ₀ .tc) PUnit)
    (hK : ∀ x, (plan m).St order E κ c 9 ⊢ wp frame (wpE defs₀ 𝒱 (c.tc : Thread nD τ) none) Set.univ (K x) Q) :
    (plan m).St order E κ c 6 ⊢ wp frame (wpE defs₀ 𝒱 (c.tc : Thread nD τ) none) Set.univ (k0_part5 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v10 v12 v13 >>= K) Q := by
  rw [k0_part5_eq_skeleton]; unfold k0_part5_skel
  simp only [Prog.lift, Prog.bind_op, Prog.bind_ret, Prog.pure_eq_ret]
  refine (plan m).step_send order E (.inl 2, 0) rfl rfl rfl (outSlab0 (off1 c) _) (dev3 c) rfl rfl ?_
  refine (plan m).step_send order E (.inl 3, 0) rfl rfl rfl (outSlab0 (off1 c) _) (dev4 c) rfl rfl ?_
  refine (plan m).step_send order E (.inl 0, 1) rfl rfl rfl (outSlab1 (off2 c) _) (dev5 c) rfl rfl ?_
  exact hK _

/-- Part 6 of the body: operations 9 to 10. -/
theorem run_part6 (v2 : BitVec 32) (v5 : BitVec 32) (v8 : BitVec 32) (v11 : BitVec 32) (v12 : BitVec 32) (v13 : BitVec 32) (v170 : BitVec 32) (c0_i32_113 : BitVec 32)
    (K : (PUnit) → Prog (TpuEff nD τ sig (Elt F) Λ₀ .tc) PUnit)
    (hK : ∀ x, (plan m).St order E κ c 11 ⊢ wp frame (wpE defs₀ 𝒱 (c.tc : Thread nD τ) none) Set.univ (K x) Q) :
    (plan m).St order E κ c 9 ⊢ wp frame (wpE defs₀ 𝒱 (c.tc : Thread nD τ) none) Set.univ (k0_part6 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v11 v12 v13 v170 c0_i32_113 >>= K) Q := by
  rw [k0_part6_eq_skeleton]; unfold k0_part6_skel
  simp only [Prog.lift, Prog.bind_op, Prog.bind_ret, Prog.pure_eq_ret]
  refine (plan m).step_send order E (.inl 1, 1) rfl rfl rfl (outSlab1 (off2 c) _) (dev6 c) rfl rfl ?_
  refine (plan m).step_send order E (.inl 2, 1) rfl rfl rfl (outSlab1 (off2 c) _) (dev7 c) rfl rfl ?_
  exact hK _

/-- Part 7 of the body: operations 11 to 13. -/
theorem run_part7 (v2 : BitVec 32) (v5 : BitVec 32) (v8 : BitVec 32) (v9 : BitVec 32) (v10 : BitVec 32) (v11 : BitVec 32)
    (K : (Σ' (v233 : BitVec 32), BitVec 32) → Prog (TpuEff nD τ sig (Elt F) Λ₀ .tc) PUnit)
    (hK : ∀ x, (plan m).St order E κ c 14 ⊢ wp frame (wpE defs₀ 𝒱 (c.tc : Thread nD τ) none) Set.univ (K x) Q) :
    (plan m).St order E κ c 11 ⊢ wp frame (wpE defs₀ 𝒱 (c.tc : Thread nD τ) none) Set.univ (k0_part7 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v10 v11 >>= K) Q := by
  rw [k0_part7_eq_skeleton]; unfold k0_part7_skel
  simp only [Prog.lift, Prog.bind_op, Prog.bind_ret, Prog.pure_eq_ret]
  refine (plan m).step_send order E (.inl 3, 1) rfl rfl rfl (outSlab1 (off2 c) _) (dev8 c) rfl rfl ?_
  refine (plan m).step_send order E (.inl 0, 2) rfl rfl rfl (outSlab2 (off3 c) _) (dev9 c) rfl rfl ?_
  refine (plan m).step_send order E (.inl 1, 2) rfl rfl rfl (outSlab2 (off3 c) _) (dev10 c) rfl rfl ?_
  exact hK _

/-- Part 8 of the body: operations 14 to 16. -/
theorem run_part8 (v2 : BitVec 32) (v5 : BitVec 32) (v8 : BitVec 32) (v9 : BitVec 32) (v12 : BitVec 32) (v13 : BitVec 32) (v233 : BitVec 32) (c1_i32_165 : BitVec 32)
    (K : (PUnit) → Prog (TpuEff nD τ sig (Elt F) Λ₀ .tc) PUnit)
    (hK : ∀ x, (plan m).St order E κ c 17 ⊢ wp frame (wpE defs₀ 𝒱 (c.tc : Thread nD τ) none) Set.univ (K x) Q) :
    (plan m).St order E κ c 14 ⊢ wp frame (wpE defs₀ 𝒱 (c.tc : Thread nD τ) none) Set.univ (k0_part8 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v12 v13 v233 c1_i32_165 >>= K) Q := by
  rw [k0_part8_eq_skeleton]; unfold k0_part8_skel
  simp only [Prog.lift, Prog.bind_op, Prog.bind_ret, Prog.pure_eq_ret]
  refine (plan m).step_send order E (.inl 2, 2) rfl rfl rfl (outSlab2 (off3 c) _) (dev11 c) rfl rfl ?_
  refine (plan m).step_send order E (.inl 3, 2) rfl rfl rfl (outSlab2 (off3 c) _) (dev12 c) rfl rfl ?_
  refine (plan m).step_send order E (.inl 0, 3) rfl rfl rfl (outSlab3 (off4 c) _) (dev13 c) rfl rfl ?_
  exact hK _

/-- Part 9 of the body: operations 17 to 18. -/
theorem run_part9 (v2 : BitVec 32) (v5 : BitVec 32) (v8 : BitVec 32) (v10 : BitVec 32) (v11 : BitVec 32) (v12 : BitVec 32) (v13 : BitVec 32)
    (K : (PUnit) → Prog (TpuEff nD τ sig (Elt F) Λ₀ .tc) PUnit)
    (hK : ∀ x, (plan m).St order E κ c 19 ⊢ wp frame (wpE defs₀ 𝒱 (c.tc : Thread nD τ) none) Set.univ (K x) Q) :
    (plan m).St order E κ c 17 ⊢ wp frame (wpE defs₀ 𝒱 (c.tc : Thread nD τ) none) Set.univ (k0_part9 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v10 v11 v12 v13 >>= K) Q := by
  rw [k0_part9_eq_skeleton]; unfold k0_part9_skel
  simp only [Prog.lift, Prog.bind_op, Prog.bind_ret, Prog.pure_eq_ret]
  refine (plan m).step_send order E (.inl 1, 3) rfl rfl rfl (outSlab3 (off4 c) _) (dev14 c) rfl rfl ?_
  refine (plan m).step_send order E (.inl 2, 3) rfl rfl rfl (outSlab3 (off4 c) _) (dev15 c) rfl rfl ?_
  exact hK _

/-- Part 10 of the body: operations 19 to 20. -/
theorem run_part10 (v2 : BitVec 32) (v5 : BitVec 32) (v8 : BitVec 32) (v10 : BitVec 32)
    (K : (BitVec 32) → Prog (TpuEff nD τ sig (Elt F) Λ₀ .tc) PUnit)
    (hK : ∀ x, (plan m).St order E κ c 21 ⊢ wp frame (wpE defs₀ 𝒱 (c.tc : Thread nD τ) none) Set.univ (K x) Q) :
    (plan m).St order E κ c 19 ⊢ wp frame (wpE defs₀ 𝒱 (c.tc : Thread nD τ) none) Set.univ (k0_part10 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v10 >>= K) Q := by
  rw [k0_part10_eq_skeleton]; unfold k0_part10_skel
  simp only [Prog.lift, Prog.bind_op, Prog.bind_ret, Prog.pure_eq_ret]
  refine (plan m).step_send order E (.inl 3, 3) rfl rfl rfl (outSlab3 (off4 c) _) (dev16 c) rfl rfl ?_
  refine (plan m).step_recv order E (.inl 1, 0) rfl (relayed (.inl 1, 0)) rfl rfl ?_
  exact hK _

/-- Part 11 of the body: operations 21 to 22. -/
theorem run_part11 (v2 : BitVec 32) (v5 : BitVec 32) (v8 : BitVec 32) (v9 : BitVec 32) (v10 : BitVec 32) (c4_i32_242 : BitVec 32)
    (K : (BitVec 32) → Prog (TpuEff nD τ sig (Elt F) Λ₀ .tc) PUnit)
    (hK : ∀ x, (plan m).St order E κ c 23 ⊢ wp frame (wpE defs₀ 𝒱 (c.tc : Thread nD τ) none) Set.univ (K x) Q) :
    (plan m).St order E κ c 21 ⊢ wp frame (wpE defs₀ 𝒱 (c.tc : Thread nD τ) none) Set.univ (k0_part11 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v10 c4_i32_242 >>= K) Q := by
  rw [k0_part11_eq_skeleton]; unfold k0_part11_skel
  simp only [Prog.lift, Prog.bind_op, Prog.bind_ret, Prog.pure_eq_ret]
  refine (plan m).step_relay order E (.inr 0, 0) (.inl 1, 0) rfl rfl (by decide) (relay_src m 0 0 c) (outSlab0 (off5 c) _) (outSlab0 (off5 c) _) (dev17 c) rfl rfl ?_
  refine (plan m).step_recv order E (.inl 1, 1) rfl (relayed (.inl 1, 1)) rfl rfl ?_
  exact hK _

/-- Part 12 of the body: operation 23. -/
theorem run_part12 (v2 : BitVec 32) (v5 : BitVec 32) (v8 : BitVec 32) (v9 : BitVec 32) (v10 : BitVec 32) (c4_i32_266 : BitVec 32)
    (K : (Σ' (v395 : BitVec 32), BitVec 32) → Prog (TpuEff nD τ sig (Elt F) Λ₀ .tc) PUnit)
    (hK : ∀ x, (plan m).St order E κ c 24 ⊢ wp frame (wpE defs₀ 𝒱 (c.tc : Thread nD τ) none) Set.univ (K x) Q) :
    (plan m).St order E κ c 23 ⊢ wp frame (wpE defs₀ 𝒱 (c.tc : Thread nD τ) none) Set.univ (k0_part12 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v10 c4_i32_266 >>= K) Q := by
  rw [k0_part12_eq_skeleton]; unfold k0_part12_skel
  simp only [Prog.lift, Prog.bind_op, Prog.bind_ret, Prog.pure_eq_ret]
  refine (plan m).step_relay order E (.inr 0, 1) (.inl 1, 1) rfl rfl (by decide) (relay_src m 0 1 c) (outSlab1 (off6 c) _) (outSlab1 (off6 c) _) (dev18 c) rfl rfl ?_
  exact hK _

/-- Part 13 of the body: operations 24 to 25. -/
theorem run_part13 (v2 : BitVec 32) (v5 : BitVec 32) (v8 : BitVec 32) (v9 : BitVec 32) (v10 : BitVec 32) (v395 : BitVec 32) (v396 : BitVec 32)
    (K : (PUnit) → Prog (TpuEff nD τ sig (Elt F) Λ₀ .tc) PUnit)
    (hK : ∀ x, (plan m).St order E κ c 26 ⊢ wp frame (wpE defs₀ 𝒱 (c.tc : Thread nD τ) none) Set.univ (K x) Q) :
    (plan m).St order E κ c 24 ⊢ wp frame (wpE defs₀ 𝒱 (c.tc : Thread nD τ) none) Set.univ (k0_part13 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v10 v395 v396 >>= K) Q := by
  rw [k0_part13_eq_skeleton]; unfold k0_part13_skel
  simp only [Prog.lift, Prog.bind_op, Prog.bind_ret, Prog.pure_eq_ret]
  refine (plan m).step_recv order E (.inl 1, 2) rfl (relayed (.inl 1, 2)) rfl rfl ?_
  refine (plan m).step_relay order E (.inr 0, 2) (.inl 1, 2) rfl rfl (by decide) (relay_src m 0 2 c) (outSlab2 (off7 c) _) (outSlab2 (off7 c) _) (dev19 c) rfl rfl ?_
  exact hK _

/-- Part 14 of the body: operation 26. -/
theorem run_part14 (v2 : BitVec 32) (v5 : BitVec 32) (v8 : BitVec 32) (v9 : BitVec 32) (v10 : BitVec 32)
    (K : (PUnit) → Prog (TpuEff nD τ sig (Elt F) Λ₀ .tc) PUnit)
    (hK : ∀ x, (plan m).St order E κ c 27 ⊢ wp frame (wpE defs₀ 𝒱 (c.tc : Thread nD τ) none) Set.univ (K x) Q) :
    (plan m).St order E κ c 26 ⊢ wp frame (wpE defs₀ 𝒱 (c.tc : Thread nD τ) none) Set.univ (k0_part14 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v10 >>= K) Q := by
  rw [k0_part14_eq_skeleton]; unfold k0_part14_skel
  simp only [Prog.lift, Prog.bind_op, Prog.bind_ret, Prog.pure_eq_ret]
  refine (plan m).step_recv order E (.inl 1, 3) rfl (relayed (.inl 1, 3)) rfl rfl ?_
  exact hK _

/-- Part 15 of the body: operations 27 to 28. -/
theorem run_part15 (v2 : BitVec 32) (v5 : BitVec 32) (v8 : BitVec 32) (v11 : BitVec 32)
    (K : (PUnit) → Prog (TpuEff nD τ sig (Elt F) Λ₀ .tc) PUnit)
    (hK : ∀ x, (plan m).St order E κ c 29 ⊢ wp frame (wpE defs₀ 𝒱 (c.tc : Thread nD τ) none) Set.univ (K x) Q) :
    (plan m).St order E κ c 27 ⊢ wp frame (wpE defs₀ 𝒱 (c.tc : Thread nD τ) none) Set.univ (k0_part15 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v11 >>= K) Q := by
  rw [k0_part15_eq_skeleton]; unfold k0_part15_skel
  simp only [Prog.lift, Prog.bind_op, Prog.bind_ret, Prog.pure_eq_ret]
  refine (plan m).step_relay order E (.inr 0, 3) (.inl 1, 3) rfl rfl (by decide) (relay_src m 0 3 c) (outSlab3 (off8 c) _) (outSlab3 (off8 c) _) (dev20 c) rfl rfl ?_
  refine (plan m).step_recv order E (.inl 2, 0) rfl (relayed (.inl 2, 0)) rfl rfl ?_
  exact hK _

/-- Part 16 of the body: operation 29. -/
theorem run_part16 (v2 : BitVec 32) (v5 : BitVec 32) (v8 : BitVec 32) (v9 : BitVec 32) (v11 : BitVec 32)
    (K : (PUnit) → Prog (TpuEff nD τ sig (Elt F) Λ₀ .tc) PUnit)
    (hK : ∀ x, (plan m).St order E κ c 30 ⊢ wp frame (wpE defs₀ 𝒱 (c.tc : Thread nD τ) none) Set.univ (K x) Q) :
    (plan m).St order E κ c 29 ⊢ wp frame (wpE defs₀ 𝒱 (c.tc : Thread nD τ) none) Set.univ (k0_part16 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v11 >>= K) Q := by
  rw [k0_part16_eq_skeleton]; unfold k0_part16_skel
  simp only [Prog.lift, Prog.bind_op, Prog.bind_ret, Prog.pure_eq_ret]
  refine (plan m).step_relay order E (.inr 1, 0) (.inl 2, 0) rfl rfl (by decide) (relay_src m 1 0 c) (outSlab0 (off9 c) _) (outSlab0 (off9 c) _) (dev21 c) rfl rfl ?_
  exact hK _

/-- Part 17 of the body: operations 30 to 31. -/
theorem run_part17 (v2 : BitVec 32) (v5 : BitVec 32) (v8 : BitVec 32) (v9 : BitVec 32) (v11 : BitVec 32)
    (K : (BitVec 32) → Prog (TpuEff nD τ sig (Elt F) Λ₀ .tc) PUnit)
    (hK : ∀ x, (plan m).St order E κ c 32 ⊢ wp frame (wpE defs₀ 𝒱 (c.tc : Thread nD τ) none) Set.univ (K x) Q) :
    (plan m).St order E κ c 30 ⊢ wp frame (wpE defs₀ 𝒱 (c.tc : Thread nD τ) none) Set.univ (k0_part17 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v11 >>= K) Q := by
  rw [k0_part17_eq_skeleton]; unfold k0_part17_skel
  simp only [Prog.lift, Prog.bind_op, Prog.bind_ret, Prog.pure_eq_ret]
  refine (plan m).step_recv order E (.inl 2, 1) rfl (relayed (.inl 2, 1)) rfl rfl ?_
  refine (plan m).step_relay order E (.inr 1, 1) (.inl 2, 1) rfl rfl (by decide) (relay_src m 1 1 c) (outSlab1 (off10 c) _) (outSlab1 (off10 c) _) (dev22 c) rfl rfl ?_
  exact hK _

/-- Part 18 of the body: operations 32 to 33. -/
theorem run_part18 (v2 : BitVec 32) (v5 : BitVec 32) (v8 : BitVec 32) (v9 : BitVec 32) (v11 : BitVec 32) (v562 : BitVec 32)
    (K : (BitVec 32) → Prog (TpuEff nD τ sig (Elt F) Λ₀ .tc) PUnit)
    (hK : ∀ x, (plan m).St order E κ c 34 ⊢ wp frame (wpE defs₀ 𝒱 (c.tc : Thread nD τ) none) Set.univ (K x) Q) :
    (plan m).St order E κ c 32 ⊢ wp frame (wpE defs₀ 𝒱 (c.tc : Thread nD τ) none) Set.univ (k0_part18 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v11 v562 >>= K) Q := by
  rw [k0_part18_eq_skeleton]; unfold k0_part18_skel
  simp only [Prog.lift, Prog.bind_op, Prog.bind_ret, Prog.pure_eq_ret]
  refine (plan m).step_recv order E (.inl 2, 2) rfl (relayed (.inl 2, 2)) rfl rfl ?_
  refine (plan m).step_relay order E (.inr 1, 2) (.inl 2, 2) rfl rfl (by decide) (relay_src m 1 2 c) (outSlab2 (off11 c) _) (outSlab2 (off11 c) _) (dev23 c) rfl rfl ?_
  exact hK _

/-- Part 19 of the body: operation 34. -/
theorem run_part19 (v2 : BitVec 32) (v5 : BitVec 32) (v8 : BitVec 32) (v9 : BitVec 32) (v11 : BitVec 32) (v596 : BitVec 32)
    (K : (Σ' (v627 : BitVec 32), BitVec 32) → Prog (TpuEff nD τ sig (Elt F) Λ₀ .tc) PUnit)
    (hK : ∀ x, (plan m).St order E κ c 35 ⊢ wp frame (wpE defs₀ 𝒱 (c.tc : Thread nD τ) none) Set.univ (K x) Q) :
    (plan m).St order E κ c 34 ⊢ wp frame (wpE defs₀ 𝒱 (c.tc : Thread nD τ) none) Set.univ (k0_part19 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v11 v596 >>= K) Q := by
  rw [k0_part19_eq_skeleton]; unfold k0_part19_skel
  simp only [Prog.lift, Prog.bind_op, Prog.bind_ret, Prog.pure_eq_ret]
  refine (plan m).step_recv order E (.inl 2, 3) rfl (relayed (.inl 2, 3)) rfl rfl ?_
  exact hK _

/-- Part 20 of the body: operations 35 to 36. -/
theorem run_part20 (v2 : BitVec 32) (v5 : BitVec 32) (v8 : BitVec 32) (v12 : BitVec 32) (v13 : BitVec 32) (v627 : BitVec 32) (v628 : BitVec 32)
    (K : (Σ' (v662 : BitVec 32), BitVec 32) → Prog (TpuEff nD τ sig (Elt F) Λ₀ .tc) PUnit)
    (hK : ∀ x, (plan m).St order E κ c 37 ⊢ wp frame (wpE defs₀ 𝒱 (c.tc : Thread nD τ) none) Set.univ (K x) Q) :
    (plan m).St order E κ c 35 ⊢ wp frame (wpE defs₀ 𝒱 (c.tc : Thread nD τ) none) Set.univ (k0_part20 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v12 v13 v627 v628 >>= K) Q := by
  rw [k0_part20_eq_skeleton]; unfold k0_part20_skel
  simp only [Prog.lift, Prog.bind_op, Prog.bind_ret, Prog.pure_eq_ret]
  refine (plan m).step_relay order E (.inr 1, 3) (.inl 2, 3) rfl rfl (by decide) (relay_src m 1 3 c) (outSlab3 (off12 c) _) (outSlab3 (off12 c) _) (dev24 c) rfl rfl ?_
  refine (plan m).step_recv order E (.inl 3, 0) rfl (relayed (.inl 3, 0)) rfl rfl ?_
  exact hK _

/-- Part 21 of the body: operation 37. -/
theorem run_part21 (v2 : BitVec 32) (v5 : BitVec 32) (v8 : BitVec 32) (v9 : BitVec 32) (v12 : BitVec 32) (v13 : BitVec 32) (v662 : BitVec 32) (c2_i32_492 : BitVec 32)
    (K : (PUnit) → Prog (TpuEff nD τ sig (Elt F) Λ₀ .tc) PUnit)
    (hK : ∀ x, (plan m).St order E κ c 38 ⊢ wp frame (wpE defs₀ 𝒱 (c.tc : Thread nD τ) none) Set.univ (K x) Q) :
    (plan m).St order E κ c 37 ⊢ wp frame (wpE defs₀ 𝒱 (c.tc : Thread nD τ) none) Set.univ (k0_part21 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v12 v13 v662 c2_i32_492 >>= K) Q := by
  rw [k0_part21_eq_skeleton]; unfold k0_part21_skel
  simp only [Prog.lift, Prog.bind_op, Prog.bind_ret, Prog.pure_eq_ret]
  refine (plan m).step_relay order E (.inr 2, 0) (.inl 3, 0) rfl rfl (by decide) (relay_src m 2 0 c) (outSlab0 (off13 c) _) (outSlab0 (off13 c) _) (dev25 c) rfl rfl ?_
  exact hK _

/-- Part 22 of the body: operations 38 to 39. -/
theorem run_part22 (v2 : BitVec 32) (v5 : BitVec 32) (v8 : BitVec 32) (v9 : BitVec 32) (v12 : BitVec 32) (v13 : BitVec 32)
    (K : (PUnit) → Prog (TpuEff nD τ sig (Elt F) Λ₀ .tc) PUnit)
    (hK : ∀ x, (plan m).St order E κ c 40 ⊢ wp frame (wpE defs₀ 𝒱 (c.tc : Thread nD τ) none) Set.univ (K x) Q) :
    (plan m).St order E κ c 38 ⊢ wp frame (wpE defs₀ 𝒱 (c.tc : Thread nD τ) none) Set.univ (k0_part22 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v12 v13 >>= K) Q := by
  rw [k0_part22_eq_skeleton]; unfold k0_part22_skel
  simp only [Prog.lift, Prog.bind_op, Prog.bind_ret, Prog.pure_eq_ret]
  refine (plan m).step_recv order E (.inl 3, 1) rfl (relayed (.inl 3, 1)) rfl rfl ?_
  refine (plan m).step_relay order E (.inr 2, 1) (.inl 3, 1) rfl rfl (by decide) (relay_src m 2 1 c) (outSlab1 (off14 c) _) (outSlab1 (off14 c) _) (dev26 c) rfl rfl ?_
  exact hK _

/-- Part 23 of the body: operation 40. -/
theorem run_part23 (v2 : BitVec 32) (v5 : BitVec 32) (v8 : BitVec 32) (v9 : BitVec 32) (v12 : BitVec 32) (v13 : BitVec 32)
    (K : (PUnit) → Prog (TpuEff nD τ sig (Elt F) Λ₀ .tc) PUnit)
    (hK : ∀ x, (plan m).St order E κ c 41 ⊢ wp frame (wpE defs₀ 𝒱 (c.tc : Thread nD τ) none) Set.univ (K x) Q) :
    (plan m).St order E κ c 40 ⊢ wp frame (wpE defs₀ 𝒱 (c.tc : Thread nD τ) none) Set.univ (k0_part23 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v12 v13 >>= K) Q := by
  rw [k0_part23_eq_skeleton]; unfold k0_part23_skel
  simp only [Prog.lift, Prog.bind_op, Prog.bind_ret, Prog.pure_eq_ret]
  refine (plan m).step_recv order E (.inl 3, 2) rfl (relayed (.inl 3, 2)) rfl rfl ?_
  exact hK _

/-- Part 24 of the body: operations 41 to 42. -/
theorem run_part24 (v2 : BitVec 32) (v5 : BitVec 32) (v8 : BitVec 32) (v12 : BitVec 32) (v13 : BitVec 32)
    (K : (Σ' (v793 : BitVec 32), BitVec 32) → Prog (TpuEff nD τ sig (Elt F) Λ₀ .tc) PUnit)
    (hK : ∀ x, (plan m).St order E κ c 43 ⊢ wp frame (wpE defs₀ 𝒱 (c.tc : Thread nD τ) none) Set.univ (K x) Q) :
    (plan m).St order E κ c 41 ⊢ wp frame (wpE defs₀ 𝒱 (c.tc : Thread nD τ) none) Set.univ (k0_part24 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v12 v13 >>= K) Q := by
  rw [k0_part24_eq_skeleton]; unfold k0_part24_skel
  simp only [Prog.lift, Prog.bind_op, Prog.bind_ret, Prog.pure_eq_ret]
  refine (plan m).step_relay order E (.inr 2, 2) (.inl 3, 2) rfl rfl (by decide) (relay_src m 2 2 c) (outSlab2 (off15 c) _) (outSlab2 (off15 c) _) (dev27 c) rfl rfl ?_
  refine (plan m).step_recv order E (.inl 3, 3) rfl (relayed (.inl 3, 3)) rfl rfl ?_
  exact hK _

/-- Part 25 of the body: operations 43 to 44. -/
theorem run_part25 (v2 : BitVec 32) (v5 : BitVec 32) (v8 : BitVec 32) (v9 : BitVec 32) (v10 : BitVec 32) (v793 : BitVec 32) (c2_i32_594 : BitVec 32)
    (K : (Σ' (v826 : BitVec 32) (v827 : BitVec 32), BitVec 32) → Prog (TpuEff nD τ sig (Elt F) Λ₀ .tc) PUnit)
    (hK : ∀ x, (plan m).St order E κ c 45 ⊢ wp frame (wpE defs₀ 𝒱 (c.tc : Thread nD τ) none) Set.univ (K x) Q) :
    (plan m).St order E κ c 43 ⊢ wp frame (wpE defs₀ 𝒱 (c.tc : Thread nD τ) none) Set.univ (k0_part25 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v10 v793 c2_i32_594 >>= K) Q := by
  rw [k0_part25_eq_skeleton]; unfold k0_part25_skel
  simp only [Prog.lift, Prog.bind_op, Prog.bind_ret, Prog.pure_eq_ret]
  refine (plan m).step_relay order E (.inr 2, 3) (.inl 3, 3) rfl rfl (by decide) (relay_src m 2 3 c) (outSlab3 (off16 c) _) (outSlab3 (off16 c) _) (dev28 c) rfl rfl ?_
  refine (plan m).step_recv order E (.inl 0, 0) rfl (relayed (.inl 0, 0)) rfl rfl ?_
  exact hK _

/-- Part 26 of the body: operation 45. -/
theorem run_part26 (v2 : BitVec 32) (v5 : BitVec 32) (v8 : BitVec 32) (v10 : BitVec 32) (v11 : BitVec 32) (v826 : BitVec 32) (v827 : BitVec 32) (c2_i32_618 : BitVec 32)
    (K : (Σ' (v859 : BitVec 32), BitVec 32) → Prog (TpuEff nD τ sig (Elt F) Λ₀ .tc) PUnit)
    (hK : ∀ x, (plan m).St order E κ c 46 ⊢ wp frame (wpE defs₀ 𝒱 (c.tc : Thread nD τ) none) Set.univ (K x) Q) :
    (plan m).St order E κ c 45 ⊢ wp frame (wpE defs₀ 𝒱 (c.tc : Thread nD τ) none) Set.univ (k0_part26 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v10 v11 v826 v827 c2_i32_618 >>= K) Q := by
  rw [k0_part26_eq_skeleton]; unfold k0_part26_skel
  simp only [Prog.lift, Prog.bind_op, Prog.bind_ret, Prog.pure_eq_ret]
  refine (plan m).step_recv order E (.inr 0, 0) rfl (relayed (.inr 0, 0)) rfl rfl ?_
  exact hK _

/-- Part 27 of the body: operations 46 to 47. -/
theorem run_part27 (v2 : BitVec 32) (v5 : BitVec 32) (v8 : BitVec 32) (v9 : BitVec 32) (v12 : BitVec 32) (v13 : BitVec 32) (v859 : BitVec 32) (c1_i32_645 : BitVec 32)
    (K : (BitVec 32) → Prog (TpuEff nD τ sig (Elt F) Λ₀ .tc) PUnit)
    (hK : ∀ x, (plan m).St order E κ c 48 ⊢ wp frame (wpE defs₀ 𝒱 (c.tc : Thread nD τ) none) Set.univ (K x) Q) :
    (plan m).St order E κ c 46 ⊢ wp frame (wpE defs₀ 𝒱 (c.tc : Thread nD τ) none) Set.univ (k0_part27 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v12 v13 v859 c1_i32_645 >>= K) Q := by
  rw [k0_part27_eq_skeleton]; unfold k0_part27_skel
  simp only [Prog.lift, Prog.bind_op, Prog.bind_ret, Prog.pure_eq_ret]
  refine (plan m).step_recv order E (.inr 1, 0) rfl (relayed (.inr 1, 0)) rfl rfl ?_
  refine (plan m).step_recv order E (.inr 2, 0) rfl (relayed (.inr 2, 0)) rfl rfl ?_
  exact hK _

/-- Part 28 of the body: operation 48. -/
theorem run_part28 (v2 : BitVec 32) (v5 : BitVec 32) (v8 : BitVec 32) (v9 : BitVec 32) (v10 : BitVec 32) (v893 : BitVec 32)
    (K : (PUnit) → Prog (TpuEff nD τ sig (Elt F) Λ₀ .tc) PUnit)
    (hK : ∀ x, (plan m).St order E κ c 49 ⊢ wp frame (wpE defs₀ 𝒱 (c.tc : Thread nD τ) none) Set.univ (K x) Q) :
    (plan m).St order E κ c 48 ⊢ wp frame (wpE defs₀ 𝒱 (c.tc : Thread nD τ) none) Set.univ (k0_part28 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v10 v893 >>= K) Q := by
  rw [k0_part28_eq_skeleton]; unfold k0_part28_skel
  simp only [Prog.lift, Prog.bind_op, Prog.bind_ret, Prog.pure_eq_ret]
  refine (plan m).step_recv order E (.inl 0, 1) rfl (relayed (.inl 0, 1)) rfl rfl ?_
  exact hK _

/-- Part 29 of the body: operations 49 to 50. -/
theorem run_part29 (v2 : BitVec 32) (v5 : BitVec 32) (v8 : BitVec 32) (v11 : BitVec 32) (v12 : BitVec 32) (v13 : BitVec 32)
    (K : (Σ' (v951 : BitVec 32), BitVec 32) → Prog (TpuEff nD τ sig (Elt F) Λ₀ .tc) PUnit)
    (hK : ∀ x, (plan m).St order E κ c 51 ⊢ wp frame (wpE defs₀ 𝒱 (c.tc : Thread nD τ) none) Set.univ (K x) Q) :
    (plan m).St order E κ c 49 ⊢ wp frame (wpE defs₀ 𝒱 (c.tc : Thread nD τ) none) Set.univ (k0_part29 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v11 v12 v13 >>= K) Q := by
  rw [k0_part29_eq_skeleton]; unfold k0_part29_skel
  simp only [Prog.lift, Prog.bind_op, Prog.bind_ret, Prog.pure_eq_ret]
  refine (plan m).step_recv order E (.inr 0, 1) rfl (relayed (.inr 0, 1)) rfl rfl ?_
  refine (plan m).step_recv order E (.inr 1, 1) rfl (relayed (.inr 1, 1)) rfl rfl ?_
  exact hK _

/-- Part 30 of the body: operation 51. -/
theorem run_part30 (v2 : BitVec 32) (v5 : BitVec 32) (v8 : BitVec 32) (v9 : BitVec 32) (v951 : BitVec 32) (v958 : BitVec 32)
    (K : (PUnit) → Prog (TpuEff nD τ sig (Elt F) Λ₀ .tc) PUnit)
    (hK : ∀ x, (plan m).St order E κ c 52 ⊢ wp frame (wpE defs₀ 𝒱 (c.tc : Thread nD τ) none) Set.univ (K x) Q) :
    (plan m).St order E κ c 51 ⊢ wp frame (wpE defs₀ 𝒱 (c.tc : Thread nD τ) none) Set.univ (k0_part30 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v951 v958 >>= K) Q := by
  rw [k0_part30_eq_skeleton]; unfold k0_part30_skel
  simp only [Prog.lift, Prog.bind_op, Prog.bind_ret, Prog.pure_eq_ret]
  refine (plan m).step_recv order E (.inr 2, 1) rfl (relayed (.inr 2, 1)) rfl rfl ?_
  exact hK _

/-- Part 31 of the body: operations 52 to 53. -/
theorem run_part31 (v2 : BitVec 32) (v5 : BitVec 32) (v8 : BitVec 32) (v10 : BitVec 32) (v11 : BitVec 32)
    (K : (PUnit) → Prog (TpuEff nD τ sig (Elt F) Λ₀ .tc) PUnit)
    (hK : ∀ x, (plan m).St order E κ c 54 ⊢ wp frame (wpE defs₀ 𝒱 (c.tc : Thread nD τ) none) Set.univ (K x) Q) :
    (plan m).St order E κ c 52 ⊢ wp frame (wpE defs₀ 𝒱 (c.tc : Thread nD τ) none) Set.univ (k0_part31 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v10 v11 >>= K) Q := by
  rw [k0_part31_eq_skeleton]; unfold k0_part31_skel
  simp only [Prog.lift, Prog.bind_op, Prog.bind_ret, Prog.pure_eq_ret]
  refine (plan m).step_recv order E (.inl 0, 2) rfl (relayed (.inl 0, 2)) rfl rfl ?_
  refine (plan m).step_recv order E (.inr 0, 2) rfl (relayed (.inr 0, 2)) rfl rfl ?_
  exact hK _

/-- Part 32 of the body: operations 54 to 55. -/
theorem run_part32 (v2 : BitVec 32) (v5 : BitVec 32) (v8 : BitVec 32) (v12 : BitVec 32) (v13 : BitVec 32)
    (K : (PUnit) → Prog (TpuEff nD τ sig (Elt F) Λ₀ .tc) PUnit)
    (hK : ∀ x, (plan m).St order E κ c 56 ⊢ wp frame (wpE defs₀ 𝒱 (c.tc : Thread nD τ) none) Set.univ (K x) Q) :
    (plan m).St order E κ c 54 ⊢ wp frame (wpE defs₀ 𝒱 (c.tc : Thread nD τ) none) Set.univ (k0_part32 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v12 v13 >>= K) Q := by
  rw [k0_part32_eq_skeleton]; unfold k0_part32_skel
  simp only [Prog.lift, Prog.bind_op, Prog.bind_ret, Prog.pure_eq_ret]
  refine (plan m).step_recv order E (.inr 1, 2) rfl (relayed (.inr 1, 2)) rfl rfl ?_
  refine (plan m).step_recv order E (.inr 2, 2) rfl (relayed (.inr 2, 2)) rfl rfl ?_
  exact hK _

/-- Part 33 of the body: operation 56. -/
theorem run_part33 (v2 : BitVec 32) (v5 : BitVec 32) (v8 : BitVec 32) (v9 : BitVec 32) (v10 : BitVec 32)
    (K : (Σ' (v1085 : BitVec 32), BitVec 32) → Prog (TpuEff nD τ sig (Elt F) Λ₀ .tc) PUnit)
    (hK : ∀ x, (plan m).St order E κ c 57 ⊢ wp frame (wpE defs₀ 𝒱 (c.tc : Thread nD τ) none) Set.univ (K x) Q) :
    (plan m).St order E κ c 56 ⊢ wp frame (wpE defs₀ 𝒱 (c.tc : Thread nD τ) none) Set.univ (k0_part33 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v9 v10 >>= K) Q := by
  rw [k0_part33_eq_skeleton]; unfold k0_part33_skel
  simp only [Prog.lift, Prog.bind_op, Prog.bind_ret, Prog.pure_eq_ret]
  refine (plan m).step_recv order E (.inl 0, 3) rfl (relayed (.inl 0, 3)) rfl rfl ?_
  exact hK _

/-- Part 34 of the body: operations 57 to 58. -/
theorem run_part34 (v2 : BitVec 32) (v5 : BitVec 32) (v8 : BitVec 32) (v11 : BitVec 32) (v12 : BitVec 32) (v1085 : BitVec 32) (c2_i32_828 : BitVec 32)
    (K : (Σ' (v1117 : BitVec 32) (v1118 : BitVec 32), BitVec 32) → Prog (TpuEff nD τ sig (Elt F) Λ₀ .tc) PUnit)
    (hK : ∀ x, (plan m).St order E κ c 59 ⊢ wp frame (wpE defs₀ 𝒱 (c.tc : Thread nD τ) none) Set.univ (K x) Q) :
    (plan m).St order E κ c 57 ⊢ wp frame (wpE defs₀ 𝒱 (c.tc : Thread nD τ) none) Set.univ (k0_part34 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v11 v12 v1085 c2_i32_828 >>= K) Q := by
  rw [k0_part34_eq_skeleton]; unfold k0_part34_skel
  simp only [Prog.lift, Prog.bind_op, Prog.bind_ret, Prog.pure_eq_ret]
  refine (plan m).step_recv order E (.inr 0, 3) rfl (relayed (.inr 0, 3)) rfl rfl ?_
  refine (plan m).step_recv order E (.inr 1, 3) rfl (relayed (.inr 1, 3)) rfl rfl ?_
  exact hK _

/-- Part 35 of the body: operations 59 to 61. -/
theorem run_part35 (v2 : BitVec 32) (v5 : BitVec 32) (v8 : BitVec 32) (v12 : BitVec 32) (v13 : BitVec 32) (v1117 : BitVec 32) (v1118 : BitVec 32) (c2_i32_853 : BitVec 32)
    (K : (PUnit) → Prog (TpuEff nD τ sig (Elt F) Λ₀ .tc) PUnit)
    (hK : ∀ x, (plan m).St order E κ c 62 ⊢ wp frame (wpE defs₀ 𝒱 (c.tc : Thread nD τ) none) Set.univ (K x) Q) :
    (plan m).St order E κ c 59 ⊢ wp frame (wpE defs₀ 𝒱 (c.tc : Thread nD τ) none) Set.univ (k0_part35 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c v2 v5 v8 v12 v13 v1117 v1118 c2_i32_853 >>= K) Q := by
  rw [k0_part35_eq_skeleton]; unfold k0_part35_skel
  simp only [Prog.lift, Prog.bind_op, Prog.bind_ret, Prog.pure_eq_ret]
  refine (plan m).step_recv order E (.inr 2, 3) rfl (relayed (.inr 2, 3)) rfl rfl ?_
  refine (plan m).step_swait order E (.inl 0, 0) rfl (sends_before (by decide)) rfl rfl ?_
  refine (plan m).step_swait order E (.inl 1, 0) rfl (sends_before (by decide)) rfl rfl ?_
  exact hK _

/-- Part 36 of the body: operations 62 to 66. -/
theorem run_part36
    (K : (PUnit) → Prog (TpuEff nD τ sig (Elt F) Λ₀ .tc) PUnit)
    (hK : ∀ x, (plan m).St order E κ c 67 ⊢ wp frame (wpE defs₀ 𝒱 (c.tc : Thread nD τ) none) Set.univ (K x) Q) :
    (plan m).St order E κ c 62 ⊢ wp frame (wpE defs₀ 𝒱 (c.tc : Thread nD τ) none) Set.univ (k0_part36 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c >>= K) Q := by
  rw [k0_part36_eq_skeleton]; unfold k0_part36_skel
  simp only [Prog.lift, Prog.bind_op, Prog.bind_ret, Prog.pure_eq_ret]
  refine (plan m).step_swait order E (.inl 2, 0) rfl (sends_before (by decide)) rfl rfl ?_
  refine (plan m).step_swait order E (.inl 3, 0) rfl (sends_before (by decide)) rfl rfl ?_
  refine (plan m).step_swait order E (.inl 0, 1) rfl (sends_before (by decide)) rfl rfl ?_
  refine (plan m).step_swait order E (.inl 1, 1) rfl (sends_before (by decide)) rfl rfl ?_
  refine (plan m).step_swait order E (.inl 2, 1) rfl (sends_before (by decide)) rfl rfl ?_
  exact hK _

/-- Part 37 of the body: operations 67 to 71. -/
theorem run_part37
    (K : (PUnit) → Prog (TpuEff nD τ sig (Elt F) Λ₀ .tc) PUnit)
    (hK : ∀ x, (plan m).St order E κ c 72 ⊢ wp frame (wpE defs₀ 𝒱 (c.tc : Thread nD τ) none) Set.univ (K x) Q) :
    (plan m).St order E κ c 67 ⊢ wp frame (wpE defs₀ 𝒱 (c.tc : Thread nD τ) none) Set.univ (k0_part37 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c >>= K) Q := by
  rw [k0_part37_eq_skeleton]; unfold k0_part37_skel
  simp only [Prog.lift, Prog.bind_op, Prog.bind_ret, Prog.pure_eq_ret]
  refine (plan m).step_swait order E (.inl 3, 1) rfl (sends_before (by decide)) rfl rfl ?_
  refine (plan m).step_swait order E (.inl 0, 2) rfl (sends_before (by decide)) rfl rfl ?_
  refine (plan m).step_swait order E (.inl 1, 2) rfl (sends_before (by decide)) rfl rfl ?_
  refine (plan m).step_swait order E (.inl 2, 2) rfl (sends_before (by decide)) rfl rfl ?_
  refine (plan m).step_swait order E (.inl 3, 2) rfl (sends_before (by decide)) rfl rfl ?_
  exact hK _

/-- Part 38 of the body: operations 72 to 75. -/
theorem run_part38
    (K : (PUnit) → Prog (TpuEff nD τ sig (Elt F) Λ₀ .tc) PUnit)
    (hK : ∀ x, (plan m).St order E κ c 76 ⊢ wp frame (wpE defs₀ 𝒱 (c.tc : Thread nD τ) none) Set.univ (K x) Q) :
    (plan m).St order E κ c 72 ⊢ wp frame (wpE defs₀ 𝒱 (c.tc : Thread nD τ) none) Set.univ (k0_part38 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c >>= K) Q := by
  rw [k0_part38_eq_skeleton]; unfold k0_part38_skel
  simp only [Prog.lift, Prog.bind_op, Prog.bind_ret, Prog.pure_eq_ret]
  refine (plan m).step_swait order E (.inl 0, 3) rfl (sends_before (by decide)) rfl rfl ?_
  refine (plan m).step_swait order E (.inl 1, 3) rfl (sends_before (by decide)) rfl rfl ?_
  refine (plan m).step_swait order E (.inl 2, 3) rfl (sends_before (by decide)) rfl rfl ?_
  refine (plan m).step_swait order E (.inl 3, 3) rfl (sends_before (by decide)) rfl rfl ?_
  exact hK _

/-- Part 39 of the body: operations 76 to 79. -/
theorem run_part39
    (K : (PUnit) → Prog (TpuEff nD τ sig (Elt F) Λ₀ .tc) PUnit)
    (hK : ∀ x, (plan m).St order E κ c 80 ⊢ wp frame (wpE defs₀ 𝒱 (c.tc : Thread nD τ) none) Set.univ (K x) Q) :
    (plan m).St order E κ c 76 ⊢ wp frame (wpE defs₀ 𝒱 (c.tc : Thread nD τ) none) Set.univ (k0_part39 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c >>= K) Q := by
  rw [k0_part39_eq_skeleton]; unfold k0_part39_skel
  simp only [Prog.lift, Prog.bind_op, Prog.bind_ret, Prog.pure_eq_ret]
  refine (plan m).step_swait order E (.inr 0, 0) rfl (sends_before (by decide)) rfl rfl ?_
  refine (plan m).step_swait order E (.inr 0, 1) rfl (sends_before (by decide)) rfl rfl ?_
  refine (plan m).step_swait order E (.inr 0, 2) rfl (sends_before (by decide)) rfl rfl ?_
  refine (plan m).step_swait order E (.inr 0, 3) rfl (sends_before (by decide)) rfl rfl ?_
  exact hK _

/-- Part 40 of the body: operations 80 to 83. -/
theorem run_part40
    (K : (PUnit) → Prog (TpuEff nD τ sig (Elt F) Λ₀ .tc) PUnit)
    (hK : ∀ x, (plan m).St order E κ c 84 ⊢ wp frame (wpE defs₀ 𝒱 (c.tc : Thread nD τ) none) Set.univ (K x) Q) :
    (plan m).St order E κ c 80 ⊢ wp frame (wpE defs₀ 𝒱 (c.tc : Thread nD τ) none) Set.univ (k0_part40 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c >>= K) Q := by
  rw [k0_part40_eq_skeleton]; unfold k0_part40_skel
  simp only [Prog.lift, Prog.bind_op, Prog.bind_ret, Prog.pure_eq_ret]
  refine (plan m).step_swait order E (.inr 1, 0) rfl (sends_before (by decide)) rfl rfl ?_
  refine (plan m).step_swait order E (.inr 1, 1) rfl (sends_before (by decide)) rfl rfl ?_
  refine (plan m).step_swait order E (.inr 1, 2) rfl (sends_before (by decide)) rfl rfl ?_
  refine (plan m).step_swait order E (.inr 1, 3) rfl (sends_before (by decide)) rfl rfl ?_
  exact hK _

/-- Part 41 of the body: operations 84 to 87. -/
theorem run_part41
    (K : (PUnit) → Prog (TpuEff nD τ sig (Elt F) Λ₀ .tc) PUnit)
    (hK : ∀ x, (plan m).St order E κ c 88 ⊢ wp frame (wpE defs₀ 𝒱 (c.tc : Thread nD τ) none) Set.univ (K x) Q) :
    (plan m).St order E κ c 84 ⊢ wp frame (wpE defs₀ 𝒱 (c.tc : Thread nD τ) none) Set.univ (k0_part41 (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2 c >>= K) Q := by
  rw [k0_part41_eq_skeleton]; unfold k0_part41_skel
  simp only [Prog.lift, Prog.bind_op, Prog.bind_ret, Prog.pure_eq_ret]
  refine (plan m).step_swait order E (.inr 2, 0) rfl (sends_before (by decide)) rfl rfl ?_
  refine (plan m).step_swait order E (.inr 2, 1) rfl (sends_before (by decide)) rfl rfl ?_
  refine (plan m).step_swait order E (.inr 2, 2) rfl (sends_before (by decide)) rfl rfl ?_
  refine (plan m).step_swait order E (.inr 2, 3) rfl (sends_before (by decide)) rfl rfl ?_
  exact hK _

/-- The body, all parts in a row: from the first operation to the last. -/
theorem run_body (hQ : (plan m).St order E κ c 92 ⊢ |={Set.univ}=> Q ⟨⟩) :
    (plan m).St order E κ c 0 ⊢ wp frame (wpE defs₀ 𝒱 (c.tc : Thread nD τ) none) Set.univ (cc0_gather_weights (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2) Q := by
  rw [cc0_gather_weights_eq_skeleton]; unfold cc0_gather_weights_skel
  rw [k0_part42_eq_skeleton]; unfold k0_part42_skel
  simp only [Prog.bind_assoc]
  refine run_part1 m E _ fun v2 v5 v8 v9 v10 v11 v12 v13 => ?_
  refine run_part2 m E _ _ _ _ fun x => ?_
  refine run_part3 m E _ _ _ _ _ fun x => ?_
  refine run_part4 m E _ _ _ _ _ _ _ fun x => ?_
  refine run_part5 m E _ _ _ _ _ _ _ _ fun x => ?_
  obtain ⟨x0, x1⟩ := x
  refine run_part6 m E _ _ _ _ _ _ _ _ _ fun x => ?_
  refine run_part7 m E _ _ _ _ _ _ _ fun x => ?_
  obtain ⟨x0, x1⟩ := x
  refine run_part8 m E _ _ _ _ _ _ _ _ _ fun x => ?_
  refine run_part9 m E _ _ _ _ _ _ _ _ fun x => ?_
  refine run_part10 m E _ _ _ _ _ fun x => ?_
  refine run_part11 m E _ _ _ _ _ _ _ fun x => ?_
  refine run_part12 m E _ _ _ _ _ _ _ fun x => ?_
  obtain ⟨x0, x1⟩ := x
  refine run_part13 m E _ _ _ _ _ _ _ _ fun x => ?_
  refine run_part14 m E _ _ _ _ _ _ fun x => ?_
  refine run_part15 m E _ _ _ _ _ fun x => ?_
  refine run_part16 m E _ _ _ _ _ _ fun x => ?_
  refine run_part17 m E _ _ _ _ _ _ fun x => ?_
  refine run_part18 m E _ _ _ _ _ _ _ fun x => ?_
  refine run_part19 m E _ _ _ _ _ _ _ fun x => ?_
  obtain ⟨x0, x1⟩ := x
  refine run_part20 m E _ _ _ _ _ _ _ _ fun x => ?_
  obtain ⟨x0, x1⟩ := x
  refine run_part21 m E _ _ _ _ _ _ _ _ _ fun x => ?_
  refine run_part22 m E _ _ _ _ _ _ _ fun x => ?_
  refine run_part23 m E _ _ _ _ _ _ _ fun x => ?_
  refine run_part24 m E _ _ _ _ _ _ fun x => ?_
  obtain ⟨x0, x1⟩ := x
  refine run_part25 m E _ _ _ _ _ _ _ _ fun x => ?_
  obtain ⟨x0, x1, x2⟩ := x
  refine run_part26 m E _ _ _ _ _ _ _ _ _ fun x => ?_
  obtain ⟨x0, x1⟩ := x
  refine run_part27 m E _ _ _ _ _ _ _ _ _ fun x => ?_
  refine run_part28 m E _ _ _ _ _ _ _ fun x => ?_
  refine run_part29 m E _ _ _ _ _ _ _ fun x => ?_
  obtain ⟨x0, x1⟩ := x
  refine run_part30 m E _ _ _ _ _ _ _ fun x => ?_
  refine run_part31 m E _ _ _ _ _ _ fun x => ?_
  refine run_part32 m E _ _ _ _ _ _ fun x => ?_
  refine run_part33 m E _ _ _ _ _ _ fun x => ?_
  obtain ⟨x0, x1⟩ := x
  refine run_part34 m E _ _ _ _ _ _ _ _ fun x => ?_
  obtain ⟨x0, x1, x2⟩ := x
  refine run_part35 m E _ _ _ _ _ _ _ _ _ fun x => ?_
  refine run_part36 m E _ fun x => ?_
  refine run_part37 m E _ fun x => ?_
  refine run_part38 m E _ fun x => ?_
  refine run_part39 m E _ fun x => ?_
  refine run_part40 m E _ fun x => ?_
  refine run_part41 m E _ fun x => ?_
  simp only [Prog.lift, Prog.bind_op, Prog.bind_ret, Prog.pure_eq_ret]
  refine (plan m).step_lwait order E 0 rfl (sends_before (by decide)) rfl rfl ?_
  refine (plan m).step_lwait order E 1 rfl (sends_before (by decide)) rfl rfl ?_
  refine (plan m).step_lwait order E 2 rfl (sends_before (by decide)) rfl rfl ?_
  refine (plan m).step_lwait order E 3 rfl (sends_before (by decide)) rfl rfl ?_
  rw [wp_ret]; exact hQ

end Cert.GatherIdeal.Gth

end
-- ==== Proof.GatherLaunch.lean ====
/-
The weight gather launched: what each device holds at the launch dealt out as the plan asks, each device's region,
and the run of `@main` — every device's results are all devices' arguments, the arguments unchanged.
-/
module

public import proofs.«01_k».proof.Proof.GatherRun
public import proofs.«01_k».proof.Proof.GatherSlabs
public import proofs.«01_k».proof.Proof.ExchangeDeal
public import proofs.«01_k».proof.Proof.MeshLaunch
public import Idealize.ShloMosaic.Lib.Tactic

@[expose] public section

set_option Elab.async false
set_option maxRecDepth 16384

noncomputable section

namespace Cert.GatherIdeal.Gth

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Exchange Cert.GatherIdeal Cert.GatherIdeal.Gen Cert.MeshLaunch
open Idealize.ShloMosaic.Pipeline (Dat)

variable {F : FTy → Type} [FloatOps F]

/-- The ghost state: the pipelines' staging cells', and the gather's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev EX : Emb (UR sig nD τ) (MT nD τ sig Unit (Elt F) ℕ UU ℕ) := embR

variable (m : (ℓ : Loc nD τ sig) → Buf (Elt F) ℓ)

/-! ## A device's region -/

/-- What a device holds besides its arrays' slabs when the gather begins: its state less what it owes. -/
def atStart (c : Dev nD) : sProp 𝕄 :=
  iprop(∃ κ, (plan m).known order EX κ ∗ bigSep Finset.univ ((plan m).sSt order EX c 0) ∗ bigSep Finset.univ ((plan m).rSt order EX c 0)
    ∗ bigSep Finset.univ ((plan m).lSt order EX c 0))

/-- The gather's counters at zero. -/
def zeros (c : Dev nD) : sProp 𝕄 := bigSep Finset.univ fun x : Plan.Cell R (Fin 4) => semVal ((plan m).gcell c x) 0

/-- The arrays after the gather. -/
def results (c : Dev nD) : sProp 𝕄 :=
  iprop((bigSep Finset.univ fun a => argWhole m a c) ∗ bigSep Finset.univ fun a => gotWhole m a c)

/-- The region's proof data: no windows; at the start the plan's state, in the end the results. -/
def dats (_ : Fin 1) (c : Dev nD) : Dat τ (Elt F) Unit ℕ UU ℕ cfg0 c where
  A w := w.elim0
  after w _ := w.elim0
  Φ t := match t with
    | ⟨0, _⟩ => atStart m c
    | ⟨_ + 1, _⟩ => iprop(zeros m c ∗ results m c)
  q _ := fullShare
  owed t := match t with
    | ⟨0, _⟩ => (plan m).owed order c 0
    | ⟨_ + 1, _⟩ => 0
  recorded _ := Set.univ

theorem finish_results (κ : GSem nD τ sig → ℕ) (c : Dev nD) :
    (plan m).St order EX κ c 92 ⊢ |={Set.univ}=> (iprop((zeros m c ∗ results m c) ∗ ∃ W, owes (c.tc : Thread nD τ) 0 W) : sProp 𝕄) := by
  have hf := (plan m).finish (O := order) EX κ c 92 (fun i => (by decide +kernel : ∀ i, order.pSWait i < 92) i)
    (fun i => (by decide +kernel : ∀ i, order.pRecv i < 92) i) (fun a => (by decide +kernel : ∀ a, order.pLWait a < 92) a)
  have ha := after_copies (U := UU) m c
  refine hf.trans (fupd_mono ?_)
  unfold results
  iintro ⟨Hz, Hs, Hg, Hl, Hlg, HW⟩
  isplitr [HW]
  · isplitl [Hz]; · unfold zeros; iexact Hz
    iapply ha
    isplitl [Hs]; · iexact Hs
    isplitl [Hg]; · iexact Hg
    isplitl [Hl] <;> iassumption
  · iexact HW

/-- Nothing over no windows. -/
theorem no_windows (Φ : Fin cfg0.W → sProp 𝕄) : bigSep Finset.univ Φ = (BI.emp : sProp 𝕄) :=
  (congrArg (fun s => bigSep s Φ) (show (Finset.univ : Finset (Fin cfg0.W)) = ∅ from rfl)).trans BI.bigSep_empty

theorem body_obligation (c : Dev nD) : Pipeline.BodyObligation (dats (F := F) m 0 c) (defs₀ (F := F)) Variants.none () Set.univ := fun t => by
  rw [fin_N0 t, no_windows, no_windows]
  show iprop(atStart m c ∗ Pipeline.owesWithin c ((plan m).owed order c 0) ((dats (F := F) m 0 c).bound () 0) ∗ BI.emp)
    ⊢ wp frame (wpE (defs₀ (F := F)) Variants.none (c.tc) none) Set.univ (cc0_gather_weights (F := F) (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2)
      fun _ => iprop((zeros m c ∗ results m c) ∗ Pipeline.owesWithin c 0 ((dats (F := F) m 0 c).bound () 1) ∗ BI.emp)
  have hrun (κ : GSem nD τ sig → ℕ) := run_body (F := F) m EX (𝒱 := Variants.none) (κ := κ) (c := c)
    (Q := fun _ => iprop((zeros m c ∗ results m c) ∗ Pipeline.owesWithin c 0 ((dats (F := F) m 0 c).bound () 1) ∗ BI.emp))
    ((finish_results m κ c).trans (fupd_mono (show iprop((zeros m c ∗ results m c) ∗ ∃ W, owes (c.tc : Thread nD τ) 0 W)
        ⊢ iprop((zeros m c ∗ results m c) ∗ Pipeline.owesWithin c 0 ((dats (F := F) m 0 c).bound () 1) ∗ BI.emp) from by
      iintro ⟨H, %W, HW⟩
      isplitl [H]; · iexact H
      isplitl [HW]
      · unfold Pipeline.owesWithin
        iexists W; isplitr
        · ipureintro; exact fun _ _ => Or.inl trivial
        · iexact HW
      · iempintro)))
  unfold atStart Pipeline.owesWithin
  iintro ⟨⟨%κ, Hk, Hs, Hr, Hl⟩, ⟨%W, -, HW⟩, -⟩
  iapply (hrun κ)
  unfold Plan.St
  isplitl [Hk]; · iexact Hk
  isplitl [Hs]; · iexact Hs
  isplitl [Hr]; · iexact Hr
  isplitl [Hl]; · iexact Hl
  iexists W; iexact HW

/-! ## The launch's shares -/

theorem scoped_sS : ∀ i : R, SemLoc.isScoped Kind.tc (sS i : SemLoc sig) = true := by decide
theorem scoped_sR : ∀ i : R, SemLoc.isScoped Kind.tc (sR i : SemLoc sig) = true := by decide
theorem scoped_sL : ∀ a : Fin 4, SemLoc.isScoped Kind.tc (sL a : SemLoc sig) = true := by decide

theorem cell_facts : Pipeline.OwnSemFacts cfg0.spec (plan (F := F) m).cell :=
  ⟨fun k => match k with | .inl i => scoped_sS i | .inr (.inl i) => scoped_sR i | .inr (.inr a) => scoped_sL a, (plan (F := F) m).cell_inj, fun _ w => w.elim0⟩

/-- A device's region boundary and arrays are what the gather is brought and what waits beside it. -/
def beside (c : Dev nD) : sProp 𝕄 :=
  iprop(scopedBufs (c.tc : Thread nD τ) ∗ opIdle (c.tc : Thread nD τ) ∗ Pipeline.cellsSems0 cfgs 0 c
    ∗ Pipeline.idleSems0 cfgs cellOf_inj 0 (cell_facts (F := F) m) c)

theorem scopedSems_split (c : Dev nD) : (scopedSems0 (c.tc : Thread nD τ) : sProp 𝕄)
    = iprop((Pipeline.cellsSems0 cfgs 0 c ∗ zeros m c) ∗ Pipeline.idleSems0 cfgs cellOf_inj 0 (cell_facts (F := F) m) c) :=
  Pipeline.scopedSems0_split cfgs cellOf_inj 0 winFacts0.to₀ (cell_facts m) c

theorem unscoped_arrays (c : Dev nD) : (unscopedBufs c (fun b => m ((c.tc : Thread nD τ).loc b)) : sProp 𝕄)
    ⊢ iprop((bigSep Finset.univ fun a => argWhole m a c) ∗ bigSep Finset.univ fun a => outWhole m a c) := by
  have h4 (Φ : Fin 4 → sProp 𝕄) : bigSep Finset.univ Φ = iprop(Φ 0 ∗ Φ 1 ∗ Φ 2 ∗ Φ 3) :=
    bigSep_univ_eq_bigSepL [0, 1, 2, 3] (by decide) (by decide) Φ
  rw [Pipeline.unscopedBufs_split cfgs 0 winFacts0.arr_unscoped winFacts0.arr_inj c, h4, h4]
  refine (sep_mono .rfl (Entails.of_eq (unscopedRest0_eq c fun b => m ((c.tc : Thread nD τ).loc b)))).trans ?_
  unfold argWhole outWhole
  iintro ⟨-, H0, H1, H2, H3, G0, G1, G2, G3⟩
  isplitl [H0 H1 H2 H3]
  · isplitl [H0]; · iexact H0
    isplitl [H1]; · iexact H1
    isplitl [H2]; · iexact H2
    iexact H3
  · isplitl [G0]; · iexact G0
    isplitl [G1]; · iexact G1
    isplitl [G2]; · iexact G2
    iexact G3

theorem held_brought (ρ : Dev nD → PrngReg) (c : Dev nD) :
    launchHeld (fun d => (plan m).owed order d 0) m ρ c ⊢ (iprop(beside m c ∗ (plan m).brought order c) : sProp 𝕄) := by
  have hnow := sources (U := UU) m c
  unfold launchHeld boundary beside Plan.brought
  rw [scopedSems_split m c]
  iintro ⟨⟨Hb, ⟨⟨Hc, Hz⟩, Hi⟩, Hop⟩, Hu, -, HO, Hcr, -⟩
  ihave Ha := (unscoped_arrays m c) $$ Hu
  rw [args_eq, outs_eq]
  icases Ha with ⟨⟨Hls, Hs⟩, Hld, Hd⟩
  isplitl [Hb Hop Hc Hi]
  · isplitl [Hb]; · iexact Hb
    isplitl [Hop]; · iexact Hop
    isplitl [Hc]; · iexact Hc
    iexact Hi
  isplitl [Hz]; · unfold zeros; iexact Hz
  isplitl [Hs]; · iapply hnow; iexact Hs
  isplitl [Hd]; · iexact Hd
  isplitl [Hls]; · iexact Hls
  isplitl [Hld]; · iexact Hld
  isplitl [HO]; · iexact HO
  iexact Hcr

/-- What a device holds once the launch has dealt the gather's state. -/
def pre (c : Dev nD) : sProp 𝕄 :=
  iprop(beside m c ∗ (∃ κ, (plan m).St order EX κ c 0)
    ∗ (bigSep Finset.univ fun p => Pipeline.cellsGhost cfgs EP p c) ∗ bigSep Finset.univ fun p => Pipeline.toksInit cfgs EP p c)

/-- The ghost element the launch starts from. -/
def u₀ : UU := (initOf (Pipeline.cells cfgs cellOf_inj) (Pipeline.launchToks cfgs cellOf_inj), initOf (plan (F := F) m).cells (plan (F := F) m).toks)

theorem dealt (ρ : Dev nD → PrngReg) :
    (iprop((bigSep Finset.univ fun c : Dev nD => launchHeld (fun d => (plan m).owed order d 0) m ρ c) ∗ ownU (u₀ m)
      ∗ levAts Plan.leveled ((plan m).lev order)) : sProp 𝕄)
      ⊢ |={Set.univ}=> bigSep Finset.univ (pre m) := by
  have hpre : (bigSep Finset.univ (pre m) : sProp 𝕄) = iprop((bigSep Finset.univ fun c => beside m c)
      ∗ (bigSep Finset.univ fun c => iprop(∃ κ, (plan m).St order EX κ c 0))
      ∗ (bigSep Finset.univ fun c => bigSep Finset.univ fun p => Pipeline.cellsGhost cfgs EP p c)
      ∗ bigSep Finset.univ fun c => bigSep Finset.univ fun p => Pipeline.toksInit cfgs EP p c) := by
    unfold pre; simp only [bigSep_sep']
  have hheld : (bigSep Finset.univ fun c : Dev nD => launchHeld (fun d => (plan m).owed order d 0) m ρ c : sProp 𝕄)
      ⊢ iprop((bigSep Finset.univ fun c => beside m c) ∗ bigSep Finset.univ fun c => (plan m).brought order c) :=
    (bigSep_mono fun c _ => held_brought m ρ c).trans (Entails.of_eq (bigSep_sep' _ _ _))
  have hdeal := (plan m).deal (U := UU) order EX
  have hfund := Pipeline.fund_ghost (Val := Elt F) (Name := ℕ) (Lvl := ℕ) cfgs EP cellOf_inj
  rw [hpre]
  have hsplit : (ownU (u₀ m) : sProp 𝕄) ⊢ iprop(BI.own (EP (initOf (Pipeline.cells cfgs cellOf_inj) (Pipeline.launchToks cfgs cellOf_inj)))
      ∗ BI.own (EX (initOf (plan (F := F) m).cells (plan (F := F) m).toks))) := ownU_pair _ _
  iintro ⟨Hh, Hu, Hlv⟩
  ihave Hu' := hsplit $$ Hu
  icases Hu' with ⟨Hp, Hx⟩
  ihave Hh' := hheld $$ Hh
  icases Hh' with ⟨Hb, Hbr⟩
  imod hfund $$ Hp with ⟨Hg, Ht⟩
  imod hdeal $$ [Hbr Hx Hlv] with HS
  · isplitl [Hbr]; · iexact Hbr
    isplitl [Hx] <;> iassumption
  imodintro
  isplitl [Hb]; · iexact Hb
  isplitl [HS]; · iexact HS
  isplitl [Hg] <;> iassumption

/-! ## A device's run of `@main` -/

theorem fin1 (Φ : Fin 1 → sProp 𝕄) : bigSep Finset.univ Φ = Φ 0 := by
  rw [Finset.univ_unique, bigSep_singleton]; rfl

theorem run_device (c : Dev nD) : pre m c ⊢ wp frame (wpE (defs (F := F)) (Variants.lift Variants.none) (c.tc : Thread nD τ) none) Set.univ
    (main (F := F) c) fun _ => iprop(results m c ∗ boundary (c.tc : Thread nD τ) ∗ ∃ W, owes (c.tc : Thread nD τ) (0 : CellTallies nD τ sig Unit) W) := by
  have hsb := Pipeline.scopedBufs_split (τ := τ) (Ix := Unit) (Val := Elt F) (Name := ℕ) (U := UU) (Lvl := ℕ) cfgs 0 winFacts0.stage_scoped winFacts0.stage_inj stage_whole0 c
  have hin : iprop(atStart m c ∗ Pipeline.prefHeld (pcfgs (F := F) 0).pre c (fun _ => fullShare) ((cfgs 0).toPCfg_adm (Val := Elt F)).1
      ∗ Pipeline.scopedRest cfg0.spec c) ⊢ (dats (F := F) m 0 c).Φ 0 := by
    show _ ⊢ atStart m c
    iintro ⟨H, -, -⟩; iexact H
  have hout : iprop((dats (F := F) m 0 c).Φ (Fin.last cfg0.N) ∗ Pipeline.cellsSems0 cfgs 0 c ∗ Dat.staging cfg0 c
        ∗ Pipeline.idleSems0 cfgs cellOf_inj 0 (cell_facts (F := F) m) c)
      ⊢ iprop(results m c ∗ scopedSems0 (c.tc : Thread nD τ) ∗ scopedBufs (c.tc : Thread nD τ)) := by
    show iprop((zeros m c ∗ results m c) ∗ _) ⊢ _
    rw [scopedSems_split m c, hsb]
    refine BIBase.Entails.trans ?_ (sep_mono .rfl (sep_mono .rfl (sep_mono .rfl (Entails.of_eq (scopedRest0_eq c).symm))))
    iintro ⟨⟨Hz, HR⟩, Hc, Hst, Hi⟩
    isplitl [HR]; · iexact HR
    isplitl [Hc Hz Hi]
    · isplitl [Hc Hz]
      · isplitl [Hc] <;> iassumption
      · iexact Hi
    isplitl [Hst]; · iexact Hst
    iempintro
  have hne : ∀ w : Fin cfg0.W, 0 < (cfg0.win w).block.numel := fun w => w.elim0
  unfold pre beside
  rw [fin1, fin1, main_chain]
  simp only [Pipeline.chain_cons]
  iintro ⟨⟨Hb, Hop, Hc, Hi⟩, ⟨%κ, HS⟩, Hg, Ht⟩
  iapply (fupd_wp Idealize.ShloMosaic.frame (wpE (defs (F := F)) (Variants.lift Variants.none) (c.tc : Thread nD τ) none) Set.univ _ _)
  imod (Pipeline.cellsInit_alloc cfgs (dats (F := F) m) EP cellOf_inj 0 c) $$ [Hc Hg] with ⟨%κ', -, Hinit⟩
  · isplitl [Hc] <;> iassumption
  imodintro
  iapply (Pipeline.wp_customCall_entry_frame (pcfgs (F := F)) (fun p => (cfgs p).toPCfg_adm) (dats (F := F) m) () EP κ' cellOf_inj 0 defs₀ Variants.none
    (fun _ => fullShare) c Set.univ (fun _ _ => Set.mem_univ _) (body_obligation m c).loose hne none (fun u h => nomatch h)
    (X := atStart m c) (Y := results m c) (R := Pipeline.scopedRest cfg0.spec c) (I := Pipeline.idleSems0 cfgs cellOf_inj 0 (cell_facts (F := F) m) c)
    (Entails.of_eq hsb) hin hout) $$ [HS Hinit Ht Hi Hb]
  · unfold Pipeline.EntryPre Pipeline.PerCore.EntryPre Dat.owesAt
    unfold Plan.St
    icases HS with ⟨Hk, Hs, Hr, Hl, %W, HW⟩
    isplitl [HW Hinit Ht]
    · isplitr; · unfold Dat.arrays; iapply (Entails.of_eq (no_windows _).symm); iempintro
      isplitl [HW]
      · unfold Pipeline.owesWithin
        iexists W; isplitr
        · ipureintro; exact fun _ _ => Or.inl trivial
        · iexact HW
      isplitr; · unfold Pipeline.PerCore.cellsWaits Pipeline.PerCore.RDat.cellsWaits; iapply (Entails.of_eq (no_windows _).symm); iempintro
      isplitl [Hinit] <;> iassumption
    isplitr; · unfold Pipeline.prefHeld; iempintro
    isplitl [Hk Hs Hr Hl]
    · unfold atStart
      iexists κ
      isplitl [Hk]; · iexact Hk
      isplitl [Hs]; · iexact Hs
      isplitl [Hr]; · iexact Hr
      iexact Hl
    isplitl [Hi] <;> iassumption
  · unfold Pipeline.EntryPost Pipeline.PerCore.EntryPost Dat.owesAt Pipeline.owesWithin
    iintro ⟨⟨-, %W, -, HW⟩, HR, Hss, Hsb⟩
    rw [show ((Prog.ret PUnit.unit).bind fun _ => Pipeline.chain [] : Prog (TpuEff nD τ sig (Elt F) (Pipeline.Sig Λ₀ (Fin 1) fun p => (pcfgs (F := F) p).Adm) .tc) PUnit) = pure ⟨⟩ from rfl, wp_pure]
    imodintro
    isplitl [HR]; · iexact HR
    isplitr [HW]
    · unfold boundary
      isplitl [Hsb]; · iexact Hsb
      isplitl [Hss]; · iexact Hss
      iexact Hop
    · iexists W; iexact HW

/-! ## The run -/

/-- What is read at the end off one device's arrays: the arguments as at the launch, the results every
    device's arguments. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ s.mem ((c.tc : Thread nD τ).loc main_v1_0) = outF m 0 c c
  ∧ s.mem ((c.tc : Thread nD τ).loc main_v1_1) = outF m 1 c c
  ∧ s.mem ((c.tc : Thread nD τ).loc main_v1_2) = outF m 2 c c
  ∧ s.mem ((c.tc : Thread nD τ).loc main_v1_3) = outF m 3 c c

theorem read_results (c : Dev nD) (s' : Phys nD τ sig (Elt F)) :
    (iprop(results m c ∗ SI s') : sProp 𝕄) ⊢ |={Set.univ}=> iprop(⌜Ends m c s'.mem⌝ ∗ SI s') := by
  have h4 (Φ : Fin 4 → sProp 𝕄) : bigSep Finset.univ Φ = iprop(Φ 0 ∗ Φ 1 ∗ Φ 2 ∗ Φ 3) :=
    bigSep_univ_eq_bigSepL [0, 1, 2, 3] (by decide) (by decide) Φ
  have agree (b : Ref sig .tc) (f : Buf (Elt F) ((c.tc : Thread nD τ).loc b)) :
      (iprop(SI s' ∗ ((c.tc : Thread nD τ).loc b) ↦{fullShare} f) : sProp 𝕄) ⊢ iprop(⌜s'.mem.mem ((c.tc : Thread nD τ).loc b) = f⌝ ∗ SI s') := by
    iintro ⟨HSI, H⟩
    icombine HSI H gives %h
    isplitr
    · ipureintro; exact Buf.eq_of_forall_mem_univ h
    · iexact HSI
  unfold results
  rw [h4, h4]
  simp only [argWhole, gotWhole]
  iintro ⟨⟨⟨A0, A1, A2, A3⟩, G0, G1, G2, G3⟩, HSI⟩
  icombine HSI A0 gives %a0
  icombine HSI A1 gives %a1
  icombine HSI A2 gives %a2
  icombine HSI A3 gives %a3
  ihave Hg0 := (agree main_v1_0 (outF m 0 c c)) $$ [HSI G0]
  · isplitl [HSI] <;> iassumption
  icases Hg0 with ⟨%g0, HSI⟩
  ihave Hg1 := (agree main_v1_1 (outF m 1 c c)) $$ [HSI G1]
  · isplitl [HSI] <;> iassumption
  icases Hg1 with ⟨%g1, HSI⟩
  ihave Hg2 := (agree main_v1_2 (outF m 2 c c)) $$ [HSI G2]
  · isplitl [HSI] <;> iassumption
  icases Hg2 with ⟨%g2, HSI⟩
  ihave Hg3 := (agree main_v1_3 (outF m 3 c c)) $$ [HSI G3]
  · isplitl [HSI] <;> iassumption
  icases Hg3 with ⟨%g3, HSI⟩
  imodintro
  isplitr
  · ipureintro
    exact ⟨⟨Buf.eq_of_forall_mem_univ a0, Buf.eq_of_forall_mem_univ a1, Buf.eq_of_forall_mem_univ a2, Buf.eq_of_forall_mem_univ a3⟩,
      g0, g1, g2, g3⟩
  · iexact HSI

theorem run_main (ρ : Dev nD → PrngReg) :
    θ_run (defs (F := F)) (onTc (τ := τ) (main (F := F))) ⟨m, fun _ => 0, ρ⟩ fun r => (∀ c, Ends m c r.2) ∧ r.2.sem = fun _ => 0 :=
  θ_run_mesh (Ix := Unit) (Name := ℕ) (U := UU) (Lvl := ℕ) (defs (F := F)) (Variants.lift Variants.none) m ρ (main (F := F))
    (fun d => (plan m).owed order d 0) (u₀ m) Plan.leveled (fun _ h => if_neg h) ((plan m).lev order) (pre m) (results m) (dealt m ρ) (run_device m) (Ends m) (read_results m)
    fun s h hs => ⟨h, sem_eq_zero_of_scoped (by decide) hs⟩

end Cert.GatherIdeal.Gth

end
-- ==== Proof.GatherValues.lean ====
/-
The gather's value: what every device ends with is the whole array, its column blocks or its row blocks stacked.
-/
module

public import proofs.«01_k».proof.Proof.GatherLaunch
public import Idealize.ShloMosaic.Lib.Layout
public import Idealize.ShloMosaic.Lib.ValueLayout
public import Idealize.ShloMosaic.Lib.Pointwise.Index
public import Idealize.ShloMosaic.Lib.Pipeline.Value

@[expose] public section

set_option Elab.async false

noncomputable section

namespace Cert.GatherIdeal.Gth

open Idealize.ShloMosaic Idealize.ShloMosaic.TcCoe Cert.GatherIdeal

/-- The stacked column blocks of an array, at an index, are block `x 0` at the rest of the index. -/
theorem cols_at {α : Type} {A B W : ℕ} (hW : W = 8 * B) (v : (⟨2, ![A, W]⟩ : Shape).Idx → α)
    (h : (⟨2, ![A, W]⟩ : Shape).ShapeCasts ⟨3, ![A, 8, B]⟩)
    (ht : (⟨3, ![A, 8, B]⟩ : Shape).Transposes [1, 0, 2] ⟨3, ![8, A, B]⟩)
    (hT : Layout.Tiles ⟨2, ![A, B]⟩ ⟨2, ![A, W]⟩ 1 8) (x : (⟨3, ![8, A, B]⟩ : Shape).Idx) :
    transpose ⟨3, ![8, A, B]⟩ [1, 0, 2] (shapeCast _ v h) ht x
      = Layout.block ⟨2, ![A, B]⟩ ⟨2, ![A, W]⟩ 1 8 (slabOf x) v hT (inSlab x) := by
  subst hW
  rw [Layout.block_apply]
  refine (transpose_apply _ _ ht _ (ix3 (n0 := A) (n1 := 8) (n2 := B) (x 1) (x 0) (x 2)) ?_).trans (shapeCast_apply _ h _ _ ?_)
  · intro b; fin_cases b <;> rfl
  · rw [Shape.rowMajor_val_three, Shape.rowMajor_val_two]
    show (x 1).val * (8 * B) + ((x 0).val * B + (x 2).val) = ((x 1).val * 8 + (x 0).val) * B + (x 2).val
    rw [Nat.add_mul, Nat.mul_assoc, Nat.add_assoc]

/-- The stacked row blocks of an array, at an index, are block `x 0` at the rest of the index. -/
theorem rows_at {α : Type} {A B W : ℕ} (v : (⟨2, ![W, B]⟩ : Shape).Idx → α)
    (h : (⟨2, ![W, B]⟩ : Shape).ShapeCasts ⟨3, ![8, A, B]⟩)
    (hT : Layout.Tiles ⟨2, ![A, B]⟩ ⟨2, ![W, B]⟩ 0 8) (x : (⟨3, ![8, A, B]⟩ : Shape).Idx) :
    (shapeCast ⟨3, ![8, A, B]⟩ v h : (⟨3, ![8, A, B]⟩ : Shape).Idx → α) x
      = Layout.block ⟨2, ![A, B]⟩ ⟨2, ![W, B]⟩ 0 8 (slabOf x) v hT (inSlab x) := by
  rw [Layout.block_apply]
  refine shapeCast_apply _ h _ _ ?_
  rw [Shape.rowMajor_val_three, Shape.rowMajor_val_two]
  rfl

variable {F : FTy → Type} [FloatOps F]

/-- Result 0 of every device is the reference's. -/
theorem value0 (m : (ℓ : Loc nD τ sig) → Buf (Elt F) ℓ) (v : (⟨2, ![2048, 6168]⟩ : Shape).Idx → Elt F .bf16)
    (hv : ∀ d : Dev nD, m ((d.tc : Thread nD τ).loc main_arg0) = Layout.block ⟨2, ![2048, 771]⟩ ⟨2, ![2048, 6168]⟩ 1 8 d v)
    (h : (⟨2, ![2048, 6168]⟩ : Shape).ShapeCasts ⟨3, ![2048, 8, 771]⟩)
    (ht : (⟨3, ![2048, 8, 771]⟩ : Shape).Transposes [1, 0, 2] ⟨3, ![8, 2048, 771]⟩) (c : Dev nD) :
    outF m 0 c c = transpose ⟨3, ![8, 2048, 771]⟩ [1, 0, 2] (shapeCast _ v h) ht :=
  funext fun x => (congrFun (hv (slabOf x)) (inSlab x)).trans (cols_at rfl v h ht _ x).symm

/-- Result 1 of every device is the reference's. -/
theorem value1 (m : (ℓ : Loc nD τ sig) → Buf (Elt F) ℓ) (v : (⟨2, ![2048, 2048]⟩ : Shape).Idx → Elt F .bf16)
    (hv : ∀ d : Dev nD, m ((d.tc : Thread nD τ).loc main_arg1) = Layout.block ⟨2, ![256, 2048]⟩ ⟨2, ![2048, 2048]⟩ 0 8 d v)
    (h : (⟨2, ![2048, 2048]⟩ : Shape).ShapeCasts ⟨3, ![8, 256, 2048]⟩) (c : Dev nD) :
    outF m 1 c c = shapeCast ⟨3, ![8, 256, 2048]⟩ v h :=
  funext fun x => (congrFun (hv (slabOf x)) (inSlab x)).trans (rows_at v h _ x).symm

/-- Result 2 of every device is the reference's. -/
theorem value2 (m : (ℓ : Loc nD τ sig) → Buf (Elt F) ℓ) (v : (⟨2, ![2048, 8192]⟩ : Shape).Idx → Elt F .bf16)
    (hv : ∀ d : Dev nD, m ((d.tc : Thread nD τ).loc main_arg2) = Layout.block ⟨2, ![2048, 1024]⟩ ⟨2, ![2048, 8192]⟩ 1 8 d v)
    (h : (⟨2, ![2048, 8192]⟩ : Shape).ShapeCasts ⟨3, ![2048, 8, 1024]⟩)
    (ht : (⟨3, ![2048, 8, 1024]⟩ : Shape).Transposes [1, 0, 2] ⟨3, ![8, 2048, 1024]⟩) (c : Dev nD) :
    outF m 2 c c = transpose ⟨3, ![8, 2048, 1024]⟩ [1, 0, 2] (shapeCast _ v h) ht :=
  funext fun x => (congrFun (hv (slabOf x)) (inSlab x)).trans (cols_at rfl v h ht _ x).symm

/-- Result 3 of every device is the reference's. -/
theorem value3 (m : (ℓ : Loc nD τ sig) → Buf (Elt F) ℓ) (v : (⟨2, ![8192, 2048]⟩ : Shape).Idx → Elt F .bf16)
    (hv : ∀ d : Dev nD, m ((d.tc : Thread nD τ).loc main_arg3) = Layout.block ⟨2, ![1024, 2048]⟩ ⟨2, ![8192, 2048]⟩ 0 8 d v)
    (h : (⟨2, ![8192, 2048]⟩ : Shape).ShapeCasts ⟨3, ![8, 1024, 2048]⟩) (c : Dev nD) :
    outF m 3 c c = shapeCast ⟨3, ![8, 1024, 2048]⟩ v h :=
  funext fun x => (congrFun (hv (slabOf x)) (inSlab x)).trans (rows_at v h _ x).symm

end Cert.GatherIdeal.Gth

end
-- ==== Proof.Update.lean ====
/- AdamW on an array from eight slabs of its partial gradient, element by element and on whole arrays of any shape: what an
   update's blocks are read as, and the reference's terms read at the ideal instance. -/
module

public import Idealize.ShloMosaic.Lib.Pipeline.Value
public import Idealize.ShloMosaic.Lib.IdealHost
public import Idealize.ShloMosaic.Lib.StackMember

@[expose] public section

noncomputable section

namespace Cert.Upd

open Idealize.ShloMosaic Idealize.ShloMosaic.ValueIdx

/-! ## One element -/

section
variable {F : FTy → Type} [FloatOps F]

/-- The gradient of an element: its eight partial values, widened and added in order. -/
def gsum (hb : FTy.bits .bf16 < FTy.bits .f32) (a0 a1 a2 a3 a4 a5 a6 a7 : F .bf16) : F .f32 :=
  FloatOps.addf (FloatOps.addf (FloatOps.addf (FloatOps.addf (FloatOps.addf (FloatOps.addf (FloatOps.addf
    (FloatOps.extf .f32 hb a0) (FloatOps.extf .f32 hb a1)) (FloatOps.extf .f32 hb a2)) (FloatOps.extf .f32 hb a3))
    (FloatOps.extf .f32 hb a4)) (FloatOps.extf .f32 hb a5)) (FloatOps.extf .f32 hb a6)) (FloatOps.extf .f32 hb a7)

/-- The new first moment. -/
def newM (g m : F .f32) : F .f32 :=
  FloatOps.addf (FloatOps.mulf (Scalar.ofBits .f32 0x3F666666#32) m) (FloatOps.mulf (Scalar.ofBits .f32 0x3DCCCCCD#32) g)

/-- The new second moment. -/
def newV (g v : F .f32) : F .f32 :=
  FloatOps.addf (FloatOps.mulf (Scalar.ofBits .f32 0x3F7FBE77#32) v)
    (FloatOps.mulf (Scalar.ofBits .f32 0x3A83126F#32) (FloatOps.mulf g g))

/-- The step. -/
def delta (g w m v : F .f32) : F .f32 :=
  FloatOps.mulf (Scalar.ofBits .f32 0xBA83126F#32)
    (FloatOps.addf
      (FloatOps.divf (FloatOps.divf (newM g m) (Scalar.ofBits .f32 0x3F26BD02#32))
        (FloatOps.addf (FloatOps.sqrt (FloatOps.divf (newV g v) (Scalar.ofBits .f32 0x3C231ACC#32)))
          (Scalar.ofBits .f32 0x322BCC77#32)))
      (FloatOps.mulf (Scalar.ofBits .f32 0x3C23D70A#32) w))

end

/-! ## Whole arrays -/

abbrev Mat (R C : Nat) : Shape := ⟨2, ![R, C]⟩
abbrev Slabs (R C : Nat) : Shape := ⟨3, ![8, R, C]⟩

variable {R C : Nat}

/-- Slab `k`'s element for element `i` of the array. -/
abbrev at3 (k : Fin 8) (i : (Mat R C).Idx) : (Slabs R C).Idx := ix3 k (i 0) (i 1)

section
variable {F : FTy → Type} [FloatOps F]

theorem wide : FTy.bits .bf16 < FTy.bits .f32 := by decide

/-- The gradient from the eight slabs. -/
def grad (x : (Slabs R C).Idx → F .bf16) : (Mat R C).Idx → F .f32 := fun i =>
  gsum wide (x (at3 0 i)) (x (at3 1 i)) (x (at3 2 i)) (x (at3 3 i)) (x (at3 4 i)) (x (at3 5 i)) (x (at3 6 i)) (x (at3 7 i))

/-- Eight slabs added in order. -/
def total (x : (Slabs R C).Idx → F .f32) : (Mat R C).Idx → F .f32 := fun i =>
  FloatOps.addf (FloatOps.addf (FloatOps.addf (FloatOps.addf (FloatOps.addf (FloatOps.addf (FloatOps.addf
    (x (at3 0 i)) (x (at3 1 i))) (x (at3 2 i))) (x (at3 3 i))) (x (at3 4 i))) (x (at3 5 i))) (x (at3 6 i))) (x (at3 7 i))

/-- The product of eight columns by eight rows, column by row, added in order. -/
def outer (a : (Mat R 8).Idx → F .f32) (b : (Mat 8 C).Idx → F .f32) : (Mat R C).Idx → F .f32 := fun i =>
  let p := fun k : Fin 8 => FloatOps.mulf (a (ix2 (i 0) k)) (b (ix2 k (i 1)))
  FloatOps.addf (FloatOps.addf (FloatOps.addf (FloatOps.addf (FloatOps.addf (FloatOps.addf (FloatOps.addf
    (p 0) (p 1)) (p 2)) (p 3)) (p 4)) (p 5)) (p 6)) (p 7)

/-- The AdamW results from the gradient. -/
def newMs (g m : (Mat R C).Idx → F .f32) : (Mat R C).Idx → F .f32 := fun i => newM (g i) (m i)
def newVs (g v : (Mat R C).Idx → F .f32) : (Mat R C).Idx → F .f32 := fun i => newV (g i) (v i)
def deltas (g w m v : (Mat R C).Idx → F .f32) : (Mat R C).Idx → F .f32 := fun i => delta (g i) (w i) (m i) (v i)

end

/-- Slab `k` of a block of slabs, loaded and stripped of its unit axis, at `j`: the block at (k, j). -/
theorem slab_at {Val : EltTy → Type} {e : EltTy} {k : Nat} (hk : k < 8) (x : (Slabs R C).Idx → Val e)
    (inb : ∀ a, (![k, 0, 0] : Fin 3 → Nat) a + (⟨3, ![1, R, C]⟩ : Shape).size a ≤ (Slabs R C).size a)
    (h : (⟨3, ![1, R, C]⟩ : Shape).ShapeCasts (Mat R C)) (j : (Mat R C).Idx) :
    shapeCast (Mat R C) (View.ld x (Rect.unit (s := Slabs R C) ![k, 0, 0] (⟨3, ![1, R, C]⟩ : Shape).size inb)) h j
      = x (at3 ⟨k, hk⟩ j) := by
  refine (shapeCast_dropUnit_apply ![R, C] _ h j).trans (congrArg x (funext fun a => Fin.ext ?_))
  match a with
  | ⟨0, _⟩ => show k + 1 * 0 = k; omega
  | ⟨1, _⟩ => show 0 + 1 * (j 0).val = (j 0).val; omega
  | ⟨2, _⟩ => show 0 + 1 * (j 1).val = (j 1).val; omega

/-- Column `k` of eight, loaded and spread over the columns of the array, at `j`. -/
theorem col_at {Val : EltTy → Type} {e : EltTy} (k : Fin 8) (x : (Mat R 8).Idx → Val e)
    (inb : ∀ a, (![0, k.val] : Fin 2 → Nat) a + (Mat R 1).size a ≤ (Mat R 8).size a) (h : (Mat R 1).Broadcasts (Mat R C))
    (hR : R ≠ 1) (j : (Mat R C).Idx) :
    broadcastTo (Mat R C) (View.ld x (Rect.unit (s := Mat R 8) ![0, k.val] (Mat R 1).size inb)) h j = x (ix2 (j 0) k) := by
  refine (broadcastTo_apply _ h j (ix2 (j 0) (0 : Fin 1)) fun a => ?_).trans (congrArg x (funext fun a => Fin.ext ?_))
  · match a with
    | ⟨0, _⟩ => exact (if_neg hR).symm
    | ⟨1, _⟩ => rfl
  · match a with
    | ⟨0, _⟩ => show 0 + 1 * (j 0).val = (j 0).val; omega
    | ⟨1, _⟩ => rfl

/-- Row `k` of eight, loaded and spread over the rows of the array, at `j`. -/
theorem row_at {Val : EltTy → Type} {e : EltTy} (k : Fin 8) (x : (Mat 8 C).Idx → Val e)
    (inb : ∀ a, (![k.val, 0] : Fin 2 → Nat) a + (Mat 1 C).size a ≤ (Mat 8 C).size a) (h : (Mat 1 C).Broadcasts (Mat R C))
    (hC : C ≠ 1) (j : (Mat R C).Idx) :
    broadcastTo (Mat R C) (View.ld x (Rect.unit (s := Mat 8 C) ![k.val, 0] (Mat 1 C).size inb)) h j = x (ix2 k (j 1)) := by
  refine (broadcastTo_apply _ h j (ix2 (0 : Fin 1) (j 1)) fun a => ?_).trans (congrArg x (funext fun a => Fin.ext ?_))
  · match a with
    | ⟨0, _⟩ => rfl
    | ⟨1, _⟩ => exact (if_neg hC).symm
  · match a with
    | ⟨0, _⟩ => rfl
    | ⟨1, _⟩ => show 0 + 1 * (j 1).val = (j 1).val; omega

/-! ## Tiles of rows: tile `t` of `T` rows of an array lies in the array by `e`, of slabs by `e'` -/

section
variable {T t : Nat} {e : (Mat T C).Idx → (Mat R C).Idx} {e' : (Slabs T C).Idx → (Slabs R C).Idx}
  (he : ∀ y a, (e y a).val = (![t, 0] : Fin 2 → Nat) a * (Mat T C).size a + (y a).val)
  (he' : ∀ y a, (e' y a).val = (![0, t, 0] : Fin 3 → Nat) a * (Slabs T C).size a + (y a).val)

include he in
/-- An element of the array, in its tile. -/
theorem tile (i : (Mat R C).Idx) (hT : 0 < T) (h : (i 0).val / T = t) :
    e (ix2 (n0 := T) (n1 := C) ⟨(i 0).val % T, Nat.mod_lt _ hT⟩ (i 1)) = i := by
  subst h
  funext a
  refine Fin.ext ((he _ a).trans ?_)
  match a with
  | ⟨0, _⟩ => exact Nat.div_add_mod' _ _
  | ⟨1, _⟩ => show 0 * C + (i 1).val = (i 1).val; omega

include he he' in
theorem slab_tile (k : Fin 8) (y : (Mat T C).Idx) : e' (at3 k y) = at3 k (e y) :=
  funext fun a => Fin.ext <| (he' _ a).trans <| by
    match a with
    | ⟨0, _⟩ => show 0 * 8 + k.val = k.val; omega
    | ⟨1, _⟩ => exact (he y 0).symm
    | ⟨2, _⟩ => exact (he y 1).symm

include he he' in
/-- The eight loads of a tile of slabs give the tile of the gradient. -/
theorem grad_tile {F : FTy → Type} [FloatOps F] (x : (Slabs R C).Idx → F .bf16) (b : (Slabs T C).Idx → Elt F .bf16)
    (hx : ∀ z, b z = x (e' z)) (h : (⟨3, ![1, T, C]⟩ : Shape).ShapeCasts (Mat T C))
    (inb : ∀ k : Fin 8, ∀ a, (![k.val, 0, 0] : Fin 3 → Nat) a + (⟨3, ![1, T, C]⟩ : Shape).size a ≤ (Slabs T C).size a)
    (y : (Mat T C).Idx) :
    (let l := fun k : Fin 8 => shapeCast (Mat T C)
        (View.ld b (Rect.unit (s := Slabs T C) ![k.val, 0, 0] (⟨3, ![1, T, C]⟩ : Shape).size (inb k))) h y
     gsum wide (l 0) (l 1) (l 2) (l 3) (l 4) (l 5) (l 6) (l 7)) = grad x (e y) := by
  have s (k : Fin 8) : shapeCast (Mat T C)
      (View.ld b (Rect.unit (s := Slabs T C) ![k.val, 0, 0] (⟨3, ![1, T, C]⟩ : Shape).size (inb k))) h y = x (at3 k (e y)) :=
    (slab_at k.isLt b (inb k) h y).trans ((hx _).trans (congrArg x (slab_tile he he' k y)))
  simp only [s]
  rfl

end

/-- A tile of the columns, by all the rows, gives the tile of the product. -/
theorem outer_tile {F : FTy → Type} [FloatOps F] {T t : Nat} {e : (Mat T C).Idx → (Mat R C).Idx}
    {e' : (Mat T 8).Idx → (Mat R 8).Idx} (he : ∀ y a, (e y a).val = (![t, 0] : Fin 2 → Nat) a * (Mat T C).size a + (y a).val)
    (he' : ∀ y a, (e' y a).val = (![t, 0] : Fin 2 → Nat) a * (Mat T 8).size a + (y a).val)
    (a : (Mat R 8).Idx → F .f32) (b : (Mat 8 C).Idx → F .f32) (y : (Mat T C).Idx) :
    outer (fun z => a (e' z)) b y = outer a b (e y) := by
  have ha (k : Fin 8) : e' (ix2 (y 0) k) = ix2 (e y 0) k := funext fun x => Fin.ext <| (he' _ x).trans <| by
    match x with
    | ⟨0, _⟩ => exact (he y 0).symm
    | ⟨1, _⟩ => show 0 * 8 + k.val = k.val; omega
  have hb : y 1 = e y 1 := Fin.ext ((he y 1).trans (by show 0 * C + (y 1).val = (y 1).val; omega)).symm
  unfold outer
  simp only [ha, hb]
  rfl

/-! ## The reference's terms at the ideal instance -/

/-- A sum over the slab axis from zero is the sum in order. -/
theorem host_total (x : FVec Ideal (Slabs R C) .f32) (h : (Slabs R C).ReducesTo [0] (Mat R C))
    (h' : (Slabs R C).Reduces [0] (Mat R C)) (hu : 0 < (⟨0, ![]⟩ : Shape).numel) :
    Host.reduceAdd x (constant (F := Ideal) ⟨0, ![]⟩ .f32 0x00000000#32) h hu = total x := by
  funext j
  rw [hostReduceAdd_apply, Ideal.hostReduceAdd_single h h']
  have e (k : Fin 8) : h'.lift j k = at3 k j := funext fun a => Fin.ext <| by
    match a with
    | ⟨0, _⟩ => rfl
    | ⟨1, _⟩ => rfl
    | ⟨2, _⟩ => rfl
  show Ideal.ofBits .f32 0x00000000#32 + ∑ k : Fin 8, (x : (Slabs R C).Idx → EReal) (h'.lift j k) = _
  rw [Ideal.ofBits_zero_f32, zero_add, Fin.sum_univ_eight]
  simp only [e]
  rfl

/-- The same of slabs widened first. -/
theorem host_grad (x : FVec Ideal (Slabs R C) .bf16) (hb : FTy.bits .bf16 < FTy.bits .f32)
    (h : (Slabs R C).ReducesTo [0] (Mat R C)) (h' : (Slabs R C).Reduces [0] (Mat R C))
    (hu : 0 < (⟨0, ![]⟩ : Shape).numel) :
    Host.reduceAdd (extf .f32 x hb) (constant (F := Ideal) ⟨0, ![]⟩ .f32 0x00000000#32) h hu = grad x :=
  host_total (extf .f32 x hb) h h' hu

/-- A product contracted over eight is the products' sum in order. -/
theorem host_outer (a : FVec Ideal (Mat R 8) .f32) (b : FVec Ideal (Mat 8 C) .f32) (p : Option ContractPrecision) :
    Host.dotGeneral (DotDims.plain R 8 C) p a b = outer (F := Ideal) a b := by
  funext j
  obtain ⟨x, y, rfl⟩ : ∃ (x : Fin R) (y : Fin C), j = ix2 x y := ⟨j 0, j 1, eq_ix2 j⟩
  rw [StackMember.dotGeneral_plain_apply, Fin.sum_univ_eight]
  rfl

end Cert.Upd

end
-- ==== Proof.UpdateIn.lean ====
/- The AdamW update of w_in: every grid point's blocks are the tiles of the whole arrays' update. -/
module

public import proofs.«01_k».proof.Proof.Gen.UpdateInIdeal.Value
public import proofs.«01_k».proof.Proof.Gen.UpdateInReferenceIdeal.Run
public import proofs.«01_k».proof.Proof.Update

@[expose] public section

noncomputable section

open Idealize.ShloMosaic Idealize.ShloMosaic.TcCoe Idealize.ShloMosaic.ValueIdx Idealize.SL.Sem
open Idealize.ShloMosaic.Pipeline (Dat)

namespace Cert.UpdateInIdeal.Adam

open Cert.UpdateInIdeal Cert.UpdateInIdeal.Gen Cert.Upd

variable {F : FTy → Type} [FloatOps F]
variable (m : (ℓ : Loc nD τ sig) → Buf (Elt F) ℓ) (ρ : Dev nD → PrngReg) (c : Dev nD)

/-- Point `t`'s blocks are tile `t`. -/
theorem index_at : ∀ t : Fin cfg0.N, (∀ a, win0_4.index t a = (![t.val, 0] : Fin 2 → Nat) a)
    ∧ ∀ a, win0_1.index t a = (![0, t.val, 0] : Fin 3 → Nat) a := by decide +kernel

theorem rows_at (t : Fin cfg0.N) (y : (Mat 256 771).Idx) (a) :
    ((win0_4.rect t).emb y a).val = (![t.val, 0] : Fin 2 → Nat) a * (Mat 256 771).size a + (y a).val :=
  (Pipeline.Window.rect_emb_val win0_4 t y a).trans (congrArg (· * (Mat 256 771).size a + (y a).val) ((index_at t).1 a))

theorem slabs_at (t : Fin cfg0.N) (y : (Slabs 256 771).Idx) (a) :
    ((win0_1.rect t).emb y a).val = (![0, t.val, 0] : Fin 3 → Nat) a * (Slabs 256 771).size a + (y a).val :=
  (Pipeline.Window.rect_emb_val win0_1 t y a).trans (congrArg (· * (Slabs 256 771).size a + (y a).val) ((index_at t).2 a))

/-- The gradient of device `c`'s arrays. -/
abbrev g : (Mat 2048 771).Idx → F .f32 := grad (F := F) (m ((c : Thread nD τ).loc main_arg1))

/-- The slabs' blocks give the gradient's block. -/
theorem grad_blk (t : Fin cfg0.N) :
    k0_pay5 (iblk m c 0 t) (iblk m c 1 t) (iblk m c 2 t) (iblk m c 3 t) = (win0_4.blk t).view.read (Elt F) (g m c) :=
  funext fun y => grad_tile (rows_at t) (slabs_at t) (m ((c : Thread nD τ).loc main_arg1)) (iblk m c 1 t) (fun _ => rfl)
    shapeCasts_S1x256x771_S256x771 (by decide) y

/-- The tiles cover the array. -/
theorem cover (i : S2048x771.Idx) :
    ∃ t : Fin cfg0.N, (cfg0.win 4).flush t = true ∧ i ∈ ((cfg0.win 4).blk t).view.set := by
  have hi : (i 0).val < 2048 := (i 0).isLt
  have ht : (i 0).val / 256 < cfg0.N := by rw [show cfg0.N = 8 by decide]; omega
  exact ⟨⟨_, ht⟩, flush0_4 _, (congrArg (· ∈ (win0_4.blk ⟨_, ht⟩).view.set) (tile (rows_at ⟨_, ht⟩) i (by decide) rfl)).mp
    ((win0_4.blk ⟨_, ht⟩).view.emb_mem_set _)⟩

theorem hz : (![0, 0] : Fin 2 → Nat) = fun _ => 0 := funext fun a => by fin_cases a <;> rfl

/-- The run: the results are the update of the arguments, which are unchanged. -/
theorem run : θ_run defs (onTc (τ := τ) (main (F := F))) ⟨m, fun _ => 0, ρ⟩ fun r => ∀ c : Dev nD,
      r.2.mem ((c : Thread nD τ).loc main_v0_0) = g m c
      ∧ r.2.mem ((c : Thread nD τ).loc main_v0_1)
        = deltas (g m c) (m ((c : Thread nD τ).loc main_arg0)) (m ((c : Thread nD τ).loc main_arg2)) (m ((c : Thread nD τ).loc main_arg3))
      ∧ r.2.mem ((c : Thread nD τ).loc main_v0_2) = newMs (g m c) (m ((c : Thread nD τ).loc main_arg2))
      ∧ r.2.mem ((c : Thread nD τ).loc main_v0_3) = newVs (g m c) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, h7, ha⟩ := h c
    refine ⟨h4.trans ?_, h5.trans ?_, h6.trans ?_, h7.trans ?_, ha⟩
    · exact (dats m 0 c).arrAt_eq_of_cover 4 _ (fun t _ => by
        rw [Value.flushed4, show (out0_4 (iblk m c 0 t) (iblk m c 1 t) (iblk m c 2 t) (iblk m c 3 t)) = _ from
          (View.canon_unit_zero hz _ _).trans (grad_blk m c t)]) cover
    · exact (dats m 0 c).arrAt_eq_of_cover 5 _ (fun t _ => by
        rw [Value.flushed5]; unfold out0_5
        rw [grad_blk, View.canon_unit_zero hz, View.ld_unit_zero hz, View.ld_unit_zero hz, View.ld_unit_zero hz]; rfl) cover
    · exact (dats m 0 c).arrAt_eq_of_cover 6 _ (fun t _ => by
        rw [Value.flushed6]; unfold out0_6
        rw [grad_blk, View.canon_unit_zero hz, View.ld_unit_zero hz]; rfl) cover
    · exact (dats m 0 c).arrAt_eq_of_cover 7 _ (fun t _ => by
        rw [Value.flushed7]; unfold out0_7
        rw [grad_blk, View.canon_unit_zero hz, View.ld_unit_zero hz]; rfl) cover)
    (Value.run_blocks m ρ)

end Cert.UpdateInIdeal.Adam

namespace Cert.UpdateInReferenceIdeal.Adam

open Cert.UpdateInReferenceIdeal Cert.UpdateInReferenceIdeal.Gen Cert.Upd

/-- The reference's run, its results read as the same update. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let g : (Mat 2048 771).Idx → EReal := grad (F := Ideal) (m ((c : Thread nD τ).loc main_arg1))
      r.2.mem ((c : Thread nD τ).loc main_v1) = g
      ∧ r.2.mem ((c : Thread nD τ).loc main_v25)
        = deltas (F := Ideal) g (m ((c : Thread nD τ).loc main_arg0)) (m ((c : Thread nD τ).loc main_arg2)) (m ((c : Thread nD τ).loc main_arg3))
      ∧ r.2.mem ((c : Thread nD τ).loc main_v6) = newMs (F := Ideal) g (m ((c : Thread nD τ).loc main_arg2))
      ∧ r.2.mem ((c : Thread nD τ).loc main_v12) = newVs (F := Ideal) g (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h1, h25, h6, h12, ha⟩ := h c
    have hg := host_grad (R := 2048) (C := 771) (m ((c : Thread nD τ).loc main_arg1)) bitsLt_bf16_f32
      reducesTo_S8x2048x771_S2048x771_d0 (by decide) h_S_
    rw [hg] at h1 h25 h6 h12
    exact ⟨h1, h25, h6, h12, ha⟩) (Value.run m ρ)

end Cert.UpdateInReferenceIdeal.Adam

end
-- ==== Proof.UpdateOut.lean ====
/- The AdamW update of w_out: every grid point's blocks are the tiles of the whole arrays' update. -/
module

public import proofs.«01_k».proof.Proof.Gen.UpdateOutIdeal.Value
public import proofs.«01_k».proof.Proof.Gen.UpdateOutReferenceIdeal.Run
public import proofs.«01_k».proof.Proof.Update

@[expose] public section

noncomputable section

open Idealize.ShloMosaic Idealize.ShloMosaic.TcCoe Idealize.ShloMosaic.ValueIdx Idealize.SL.Sem
open Idealize.ShloMosaic.Pipeline (Dat)

namespace Cert.UpdateOutIdeal.Adam

open Cert.UpdateOutIdeal Cert.UpdateOutIdeal.Gen Cert.Upd

variable {F : FTy → Type} [FloatOps F]
variable (m : (ℓ : Loc nD τ sig) → Buf (Elt F) ℓ) (ρ : Dev nD → PrngReg) (c : Dev nD)

/-- Point `t`'s blocks are tile `t`. -/
theorem index_at : ∀ t : Fin cfg0.N, (∀ a, win0_4.index t a = (![t.val, 0] : Fin 2 → Nat) a)
    ∧ ∀ a, win0_1.index t a = (![0, t.val, 0] : Fin 3 → Nat) a := by decide +kernel

theorem rows_at (t : Fin cfg0.N) (y : (Mat 256 2048).Idx) (a) :
    ((win0_4.rect t).emb y a).val = (![t.val, 0] : Fin 2 → Nat) a * (Mat 256 2048).size a + (y a).val :=
  (Pipeline.Window.rect_emb_val win0_4 t y a).trans (congrArg (· * (Mat 256 2048).size a + (y a).val) ((index_at t).1 a))

theorem slabs_at (t : Fin cfg0.N) (y : (Slabs 256 2048).Idx) (a) :
    ((win0_1.rect t).emb y a).val = (![0, t.val, 0] : Fin 3 → Nat) a * (Slabs 256 2048).size a + (y a).val :=
  (Pipeline.Window.rect_emb_val win0_1 t y a).trans (congrArg (· * (Slabs 256 2048).size a + (y a).val) ((index_at t).2 a))

/-- The gradient of device `c`'s arrays. -/
abbrev g : (Mat 256 2048).Idx → F .f32 := grad (F := F) (m ((c : Thread nD τ).loc main_arg1))

/-- The slabs' blocks give the gradient's block. -/
theorem grad_blk (t : Fin cfg0.N) :
    k0_pay5 (iblk m c 0 t) (iblk m c 1 t) (iblk m c 2 t) (iblk m c 3 t) = (win0_4.blk t).view.read (Elt F) (g m c) :=
  funext fun y => grad_tile (rows_at t) (slabs_at t) (m ((c : Thread nD τ).loc main_arg1)) (iblk m c 1 t) (fun _ => rfl)
    shapeCasts_S1x256x2048_S256x2048 (by decide) y

/-- The tiles cover the array. -/
theorem cover (i : S256x2048.Idx) :
    ∃ t : Fin cfg0.N, (cfg0.win 4).flush t = true ∧ i ∈ ((cfg0.win 4).blk t).view.set := by
  have hi : (i 0).val < 256 := (i 0).isLt
  have ht : (i 0).val / 256 < cfg0.N := by rw [show cfg0.N = 1 by decide]; omega
  exact ⟨⟨_, ht⟩, flush0_4 _, (congrArg (· ∈ (win0_4.blk ⟨_, ht⟩).view.set) (tile (rows_at ⟨_, ht⟩) i (by decide) rfl)).mp
    ((win0_4.blk ⟨_, ht⟩).view.emb_mem_set _)⟩

theorem hz : (![0, 0] : Fin 2 → Nat) = fun _ => 0 := funext fun a => by fin_cases a <;> rfl

/-- The run: the results are the update of the arguments, which are unchanged. -/
theorem run : θ_run defs (onTc (τ := τ) (main (F := F))) ⟨m, fun _ => 0, ρ⟩ fun r => ∀ c : Dev nD,
      r.2.mem ((c : Thread nD τ).loc main_v0_0) = g m c
      ∧ r.2.mem ((c : Thread nD τ).loc main_v0_1)
        = deltas (g m c) (m ((c : Thread nD τ).loc main_arg0)) (m ((c : Thread nD τ).loc main_arg2)) (m ((c : Thread nD τ).loc main_arg3))
      ∧ r.2.mem ((c : Thread nD τ).loc main_v0_2) = newMs (g m c) (m ((c : Thread nD τ).loc main_arg2))
      ∧ r.2.mem ((c : Thread nD τ).loc main_v0_3) = newVs (g m c) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, h7, ha⟩ := h c
    refine ⟨h4.trans ?_, h5.trans ?_, h6.trans ?_, h7.trans ?_, ha⟩
    · exact (dats m 0 c).arrAt_eq_of_cover 4 _ (fun t _ => by
        rw [Value.flushed4, show (out0_4 (iblk m c 0 t) (iblk m c 1 t) (iblk m c 2 t) (iblk m c 3 t)) = _ from
          (View.canon_unit_zero hz _ _).trans (grad_blk m c t)]) cover
    · exact (dats m 0 c).arrAt_eq_of_cover 5 _ (fun t _ => by
        rw [Value.flushed5]; unfold out0_5
        rw [grad_blk, View.canon_unit_zero hz, View.ld_unit_zero hz, View.ld_unit_zero hz, View.ld_unit_zero hz]; rfl) cover
    · exact (dats m 0 c).arrAt_eq_of_cover 6 _ (fun t _ => by
        rw [Value.flushed6]; unfold out0_6
        rw [grad_blk, View.canon_unit_zero hz, View.ld_unit_zero hz]; rfl) cover
    · exact (dats m 0 c).arrAt_eq_of_cover 7 _ (fun t _ => by
        rw [Value.flushed7]; unfold out0_7
        rw [grad_blk, View.canon_unit_zero hz, View.ld_unit_zero hz]; rfl) cover)
    (Value.run_blocks m ρ)

end Cert.UpdateOutIdeal.Adam

namespace Cert.UpdateOutReferenceIdeal.Adam

open Cert.UpdateOutReferenceIdeal Cert.UpdateOutReferenceIdeal.Gen Cert.Upd

/-- The reference's run, its results read as the same update. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let g : (Mat 256 2048).Idx → EReal := grad (F := Ideal) (m ((c : Thread nD τ).loc main_arg1))
      r.2.mem ((c : Thread nD τ).loc main_v1) = g
      ∧ r.2.mem ((c : Thread nD τ).loc main_v25)
        = deltas (F := Ideal) g (m ((c : Thread nD τ).loc main_arg0)) (m ((c : Thread nD τ).loc main_arg2)) (m ((c : Thread nD τ).loc main_arg3))
      ∧ r.2.mem ((c : Thread nD τ).loc main_v6) = newMs (F := Ideal) g (m ((c : Thread nD τ).loc main_arg2))
      ∧ r.2.mem ((c : Thread nD τ).loc main_v12) = newVs (F := Ideal) g (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h1, h25, h6, h12, ha⟩ := h c
    have hg := host_grad (R := 256) (C := 2048) (m ((c : Thread nD τ).loc main_arg1)) bitsLt_bf16_f32
      reducesTo_S8x256x2048_S256x2048_d0 (by decide) h_S_
    rw [hg] at h1 h25 h6 h12
    exact ⟨h1, h25, h6, h12, ha⟩) (Value.run m ρ)

end Cert.UpdateOutReferenceIdeal.Adam

end
-- ==== Proof.UpdateMlpIn.lean ====
/- The AdamW update of w_mlp_in: every grid point's blocks are the tiles of the whole arrays' update. -/
module

public import proofs.«01_k».proof.Proof.Gen.UpdateMlpInIdeal.Value
public import proofs.«01_k».proof.Proof.Gen.UpdateMlpInReferenceIdeal.Run
public import proofs.«01_k».proof.Proof.Update

@[expose] public section

noncomputable section

open Idealize.ShloMosaic Idealize.ShloMosaic.TcCoe Idealize.ShloMosaic.ValueIdx Idealize.SL.Sem
open Idealize.ShloMosaic.Pipeline (Dat)

namespace Cert.UpdateMlpInIdeal.Adam

open Cert.UpdateMlpInIdeal Cert.UpdateMlpInIdeal.Gen Cert.Upd

variable {F : FTy → Type} [FloatOps F]
variable (m : (ℓ : Loc nD τ sig) → Buf (Elt F) ℓ) (ρ : Dev nD → PrngReg) (c : Dev nD)

/-- Point `t`'s blocks are tile `t`. -/
theorem index_at : ∀ t : Fin cfg0.N, (∀ a, win0_4.index t a = (![t.val, 0] : Fin 2 → Nat) a)
    ∧ ∀ a, win0_1.index t a = (![0, t.val, 0] : Fin 3 → Nat) a := by decide +kernel

theorem rows_at (t : Fin cfg0.N) (y : (Mat 256 1024).Idx) (a) :
    ((win0_4.rect t).emb y a).val = (![t.val, 0] : Fin 2 → Nat) a * (Mat 256 1024).size a + (y a).val :=
  (Pipeline.Window.rect_emb_val win0_4 t y a).trans (congrArg (· * (Mat 256 1024).size a + (y a).val) ((index_at t).1 a))

theorem slabs_at (t : Fin cfg0.N) (y : (Slabs 256 1024).Idx) (a) :
    ((win0_1.rect t).emb y a).val = (![0, t.val, 0] : Fin 3 → Nat) a * (Slabs 256 1024).size a + (y a).val :=
  (Pipeline.Window.rect_emb_val win0_1 t y a).trans (congrArg (· * (Slabs 256 1024).size a + (y a).val) ((index_at t).2 a))

/-- The gradient of device `c`'s arrays. -/
abbrev g : (Mat 2048 1024).Idx → F .f32 := grad (F := F) (m ((c : Thread nD τ).loc main_arg1))

/-- The slabs' blocks give the gradient's block. -/
theorem grad_blk (t : Fin cfg0.N) :
    k0_pay5 (iblk m c 0 t) (iblk m c 1 t) (iblk m c 2 t) (iblk m c 3 t) = (win0_4.blk t).view.read (Elt F) (g m c) :=
  funext fun y => grad_tile (rows_at t) (slabs_at t) (m ((c : Thread nD τ).loc main_arg1)) (iblk m c 1 t) (fun _ => rfl)
    shapeCasts_S1x256x1024_S256x1024 (by decide) y

/-- The tiles cover the array. -/
theorem cover (i : S2048x1024.Idx) :
    ∃ t : Fin cfg0.N, (cfg0.win 4).flush t = true ∧ i ∈ ((cfg0.win 4).blk t).view.set := by
  have hi : (i 0).val < 2048 := (i 0).isLt
  have ht : (i 0).val / 256 < cfg0.N := by rw [show cfg0.N = 8 by decide]; omega
  exact ⟨⟨_, ht⟩, flush0_4 _, (congrArg (· ∈ (win0_4.blk ⟨_, ht⟩).view.set) (tile (rows_at ⟨_, ht⟩) i (by decide) rfl)).mp
    ((win0_4.blk ⟨_, ht⟩).view.emb_mem_set _)⟩

theorem hz : (![0, 0] : Fin 2 → Nat) = fun _ => 0 := funext fun a => by fin_cases a <;> rfl

/-- The run: the results are the update of the arguments, which are unchanged. -/
theorem run : θ_run defs (onTc (τ := τ) (main (F := F))) ⟨m, fun _ => 0, ρ⟩ fun r => ∀ c : Dev nD,
      r.2.mem ((c : Thread nD τ).loc main_v0_0) = g m c
      ∧ r.2.mem ((c : Thread nD τ).loc main_v0_1)
        = deltas (g m c) (m ((c : Thread nD τ).loc main_arg0)) (m ((c : Thread nD τ).loc main_arg2)) (m ((c : Thread nD τ).loc main_arg3))
      ∧ r.2.mem ((c : Thread nD τ).loc main_v0_2) = newMs (g m c) (m ((c : Thread nD τ).loc main_arg2))
      ∧ r.2.mem ((c : Thread nD τ).loc main_v0_3) = newVs (g m c) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, h7, ha⟩ := h c
    refine ⟨h4.trans ?_, h5.trans ?_, h6.trans ?_, h7.trans ?_, ha⟩
    · exact (dats m 0 c).arrAt_eq_of_cover 4 _ (fun t _ => by
        rw [Value.flushed4, show (out0_4 (iblk m c 0 t) (iblk m c 1 t) (iblk m c 2 t) (iblk m c 3 t)) = _ from
          (View.canon_unit_zero hz _ _).trans (grad_blk m c t)]) cover
    · exact (dats m 0 c).arrAt_eq_of_cover 5 _ (fun t _ => by
        rw [Value.flushed5]; unfold out0_5
        rw [grad_blk, View.canon_unit_zero hz, View.ld_unit_zero hz, View.ld_unit_zero hz, View.ld_unit_zero hz]; rfl) cover
    · exact (dats m 0 c).arrAt_eq_of_cover 6 _ (fun t _ => by
        rw [Value.flushed6]; unfold out0_6
        rw [grad_blk, View.canon_unit_zero hz, View.ld_unit_zero hz]; rfl) cover
    · exact (dats m 0 c).arrAt_eq_of_cover 7 _ (fun t _ => by
        rw [Value.flushed7]; unfold out0_7
        rw [grad_blk, View.canon_unit_zero hz, View.ld_unit_zero hz]; rfl) cover)
    (Value.run_blocks m ρ)

end Cert.UpdateMlpInIdeal.Adam

namespace Cert.UpdateMlpInReferenceIdeal.Adam

open Cert.UpdateMlpInReferenceIdeal Cert.UpdateMlpInReferenceIdeal.Gen Cert.Upd

/-- The reference's run, its results read as the same update. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let g : (Mat 2048 1024).Idx → EReal := grad (F := Ideal) (m ((c : Thread nD τ).loc main_arg1))
      r.2.mem ((c : Thread nD τ).loc main_v1) = g
      ∧ r.2.mem ((c : Thread nD τ).loc main_v25)
        = deltas (F := Ideal) g (m ((c : Thread nD τ).loc main_arg0)) (m ((c : Thread nD τ).loc main_arg2)) (m ((c : Thread nD τ).loc main_arg3))
      ∧ r.2.mem ((c : Thread nD τ).loc main_v6) = newMs (F := Ideal) g (m ((c : Thread nD τ).loc main_arg2))
      ∧ r.2.mem ((c : Thread nD τ).loc main_v12) = newVs (F := Ideal) g (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h1, h25, h6, h12, ha⟩ := h c
    have hg := host_grad (R := 2048) (C := 1024) (m ((c : Thread nD τ).loc main_arg1)) bitsLt_bf16_f32
      reducesTo_S8x2048x1024_S2048x1024_d0 (by decide) h_S_
    rw [hg] at h1 h25 h6 h12
    exact ⟨h1, h25, h6, h12, ha⟩) (Value.run m ρ)

end Cert.UpdateMlpInReferenceIdeal.Adam

end
-- ==== Proof.UpdateMlpOut.lean ====
/- The AdamW update of w_mlp_out: every grid point's blocks are the tiles of the whole arrays' update. -/
module

public import proofs.«01_k».proof.Proof.Gen.UpdateMlpOutIdeal.Value
public import proofs.«01_k».proof.Proof.Gen.UpdateMlpOutReferenceIdeal.Run
public import proofs.«01_k».proof.Proof.Update

@[expose] public section

noncomputable section

open Idealize.ShloMosaic Idealize.ShloMosaic.TcCoe Idealize.ShloMosaic.ValueIdx Idealize.SL.Sem
open Idealize.ShloMosaic.Pipeline (Dat)

namespace Cert.UpdateMlpOutIdeal.Adam

open Cert.UpdateMlpOutIdeal Cert.UpdateMlpOutIdeal.Gen Cert.Upd

variable {F : FTy → Type} [FloatOps F]
variable (m : (ℓ : Loc nD τ sig) → Buf (Elt F) ℓ) (ρ : Dev nD → PrngReg) (c : Dev nD)

/-- Point `t`'s blocks are tile `t`. -/
theorem index_at : ∀ t : Fin cfg0.N, (∀ a, win0_4.index t a = (![t.val, 0] : Fin 2 → Nat) a)
    ∧ ∀ a, win0_1.index t a = (![0, t.val, 0] : Fin 3 → Nat) a := by decide +kernel

theorem rows_at (t : Fin cfg0.N) (y : (Mat 256 2048).Idx) (a) :
    ((win0_4.rect t).emb y a).val = (![t.val, 0] : Fin 2 → Nat) a * (Mat 256 2048).size a + (y a).val :=
  (Pipeline.Window.rect_emb_val win0_4 t y a).trans (congrArg (· * (Mat 256 2048).size a + (y a).val) ((index_at t).1 a))

theorem slabs_at (t : Fin cfg0.N) (y : (Slabs 256 2048).Idx) (a) :
    ((win0_1.rect t).emb y a).val = (![0, t.val, 0] : Fin 3 → Nat) a * (Slabs 256 2048).size a + (y a).val :=
  (Pipeline.Window.rect_emb_val win0_1 t y a).trans (congrArg (· * (Slabs 256 2048).size a + (y a).val) ((index_at t).2 a))

/-- The gradient of device `c`'s arrays. -/
abbrev g : (Mat 1024 2048).Idx → F .f32 := grad (F := F) (m ((c : Thread nD τ).loc main_arg1))

/-- The slabs' blocks give the gradient's block. -/
theorem grad_blk (t : Fin cfg0.N) :
    k0_pay5 (iblk m c 0 t) (iblk m c 1 t) (iblk m c 2 t) (iblk m c 3 t) = (win0_4.blk t).view.read (Elt F) (g m c) :=
  funext fun y => grad_tile (rows_at t) (slabs_at t) (m ((c : Thread nD τ).loc main_arg1)) (iblk m c 1 t) (fun _ => rfl)
    shapeCasts_S1x256x2048_S256x2048 (by decide) y

/-- The tiles cover the array. -/
theorem cover (i : S1024x2048.Idx) :
    ∃ t : Fin cfg0.N, (cfg0.win 4).flush t = true ∧ i ∈ ((cfg0.win 4).blk t).view.set := by
  have hi : (i 0).val < 1024 := (i 0).isLt
  have ht : (i 0).val / 256 < cfg0.N := by rw [show cfg0.N = 4 by decide]; omega
  exact ⟨⟨_, ht⟩, flush0_4 _, (congrArg (· ∈ (win0_4.blk ⟨_, ht⟩).view.set) (tile (rows_at ⟨_, ht⟩) i (by decide) rfl)).mp
    ((win0_4.blk ⟨_, ht⟩).view.emb_mem_set _)⟩

theorem hz : (![0, 0] : Fin 2 → Nat) = fun _ => 0 := funext fun a => by fin_cases a <;> rfl

/-- The run: the results are the update of the arguments, which are unchanged. -/
theorem run : θ_run defs (onTc (τ := τ) (main (F := F))) ⟨m, fun _ => 0, ρ⟩ fun r => ∀ c : Dev nD,
      r.2.mem ((c : Thread nD τ).loc main_v0_0) = g m c
      ∧ r.2.mem ((c : Thread nD τ).loc main_v0_1)
        = deltas (g m c) (m ((c : Thread nD τ).loc main_arg0)) (m ((c : Thread nD τ).loc main_arg2)) (m ((c : Thread nD τ).loc main_arg3))
      ∧ r.2.mem ((c : Thread nD τ).loc main_v0_2) = newMs (g m c) (m ((c : Thread nD τ).loc main_arg2))
      ∧ r.2.mem ((c : Thread nD τ).loc main_v0_3) = newVs (g m c) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, h7, ha⟩ := h c
    refine ⟨h4.trans ?_, h5.trans ?_, h6.trans ?_, h7.trans ?_, ha⟩
    · exact (dats m 0 c).arrAt_eq_of_cover 4 _ (fun t _ => by
        rw [Value.flushed4, show (out0_4 (iblk m c 0 t) (iblk m c 1 t) (iblk m c 2 t) (iblk m c 3 t)) = _ from
          (View.canon_unit_zero hz _ _).trans (grad_blk m c t)]) cover
    · exact (dats m 0 c).arrAt_eq_of_cover 5 _ (fun t _ => by
        rw [Value.flushed5]; unfold out0_5
        rw [grad_blk, View.canon_unit_zero hz, View.ld_unit_zero hz, View.ld_unit_zero hz, View.ld_unit_zero hz]; rfl) cover
    · exact (dats m 0 c).arrAt_eq_of_cover 6 _ (fun t _ => by
        rw [Value.flushed6]; unfold out0_6
        rw [grad_blk, View.canon_unit_zero hz, View.ld_unit_zero hz]; rfl) cover
    · exact (dats m 0 c).arrAt_eq_of_cover 7 _ (fun t _ => by
        rw [Value.flushed7]; unfold out0_7
        rw [grad_blk, View.canon_unit_zero hz, View.ld_unit_zero hz]; rfl) cover)
    (Value.run_blocks m ρ)

end Cert.UpdateMlpOutIdeal.Adam

namespace Cert.UpdateMlpOutReferenceIdeal.Adam

open Cert.UpdateMlpOutReferenceIdeal Cert.UpdateMlpOutReferenceIdeal.Gen Cert.Upd

/-- The reference's run, its results read as the same update. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let g : (Mat 1024 2048).Idx → EReal := grad (F := Ideal) (m ((c : Thread nD τ).loc main_arg1))
      r.2.mem ((c : Thread nD τ).loc main_v1) = g
      ∧ r.2.mem ((c : Thread nD τ).loc main_v25)
        = deltas (F := Ideal) g (m ((c : Thread nD τ).loc main_arg0)) (m ((c : Thread nD τ).loc main_arg2)) (m ((c : Thread nD τ).loc main_arg3))
      ∧ r.2.mem ((c : Thread nD τ).loc main_v6) = newMs (F := Ideal) g (m ((c : Thread nD τ).loc main_arg2))
      ∧ r.2.mem ((c : Thread nD τ).loc main_v12) = newVs (F := Ideal) g (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h1, h25, h6, h12, ha⟩ := h c
    have hg := host_grad (R := 1024) (C := 2048) (m ((c : Thread nD τ).loc main_arg1)) bitsLt_bf16_f32
      reducesTo_S8x1024x2048_S1024x2048_d0 (by decide) h_S_
    rw [hg] at h1 h25 h6 h12
    exact ⟨h1, h25, h6, h12, ha⟩) (Value.run m ρ)

end Cert.UpdateMlpOutReferenceIdeal.Adam

end
-- ==== Proof.UpdateAda.lean ====
/- The AdamW update of w_ada: every grid point's blocks are the tiles of the whole arrays' update. -/
module

public import proofs.«01_k».proof.Proof.Gen.UpdateAdaIdeal.Value
public import proofs.«01_k».proof.Proof.Gen.UpdateAdaReferenceIdeal.Run
public import proofs.«01_k».proof.Proof.Update

@[expose] public section

noncomputable section

open Idealize.ShloMosaic Idealize.ShloMosaic.TcCoe Idealize.ShloMosaic.ValueIdx Idealize.SL.Sem
open Idealize.ShloMosaic.Pipeline (Dat)

namespace Cert.UpdateAdaIdeal.Adam

open Cert.UpdateAdaIdeal Cert.UpdateAdaIdeal.Gen Cert.Upd

variable {F : FTy → Type} [FloatOps F]
variable (m : (ℓ : Loc nD τ sig) → Buf (Elt F) ℓ) (ρ : Dev nD → PrngReg) (c : Dev nD)

/-- Point `t`'s blocks are tile `t`, and all of the gathered rows. -/
theorem index_at : ∀ t : Fin cfg0.N, (∀ a, win0_5.index t a = (![t.val, 0] : Fin 2 → Nat) a)
    ∧ (∀ a, win0_1.index t a = (![t.val, 0] : Fin 2 → Nat) a) ∧ ∀ a, win0_2.index t a = 0 := by decide +kernel

theorem rows_at (t : Fin cfg0.N) (y : (Mat 256 1536).Idx) (a) :
    ((win0_5.rect t).emb y a).val = (![t.val, 0] : Fin 2 → Nat) a * (Mat 256 1536).size a + (y a).val :=
  (Pipeline.Window.rect_emb_val win0_5 t y a).trans (congrArg (· * (Mat 256 1536).size a + (y a).val) ((index_at t).1 a))

theorem cols_at (t : Fin cfg0.N) (y : (Mat 256 8).Idx) (a) :
    ((win0_1.rect t).emb y a).val = (![t.val, 0] : Fin 2 → Nat) a * (Mat 256 8).size a + (y a).val :=
  (Pipeline.Window.rect_emb_val win0_1 t y a).trans (congrArg (· * (Mat 256 8).size a + (y a).val) ((index_at t).2.1 a))

theorem all_rows (t : Fin cfg0.N) : iblk m c 2 t = m ((c : Thread nD τ).loc main_arg2) :=
  funext fun y => congrArg (m ((c : Thread nD τ).loc main_arg2)) <| funext fun a => Fin.ext <|
    (Pipeline.Window.rect_emb_val win0_2 t y a).trans (by rw [(index_at t).2.2 a, Nat.zero_mul, Nat.zero_add])

/-- The gradient of device `c`'s arrays. -/
abbrev g : (Mat 2048 1536).Idx → F .f32 :=
  outer (F := F) (m ((c : Thread nD τ).loc main_arg1)) (m ((c : Thread nD τ).loc main_arg2))

/-- The sixteen loads give the product. -/
theorem pay_eq (x0 : Vec F S256x1536 .f32) (x1 : Vec F S256x8 .f32) (x2 : Vec F S8x1536 .f32) (x3 x4 : Vec F S256x1536 .f32) :
    k0_pay3 (k0_pay7 x0 x1 x2 x3 x4) (View.ld x1 r0_12) (View.ld x2 r0_13) (View.ld x1 r0_14) (View.ld x2 r0_15)
      = outer (R := 256) (C := 1536) x1 x2 := funext fun j => by
  have s (k : Fin 8) (i i') := congr (congrArg FloatOps.mulf
      (col_at (Val := Elt F) (e := .f32) (C := 1536) k x1 i broadcasts_S256x1_S256x1536 (by decide) j))
    (row_at (Val := Elt F) (e := .f32) (R := 256) k x2 i' broadcasts_S1x1536_S256x1536 (by decide) j)
  show FloatOps.addf (FloatOps.addf (FloatOps.addf (FloatOps.addf (FloatOps.addf (FloatOps.addf (FloatOps.addf _ _) _) _) _) _) _) _ = _
  exact congr (congrArg _ (congr (congrArg _ (congr (congrArg _ (congr (congrArg _ (congr (congrArg _ (congr (congrArg _
    (congr (congrArg _ (s 0 _ _)) (s 1 _ _))) (s 2 _ _))) (s 3 _ _))) (s 4 _ _))) (s 5 _ _))) (s 6 _ _))) (s 7 _ _)

/-- The blocks give the gradient's block. -/
theorem grad_blk (t : Fin cfg0.N) :
    outer (R := 256) (C := 1536) (iblk m c 1 t) (iblk m c 2 t) = (win0_5.blk t).view.read (Elt F) (g m c) := by
  rw [all_rows]
  exact funext fun y => outer_tile (rows_at t) (cols_at t) (m ((c : Thread nD τ).loc main_arg1)) _ y

/-- The tiles cover the array. -/
theorem cover (i : S2048x1536.Idx) :
    ∃ t : Fin cfg0.N, (cfg0.win 5).flush t = true ∧ i ∈ ((cfg0.win 5).blk t).view.set := by
  have hi : (i 0).val < 2048 := (i 0).isLt
  have ht : (i 0).val / 256 < cfg0.N := by rw [show cfg0.N = 8 by decide]; omega
  exact ⟨⟨_, ht⟩, flush0_5 _, (congrArg (· ∈ (win0_5.blk ⟨_, ht⟩).view.set) (tile (rows_at ⟨_, ht⟩) i (by decide) rfl)).mp
    ((win0_5.blk ⟨_, ht⟩).view.emb_mem_set _)⟩

theorem hz : (![0, 0] : Fin 2 → Nat) = fun _ => 0 := funext fun a => by fin_cases a <;> rfl

theorem whole (x : Vec F S256x1536 .f32) : View.ld x r0_16 = x := View.ld_unit_zero hz _ _

/-- The run: the results are the update of the arguments, which are unchanged. -/
theorem run : θ_run defs (onTc (τ := τ) (main (F := F))) ⟨m, fun _ => 0, ρ⟩ fun r => ∀ c : Dev nD,
      r.2.mem ((c : Thread nD τ).loc main_v0_0) = g m c
      ∧ r.2.mem ((c : Thread nD τ).loc main_v0_1)
        = deltas (g m c) (m ((c : Thread nD τ).loc main_arg0)) (m ((c : Thread nD τ).loc main_arg3)) (m ((c : Thread nD τ).loc main_arg4))
      ∧ r.2.mem ((c : Thread nD τ).loc main_v0_2) = newMs (g m c) (m ((c : Thread nD τ).loc main_arg3))
      ∧ r.2.mem ((c : Thread nD τ).loc main_v0_3) = newVs (g m c) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h4, h5, h6, h7, ha⟩ := h c
    refine ⟨h4.trans ?_, h5.trans ?_, h6.trans ?_, h7.trans ?_, ha⟩
    · exact (dats m 0 c).arrAt_eq_of_cover 5 _ (fun t _ => by
        rw [Value.flushed5, show (out0_5 (iblk m c 0 t) (iblk m c 1 t) (iblk m c 2 t) (iblk m c 3 t) (iblk m c 4 t))
            = outer (R := 256) (C := 1536) (iblk m c 1 t) (iblk m c 2 t) from
          (View.canon_unit_zero hz _ _).trans (pay_eq (iblk m c 0 t) (iblk m c 1 t) (iblk m c 2 t) (iblk m c 3 t) (iblk m c 4 t)), grad_blk]) cover
    · exact (dats m 0 c).arrAt_eq_of_cover 6 _ (fun t _ => by
        rw [Value.flushed6, show (out0_6 (iblk m c 0 t) (iblk m c 1 t) (iblk m c 2 t) (iblk m c 3 t) (iblk m c 4 t))
            = deltas (outer (R := 256) (C := 1536) (iblk m c 1 t) (iblk m c 2 t)) (View.ld (iblk m c 0 t) r0_16) (View.ld (iblk m c 3 t) r0_16) (View.ld (iblk m c 4 t) r0_16) from
          (View.canon_unit_zero hz _ _).trans (congrArg (deltas · (View.ld (iblk m c 0 t) r0_16) (View.ld (iblk m c 3 t) r0_16) (View.ld (iblk m c 4 t) r0_16)) (pay_eq (iblk m c 0 t) (iblk m c 1 t) (iblk m c 2 t) (iblk m c 3 t) (iblk m c 4 t))), grad_blk, whole, whole, whole]; rfl) cover
    · exact (dats m 0 c).arrAt_eq_of_cover 7 _ (fun t _ => by
        rw [Value.flushed7, show (out0_7 (iblk m c 0 t) (iblk m c 1 t) (iblk m c 2 t) (iblk m c 3 t) (iblk m c 4 t))
            = newMs (outer (R := 256) (C := 1536) (iblk m c 1 t) (iblk m c 2 t)) (View.ld (iblk m c 3 t) r0_16) from
          (View.canon_unit_zero hz _ _).trans (congrArg (newMs · (View.ld (iblk m c 3 t) r0_16)) (pay_eq (iblk m c 0 t) (iblk m c 1 t) (iblk m c 2 t) (iblk m c 3 t) (iblk m c 4 t))), grad_blk, whole]; rfl) cover
    · exact (dats m 0 c).arrAt_eq_of_cover 8 _ (fun t _ => by
        rw [Value.flushed8, show (out0_8 (iblk m c 0 t) (iblk m c 1 t) (iblk m c 2 t) (iblk m c 3 t) (iblk m c 4 t))
            = newVs (outer (R := 256) (C := 1536) (iblk m c 1 t) (iblk m c 2 t)) (View.ld (iblk m c 4 t) r0_16) from
          (View.canon_unit_zero hz _ _).trans (congrArg (newVs · (View.ld (iblk m c 4 t) r0_16)) (pay_eq (iblk m c 0 t) (iblk m c 1 t) (iblk m c 2 t) (iblk m c 3 t) (iblk m c 4 t))), grad_blk, whole]; rfl) cover)
    (Value.run_blocks m ρ)

end Cert.UpdateAdaIdeal.Adam

namespace Cert.UpdateAdaReferenceIdeal.Adam

open Cert.UpdateAdaReferenceIdeal Cert.UpdateAdaReferenceIdeal.Gen Cert.Upd

/-- The reference's run, its results read as the same update. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let g : (Mat 2048 1536).Idx → EReal := outer (F := Ideal) (m ((c : Thread nD τ).loc main_arg1)) (m ((c : Thread nD τ).loc main_arg2))
      r.2.mem ((c : Thread nD τ).loc main_v0) = g
      ∧ r.2.mem ((c : Thread nD τ).loc main_v24)
        = deltas (F := Ideal) g (m ((c : Thread nD τ).loc main_arg0)) (m ((c : Thread nD τ).loc main_arg3)) (m ((c : Thread nD τ).loc main_arg4))
      ∧ r.2.mem ((c : Thread nD τ).loc main_v5) = newMs (F := Ideal) g (m ((c : Thread nD τ).loc main_arg3))
      ∧ r.2.mem ((c : Thread nD τ).loc main_v11) = newVs (F := Ideal) g (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h0, h24, h5, h11, ha⟩ := h c
    have hg : Host.dotGeneral dot_S2048x8_S8x1536_S2048x1536_1_0_0_1_n_n none (m ((c : Thread nD τ).loc main_arg1))
        (m ((c : Thread nD τ).loc main_arg2)) = outer (F := Ideal) (m ((c : Thread nD τ).loc main_arg1))
          (m ((c : Thread nD τ).loc main_arg2)) := host_outer _ _ _
    rw [hg] at h0 h24 h5 h11
    exact ⟨h0, h24, h5, h11, ha⟩) (Value.run m ρ)

end Cert.UpdateAdaReferenceIdeal.Adam

end
-- ==== Proof.UpdateSmall.lean ====
/- The small weights' gradients added over the devices, and their AdamW update on flat arrays, each in one block. -/
module

public import proofs.«01_k».proof.Proof.Gen.SumSmallIdeal.Value
public import proofs.«01_k».proof.Proof.Gen.SumSmallReferenceIdeal.Run
public import proofs.«01_k».proof.Proof.Gen.UpdateSmallIdeal.Value
public import proofs.«01_k».proof.Proof.Gen.UpdateSmallReferenceIdeal.Run
public import proofs.«01_k».proof.Proof.Update

@[expose] public section

noncomputable section

open Idealize.ShloMosaic Idealize.ShloMosaic.TcCoe Idealize.ShloMosaic.ValueIdx Idealize.SL.Sem

namespace Cert.SumSmallIdeal.Sum

open Cert.SumSmallIdeal Cert.SumSmallIdeal.Gen Cert.Upd

variable {F : FTy → Type} [FloatOps F]

/-- The eight loads add to the total. -/
theorem total_eq (x : Vec F S8x1x31360 .f32) : Value.G1 x = total x := funext fun j => by
  have s (k : Fin 8) (inb) := slab_at (Val := Elt F) (e := .f32) k.isLt x inb shapeCasts_S1x1x31360_S1x31360 j
  show FloatOps.addf (FloatOps.addf (FloatOps.addf (FloatOps.addf (FloatOps.addf (FloatOps.addf (FloatOps.addf _ _) _) _) _) _) _) _ = _
  exact congr (congrArg _ (congr (congrArg _ (congr (congrArg _ (congr (congrArg _ (congr (congrArg _ (congr (congrArg _
    (congr (congrArg _ (s 0 _)) (s 1 _))) (s 2 _))) (s 3 _))) (s 4 _))) (s 5 _))) (s 6 _))) (s 7 _)

/-- The run: the result is the total of the argument, which is unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v0) = total (F := F) (m ((c : Thread nD τ).loc main_arg0))
      ∧ r.2.mem ((c : Thread nD τ).loc main_arg0) = m ((c : Thread nD τ).loc main_arg0) :=
  (θ_run defs _ _).mono (fun _ h c => ⟨(h c).1.trans (total_eq _), (h c).2⟩) (Value.run m ρ)

end Cert.SumSmallIdeal.Sum

namespace Cert.SumSmallReferenceIdeal.Sum

open Cert.SumSmallReferenceIdeal Cert.SumSmallReferenceIdeal.Gen Cert.Upd

/-- The reference's run, its result read as the same total. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = total (F := Ideal) (m ((c : Thread nD τ).loc main_arg0))
      ∧ r.2.mem ((c : Thread nD τ).loc main_arg0) = m ((c : Thread nD τ).loc main_arg0) :=
  (θ_run defs _ _).mono (fun _ h c => ⟨(h c).1.trans (host_total (R := 1) (C := 31360) _ _ (by decide) _), (h c).2⟩) (Value.run m ρ)

end Cert.SumSmallReferenceIdeal.Sum

namespace Cert.UpdateSmallIdeal.Adam

open Cert.UpdateSmallIdeal Cert.UpdateSmallIdeal.Gen Cert.Upd

/-- The run: the results are the update of the arguments, which are unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v0_0)
        = deltas (R := 182) (C := 128) (F := F) (m ((c : Thread nD τ).loc main_arg1))
          (m ((c : Thread nD τ).loc main_arg0)) (m ((c : Thread nD τ).loc main_arg2)) (m ((c : Thread nD τ).loc main_arg3))
      ∧ r.2.mem ((c : Thread nD τ).loc main_v0_1) = newMs (R := 182) (C := 128) (F := F) (m ((c : Thread nD τ).loc main_arg1)) (m ((c : Thread nD τ).loc main_arg2))
      ∧ r.2.mem ((c : Thread nD τ).loc main_v0_2) = newVs (R := 182) (C := 128) (F := F) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  Value.run m ρ

end Cert.UpdateSmallIdeal.Adam

namespace Cert.UpdateSmallReferenceIdeal.Adam

open Cert.UpdateSmallReferenceIdeal Cert.UpdateSmallReferenceIdeal.Gen Cert.Upd

/-- The reference's run, its results read as the same update. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v23)
        = deltas (R := 182) (C := 128) (F := Ideal) (m ((c : Thread nD τ).loc main_arg1))
          (m ((c : Thread nD τ).loc main_arg0)) (m ((c : Thread nD τ).loc main_arg2)) (m ((c : Thread nD τ).loc main_arg3))
      ∧ r.2.mem ((c : Thread nD τ).loc main_v4) = newMs (R := 182) (C := 128) (F := Ideal) (m ((c : Thread nD τ).loc main_arg1)) (m ((c : Thread nD τ).loc main_arg2))
      ∧ r.2.mem ((c : Thread nD τ).loc main_v10) = newVs (R := 182) (C := 128) (F := Ideal) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  Value.run m ρ

end Cert.UpdateSmallReferenceIdeal.Adam

end
-- ==== Proof.Norm.lean ====
/- A row of the backward pass of the root-mean-square norm over the extended reals: the row as one product of the inverse root,
   and the same row as the derivative spells it, at every row of extended reals; and the gradients of a normed array. -/
module

public import Idealize.ShloMosaic.Lib.IdealHost
public import Idealize.ShloMosaic.Lib.Pointwise
public import proofs.«01_k».proof.Proof.Update

@[expose] public section

noncomputable section

namespace Cert.Norm

open Idealize.ShloMosaic

variable {n : Nat}

/-- The mean of a row's squares, plus the small constant. -/
def ms (x : Fin n → EReal) : EReal :=
  Ideal.div (∑ k, x k * x k) (Ideal.ofBits .f32 0x45000000#32) + Ideal.ofBits .f32 0x358637BD#32

/-- The inverse root. -/
def ir (x : Fin n → EReal) : EReal := Ideal.rsqrt (ms x)

/-- A row's gradient from the gradient `d` of the normed row, onto `a`. -/
def row (x d : Fin n → EReal) (a : EReal) (j : Fin n) : EReal :=
  a + ir x * (d j - x j * ir x * Ideal.div (∑ k, d k * (x k * ir x)) (Ideal.ofBits .f32 0x45000000#32))

theorem size_eq : Ideal.ofBits .f32 0x45000000#32 = ((2048 : ℝ) : EReal) := by
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul, -EReal.coe_neg]; norm_num

theorem eps_pos : 0 < Ideal.ofBits .f32 0x358637BD#32 := by
  simp [Ideal.ofBits, Ideal.ieee, -EReal.coe_mul]

theorem div_size (y : EReal) : Ideal.div y (Ideal.ofBits .f32 0x45000000#32) = y * ((1 / 2048 : ℝ) : EReal) := by
  rw [size_eq, Ideal.div_coe (by norm_num)]

theorem sq_nonneg (y : EReal) : 0 ≤ y * y := by
  rcases le_total 0 y with h | h
  · exact mul_nonneg h h
  · rw [← neg_mul_neg]; exact mul_nonneg (EReal.neg_nonneg.mpr h) (EReal.neg_nonneg.mpr h)

theorem ms_pos (x : Fin n → EReal) : 0 < ms x := by
  refine lt_of_lt_of_le eps_pos (le_add_of_nonneg_left ?_)
  rw [div_size]
  exact mul_nonneg (Finset.sum_nonneg fun k _ => sq_nonneg _) (EReal.coe_nonneg.mpr (by norm_num))

/-- The inverse root is a real number `r`, not negative, and divided by what it is the inverse root of it is `r³`. -/
theorem ir_real (x : Fin n → EReal) : ∃ r : ℝ, 0 ≤ r ∧ ir x = r ∧ Ideal.div (ir x) (ms x) = ((r * r * r : ℝ) : EReal) := by
  have h := ms_pos x
  unfold ir
  generalize ms x = v at h
  induction v with
  | bot => exact absurd h (by simp)
  | top =>
    have ht : Ideal.rsqrt ⊤ = 0 := rfl
    exact ⟨0, le_refl _, ht, by simp [ht, Ideal.div]⟩
  | coe v =>
    have hv : 0 < v := EReal.coe_pos.mp h
    refine ⟨(√v)⁻¹, inv_nonneg.mpr (Real.sqrt_nonneg v), ?_, ?_⟩
    · rw [Ideal.rsqrt_coe, if_neg hv.not_gt, if_neg hv.ne']
    · rw [Ideal.rsqrt_coe, if_neg hv.not_gt, if_neg hv.ne', Ideal.div_coe hv.ne', ← EReal.coe_mul]
      congr 1
      have hs : √v * √v = v := Real.mul_self_sqrt hv.le
      have : √v ≠ 0 := (Real.sqrt_pos.mpr hv).ne'
      rw [mul_assoc, ← mul_inv, hs, one_div]

/-- A factor that is a real number, not negative, comes out of a sum. -/
theorem mul_sum {r : ℝ} (hr : 0 ≤ r) {ι : Type} (s : Finset ι) (f : ι → EReal) : ∑ k ∈ s, f k * r = (∑ k ∈ s, f k) * r := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

theorem add_self (y : EReal) : y + y = y * ((2 : ℝ) : EReal) := by
  rw [show ((2 : ℝ) : EReal) = 1 + 1 by norm_cast, EReal.left_distrib_of_nonneg zero_le_one zero_le_one, mul_one]

/-- The row as the derivative spells it: the inverse root's own derivative, and the square's two halves, added one by one. -/
theorem row_eq (x d : Fin n → EReal) (a : EReal) (j : Fin n) :
    a + (d j * ir x + x j * Ideal.div ((∑ k, x k * d k) * (Ideal.ofBits .f32 0xBF000000#32 * Ideal.div (ir x) (ms x)))
        (Ideal.ofBits .f32 0x45000000#32)
      + Ideal.div ((∑ k, x k * d k) * (Ideal.ofBits .f32 0xBF000000#32 * Ideal.div (ir x) (ms x)))
        (Ideal.ofBits .f32 0x45000000#32) * x j) = row x d a j := by
  obtain ⟨r, hr, h, hd⟩ := ir_real x
  unfold row
  rw [hd, h, div_size, div_size, half_eq, ← EReal.coe_mul,
    show (∑ k, d k * (x k * (r : EReal))) = (∑ k, x k * d k) * r by
      rw [← mul_sum hr]; exact Finset.sum_congr rfl fun k _ => by rw [← mul_assoc, mul_comm (d k)]]
  generalize (∑ k, x k * d k) = s
  have e : (r : EReal) * -(x j * r * (s * r * ((1 / 2048 : ℝ) : EReal)))
      = x j * s * ((r * r * r * (-(1 / 2048)) : ℝ) : EReal) := by
    rw [EReal.coe_mul, EReal.coe_neg, EReal.coe_mul, EReal.coe_mul, mul_neg, mul_neg, mul_neg]
    congr 1
    ac_rfl
  rw [sub_eq_add_neg, EReal.left_distrib_of_nonneg_of_ne_top (EReal.coe_nonneg.mpr hr) (EReal.coe_ne_top r), e,
    mul_comm (d j), add_assoc, mul_comm (s * _ * _) (x j), add_self, mul_assoc s, ← EReal.coe_mul, ← mul_assoc (x j),
    mul_assoc (x j * s), ← EReal.coe_mul]
  congr 4
  ring

open Cert.Upd

variable (dh dx1 x : FVec Ideal (Mat 4096 2048) .f32) (g s : FVec Ideal (Mat 1 2048) .f32)

/-- The gradient of the rows: row by row, onto `dx1`. -/
def gradX : FVec Ideal (Mat 4096 2048) .f32 := fun i =>
  row (fun k => x (ix2 (i 0) k)) (fun k => dh (ix2 (i 0) k) * (1 + s (ix2 0 k)) * g (ix2 0 k)) (dx1 i) (i 1)

/-- The same, spelled as the derivative. -/
theorem gradX_eq (i) : gradX dh dx1 x g s i =
    let d : Fin 2048 → EReal := fun k => dh (ix2 (i 0) k) * (1 + s (ix2 0 k)) * g (ix2 0 k)
    let X : Fin 2048 → EReal := fun k => x (ix2 (i 0) k)
    let T : EReal := ∑ _ : Fin 1, Ideal.div ((∑ k, X k * d k) * (Ideal.ofBits .f32 0xBF000000#32 * Ideal.div (ir X) (ms X)))
      (Ideal.ofBits .f32 0x45000000#32)
    dx1 i + (d (i 1) * ir X + X (i 1) * T + T * X (i 1)) := by
  simp only [Finset.univ_unique, Finset.sum_const, Finset.card_singleton, one_smul]
  exact (row_eq _ _ _ _).symm

/-- The gradients of the scale, the shift and the gain: sums over all rows. -/
def gradScale : FVec Ideal (Mat 1 2048) .f32 := fun i =>
  ∑ k : Fin 4096, dh (ix2 k (i 1)) * (x (ix2 k (i 1)) * ir (fun l => x (ix2 k l)) * g (ix2 0 (i 1)))
def gradShift : FVec Ideal (Mat 1 2048) .f32 := fun i => ∑ k : Fin 4096, dh (ix2 k (i 1))
def gradGain : FVec Ideal (Mat 1 2048) .f32 := fun i =>
  ∑ k : Fin 4096, dh (ix2 k (i 1)) * (1 + s (ix2 0 (i 1))) * (x (ix2 k (i 1)) * ir (fun l => x (ix2 k l)))

/-- The same behind a gate in the modulation's place: the gradient of the rows, and of the gain. The gate's own is `gradScale`. -/
def gateX : FVec Ideal (Mat 4096 2048) .f32 := fun i =>
  row (fun k => x (ix2 (i 0) k)) (fun k => dh (ix2 (i 0) k) * s (ix2 0 k) * g (ix2 0 k)) 0 (i 1)
theorem gateX_eq (i) : gateX dh x g s i =
    let d : Fin 2048 → EReal := fun k => s (ix2 0 k) * dh (ix2 (i 0) k) * g (ix2 0 k)
    let X : Fin 2048 → EReal := fun k => x (ix2 (i 0) k)
    let T : EReal := ∑ _ : Fin 1, Ideal.div ((∑ k, X k * d k) * (Ideal.ofBits .f32 0xBF000000#32 * Ideal.div (ir X) (ms X)))
      (Ideal.ofBits .f32 0x45000000#32)
    d (i 1) * ir X + X (i 1) * T + T * X (i 1) := by
  simp only [Finset.univ_unique, Finset.sum_const, Finset.card_singleton, one_smul]
  have e : (fun k : Fin 2048 => dh (ix2 (i 0) k) * s (ix2 0 k) * g (ix2 0 k))
      = fun k => s (ix2 0 k) * dh (ix2 (i 0) k) * g (ix2 0 k) := funext fun k => by rw [mul_comm (G := EReal) (dh _)]
  unfold gateX
  rw [e]
  exact (row_eq _ _ 0 _).symm.trans (zero_add _)
def gateGain : FVec Ideal (Mat 1 2048) .f32 := fun i =>
  ∑ k : Fin 4096, dh (ix2 k (i 1)) * s (ix2 0 (i 1)) * (x (ix2 k (i 1)) * ir (fun l => x (ix2 k l)))

end Cert.Norm

end
-- ==== Proof.PremixBwd.lean ====
/- The norm's backward pass: every grid point's block of rows is the derivative's rows, and the three row vectors, added up
   over the grid's points, are the sums over all rows. -/
module

public import proofs.«01_k».proof.Proof.Gen.PremixBwdIdeal.Value
public import proofs.«01_k».proof.Proof.Gen.PremixBwdReferenceIdeal.Run
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PremixBwdIdeal.Norm

open Cert.PremixBwdIdeal Cert.PremixBwdIdeal.Gen Cert.Norm

variable (m : (ℓ : Loc nD τ sig) → Buf (Elt Ideal) ℓ) (ρ : Dev nD → PrngReg) (c : Dev nD)

/-- Point `t`'s blocks of rows are block `t`; the row vectors are whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- What a point's body leaves, in the first case and in the others. -/
theorem first {t : Fin cfg0.N} (h : t.val % 16 = 0) : ¬1 ≤ t.val := by
  have : t.val < 16 := t.isLt
  omega
theorem later {t : Fin cfg0.N} (h : ¬t.val % 16 = 0) : 1 ≤ t.val := by omega

theorem point (t : Fin cfg0.N) (y) :
    k0_pay4 (k0_pay5 (iblk m c 2 t)) (k0_pay6 (iblk m c 2 t)) (iblk m c 0 t) (iblk m c 4 t)
      (FloatOps.ofBits .f32 0x3F800000#32) (iblk m c 1 t) (iblk m c 3 t) y
    = gradX (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 5).blk t).view.emb y) := by
  pointwise [k0_pay4, k0_pay5, k0_pay6, k0_pay1, gradX, row, ir, ms]
  blk_point [iblk, V, idx t]

theorem rows_eq : (dats m 0 c).arrAt 5 (cfgs 0).N
    = gradX (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  by_cases h : t.val % 16 = 0
  · rw [outsAt0_A m c t h (first h) h (first h) h (first h)]
    frame_out
    exact point m c t y
  · rw [outsAt0_B m c t h (later h) h (later h) h (later h)]
    frame_out
    exact point m c t y

theorem pay8 (x0 x2 : FVec Ideal S256x2048 .f32) (g v : FVec Ideal S1x2048 .f32) (j) :
    k0_pay8 (F := Ideal) x2 x0 g v j = (v j + k0_pay7 (F := Ideal) x2 x0 g j : EReal) := by
  pointwise [k0_pay8]
theorem pay10 (x0 : FVec Ideal S256x2048 .f32) (v : FVec Ideal S1x2048 .f32) (j) :
    k0_pay10 (F := Ideal) x0 v j = (v j + k0_pay9 (F := Ideal) x0 j : EReal) := by
  pointwise [k0_pay10]
theorem pay3 (x0 xn : FVec Ideal S256x2048 .f32) (s v : FVec Ideal S1x2048 .f32) (b : Ideal .f32) (j) :
    k0_pay3 (F := Ideal) xn x0 s b v j = (v j + k0_pay2 (F := Ideal) xn x0 s b j : EReal) := by
  pointwise [k0_pay3]

theorem scale_eq : (dats m 0 c).arrAt 6 (cfgs 0).N
    = gradScale (m ((c : Thread nD τ).loc main_arg0)) (m ((c : Thread nD τ).loc main_arg2)) (m ((c : Thread nD τ).loc main_arg3)) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => (0 : EReal))
    (fun t => k0_pay7 (iblk m c 2 t) (iblk m c 0 t) (iblk m c 3 t))
    (fun t h j => by rw [outsAt0_A m c t h (first h) h (first h) h (first h)]; frame_out; rw [zero_add])
    (fun t h j => by rw [outsAt0_B m c t h (later h) h (later h) h (later h)]; frame_out; rw [pay8])
    (le_of_eq N_0) t0_15 rfl j, zero_add]
  pointwise [k0_pay7, k0_pay6, k0_pay5, gradScale, ir, ms]
  refine Fin.sum_mul_add_congr fun t k hl => ?_
  blk_point [iblk, V, idx t]

theorem shift_eq : (dats m 0 c).arrAt 7 (cfgs 0).N = gradShift (m ((c : Thread nD τ).loc main_arg0)) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => (0 : EReal))
    (fun t => k0_pay9 (iblk m c 0 t))
    (fun t h j => by rw [outsAt0_A m c t h (first h) h (first h) h (first h)]; frame_out; rw [zero_add])
    (fun t h j => by rw [outsAt0_B m c t h (later h) h (later h) h (later h)]; frame_out; rw [pay10])
    (le_of_eq N_0) t0_15 rfl j, zero_add]
  pointwise [k0_pay9, gradShift]
  refine Fin.sum_mul_add_congr fun t k hl => ?_
  blk_point [iblk, V, idx t]

theorem gain_eq : (dats m 0 c).arrAt 8 (cfgs 0).N
    = gradGain (m ((c : Thread nD τ).loc main_arg0)) (m ((c : Thread nD τ).loc main_arg2)) (m ((c : Thread nD τ).loc main_arg4)) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => (0 : EReal))
    (fun t => k0_pay2 (k0_pay6 (iblk m c 2 t)) (iblk m c 0 t) (iblk m c 4 t) (FloatOps.ofBits .f32 0x3F800000#32))
    (fun t h j => by rw [outsAt0_A m c t h (first h) h (first h) h (first h)]; frame_out; rw [zero_add])
    (fun t h j => by rw [outsAt0_B m c t h (later h) h (later h) h (later h)]; frame_out; rw [pay3])
    (le_of_eq N_0) t0_15 rfl j, zero_add]
  pointwise [k0_pay2, k0_pay6, k0_pay5, k0_pay1, gradGain, ir, ms]
  refine Fin.sum_mul_add_congr fun t k hl => ?_
  blk_point [iblk, V, idx t]

/-- The run: the results are the gradients, and the arguments are unchanged. -/
theorem run : θ_run defs (onTc (τ := τ) (main (F := Ideal))) ⟨m, fun _ => 0, ρ⟩ fun r => ∀ c : Dev nD,
      r.2.mem ((c : Thread nD τ).loc main_v0_0) = gradX (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_v0_1) = gradScale (m ((c : Thread nD τ).loc main_arg0)) (m ((c : Thread nD τ).loc main_arg2))
        (m ((c : Thread nD τ).loc main_arg3))
      ∧ r.2.mem ((c : Thread nD τ).loc main_v0_2) = gradShift (m ((c : Thread nD τ).loc main_arg0))
      ∧ r.2.mem ((c : Thread nD τ).loc main_v0_3) = gradGain (m ((c : Thread nD τ).loc main_arg0)) (m ((c : Thread nD τ).loc main_arg2))
        (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h5, h6, h7, h8, ha⟩ := h c
    exact ⟨h5.trans (rows_eq m c), h6.trans (scale_eq m c), h7.trans (shift_eq m c), h8.trans (gain_eq m c), ha⟩)
    (Value.run_blocks m ρ)

end Cert.PremixBwdIdeal.Norm

namespace Cert.PremixBwdReferenceIdeal.Norm

open Cert.PremixBwdReferenceIdeal Cert.PremixBwdReferenceIdeal.Gen Cert.Norm

/-- The reference's run, its results read as the same arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v49) = gradX (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_v27) = gradScale (m ((c : Thread nD τ).loc main_arg0)) (m ((c : Thread nD τ).loc main_arg2))
        (m ((c : Thread nD τ).loc main_arg3))
      ∧ r.2.mem ((c : Thread nD τ).loc main_v24) = gradShift (m ((c : Thread nD τ).loc main_arg0))
      ∧ r.2.mem ((c : Thread nD τ).loc main_v32) = gradGain (m ((c : Thread nD τ).loc main_arg0)) (m ((c : Thread nD τ).loc main_arg2))
        (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h0, h1, h2, h3, ha⟩ := h c
    refine ⟨h0.trans (funext fun j => ?_), h1.trans (funext fun j => ?_), h2.trans (funext fun j => ?_),
      h3.trans (funext fun j => ?_), ha⟩
    · pointwise [Value.res_main_v49, gradX_eq, ir, ms]
    · pointwise [gradScale, ir, ms]
      exact Fin.sum_fin_congr fun k => mul_comm (G := EReal) _ _
    · pointwise [gradShift]
    · pointwise [gradGain, ir, ms]
      exact Fin.sum_fin_congr fun k => mul_comm (G := EReal) _ _) (Value.run m ρ)

end Cert.PremixBwdReferenceIdeal.Norm

end
-- ==== Proof.LossBwd.lean ====
/- The loss and its gradients back through the last norm and its gate: every grid point's block of rows is the derivative's rows,
   and the loss and the row vectors, added up over the grid's points, are the sums over all rows. -/
module

public import proofs.«01_k».proof.Proof.Gen.LossBwdIdeal.Value
public import proofs.«01_k».proof.Proof.Gen.LossBwdReferenceIdeal.Run
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Norm

open Cert.Upd

variable (x1 y t : FVec Ideal (Mat 4096 2048) .f32) (gate g : FVec Ideal (Mat 1 2048) .f32)

/-- The residual, the loss of all rows, and the gradient of the result. -/
def resid : FVec Ideal (Mat 4096 2048) .f32 := fun i =>
  x1 i + gate (ix2 0 (i 1)) * (y i * ir (fun k => y (ix2 (i 0) k)) * g (ix2 0 (i 1))) - t i
def loss : FVec Ideal (Mat 1 128) .f32 := fun _ => Ideal.ofBits .f32 0x3F000000#32 *
  ∑ k : Fin 4096, Ideal.div (∑ l, resid x1 y t gate g (ix2 k l) * resid x1 y t gate g (ix2 k l)) (Ideal.ofBits .f32 0x45000000#32)
def lossX : FVec Ideal (Mat 4096 2048) .f32 := fun i => resid x1 y t gate g i * Ideal.ofBits .f32 0x3A000000#32

theorem real_half : Ideal.ofBits .f32 0x3F000000#32 = ((1 / 2 : ℝ) : EReal) := by
  simp [Ideal.ofBits, Ideal.ieee, -EReal.coe_mul]; norm_num
theorem real_two : Ideal.ofBits .f32 0x40000000#32 = ((2 : ℝ) : EReal) := by
  simp [Ideal.ofBits, Ideal.ieee, -EReal.coe_mul]; norm_num
theorem real_size_inv : Ideal.ofBits .f32 0x3A000000#32 = ((1 / 2048 : ℝ) : EReal) := by
  simp [Ideal.ofBits, Ideal.ieee, -EReal.coe_mul]; norm_num

/-- The gradient of the result, spelled as the derivative of half the square's mean. -/
theorem lossX_eq (i) : lossX x1 y t gate g i = Ideal.div (Ideal.ofBits .f32 0x3F000000#32 * 1) (Ideal.ofBits .f32 0x45000000#32)
    * (Ideal.ofBits .f32 0x40000000#32 * resid x1 y t gate g i) := by
  unfold lossX
  rw [div_size, real_half, real_two, real_size_inv, mul_one, ← EReal.coe_mul, ← mul_assoc, ← EReal.coe_mul, mul_comm]
  congr 2
  norm_num

end Cert.Norm

namespace Cert.LossBwdIdeal.Norm

open Cert.LossBwdIdeal Cert.LossBwdIdeal.Gen Cert.Norm

variable (m : (ℓ : Loc nD τ sig) → Buf (Elt Ideal) ℓ) (ρ : Dev nD → PrngReg) (c : Dev nD)

/-- Point `t`'s blocks of rows are block `t`; the row vectors are whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

theorem first {t : Fin cfg0.N} (h : t.val % 16 = 0) : ¬1 ≤ t.val := by
  have : t.val < 16 := t.isLt
  omega
theorem later {t : Fin cfg0.N} (h : ¬t.val % 16 = 0) : 1 ≤ t.val := by omega

/-- A point's residual, and the gradients it leaves. -/
abbrev err (t : Fin cfg0.N) : FVec Ideal S256x2048 .f32 :=
  k0_pay5 (F := Ideal) (iblk m c 1 t) (iblk m c 4 t) (iblk m c 0 t) (iblk m c 3 t) (iblk m c 2 t)

abbrev X1 := m ((c : Thread nD τ).loc main_arg0)
abbrev Y := m ((c : Thread nD τ).loc main_arg1)
abbrev T := m ((c : Thread nD τ).loc main_arg2)
abbrev Gate := m ((c : Thread nD τ).loc main_arg3)
abbrev Gain := m ((c : Thread nD τ).loc main_arg4)
abbrev DX := lossX (X1 m c) (Y m c) (T m c) (Gate m c) (Gain m c)

theorem rows_eq : (dats m 0 c).arrAt 5 (cfgs 0).N = DX m c := by
  refine (dats m 0 c).arrAt_eq_of_covers 5 _ (by decide +kernel) fun t _ y => ?_
  blk_simp
  rw [after0_5]
  have point : k0_pay8 (err m c t) y = DX m c (((cfg0.win 5).blk t).view.emb y) := by
    pointwise [k0_pay8, k0_pay5, k0_pay4, k0_pay3, k0_pay2, lossX, resid, ir, ms]
    blk_point [iblk, V, idx t]
  by_cases h : t.val % 16 = 0
  · rw [outsAt0_A m c t h (first h) h (first h) h (first h)]
    frame_out
    exact point
  · rw [outsAt0_B m c t h (later h) h (later h) h (later h)]
    frame_out
    exact point

theorem back_eq : (dats m 0 c).arrAt 6 (cfgs 0).N = gateX (DX m c) (Y m c) (Gain m c) (Gate m c) := by
  refine (dats m 0 c).arrAt_eq_of_covers 6 _ (by decide +kernel) fun t _ y => ?_
  blk_simp
  rw [after0_6]
  have point : k0_pay1 (k0_pay2 (iblk m c 1 t)) (k0_pay3 (iblk m c 1 t)) (k0_pay14 (err m c t) (iblk m c 3 t) (iblk m c 4 t))
      (k0_pay15 (k0_pay3 (iblk m c 1 t)) (err m c t) (iblk m c 3 t) (iblk m c 4 t)) k0_pay16 y
      = gateX (DX m c) (Y m c) (Gain m c) (Gate m c) (((cfg0.win 6).blk t).view.emb y) := by
    pointwise [k0_pay1, k0_pay14, k0_pay15, k0_pay16, k0_pay11, k0_pay8, k0_pay5, k0_pay4, k0_pay3, k0_pay2, gateX, row, lossX, resid,
      ir, ms, zero_add]
    blk_point [iblk, V, idx t]
  by_cases h : t.val % 16 = 0
  · rw [outsAt0_A m c t h (first h) h (first h) h (first h)]
    frame_out
    exact point
  · rw [outsAt0_B m c t h (later h) h (later h) h (later h)]
    frame_out
    exact point

theorem pay7 (x v : FVec Ideal S1x128 .f32) (j) : k0_pay7 (F := Ideal) x v j = (v j + x j : EReal) := by
  pointwise [k0_pay7]
theorem pay10 (x z : FVec Ideal S256x2048 .f32) (v : FVec Ideal S1x2048 .f32) (j) :
    k0_pay10 (F := Ideal) x z v j = (v j + k0_pay9 (F := Ideal) x z j : EReal) := by
  pointwise [k0_pay10]
theorem pay13 (x z : FVec Ideal S256x2048 .f32) (s v : FVec Ideal S1x2048 .f32) (j) :
    k0_pay13 (F := Ideal) x z s v j = (v j + k0_pay12 (F := Ideal) x z s j : EReal) := by
  pointwise [k0_pay13]

theorem loss_eq : (dats m 0 c).arrAt 7 (cfgs 0).N = loss (X1 m c) (Y m c) (T m c) (Gate m c) (Gain m c) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => (0 : EReal))
    (fun t => k0_pay6 (iblk m c 1 t) (iblk m c 4 t) (iblk m c 0 t) (iblk m c 3 t) (iblk m c 2 t))
    (fun t h j => by rw [outsAt0_A m c t h (first h) h (first h) h (first h)]; frame_out; rw [zero_add])
    (fun t h j => by rw [outsAt0_B m c t h (later h) h (later h) h (later h)]; frame_out; rw [pay7])
    (le_of_eq N_0) t0_15 rfl j, zero_add]
  pointwise [k0_pay6, k0_pay5, k0_pay4, k0_pay3, k0_pay2, loss, resid, ir, ms]
  simp only [Finset.univ_unique, Finset.sum_singleton, fun z : EReal => mul_comm (Ideal.ofBits .f32 0x3F000000#32) z]
  rw [real_half, mul_sum (by norm_num)]
  congr 1
  refine Fin.sum_mul_add_congr fun t k hl => ?_
  blk_point [iblk, V, idx t]

theorem gate_eq : (dats m 0 c).arrAt 8 (cfgs 0).N = gradScale (DX m c) (Y m c) (Gain m c) := by
  refine (dats m 0 c).arrAt_eq_of_after_last 8 t0_15 (by decide +kernel) _ fun j => ?_
  blk_simp
  rw [after0_8, Pipeline.eq_sum_fin_of_reset_step_apply_last (fun n h => (outsAt0 m c n h).2.2.2.1) 16 (fun _ => (0 : EReal))
    (fun t => k0_pay9 (k0_pay4 (iblk m c 1 t) (iblk m c 4 t)) (err m c t))
    (fun t h j => by rw [outsAt0_A m c t h (first h) h (first h) h (first h)]; frame_out; rw [zero_add])
    (fun t h j => by rw [outsAt0_B m c t h (later h) h (later h) h (later h)]; frame_out; rw [pay10])
    (le_of_eq N_0) t0_15 rfl j, zero_add]
  pointwise [k0_pay9, k0_pay8, k0_pay5, k0_pay4, k0_pay3, k0_pay2, gradScale, lossX, resid, ir, ms]
  refine Fin.sum_mul_add_congr fun t k hl => ?_
  blk_point [iblk, V, idx t]

theorem gain_eq : (dats m 0 c).arrAt 9 (cfgs 0).N = gateGain (DX m c) (Y m c) (Gate m c) := by
  refine (dats m 0 c).arrAt_eq_of_after_last 9 t0_15 (by decide +kernel) _ fun j => ?_
  blk_simp
  rw [after0_9, Pipeline.eq_sum_fin_of_reset_step_apply_last (fun n h => (outsAt0 m c n h).2.2.2.2) 16 (fun _ => (0 : EReal))
    (fun t => k0_pay12 (k0_pay3 (iblk m c 1 t)) (err m c t) (iblk m c 3 t))
    (fun t h j => by rw [outsAt0_A m c t h (first h) h (first h) h (first h)]; frame_out; rw [zero_add])
    (fun t h j => by rw [outsAt0_B m c t h (later h) h (later h) h (later h)]; frame_out; rw [pay13])
    (le_of_eq N_0) t0_15 rfl j, zero_add]
  pointwise [k0_pay12, k0_pay11, k0_pay8, k0_pay5, k0_pay4, k0_pay3, k0_pay2, gateGain, lossX, resid, ir, ms]
  refine Fin.sum_mul_add_congr fun t k hl => ?_
  blk_point [iblk, V, idx t]

/-- The run: the results are the loss and the gradients, and the arguments are unchanged. -/
theorem run : θ_run defs (onTc (τ := τ) (main (F := Ideal))) ⟨m, fun _ => 0, ρ⟩ fun r => ∀ c : Dev nD,
      r.2.mem ((c : Thread nD τ).loc main_v0_0) = DX m c
      ∧ r.2.mem ((c : Thread nD τ).loc main_v0_1) = gateX (DX m c) (Y m c) (Gain m c) (Gate m c)
      ∧ r.2.mem ((c : Thread nD τ).loc main_v0_2) = loss (X1 m c) (Y m c) (T m c) (Gate m c) (Gain m c)
      ∧ r.2.mem ((c : Thread nD τ).loc main_v0_3) = gradScale (DX m c) (Y m c) (Gain m c)
      ∧ r.2.mem ((c : Thread nD τ).loc main_v0_4) = gateGain (DX m c) (Y m c) (Gate m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h5, h6, h7, h8, h9, ha⟩ := h c
    exact ⟨h5.trans (rows_eq m c), h6.trans (back_eq m c), h7.trans (loss_eq m c), h8.trans (gate_eq m c), h9.trans (gain_eq m c), ha⟩)
    (Value.run_blocks m ρ)

end Cert.LossBwdIdeal.Norm

namespace Cert.LossBwdReferenceIdeal.Norm

open Cert.LossBwdReferenceIdeal Cert.LossBwdReferenceIdeal.Gen Cert.Norm

variable (m : (ℓ : Loc nD τ sig) → Buf (Elt Ideal) ℓ) (ρ : Dev nD → PrngReg) (c : Dev nD)

abbrev X1 := m ((c : Thread nD τ).loc main_arg0)
abbrev Y := m ((c : Thread nD τ).loc main_arg1)
abbrev T := m ((c : Thread nD τ).loc main_arg2)
abbrev Gate := m ((c : Thread nD τ).loc main_arg3)
abbrev Gain := m ((c : Thread nD τ).loc main_arg4)
abbrev DX := lossX (X1 m c) (Y m c) (T m c) (Gate m c) (Gain m c)

/-- The reference's run, its results read as the same arrays. -/
theorem run : θ_run defs (onTc (τ := τ) (main (F := Ideal))) ⟨m, fun _ => 0, ρ⟩ fun r => ∀ c : Dev nD,
      r.2.mem ((c : Thread nD τ).loc main_v32) = DX m c
      ∧ r.2.mem ((c : Thread nD τ).loc main_v57) = gateX (DX m c) (Y m c) (Gain m c) (Gate m c)
      ∧ r.2.mem ((c : Thread nD τ).loc main_v58) = loss (X1 m c) (Y m c) (T m c) (Gate m c) (Gain m c)
      ∧ r.2.mem ((c : Thread nD τ).loc main_v37) = gradScale (DX m c) (Y m c) (Gain m c)
      ∧ r.2.mem ((c : Thread nD τ).loc main_v40) = gateGain (DX m c) (Y m c) (Gate m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h0, h1, h2, h3, h4, ha⟩ := h c
    refine ⟨h0.trans (funext fun j => ?_), h1.trans (funext fun j => ?_), h2.trans (funext fun j => ?_),
      h3.trans (funext fun j => ?_), h4.trans (funext fun j => ?_), ha⟩
    · pointwise [lossX_eq, resid, ir, ms]
    · pointwise [Value.res_main_v57, gateX_eq, lossX_eq, resid, ir, ms]
    · pointwise [loss, resid, ir, ms]
    · pointwise [gradScale, lossX_eq, resid, ir, ms]
    · pointwise [gateGain, lossX_eq, resid, ir, ms]
      exact Fin.sum_fin_congr fun k => by rw [mul_comm (G := EReal), mul_comm (G := EReal) (m ((c : Thread nD τ).loc main_arg3) _)]) (Value.run m ρ)

end Cert.LossBwdReferenceIdeal.Norm

end
-- ==== Proof.PremlpBwd.lean ====
/- The backward pass between the mixers and the MLP: through the MLP's norm and modulation onto the gradient that passes it by, and
   on through the mixers' norm and gate. Every grid point's blocks of rows are the derivative's rows, and the row vectors, added up
   over the grid's points, are the sums over all rows. -/
module

public import proofs.«01_k».proof.Proof.Gen.PremlpBwdIdeal.Value
public import proofs.«01_k».proof.Proof.Gen.PremlpBwdReferenceIdeal.Run
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PremlpBwdIdeal.Norm

open Cert.PremlpBwdIdeal Cert.PremlpBwdIdeal.Gen Cert.Norm

variable (m : (ℓ : Loc nD τ sig) → Buf (Elt Ideal) ℓ) (ρ : Dev nD → PrngReg) (c : Dev nD)

/-- Point `t`'s blocks of rows are block `t`; the row vectors are whole. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] :=
  (by decide +kernel : ∀ t : Fin grid0.N, _)

theorem first {t : Fin cfg0.N} (h : t.val % 16 = 0) : ¬1 ≤ t.val := by
  have : t.val < 16 := t.isLt
  omega
theorem later {t : Fin cfg0.N} (h : ¬t.val % 16 = 0) : 1 ≤ t.val := by omega

abbrev DH := m ((c : Thread nD τ).loc main_arg0)
abbrev DX2 := m ((c : Thread nD τ).loc main_arg1)
abbrev X1 := m ((c : Thread nD τ).loc main_arg2)
abbrev Y := m ((c : Thread nD τ).loc main_arg3)
abbrev Scale := m ((c : Thread nD τ).loc main_arg4)
abbrev Gain := m ((c : Thread nD τ).loc main_arg5)
abbrev Gate := m ((c : Thread nD τ).loc main_arg6)
abbrev GainY := m ((c : Thread nD τ).loc main_arg7)
abbrev DX1 := gradX (DH m c) (DX2 m c) (X1 m c) (Gain m c) (Scale m c)

/-- A point's rows of the gradient before the norm. -/
abbrev dx1 (t : Fin cfg0.N) : FVec Ideal S256x2048 .f32 :=
  k0_pay11 (F := Ideal) (k0_pay2 (iblk m c 2 t)) (k0_pay3 (iblk m c 2 t)) (iblk m c 0 t) (iblk m c 4 t) (FloatOps.ofBits .f32 0x3F800000#32) (iblk m c 1 t)
    (iblk m c 5 t)

theorem rows_eq : (dats m 0 c).arrAt 8 (cfgs 0).N = DX1 m c := by
  refine (dats m 0 c).arrAt_eq_of_covers 8 _ (by decide +kernel) fun t _ y => ?_
  blk_simp
  rw [after0_8]
  have point : dx1 m c t y
      = DX1 m c (((cfg0.win 8).blk t).view.emb y) := by
    pointwise [k0_pay11, k0_pay8, k0_pay3, k0_pay2, gradX, row, ir, ms]
    blk_point [iblk, V, idx t]
  by_cases h : t.val % 16 = 0
  · rw [outsAt0_A m c t h (first h) h (first h) h (first h) h (first h) h (first h)]
    frame_out
    exact point
  · rw [outsAt0_B m c t h (later h) h (later h) h (later h) h (later h) h (later h)]
    frame_out
    exact point

theorem back_eq : (dats m 0 c).arrAt 9 (cfgs 0).N = gateX (DX1 m c) (Y m c) (GainY m c) (Gate m c) := by
  refine (dats m 0 c).arrAt_eq_of_covers 9 _ (by decide +kernel) fun t _ y => ?_
  blk_simp
  rw [after0_9]
  have point : k0_pay1 (k0_pay20 (dx1 m c t) (iblk m c 3 t) (k0_pay12 (iblk m c 3 t)) (k0_pay13 (iblk m c 3 t)) (iblk m c 6 t) (iblk m c 7 t)) y
      = gateX (DX1 m c) (Y m c) (GainY m c) (Gate m c) (((cfg0.win 9).blk t).view.emb y) := by
    pointwise [k0_pay1, k0_pay20, k0_pay17, k0_pay14, k0_pay13, k0_pay12, gateX, zero_add, k0_pay11, k0_pay8, k0_pay3, k0_pay2, gradX, row, ir, ms]
    blk_point [iblk, V, idx t]
  by_cases h : t.val % 16 = 0
  · rw [outsAt0_A m c t h (first h) h (first h) h (first h) h (first h) h (first h)]
    frame_out
    exact point
  · rw [outsAt0_B m c t h (later h) h (later h) h (later h) h (later h) h (later h)]
    frame_out
    exact point

theorem pay5 (x z : FVec Ideal S256x2048 .f32) (g v : FVec Ideal S1x2048 .f32) (j) :
    k0_pay5 (F := Ideal) x z g v j = (v j + k0_pay4 (F := Ideal) x z g j : EReal) := by
  pointwise [k0_pay5]
theorem pay7 (x : FVec Ideal S256x2048 .f32) (v : FVec Ideal S1x2048 .f32) (j) :
    k0_pay7 (F := Ideal) x v j = (v j + k0_pay6 (F := Ideal) x j : EReal) := by
  pointwise [k0_pay7]
theorem pay10 (x z : FVec Ideal S256x2048 .f32) (s v : FVec Ideal S1x2048 .f32) (b : Ideal .f32) (j) :
    k0_pay10 (F := Ideal) x z s b v j = (v j + k0_pay9 (F := Ideal) x z s b j : EReal) := by
  pointwise [k0_pay10]
theorem pay16 (x y z : FVec Ideal S256x2048 .f32) (g v : FVec Ideal S1x2048 .f32) (j) :
    k0_pay16 (F := Ideal) x y z g v j = (v j + k0_pay15 (F := Ideal) x y z g j : EReal) := by
  pointwise [k0_pay16]
theorem pay19 (x y z : FVec Ideal S256x2048 .f32) (g v : FVec Ideal S1x2048 .f32) (j) :
    k0_pay19 (F := Ideal) x y z g v j = (v j + k0_pay18 (F := Ideal) x y z g j : EReal) := by
  pointwise [k0_pay19]

theorem scale_eq : (dats m 0 c).arrAt 10 (cfgs 0).N = gradScale (DH m c) (X1 m c) (Gain m c) := by
  refine (dats m 0 c).arrAt_eq_of_after_last 10 t0_15 (by decide +kernel) _ fun j => ?_
  blk_simp
  rw [after0_10, Pipeline.eq_sum_fin_of_reset_step_apply_last (fun n h => (outsAt0 m c n h).2.2.1) 16 (fun _ => (0 : EReal))
    (fun t => k0_pay4 (iblk m c 2 t) (iblk m c 0 t) (iblk m c 5 t))
    (fun t h j => by rw [outsAt0_A m c t h (first h) h (first h) h (first h) h (first h) h (first h)]; frame_out; rw [zero_add])
    (fun t h j => by rw [outsAt0_B m c t h (later h) h (later h) h (later h) h (later h) h (later h)]; frame_out; rw [pay5])
    (le_of_eq N_0) t0_15 rfl j, zero_add]
  pointwise [k0_pay4, k0_pay3, k0_pay2, gradScale, ir, ms]
  refine Fin.sum_mul_add_congr fun t k hl => ?_
  blk_point [iblk, V, idx t]

theorem shift_eq : (dats m 0 c).arrAt 11 (cfgs 0).N = gradShift (DH m c) := by
  refine (dats m 0 c).arrAt_eq_of_after_last 11 t0_15 (by decide +kernel) _ fun j => ?_
  blk_simp
  rw [after0_11, Pipeline.eq_sum_fin_of_reset_step_apply_last (fun n h => (outsAt0 m c n h).2.2.2.1) 16 (fun _ => (0 : EReal))
    (fun t => k0_pay6 (iblk m c 0 t))
    (fun t h j => by rw [outsAt0_A m c t h (first h) h (first h) h (first h) h (first h) h (first h)]; frame_out; rw [zero_add])
    (fun t h j => by rw [outsAt0_B m c t h (later h) h (later h) h (later h) h (later h) h (later h)]; frame_out; rw [pay7])
    (le_of_eq N_0) t0_15 rfl j, zero_add]
  pointwise [k0_pay6, gradShift]
  refine Fin.sum_mul_add_congr fun t k hl => ?_
  blk_point [iblk, V, idx t]

theorem gain_eq : (dats m 0 c).arrAt 12 (cfgs 0).N = gradGain (DH m c) (X1 m c) (Scale m c) := by
  refine (dats m 0 c).arrAt_eq_of_after_last 12 t0_15 (by decide +kernel) _ fun j => ?_
  blk_simp
  rw [after0_12, Pipeline.eq_sum_fin_of_reset_step_apply_last (fun n h => (outsAt0 m c n h).2.2.2.2.1) 16 (fun _ => (0 : EReal))
    (fun t => k0_pay9 (k0_pay3 (iblk m c 2 t)) (iblk m c 0 t) (iblk m c 4 t) (FloatOps.ofBits .f32 0x3F800000#32))
    (fun t h j => by rw [outsAt0_A m c t h (first h) h (first h) h (first h) h (first h) h (first h)]; frame_out; rw [zero_add])
    (fun t h j => by rw [outsAt0_B m c t h (later h) h (later h) h (later h) h (later h) h (later h)]; frame_out; rw [pay10])
    (le_of_eq N_0) t0_15 rfl j, zero_add]
  pointwise [k0_pay9, k0_pay8, k0_pay3, k0_pay2, gradGain, ir, ms]
  refine Fin.sum_mul_add_congr fun t k hl => ?_
  blk_point [iblk, V, idx t]

theorem gate_eq : (dats m 0 c).arrAt 13 (cfgs 0).N = gradScale (DX1 m c) (Y m c) (GainY m c) := by
  refine (dats m 0 c).arrAt_eq_of_after_last 13 t0_15 (by decide +kernel) _ fun j => ?_
  blk_simp
  rw [after0_13, Pipeline.eq_sum_fin_of_reset_step_apply_last (fun n h => (outsAt0 m c n h).2.2.2.2.2.1) 16 (fun _ => (0 : EReal))
    (fun t => k0_pay15 (dx1 m c t) (iblk m c 3 t) (k0_pay13 (iblk m c 3 t)) (iblk m c 7 t))
    (fun t h j => by rw [outsAt0_A m c t h (first h) h (first h) h (first h) h (first h) h (first h)]; frame_out; rw [zero_add])
    (fun t h j => by rw [outsAt0_B m c t h (later h) h (later h) h (later h) h (later h) h (later h)]; frame_out; rw [pay16])
    (le_of_eq N_0) t0_15 rfl j, zero_add]
  pointwise [k0_pay15, k0_pay17, k0_pay14, k0_pay13, k0_pay12, gradScale, k0_pay11, k0_pay8, k0_pay3, k0_pay2, gradX, row, ir, ms]
  refine Fin.sum_mul_add_congr fun t k hl => ?_
  blk_point [iblk, V, idx t]

theorem gainY_eq : (dats m 0 c).arrAt 14 (cfgs 0).N = gateGain (DX1 m c) (Y m c) (Gate m c) := by
  refine (dats m 0 c).arrAt_eq_of_after_last 14 t0_15 (by decide +kernel) _ fun j => ?_
  blk_simp
  rw [after0_14, Pipeline.eq_sum_fin_of_reset_step_apply_last (fun n h => (outsAt0 m c n h).2.2.2.2.2.2) 16 (fun _ => (0 : EReal))
    (fun t => k0_pay18 (dx1 m c t) (iblk m c 3 t) (k0_pay13 (iblk m c 3 t)) (iblk m c 6 t))
    (fun t h j => by rw [outsAt0_A m c t h (first h) h (first h) h (first h) h (first h) h (first h)]; frame_out; rw [zero_add])
    (fun t h j => by rw [outsAt0_B m c t h (later h) h (later h) h (later h) h (later h) h (later h)]; frame_out; rw [pay19])
    (le_of_eq N_0) t0_15 rfl j, zero_add]
  pointwise [k0_pay18, k0_pay17, k0_pay14, k0_pay13, k0_pay12, gateGain, k0_pay11, k0_pay8, k0_pay3, k0_pay2, gradX, row, ir, ms]
  refine Fin.sum_mul_add_congr fun t k hl => ?_
  blk_point [iblk, V, idx t]

/-- The run: the results are the gradients, and the arguments are unchanged. -/
theorem run : θ_run defs (onTc (τ := τ) (main (F := Ideal))) ⟨m, fun _ => 0, ρ⟩ fun r => ∀ c : Dev nD,
      r.2.mem ((c : Thread nD τ).loc main_v0_0) = DX1 m c
      ∧ r.2.mem ((c : Thread nD τ).loc main_v0_1) = gateX (DX1 m c) (Y m c) (GainY m c) (Gate m c)
      ∧ r.2.mem ((c : Thread nD τ).loc main_v0_2) = gradScale (DH m c) (X1 m c) (Gain m c)
      ∧ r.2.mem ((c : Thread nD τ).loc main_v0_3) = gradShift (DH m c)
      ∧ r.2.mem ((c : Thread nD τ).loc main_v0_4) = gradGain (DH m c) (X1 m c) (Scale m c)
      ∧ r.2.mem ((c : Thread nD τ).loc main_v0_5) = gradScale (DX1 m c) (Y m c) (GainY m c)
      ∧ r.2.mem ((c : Thread nD τ).loc main_v0_6) = gateGain (DX1 m c) (Y m c) (Gate m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => by
    obtain ⟨h0, h1, h2, h3, h4, h5, h6, ha⟩ := h c
    exact ⟨h0.trans (rows_eq m c), h1.trans (back_eq m c), h2.trans (scale_eq m c), h3.trans (shift_eq m c), h4.trans (gain_eq m c),
      h5.trans (gate_eq m c), h6.trans (gainY_eq m c), ha⟩)
    (Value.run_blocks m ρ)

end Cert.PremlpBwdIdeal.Norm

namespace Cert.PremlpBwdReferenceIdeal.Norm

open Cert.PremlpBwdReferenceIdeal Cert.PremlpBwdReferenceIdeal.Gen Cert.Norm

variable (m : (ℓ : Loc nD τ sig) → Buf (Elt Ideal) ℓ) (ρ : Dev nD → PrngReg) (c : Dev nD)

abbrev DH := m ((c : Thread nD τ).loc main_arg0)
abbrev DX2 := m ((c : Thread nD τ).loc main_arg1)
abbrev X1 := m ((c : Thread nD τ).loc main_arg2)
abbrev Y := m ((c : Thread nD τ).loc main_arg3)
abbrev Scale := m ((c : Thread nD τ).loc main_arg4)
abbrev Gain := m ((c : Thread nD τ).loc main_arg5)
abbrev Gate := m ((c : Thread nD τ).loc main_arg6)
abbrev GainY := m ((c : Thread nD τ).loc main_arg7)
abbrev DX1 := gradX (DH m c) (DX2 m c) (X1 m c) (Gain m c) (Scale m c)

/-- The reference's run, its results read as the same arrays. -/
theorem run : θ_run defs (onTc (τ := τ) (main (F := Ideal))) ⟨m, fun _ => 0, ρ⟩ fun r => ∀ c : Dev nD,
      r.2.mem ((c : Thread nD τ).loc main_v49) = DX1 m c
      ∧ r.2.mem ((c : Thread nD τ).loc main_v91) = gateX (DX1 m c) (Y m c) (GainY m c) (Gate m c)
      ∧ r.2.mem ((c : Thread nD τ).loc main_v27) = gradScale (DH m c) (X1 m c) (Gain m c)
      ∧ r.2.mem ((c : Thread nD τ).loc main_v24) = gradShift (DH m c)
      ∧ r.2.mem ((c : Thread nD τ).loc main_v32) = gradGain (DH m c) (X1 m c) (Scale m c)
      ∧ r.2.mem ((c : Thread nD τ).loc main_v71) = gradScale (DX1 m c) (Y m c) (GainY m c)
      ∧ r.2.mem ((c : Thread nD τ).loc main_v74) = gateGain (DX1 m c) (Y m c) (Gate m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => by
    obtain ⟨h0, h1, h2, h3, h4, h5, h6, ha⟩ := h c
    refine ⟨h0.trans (funext fun j => ?_), h1.trans (funext fun j => ?_), h2.trans (funext fun j => ?_),
      h3.trans (funext fun j => ?_), h4.trans (funext fun j => ?_), h5.trans (funext fun j => ?_), h6.trans (funext fun j => ?_), ha⟩
    · pointwise [Value.res_main_v49, gradX_eq, ir, ms]
    · pointwise [Value.res_main_v91, gateX_eq, gradX_eq, ir, ms]
    · pointwise [gradScale, ir, ms]
      exact Fin.sum_fin_congr fun k => mul_comm (G := EReal) _ _
    · pointwise [gradShift]
    · pointwise [gradGain, ir, ms]
      exact Fin.sum_fin_congr fun k => mul_comm (G := EReal) _ _
    · pointwise [Value.res_main_v71, gradScale, gradX_eq, ir, ms]
    · pointwise [Value.res_main_v74, gateGain, gradX_eq, ir, ms]
      exact Fin.sum_fin_congr fun k => by rw [mul_comm (G := EReal), mul_comm (G := EReal) (Gate m c _)]) (Value.run m ρ)

end Cert.PremlpBwdReferenceIdeal.Norm

end
-- ==== Proof.Forward.lean ====
/- The rows of the forward pass: the norm and its modulation before the mixers, and between the mixers and the MLP the gated norm of
   what the mixers give, added to the rows, and the norm and modulation of the sum. -/
module

public import proofs.«01_k».proof.Proof.Gen.PremixIdeal.Value
public import proofs.«01_k».proof.Proof.Gen.PremixReferenceIdeal.Run
public import proofs.«01_k».proof.Proof.Gen.PostmixPremlpIdeal.Value
public import proofs.«01_k».proof.Proof.Gen.PostmixPremlpReferenceIdeal.Run
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Norm

open Cert.Upd

variable (x y : FVec Ideal (Mat 4096 2048) .f32) (g scale shift gate : FVec Ideal (Mat 1 2048) .f32)

/-- The modulated norm, and the rows with the gated norm added. -/
def modulated : FVec Ideal (Mat 4096 2048) .f32 := fun i =>
  x i * ir (fun k => x (ix2 (i 0) k)) * g (ix2 0 (i 1)) * (1 + scale (ix2 0 (i 1))) + shift (ix2 0 (i 1))
def gated : FVec Ideal (Mat 4096 2048) .f32 := fun i =>
  x i + gate (ix2 0 (i 1)) * (y i * ir (fun k => y (ix2 (i 0) k)) * g (ix2 0 (i 1)))

end Cert.Norm

namespace Cert.PremixIdeal.Norm

open Cert.PremixIdeal Cert.PremixIdeal.Gen Cert.Norm

variable (m : (ℓ : Loc nD τ sig) → Buf (Elt Ideal) ℓ) (ρ : Dev nD → PrngReg) (c : Dev nD)

/-- Point `t`'s blocks of rows are block `t`; the row vectors are whole. -/
theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

abbrev H := modulated (m ((c : Thread nD τ).loc main_arg0)) (m ((c : Thread nD τ).loc main_arg1)) (m ((c : Thread nD τ).loc main_arg2))
  (m ((c : Thread nD τ).loc main_arg3))

theorem rows_eq : (dats m 0 c).arrAt 4 (cfgs 0).N = H m c := by
  refine (dats m 0 c).arrAt_eq_of_covers 4 _ (by decide +kernel) fun t _ y => ?_
  blk_simp
  rw [after0_4]
  unfold out0_4
  frame_out
  pointwise [k0_pay1, modulated, ir, ms]
  blk_point [iblk, V, idx t]

/-- The run: the results are the rows, and the arguments are unchanged. -/
theorem run : θ_run defs (onTc (τ := τ) (main (F := Ideal))) ⟨m, fun _ => 0, ρ⟩ fun r => ∀ c : Dev nD,
      r.2.mem ((c : Thread nD τ).loc main_v0) = H m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h0, ha⟩ := h c
    exact ⟨h0.trans (rows_eq m c), ha⟩) (Value.run_blocks m ρ)

end Cert.PremixIdeal.Norm

namespace Cert.PremixReferenceIdeal.Norm

open Cert.PremixReferenceIdeal Cert.PremixReferenceIdeal.Gen Cert.Norm

variable (m : (ℓ : Loc nD τ sig) → Buf (Elt Ideal) ℓ) (ρ : Dev nD → PrngReg) (c : Dev nD)

abbrev H := modulated (m ((c : Thread nD τ).loc main_arg0)) (m ((c : Thread nD τ).loc main_arg1)) (m ((c : Thread nD τ).loc main_arg2))
  (m ((c : Thread nD τ).loc main_arg3))

/-- The reference's run, its results read as the same arrays. -/
theorem run : θ_run defs (onTc (τ := τ) (main (F := Ideal))) ⟨m, fun _ => 0, ρ⟩ fun r => ∀ c : Dev nD,
      r.2.mem ((c : Thread nD τ).loc main_v18) = H m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h0, ha⟩ := h c
    refine ⟨h0.trans (funext fun j => ?_), ha⟩
    · pointwise [modulated, gated, ir, ms]) (Value.run m ρ)

end Cert.PremixReferenceIdeal.Norm

namespace Cert.PostmixPremlpIdeal.Norm

open Cert.PostmixPremlpIdeal Cert.PostmixPremlpIdeal.Gen Cert.Norm

variable (m : (ℓ : Loc nD τ sig) → Buf (Elt Ideal) ℓ) (ρ : Dev nD → PrngReg) (c : Dev nD)

/-- Point `t`'s blocks of rows are block `t`; the row vectors are whole. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

abbrev X1 := gated (m ((c : Thread nD τ).loc main_arg0)) (m ((c : Thread nD τ).loc main_arg1)) (m ((c : Thread nD τ).loc main_arg3))
  (m ((c : Thread nD τ).loc main_arg2))
abbrev H := modulated (X1 m c) (m ((c : Thread nD τ).loc main_arg4)) (m ((c : Thread nD τ).loc main_arg5))
  (m ((c : Thread nD τ).loc main_arg6))

theorem rows_eq : (dats m 0 c).arrAt 7 (cfgs 0).N = X1 m c := by
  refine (dats m 0 c).arrAt_eq_of_covers 7 _ (by decide +kernel) fun t _ y => ?_
  blk_simp
  rw [after0_7]
  unfold out0_7
  frame_out
  pointwise [k0_pay2, gated, ir, ms]
  blk_point [iblk, V, idx t]

theorem next_eq : (dats m 0 c).arrAt 8 (cfgs 0).N = H m c := by
  refine (dats m 0 c).arrAt_eq_of_covers 8 _ (by decide +kernel) fun t _ y => ?_
  blk_simp
  rw [after0_8]
  unfold out0_8
  frame_out
  pointwise [k0_pay1, k0_pay2, k0_pay3, k0_pay4, modulated, gated, ir, ms]
  blk_point [iblk, V, idx t]

/-- The run: the results are the rows, and the arguments are unchanged. -/
theorem run : θ_run defs (onTc (τ := τ) (main (F := Ideal))) ⟨m, fun _ => 0, ρ⟩ fun r => ∀ c : Dev nD,
      r.2.mem ((c : Thread nD τ).loc main_v0_0) = X1 m c
      ∧ r.2.mem ((c : Thread nD τ).loc main_v0_1) = H m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨h0, h1, ha⟩ := h c
    exact ⟨h0.trans (rows_eq m c), h1.trans (next_eq m c), ha⟩) (Value.run_blocks m ρ)

end Cert.PostmixPremlpIdeal.Norm

namespace Cert.PostmixPremlpReferenceIdeal.Norm

open Cert.PostmixPremlpReferenceIdeal Cert.PostmixPremlpReferenceIdeal.Gen Cert.Norm

variable (m : (ℓ : Loc nD τ sig) → Buf (Elt Ideal) ℓ) (ρ : Dev nD → PrngReg) (c : Dev nD)

abbrev X1 := gated (m ((c : Thread nD τ).loc main_arg0)) (m ((c : Thread nD τ).loc main_arg1)) (m ((c : Thread nD τ).loc main_arg3))
  (m ((c : Thread nD τ).loc main_arg2))
abbrev H := modulated (X1 m c) (m ((c : Thread nD τ).loc main_arg4)) (m ((c : Thread nD τ).loc main_arg5))
  (m ((c : Thread nD τ).loc main_arg6))

/-- The reference's run, its results read as the same arrays. -/
theorem run : θ_run defs (onTc (τ := τ) (main (F := Ideal))) ⟨m, fun _ => 0, ρ⟩ fun r => ∀ c : Dev nD,
      r.2.mem ((c : Thread nD τ).loc main_v14) = X1 m c
      ∧ r.2.mem ((c : Thread nD τ).loc main_v33) = H m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨h0, h1, ha⟩ := h c
    refine ⟨h0.trans (funext fun j => ?_), h1.trans (funext fun j => ?_), ha⟩
    · pointwise [modulated, gated, ir, ms]
    · pointwise [modulated, gated, ir, ms]) (Value.run m ρ)

end Cert.PostmixPremlpReferenceIdeal.Norm

end
-- ==== Proof.Product.lean ====
/- Products of matrices, and the sum that a scratch holds after a run of grid points. -/
module

public import proofs.«01_k».proof.Proof.Norm
public import Idealize.ShloMosaic.Lib.Pipeline.ValueKit
public import Idealize.ShloMosaic.Lib.Pointwise

@[expose] public section

noncomputable section

open Idealize.ShloMosaic

namespace Cert.Product

open Cert.Upd

/-- The product of two matrices, of the first by the second's transpose, and of the first's transpose by the second. -/
def nn {a b c : Nat} (l : (Mat a b).Idx → EReal) (w : (Mat b c).Idx → EReal) : (Mat a c).Idx → EReal := fun i =>
  ∑ k : Fin b, l (ix2 (i 0) k) * w (ix2 k (i 1))
def nt {a b c : Nat} (l : (Mat a b).Idx → EReal) (w : (Mat c b).Idx → EReal) : (Mat a c).Idx → EReal := fun i =>
  ∑ k : Fin b, l (ix2 (i 0) k) * w (ix2 (i 1) k)
def tn {a b c : Nat} (l : (Mat b a).Idx → EReal) (w : (Mat b c).Idx → EReal) : (Mat a c).Idx → EReal := fun i =>
  ∑ k : Fin b, l (ix2 k (i 0)) * w (ix2 k (i 1))

/-- Eight slabs of 1024 columns as one matrix, and a matrix's slabs. -/
def whole {a : Nat} (w : (Slabs a 1024).Idx → EReal) : (Mat a 8192).Idx → EReal := fun i =>
  w (ix3 ⟨(i 1).val / 1024, by have := (i 1).isLt; change (i 1).val < 8192 at this; omega⟩ (i 0) ⟨(i 1).val % 1024, by omega⟩)
def cut {a : Nat} (w : (Mat a 8192).Idx → EReal) : (Slabs a 1024).Idx → EReal := fun i =>
  w (ix2 (i 1) ⟨(i 0).val * 1024 + (i 2).val, by
    have h0 := (i 0).isLt; have h2 := (i 2).isLt; change (i 0).val < 8 at h0; change (i 2).val < 1024 at h2; omega⟩)

/-- What is set at a run's first point and added to at the others is, at the run's last point, the sum over the run. -/
theorem sum_run {N : Nat} {ι : Type} (J : Nat) [NeZero J] (f : (n : Nat) → n < N → ι → EReal) (term : Fin N → ι → EReal)
    (h0 : ∀ t : Fin N, t.val % J = 0 → f t.val t.isLt = term t)
    (hs : ∀ t : Fin N, ¬t.val % J = 0 → ∀ j, f t.val t.isLt j = f (t.val - 1) (Nat.lt_of_le_of_lt (Nat.sub_le _ _) t.isLt) j + term t j)
    (t : Fin N) (h : t.val % J = J - 1) (j : ι) :
    f t.val t.isLt j = ∑ s : Fin J, term ⟨J * (t.val / J) + s.val, Pipeline.run_point_lt_of_flush t h s⟩ j := by
  rw [Pipeline.eq_sum_fin_of_reset_step_apply_of_flush f J (fun _ => (0 : EReal)) term
    (fun t h j => by rw [h0 t h, zero_add]) hs t h j, zero_add]

end Cert.Product

end
-- ==== Proof.Projections.lean ====
/- The products by the mixer's two projections, forward and backward: each tile's scratch holds, at the last of its run of
   grid points, the sum over the blocks of the contracted axis; and the references' one product. -/
module

public import proofs.«01_k».proof.Proof.Gen.ProjMain.Frame
public import proofs.«01_k».proof.Proof.Gen.ProjMainIdeal.Value
public import proofs.«01_k».proof.Proof.Gen.ProjMainReferenceIdeal.Run
public import proofs.«01_k».proof.Proof.Gen.OutProj.Frame
public import proofs.«01_k».proof.Proof.Gen.OutProjIdeal.Value
public import proofs.«01_k».proof.Proof.Gen.OutProjReferenceIdeal.Run
public import proofs.«01_k».proof.Proof.Gen.OutProjDx.Frame
public import proofs.«01_k».proof.Proof.Gen.OutProjDxIdeal.Value
public import proofs.«01_k».proof.Proof.Gen.OutProjDxReferenceIdeal.Run
public import proofs.«01_k».proof.Proof.Gen.OutProjDw.Frame
public import proofs.«01_k».proof.Proof.Gen.OutProjDwIdeal.Value
public import proofs.«01_k».proof.Proof.Gen.OutProjDwReferenceIdeal.Run
public import proofs.«01_k».proof.Proof.Gen.ProjMainDx.Frame
public import proofs.«01_k».proof.Proof.Gen.ProjMainDxIdeal.Value
public import proofs.«01_k».proof.Proof.Gen.ProjMainDxReferenceIdeal.Run
public import proofs.«01_k».proof.Proof.Gen.ProjMainDw.Frame
public import proofs.«01_k».proof.Proof.Gen.ProjMainDwIdeal.Value
public import proofs.«01_k».proof.Proof.Gen.ProjMainDwReferenceIdeal.Run
public import proofs.«01_k».proof.Proof.Product
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutProjIdeal.Product

open Cert.OutProjIdeal Cert.OutProjIdeal.Gen Cert.Product

variable (m : (ℓ : Loc nD τ sig) → Buf (Elt Ideal) ℓ) (ρ : Dev nD → PrngReg) (c : Dev nD)

theorem idx : ∀ t : Fin cfg0.N, win0_0.index t = ![t.val / 8, t.val % 4] ∧ win0_1.index t = ![t.val % 4, t.val / 4 % 2]
    ∧ win0_2.index t = ![t.val / 8, t.val / 4 % 2] := (by decide +kernel : ∀ t : Fin grid0.N, _)

theorem pay3 (a b v j) : k0_pay3 (F := Ideal) a b v j = (v j + k0_pay2 (F := Ideal) a b j : EReal) := by
  pointwise [k0_pay3, k0_pay2]

theorem out_eq : (dats m 0 c).arrAt 2 (cfgs 0).N = nn (a := 4096) (b := 2048) (c := 2048)
    (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, show (outsAt0 m c t.val t.isLt).1 = (outsAt0 m c t.val t.isLt).2 by
      rw [outsAt0_C m c t (by omega) (by omega) h]; frame_out,
    sum_run 4 (fun n h => (outsAt0 m c n h).2) (fun t => k0_pay2 (iblk m c 0 t) (iblk m c 1 t))
      (fun t h => by rw [outsAt0_A m c t h (by omega) (by omega)]; frame_out)
      (fun t h j => by
        by_cases h3 : t.val % 4 = 3
        · rw [outsAt0_C m c t h (by omega) h3]; frame_out; rw [pay3, read_unread_whole]
        · rw [outsAt0_B m c t h (by omega) h3]; frame_out; rw [pay3, read_unread_whole]) t h]
  pointwise [k0_pay2, k0_pay1, nn]
  exact Fin.sum_mul_add_congr fun s k hl => by blk_point [iblk, V, idx]

theorem run : θ_run defs (onTc (τ := τ) (main (F := Ideal))) ⟨m, fun _ => 0, ρ⟩ fun r => ∀ c : Dev nD,
    r.2.mem ((c : Thread nD τ).loc main_v0) = nn (a := 4096) (b := 2048) (c := 2048)
        (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (out_eq m c), (h c).2⟩) (Value.run_blocks m ρ)

end Cert.OutProjIdeal.Product

namespace Cert.OutProjReferenceIdeal.Product

open Cert.OutProjReferenceIdeal Cert.OutProjReferenceIdeal.Gen Cert.Product

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v2) = nn (a := 4096) (b := 2048) (c := 2048)
        (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (funext fun j => by pointwise [nn]), (h c).2⟩) (Value.run m ρ)

end Cert.OutProjReferenceIdeal.Product

namespace Cert.ProjMainIdeal.Product

open Cert.ProjMainIdeal Cert.ProjMainIdeal.Gen Cert.Product

variable (m : (ℓ : Loc nD τ sig) → Buf (Elt Ideal) ℓ) (ρ : Dev nD → PrngReg) (c : Dev nD)

theorem idx : ∀ t : Fin cfg0.N, win0_0.index t = ![t.val / 24, t.val % 4] ∧ win0_1.index t = ![t.val % 4, t.val / 4 % 6]
    ∧ win0_2.index t = ![t.val / 24, t.val / 4 % 6] := (by decide +kernel : ∀ t : Fin grid0.N, _)

theorem pay3 (a b v j) : k0_pay3 (F := Ideal) a b v j = (v j + k0_pay2 (F := Ideal) a b j : EReal) := by
  pointwise [k0_pay3, k0_pay2]

theorem pay4 (v j) : k0_pay4 (F := Ideal) v j = (v j : EReal) := by pointwise [k0_pay4]

theorem out_eq : (dats m 0 c).arrAt 2 (cfgs 0).N = nn (a := 4096) (b := 2048) (c := 6144)
    (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, show (outsAt0 m c t.val t.isLt).1 = k0_pay4 (outsAt0 m c t.val t.isLt).2 by
      rw [outsAt0_C m c t (by omega) (by omega) h]; frame_out,
    pay4, sum_run 4 (fun n h => (outsAt0 m c n h).2) (fun t => k0_pay2 (iblk m c 0 t) (iblk m c 1 t))
      (fun t h => by rw [outsAt0_A m c t h (by omega) (by omega)]; frame_out)
      (fun t h j => by
        by_cases h3 : t.val % 4 = 3
        · rw [outsAt0_C m c t h (by omega) h3]; frame_out; rw [pay3, read_unread_whole]
        · rw [outsAt0_B m c t h (by omega) h3]; frame_out; rw [pay3, read_unread_whole]) t h]
  pointwise [k0_pay2, k0_pay1, nn]
  exact Fin.sum_mul_add_congr fun s k hl => by blk_point [iblk, V, idx]

theorem run : θ_run defs (onTc (τ := τ) (main (F := Ideal))) ⟨m, fun _ => 0, ρ⟩ fun r => ∀ c : Dev nD,
    r.2.mem ((c : Thread nD τ).loc main_v0) = nn (a := 4096) (b := 2048) (c := 6144)
        (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (out_eq m c), (h c).2⟩) (Value.run_blocks m ρ)

end Cert.ProjMainIdeal.Product

namespace Cert.ProjMainReferenceIdeal.Product

open Cert.ProjMainReferenceIdeal Cert.ProjMainReferenceIdeal.Gen Cert.Product

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v3) = nn (a := 4096) (b := 2048) (c := 6144)
        (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (funext fun j => by pointwise [nn]), (h c).2⟩) (Value.run m ρ)

end Cert.ProjMainReferenceIdeal.Product

namespace Cert.OutProjDxIdeal.Product

open Cert.OutProjDxIdeal Cert.OutProjDxIdeal.Gen Cert.Product

variable (m : (ℓ : Loc nD τ sig) → Buf (Elt Ideal) ℓ) (ρ : Dev nD → PrngReg) (c : Dev nD)

theorem idx : ∀ t : Fin cfg0.N, win0_0.index t = ![t.val / 8, t.val % 4] ∧ win0_1.index t = ![t.val / 4 % 2, t.val % 4]
    ∧ win0_2.index t = ![t.val / 8, t.val / 4 % 2] := (by decide +kernel : ∀ t : Fin grid0.N, _)

theorem pay3 (a b v j) : k0_pay3 (F := Ideal) a b v j = (v j + k0_pay2 (F := Ideal) a b j : EReal) := by
  pointwise [k0_pay3, k0_pay2]

theorem out_eq : (dats m 0 c).arrAt 2 (cfgs 0).N = nt (a := 4096) (b := 2048) (c := 2048)
    (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, show (outsAt0 m c t.val t.isLt).1 = (outsAt0 m c t.val t.isLt).2 by
      rw [outsAt0_C m c t (by omega) (by omega) h]; frame_out,
    sum_run 4 (fun n h => (outsAt0 m c n h).2) (fun t => k0_pay2 (iblk m c 0 t) (iblk m c 1 t))
      (fun t h => by rw [outsAt0_A m c t h (by omega) (by omega)]; frame_out)
      (fun t h j => by
        by_cases h3 : t.val % 4 = 3
        · rw [outsAt0_C m c t h (by omega) h3]; frame_out; rw [pay3, read_unread_whole]
        · rw [outsAt0_B m c t h (by omega) h3]; frame_out; rw [pay3, read_unread_whole]) t h]
  pointwise [k0_pay2, k0_pay1, nt]
  exact Fin.sum_mul_add_congr fun s k hl => by blk_point [iblk, V, idx]

theorem run : θ_run defs (onTc (τ := τ) (main (F := Ideal))) ⟨m, fun _ => 0, ρ⟩ fun r => ∀ c : Dev nD,
    r.2.mem ((c : Thread nD τ).loc main_v0) = nt (a := 4096) (b := 2048) (c := 2048)
        (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (out_eq m c), (h c).2⟩) (Value.run_blocks m ρ)

end Cert.OutProjDxIdeal.Product

namespace Cert.OutProjDxReferenceIdeal.Product

open Cert.OutProjDxReferenceIdeal Cert.OutProjDxReferenceIdeal.Gen Cert.Product

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v3) = nt (a := 4096) (b := 2048) (c := 2048)
        (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (funext fun j => by pointwise [nt]), (h c).2⟩) (Value.run m ρ)

end Cert.OutProjDxReferenceIdeal.Product

namespace Cert.OutProjDwIdeal.Product

open Cert.OutProjDwIdeal Cert.OutProjDwIdeal.Gen Cert.Product

variable (m : (ℓ : Loc nD τ sig) → Buf (Elt Ideal) ℓ) (ρ : Dev nD → PrngReg) (c : Dev nD)

theorem idx : ∀ t : Fin cfg0.N, win0_0.index t = ![t.val % 8, t.val / 16] ∧ win0_1.index t = ![t.val % 8, t.val / 8 % 2]
    ∧ win0_2.index t = ![t.val / 16, t.val / 8 % 2] := (by decide +kernel : ∀ t : Fin grid0.N, _)

theorem pay3 (a b v j) : k0_pay3 (F := Ideal) a b v j = (v j + k0_pay2 (F := Ideal) a b j : EReal) := by
  pointwise [k0_pay3, k0_pay2]

theorem pay4 (v j) : k0_pay4 (F := Ideal) v j = (v j : EReal) := by pointwise [k0_pay4]

theorem out_eq : (dats m 0 c).arrAt 2 (cfgs 0).N = tn (a := 2048) (b := 4096) (c := 2048)
    (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, show (outsAt0 m c t.val t.isLt).1 = k0_pay4 (outsAt0 m c t.val t.isLt).2 by
      rw [outsAt0_C m c t (by omega) (by omega) h]; frame_out,
    pay4, sum_run 8 (fun n h => (outsAt0 m c n h).2) (fun t => k0_pay2 (iblk m c 0 t) (iblk m c 1 t))
      (fun t h => by rw [outsAt0_A m c t h (by omega) (by omega)]; frame_out)
      (fun t h j => by
        by_cases h3 : t.val % 8 = 7
        · rw [outsAt0_C m c t h (by omega) h3]; frame_out; rw [pay3, read_unread_whole]
        · rw [outsAt0_B m c t h (by omega) h3]; frame_out; rw [pay3, read_unread_whole]) t h]
  pointwise [k0_pay2, k0_pay1, tn]
  exact Fin.sum_mul_add_congr fun s k hl => by blk_point [iblk, V, idx]

theorem run : θ_run defs (onTc (τ := τ) (main (F := Ideal))) ⟨m, fun _ => 0, ρ⟩ fun r => ∀ c : Dev nD,
    r.2.mem ((c : Thread nD τ).loc main_v0) = tn (a := 2048) (b := 4096) (c := 2048)
        (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (out_eq m c), (h c).2⟩) (Value.run_blocks m ρ)

end Cert.OutProjDwIdeal.Product

namespace Cert.OutProjDwReferenceIdeal.Product

open Cert.OutProjDwReferenceIdeal Cert.OutProjDwReferenceIdeal.Gen Cert.Product

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v4) = tn (a := 2048) (b := 4096) (c := 2048)
        (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (funext fun j => by pointwise [tn]), (h c).2⟩) (Value.run m ρ)

end Cert.OutProjDwReferenceIdeal.Product

namespace Cert.ProjMainDxIdeal.Product

open Cert.ProjMainDxIdeal Cert.ProjMainDxIdeal.Gen Cert.Product

variable (m : (ℓ : Loc nD τ sig) → Buf (Elt Ideal) ℓ) (ρ : Dev nD → PrngReg) (c : Dev nD)

theorem idx : ∀ t : Fin cfg0.N, win0_0.index t = ![t.val / 24, t.val % 12] ∧ win0_1.index t = ![t.val / 12 % 2, t.val % 12]
    ∧ win0_2.index t = ![t.val / 24, t.val / 12 % 2] ∧ win0_3.index t = ![t.val / 24, t.val / 12 % 2] :=
  (by decide +kernel : ∀ t : Fin grid0.N, _)

theorem pay3 (a b v j) : k0_pay3 (F := Ideal) a b v j = (v j + k0_pay2 (F := Ideal) a b j : EReal) := by
  pointwise [k0_pay3, k0_pay2]

theorem pay4 (v x j) : k0_pay4 (F := Ideal) v x j = (v j + x j : EReal) := by pointwise [k0_pay4]

theorem out_eq : (dats m 0 c).arrAt 3 (cfgs 0).N = fun i => (nt (a := 4096) (b := 6144) (c := 2048)
    (m ((c : Thread nD τ).loc main_arg0)) (m ((c : Thread nD τ).loc main_arg1)) i + m ((c : Thread nD τ).loc main_arg2) i : EReal) := by
  refine (dats m 0 c).arrAt_eq_of_covers 3 _ (by decide +kernel) fun t hf y => ?_
  have h := (flush0_3 t).mp hf
  blk_simp
  rw [after0_3, show (outsAt0 m c t.val t.isLt).1 = k0_pay4 (outsAt0 m c t.val t.isLt).2 (iblk m c 2 t) by
      rw [outsAt0_C m c t (by omega) (by omega) h]; frame_out,
    pay4, sum_run 12 (fun n h => (outsAt0 m c n h).2) (fun t => k0_pay2 (iblk m c 0 t) (iblk m c 1 t))
      (fun t h => by rw [outsAt0_A m c t h (by omega) (by omega)]; frame_out)
      (fun t h j => by
        by_cases h3 : t.val % 12 = 11
        · rw [outsAt0_C m c t h (by omega) h3]; frame_out; rw [pay3, read_unread_whole]
        · rw [outsAt0_B m c t h (by omega) h3]; frame_out; rw [pay3, read_unread_whole]) t h]
  refine congrArg₂ (fun a b : EReal => a + b) ?_ (by blk_point [iblk, V, idx])
  pointwise [k0_pay2, k0_pay1, nt]
  exact Fin.sum_mul_add_congr fun s k hl => by blk_point [iblk, V, idx]

theorem run : θ_run defs (onTc (τ := τ) (main (F := Ideal))) ⟨m, fun _ => 0, ρ⟩ fun r => ∀ c : Dev nD,
    r.2.mem ((c : Thread nD τ).loc main_v0) = (fun i => (nt (a := 4096) (b := 6144) (c := 2048)
        (m ((c : Thread nD τ).loc main_arg0)) (m ((c : Thread nD τ).loc main_arg1)) i
          + m ((c : Thread nD τ).loc main_arg2) i : EReal))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨(h c).1.trans (out_eq m c), (h c).2⟩) (Value.run_blocks m ρ)

end Cert.ProjMainDxIdeal.Product

namespace Cert.ProjMainDxReferenceIdeal.Product

open Cert.ProjMainDxReferenceIdeal Cert.ProjMainDxReferenceIdeal.Gen Cert.Product

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v4) = (fun i => (nt (a := 4096) (b := 6144) (c := 2048)
        (m ((c : Thread nD τ).loc main_arg0)) (m ((c : Thread nD τ).loc main_arg1)) i
          + m ((c : Thread nD τ).loc main_arg2) i : EReal))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨(h c).1.trans (funext fun j => by pointwise [nt]), (h c).2⟩) (Value.run m ρ)

end Cert.ProjMainDxReferenceIdeal.Product

namespace Cert.ProjMainDwIdeal.Product

open Cert.ProjMainDwIdeal Cert.ProjMainDwIdeal.Gen Cert.Product

variable (m : (ℓ : Loc nD τ sig) → Buf (Elt Ideal) ℓ) (ρ : Dev nD → PrngReg) (c : Dev nD)

theorem idx : ∀ t : Fin cfg0.N, win0_0.index t = ![t.val % 8, t.val / 48] ∧ win0_1.index t = ![t.val % 8, t.val / 8 % 6]
    ∧ win0_2.index t = ![t.val / 48, t.val / 8 % 6] := (by decide +kernel : ∀ t : Fin grid0.N, _)

theorem pay3 (a b v j) : k0_pay3 (F := Ideal) a b v j = (v j + k0_pay2 (F := Ideal) a b j : EReal) := by
  pointwise [k0_pay3, k0_pay2]

theorem pay4 (v j) : k0_pay4 (F := Ideal) v j = (v j : EReal) := by pointwise [k0_pay4]

theorem out_eq : (dats m 0 c).arrAt 2 (cfgs 0).N = tn (a := 2048) (b := 4096) (c := 6144)
    (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, show (outsAt0 m c t.val t.isLt).1 = k0_pay4 (outsAt0 m c t.val t.isLt).2 by
      rw [outsAt0_C m c t (by omega) (by omega) h]; frame_out,
    pay4, sum_run 8 (fun n h => (outsAt0 m c n h).2) (fun t => k0_pay2 (iblk m c 0 t) (iblk m c 1 t))
      (fun t h => by rw [outsAt0_A m c t h (by omega) (by omega)]; frame_out)
      (fun t h j => by
        by_cases h3 : t.val % 8 = 7
        · rw [outsAt0_C m c t h (by omega) h3]; frame_out; rw [pay3, read_unread_whole]
        · rw [outsAt0_B m c t h (by omega) h3]; frame_out; rw [pay3, read_unread_whole]) t h]
  pointwise [k0_pay2, k0_pay1, tn]
  exact Fin.sum_mul_add_congr fun s k hl => by blk_point [iblk, V, idx]

theorem run : θ_run defs (onTc (τ := τ) (main (F := Ideal))) ⟨m, fun _ => 0, ρ⟩ fun r => ∀ c : Dev nD,
    r.2.mem ((c : Thread nD τ).loc main_v0) = tn (a := 2048) (b := 4096) (c := 6144)
        (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (out_eq m c), (h c).2⟩) (Value.run_blocks m ρ)

end Cert.ProjMainDwIdeal.Product

namespace Cert.ProjMainDwReferenceIdeal.Product

open Cert.ProjMainDwReferenceIdeal Cert.ProjMainDwReferenceIdeal.Gen Cert.Product

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v4) = tn (a := 2048) (b := 4096) (c := 6144)
        (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (funext fun j => by pointwise [tn]), (h c).2⟩) (Value.run m ρ)

end Cert.ProjMainDwReferenceIdeal.Product

end
-- ==== Proof.Mlp.lean ====
/- The products of the MLP, forward and backward, on eight slabs of the first weight's columns, with the square of the relu
   and its derivative; and the references' one product each on the whole weights. -/
module

public import proofs.«01_k».proof.Proof.Gen.MlpIn.Frame
public import proofs.«01_k».proof.Proof.Gen.MlpInIdeal.Value
public import proofs.«01_k».proof.Proof.Gen.MlpInReferenceIdeal.Run
public import proofs.«01_k».proof.Proof.Gen.MlpOut.Frame
public import proofs.«01_k».proof.Proof.Gen.MlpOutIdeal.Value
public import proofs.«01_k».proof.Proof.Gen.MlpOutReferenceIdeal.Run
public import proofs.«01_k».proof.Proof.Gen.MlpOutDx.Frame
public import proofs.«01_k».proof.Proof.Gen.MlpOutDxIdeal.Value
public import proofs.«01_k».proof.Proof.Gen.MlpOutDxReferenceIdeal.Run
public import proofs.«01_k».proof.Proof.Gen.MlpOutDw.Frame
public import proofs.«01_k».proof.Proof.Gen.MlpOutDwIdeal.Value
public import proofs.«01_k».proof.Proof.Gen.MlpOutDwReferenceIdeal.Run
public import proofs.«01_k».proof.Proof.Gen.MlpInDx.Frame
public import proofs.«01_k».proof.Proof.Gen.MlpInDxIdeal.Value
public import proofs.«01_k».proof.Proof.Gen.MlpInDxReferenceIdeal.Run
public import proofs.«01_k».proof.Proof.Gen.MlpInDw.Frame
public import proofs.«01_k».proof.Proof.Gen.MlpInDwIdeal.Value
public import proofs.«01_k».proof.Proof.Gen.MlpInDwReferenceIdeal.Run
public import proofs.«01_k».proof.Proof.Product
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlpInIdeal.Product

open Cert.MlpInIdeal Cert.MlpInIdeal.Gen Cert.Product

variable (m : (ℓ : Loc nD τ sig) → Buf (Elt Ideal) ℓ) (ρ : Dev nD → PrngReg) (c : Dev nD)

theorem idx : ∀ t : Fin cfg0.N, win0_0.index t = ![t.val / 32, t.val % 4] ∧ win0_1.index t = ![t.val / 4 % 8, t.val % 4, 0]
    ∧ win0_2.index t = ![t.val / 32, t.val / 4 % 8] ∧ win0_3.index t = ![t.val / 32, t.val / 4 % 8] :=
  (by decide +kernel : ∀ t : Fin grid0.N, _)

theorem pay3 (a b v j) : k0_pay3 (F := Ideal) a b v j = (v j + k0_pay2 (F := Ideal) a b j : EReal) := by
  pointwise [k0_pay3, k0_pay2]

theorem pay6 (v j) : k0_pay6 (F := Ideal) v j = (v j ⊔ 0 : EReal) := by pointwise [k0_pay6, k0_pay4]

theorem pay5 (v j) : k0_pay5 (F := Ideal) v j = ((v j ⊔ 0) * (v j ⊔ 0) : EReal) := by pointwise [k0_pay5, k0_pay4]

/-- What the scratch holds at a run's last point: the tile of the product by the whole weight. -/
theorem acc_eq (t : Fin cfg0.N) (h : t.val % 4 = 3) (j : S1024x1024.Idx) : ((outsAt0 m c t.val t.isLt).2.2 j : EReal)
    = ∑ s : Fin 4, (k0_pay2 (F := Ideal)
        (iblk m c 0 ⟨4 * (t.val / 4) + s.val, Pipeline.run_point_lt_of_flush (J := 4) t h s⟩)
        (iblk m c 1 ⟨4 * (t.val / 4) + s.val, Pipeline.run_point_lt_of_flush (J := 4) t h s⟩) j : EReal) :=
  sum_run 4 (fun n h => (outsAt0 m c n h).2.2) (fun t => k0_pay2 (iblk m c 0 t) (iblk m c 1 t))
    (fun t h => by rw [outsAt0_A m c t h (by omega) (by omega)]; frame_out)
    (fun t h j => by
      by_cases h3 : t.val % 4 = 3
      · rw [outsAt0_C m c t h (by omega) h3]; frame_out; rw [pay3, read_unread_whole]
      · rw [outsAt0_B m c t h (by omega) h3]; frame_out; rw [pay3, read_unread_whole]) t h j

theorem relu_eq : (dats m 0 c).arrAt 3 (cfgs 0).N = fun i => (nn (a := 4096) (b := 2048) (c := 8192)
    (m ((c : Thread nD τ).loc main_arg0)) (whole (m ((c : Thread nD τ).loc main_arg1))) i ⊔ 0 : EReal) := by
  refine (dats m 0 c).arrAt_eq_of_covers 3 _ (by decide +kernel) fun t hf y => ?_
  have h := (flush0_3 t).mp hf
  blk_simp
  rw [after0_3, show (outsAt0 m c t.val t.isLt).2.1 = k0_pay6 (outsAt0 m c t.val t.isLt).2.2 by
      rw [outsAt0_C m c t (by omega) (by omega) h]; frame_out,
    pay6, acc_eq m c t h]
  refine congrArg (fun a : EReal => a ⊔ 0) ?_
  pointwise [k0_pay2, k0_pay1, nn, whole]
  exact Fin.sum_mul_add_congr fun s k hl => by blk_point [iblk, V, idx]

theorem square_eq : (dats m 0 c).arrAt 2 (cfgs 0).N = fun i => ((nn (a := 4096) (b := 2048) (c := 8192)
    (m ((c : Thread nD τ).loc main_arg0)) (whole (m ((c : Thread nD τ).loc main_arg1))) i ⊔ 0)
      * (nn (a := 4096) (b := 2048) (c := 8192)
    (m ((c : Thread nD τ).loc main_arg0)) (whole (m ((c : Thread nD τ).loc main_arg1))) i ⊔ 0) : EReal) := by
  refine (dats m 0 c).arrAt_eq_of_covers 2 _ (by decide +kernel) fun t hf y => ?_
  have h := (flush0_2 t).mp hf
  blk_simp
  rw [after0_2, show (outsAt0 m c t.val t.isLt).1 = k0_pay5 (outsAt0 m c t.val t.isLt).2.2 by
      rw [outsAt0_C m c t (by omega) (by omega) h]; frame_out,
    pay5, acc_eq m c t h]
  refine congrArg (fun a : EReal => (a ⊔ 0) * (a ⊔ 0)) ?_
  pointwise [k0_pay2, k0_pay1, nn, whole]
  exact Fin.sum_mul_add_congr fun s k hl => by blk_point [iblk, V, idx]

theorem run : θ_run defs (onTc (τ := τ) (main (F := Ideal))) ⟨m, fun _ => 0, ρ⟩ fun r => ∀ c : Dev nD,
    r.2.mem ((c : Thread nD τ).loc main_v0_0) = (fun i => ((nn (a := 4096) (b := 2048) (c := 8192)
        (m ((c : Thread nD τ).loc main_arg0)) (whole (m ((c : Thread nD τ).loc main_arg1))) i ⊔ 0)
      * (nn (a := 4096) (b := 2048) (c := 8192)
        (m ((c : Thread nD τ).loc main_arg0)) (whole (m ((c : Thread nD τ).loc main_arg1))) i ⊔ 0) : EReal))
    ∧ r.2.mem ((c : Thread nD τ).loc main_v0_1) = (fun i => (nn (a := 4096) (b := 2048) (c := 8192)
        (m ((c : Thread nD τ).loc main_arg0)) (whole (m ((c : Thread nD τ).loc main_arg1))) i ⊔ 0 : EReal))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (square_eq m c), (h c).2.1.trans (relu_eq m c), (h c).2.2⟩)
    (Value.run_blocks m ρ)

end Cert.MlpInIdeal.Product

namespace Cert.MlpInReferenceIdeal.Product

open Cert.MlpInReferenceIdeal Cert.MlpInReferenceIdeal.Gen Cert.Product

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v7) = (fun i => ((nn (a := 4096) (b := 2048) (c := 8192)
        (m ((c : Thread nD τ).loc main_arg0)) (whole (m ((c : Thread nD τ).loc main_arg1))) i ⊔ 0)
      * (nn (a := 4096) (b := 2048) (c := 8192)
        (m ((c : Thread nD τ).loc main_arg0)) (whole (m ((c : Thread nD τ).loc main_arg1))) i ⊔ 0) : EReal))
    ∧ r.2.mem ((c : Thread nD τ).loc main_v8) = (fun i => (nn (a := 4096) (b := 2048) (c := 8192)
        (m ((c : Thread nD τ).loc main_arg0)) (whole (m ((c : Thread nD τ).loc main_arg1))) i ⊔ 0 : EReal))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (funext fun j => by pointwise [nn, whole]),
    (h c).2.1.trans (funext fun j => by pointwise [nn, whole]), (h c).2.2⟩) (Value.run m ρ)

end Cert.MlpInReferenceIdeal.Product

namespace Cert.MlpOutIdeal.Product

open Cert.MlpOutIdeal Cert.MlpOutIdeal.Gen Cert.Product

variable (m : (ℓ : Loc nD τ sig) → Buf (Elt Ideal) ℓ) (ρ : Dev nD → PrngReg) (c : Dev nD)

theorem idx : ∀ t : Fin cfg0.N, win0_0.index t = ![t.val / 32, t.val % 16] ∧ win0_1.index t = ![t.val % 16, t.val / 16 % 2]
    ∧ win0_2.index t = ![t.val / 32, t.val / 16 % 2] := (by decide +kernel : ∀ t : Fin grid0.N, _)

theorem pay3 (a b v j) : k0_pay3 (F := Ideal) a b v j = (v j + k0_pay2 (F := Ideal) a b j : EReal) := by
  pointwise [k0_pay3, k0_pay2]

theorem out_eq : (dats m 0 c).arrAt 2 (cfgs 0).N = nn (a := 4096) (b := 8192) (c := 2048)
    (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, show (outsAt0 m c t.val t.isLt).1 = (outsAt0 m c t.val t.isLt).2 by
      rw [outsAt0_C m c t (by omega) (by omega) h]; frame_out,
    sum_run 16 (fun n h => (outsAt0 m c n h).2) (fun t => k0_pay2 (iblk m c 0 t) (iblk m c 1 t))
      (fun t h => by rw [outsAt0_A m c t h (by omega) (by omega)]; frame_out)
      (fun t h j => by
        by_cases h3 : t.val % 16 = 15
        · rw [outsAt0_C m c t h (by omega) h3]; frame_out; rw [pay3, read_unread_whole]
        · rw [outsAt0_B m c t h (by omega) h3]; frame_out; rw [pay3, read_unread_whole]) t h]
  pointwise [k0_pay2, k0_pay1, nn]
  exact Fin.sum_mul_add_congr fun s k hl => by blk_point [iblk, V, idx]

theorem run : θ_run defs (onTc (τ := τ) (main (F := Ideal))) ⟨m, fun _ => 0, ρ⟩ fun r => ∀ c : Dev nD,
    r.2.mem ((c : Thread nD τ).loc main_v0) = nn (a := 4096) (b := 8192) (c := 2048)
        (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (out_eq m c), (h c).2⟩) (Value.run_blocks m ρ)

end Cert.MlpOutIdeal.Product

namespace Cert.MlpOutReferenceIdeal.Product

open Cert.MlpOutReferenceIdeal Cert.MlpOutReferenceIdeal.Gen Cert.Product

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v2) = nn (a := 4096) (b := 8192) (c := 2048)
        (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (funext fun j => by pointwise [nn]), (h c).2⟩) (Value.run m ρ)

end Cert.MlpOutReferenceIdeal.Product

namespace Cert.MlpOutDxIdeal.Product

open Cert.MlpOutDxIdeal Cert.MlpOutDxIdeal.Gen Cert.Product

variable (m : (ℓ : Loc nD τ sig) → Buf (Elt Ideal) ℓ) (ρ : Dev nD → PrngReg) (c : Dev nD)

theorem idx : ∀ t : Fin cfg0.N, win0_0.index t = ![t.val / 32, t.val % 4] ∧ win0_1.index t = ![t.val / 4 % 8, t.val % 4]
    ∧ win0_2.index t = ![t.val / 32, t.val / 4 % 8] ∧ win0_3.index t = ![t.val / 32, t.val / 4 % 8] :=
  (by decide +kernel : ∀ t : Fin grid0.N, _)

theorem pay3 (a b v j) : k0_pay3 (F := Ideal) a b v j = (v j + k0_pay2 (F := Ideal) a b j : EReal) := by
  pointwise [k0_pay3, k0_pay2]

theorem pay4 (v x j) : k0_pay4 (F := Ideal) v x j = (v j * (Ideal.ofBits .f32 0x40000000#32 * x j) : EReal) := by pointwise [k0_pay4]

theorem out_eq : (dats m 0 c).arrAt 3 (cfgs 0).N = fun i => (nt (a := 4096) (b := 2048) (c := 8192)
    (m ((c : Thread nD τ).loc main_arg0)) (m ((c : Thread nD τ).loc main_arg1)) i
      * (Ideal.ofBits .f32 0x40000000#32 * m ((c : Thread nD τ).loc main_arg2) i) : EReal) := by
  refine (dats m 0 c).arrAt_eq_of_covers 3 _ (by decide +kernel) fun t hf y => ?_
  have h := (flush0_3 t).mp hf
  blk_simp
  rw [after0_3, show (outsAt0 m c t.val t.isLt).1 = k0_pay4 (outsAt0 m c t.val t.isLt).2 (iblk m c 2 t) by
      rw [outsAt0_C m c t (by omega) (by omega) h]; frame_out,
    pay4, sum_run 4 (fun n h => (outsAt0 m c n h).2) (fun t => k0_pay2 (iblk m c 0 t) (iblk m c 1 t))
      (fun t h => by rw [outsAt0_A m c t h (by omega) (by omega)]; frame_out)
      (fun t h j => by
        by_cases h3 : t.val % 4 = 3
        · rw [outsAt0_C m c t h (by omega) h3]; frame_out; rw [pay3, read_unread_whole]
        · rw [outsAt0_B m c t h (by omega) h3]; frame_out; rw [pay3, read_unread_whole]) t h]
  refine congrArg₂ (fun a b : EReal => a * (Ideal.ofBits .f32 0x40000000#32 * b)) ?_ (by blk_point [iblk, V, idx])
  pointwise [k0_pay2, k0_pay1, nt]
  exact Fin.sum_mul_add_congr fun s k hl => by blk_point [iblk, V, idx]

theorem run : θ_run defs (onTc (τ := τ) (main (F := Ideal))) ⟨m, fun _ => 0, ρ⟩ fun r => ∀ c : Dev nD,
    r.2.mem ((c : Thread nD τ).loc main_v0) = (fun i => (nt (a := 4096) (b := 2048) (c := 8192)
        (m ((c : Thread nD τ).loc main_arg0)) (m ((c : Thread nD τ).loc main_arg1)) i
          * (Ideal.ofBits .f32 0x40000000#32 * m ((c : Thread nD τ).loc main_arg2) i) : EReal))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨(h c).1.trans (out_eq m c), (h c).2⟩) (Value.run_blocks m ρ)

end Cert.MlpOutDxIdeal.Product

namespace Cert.MlpOutDxReferenceIdeal.Product

open Cert.MlpOutDxReferenceIdeal Cert.MlpOutDxReferenceIdeal.Gen Cert.Product

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v9) = (fun i => (nt (a := 4096) (b := 2048) (c := 8192)
        (m ((c : Thread nD τ).loc main_arg0)) (m ((c : Thread nD τ).loc main_arg1)) i
          * (Ideal.ofBits .f32 0x40000000#32 * m ((c : Thread nD τ).loc main_arg2) i) : EReal))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨(h c).1.trans (funext fun j => by pointwise [nt]), (h c).2⟩) (Value.run m ρ)

end Cert.MlpOutDxReferenceIdeal.Product

namespace Cert.MlpOutDwIdeal.Product

open Cert.MlpOutDwIdeal Cert.MlpOutDwIdeal.Gen Cert.Product

variable (m : (ℓ : Loc nD τ sig) → Buf (Elt Ideal) ℓ) (ρ : Dev nD → PrngReg) (c : Dev nD)

theorem idx : ∀ t : Fin cfg0.N, win0_0.index t = ![t.val % 8, t.val / 16] ∧ win0_1.index t = ![t.val % 8, t.val / 8 % 2]
    ∧ win0_2.index t = ![t.val / 16, t.val / 8 % 2] := (by decide +kernel : ∀ t : Fin grid0.N, _)

theorem pay3 (a b v j) : k0_pay3 (F := Ideal) a b v j = (v j + k0_pay2 (F := Ideal) a b j : EReal) := by
  pointwise [k0_pay3, k0_pay2]

theorem pay4 (v j) : k0_pay4 (F := Ideal) v j = (v j : EReal) := by pointwise [k0_pay4]

theorem out_eq : (dats m 0 c).arrAt 2 (cfgs 0).N = tn (a := 8192) (b := 4096) (c := 2048)
    (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, show (outsAt0 m c t.val t.isLt).1 = k0_pay4 (outsAt0 m c t.val t.isLt).2 by
      rw [outsAt0_C m c t (by omega) (by omega) h]; frame_out,
    pay4, sum_run 8 (fun n h => (outsAt0 m c n h).2) (fun t => k0_pay2 (iblk m c 0 t) (iblk m c 1 t))
      (fun t h => by rw [outsAt0_A m c t h (by omega) (by omega)]; frame_out)
      (fun t h j => by
        by_cases h3 : t.val % 8 = 7
        · rw [outsAt0_C m c t h (by omega) h3]; frame_out; rw [pay3, read_unread_whole]
        · rw [outsAt0_B m c t h (by omega) h3]; frame_out; rw [pay3, read_unread_whole]) t h]
  pointwise [k0_pay2, k0_pay1, tn]
  exact Fin.sum_mul_add_congr fun s k hl => by blk_point [iblk, V, idx]

theorem run : θ_run defs (onTc (τ := τ) (main (F := Ideal))) ⟨m, fun _ => 0, ρ⟩ fun r => ∀ c : Dev nD,
    r.2.mem ((c : Thread nD τ).loc main_v0) = tn (a := 8192) (b := 4096) (c := 2048)
        (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (out_eq m c), (h c).2⟩) (Value.run_blocks m ρ)

end Cert.MlpOutDwIdeal.Product

namespace Cert.MlpOutDwReferenceIdeal.Product

open Cert.MlpOutDwReferenceIdeal Cert.MlpOutDwReferenceIdeal.Gen Cert.Product

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v4) = tn (a := 8192) (b := 4096) (c := 2048)
        (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (funext fun j => by pointwise [tn]), (h c).2⟩) (Value.run m ρ)

end Cert.MlpOutDwReferenceIdeal.Product

namespace Cert.MlpInDxIdeal.Product

open Cert.MlpInDxIdeal Cert.MlpInDxIdeal.Gen Cert.Product

variable (m : (ℓ : Loc nD τ sig) → Buf (Elt Ideal) ℓ) (ρ : Dev nD → PrngReg) (c : Dev nD)

theorem idx : ∀ t : Fin cfg0.N, win0_0.index t = ![t.val / 32, t.val % 16]
    ∧ win0_1.index t = ![t.val % 16 / 2, t.val / 16 % 2, t.val % 16 % 2]
    ∧ win0_2.index t = ![t.val / 32, t.val / 16 % 2] := (by decide +kernel : ∀ t : Fin grid0.N, _)

theorem pay3 (a b v j) : k0_pay3 (F := Ideal) a b v j = (v j + k0_pay2 (F := Ideal) a b j : EReal) := by
  pointwise [k0_pay3, k0_pay2]

theorem out_eq : (dats m 0 c).arrAt 2 (cfgs 0).N = nt (a := 4096) (b := 8192) (c := 2048)
    (m ((c : Thread nD τ).loc main_arg0)) (whole (m ((c : Thread nD τ).loc main_arg1))) := by
  refine (dats m 0 c).arrAt_eq_of_covers 2 _ (by decide +kernel) fun t hf y => ?_
  have h := (flush0_2 t).mp hf
  blk_simp
  rw [after0_2, show (outsAt0 m c t.val t.isLt).1 = (outsAt0 m c t.val t.isLt).2 by
      rw [outsAt0_C m c t (by omega) (by omega) h]; frame_out,
    sum_run 16 (fun n h => (outsAt0 m c n h).2) (fun t => k0_pay2 (iblk m c 0 t) (iblk m c 1 t))
      (fun t h => by rw [outsAt0_A m c t h (by omega) (by omega)]; frame_out)
      (fun t h j => by
        by_cases h3 : t.val % 16 = 15
        · rw [outsAt0_C m c t h (by omega) h3]; frame_out; rw [pay3, read_unread_whole]
        · rw [outsAt0_B m c t h (by omega) h3]; frame_out; rw [pay3, read_unread_whole]) t h]
  pointwise [k0_pay2, k0_pay1, nt, whole]
  exact Fin.sum_mul_add_congr fun s k hl => by blk_point [iblk, V, idx]

theorem run : θ_run defs (onTc (τ := τ) (main (F := Ideal))) ⟨m, fun _ => 0, ρ⟩ fun r => ∀ c : Dev nD,
    r.2.mem ((c : Thread nD τ).loc main_v0) = nt (a := 4096) (b := 8192) (c := 2048)
        (m ((c : Thread nD τ).loc main_arg0)) (whole (m ((c : Thread nD τ).loc main_arg1)))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (out_eq m c), (h c).2⟩) (Value.run_blocks m ρ)

end Cert.MlpInDxIdeal.Product

namespace Cert.MlpInDxReferenceIdeal.Product

open Cert.MlpInDxReferenceIdeal Cert.MlpInDxReferenceIdeal.Gen Cert.Product

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v5) = nt (a := 4096) (b := 8192) (c := 2048)
        (m ((c : Thread nD τ).loc main_arg0)) (whole (m ((c : Thread nD τ).loc main_arg1)))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (funext fun j => by pointwise [nt, whole]), (h c).2⟩) (Value.run m ρ)

end Cert.MlpInDxReferenceIdeal.Product

namespace Cert.MlpInDwIdeal.Product

open Cert.MlpInDwIdeal Cert.MlpInDwIdeal.Gen Cert.Product Cert.Upd

variable (m : (ℓ : Loc nD τ sig) → Buf (Elt Ideal) ℓ) (ρ : Dev nD → PrngReg) (c : Dev nD)

theorem idx : ∀ t : Fin cfg0.N, win0_0.index t = ![t.val % 8, t.val / 64] ∧ win0_1.index t = ![t.val % 8, t.val / 8 % 8]
    ∧ win0_2.index t = ![t.val / 8 % 8, t.val / 64, 0] := (by decide +kernel : ∀ t : Fin grid0.N, _)

theorem pay3 (a b v j) : k0_pay3 (F := Ideal) a b v j = (v j + k0_pay2 (F := Ideal) a b j : EReal) := by
  pointwise [k0_pay3, k0_pay2]

theorem pay4 (v) (j : S1x1024x1024.Idx) : k0_pay4 (F := Ideal) v j = (v (ix2 (j 1) (j 2)) : EReal) := by pointwise [k0_pay4]

theorem out_eq : (dats m 0 c).arrAt 2 (cfgs 0).N = cut (tn (a := 2048) (b := 4096) (c := 8192)
    (m ((c : Thread nD τ).loc main_arg0)) (m ((c : Thread nD τ).loc main_arg1))) := by
  refine (dats m 0 c).arrAt_eq_of_covers 2 _ (by decide +kernel) fun t hf y => ?_
  have h := (flush0_2 t).mp hf
  blk_simp
  rw [after0_2, show (outsAt0 m c t.val t.isLt).1 = k0_pay4 (outsAt0 m c t.val t.isLt).2 by
      rw [outsAt0_C m c t (by omega) (by omega) h]; frame_out,
    pay4, sum_run 8 (fun n h => (outsAt0 m c n h).2) (fun t => k0_pay2 (iblk m c 0 t) (iblk m c 1 t))
      (fun t h => by rw [outsAt0_A m c t h (by omega) (by omega)]; frame_out)
      (fun t h j => by
        by_cases h3 : t.val % 8 = 7
        · rw [outsAt0_C m c t h (by omega) h3]; frame_out; rw [pay3, read_unread_whole]
        · rw [outsAt0_B m c t h (by omega) h3]; frame_out; rw [pay3, read_unread_whole]) t h]
  pointwise [k0_pay2, k0_pay1, tn, cut]
  exact Fin.sum_mul_add_congr fun s k hl => by blk_point [iblk, V, idx]

theorem run : θ_run defs (onTc (τ := τ) (main (F := Ideal))) ⟨m, fun _ => 0, ρ⟩ fun r => ∀ c : Dev nD,
    r.2.mem ((c : Thread nD τ).loc main_v0) = cut (tn (a := 2048) (b := 4096) (c := 8192)
        (m ((c : Thread nD τ).loc main_arg0)) (m ((c : Thread nD τ).loc main_arg1)))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (out_eq m c), (h c).2⟩) (Value.run_blocks m ρ)

end Cert.MlpInDwIdeal.Product

namespace Cert.MlpInDwReferenceIdeal.Product

open Cert.MlpInDwReferenceIdeal Cert.MlpInDwReferenceIdeal.Gen Cert.Product

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c : Thread nD τ).loc main_v6) = cut (tn (a := 2048) (b := 4096) (c := 8192)
        (m ((c : Thread nD τ).loc main_arg0)) (m ((c : Thread nD τ).loc main_arg1)))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (funext fun j => by pointwise [tn, cut]), (h c).2⟩) (Value.run m ρ)

end Cert.MlpInDwReferenceIdeal.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.UpdateIn.Frame
public import proofs.«01_k».proof.Proof.Gen.UpdateInIdeal
public import proofs.«01_k».proof.Proof.Gen.UpdateInIdeal.Value
public import proofs.«01_k».proof.Proof.Gen.UpdateInReferenceIdeal
public import proofs.«01_k».proof.Proof.Gen.UpdateInReferenceIdeal.Run
public import proofs.«01_k».proof.Proof.Gen.UpdateOut.Frame
public import proofs.«01_k».proof.Proof.Gen.UpdateOutIdeal
public import proofs.«01_k».proof.Proof.Gen.UpdateOutIdeal.Value
public import proofs.«01_k».proof.Proof.Gen.UpdateOutReferenceIdeal
public import proofs.«01_k».proof.Proof.Gen.UpdateOutReferenceIdeal.Run
public import proofs.«01_k».proof.Proof.Gen.UpdateMlpIn.Frame
public import proofs.«01_k».proof.Proof.Gen.UpdateMlpInIdeal
public import proofs.«01_k».proof.Proof.Gen.UpdateMlpInIdeal.Value
public import proofs.«01_k».proof.Proof.Gen.UpdateMlpInReferenceIdeal
public import proofs.«01_k».proof.Proof.Gen.UpdateMlpInReferenceIdeal.Run
public import proofs.«01_k».proof.Proof.Gen.UpdateMlpOut.Frame
public import proofs.«01_k».proof.Proof.Gen.UpdateMlpOutIdeal
public import proofs.«01_k».proof.Proof.Gen.UpdateMlpOutIdeal.Value
public import proofs.«01_k».proof.Proof.Gen.UpdateMlpOutReferenceIdeal
public import proofs.«01_k».proof.Proof.Gen.UpdateMlpOutReferenceIdeal.Run
public import proofs.«01_k».proof.Proof.Gen.UpdateAda.Frame
public import proofs.«01_k».proof.Proof.Gen.UpdateAdaIdeal
public import proofs.«01_k».proof.Proof.Gen.UpdateAdaIdeal.Value
public import proofs.«01_k».proof.Proof.Gen.UpdateAdaReferenceIdeal
public import proofs.«01_k».proof.Proof.Gen.UpdateAdaReferenceIdeal.Run
public import proofs.«01_k».proof.Proof.Gen.SumSmall.Frame
public import proofs.«01_k».proof.Proof.Gen.SumSmallIdeal
public import proofs.«01_k».proof.Proof.Gen.SumSmallIdeal.Value
public import proofs.«01_k».proof.Proof.Gen.SumSmallReferenceIdeal
public import proofs.«01_k».proof.Proof.Gen.SumSmallReferenceIdeal.Run
public import proofs.«01_k».proof.Proof.Gen.UpdateSmall.Frame
public import proofs.«01_k».proof.Proof.Gen.UpdateSmallIdeal
public import proofs.«01_k».proof.Proof.Gen.UpdateSmallIdeal.Value
public import proofs.«01_k».proof.Proof.Gen.UpdateSmallReferenceIdeal
public import proofs.«01_k».proof.Proof.Gen.UpdateSmallReferenceIdeal.Run
public import proofs.«01_k».proof.Proof.Gen.PremixBwd.Frame
public import proofs.«01_k».proof.Proof.Gen.PremixBwdIdeal
public import proofs.«01_k».proof.Proof.Gen.PremixBwdIdeal.Frame
public import proofs.«01_k».proof.Proof.Gen.PremixBwdIdeal.Value
public import proofs.«01_k».proof.Proof.Gen.PremixBwdReferenceIdeal
public import proofs.«01_k».proof.Proof.Gen.PremixBwdReferenceIdeal.Run
public import proofs.«01_k».proof.Proof.Gen.GatherReferenceIdeal
public import proofs.«01_k».proof.Proof.Gen.GatherReferenceIdeal.Run
public import proofs.«01_k».proof.Proof.Gen.GatherReference
public import proofs.«01_k».proof.Proof.Gen.GatherReference.Run
public import proofs.«01_k».proof.Proof.ExchangeValues
public import proofs.«01_k».proof.Proof.GatherValues
public import proofs.«01_k».proof.Proof.UpdateIn
public import proofs.«01_k».proof.Proof.UpdateOut
public import proofs.«01_k».proof.Proof.UpdateMlpIn
public import proofs.«01_k».proof.Proof.UpdateMlpOut
public import proofs.«01_k».proof.Proof.UpdateAda
public import proofs.«01_k».proof.Proof.UpdateSmall
public import proofs.«01_k».proof.Proof.Gen.LossBwd.Frame
public import proofs.«01_k».proof.Proof.Gen.LossBwdIdeal
public import proofs.«01_k».proof.Proof.Gen.LossBwdIdeal.Frame
public import proofs.«01_k».proof.Proof.Gen.LossBwdIdeal.Value
public import proofs.«01_k».proof.Proof.Gen.LossBwdReferenceIdeal
public import proofs.«01_k».proof.Proof.Gen.LossBwdReferenceIdeal.Run
public import proofs.«01_k».proof.Proof.Gen.PremlpBwd.Frame
public import proofs.«01_k».proof.Proof.Gen.PremlpBwdIdeal
public import proofs.«01_k».proof.Proof.Gen.PremlpBwdIdeal.Frame
public import proofs.«01_k».proof.Proof.Gen.PremlpBwdIdeal.Value
public import proofs.«01_k».proof.Proof.Gen.PremlpBwdReferenceIdeal
public import proofs.«01_k».proof.Proof.Gen.PremlpBwdReferenceIdeal.Run
public import proofs.«01_k».proof.Proof.Gen.Premix.Frame
public import proofs.«01_k».proof.Proof.Gen.PremixIdeal
public import proofs.«01_k».proof.Proof.Gen.PremixIdeal.Frame
public import proofs.«01_k».proof.Proof.Gen.PremixIdeal.Value
public import proofs.«01_k».proof.Proof.Gen.PremixReferenceIdeal
public import proofs.«01_k».proof.Proof.Gen.PremixReferenceIdeal.Run
public import proofs.«01_k».proof.Proof.Gen.PostmixPremlp.Frame
public import proofs.«01_k».proof.Proof.Gen.PostmixPremlpIdeal
public import proofs.«01_k».proof.Proof.Gen.PostmixPremlpIdeal.Frame
public import proofs.«01_k».proof.Proof.Gen.PostmixPremlpIdeal.Value
public import proofs.«01_k».proof.Proof.Gen.PostmixPremlpReferenceIdeal
public import proofs.«01_k».proof.Proof.Gen.PostmixPremlpReferenceIdeal.Run
public import proofs.«01_k».proof.Proof.PremixBwd
public import proofs.«01_k».proof.Proof.LossBwd
public import proofs.«01_k».proof.Proof.PremlpBwd
public import proofs.«01_k».proof.Proof.Forward
public import proofs.«01_k».proof.Proof.Projections
public import proofs.«01_k».proof.Proof.Mlp
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ =>
  (θ_run Cert.KernelIdeal.defs _ _).mono (fun r h => ⟨fun c => (h.1 c).1, h.2⟩) (KernelIdeal.Xch.run_main (F := Bits) m ρ)

theorem frame_ideal : Cert.quiescent_KernelIdeal := fun m ρ _ =>
  (θ_run Cert.KernelIdeal.defs _ _).mono (fun r h => ⟨fun c => (h.1 c).1, h.2⟩) (KernelIdeal.Xch.run_main (F := Ideal) m ρ)

theorem frame_reference_ideal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2.2.2.2, sem_eq_zero_of_no_sems (by decide) r.2⟩)
    (Cert.Reference.Value.run (F := Bits) m ρ)

theorem algebraic : Cert.algebraic_KernelIdeal_ReferenceIdeal := fun m ρ m' ρ' _ hm => by
  refine ⟨_, _, _, _, (θ_run Cert.KernelIdeal.defs _ _).mono (fun r h c => ?_) (KernelIdeal.Xch.run_main (F := Ideal) m ρ),
    (θ_run Cert.ReferenceIdeal.defs _ _).mono (fun r h => h 0) (Cert.ReferenceIdeal.Value.run (F := Ideal) m' ρ')⟩
  obtain ⟨⟨a0, a1, a2, a3⟩, g0, g1, g2, g3⟩ := h.1 c
  exact ⟨g0.trans (KernelIdeal.Xch.value0 m _ (fun d => (hm d).1) _ _ _ c), g1.trans (KernelIdeal.Xch.value1 m _ (fun d => (hm d).2.1) _ _ _ c),
    g2.trans (KernelIdeal.Xch.value2 m _ (fun d => (hm d).2.2.1) _ _ _ c), g3.trans (KernelIdeal.Xch.value3 m _ (fun d => (hm d).2.2.2) _ _ _ c),
    a0, a1, a2, a3⟩

theorem bitexact : Cert.bitexact_Kernel_Reference := fun m ρ m' ρ' _ hm => by
  refine ⟨_, _, _, _, (θ_run Cert.KernelIdeal.defs _ _).mono (fun r h c => ?_) (KernelIdeal.Xch.run_main (F := Bits) m ρ),
    (θ_run Cert.Reference.defs _ _).mono (fun r h => h 0) (Cert.Reference.Value.run (F := Bits) m' ρ')⟩
  obtain ⟨⟨a0, a1, a2, a3⟩, g0, g1, g2, g3⟩ := h.1 c
  exact ⟨g0.trans (KernelIdeal.Xch.value0 m _ (fun d => (hm d).1) _ _ _ c), g1.trans (KernelIdeal.Xch.value1 m _ (fun d => (hm d).2.1) _ _ _ c),
    g2.trans (KernelIdeal.Xch.value2 m _ (fun d => (hm d).2.2.1) _ _ _ c), g3.trans (KernelIdeal.Xch.value3 m _ (fun d => (hm d).2.2.2) _ _ _ c),
    a0, a1, a2, a3⟩

theorem frame_gather : Cert.quiescent_Gather := fun m ρ _ =>
  (θ_run Cert.GatherIdeal.defs _ _).mono (fun r h => ⟨fun c => (h.1 c).1, h.2⟩) (GatherIdeal.Gth.run_main (F := Bits) m ρ)

theorem frame_gather_ideal : Cert.quiescent_GatherIdeal := fun m ρ _ =>
  (θ_run Cert.GatherIdeal.defs _ _).mono (fun r h => ⟨fun c => (h.1 c).1, h.2⟩) (GatherIdeal.Gth.run_main (F := Ideal) m ρ)

theorem frame_gather_reference_ideal : Cert.quiescent_GatherReferenceIdeal := fun m ρ _ =>
  (θ_run Cert.GatherReferenceIdeal.defs _ _).mono (fun r h => ⟨fun c => (h c).2.2.2.2, sem_eq_zero_of_no_sems (by decide) r.2⟩)
    (Cert.GatherReferenceIdeal.Value.run (F := Ideal) m ρ)

theorem frame_gather_reference : Cert.quiescent_GatherReference := fun m ρ _ =>
  (θ_run Cert.GatherReference.defs _ _).mono (fun r h => ⟨fun c => (h c).2.2.2.2, sem_eq_zero_of_no_sems (by decide) r.2⟩)
    (Cert.GatherReference.Value.run (F := Bits) m ρ)

theorem gather_algebraic : Cert.algebraic_GatherIdeal_GatherReferenceIdeal := fun m ρ m' ρ' _ hm => by
  refine ⟨_, _, _, _, (θ_run Cert.GatherIdeal.defs _ _).mono (fun r h c => ?_) (GatherIdeal.Gth.run_main (F := Ideal) m ρ),
    (θ_run Cert.GatherReferenceIdeal.defs _ _).mono (fun r h => h 0) (Cert.GatherReferenceIdeal.Value.run (F := Ideal) m' ρ')⟩
  obtain ⟨⟨a0, a1, a2, a3⟩, g0, g1, g2, g3⟩ := h.1 c
  exact ⟨g0.trans (GatherIdeal.Gth.value0 m _ (fun d => (hm d).1) _ _ c), g1.trans (GatherIdeal.Gth.value1 m _ (fun d => (hm d).2.1) _ c),
    g2.trans (GatherIdeal.Gth.value2 m _ (fun d => (hm d).2.2.1) _ _ c), g3.trans (GatherIdeal.Gth.value3 m _ (fun d => (hm d).2.2.2) _ c),
    a0, a1, a2, a3⟩

theorem gather_bitexact : Cert.bitexact_Gather_GatherReference := fun m ρ m' ρ' _ hm => by
  refine ⟨_, _, _, _, (θ_run Cert.GatherIdeal.defs _ _).mono (fun r h c => ?_) (GatherIdeal.Gth.run_main (F := Bits) m ρ),
    (θ_run Cert.GatherReference.defs _ _).mono (fun r h => h 0) (Cert.GatherReference.Value.run (F := Bits) m' ρ')⟩
  obtain ⟨⟨a0, a1, a2, a3⟩, g0, g1, g2, g3⟩ := h.1 c
  exact ⟨g0.trans (GatherIdeal.Gth.value0 m _ (fun d => (hm d).1) _ _ c), g1.trans (GatherIdeal.Gth.value1 m _ (fun d => (hm d).2.1) _ c),
    g2.trans (GatherIdeal.Gth.value2 m _ (fun d => (hm d).2.2.1) _ _ c), g3.trans (GatherIdeal.Gth.value3 m _ (fun d => (hm d).2.2.2) _ c),
    a0, a1, a2, a3⟩

theorem frame_update_in : Cert.quiescent_UpdateIn := fun m ρ _ => Cert.UpdateIn.Gen.frame m ρ

theorem frame_update_in_ideal : Cert.quiescent_UpdateInIdeal := fun m ρ _ => Cert.UpdateInIdeal.Gen.frame m ρ

theorem frame_update_in_reference_ideal : Cert.quiescent_UpdateInReferenceIdeal := fun m ρ _ =>
  (θ_run Cert.UpdateInReferenceIdeal.defs _ _).mono (fun r h => ⟨fun c => (h c).2.2.2.2, sem_eq_zero_of_no_sems (by decide) r.2⟩)
    (Cert.UpdateInReferenceIdeal.Value.run (F := Ideal) m ρ)

theorem update_in_algebraic : Cert.algebraic_UpdateInIdeal_UpdateInReferenceIdeal := fun m ρ m' ρ' _ hm => by
  refine ⟨_, _, _, _, UpdateInIdeal.Adam.run (F := Ideal) m ρ,
    (θ_run Cert.UpdateInReferenceIdeal.defs _ _).mono (fun r h c => ?_) (UpdateInReferenceIdeal.Adam.run m' ρ')⟩
  obtain ⟨h0, h1, h2, h3⟩ := hm c
  have h := h c
  rw [h0, h1, h2, h3] at h ⊢
  exact h

theorem frame_update_out : Cert.quiescent_UpdateOut := fun m ρ _ => Cert.UpdateOut.Gen.frame m ρ

theorem frame_update_out_ideal : Cert.quiescent_UpdateOutIdeal := fun m ρ _ => Cert.UpdateOutIdeal.Gen.frame m ρ

theorem frame_update_out_reference_ideal : Cert.quiescent_UpdateOutReferenceIdeal := fun m ρ _ =>
  (θ_run Cert.UpdateOutReferenceIdeal.defs _ _).mono (fun r h => ⟨fun c => (h c).2.2.2.2, sem_eq_zero_of_no_sems (by decide) r.2⟩)
    (Cert.UpdateOutReferenceIdeal.Value.run (F := Ideal) m ρ)

theorem update_out_algebraic : Cert.algebraic_UpdateOutIdeal_UpdateOutReferenceIdeal := fun m ρ m' ρ' _ hm => by
  refine ⟨_, _, _, _, UpdateOutIdeal.Adam.run (F := Ideal) m ρ,
    (θ_run Cert.UpdateOutReferenceIdeal.defs _ _).mono (fun r h c => ?_) (UpdateOutReferenceIdeal.Adam.run m' ρ')⟩
  obtain ⟨h0, h1, h2, h3⟩ := hm c
  have h := h c
  rw [h0, h1, h2, h3] at h ⊢
  exact h

theorem frame_update_mlp_in : Cert.quiescent_UpdateMlpIn := fun m ρ _ => Cert.UpdateMlpIn.Gen.frame m ρ

theorem frame_update_mlp_in_ideal : Cert.quiescent_UpdateMlpInIdeal := fun m ρ _ => Cert.UpdateMlpInIdeal.Gen.frame m ρ

theorem frame_update_mlp_in_reference_ideal : Cert.quiescent_UpdateMlpInReferenceIdeal := fun m ρ _ =>
  (θ_run Cert.UpdateMlpInReferenceIdeal.defs _ _).mono (fun r h => ⟨fun c => (h c).2.2.2.2, sem_eq_zero_of_no_sems (by decide) r.2⟩)
    (Cert.UpdateMlpInReferenceIdeal.Value.run (F := Ideal) m ρ)

theorem update_mlp_in_algebraic : Cert.algebraic_UpdateMlpInIdeal_UpdateMlpInReferenceIdeal := fun m ρ m' ρ' _ hm => by
  refine ⟨_, _, _, _, UpdateMlpInIdeal.Adam.run (F := Ideal) m ρ,
    (θ_run Cert.UpdateMlpInReferenceIdeal.defs _ _).mono (fun r h c => ?_) (UpdateMlpInReferenceIdeal.Adam.run m' ρ')⟩
  obtain ⟨h0, h1, h2, h3⟩ := hm c
  have h := h c
  rw [h0, h1, h2, h3] at h ⊢
  exact h

theorem frame_update_mlp_out : Cert.quiescent_UpdateMlpOut := fun m ρ _ => Cert.UpdateMlpOut.Gen.frame m ρ

theorem frame_update_mlp_out_ideal : Cert.quiescent_UpdateMlpOutIdeal := fun m ρ _ => Cert.UpdateMlpOutIdeal.Gen.frame m ρ

theorem frame_update_mlp_out_reference_ideal : Cert.quiescent_UpdateMlpOutReferenceIdeal := fun m ρ _ =>
  (θ_run Cert.UpdateMlpOutReferenceIdeal.defs _ _).mono (fun r h => ⟨fun c => (h c).2.2.2.2, sem_eq_zero_of_no_sems (by decide) r.2⟩)
    (Cert.UpdateMlpOutReferenceIdeal.Value.run (F := Ideal) m ρ)

theorem update_mlp_out_algebraic : Cert.algebraic_UpdateMlpOutIdeal_UpdateMlpOutReferenceIdeal := fun m ρ m' ρ' _ hm => by
  refine ⟨_, _, _, _, UpdateMlpOutIdeal.Adam.run (F := Ideal) m ρ,
    (θ_run Cert.UpdateMlpOutReferenceIdeal.defs _ _).mono (fun r h c => ?_) (UpdateMlpOutReferenceIdeal.Adam.run m' ρ')⟩
  obtain ⟨h0, h1, h2, h3⟩ := hm c
  have h := h c
  rw [h0, h1, h2, h3] at h ⊢
  exact h

theorem frame_update_ada : Cert.quiescent_UpdateAda := fun m ρ _ => Cert.UpdateAda.Gen.frame m ρ

theorem frame_update_ada_ideal : Cert.quiescent_UpdateAdaIdeal := fun m ρ _ => Cert.UpdateAdaIdeal.Gen.frame m ρ

theorem frame_update_ada_reference_ideal : Cert.quiescent_UpdateAdaReferenceIdeal := fun m ρ _ =>
  (θ_run Cert.UpdateAdaReferenceIdeal.defs _ _).mono (fun r h => ⟨fun c => (h c).2.2.2.2, sem_eq_zero_of_no_sems (by decide) r.2⟩)
    (Cert.UpdateAdaReferenceIdeal.Value.run (F := Ideal) m ρ)

theorem update_ada_algebraic : Cert.algebraic_UpdateAdaIdeal_UpdateAdaReferenceIdeal := fun m ρ m' ρ' _ hm => by
  refine ⟨_, _, _, _, UpdateAdaIdeal.Adam.run (F := Ideal) m ρ,
    (θ_run Cert.UpdateAdaReferenceIdeal.defs _ _).mono (fun r h c => ?_) (UpdateAdaReferenceIdeal.Adam.run m' ρ')⟩
  obtain ⟨h0, h1, h2, h3, h4⟩ := hm c
  have h := h c
  rw [h0, h1, h2, h3, h4] at h ⊢
  exact h

theorem frame_sum_small : Cert.quiescent_SumSmall := fun m ρ _ => Cert.SumSmall.Gen.frame m ρ

theorem frame_sum_small_ideal : Cert.quiescent_SumSmallIdeal := fun m ρ _ => Cert.SumSmallIdeal.Gen.frame m ρ

theorem frame_sum_small_reference_ideal : Cert.quiescent_SumSmallReferenceIdeal := fun m ρ _ =>
  (θ_run Cert.SumSmallReferenceIdeal.defs _ _).mono (fun r h => ⟨fun c => (h c).2, sem_eq_zero_of_no_sems (by decide) r.2⟩)
    (Cert.SumSmallReferenceIdeal.Value.run (F := Ideal) m ρ)

theorem sum_small_algebraic : Cert.algebraic_SumSmallIdeal_SumSmallReferenceIdeal := fun m ρ m' ρ' _ hm => by
  refine ⟨_, SumSmallIdeal.Sum.run (F := Ideal) m ρ,
    (θ_run Cert.SumSmallReferenceIdeal.defs _ _).mono (fun r h c => ?_) (SumSmallReferenceIdeal.Sum.run m' ρ')⟩
  have h := h c
  rw [hm c] at h ⊢
  exact h

theorem frame_update_small : Cert.quiescent_UpdateSmall := fun m ρ _ => Cert.UpdateSmall.Gen.frame m ρ

theorem frame_update_small_ideal : Cert.quiescent_UpdateSmallIdeal := fun m ρ _ => Cert.UpdateSmallIdeal.Gen.frame m ρ

theorem frame_update_small_reference_ideal : Cert.quiescent_UpdateSmallReferenceIdeal := fun m ρ _ =>
  (θ_run Cert.UpdateSmallReferenceIdeal.defs _ _).mono (fun r h => ⟨fun c => (h c).2.2.2, sem_eq_zero_of_no_sems (by decide) r.2⟩)
    (Cert.UpdateSmallReferenceIdeal.Value.run (F := Ideal) m ρ)

theorem update_small_algebraic : Cert.algebraic_UpdateSmallIdeal_UpdateSmallReferenceIdeal := fun m ρ m' ρ' _ hm => by
  refine ⟨_, _, _, UpdateSmallIdeal.Adam.run (F := Ideal) m ρ,
    (θ_run Cert.UpdateSmallReferenceIdeal.defs _ _).mono (fun r h c => ?_) (UpdateSmallReferenceIdeal.Adam.run m' ρ')⟩
  obtain ⟨h0, h1, h2, h3⟩ := hm c
  have h := h c
  rw [h0, h1, h2, h3] at h ⊢
  exact h

theorem frame_premix_bwd : Cert.quiescent_PremixBwd := fun m ρ _ => Cert.PremixBwd.Gen.frame m ρ

theorem frame_premix_bwd_ideal : Cert.quiescent_PremixBwdIdeal := fun m ρ _ => Cert.PremixBwdIdeal.Gen.frame m ρ

theorem frame_premix_bwd_reference_ideal : Cert.quiescent_PremixBwdReferenceIdeal := fun m ρ _ =>
  (θ_run Cert.PremixBwdReferenceIdeal.defs _ _).mono (fun r h => ⟨fun c => (h c).2.2.2.2, sem_eq_zero_of_no_sems (by decide) r.2⟩)
    (Cert.PremixBwdReferenceIdeal.Value.run (F := Ideal) m ρ)

theorem premix_bwd_algebraic : Cert.algebraic_PremixBwdIdeal_PremixBwdReferenceIdeal := fun m ρ m' ρ' _ hm => by
  refine ⟨_, _, _, _, PremixBwdIdeal.Norm.run m ρ,
    (θ_run Cert.PremixBwdReferenceIdeal.defs _ _).mono (fun r h c => ?_) (PremixBwdReferenceIdeal.Norm.run m' ρ')⟩
  obtain ⟨h0, h1, h2, h3, h4⟩ := hm c
  have h := h c
  rw [h0, h1, h2, h3, h4] at h ⊢
  exact h

theorem frame_loss_bwd : Cert.quiescent_LossBwd := fun m ρ _ => Cert.LossBwd.Gen.frame m ρ

theorem frame_loss_bwd_ideal : Cert.quiescent_LossBwdIdeal := fun m ρ _ => Cert.LossBwdIdeal.Gen.frame m ρ

theorem frame_loss_bwd_reference_ideal : Cert.quiescent_LossBwdReferenceIdeal := fun m ρ _ =>
  (θ_run Cert.LossBwdReferenceIdeal.defs _ _).mono (fun r h => ⟨fun c => (h c).2.2.2.2.2, sem_eq_zero_of_no_sems (by decide) r.2⟩)
    (Cert.LossBwdReferenceIdeal.Value.run (F := Ideal) m ρ)

theorem loss_bwd_algebraic : Cert.algebraic_LossBwdIdeal_LossBwdReferenceIdeal := fun m ρ m' ρ' _ hm => by
  refine ⟨_, _, _, _, _, LossBwdIdeal.Norm.run m ρ,
    (θ_run Cert.LossBwdReferenceIdeal.defs _ _).mono (fun r h c => ?_) (LossBwdReferenceIdeal.Norm.run m' ρ')⟩
  obtain ⟨h0, h1, h2, h3, h4⟩ := hm c
  have h := h c
  dsimp only [LossBwdIdeal.Norm.DX, LossBwdIdeal.Norm.X1, LossBwdIdeal.Norm.Y, LossBwdIdeal.Norm.T, LossBwdIdeal.Norm.Gate,
    LossBwdIdeal.Norm.Gain, LossBwdReferenceIdeal.Norm.DX, LossBwdReferenceIdeal.Norm.X1, LossBwdReferenceIdeal.Norm.Y,
    LossBwdReferenceIdeal.Norm.T, LossBwdReferenceIdeal.Norm.Gate, LossBwdReferenceIdeal.Norm.Gain] at h ⊢
  rw [h0, h1, h2, h3, h4] at h ⊢
  exact h

theorem frame_premlp_bwd : Cert.quiescent_PremlpBwd := fun m ρ _ => Cert.PremlpBwd.Gen.frame m ρ

theorem frame_premlp_bwd_ideal : Cert.quiescent_PremlpBwdIdeal := fun m ρ _ => Cert.PremlpBwdIdeal.Gen.frame m ρ

theorem frame_premlp_bwd_reference_ideal : Cert.quiescent_PremlpBwdReferenceIdeal := fun m ρ _ =>
  (θ_run Cert.PremlpBwdReferenceIdeal.defs _ _).mono (fun r h => ⟨fun c => (h c).2.2.2.2.2.2.2, sem_eq_zero_of_no_sems (by decide) r.2⟩)
    (Cert.PremlpBwdReferenceIdeal.Value.run (F := Ideal) m ρ)

theorem premlp_bwd_algebraic : Cert.algebraic_PremlpBwdIdeal_PremlpBwdReferenceIdeal := fun m ρ m' ρ' _ hm => by
  refine ⟨_, _, _, _, _, _, _, PremlpBwdIdeal.Norm.run m ρ,
    (θ_run Cert.PremlpBwdReferenceIdeal.defs _ _).mono (fun r h c => ?_) (PremlpBwdReferenceIdeal.Norm.run m' ρ')⟩
  obtain ⟨h0, h1, h2, h3, h4, h5, h6, h7⟩ := hm c
  have h := h c
  dsimp only [PremlpBwdIdeal.Norm.DX1, PremlpBwdIdeal.Norm.DH, PremlpBwdIdeal.Norm.DX2, PremlpBwdIdeal.Norm.X1, PremlpBwdIdeal.Norm.Y,
    PremlpBwdIdeal.Norm.Scale, PremlpBwdIdeal.Norm.Gain, PremlpBwdIdeal.Norm.Gate, PremlpBwdIdeal.Norm.GainY,
    PremlpBwdReferenceIdeal.Norm.DX1, PremlpBwdReferenceIdeal.Norm.DH, PremlpBwdReferenceIdeal.Norm.DX2,
    PremlpBwdReferenceIdeal.Norm.X1, PremlpBwdReferenceIdeal.Norm.Y, PremlpBwdReferenceIdeal.Norm.Scale,
    PremlpBwdReferenceIdeal.Norm.Gain, PremlpBwdReferenceIdeal.Norm.Gate, PremlpBwdReferenceIdeal.Norm.GainY] at h ⊢
  rw [h0, h1, h2, h3, h4, h5, h6, h7] at h ⊢
  exact h

theorem frame_premix : Cert.quiescent_Premix := fun m ρ _ => Cert.Premix.Gen.frame m ρ

theorem frame_premix_ideal : Cert.quiescent_PremixIdeal := fun m ρ _ => Cert.PremixIdeal.Gen.frame m ρ

theorem frame_premix_reference_ideal : Cert.quiescent_PremixReferenceIdeal := fun m ρ _ =>
  (θ_run Cert.PremixReferenceIdeal.defs _ _).mono (fun r h => ⟨fun c => (h c).2, sem_eq_zero_of_no_sems (by decide) r.2⟩)
    (Cert.PremixReferenceIdeal.Value.run (F := Ideal) m ρ)

theorem premix_algebraic : Cert.algebraic_PremixIdeal_PremixReferenceIdeal := fun m ρ m' ρ' _ hm => by
  refine ⟨_, PremixIdeal.Norm.run m ρ,
    (θ_run Cert.PremixReferenceIdeal.defs _ _).mono (fun r h c => ?_) (PremixReferenceIdeal.Norm.run m' ρ')⟩
  obtain ⟨h0, h1, h2, h3⟩ := hm c
  have h := h c
  dsimp only [PremixIdeal.Norm.H, PremixReferenceIdeal.Norm.H] at h ⊢
  rw [h0, h1, h2, h3] at h ⊢
  exact h

theorem frame_postmix_premlp : Cert.quiescent_PostmixPremlp := fun m ρ _ => Cert.PostmixPremlp.Gen.frame m ρ

theorem frame_postmix_premlp_ideal : Cert.quiescent_PostmixPremlpIdeal := fun m ρ _ => Cert.PostmixPremlpIdeal.Gen.frame m ρ

theorem frame_postmix_premlp_reference_ideal : Cert.quiescent_PostmixPremlpReferenceIdeal := fun m ρ _ =>
  (θ_run Cert.PostmixPremlpReferenceIdeal.defs _ _).mono (fun r h => ⟨fun c => (h c).2.2, sem_eq_zero_of_no_sems (by decide) r.2⟩)
    (Cert.PostmixPremlpReferenceIdeal.Value.run (F := Ideal) m ρ)

theorem postmix_premlp_algebraic : Cert.algebraic_PostmixPremlpIdeal_PostmixPremlpReferenceIdeal := fun m ρ m' ρ' _ hm => by
  refine ⟨_, _, PostmixPremlpIdeal.Norm.run m ρ,
    (θ_run Cert.PostmixPremlpReferenceIdeal.defs _ _).mono (fun r h c => ?_) (PostmixPremlpReferenceIdeal.Norm.run m' ρ')⟩
  obtain ⟨h0, h1, h2, h3, h4, h5, h6⟩ := hm c
  have h := h c
  dsimp only [PostmixPremlpIdeal.Norm.H, PostmixPremlpIdeal.Norm.X1, PostmixPremlpReferenceIdeal.Norm.H,
    PostmixPremlpReferenceIdeal.Norm.X1] at h ⊢
  rw [h0, h1, h2, h3, h4, h5, h6] at h ⊢
  exact h

theorem frame_proj_main : Cert.quiescent_ProjMain := fun m ρ _ => Cert.ProjMain.Gen.frame m ρ

theorem frame_proj_main_ideal : Cert.quiescent_ProjMainIdeal := fun m ρ _ => Cert.ProjMainIdeal.Gen.frame m ρ

theorem frame_proj_main_reference_ideal : Cert.quiescent_ProjMainReferenceIdeal := fun m ρ _ =>
  (θ_run Cert.ProjMainReferenceIdeal.defs _ _).mono (fun r h => ⟨fun c => (h c).2, sem_eq_zero_of_no_sems (by decide) r.2⟩)
    (Cert.ProjMainReferenceIdeal.Value.run (F := Ideal) m ρ)

theorem proj_main_algebraic : Cert.algebraic_ProjMainIdeal_ProjMainReferenceIdeal := fun m ρ m' ρ' _ hm => by
  refine ⟨_, ProjMainIdeal.Product.run m ρ,
    (θ_run Cert.ProjMainReferenceIdeal.defs _ _).mono (fun r h c => ?_) (ProjMainReferenceIdeal.Product.run m' ρ')⟩
  obtain ⟨h0, h1⟩ := hm c
  have h := h c
  rw [h0, h1] at h ⊢
  exact h

theorem frame_out_proj : Cert.quiescent_OutProj := fun m ρ _ => Cert.OutProj.Gen.frame m ρ

theorem frame_out_proj_ideal : Cert.quiescent_OutProjIdeal := fun m ρ _ => Cert.OutProjIdeal.Gen.frame m ρ

theorem frame_out_proj_reference_ideal : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

theorem out_proj_algebraic : Cert.algebraic_OutProjIdeal_OutProjReferenceIdeal := fun m ρ m' ρ' _ hm => by
  refine ⟨_, OutProjIdeal.Product.run m ρ,
    (θ_run Cert.OutProjReferenceIdeal.defs _ _).mono (fun r h c => ?_) (OutProjReferenceIdeal.Product.run m' ρ')⟩
  obtain ⟨h0, h1⟩ := hm c
  have h := h c
  rw [h0, h1] at h ⊢
  exact h

theorem frame_mlp_in : Cert.quiescent_MlpIn := fun m ρ _ => Cert.MlpIn.Gen.frame m ρ

theorem frame_mlp_in_ideal : Cert.quiescent_MlpInIdeal := fun m ρ _ => Cert.MlpInIdeal.Gen.frame m ρ

theorem frame_mlp_in_reference_ideal : Cert.quiescent_MlpInReferenceIdeal := fun m ρ _ =>
  (θ_run Cert.MlpInReferenceIdeal.defs _ _).mono (fun r h => ⟨fun c => (h c).2.2, sem_eq_zero_of_no_sems (by decide) r.2⟩)
    (Cert.MlpInReferenceIdeal.Value.run (F := Ideal) m ρ)

theorem mlp_in_algebraic : Cert.algebraic_MlpInIdeal_MlpInReferenceIdeal := fun m ρ m' ρ' _ hm => by
  refine ⟨_, _, MlpInIdeal.Product.run m ρ,
    (θ_run Cert.MlpInReferenceIdeal.defs _ _).mono (fun r h c => ?_) (MlpInReferenceIdeal.Product.run m' ρ')⟩
  obtain ⟨h0, h1⟩ := hm c
  have h := h c
  rw [h0, h1] at h ⊢
  exact h

theorem frame_mlp_out : Cert.quiescent_MlpOut := fun m ρ _ => Cert.MlpOut.Gen.frame m ρ

theorem frame_mlp_out_ideal : Cert.quiescent_MlpOutIdeal := fun m ρ _ => Cert.MlpOutIdeal.Gen.frame m ρ

theorem frame_mlp_out_reference_ideal : Cert.quiescent_MlpOutReferenceIdeal := fun m ρ _ =>
  (θ_run Cert.MlpOutReferenceIdeal.defs _ _).mono (fun r h => ⟨fun c => (h c).2, sem_eq_zero_of_no_sems (by decide) r.2⟩)
    (Cert.MlpOutReferenceIdeal.Value.run (F := Ideal) m ρ)

theorem mlp_out_algebraic : Cert.algebraic_MlpOutIdeal_MlpOutReferenceIdeal := fun m ρ m' ρ' _ hm => by
  refine ⟨_, MlpOutIdeal.Product.run m ρ,
    (θ_run Cert.MlpOutReferenceIdeal.defs _ _).mono (fun r h c => ?_) (MlpOutReferenceIdeal.Product.run m' ρ')⟩
  obtain ⟨h0, h1⟩ := hm c
  have h := h c
  rw [h0, h1] at h ⊢
  exact h

theorem frame_mlp_out_dx : Cert.quiescent_MlpOutDx := fun m ρ _ => Cert.MlpOutDx.Gen.frame m ρ

theorem frame_mlp_out_dx_ideal : Cert.quiescent_MlpOutDxIdeal := fun m ρ _ => Cert.MlpOutDxIdeal.Gen.frame m ρ

theorem frame_mlp_out_dx_reference_ideal : Cert.quiescent_MlpOutDxReferenceIdeal := fun m ρ _ =>
  (θ_run Cert.MlpOutDxReferenceIdeal.defs _ _).mono (fun r h => ⟨fun c => (h c).2, sem_eq_zero_of_no_sems (by decide) r.2⟩)
    (Cert.MlpOutDxReferenceIdeal.Value.run (F := Ideal) m ρ)

theorem mlp_out_dx_algebraic : Cert.algebraic_MlpOutDxIdeal_MlpOutDxReferenceIdeal := fun m ρ m' ρ' _ hm => by
  refine ⟨_, MlpOutDxIdeal.Product.run m ρ,
    (θ_run Cert.MlpOutDxReferenceIdeal.defs _ _).mono (fun r h c => ?_) (MlpOutDxReferenceIdeal.Product.run m' ρ')⟩
  obtain ⟨h0, h1, h2⟩ := hm c
  have h := h c
  rw [h0, h1, h2] at h ⊢
  exact h

theorem frame_mlp_out_dw : Cert.quiescent_MlpOutDw := fun m ρ _ => Cert.MlpOutDw.Gen.frame m ρ

theorem frame_mlp_out_dw_ideal : Cert.quiescent_MlpOutDwIdeal := fun m ρ _ => Cert.MlpOutDwIdeal.Gen.frame m ρ

theorem frame_mlp_out_dw_reference_ideal : Cert.quiescent_MlpOutDwReferenceIdeal := fun m ρ _ =>
  (θ_run Cert.MlpOutDwReferenceIdeal.defs _ _).mono (fun r h => ⟨fun c => (h c).2, sem_eq_zero_of_no_sems (by decide) r.2⟩)
    (Cert.MlpOutDwReferenceIdeal.Value.run (F := Ideal) m ρ)

theorem mlp_out_dw_algebraic : Cert.algebraic_MlpOutDwIdeal_MlpOutDwReferenceIdeal := fun m ρ m' ρ' _ hm => by
  refine ⟨_, MlpOutDwIdeal.Product.run m ρ,
    (θ_run Cert.MlpOutDwReferenceIdeal.defs _ _).mono (fun r h c => ?_) (MlpOutDwReferenceIdeal.Product.run m' ρ')⟩
  obtain ⟨h0, h1⟩ := hm c
  have h := h c
  rw [h0, h1] at h ⊢
  exact h

theorem frame_mlp_in_dx : Cert.quiescent_MlpInDx := fun m ρ _ => Cert.MlpInDx.Gen.frame m ρ

theorem frame_mlp_in_dx_ideal : Cert.quiescent_MlpInDxIdeal := fun m ρ _ => Cert.MlpInDxIdeal.Gen.frame m ρ

theorem frame_mlp_in_dx_reference_ideal : Cert.quiescent_MlpInDxReferenceIdeal := fun m ρ _ =>
  (θ_run Cert.MlpInDxReferenceIdeal.defs _ _).mono (fun r h => ⟨fun c => (h c).2, sem_eq_zero_of_no_sems (by decide) r.2⟩)
    (Cert.MlpInDxReferenceIdeal.Value.run (F := Ideal) m ρ)

theorem mlp_in_dx_algebraic : Cert.algebraic_MlpInDxIdeal_MlpInDxReferenceIdeal := fun m ρ m' ρ' _ hm => by
  refine ⟨_, MlpInDxIdeal.Product.run m ρ,
    (θ_run Cert.MlpInDxReferenceIdeal.defs _ _).mono (fun r h c => ?_) (MlpInDxReferenceIdeal.Product.run m' ρ')⟩
  obtain ⟨h0, h1⟩ := hm c
  have h := h c
  rw [h0, h1] at h ⊢
  exact h

theorem frame_mlp_in_dw : Cert.quiescent_MlpInDw := fun m ρ _ => Cert.MlpInDw.Gen.frame m ρ

theorem frame_mlp_in_dw_ideal : Cert.quiescent_MlpInDwIdeal := fun m ρ _ => Cert.MlpInDwIdeal.Gen.frame m ρ

theorem frame_mlp_in_dw_reference_ideal : Cert.quiescent_MlpInDwReferenceIdeal := fun m ρ _ =>
  (θ_run Cert.MlpInDwReferenceIdeal.defs _ _).mono (fun r h => ⟨fun c => (h c).2, sem_eq_zero_of_no_sems (by decide) r.2⟩)
    (Cert.MlpInDwReferenceIdeal.Value.run (F := Ideal) m ρ)

theorem mlp_in_dw_algebraic : Cert.algebraic_MlpInDwIdeal_MlpInDwReferenceIdeal := fun m ρ m' ρ' _ hm => by
  refine ⟨_, MlpInDwIdeal.Product.run m ρ,
    (θ_run Cert.MlpInDwReferenceIdeal.defs _ _).mono (fun r h c => ?_) (MlpInDwReferenceIdeal.Product.run m' ρ')⟩
  obtain ⟨h0, h1⟩ := hm c
  have h := h c
  rw [h0, h1] at h ⊢
  exact h

theorem frame_out_proj_dx : Cert.quiescent_OutProjDx := fun m ρ _ => Cert.OutProjDx.Gen.frame m ρ

theorem frame_out_proj_dx_ideal : Cert.quiescent_OutProjDxIdeal := fun m ρ _ => Cert.OutProjDxIdeal.Gen.frame m ρ

theorem frame_out_proj_dx_reference_ideal : Cert.quiescent_OutProjDxReferenceIdeal := fun m ρ _ =>
  (θ_run Cert.OutProjDxReferenceIdeal.defs _ _).mono (fun r h => ⟨fun c => (h c).2, sem_eq_zero_of_no_sems (by decide) r.2⟩)
    (Cert.OutProjDxReferenceIdeal.Value.run (F := Ideal) m ρ)

theorem out_proj_dx_algebraic : Cert.algebraic_OutProjDxIdeal_OutProjDxReferenceIdeal := fun m ρ m' ρ' _ hm => by
  refine ⟨_, OutProjDxIdeal.Product.run m ρ,
    (θ_run Cert.OutProjDxReferenceIdeal.defs _ _).mono (fun r h c => ?_) (OutProjDxReferenceIdeal.Product.run m' ρ')⟩
  obtain ⟨h0, h1⟩ := hm c
  have h := h c
  rw [h0, h1] at h ⊢
  exact h

theorem frame_out_proj_dw : Cert.quiescent_OutProjDw := fun m ρ _ => Cert.OutProjDw.Gen.frame m ρ

theorem frame_out_proj_dw_ideal : Cert.quiescent_OutProjDwIdeal := fun m ρ _ => Cert.OutProjDwIdeal.Gen.frame m ρ

theorem frame_out_proj_dw_reference_ideal : Cert.quiescent_OutProjDwReferenceIdeal := fun m ρ _ =>
  (θ_run Cert.OutProjDwReferenceIdeal.defs _ _).mono (fun r h => ⟨fun c => (h c).2, sem_eq_zero_of_no_sems (by decide) r.2⟩)
    (Cert.OutProjDwReferenceIdeal.Value.run (F := Ideal) m ρ)

theorem out_proj_dw_algebraic : Cert.algebraic_OutProjDwIdeal_OutProjDwReferenceIdeal := fun m ρ m' ρ' _ hm => by
  refine ⟨_, OutProjDwIdeal.Product.run m ρ,
    (θ_run Cert.OutProjDwReferenceIdeal.defs _ _).mono (fun r h c => ?_) (OutProjDwReferenceIdeal.Product.run m' ρ')⟩
  obtain ⟨h0, h1⟩ := hm c
  have h := h c
  rw [h0, h1] at h ⊢
  exact h

theorem frame_proj_main_dx : Cert.quiescent_ProjMainDx := fun m ρ _ => Cert.ProjMainDx.Gen.frame m ρ

theorem frame_proj_main_dx_ideal : Cert.quiescent_ProjMainDxIdeal := fun m ρ _ => Cert.ProjMainDxIdeal.Gen.frame m ρ

theorem frame_proj_main_dx_reference_ideal : Cert.quiescent_ProjMainDxReferenceIdeal := fun m ρ _ =>
  (θ_run Cert.ProjMainDxReferenceIdeal.defs _ _).mono (fun r h => ⟨fun c => (h c).2, sem_eq_zero_of_no_sems (by decide) r.2⟩)
    (Cert.ProjMainDxReferenceIdeal.Value.run (F := Ideal) m ρ)

theorem proj_main_dx_algebraic : Cert.algebraic_ProjMainDxIdeal_ProjMainDxReferenceIdeal := fun m ρ m' ρ' _ hm => by
  refine ⟨_, ProjMainDxIdeal.Product.run m ρ,
    (θ_run Cert.ProjMainDxReferenceIdeal.defs _ _).mono (fun r h c => ?_) (ProjMainDxReferenceIdeal.Product.run m' ρ')⟩
  obtain ⟨h0, h1, h2⟩ := hm c
  have h := h c
  rw [h0, h1, h2] at h ⊢
  exact h

theorem frame_proj_main_dw : Cert.quiescent_ProjMainDw := fun m ρ _ => Cert.ProjMainDw.Gen.frame m ρ

theorem frame_proj_main_dw_ideal : Cert.quiescent_ProjMainDwIdeal := fun m ρ _ => Cert.ProjMainDwIdeal.Gen.frame m ρ

theorem frame_proj_main_dw_reference_ideal : Cert.quiescent_ProjMainDwReferenceIdeal := fun m ρ _ =>
  (θ_run Cert.ProjMainDwReferenceIdeal.defs _ _).mono (fun r h => ⟨fun c => (h c).2, sem_eq_zero_of_no_sems (by decide) r.2⟩)
    (Cert.ProjMainDwReferenceIdeal.Value.run (F := Ideal) m ρ)

theorem proj_main_dw_algebraic : Cert.algebraic_ProjMainDwIdeal_ProjMainDwReferenceIdeal := fun m ρ m' ρ' _ hm => by
  refine ⟨_, ProjMainDwIdeal.Product.run m ρ,
    (θ_run Cert.ProjMainDwReferenceIdeal.defs _ _).mono (fun r h c => ?_) (ProjMainDwReferenceIdeal.Product.run m' ρ')⟩
  obtain ⟨h0, h1⟩ := hm c
  have h := h c
  rw [h0, h1] at h ⊢
  exact h

theorem claim : Cert.Claim := ⟨Cert.Kernel.Gen.facts, Cert.KernelIdeal.Gen.facts, Cert.ReferenceIdeal.Gen.facts, Cert.Reference.Gen.facts,
  Cert.Gather.Gen.facts, Cert.GatherIdeal.Gen.facts, Cert.GatherReferenceIdeal.Gen.facts, Cert.GatherReference.Gen.facts,
  Cert.UpdateIn.Gen.facts, Cert.UpdateInIdeal.Gen.facts, Cert.UpdateInReferenceIdeal.Gen.facts,
  Cert.UpdateOut.Gen.facts, Cert.UpdateOutIdeal.Gen.facts, Cert.UpdateOutReferenceIdeal.Gen.facts,
  Cert.UpdateMlpIn.Gen.facts, Cert.UpdateMlpInIdeal.Gen.facts, Cert.UpdateMlpInReferenceIdeal.Gen.facts,
  Cert.UpdateMlpOut.Gen.facts, Cert.UpdateMlpOutIdeal.Gen.facts, Cert.UpdateMlpOutReferenceIdeal.Gen.facts,
  Cert.UpdateAda.Gen.facts, Cert.UpdateAdaIdeal.Gen.facts, Cert.UpdateAdaReferenceIdeal.Gen.facts,
  Cert.SumSmall.Gen.facts, Cert.SumSmallIdeal.Gen.facts, Cert.SumSmallReferenceIdeal.Gen.facts,
  Cert.UpdateSmall.Gen.facts, Cert.UpdateSmallIdeal.Gen.facts, Cert.UpdateSmallReferenceIdeal.Gen.facts,
  Cert.PremixBwd.Gen.facts, Cert.PremixBwdIdeal.Gen.facts, Cert.PremixBwdReferenceIdeal.Gen.facts,
  Cert.LossBwd.Gen.facts, Cert.LossBwdIdeal.Gen.facts, Cert.LossBwdReferenceIdeal.Gen.facts,
  Cert.PremlpBwd.Gen.facts, Cert.PremlpBwdIdeal.Gen.facts, Cert.PremlpBwdReferenceIdeal.Gen.facts,
  Cert.Premix.Gen.facts, Cert.PremixIdeal.Gen.facts, Cert.PremixReferenceIdeal.Gen.facts,
  Cert.PostmixPremlp.Gen.facts, Cert.PostmixPremlpIdeal.Gen.facts, Cert.PostmixPremlpReferenceIdeal.Gen.facts,
  Cert.ProjMain.Gen.facts, Cert.ProjMainIdeal.Gen.facts, Cert.ProjMainReferenceIdeal.Gen.facts,
  Cert.OutProj.Gen.facts, Cert.OutProjIdeal.Gen.facts, Cert.OutProjReferenceIdeal.Gen.facts,
  Cert.MlpIn.Gen.facts, Cert.MlpInIdeal.Gen.facts, Cert.MlpInReferenceIdeal.Gen.facts,
  Cert.MlpOut.Gen.facts, Cert.MlpOutIdeal.Gen.facts, Cert.MlpOutReferenceIdeal.Gen.facts,
  Cert.MlpOutDx.Gen.facts, Cert.MlpOutDxIdeal.Gen.facts, Cert.MlpOutDxReferenceIdeal.Gen.facts,
  Cert.MlpOutDw.Gen.facts, Cert.MlpOutDwIdeal.Gen.facts, Cert.MlpOutDwReferenceIdeal.Gen.facts,
  Cert.MlpInDx.Gen.facts, Cert.MlpInDxIdeal.Gen.facts, Cert.MlpInDxReferenceIdeal.Gen.facts,
  Cert.MlpInDw.Gen.facts, Cert.MlpInDwIdeal.Gen.facts, Cert.MlpInDwReferenceIdeal.Gen.facts,
  Cert.OutProjDx.Gen.facts, Cert.OutProjDxIdeal.Gen.facts, Cert.OutProjDxReferenceIdeal.Gen.facts,
  Cert.OutProjDw.Gen.facts, Cert.OutProjDwIdeal.Gen.facts, Cert.OutProjDwReferenceIdeal.Gen.facts,
  Cert.ProjMainDx.Gen.facts, Cert.ProjMainDxIdeal.Gen.facts, Cert.ProjMainDxReferenceIdeal.Gen.facts,
  Cert.ProjMainDw.Gen.facts, Cert.ProjMainDwIdeal.Gen.facts, Cert.ProjMainDwReferenceIdeal.Gen.facts,
  frame_kernel, frame_ideal, frame_reference_ideal, frame_reference,
  frame_gather, frame_gather_ideal, frame_gather_reference_ideal, frame_gather_reference,
  frame_update_in, frame_update_in_ideal, frame_update_in_reference_ideal,
  frame_update_out, frame_update_out_ideal, frame_update_out_reference_ideal,
  frame_update_mlp_in, frame_update_mlp_in_ideal, frame_update_mlp_in_reference_ideal,
  frame_update_mlp_out, frame_update_mlp_out_ideal, frame_update_mlp_out_reference_ideal,
  frame_update_ada, frame_update_ada_ideal, frame_update_ada_reference_ideal,
  frame_sum_small, frame_sum_small_ideal, frame_sum_small_reference_ideal,
  frame_update_small, frame_update_small_ideal, frame_update_small_reference_ideal,
  frame_premix_bwd, frame_premix_bwd_ideal, frame_premix_bwd_reference_ideal,
  frame_loss_bwd, frame_loss_bwd_ideal, frame_loss_bwd_reference_ideal,
  frame_premlp_bwd, frame_premlp_bwd_ideal, frame_premlp_bwd_reference_ideal,
  frame_premix, frame_premix_ideal, frame_premix_reference_ideal,
  frame_postmix_premlp, frame_postmix_premlp_ideal, frame_postmix_premlp_reference_ideal,
  frame_proj_main, frame_proj_main_ideal, frame_proj_main_reference_ideal,
  frame_out_proj, frame_out_proj_ideal, frame_out_proj_reference_ideal,
  frame_mlp_in, frame_mlp_in_ideal, frame_mlp_in_reference_ideal,
  frame_mlp_out, frame_mlp_out_ideal, frame_mlp_out_reference_ideal,
  frame_mlp_out_dx, frame_mlp_out_dx_ideal, frame_mlp_out_dx_reference_ideal,
  frame_mlp_out_dw, frame_mlp_out_dw_ideal, frame_mlp_out_dw_reference_ideal,
  frame_mlp_in_dx, frame_mlp_in_dx_ideal, frame_mlp_in_dx_reference_ideal,
  frame_mlp_in_dw, frame_mlp_in_dw_ideal, frame_mlp_in_dw_reference_ideal,
  frame_out_proj_dx, frame_out_proj_dx_ideal, frame_out_proj_dx_reference_ideal,
  frame_out_proj_dw, frame_out_proj_dw_ideal, frame_out_proj_dw_reference_ideal,
  frame_proj_main_dx, frame_proj_main_dx_ideal, frame_proj_main_dx_reference_ideal,
  frame_proj_main_dw, frame_proj_main_dw_ideal, frame_proj_main_dw_reference_ideal,
  trivial, algebraic, bitexact, trivial, gather_algebraic, gather_bitexact,
  trivial, update_in_algebraic, trivial, update_out_algebraic, trivial, update_mlp_in_algebraic, trivial, update_mlp_out_algebraic,
  trivial, update_ada_algebraic, trivial, sum_small_algebraic, trivial, update_small_algebraic,
  trivial, premix_bwd_algebraic, trivial, loss_bwd_algebraic, trivial, premlp_bwd_algebraic, trivial, premix_algebraic, trivial, postmix_premlp_algebraic,
  trivial, proj_main_algebraic, trivial, out_proj_algebraic, trivial, mlp_in_algebraic, trivial, mlp_out_algebraic,
  trivial, mlp_out_dx_algebraic, trivial, mlp_out_dw_algebraic, trivial, mlp_in_dx_algebraic, trivial, mlp_in_dw_algebraic,
  trivial, out_proj_dx_algebraic, trivial, out_proj_dw_algebraic, trivial, proj_main_dx_algebraic, trivial, proj_main_dw_algebraic⟩

end Cert.Proof

end
